-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpReferenceIdeal (m : (ℓ : Loc Cert.GateUpReferenceIdeal.nD Cert.GateUpReferenceIdeal.τ Cert.GateUpReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_Enter (m : (ℓ : Loc Cert.Enter.nD Cert.Enter.τ Cert.Enter.sig) → Buf (Elt Bits) ℓ) : Prop :=
  True

def Pre_EnterIdeal (m : (ℓ : Loc Cert.EnterIdeal.nD Cert.EnterIdeal.τ Cert.EnterIdeal.sig) → Buf (Elt Ideal) ℓ) : Prop :=
  True

def Pre_EnterIdeal_finite_enter [hPre_finite_enter : Cert.Pre_finite_enter.Facts] (m : (ℓ : Loc Cert.EnterIdeal.nD Cert.EnterIdeal.τ Cert.EnterIdeal.sig) → Buf (Elt Ideal) ℓ) : Prop :=
  ∀ c : Dev Cert.EnterIdeal.nD,
    (Cert.Pre_finite_enter.fn (F := Ideal) (m ((c.tc : Thread Cert.EnterIdeal.nD Cert.EnterIdeal.τ).loc Cert.EnterIdeal.main_arg0)) (m ((c.tc : Thread Cert.EnterIdeal.nD Cert.EnterIdeal.τ).loc Cert.EnterIdeal.main_arg1)) (m ((c.tc : Thread Cert.EnterIdeal.nD Cert.EnterIdeal.τ).loc Cert.EnterIdeal.main_arg2)) (m ((c.tc : Thread Cert.EnterIdeal.nD Cert.EnterIdeal.τ).loc Cert.EnterIdeal.main_arg3)) (m ((c.tc : Thread Cert.EnterIdeal.nD Cert.EnterIdeal.τ).loc Cert.EnterIdeal.main_arg4)) (m ((c.tc : Thread Cert.EnterIdeal.nD Cert.EnterIdeal.τ).loc Cert.EnterIdeal.main_arg5)) (m ((c.tc : Thread Cert.EnterIdeal.nD Cert.EnterIdeal.τ).loc Cert.EnterIdeal.main_arg6))).1 = (fun _ => 1#1)
    ∧ (Cert.Pre_finite_enter.fn (F := Ideal) (m ((c.tc : Thread Cert.EnterIdeal.nD Cert.EnterIdeal.τ).loc Cert.EnterIdeal.main_arg0)) (m ((c.tc : Thread Cert.EnterIdeal.nD Cert.EnterIdeal.τ).loc Cert.EnterIdeal.main_arg1)) (m ((c.tc : Thread Cert.EnterIdeal.nD Cert.EnterIdeal.τ).loc Cert.EnterIdeal.main_arg2)) (m ((c.tc : Thread Cert.EnterIdeal.nD Cert.EnterIdeal.τ).loc Cert.EnterIdeal.main_arg3)) (m ((c.tc : Thread Cert.EnterIdeal.nD Cert.EnterIdeal.τ).loc Cert.EnterIdeal.main_arg4)) (m ((c.tc : Thread Cert.EnterIdeal.nD Cert.EnterIdeal.τ).loc Cert.EnterIdeal.main_arg5)) (m ((c.tc : Thread Cert.EnterIdeal.nD Cert.EnterIdeal.τ).loc Cert.EnterIdeal.main_arg6))).2.1 = (fun _ => 1#1)
    ∧ (Cert.Pre_finite_enter.fn (F := Ideal) (m ((c.tc : Thread Cert.EnterIdeal.nD Cert.EnterIdeal.τ).loc Cert.EnterIdeal.main_arg0)) (m ((c.tc : Thread Cert.EnterIdeal.nD Cert.EnterIdeal.τ).loc Cert.EnterIdeal.main_arg1)) (m ((c.tc : Thread Cert.EnterIdeal.nD Cert.EnterIdeal.τ).loc Cert.EnterIdeal.main_arg2)) (m ((c.tc : Thread Cert.EnterIdeal.nD Cert.EnterIdeal.τ).loc Cert.EnterIdeal.main_arg3)) (m ((c.tc : Thread Cert.EnterIdeal.nD Cert.EnterIdeal.τ).loc Cert.EnterIdeal.main_arg4)) (m ((c.tc : Thread Cert.EnterIdeal.nD Cert.EnterIdeal.τ).loc Cert.EnterIdeal.main_arg5)) (m ((c.tc : Thread Cert.EnterIdeal.nD Cert.EnterIdeal.τ).loc Cert.EnterIdeal.main_arg6))).2.2.1 = (fun _ => 1#1)
    ∧ (Cert.Pre_finite_enter.fn (F := Ideal) (m ((c.tc : Thread Cert.EnterIdeal.nD Cert.EnterIdeal.τ).loc Cert.EnterIdeal.main_arg0)) (m ((c.tc : Thread Cert.EnterIdeal.nD Cert.EnterIdeal.τ).loc Cert.EnterIdeal.main_arg1)) (m ((c.tc : Thread Cert.EnterIdeal.nD Cert.EnterIdeal.τ).loc Cert.EnterIdeal.main_arg2)) (m ((c.tc : Thread Cert.EnterIdeal.nD Cert.EnterIdeal.τ).loc Cert.EnterIdeal.main_arg3)) (m ((c.tc : Thread Cert.EnterIdeal.nD Cert.EnterIdeal.τ).loc Cert.EnterIdeal.main_arg4)) (m ((c.tc : Thread Cert.EnterIdeal.nD Cert.EnterIdeal.τ).loc Cert.EnterIdeal.main_arg5)) (m ((c.tc : Thread Cert.EnterIdeal.nD Cert.EnterIdeal.τ).loc Cert.EnterIdeal.main_arg6))).2.2.2.1 = (fun _ => 1#1)
    ∧ (Cert.Pre_finite_enter.fn (F := Ideal) (m ((c.tc : Thread Cert.EnterIdeal.nD Cert.EnterIdeal.τ).loc Cert.EnterIdeal.main_arg0)) (m ((c.tc : Thread Cert.EnterIdeal.nD Cert.EnterIdeal.τ).loc Cert.EnterIdeal.main_arg1)) (m ((c.tc : Thread Cert.EnterIdeal.nD Cert.EnterIdeal.τ).loc Cert.EnterIdeal.main_arg2)) (m ((c.tc : Thread Cert.EnterIdeal.nD Cert.EnterIdeal.τ).loc Cert.EnterIdeal.main_arg3)) (m ((c.tc : Thread Cert.EnterIdeal.nD Cert.EnterIdeal.τ).loc Cert.EnterIdeal.main_arg4)) (m ((c.tc : Thread Cert.EnterIdeal.nD Cert.EnterIdeal.τ).loc Cert.EnterIdeal.main_arg5)) (m ((c.tc : Thread Cert.EnterIdeal.nD Cert.EnterIdeal.τ).loc Cert.EnterIdeal.main_arg6))).2.2.2.2.1 = (fun _ => 1#1)
    ∧ (Cert.Pre_finite_enter.fn (F := Ideal) (m ((c.tc : Thread Cert.EnterIdeal.nD Cert.EnterIdeal.τ).loc Cert.EnterIdeal.main_arg0)) (m ((c.tc : Thread Cert.EnterIdeal.nD Cert.EnterIdeal.τ).loc Cert.EnterIdeal.main_arg1)) (m ((c.tc : Thread Cert.EnterIdeal.nD Cert.EnterIdeal.τ).loc Cert.EnterIdeal.main_arg2)) (m ((c.tc : Thread Cert.EnterIdeal.nD Cert.EnterIdeal.τ).loc Cert.EnterIdeal.main_arg3)) (m ((c.tc : Thread Cert.EnterIdeal.nD Cert.EnterIdeal.τ).loc Cert.EnterIdeal.main_arg4)) (m ((c.tc : Thread Cert.EnterIdeal.nD Cert.EnterIdeal.τ).loc Cert.EnterIdeal.main_arg5)) (m ((c.tc : Thread Cert.EnterIdeal.nD Cert.EnterIdeal.τ).loc Cert.EnterIdeal.main_arg6))).2.2.2.2.2 = (fun _ => 1#1)

def Pre_EnterReferenceIdeal (m : (ℓ : Loc Cert.EnterReferenceIdeal.nD Cert.EnterReferenceIdeal.τ Cert.EnterReferenceIdeal.sig) → Buf (Elt Ideal) ℓ) : Prop :=
  True

def Pre_EnterReferenceIdeal_finite_enter [hPre_finite_enter : Cert.Pre_finite_enter.Facts] (m : (ℓ : Loc Cert.EnterReferenceIdeal.nD Cert.EnterReferenceIdeal.τ Cert.EnterReferenceIdeal.sig) → Buf (Elt Ideal) ℓ) : Prop :=
  ∀ c : Dev Cert.EnterReferenceIdeal.nD,
    (Cert.Pre_finite_enter.fn (F := Ideal) (m ((c.tc : Thread Cert.EnterReferenceIdeal.nD Cert.EnterReferenceIdeal.τ).loc Cert.EnterReferenceIdeal.main_arg0)) (m ((c.tc : Thread Cert.EnterReferenceIdeal.nD Cert.EnterReferenceIdeal.τ).loc Cert.EnterReferenceIdeal.main_arg1)) (m ((c.tc : Thread Cert.EnterReferenceIdeal.nD Cert.EnterReferenceIdeal.τ).loc Cert.EnterReferenceIdeal.main_arg2)) (m ((c.tc : Thread Cert.EnterReferenceIdeal.nD Cert.EnterReferenceIdeal.τ).loc Cert.EnterReferenceIdeal.main_arg3)) (m ((c.tc : Thread Cert.EnterReferenceIdeal.nD Cert.EnterReferenceIdeal.τ).loc Cert.EnterReferenceIdeal.main_arg4)) (m ((c.tc : Thread Cert.EnterReferenceIdeal.nD Cert.EnterReferenceIdeal.τ).loc Cert.EnterReferenceIdeal.main_arg5)) (m ((c.tc : Thread Cert.EnterReferenceIdeal.nD Cert.EnterReferenceIdeal.τ).loc Cert.EnterReferenceIdeal.main_arg6))).1 = (fun _ => 1#1)
    ∧ (Cert.Pre_finite_enter.fn (F := Ideal) (m ((c.tc : Thread Cert.EnterReferenceIdeal.nD Cert.EnterReferenceIdeal.τ).loc Cert.EnterReferenceIdeal.main_arg0)) (m ((c.tc : Thread Cert.EnterReferenceIdeal.nD Cert.EnterReferenceIdeal.τ).loc Cert.EnterReferenceIdeal.main_arg1)) (m ((c.tc : Thread Cert.EnterReferenceIdeal.nD Cert.EnterReferenceIdeal.τ).loc Cert.EnterReferenceIdeal.main_arg2)) (m ((c.tc : Thread Cert.EnterReferenceIdeal.nD Cert.EnterReferenceIdeal.τ).loc Cert.EnterReferenceIdeal.main_arg3)) (m ((c.tc : Thread Cert.EnterReferenceIdeal.nD Cert.EnterReferenceIdeal.τ).loc Cert.EnterReferenceIdeal.main_arg4)) (m ((c.tc : Thread Cert.EnterReferenceIdeal.nD Cert.EnterReferenceIdeal.τ).loc Cert.EnterReferenceIdeal.main_arg5)) (m ((c.tc : Thread Cert.EnterReferenceIdeal.nD Cert.EnterReferenceIdeal.τ).loc Cert.EnterReferenceIdeal.main_arg6))).2.1 = (fun _ => 1#1)
    ∧ (Cert.Pre_finite_enter.fn (F := Ideal) (m ((c.tc : Thread Cert.EnterReferenceIdeal.nD Cert.EnterReferenceIdeal.τ).loc Cert.EnterReferenceIdeal.main_arg0)) (m ((c.tc : Thread Cert.EnterReferenceIdeal.nD Cert.EnterReferenceIdeal.τ).loc Cert.EnterReferenceIdeal.main_arg1)) (m ((c.tc : Thread Cert.EnterReferenceIdeal.nD Cert.EnterReferenceIdeal.τ).loc Cert.EnterReferenceIdeal.main_arg2)) (m ((c.tc : Thread Cert.EnterReferenceIdeal.nD Cert.EnterReferenceIdeal.τ).loc Cert.EnterReferenceIdeal.main_arg3)) (m ((c.tc : Thread Cert.EnterReferenceIdeal.nD Cert.EnterReferenceIdeal.τ).loc Cert.EnterReferenceIdeal.main_arg4)) (m ((c.tc : Thread Cert.EnterReferenceIdeal.nD Cert.EnterReferenceIdeal.τ).loc Cert.EnterReferenceIdeal.main_arg5)) (m ((c.tc : Thread Cert.EnterReferenceIdeal.nD Cert.EnterReferenceIdeal.τ).loc Cert.EnterReferenceIdeal.main_arg6))).2.2.1 = (fun _ => 1#1)
    ∧ (Cert.Pre_finite_enter.fn (F := Ideal) (m ((c.tc : Thread Cert.EnterReferenceIdeal.nD Cert.EnterReferenceIdeal.τ).loc Cert.EnterReferenceIdeal.main_arg0)) (m ((c.tc : Thread Cert.EnterReferenceIdeal.nD Cert.EnterReferenceIdeal.τ).loc Cert.EnterReferenceIdeal.main_arg1)) (m ((c.tc : Thread Cert.EnterReferenceIdeal.nD Cert.EnterReferenceIdeal.τ).loc Cert.EnterReferenceIdeal.main_arg2)) (m ((c.tc : Thread Cert.EnterReferenceIdeal.nD Cert.EnterReferenceIdeal.τ).loc Cert.EnterReferenceIdeal.main_arg3)) (m ((c.tc : Thread Cert.EnterReferenceIdeal.nD Cert.EnterReferenceIdeal.τ).loc Cert.EnterReferenceIdeal.main_arg4)) (m ((c.tc : Thread Cert.EnterReferenceIdeal.nD Cert.EnterReferenceIdeal.τ).loc Cert.EnterReferenceIdeal.main_arg5)) (m ((c.tc : Thread Cert.EnterReferenceIdeal.nD Cert.EnterReferenceIdeal.τ).loc Cert.EnterReferenceIdeal.main_arg6))).2.2.2.1 = (fun _ => 1#1)
    ∧ (Cert.Pre_finite_enter.fn (F := Ideal) (m ((c.tc : Thread Cert.EnterReferenceIdeal.nD Cert.EnterReferenceIdeal.τ).loc Cert.EnterReferenceIdeal.main_arg0)) (m ((c.tc : Thread Cert.EnterReferenceIdeal.nD Cert.EnterReferenceIdeal.τ).loc Cert.EnterReferenceIdeal.main_arg1)) (m ((c.tc : Thread Cert.EnterReferenceIdeal.nD Cert.EnterReferenceIdeal.τ).loc Cert.EnterReferenceIdeal.main_arg2)) (m ((c.tc : Thread Cert.EnterReferenceIdeal.nD Cert.EnterReferenceIdeal.τ).loc Cert.EnterReferenceIdeal.main_arg3)) (m ((c.tc : Thread Cert.EnterReferenceIdeal.nD Cert.EnterReferenceIdeal.τ).loc Cert.EnterReferenceIdeal.main_arg4)) (m ((c.tc : Thread Cert.EnterReferenceIdeal.nD Cert.EnterReferenceIdeal.τ).loc Cert.EnterReferenceIdeal.main_arg5)) (m ((c.tc : Thread Cert.EnterReferenceIdeal.nD Cert.EnterReferenceIdeal.τ).loc Cert.EnterReferenceIdeal.main_arg6))).2.2.2.2.1 = (fun _ => 1#1)
    ∧ (Cert.Pre_finite_enter.fn (F := Ideal) (m ((c.tc : Thread Cert.EnterReferenceIdeal.nD Cert.EnterReferenceIdeal.τ).loc Cert.EnterReferenceIdeal.main_arg0)) (m ((c.tc : Thread Cert.EnterReferenceIdeal.nD Cert.EnterReferenceIdeal.τ).loc Cert.EnterReferenceIdeal.main_arg1)) (m ((c.tc : Thread Cert.EnterReferenceIdeal.nD Cert.EnterReferenceIdeal.τ).loc Cert.EnterReferenceIdeal.main_arg2)) (m ((c.tc : Thread Cert.EnterReferenceIdeal.nD Cert.EnterReferenceIdeal.τ).loc Cert.EnterReferenceIdeal.main_arg3)) (m ((c.tc : Thread Cert.EnterReferenceIdeal.nD Cert.EnterReferenceIdeal.τ).loc Cert.EnterReferenceIdeal.main_arg4)) (m ((c.tc : Thread Cert.EnterReferenceIdeal.nD Cert.EnterReferenceIdeal.τ).loc Cert.EnterReferenceIdeal.main_arg5)) (m ((c.tc : Thread Cert.EnterReferenceIdeal.nD Cert.EnterReferenceIdeal.τ).loc Cert.EnterReferenceIdeal.main_arg6))).2.2.2.2.2 = (fun _ => 1#1)

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallIdeal_device_small [hPre_device_small : Cert.Pre_device_small.Facts] (m : (ℓ : Loc Cert.SmallIdeal.nD Cert.SmallIdeal.τ Cert.SmallIdeal.sig) → Buf (Elt Ideal) ℓ) : Prop :=
  ∀ c : Dev Cert.SmallIdeal.nD,
    (Cert.Pre_device_small.fn (F := Ideal) (m ((c.tc : Thread Cert.SmallIdeal.nD Cert.SmallIdeal.τ).loc Cert.SmallIdeal.main_arg0)) (m ((c.tc : Thread Cert.SmallIdeal.nD Cert.SmallIdeal.τ).loc Cert.SmallIdeal.main_arg1)) (m ((c.tc : Thread Cert.SmallIdeal.nD Cert.SmallIdeal.τ).loc Cert.SmallIdeal.main_arg2)) (m ((c.tc : Thread Cert.SmallIdeal.nD Cert.SmallIdeal.τ).loc Cert.SmallIdeal.main_arg3)) (m ((c.tc : Thread Cert.SmallIdeal.nD Cert.SmallIdeal.τ).loc Cert.SmallIdeal.main_arg4)) (m ((c.tc : Thread Cert.SmallIdeal.nD Cert.SmallIdeal.τ).loc Cert.SmallIdeal.main_arg5)) (m ((c.tc : Thread Cert.SmallIdeal.nD Cert.SmallIdeal.τ).loc Cert.SmallIdeal.main_arg6)) (m ((c.tc : Thread Cert.SmallIdeal.nD Cert.SmallIdeal.τ).loc Cert.SmallIdeal.main_arg7)) (m ((c.tc : Thread Cert.SmallIdeal.nD Cert.SmallIdeal.τ).loc Cert.SmallIdeal.main_arg8)) (m ((c.tc : Thread Cert.SmallIdeal.nD Cert.SmallIdeal.τ).loc Cert.SmallIdeal.main_arg9)) (m ((c.tc : Thread Cert.SmallIdeal.nD Cert.SmallIdeal.τ).loc Cert.SmallIdeal.main_arg10)) (m ((c.tc : Thread Cert.SmallIdeal.nD Cert.SmallIdeal.τ).loc Cert.SmallIdeal.main_arg11)) (m ((c.tc : Thread Cert.SmallIdeal.nD Cert.SmallIdeal.τ).loc Cert.SmallIdeal.main_arg12)) (m ((c.tc : Thread Cert.SmallIdeal.nD Cert.SmallIdeal.τ).loc Cert.SmallIdeal.main_arg13)) (m ((c.tc : Thread Cert.SmallIdeal.nD Cert.SmallIdeal.τ).loc Cert.SmallIdeal.main_arg14)) (m ((c.tc : Thread Cert.SmallIdeal.nD Cert.SmallIdeal.τ).loc Cert.SmallIdeal.main_arg15)) (m ((c.tc : Thread Cert.SmallIdeal.nD Cert.SmallIdeal.τ).loc Cert.SmallIdeal.main_arg16)) (m ((c.tc : Thread Cert.SmallIdeal.nD Cert.SmallIdeal.τ).loc Cert.SmallIdeal.main_arg17)) (m ((c.tc : Thread Cert.SmallIdeal.nD Cert.SmallIdeal.τ).loc Cert.SmallIdeal.main_arg18)) (m ((c.tc : Thread Cert.SmallIdeal.nD Cert.SmallIdeal.τ).loc Cert.SmallIdeal.main_arg19)) (m ((c.tc : Thread Cert.SmallIdeal.nD Cert.SmallIdeal.τ).loc Cert.SmallIdeal.main_arg20)) (m ((c.tc : Thread Cert.SmallIdeal.nD Cert.SmallIdeal.τ).loc Cert.SmallIdeal.main_arg21)) (m ((c.tc : Thread Cert.SmallIdeal.nD Cert.SmallIdeal.τ).loc Cert.SmallIdeal.main_arg22)) (m ((c.tc : Thread Cert.SmallIdeal.nD Cert.SmallIdeal.τ).loc Cert.SmallIdeal.main_arg23)) (m ((c.tc : Thread Cert.SmallIdeal.nD Cert.SmallIdeal.τ).loc Cert.SmallIdeal.main_arg24)) (m ((c.tc : Thread Cert.SmallIdeal.nD Cert.SmallIdeal.τ).loc Cert.SmallIdeal.main_arg25)) (m ((c.tc : Thread Cert.SmallIdeal.nD Cert.SmallIdeal.τ).loc Cert.SmallIdeal.main_arg26)) (m ((c.tc : Thread Cert.SmallIdeal.nD Cert.SmallIdeal.τ).loc Cert.SmallIdeal.main_arg27)) (m ((c.tc : Thread Cert.SmallIdeal.nD Cert.SmallIdeal.τ).loc Cert.SmallIdeal.main_arg28)) (m ((c.tc : Thread Cert.SmallIdeal.nD Cert.SmallIdeal.τ).loc Cert.SmallIdeal.main_arg29))) = (fun _ => 1#1)

def Pre_SmallReferenceIdeal (m : (ℓ : Loc Cert.SmallReferenceIdeal.nD Cert.SmallReferenceIdeal.τ Cert.SmallReferenceIdeal.sig) → Buf (Elt Ideal) ℓ) : Prop :=
  True

def Pre_SmallReferenceIdeal_device_small [hPre_device_small : Cert.Pre_device_small.Facts] (m : (ℓ : Loc Cert.SmallReferenceIdeal.nD Cert.SmallReferenceIdeal.τ Cert.SmallReferenceIdeal.sig) → Buf (Elt Ideal) ℓ) : Prop :=
  ∀ c : Dev Cert.SmallReferenceIdeal.nD,
    (Cert.Pre_device_small.fn (F := Ideal) (m ((c.tc : Thread Cert.SmallReferenceIdeal.nD Cert.SmallReferenceIdeal.τ).loc Cert.SmallReferenceIdeal.main_arg0)) (m ((c.tc : Thread Cert.SmallReferenceIdeal.nD Cert.SmallReferenceIdeal.τ).loc Cert.SmallReferenceIdeal.main_arg1)) (m ((c.tc : Thread Cert.SmallReferenceIdeal.nD Cert.SmallReferenceIdeal.τ).loc Cert.SmallReferenceIdeal.main_arg2)) (m ((c.tc : Thread Cert.SmallReferenceIdeal.nD Cert.SmallReferenceIdeal.τ).loc Cert.SmallReferenceIdeal.main_arg3)) (m ((c.tc : Thread Cert.SmallReferenceIdeal.nD Cert.SmallReferenceIdeal.τ).loc Cert.SmallReferenceIdeal.main_arg4)) (m ((c.tc : Thread Cert.SmallReferenceIdeal.nD Cert.SmallReferenceIdeal.τ).loc Cert.SmallReferenceIdeal.main_arg5)) (m ((c.tc : Thread Cert.SmallReferenceIdeal.nD Cert.SmallReferenceIdeal.τ).loc Cert.SmallReferenceIdeal.main_arg6)) (m ((c.tc : Thread Cert.SmallReferenceIdeal.nD Cert.SmallReferenceIdeal.τ).loc Cert.SmallReferenceIdeal.main_arg7)) (m ((c.tc : Thread Cert.SmallReferenceIdeal.nD Cert.SmallReferenceIdeal.τ).loc Cert.SmallReferenceIdeal.main_arg8)) (m ((c.tc : Thread Cert.SmallReferenceIdeal.nD Cert.SmallReferenceIdeal.τ).loc Cert.SmallReferenceIdeal.main_arg9)) (m ((c.tc : Thread Cert.SmallReferenceIdeal.nD Cert.SmallReferenceIdeal.τ).loc Cert.SmallReferenceIdeal.main_arg10)) (m ((c.tc : Thread Cert.SmallReferenceIdeal.nD Cert.SmallReferenceIdeal.τ).loc Cert.SmallReferenceIdeal.main_arg11)) (m ((c.tc : Thread Cert.SmallReferenceIdeal.nD Cert.SmallReferenceIdeal.τ).loc Cert.SmallReferenceIdeal.main_arg12)) (m ((c.tc : Thread Cert.SmallReferenceIdeal.nD Cert.SmallReferenceIdeal.τ).loc Cert.SmallReferenceIdeal.main_arg13)) (m ((c.tc : Thread Cert.SmallReferenceIdeal.nD Cert.SmallReferenceIdeal.τ).loc Cert.SmallReferenceIdeal.main_arg14)) (m ((c.tc : Thread Cert.SmallReferenceIdeal.nD Cert.SmallReferenceIdeal.τ).loc Cert.SmallReferenceIdeal.main_arg15)) (m ((c.tc : Thread Cert.SmallReferenceIdeal.nD Cert.SmallReferenceIdeal.τ).loc Cert.SmallReferenceIdeal.main_arg16)) (m ((c.tc : Thread Cert.SmallReferenceIdeal.nD Cert.SmallReferenceIdeal.τ).loc Cert.SmallReferenceIdeal.main_arg17)) (m ((c.tc : Thread Cert.SmallReferenceIdeal.nD Cert.SmallReferenceIdeal.τ).loc Cert.SmallReferenceIdeal.main_arg18)) (m ((c.tc : Thread Cert.SmallReferenceIdeal.nD Cert.SmallReferenceIdeal.τ).loc Cert.SmallReferenceIdeal.main_arg19)) (m ((c.tc : Thread Cert.SmallReferenceIdeal.nD Cert.SmallReferenceIdeal.τ).loc Cert.SmallReferenceIdeal.main_arg20)) (m ((c.tc : Thread Cert.SmallReferenceIdeal.nD Cert.SmallReferenceIdeal.τ).loc Cert.SmallReferenceIdeal.main_arg21)) (m ((c.tc : Thread Cert.SmallReferenceIdeal.nD Cert.SmallReferenceIdeal.τ).loc Cert.SmallReferenceIdeal.main_arg22)) (m ((c.tc : Thread Cert.SmallReferenceIdeal.nD Cert.SmallReferenceIdeal.τ).loc Cert.SmallReferenceIdeal.main_arg23)) (m ((c.tc : Thread Cert.SmallReferenceIdeal.nD Cert.SmallReferenceIdeal.τ).loc Cert.SmallReferenceIdeal.main_arg24)) (m ((c.tc : Thread Cert.SmallReferenceIdeal.nD Cert.SmallReferenceIdeal.τ).loc Cert.SmallReferenceIdeal.main_arg25)) (m ((c.tc : Thread Cert.SmallReferenceIdeal.nD Cert.SmallReferenceIdeal.τ).loc Cert.SmallReferenceIdeal.main_arg26)) (m ((c.tc : Thread Cert.SmallReferenceIdeal.nD Cert.SmallReferenceIdeal.τ).loc Cert.SmallReferenceIdeal.main_arg27)) (m ((c.tc : Thread Cert.SmallReferenceIdeal.nD Cert.SmallReferenceIdeal.τ).loc Cert.SmallReferenceIdeal.main_arg28)) (m ((c.tc : Thread Cert.SmallReferenceIdeal.nD Cert.SmallReferenceIdeal.τ).loc Cert.SmallReferenceIdeal.main_arg29))) = (fun _ => 1#1)

def Pre_AdamDown [hPre_device_adam_down : Cert.Pre_device_adam_down.Facts] (m : (ℓ : Loc Cert.AdamDown.nD Cert.AdamDown.τ Cert.AdamDown.sig) → Buf (Elt Bits) ℓ) : Prop :=
  ∀ c : Dev Cert.AdamDown.nD,
    (Cert.Pre_device_adam_down.fn (F := Bits) (m ((c.tc : Thread Cert.AdamDown.nD Cert.AdamDown.τ).loc Cert.AdamDown.main_arg0)) (m ((c.tc : Thread Cert.AdamDown.nD Cert.AdamDown.τ).loc Cert.AdamDown.main_arg1)) (m ((c.tc : Thread Cert.AdamDown.nD Cert.AdamDown.τ).loc Cert.AdamDown.main_arg2)) (m ((c.tc : Thread Cert.AdamDown.nD Cert.AdamDown.τ).loc Cert.AdamDown.main_arg3)) (m ((c.tc : Thread Cert.AdamDown.nD Cert.AdamDown.τ).loc Cert.AdamDown.main_arg4)) (m ((c.tc : Thread Cert.AdamDown.nD Cert.AdamDown.τ).loc Cert.AdamDown.main_arg5))) = (fun _ => 1#1)

def Pre_AdamDownIdeal [hPre_device_adam_down : Cert.Pre_device_adam_down.Facts] (m : (ℓ : Loc Cert.AdamDownIdeal.nD Cert.AdamDownIdeal.τ Cert.AdamDownIdeal.sig) → Buf (Elt Ideal) ℓ) : Prop :=
  ∀ c : Dev Cert.AdamDownIdeal.nD,
    (Cert.Pre_device_adam_down.fn (F := Ideal) (m ((c.tc : Thread Cert.AdamDownIdeal.nD Cert.AdamDownIdeal.τ).loc Cert.AdamDownIdeal.main_arg0)) (m ((c.tc : Thread Cert.AdamDownIdeal.nD Cert.AdamDownIdeal.τ).loc Cert.AdamDownIdeal.main_arg1)) (m ((c.tc : Thread Cert.AdamDownIdeal.nD Cert.AdamDownIdeal.τ).loc Cert.AdamDownIdeal.main_arg2)) (m ((c.tc : Thread Cert.AdamDownIdeal.nD Cert.AdamDownIdeal.τ).loc Cert.AdamDownIdeal.main_arg3)) (m ((c.tc : Thread Cert.AdamDownIdeal.nD Cert.AdamDownIdeal.τ).loc Cert.AdamDownIdeal.main_arg4)) (m ((c.tc : Thread Cert.AdamDownIdeal.nD Cert.AdamDownIdeal.τ).loc Cert.AdamDownIdeal.main_arg5))) = (fun _ => 1#1)

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_AdamDownReferenceIdeal_device_adam_down [hPre_device_adam_down : Cert.Pre_device_adam_down.Facts] (m : (ℓ : Loc Cert.AdamDownReferenceIdeal.nD Cert.AdamDownReferenceIdeal.τ Cert.AdamDownReferenceIdeal.sig) → Buf (Elt Ideal) ℓ) : Prop :=
  ∀ c : Dev Cert.AdamDownReferenceIdeal.nD,
    (Cert.Pre_device_adam_down.fn (F := Ideal) (m ((c.tc : Thread Cert.AdamDownReferenceIdeal.nD Cert.AdamDownReferenceIdeal.τ).loc Cert.AdamDownReferenceIdeal.main_arg0)) (m ((c.tc : Thread Cert.AdamDownReferenceIdeal.nD Cert.AdamDownReferenceIdeal.τ).loc Cert.AdamDownReferenceIdeal.main_arg1)) (m ((c.tc : Thread Cert.AdamDownReferenceIdeal.nD Cert.AdamDownReferenceIdeal.τ).loc Cert.AdamDownReferenceIdeal.main_arg2)) (m ((c.tc : Thread Cert.AdamDownReferenceIdeal.nD Cert.AdamDownReferenceIdeal.τ).loc Cert.AdamDownReferenceIdeal.main_arg3)) (m ((c.tc : Thread Cert.AdamDownReferenceIdeal.nD Cert.AdamDownReferenceIdeal.τ).loc Cert.AdamDownReferenceIdeal.main_arg4)) (m ((c.tc : Thread Cert.AdamDownReferenceIdeal.nD Cert.AdamDownReferenceIdeal.τ).loc Cert.AdamDownReferenceIdeal.main_arg5))) = (fun _ => 1#1)

def Pre_AdamGateUp [hPre_device_adam_gu : Cert.Pre_device_adam_gu.Facts] (m : (ℓ : Loc Cert.AdamGateUp.nD Cert.AdamGateUp.τ Cert.AdamGateUp.sig) → Buf (Elt Bits) ℓ) : Prop :=
  ∀ c : Dev Cert.AdamGateUp.nD,
    (Cert.Pre_device_adam_gu.fn (F := Bits) (m ((c.tc : Thread Cert.AdamGateUp.nD Cert.AdamGateUp.τ).loc Cert.AdamGateUp.main_arg0)) (m ((c.tc : Thread Cert.AdamGateUp.nD Cert.AdamGateUp.τ).loc Cert.AdamGateUp.main_arg1)) (m ((c.tc : Thread Cert.AdamGateUp.nD Cert.AdamGateUp.τ).loc Cert.AdamGateUp.main_arg2)) (m ((c.tc : Thread Cert.AdamGateUp.nD Cert.AdamGateUp.τ).loc Cert.AdamGateUp.main_arg3)) (m ((c.tc : Thread Cert.AdamGateUp.nD Cert.AdamGateUp.τ).loc Cert.AdamGateUp.main_arg4)) (m ((c.tc : Thread Cert.AdamGateUp.nD Cert.AdamGateUp.τ).loc Cert.AdamGateUp.main_arg5))) = (fun _ => 1#1)

def Pre_AdamGateUpIdeal [hPre_device_adam_gu : Cert.Pre_device_adam_gu.Facts] (m : (ℓ : Loc Cert.AdamGateUpIdeal.nD Cert.AdamGateUpIdeal.τ Cert.AdamGateUpIdeal.sig) → Buf (Elt Ideal) ℓ) : Prop :=
  ∀ c : Dev Cert.AdamGateUpIdeal.nD,
    (Cert.Pre_device_adam_gu.fn (F := Ideal) (m ((c.tc : Thread Cert.AdamGateUpIdeal.nD Cert.AdamGateUpIdeal.τ).loc Cert.AdamGateUpIdeal.main_arg0)) (m ((c.tc : Thread Cert.AdamGateUpIdeal.nD Cert.AdamGateUpIdeal.τ).loc Cert.AdamGateUpIdeal.main_arg1)) (m ((c.tc : Thread Cert.AdamGateUpIdeal.nD Cert.AdamGateUpIdeal.τ).loc Cert.AdamGateUpIdeal.main_arg2)) (m ((c.tc : Thread Cert.AdamGateUpIdeal.nD Cert.AdamGateUpIdeal.τ).loc Cert.AdamGateUpIdeal.main_arg3)) (m ((c.tc : Thread Cert.AdamGateUpIdeal.nD Cert.AdamGateUpIdeal.τ).loc Cert.AdamGateUpIdeal.main_arg4)) (m ((c.tc : Thread Cert.AdamGateUpIdeal.nD Cert.AdamGateUpIdeal.τ).loc Cert.AdamGateUpIdeal.main_arg5))) = (fun _ => 1#1)

def Pre_AdamGateUpReferenceIdeal (m : (ℓ : Loc Cert.AdamGateUpReferenceIdeal.nD Cert.AdamGateUpReferenceIdeal.τ Cert.AdamGateUpReferenceIdeal.sig) → Buf (Elt Ideal) ℓ) : Prop :=
  True

def Pre_AdamGateUpReferenceIdeal_device_adam_gu [hPre_device_adam_gu : Cert.Pre_device_adam_gu.Facts] (m : (ℓ : Loc Cert.AdamGateUpReferenceIdeal.nD Cert.AdamGateUpReferenceIdeal.τ Cert.AdamGateUpReferenceIdeal.sig) → Buf (Elt Ideal) ℓ) : Prop :=
  ∀ c : Dev Cert.AdamGateUpReferenceIdeal.nD,
    (Cert.Pre_device_adam_gu.fn (F := Ideal) (m ((c.tc : Thread Cert.AdamGateUpReferenceIdeal.nD Cert.AdamGateUpReferenceIdeal.τ).loc Cert.AdamGateUpReferenceIdeal.main_arg0)) (m ((c.tc : Thread Cert.AdamGateUpReferenceIdeal.nD Cert.AdamGateUpReferenceIdeal.τ).loc Cert.AdamGateUpReferenceIdeal.main_arg1)) (m ((c.tc : Thread Cert.AdamGateUpReferenceIdeal.nD Cert.AdamGateUpReferenceIdeal.τ).loc Cert.AdamGateUpReferenceIdeal.main_arg2)) (m ((c.tc : Thread Cert.AdamGateUpReferenceIdeal.nD Cert.AdamGateUpReferenceIdeal.τ).loc Cert.AdamGateUpReferenceIdeal.main_arg3)) (m ((c.tc : Thread Cert.AdamGateUpReferenceIdeal.nD Cert.AdamGateUpReferenceIdeal.τ).loc Cert.AdamGateUpReferenceIdeal.main_arg4)) (m ((c.tc : Thread Cert.AdamGateUpReferenceIdeal.nD Cert.AdamGateUpReferenceIdeal.τ).loc Cert.AdamGateUpReferenceIdeal.main_arg5))) = (fun _ => 1#1)

def Pre_AdamOut [hPre_device_adam_out : Cert.Pre_device_adam_out.Facts] (m : (ℓ : Loc Cert.AdamOut.nD Cert.AdamOut.τ Cert.AdamOut.sig) → Buf (Elt Bits) ℓ) : Prop :=
  ∀ c : Dev Cert.AdamOut.nD,
    (Cert.Pre_device_adam_out.fn (F := Bits) (m ((c.tc : Thread Cert.AdamOut.nD Cert.AdamOut.τ).loc Cert.AdamOut.main_arg0)) (m ((c.tc : Thread Cert.AdamOut.nD Cert.AdamOut.τ).loc Cert.AdamOut.main_arg1)) (m ((c.tc : Thread Cert.AdamOut.nD Cert.AdamOut.τ).loc Cert.AdamOut.main_arg2)) (m ((c.tc : Thread Cert.AdamOut.nD Cert.AdamOut.τ).loc Cert.AdamOut.main_arg3)) (m ((c.tc : Thread Cert.AdamOut.nD Cert.AdamOut.τ).loc Cert.AdamOut.main_arg4)) (m ((c.tc : Thread Cert.AdamOut.nD Cert.AdamOut.τ).loc Cert.AdamOut.main_arg5))) = (fun _ => 1#1)

def Pre_AdamOutIdeal [hPre_device_adam_out : Cert.Pre_device_adam_out.Facts] (m : (ℓ : Loc Cert.AdamOutIdeal.nD Cert.AdamOutIdeal.τ Cert.AdamOutIdeal.sig) → Buf (Elt Ideal) ℓ) : Prop :=
  ∀ c : Dev Cert.AdamOutIdeal.nD,
    (Cert.Pre_device_adam_out.fn (F := Ideal) (m ((c.tc : Thread Cert.AdamOutIdeal.nD Cert.AdamOutIdeal.τ).loc Cert.AdamOutIdeal.main_arg0)) (m ((c.tc : Thread Cert.AdamOutIdeal.nD Cert.AdamOutIdeal.τ).loc Cert.AdamOutIdeal.main_arg1)) (m ((c.tc : Thread Cert.AdamOutIdeal.nD Cert.AdamOutIdeal.τ).loc Cert.AdamOutIdeal.main_arg2)) (m ((c.tc : Thread Cert.AdamOutIdeal.nD Cert.AdamOutIdeal.τ).loc Cert.AdamOutIdeal.main_arg3)) (m ((c.tc : Thread Cert.AdamOutIdeal.nD Cert.AdamOutIdeal.τ).loc Cert.AdamOutIdeal.main_arg4)) (m ((c.tc : Thread Cert.AdamOutIdeal.nD Cert.AdamOutIdeal.τ).loc Cert.AdamOutIdeal.main_arg5))) = (fun _ => 1#1)

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamOutReferenceIdeal_device_adam_out [hPre_device_adam_out : Cert.Pre_device_adam_out.Facts] (m : (ℓ : Loc Cert.AdamOutReferenceIdeal.nD Cert.AdamOutReferenceIdeal.τ Cert.AdamOutReferenceIdeal.sig) → Buf (Elt Ideal) ℓ) : Prop :=
  ∀ c : Dev Cert.AdamOutReferenceIdeal.nD,
    (Cert.Pre_device_adam_out.fn (F := Ideal) (m ((c.tc : Thread Cert.AdamOutReferenceIdeal.nD Cert.AdamOutReferenceIdeal.τ).loc Cert.AdamOutReferenceIdeal.main_arg0)) (m ((c.tc : Thread Cert.AdamOutReferenceIdeal.nD Cert.AdamOutReferenceIdeal.τ).loc Cert.AdamOutReferenceIdeal.main_arg1)) (m ((c.tc : Thread Cert.AdamOutReferenceIdeal.nD Cert.AdamOutReferenceIdeal.τ).loc Cert.AdamOutReferenceIdeal.main_arg2)) (m ((c.tc : Thread Cert.AdamOutReferenceIdeal.nD Cert.AdamOutReferenceIdeal.τ).loc Cert.AdamOutReferenceIdeal.main_arg3)) (m ((c.tc : Thread Cert.AdamOutReferenceIdeal.nD Cert.AdamOutReferenceIdeal.τ).loc Cert.AdamOutReferenceIdeal.main_arg4)) (m ((c.tc : Thread Cert.AdamOutReferenceIdeal.nD Cert.AdamOutReferenceIdeal.τ).loc Cert.AdamOutReferenceIdeal.main_arg5))) = (fun _ => 1#1)

def Pre_AdamIn [hPre_device_adam_in : Cert.Pre_device_adam_in.Facts] (m : (ℓ : Loc Cert.AdamIn.nD Cert.AdamIn.τ Cert.AdamIn.sig) → Buf (Elt Bits) ℓ) : Prop :=
  ∀ c : Dev Cert.AdamIn.nD,
    (Cert.Pre_device_adam_in.fn (F := Bits) (m ((c.tc : Thread Cert.AdamIn.nD Cert.AdamIn.τ).loc Cert.AdamIn.main_arg0)) (m ((c.tc : Thread Cert.AdamIn.nD Cert.AdamIn.τ).loc Cert.AdamIn.main_arg1)) (m ((c.tc : Thread Cert.AdamIn.nD Cert.AdamIn.τ).loc Cert.AdamIn.main_arg2)) (m ((c.tc : Thread Cert.AdamIn.nD Cert.AdamIn.τ).loc Cert.AdamIn.main_arg3)) (m ((c.tc : Thread Cert.AdamIn.nD Cert.AdamIn.τ).loc Cert.AdamIn.main_arg4)) (m ((c.tc : Thread Cert.AdamIn.nD Cert.AdamIn.τ).loc Cert.AdamIn.main_arg5))) = (fun _ => 1#1)

def Pre_AdamInIdeal [hPre_device_adam_in : Cert.Pre_device_adam_in.Facts] (m : (ℓ : Loc Cert.AdamInIdeal.nD Cert.AdamInIdeal.τ Cert.AdamInIdeal.sig) → Buf (Elt Ideal) ℓ) : Prop :=
  ∀ c : Dev Cert.AdamInIdeal.nD,
    (Cert.Pre_device_adam_in.fn (F := Ideal) (m ((c.tc : Thread Cert.AdamInIdeal.nD Cert.AdamInIdeal.τ).loc Cert.AdamInIdeal.main_arg0)) (m ((c.tc : Thread Cert.AdamInIdeal.nD Cert.AdamInIdeal.τ).loc Cert.AdamInIdeal.main_arg1)) (m ((c.tc : Thread Cert.AdamInIdeal.nD Cert.AdamInIdeal.τ).loc Cert.AdamInIdeal.main_arg2)) (m ((c.tc : Thread Cert.AdamInIdeal.nD Cert.AdamInIdeal.τ).loc Cert.AdamInIdeal.main_arg3)) (m ((c.tc : Thread Cert.AdamInIdeal.nD Cert.AdamInIdeal.τ).loc Cert.AdamInIdeal.main_arg4)) (m ((c.tc : Thread Cert.AdamInIdeal.nD Cert.AdamInIdeal.τ).loc Cert.AdamInIdeal.main_arg5))) = (fun _ => 1#1)

def Pre_AdamInReferenceIdeal (m : (ℓ : Loc Cert.AdamInReferenceIdeal.nD Cert.AdamInReferenceIdeal.τ Cert.AdamInReferenceIdeal.sig) → Buf (Elt Ideal) ℓ) : Prop :=
  True

def Pre_AdamInReferenceIdeal_device_adam_in [hPre_device_adam_in : Cert.Pre_device_adam_in.Facts] (m : (ℓ : Loc Cert.AdamInReferenceIdeal.nD Cert.AdamInReferenceIdeal.τ Cert.AdamInReferenceIdeal.sig) → Buf (Elt Ideal) ℓ) : Prop :=
  ∀ c : Dev Cert.AdamInReferenceIdeal.nD,
    (Cert.Pre_device_adam_in.fn (F := Ideal) (m ((c.tc : Thread Cert.AdamInReferenceIdeal.nD Cert.AdamInReferenceIdeal.τ).loc Cert.AdamInReferenceIdeal.main_arg0)) (m ((c.tc : Thread Cert.AdamInReferenceIdeal.nD Cert.AdamInReferenceIdeal.τ).loc Cert.AdamInReferenceIdeal.main_arg1)) (m ((c.tc : Thread Cert.AdamInReferenceIdeal.nD Cert.AdamInReferenceIdeal.τ).loc Cert.AdamInReferenceIdeal.main_arg2)) (m ((c.tc : Thread Cert.AdamInReferenceIdeal.nD Cert.AdamInReferenceIdeal.τ).loc Cert.AdamInReferenceIdeal.main_arg3)) (m ((c.tc : Thread Cert.AdamInReferenceIdeal.nD Cert.AdamInReferenceIdeal.τ).loc Cert.AdamInReferenceIdeal.main_arg4)) (m ((c.tc : Thread Cert.AdamInReferenceIdeal.nD Cert.AdamInReferenceIdeal.τ).loc Cert.AdamInReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_Enter [hEnter : Cert.Enter.Facts] : Prop :=
  ∀ (m : (ℓ : Loc Cert.Enter.nD Cert.Enter.τ Cert.Enter.sig) → Buf (Elt Bits) ℓ) (g : Dev Cert.Enter.nD → PrngReg), Pre_Enter m →
    θ_run (Cert.Enter.defs (F := Bits)) (onTc (τ := Cert.Enter.τ) (Cert.Enter.main (F := Bits))) ⟨m, fun _ => 0, g⟩ (fun r => (∀ c : Dev Cert.Enter.nD,
      r.2.mem ((c.tc : Thread Cert.Enter.nD Cert.Enter.τ).loc Cert.Enter.main_arg0) = m ((c.tc : Thread Cert.Enter.nD Cert.Enter.τ).loc Cert.Enter.main_arg0)
      ∧ r.2.mem ((c.tc : Thread Cert.Enter.nD Cert.Enter.τ).loc Cert.Enter.main_arg1) = m ((c.tc : Thread Cert.Enter.nD Cert.Enter.τ).loc Cert.Enter.main_arg1)
      ∧ r.2.mem ((c.tc : Thread Cert.Enter.nD Cert.Enter.τ).loc Cert.Enter.main_arg2) = m ((c.tc : Thread Cert.Enter.nD Cert.Enter.τ).loc Cert.Enter.main_arg2)
      ∧ r.2.mem ((c.tc : Thread Cert.Enter.nD Cert.Enter.τ).loc Cert.Enter.main_arg3) = m ((c.tc : Thread Cert.Enter.nD Cert.Enter.τ).loc Cert.Enter.main_arg3)
      ∧ r.2.mem ((c.tc : Thread Cert.Enter.nD Cert.Enter.τ).loc Cert.Enter.main_arg4) = m ((c.tc : Thread Cert.Enter.nD Cert.Enter.τ).loc Cert.Enter.main_arg4)
      ∧ r.2.mem ((c.tc : Thread Cert.Enter.nD Cert.Enter.τ).loc Cert.Enter.main_arg5) = m ((c.tc : Thread Cert.Enter.nD Cert.Enter.τ).loc Cert.Enter.main_arg5)
      ∧ r.2.mem ((c.tc : Thread Cert.Enter.nD Cert.Enter.τ).loc Cert.Enter.main_arg6) = m ((c.tc : Thread Cert.Enter.nD Cert.Enter.τ).loc Cert.Enter.main_arg6))
      ∧ r.2.sem = fun _ => 0)

def quiescent_EnterIdeal [hEnterIdeal : Cert.EnterIdeal.Facts] : Prop :=
  ∀ (m : (ℓ : Loc Cert.EnterIdeal.nD Cert.EnterIdeal.τ Cert.EnterIdeal.sig) → Buf (Elt Ideal) ℓ) (g : Dev Cert.EnterIdeal.nD → PrngReg), Pre_EnterIdeal m →
    θ_run (Cert.EnterIdeal.defs (F := Ideal)) (onTc (τ := Cert.EnterIdeal.τ) (Cert.EnterIdeal.main (F := Ideal))) ⟨m, fun _ => 0, g⟩ (fun r => (∀ c : Dev Cert.EnterIdeal.nD,
      r.2.mem ((c.tc : Thread Cert.EnterIdeal.nD Cert.EnterIdeal.τ).loc Cert.EnterIdeal.main_arg0) = m ((c.tc : Thread Cert.EnterIdeal.nD Cert.EnterIdeal.τ).loc Cert.EnterIdeal.main_arg0)
      ∧ r.2.mem ((c.tc : Thread Cert.EnterIdeal.nD Cert.EnterIdeal.τ).loc Cert.EnterIdeal.main_arg1) = m ((c.tc : Thread Cert.EnterIdeal.nD Cert.EnterIdeal.τ).loc Cert.EnterIdeal.main_arg1)
      ∧ r.2.mem ((c.tc : Thread Cert.EnterIdeal.nD Cert.EnterIdeal.τ).loc Cert.EnterIdeal.main_arg2) = m ((c.tc : Thread Cert.EnterIdeal.nD Cert.EnterIdeal.τ).loc Cert.EnterIdeal.main_arg2)
      ∧ r.2.mem ((c.tc : Thread Cert.EnterIdeal.nD Cert.EnterIdeal.τ).loc Cert.EnterIdeal.main_arg3) = m ((c.tc : Thread Cert.EnterIdeal.nD Cert.EnterIdeal.τ).loc Cert.EnterIdeal.main_arg3)
      ∧ r.2.mem ((c.tc : Thread Cert.EnterIdeal.nD Cert.EnterIdeal.τ).loc Cert.EnterIdeal.main_arg4) = m ((c.tc : Thread Cert.EnterIdeal.nD Cert.EnterIdeal.τ).loc Cert.EnterIdeal.main_arg4)
      ∧ r.2.mem ((c.tc : Thread Cert.EnterIdeal.nD Cert.EnterIdeal.τ).loc Cert.EnterIdeal.main_arg5) = m ((c.tc : Thread Cert.EnterIdeal.nD Cert.EnterIdeal.τ).loc Cert.EnterIdeal.main_arg5)
      ∧ r.2.mem ((c.tc : Thread Cert.EnterIdeal.nD Cert.EnterIdeal.τ).loc Cert.EnterIdeal.main_arg6) = m ((c.tc : Thread Cert.EnterIdeal.nD Cert.EnterIdeal.τ).loc Cert.EnterIdeal.main_arg6))
      ∧ r.2.sem = fun _ => 0)

def quiescent_EnterIdeal_pre_finite_enter [hEnterIdeal : Cert.EnterIdeal.Facts] [hPre_finite_enter : Cert.Pre_finite_enter.Facts] : Prop :=
  ∀ (m : (ℓ : Loc Cert.EnterIdeal.nD Cert.EnterIdeal.τ Cert.EnterIdeal.sig) → Buf (Elt Ideal) ℓ) (g : Dev Cert.EnterIdeal.nD → PrngReg), Pre_EnterIdeal_finite_enter m →
    θ_run (Cert.EnterIdeal.defs (F := Ideal)) (onTc (τ := Cert.EnterIdeal.τ) (Cert.EnterIdeal.main (F := Ideal))) ⟨m, fun _ => 0, g⟩ (fun r => (∀ c : Dev Cert.EnterIdeal.nD,
      r.2.mem ((c.tc : Thread Cert.EnterIdeal.nD Cert.EnterIdeal.τ).loc Cert.EnterIdeal.main_arg0) = m ((c.tc : Thread Cert.EnterIdeal.nD Cert.EnterIdeal.τ).loc Cert.EnterIdeal.main_arg0)
      ∧ r.2.mem ((c.tc : Thread Cert.EnterIdeal.nD Cert.EnterIdeal.τ).loc Cert.EnterIdeal.main_arg1) = m ((c.tc : Thread Cert.EnterIdeal.nD Cert.EnterIdeal.τ).loc Cert.EnterIdeal.main_arg1)
      ∧ r.2.mem ((c.tc : Thread Cert.EnterIdeal.nD Cert.EnterIdeal.τ).loc Cert.EnterIdeal.main_arg2) = m ((c.tc : Thread Cert.EnterIdeal.nD Cert.EnterIdeal.τ).loc Cert.EnterIdeal.main_arg2)
      ∧ r.2.mem ((c.tc : Thread Cert.EnterIdeal.nD Cert.EnterIdeal.τ).loc Cert.EnterIdeal.main_arg3) = m ((c.tc : Thread Cert.EnterIdeal.nD Cert.EnterIdeal.τ).loc Cert.EnterIdeal.main_arg3)
      ∧ r.2.mem ((c.tc : Thread Cert.EnterIdeal.nD Cert.EnterIdeal.τ).loc Cert.EnterIdeal.main_arg4) = m ((c.tc : Thread Cert.EnterIdeal.nD Cert.EnterIdeal.τ).loc Cert.EnterIdeal.main_arg4)
      ∧ r.2.mem ((c.tc : Thread Cert.EnterIdeal.nD Cert.EnterIdeal.τ).loc Cert.EnterIdeal.main_arg5) = m ((c.tc : Thread Cert.EnterIdeal.nD Cert.EnterIdeal.τ).loc Cert.EnterIdeal.main_arg5)
      ∧ r.2.mem ((c.tc : Thread Cert.EnterIdeal.nD Cert.EnterIdeal.τ).loc Cert.EnterIdeal.main_arg6) = m ((c.tc : Thread Cert.EnterIdeal.nD Cert.EnterIdeal.τ).loc Cert.EnterIdeal.main_arg6))
      ∧ r.2.sem = fun _ => 0)

def quiescent_EnterReferenceIdeal [hEnterReferenceIdeal : Cert.EnterReferenceIdeal.Facts] : Prop :=
  ∀ (m : (ℓ : Loc Cert.EnterReferenceIdeal.nD Cert.EnterReferenceIdeal.τ Cert.EnterReferenceIdeal.sig) → Buf (Elt Ideal) ℓ) (g : Dev Cert.EnterReferenceIdeal.nD → PrngReg), Pre_EnterReferenceIdeal m →
    θ_run (Cert.EnterReferenceIdeal.defs (F := Ideal)) (onTc (τ := Cert.EnterReferenceIdeal.τ) (Cert.EnterReferenceIdeal.main (F := Ideal))) ⟨m, fun _ => 0, g⟩ (fun r => (∀ c : Dev Cert.EnterReferenceIdeal.nD,
      r.2.mem ((c.tc : Thread Cert.EnterReferenceIdeal.nD Cert.EnterReferenceIdeal.τ).loc Cert.EnterReferenceIdeal.main_arg0) = m ((c.tc : Thread Cert.EnterReferenceIdeal.nD Cert.EnterReferenceIdeal.τ).loc Cert.EnterReferenceIdeal.main_arg0)
      ∧ r.2.mem ((c.tc : Thread Cert.EnterReferenceIdeal.nD Cert.EnterReferenceIdeal.τ).loc Cert.EnterReferenceIdeal.main_arg1) = m ((c.tc : Thread Cert.EnterReferenceIdeal.nD Cert.EnterReferenceIdeal.τ).loc Cert.EnterReferenceIdeal.main_arg1)
      ∧ r.2.mem ((c.tc : Thread Cert.EnterReferenceIdeal.nD Cert.EnterReferenceIdeal.τ).loc Cert.EnterReferenceIdeal.main_arg2) = m ((c.tc : Thread Cert.EnterReferenceIdeal.nD Cert.EnterReferenceIdeal.τ).loc Cert.EnterReferenceIdeal.main_arg2)
      ∧ r.2.mem ((c.tc : Thread Cert.EnterReferenceIdeal.nD Cert.EnterReferenceIdeal.τ).loc Cert.EnterReferenceIdeal.main_arg3) = m ((c.tc : Thread Cert.EnterReferenceIdeal.nD Cert.EnterReferenceIdeal.τ).loc Cert.EnterReferenceIdeal.main_arg3)
      ∧ r.2.mem ((c.tc : Thread Cert.EnterReferenceIdeal.nD Cert.EnterReferenceIdeal.τ).loc Cert.EnterReferenceIdeal.main_arg4) = m ((c.tc : Thread Cert.EnterReferenceIdeal.nD Cert.EnterReferenceIdeal.τ).loc Cert.EnterReferenceIdeal.main_arg4)
      ∧ r.2.mem ((c.tc : Thread Cert.EnterReferenceIdeal.nD Cert.EnterReferenceIdeal.τ).loc Cert.EnterReferenceIdeal.main_arg5) = m ((c.tc : Thread Cert.EnterReferenceIdeal.nD Cert.EnterReferenceIdeal.τ).loc Cert.EnterReferenceIdeal.main_arg5)
      ∧ r.2.mem ((c.tc : Thread Cert.EnterReferenceIdeal.nD Cert.EnterReferenceIdeal.τ).loc Cert.EnterReferenceIdeal.main_arg6) = m ((c.tc : Thread Cert.EnterReferenceIdeal.nD Cert.EnterReferenceIdeal.τ).loc Cert.EnterReferenceIdeal.main_arg6))
      ∧ r.2.sem = fun _ => 0)

def quiescent_EnterReferenceIdeal_pre_finite_enter [hEnterReferenceIdeal : Cert.EnterReferenceIdeal.Facts] [hPre_finite_enter : Cert.Pre_finite_enter.Facts] : Prop :=
  ∀ (m : (ℓ : Loc Cert.EnterReferenceIdeal.nD Cert.EnterReferenceIdeal.τ Cert.EnterReferenceIdeal.sig) → Buf (Elt Ideal) ℓ) (g : Dev Cert.EnterReferenceIdeal.nD → PrngReg), Pre_EnterReferenceIdeal_finite_enter m →
    θ_run (Cert.EnterReferenceIdeal.defs (F := Ideal)) (onTc (τ := Cert.EnterReferenceIdeal.τ) (Cert.EnterReferenceIdeal.main (F := Ideal))) ⟨m, fun _ => 0, g⟩ (fun r => (∀ c : Dev Cert.EnterReferenceIdeal.nD,
      r.2.mem ((c.tc : Thread Cert.EnterReferenceIdeal.nD Cert.EnterReferenceIdeal.τ).loc Cert.EnterReferenceIdeal.main_arg0) = m ((c.tc : Thread Cert.EnterReferenceIdeal.nD Cert.EnterReferenceIdeal.τ).loc Cert.EnterReferenceIdeal.main_arg0)
      ∧ r.2.mem ((c.tc : Thread Cert.EnterReferenceIdeal.nD Cert.EnterReferenceIdeal.τ).loc Cert.EnterReferenceIdeal.main_arg1) = m ((c.tc : Thread Cert.EnterReferenceIdeal.nD Cert.EnterReferenceIdeal.τ).loc Cert.EnterReferenceIdeal.main_arg1)
      ∧ r.2.mem ((c.tc : Thread Cert.EnterReferenceIdeal.nD Cert.EnterReferenceIdeal.τ).loc Cert.EnterReferenceIdeal.main_arg2) = m ((c.tc : Thread Cert.EnterReferenceIdeal.nD Cert.EnterReferenceIdeal.τ).loc Cert.EnterReferenceIdeal.main_arg2)
      ∧ r.2.mem ((c.tc : Thread Cert.EnterReferenceIdeal.nD Cert.EnterReferenceIdeal.τ).loc Cert.EnterReferenceIdeal.main_arg3) = m ((c.tc : Thread Cert.EnterReferenceIdeal.nD Cert.EnterReferenceIdeal.τ).loc Cert.EnterReferenceIdeal.main_arg3)
      ∧ r.2.mem ((c.tc : Thread Cert.EnterReferenceIdeal.nD Cert.EnterReferenceIdeal.τ).loc Cert.EnterReferenceIdeal.main_arg4) = m ((c.tc : Thread Cert.EnterReferenceIdeal.nD Cert.EnterReferenceIdeal.τ).loc Cert.EnterReferenceIdeal.main_arg4)
      ∧ r.2.mem ((c.tc : Thread Cert.EnterReferenceIdeal.nD Cert.EnterReferenceIdeal.τ).loc Cert.EnterReferenceIdeal.main_arg5) = m ((c.tc : Thread Cert.EnterReferenceIdeal.nD Cert.EnterReferenceIdeal.τ).loc Cert.EnterReferenceIdeal.main_arg5)
      ∧ r.2.mem ((c.tc : Thread Cert.EnterReferenceIdeal.nD Cert.EnterReferenceIdeal.τ).loc Cert.EnterReferenceIdeal.main_arg6) = m ((c.tc : Thread Cert.EnterReferenceIdeal.nD Cert.EnterReferenceIdeal.τ).loc Cert.EnterReferenceIdeal.main_arg6))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3)
      ∧ r.2.mem ((c.tc : Thread Cert.Small.nD Cert.Small.τ).loc Cert.Small.main_arg4) = m ((c.tc : Thread Cert.Small.nD Cert.Small.τ).loc Cert.Small.main_arg4)
      ∧ r.2.mem ((c.tc : Thread Cert.Small.nD Cert.Small.τ).loc Cert.Small.main_arg5) = m ((c.tc : Thread Cert.Small.nD Cert.Small.τ).loc Cert.Small.main_arg5)
      ∧ r.2.mem ((c.tc : Thread Cert.Small.nD Cert.Small.τ).loc Cert.Small.main_arg6) = m ((c.tc : Thread Cert.Small.nD Cert.Small.τ).loc Cert.Small.main_arg6)
      ∧ r.2.mem ((c.tc : Thread Cert.Small.nD Cert.Small.τ).loc Cert.Small.main_arg7) = m ((c.tc : Thread Cert.Small.nD Cert.Small.τ).loc Cert.Small.main_arg7)
      ∧ r.2.mem ((c.tc : Thread Cert.Small.nD Cert.Small.τ).loc Cert.Small.main_arg8) = m ((c.tc : Thread Cert.Small.nD Cert.Small.τ).loc Cert.Small.main_arg8)
      ∧ r.2.mem ((c.tc : Thread Cert.Small.nD Cert.Small.τ).loc Cert.Small.main_arg9) = m ((c.tc : Thread Cert.Small.nD Cert.Small.τ).loc Cert.Small.main_arg9)
      ∧ r.2.mem ((c.tc : Thread Cert.Small.nD Cert.Small.τ).loc Cert.Small.main_arg10) = m ((c.tc : Thread Cert.Small.nD Cert.Small.τ).loc Cert.Small.main_arg10)
      ∧ r.2.mem ((c.tc : Thread Cert.Small.nD Cert.Small.τ).loc Cert.Small.main_arg11) = m ((c.tc : Thread Cert.Small.nD Cert.Small.τ).loc Cert.Small.main_arg11)
      ∧ r.2.mem ((c.tc : Thread Cert.Small.nD Cert.Small.τ).loc Cert.Small.main_arg12) = m ((c.tc : Thread Cert.Small.nD Cert.Small.τ).loc Cert.Small.main_arg12)
      ∧ r.2.mem ((c.tc : Thread Cert.Small.nD Cert.Small.τ).loc Cert.Small.main_arg13) = m ((c.tc : Thread Cert.Small.nD Cert.Small.τ).loc Cert.Small.main_arg13)
      ∧ r.2.mem ((c.tc : Thread Cert.Small.nD Cert.Small.τ).loc Cert.Small.main_arg14) = m ((c.tc : Thread Cert.Small.nD Cert.Small.τ).loc Cert.Small.main_arg14)
      ∧ r.2.mem ((c.tc : Thread Cert.Small.nD Cert.Small.τ).loc Cert.Small.main_arg15) = m ((c.tc : Thread Cert.Small.nD Cert.Small.τ).loc Cert.Small.main_arg15)
      ∧ r.2.mem ((c.tc : Thread Cert.Small.nD Cert.Small.τ).loc Cert.Small.main_arg16) = m ((c.tc : Thread Cert.Small.nD Cert.Small.τ).loc Cert.Small.main_arg16)
      ∧ r.2.mem ((c.tc : Thread Cert.Small.nD Cert.Small.τ).loc Cert.Small.main_arg17) = m ((c.tc : Thread Cert.Small.nD Cert.Small.τ).loc Cert.Small.main_arg17)
      ∧ r.2.mem ((c.tc : Thread Cert.Small.nD Cert.Small.τ).loc Cert.Small.main_arg18) = m ((c.tc : Thread Cert.Small.nD Cert.Small.τ).loc Cert.Small.main_arg18)
      ∧ r.2.mem ((c.tc : Thread Cert.Small.nD Cert.Small.τ).loc Cert.Small.main_arg19) = m ((c.tc : Thread Cert.Small.nD Cert.Small.τ).loc Cert.Small.main_arg19)
      ∧ r.2.mem ((c.tc : Thread Cert.Small.nD Cert.Small.τ).loc Cert.Small.main_arg20) = m ((c.tc : Thread Cert.Small.nD Cert.Small.τ).loc Cert.Small.main_arg20)
      ∧ r.2.mem ((c.tc : Thread Cert.Small.nD Cert.Small.τ).loc Cert.Small.main_arg21) = m ((c.tc : Thread Cert.Small.nD Cert.Small.τ).loc Cert.Small.main_arg21)
      ∧ r.2.mem ((c.tc : Thread Cert.Small.nD Cert.Small.τ).loc Cert.Small.main_arg22) = m ((c.tc : Thread Cert.Small.nD Cert.Small.τ).loc Cert.Small.main_arg22)
      ∧ r.2.mem ((c.tc : Thread Cert.Small.nD Cert.Small.τ).loc Cert.Small.main_arg23) = m ((c.tc : Thread Cert.Small.nD Cert.Small.τ).loc Cert.Small.main_arg23)
      ∧ r.2.mem ((c.tc : Thread Cert.Small.nD Cert.Small.τ).loc Cert.Small.main_arg24) = m ((c.tc : Thread Cert.Small.nD Cert.Small.τ).loc Cert.Small.main_arg24)
      ∧ r.2.mem ((c.tc : Thread Cert.Small.nD Cert.Small.τ).loc Cert.Small.main_arg25) = m ((c.tc : Thread Cert.Small.nD Cert.Small.τ).loc Cert.Small.main_arg25)
      ∧ r.2.mem ((c.tc : Thread Cert.Small.nD Cert.Small.τ).loc Cert.Small.main_arg26) = m ((c.tc : Thread Cert.Small.nD Cert.Small.τ).loc Cert.Small.main_arg26)
      ∧ r.2.mem ((c.tc : Thread Cert.Small.nD Cert.Small.τ).loc Cert.Small.main_arg27) = m ((c.tc : Thread Cert.Small.nD Cert.Small.τ).loc Cert.Small.main_arg27)
      ∧ r.2.mem ((c.tc : Thread Cert.Small.nD Cert.Small.τ).loc Cert.Small.main_arg28) = m ((c.tc : Thread Cert.Small.nD Cert.Small.τ).loc Cert.Small.main_arg28)
      ∧ r.2.mem ((c.tc : Thread Cert.Small.nD Cert.Small.τ).loc Cert.Small.main_arg29) = m ((c.tc : Thread Cert.Small.nD Cert.Small.τ).loc Cert.Small.main_arg29))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
      ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
      ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
      ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
      ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
      ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
      ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
      ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
      ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
      ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
      ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
      ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
      ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
      ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16)
      ∧ r.2.mem ((c.tc : Thread Cert.SmallIdeal.nD Cert.SmallIdeal.τ).loc Cert.SmallIdeal.main_arg17) = m ((c.tc : Thread Cert.SmallIdeal.nD Cert.SmallIdeal.τ).loc Cert.SmallIdeal.main_arg17)
      ∧ r.2.mem ((c.tc : Thread Cert.SmallIdeal.nD Cert.SmallIdeal.τ).loc Cert.SmallIdeal.main_arg18) = m ((c.tc : Thread Cert.SmallIdeal.nD Cert.SmallIdeal.τ).loc Cert.SmallIdeal.main_arg18)
      ∧ r.2.mem ((c.tc : Thread Cert.SmallIdeal.nD Cert.SmallIdeal.τ).loc Cert.SmallIdeal.main_arg19) = m ((c.tc : Thread Cert.SmallIdeal.nD Cert.SmallIdeal.τ).loc Cert.SmallIdeal.main_arg19)
      ∧ r.2.mem ((c.tc : Thread Cert.SmallIdeal.nD Cert.SmallIdeal.τ).loc Cert.SmallIdeal.main_arg20) = m ((c.tc : Thread Cert.SmallIdeal.nD Cert.SmallIdeal.τ).loc Cert.SmallIdeal.main_arg20)
      ∧ r.2.mem ((c.tc : Thread Cert.SmallIdeal.nD Cert.SmallIdeal.τ).loc Cert.SmallIdeal.main_arg21) = m ((c.tc : Thread Cert.SmallIdeal.nD Cert.SmallIdeal.τ).loc Cert.SmallIdeal.main_arg21)
      ∧ r.2.mem ((c.tc : Thread Cert.SmallIdeal.nD Cert.SmallIdeal.τ).loc Cert.SmallIdeal.main_arg22) = m ((c.tc : Thread Cert.SmallIdeal.nD Cert.SmallIdeal.τ).loc Cert.SmallIdeal.main_arg22)
      ∧ r.2.mem ((c.tc : Thread Cert.SmallIdeal.nD Cert.SmallIdeal.τ).loc Cert.SmallIdeal.main_arg23) = m ((c.tc : Thread Cert.SmallIdeal.nD Cert.SmallIdeal.τ).loc Cert.SmallIdeal.main_arg23)
      ∧ r.2.mem ((c.tc : Thread Cert.SmallIdeal.nD Cert.SmallIdeal.τ).loc Cert.SmallIdeal.main_arg24) = m ((c.tc : Thread Cert.SmallIdeal.nD Cert.SmallIdeal.τ).loc Cert.SmallIdeal.main_arg24)
      ∧ r.2.mem ((c.tc : Thread Cert.SmallIdeal.nD Cert.SmallIdeal.τ).loc Cert.SmallIdeal.main_arg25) = m ((c.tc : Thread Cert.SmallIdeal.nD Cert.SmallIdeal.τ).loc Cert.SmallIdeal.main_arg25)
      ∧ r.2.mem ((c.tc : Thread Cert.SmallIdeal.nD Cert.SmallIdeal.τ).loc Cert.SmallIdeal.main_arg26) = m ((c.tc : Thread Cert.SmallIdeal.nD Cert.SmallIdeal.τ).loc Cert.SmallIdeal.main_arg26)
      ∧ r.2.mem ((c.tc : Thread Cert.SmallIdeal.nD Cert.SmallIdeal.τ).loc Cert.SmallIdeal.main_arg27) = m ((c.tc : Thread Cert.SmallIdeal.nD Cert.SmallIdeal.τ).loc Cert.SmallIdeal.main_arg27)
      ∧ r.2.mem ((c.tc : Thread Cert.SmallIdeal.nD Cert.SmallIdeal.τ).loc Cert.SmallIdeal.main_arg28) = m ((c.tc : Thread Cert.SmallIdeal.nD Cert.SmallIdeal.τ).loc Cert.SmallIdeal.main_arg28)
      ∧ r.2.mem ((c.tc : Thread Cert.SmallIdeal.nD Cert.SmallIdeal.τ).loc Cert.SmallIdeal.main_arg29) = m ((c.tc : Thread Cert.SmallIdeal.nD Cert.SmallIdeal.τ).loc Cert.SmallIdeal.main_arg29))
      ∧ r.2.sem = fun _ => 0)

def quiescent_SmallIdeal_pre_device_small [hSmallIdeal : Cert.SmallIdeal.Facts] [hPre_device_small : Cert.Pre_device_small.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal_device_small m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
      ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
      ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
      ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
      ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
      ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
      ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
      ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
      ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
      ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
      ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
      ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
      ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
      ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16)
      ∧ r.2.mem ((c.tc : Thread Cert.SmallIdeal.nD Cert.SmallIdeal.τ).loc Cert.SmallIdeal.main_arg17) = m ((c.tc : Thread Cert.SmallIdeal.nD Cert.SmallIdeal.τ).loc Cert.SmallIdeal.main_arg17)
      ∧ r.2.mem ((c.tc : Thread Cert.SmallIdeal.nD Cert.SmallIdeal.τ).loc Cert.SmallIdeal.main_arg18) = m ((c.tc : Thread Cert.SmallIdeal.nD Cert.SmallIdeal.τ).loc Cert.SmallIdeal.main_arg18)
      ∧ r.2.mem ((c.tc : Thread Cert.SmallIdeal.nD Cert.SmallIdeal.τ).loc Cert.SmallIdeal.main_arg19) = m ((c.tc : Thread Cert.SmallIdeal.nD Cert.SmallIdeal.τ).loc Cert.SmallIdeal.main_arg19)
      ∧ r.2.mem ((c.tc : Thread Cert.SmallIdeal.nD Cert.SmallIdeal.τ).loc Cert.SmallIdeal.main_arg20) = m ((c.tc : Thread Cert.SmallIdeal.nD Cert.SmallIdeal.τ).loc Cert.SmallIdeal.main_arg20)
      ∧ r.2.mem ((c.tc : Thread Cert.SmallIdeal.nD Cert.SmallIdeal.τ).loc Cert.SmallIdeal.main_arg21) = m ((c.tc : Thread Cert.SmallIdeal.nD Cert.SmallIdeal.τ).loc Cert.SmallIdeal.main_arg21)
      ∧ r.2.mem ((c.tc : Thread Cert.SmallIdeal.nD Cert.SmallIdeal.τ).loc Cert.SmallIdeal.main_arg22) = m ((c.tc : Thread Cert.SmallIdeal.nD Cert.SmallIdeal.τ).loc Cert.SmallIdeal.main_arg22)
      ∧ r.2.mem ((c.tc : Thread Cert.SmallIdeal.nD Cert.SmallIdeal.τ).loc Cert.SmallIdeal.main_arg23) = m ((c.tc : Thread Cert.SmallIdeal.nD Cert.SmallIdeal.τ).loc Cert.SmallIdeal.main_arg23)
      ∧ r.2.mem ((c.tc : Thread Cert.SmallIdeal.nD Cert.SmallIdeal.τ).loc Cert.SmallIdeal.main_arg24) = m ((c.tc : Thread Cert.SmallIdeal.nD Cert.SmallIdeal.τ).loc Cert.SmallIdeal.main_arg24)
      ∧ r.2.mem ((c.tc : Thread Cert.SmallIdeal.nD Cert.SmallIdeal.τ).loc Cert.SmallIdeal.main_arg25) = m ((c.tc : Thread Cert.SmallIdeal.nD Cert.SmallIdeal.τ).loc Cert.SmallIdeal.main_arg25)
      ∧ r.2.mem ((c.tc : Thread Cert.SmallIdeal.nD Cert.SmallIdeal.τ).loc Cert.SmallIdeal.main_arg26) = m ((c.tc : Thread Cert.SmallIdeal.nD Cert.SmallIdeal.τ).loc Cert.SmallIdeal.main_arg26)
      ∧ r.2.mem ((c.tc : Thread Cert.SmallIdeal.nD Cert.SmallIdeal.τ).loc Cert.SmallIdeal.main_arg27) = m ((c.tc : Thread Cert.SmallIdeal.nD Cert.SmallIdeal.τ).loc Cert.SmallIdeal.main_arg27)
      ∧ r.2.mem ((c.tc : Thread Cert.SmallIdeal.nD Cert.SmallIdeal.τ).loc Cert.SmallIdeal.main_arg28) = m ((c.tc : Thread Cert.SmallIdeal.nD Cert.SmallIdeal.τ).loc Cert.SmallIdeal.main_arg28)
      ∧ r.2.mem ((c.tc : Thread Cert.SmallIdeal.nD Cert.SmallIdeal.τ).loc Cert.SmallIdeal.main_arg29) = m ((c.tc : Thread Cert.SmallIdeal.nD Cert.SmallIdeal.τ).loc Cert.SmallIdeal.main_arg29))
      ∧ r.2.sem = fun _ => 0)

def quiescent_SmallReferenceIdeal [hSmallReferenceIdeal : Cert.SmallReferenceIdeal.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0)
      ∧ r.2.mem ((c.tc : Thread Cert.SmallReferenceIdeal.nD Cert.SmallReferenceIdeal.τ).loc Cert.SmallReferenceIdeal.main_arg1) = m ((c.tc : Thread Cert.SmallReferenceIdeal.nD Cert.SmallReferenceIdeal.τ).loc Cert.SmallReferenceIdeal.main_arg1)
      ∧ r.2.mem ((c.tc : Thread Cert.SmallReferenceIdeal.nD Cert.SmallReferenceIdeal.τ).loc Cert.SmallReferenceIdeal.main_arg2) = m ((c.tc : Thread Cert.SmallReferenceIdeal.nD Cert.SmallReferenceIdeal.τ).loc Cert.SmallReferenceIdeal.main_arg2)
      ∧ r.2.mem ((c.tc : Thread Cert.SmallReferenceIdeal.nD Cert.SmallReferenceIdeal.τ).loc Cert.SmallReferenceIdeal.main_arg3) = m ((c.tc : Thread Cert.SmallReferenceIdeal.nD Cert.SmallReferenceIdeal.τ).loc Cert.SmallReferenceIdeal.main_arg3)
      ∧ r.2.mem ((c.tc : Thread Cert.SmallReferenceIdeal.nD Cert.SmallReferenceIdeal.τ).loc Cert.SmallReferenceIdeal.main_arg4) = m ((c.tc : Thread Cert.SmallReferenceIdeal.nD Cert.SmallReferenceIdeal.τ).loc Cert.SmallReferenceIdeal.main_arg4)
      ∧ r.2.mem ((c.tc : Thread Cert.SmallReferenceIdeal.nD Cert.SmallReferenceIdeal.τ).loc Cert.SmallReferenceIdeal.main_arg5) = m ((c.tc : Thread Cert.SmallReferenceIdeal.nD Cert.SmallReferenceIdeal.τ).loc Cert.SmallReferenceIdeal.main_arg5)
      ∧ r.2.mem ((c.tc : Thread Cert.SmallReferenceIdeal.nD Cert.SmallReferenceIdeal.τ).loc Cert.SmallReferenceIdeal.main_arg6) = m ((c.tc : Thread Cert.SmallReferenceIdeal.nD Cert.SmallReferenceIdeal.τ).loc Cert.SmallReferenceIdeal.main_arg6)
      ∧ r.2.mem ((c.tc : Thread Cert.SmallReferenceIdeal.nD Cert.SmallReferenceIdeal.τ).loc Cert.SmallReferenceIdeal.main_arg7) = m ((c.tc : Thread Cert.SmallReferenceIdeal.nD Cert.SmallReferenceIdeal.τ).loc Cert.SmallReferenceIdeal.main_arg7)
      ∧ r.2.mem ((c.tc : Thread Cert.SmallReferenceIdeal.nD Cert.SmallReferenceIdeal.τ).loc Cert.SmallReferenceIdeal.main_arg8) = m ((c.tc : Thread Cert.SmallReferenceIdeal.nD Cert.SmallReferenceIdeal.τ).loc Cert.SmallReferenceIdeal.main_arg8)
      ∧ r.2.mem ((c.tc : Thread Cert.SmallReferenceIdeal.nD Cert.SmallReferenceIdeal.τ).loc Cert.SmallReferenceIdeal.main_arg9) = m ((c.tc : Thread Cert.SmallReferenceIdeal.nD Cert.SmallReferenceIdeal.τ).loc Cert.SmallReferenceIdeal.main_arg9)
      ∧ r.2.mem ((c.tc : Thread Cert.SmallReferenceIdeal.nD Cert.SmallReferenceIdeal.τ).loc Cert.SmallReferenceIdeal.main_arg10) = m ((c.tc : Thread Cert.SmallReferenceIdeal.nD Cert.SmallReferenceIdeal.τ).loc Cert.SmallReferenceIdeal.main_arg10)
      ∧ r.2.mem ((c.tc : Thread Cert.SmallReferenceIdeal.nD Cert.SmallReferenceIdeal.τ).loc Cert.SmallReferenceIdeal.main_arg11) = m ((c.tc : Thread Cert.SmallReferenceIdeal.nD Cert.SmallReferenceIdeal.τ).loc Cert.SmallReferenceIdeal.main_arg11)
      ∧ r.2.mem ((c.tc : Thread Cert.SmallReferenceIdeal.nD Cert.SmallReferenceIdeal.τ).loc Cert.SmallReferenceIdeal.main_arg12) = m ((c.tc : Thread Cert.SmallReferenceIdeal.nD Cert.SmallReferenceIdeal.τ).loc Cert.SmallReferenceIdeal.main_arg12)
      ∧ r.2.mem ((c.tc : Thread Cert.SmallReferenceIdeal.nD Cert.SmallReferenceIdeal.τ).loc Cert.SmallReferenceIdeal.main_arg13) = m ((c.tc : Thread Cert.SmallReferenceIdeal.nD Cert.SmallReferenceIdeal.τ).loc Cert.SmallReferenceIdeal.main_arg13)
      ∧ r.2.mem ((c.tc : Thread Cert.SmallReferenceIdeal.nD Cert.SmallReferenceIdeal.τ).loc Cert.SmallReferenceIdeal.main_arg14) = m ((c.tc : Thread Cert.SmallReferenceIdeal.nD Cert.SmallReferenceIdeal.τ).loc Cert.SmallReferenceIdeal.main_arg14)
      ∧ r.2.mem ((c.tc : Thread Cert.SmallReferenceIdeal.nD Cert.SmallReferenceIdeal.τ).loc Cert.SmallReferenceIdeal.main_arg15) = m ((c.tc : Thread Cert.SmallReferenceIdeal.nD Cert.SmallReferenceIdeal.τ).loc Cert.SmallReferenceIdeal.main_arg15)
      ∧ r.2.mem ((c.tc : Thread Cert.SmallReferenceIdeal.nD Cert.SmallReferenceIdeal.τ).loc Cert.SmallReferenceIdeal.main_arg16) = m ((c.tc : Thread Cert.SmallReferenceIdeal.nD Cert.SmallReferenceIdeal.τ).loc Cert.SmallReferenceIdeal.main_arg16)
      ∧ r.2.mem ((c.tc : Thread Cert.SmallReferenceIdeal.nD Cert.SmallReferenceIdeal.τ).loc Cert.SmallReferenceIdeal.main_arg17) = m ((c.tc : Thread Cert.SmallReferenceIdeal.nD Cert.SmallReferenceIdeal.τ).loc Cert.SmallReferenceIdeal.main_arg17)
      ∧ r.2.mem ((c.tc : Thread Cert.SmallReferenceIdeal.nD Cert.SmallReferenceIdeal.τ).loc Cert.SmallReferenceIdeal.main_arg18) = m ((c.tc : Thread Cert.SmallReferenceIdeal.nD Cert.SmallReferenceIdeal.τ).loc Cert.SmallReferenceIdeal.main_arg18)
      ∧ r.2.mem ((c.tc : Thread Cert.SmallReferenceIdeal.nD Cert.SmallReferenceIdeal.τ).loc Cert.SmallReferenceIdeal.main_arg19) = m ((c.tc : Thread Cert.SmallReferenceIdeal.nD Cert.SmallReferenceIdeal.τ).loc Cert.SmallReferenceIdeal.main_arg19)
      ∧ r.2.mem ((c.tc : Thread Cert.SmallReferenceIdeal.nD Cert.SmallReferenceIdeal.τ).loc Cert.SmallReferenceIdeal.main_arg20) = m ((c.tc : Thread Cert.SmallReferenceIdeal.nD Cert.SmallReferenceIdeal.τ).loc Cert.SmallReferenceIdeal.main_arg20)
      ∧ r.2.mem ((c.tc : Thread Cert.SmallReferenceIdeal.nD Cert.SmallReferenceIdeal.τ).loc Cert.SmallReferenceIdeal.main_arg21) = m ((c.tc : Thread Cert.SmallReferenceIdeal.nD Cert.SmallReferenceIdeal.τ).loc Cert.SmallReferenceIdeal.main_arg21)
      ∧ r.2.mem ((c.tc : Thread Cert.SmallReferenceIdeal.nD Cert.SmallReferenceIdeal.τ).loc Cert.SmallReferenceIdeal.main_arg22) = m ((c.tc : Thread Cert.SmallReferenceIdeal.nD Cert.SmallReferenceIdeal.τ).loc Cert.SmallReferenceIdeal.main_arg22)
      ∧ r.2.mem ((c.tc : Thread Cert.SmallReferenceIdeal.nD Cert.SmallReferenceIdeal.τ).loc Cert.SmallReferenceIdeal.main_arg23) = m ((c.tc : Thread Cert.SmallReferenceIdeal.nD Cert.SmallReferenceIdeal.τ).loc Cert.SmallReferenceIdeal.main_arg23)
      ∧ r.2.mem ((c.tc : Thread Cert.SmallReferenceIdeal.nD Cert.SmallReferenceIdeal.τ).loc Cert.SmallReferenceIdeal.main_arg24) = m ((c.tc : Thread Cert.SmallReferenceIdeal.nD Cert.SmallReferenceIdeal.τ).loc Cert.SmallReferenceIdeal.main_arg24)
      ∧ r.2.mem ((c.tc : Thread Cert.SmallReferenceIdeal.nD Cert.SmallReferenceIdeal.τ).loc Cert.SmallReferenceIdeal.main_arg25) = m ((c.tc : Thread Cert.SmallReferenceIdeal.nD Cert.SmallReferenceIdeal.τ).loc Cert.SmallReferenceIdeal.main_arg25)
      ∧ r.2.mem ((c.tc : Thread Cert.SmallReferenceIdeal.nD Cert.SmallReferenceIdeal.τ).loc Cert.SmallReferenceIdeal.main_arg26) = m ((c.tc : Thread Cert.SmallReferenceIdeal.nD Cert.SmallReferenceIdeal.τ).loc Cert.SmallReferenceIdeal.main_arg26)
      ∧ r.2.mem ((c.tc : Thread Cert.SmallReferenceIdeal.nD Cert.SmallReferenceIdeal.τ).loc Cert.SmallReferenceIdeal.main_arg27) = m ((c.tc : Thread Cert.SmallReferenceIdeal.nD Cert.SmallReferenceIdeal.τ).loc Cert.SmallReferenceIdeal.main_arg27)
      ∧ r.2.mem ((c.tc : Thread Cert.SmallReferenceIdeal.nD Cert.SmallReferenceIdeal.τ).loc Cert.SmallReferenceIdeal.main_arg28) = m ((c.tc : Thread Cert.SmallReferenceIdeal.nD Cert.SmallReferenceIdeal.τ).loc Cert.SmallReferenceIdeal.main_arg28)
      ∧ r.2.mem ((c.tc : Thread Cert.SmallReferenceIdeal.nD Cert.SmallReferenceIdeal.τ).loc Cert.SmallReferenceIdeal.main_arg29) = m ((c.tc : Thread Cert.SmallReferenceIdeal.nD Cert.SmallReferenceIdeal.τ).loc Cert.SmallReferenceIdeal.main_arg29))
      ∧ r.2.sem = fun _ => 0)

def quiescent_SmallReferenceIdeal_pre_device_small [hSmallReferenceIdeal : Cert.SmallReferenceIdeal.Facts] [hPre_device_small : Cert.Pre_device_small.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal_device_small m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0)
      ∧ r.2.mem ((c.tc : Thread Cert.SmallReferenceIdeal.nD Cert.SmallReferenceIdeal.τ).loc Cert.SmallReferenceIdeal.main_arg1) = m ((c.tc : Thread Cert.SmallReferenceIdeal.nD Cert.SmallReferenceIdeal.τ).loc Cert.SmallReferenceIdeal.main_arg1)
      ∧ r.2.mem ((c.tc : Thread Cert.SmallReferenceIdeal.nD Cert.SmallReferenceIdeal.τ).loc Cert.SmallReferenceIdeal.main_arg2) = m ((c.tc : Thread Cert.SmallReferenceIdeal.nD Cert.SmallReferenceIdeal.τ).loc Cert.SmallReferenceIdeal.main_arg2)
      ∧ r.2.mem ((c.tc : Thread Cert.SmallReferenceIdeal.nD Cert.SmallReferenceIdeal.τ).loc Cert.SmallReferenceIdeal.main_arg3) = m ((c.tc : Thread Cert.SmallReferenceIdeal.nD Cert.SmallReferenceIdeal.τ).loc Cert.SmallReferenceIdeal.main_arg3)
      ∧ r.2.mem ((c.tc : Thread Cert.SmallReferenceIdeal.nD Cert.SmallReferenceIdeal.τ).loc Cert.SmallReferenceIdeal.main_arg4) = m ((c.tc : Thread Cert.SmallReferenceIdeal.nD Cert.SmallReferenceIdeal.τ).loc Cert.SmallReferenceIdeal.main_arg4)
      ∧ r.2.mem ((c.tc : Thread Cert.SmallReferenceIdeal.nD Cert.SmallReferenceIdeal.τ).loc Cert.SmallReferenceIdeal.main_arg5) = m ((c.tc : Thread Cert.SmallReferenceIdeal.nD Cert.SmallReferenceIdeal.τ).loc Cert.SmallReferenceIdeal.main_arg5)
      ∧ r.2.mem ((c.tc : Thread Cert.SmallReferenceIdeal.nD Cert.SmallReferenceIdeal.τ).loc Cert.SmallReferenceIdeal.main_arg6) = m ((c.tc : Thread Cert.SmallReferenceIdeal.nD Cert.SmallReferenceIdeal.τ).loc Cert.SmallReferenceIdeal.main_arg6)
      ∧ r.2.mem ((c.tc : Thread Cert.SmallReferenceIdeal.nD Cert.SmallReferenceIdeal.τ).loc Cert.SmallReferenceIdeal.main_arg7) = m ((c.tc : Thread Cert.SmallReferenceIdeal.nD Cert.SmallReferenceIdeal.τ).loc Cert.SmallReferenceIdeal.main_arg7)
      ∧ r.2.mem ((c.tc : Thread Cert.SmallReferenceIdeal.nD Cert.SmallReferenceIdeal.τ).loc Cert.SmallReferenceIdeal.main_arg8) = m ((c.tc : Thread Cert.SmallReferenceIdeal.nD Cert.SmallReferenceIdeal.τ).loc Cert.SmallReferenceIdeal.main_arg8)
      ∧ r.2.mem ((c.tc : Thread Cert.SmallReferenceIdeal.nD Cert.SmallReferenceIdeal.τ).loc Cert.SmallReferenceIdeal.main_arg9) = m ((c.tc : Thread Cert.SmallReferenceIdeal.nD Cert.SmallReferenceIdeal.τ).loc Cert.SmallReferenceIdeal.main_arg9)
      ∧ r.2.mem ((c.tc : Thread Cert.SmallReferenceIdeal.nD Cert.SmallReferenceIdeal.τ).loc Cert.SmallReferenceIdeal.main_arg10) = m ((c.tc : Thread Cert.SmallReferenceIdeal.nD Cert.SmallReferenceIdeal.τ).loc Cert.SmallReferenceIdeal.main_arg10)
      ∧ r.2.mem ((c.tc : Thread Cert.SmallReferenceIdeal.nD Cert.SmallReferenceIdeal.τ).loc Cert.SmallReferenceIdeal.main_arg11) = m ((c.tc : Thread Cert.SmallReferenceIdeal.nD Cert.SmallReferenceIdeal.τ).loc Cert.SmallReferenceIdeal.main_arg11)
      ∧ r.2.mem ((c.tc : Thread Cert.SmallReferenceIdeal.nD Cert.SmallReferenceIdeal.τ).loc Cert.SmallReferenceIdeal.main_arg12) = m ((c.tc : Thread Cert.SmallReferenceIdeal.nD Cert.SmallReferenceIdeal.τ).loc Cert.SmallReferenceIdeal.main_arg12)
      ∧ r.2.mem ((c.tc : Thread Cert.SmallReferenceIdeal.nD Cert.SmallReferenceIdeal.τ).loc Cert.SmallReferenceIdeal.main_arg13) = m ((c.tc : Thread Cert.SmallReferenceIdeal.nD Cert.SmallReferenceIdeal.τ).loc Cert.SmallReferenceIdeal.main_arg13)
      ∧ r.2.mem ((c.tc : Thread Cert.SmallReferenceIdeal.nD Cert.SmallReferenceIdeal.τ).loc Cert.SmallReferenceIdeal.main_arg14) = m ((c.tc : Thread Cert.SmallReferenceIdeal.nD Cert.SmallReferenceIdeal.τ).loc Cert.SmallReferenceIdeal.main_arg14)
      ∧ r.2.mem ((c.tc : Thread Cert.SmallReferenceIdeal.nD Cert.SmallReferenceIdeal.τ).loc Cert.SmallReferenceIdeal.main_arg15) = m ((c.tc : Thread Cert.SmallReferenceIdeal.nD Cert.SmallReferenceIdeal.τ).loc Cert.SmallReferenceIdeal.main_arg15)
      ∧ r.2.mem ((c.tc : Thread Cert.SmallReferenceIdeal.nD Cert.SmallReferenceIdeal.τ).loc Cert.SmallReferenceIdeal.main_arg16) = m ((c.tc : Thread Cert.SmallReferenceIdeal.nD Cert.SmallReferenceIdeal.τ).loc Cert.SmallReferenceIdeal.main_arg16)
      ∧ r.2.mem ((c.tc : Thread Cert.SmallReferenceIdeal.nD Cert.SmallReferenceIdeal.τ).loc Cert.SmallReferenceIdeal.main_arg17) = m ((c.tc : Thread Cert.SmallReferenceIdeal.nD Cert.SmallReferenceIdeal.τ).loc Cert.SmallReferenceIdeal.main_arg17)
      ∧ r.2.mem ((c.tc : Thread Cert.SmallReferenceIdeal.nD Cert.SmallReferenceIdeal.τ).loc Cert.SmallReferenceIdeal.main_arg18) = m ((c.tc : Thread Cert.SmallReferenceIdeal.nD Cert.SmallReferenceIdeal.τ).loc Cert.SmallReferenceIdeal.main_arg18)
      ∧ r.2.mem ((c.tc : Thread Cert.SmallReferenceIdeal.nD Cert.SmallReferenceIdeal.τ).loc Cert.SmallReferenceIdeal.main_arg19) = m ((c.tc : Thread Cert.SmallReferenceIdeal.nD Cert.SmallReferenceIdeal.τ).loc Cert.SmallReferenceIdeal.main_arg19)
      ∧ r.2.mem ((c.tc : Thread Cert.SmallReferenceIdeal.nD Cert.SmallReferenceIdeal.τ).loc Cert.SmallReferenceIdeal.main_arg20) = m ((c.tc : Thread Cert.SmallReferenceIdeal.nD Cert.SmallReferenceIdeal.τ).loc Cert.SmallReferenceIdeal.main_arg20)
      ∧ r.2.mem ((c.tc : Thread Cert.SmallReferenceIdeal.nD Cert.SmallReferenceIdeal.τ).loc Cert.SmallReferenceIdeal.main_arg21) = m ((c.tc : Thread Cert.SmallReferenceIdeal.nD Cert.SmallReferenceIdeal.τ).loc Cert.SmallReferenceIdeal.main_arg21)
      ∧ r.2.mem ((c.tc : Thread Cert.SmallReferenceIdeal.nD Cert.SmallReferenceIdeal.τ).loc Cert.SmallReferenceIdeal.main_arg22) = m ((c.tc : Thread Cert.SmallReferenceIdeal.nD Cert.SmallReferenceIdeal.τ).loc Cert.SmallReferenceIdeal.main_arg22)
      ∧ r.2.mem ((c.tc : Thread Cert.SmallReferenceIdeal.nD Cert.SmallReferenceIdeal.τ).loc Cert.SmallReferenceIdeal.main_arg23) = m ((c.tc : Thread Cert.SmallReferenceIdeal.nD Cert.SmallReferenceIdeal.τ).loc Cert.SmallReferenceIdeal.main_arg23)
      ∧ r.2.mem ((c.tc : Thread Cert.SmallReferenceIdeal.nD Cert.SmallReferenceIdeal.τ).loc Cert.SmallReferenceIdeal.main_arg24) = m ((c.tc : Thread Cert.SmallReferenceIdeal.nD Cert.SmallReferenceIdeal.τ).loc Cert.SmallReferenceIdeal.main_arg24)
      ∧ r.2.mem ((c.tc : Thread Cert.SmallReferenceIdeal.nD Cert.SmallReferenceIdeal.τ).loc Cert.SmallReferenceIdeal.main_arg25) = m ((c.tc : Thread Cert.SmallReferenceIdeal.nD Cert.SmallReferenceIdeal.τ).loc Cert.SmallReferenceIdeal.main_arg25)
      ∧ r.2.mem ((c.tc : Thread Cert.SmallReferenceIdeal.nD Cert.SmallReferenceIdeal.τ).loc Cert.SmallReferenceIdeal.main_arg26) = m ((c.tc : Thread Cert.SmallReferenceIdeal.nD Cert.SmallReferenceIdeal.τ).loc Cert.SmallReferenceIdeal.main_arg26)
      ∧ r.2.mem ((c.tc : Thread Cert.SmallReferenceIdeal.nD Cert.SmallReferenceIdeal.τ).loc Cert.SmallReferenceIdeal.main_arg27) = m ((c.tc : Thread Cert.SmallReferenceIdeal.nD Cert.SmallReferenceIdeal.τ).loc Cert.SmallReferenceIdeal.main_arg27)
      ∧ r.2.mem ((c.tc : Thread Cert.SmallReferenceIdeal.nD Cert.SmallReferenceIdeal.τ).loc Cert.SmallReferenceIdeal.main_arg28) = m ((c.tc : Thread Cert.SmallReferenceIdeal.nD Cert.SmallReferenceIdeal.τ).loc Cert.SmallReferenceIdeal.main_arg28)
      ∧ r.2.mem ((c.tc : Thread Cert.SmallReferenceIdeal.nD Cert.SmallReferenceIdeal.τ).loc Cert.SmallReferenceIdeal.main_arg29) = m ((c.tc : Thread Cert.SmallReferenceIdeal.nD Cert.SmallReferenceIdeal.τ).loc Cert.SmallReferenceIdeal.main_arg29))
      ∧ r.2.sem = fun _ => 0)

def quiescent_AdamDown [hAdamDown : Cert.AdamDown.Facts] [hPre_device_adam_down : Cert.Pre_device_adam_down.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4)
      ∧ r.2.mem ((c.tc : Thread Cert.AdamDown.nD Cert.AdamDown.τ).loc Cert.AdamDown.main_arg5) = m ((c.tc : Thread Cert.AdamDown.nD Cert.AdamDown.τ).loc Cert.AdamDown.main_arg5))
      ∧ r.2.sem = fun _ => 0)

def quiescent_AdamDownIdeal [hAdamDownIdeal : Cert.AdamDownIdeal.Facts] [hPre_device_adam_down : Cert.Pre_device_adam_down.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
      ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3)
      ∧ r.2.mem ((c.tc : Thread Cert.AdamDownReferenceIdeal.nD Cert.AdamDownReferenceIdeal.τ).loc Cert.AdamDownReferenceIdeal.main_arg4) = m ((c.tc : Thread Cert.AdamDownReferenceIdeal.nD Cert.AdamDownReferenceIdeal.τ).loc Cert.AdamDownReferenceIdeal.main_arg4)
      ∧ r.2.mem ((c.tc : Thread Cert.AdamDownReferenceIdeal.nD Cert.AdamDownReferenceIdeal.τ).loc Cert.AdamDownReferenceIdeal.main_arg5) = m ((c.tc : Thread Cert.AdamDownReferenceIdeal.nD Cert.AdamDownReferenceIdeal.τ).loc Cert.AdamDownReferenceIdeal.main_arg5))
      ∧ r.2.sem = fun _ => 0)

def quiescent_AdamDownReferenceIdeal_pre_device_adam_down [hAdamDownReferenceIdeal : Cert.AdamDownReferenceIdeal.Facts] [hPre_device_adam_down : Cert.Pre_device_adam_down.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal_device_adam_down m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3)
      ∧ r.2.mem ((c.tc : Thread Cert.AdamDownReferenceIdeal.nD Cert.AdamDownReferenceIdeal.τ).loc Cert.AdamDownReferenceIdeal.main_arg4) = m ((c.tc : Thread Cert.AdamDownReferenceIdeal.nD Cert.AdamDownReferenceIdeal.τ).loc Cert.AdamDownReferenceIdeal.main_arg4)
      ∧ r.2.mem ((c.tc : Thread Cert.AdamDownReferenceIdeal.nD Cert.AdamDownReferenceIdeal.τ).loc Cert.AdamDownReferenceIdeal.main_arg5) = m ((c.tc : Thread Cert.AdamDownReferenceIdeal.nD Cert.AdamDownReferenceIdeal.τ).loc Cert.AdamDownReferenceIdeal.main_arg5))
      ∧ r.2.sem = fun _ => 0)

def quiescent_AdamGateUp [hAdamGateUp : Cert.AdamGateUp.Facts] [hPre_device_adam_gu : Cert.Pre_device_adam_gu.Facts] : Prop :=
  ∀ (m : (ℓ : Loc Cert.AdamGateUp.nD Cert.AdamGateUp.τ Cert.AdamGateUp.sig) → Buf (Elt Bits) ℓ) (g : Dev Cert.AdamGateUp.nD → PrngReg), Pre_AdamGateUp m →
    θ_run (Cert.AdamGateUp.defs (F := Bits)) (onTc (τ := Cert.AdamGateUp.τ) (Cert.AdamGateUp.main (F := Bits))) ⟨m, fun _ => 0, g⟩ (fun r => (∀ c : Dev Cert.AdamGateUp.nD,
      r.2.mem ((c.tc : Thread Cert.AdamGateUp.nD Cert.AdamGateUp.τ).loc Cert.AdamGateUp.main_arg0) = m ((c.tc : Thread Cert.AdamGateUp.nD Cert.AdamGateUp.τ).loc Cert.AdamGateUp.main_arg0)
      ∧ r.2.mem ((c.tc : Thread Cert.AdamGateUp.nD Cert.AdamGateUp.τ).loc Cert.AdamGateUp.main_arg1) = m ((c.tc : Thread Cert.AdamGateUp.nD Cert.AdamGateUp.τ).loc Cert.AdamGateUp.main_arg1)
      ∧ r.2.mem ((c.tc : Thread Cert.AdamGateUp.nD Cert.AdamGateUp.τ).loc Cert.AdamGateUp.main_arg2) = m ((c.tc : Thread Cert.AdamGateUp.nD Cert.AdamGateUp.τ).loc Cert.AdamGateUp.main_arg2)
      ∧ r.2.mem ((c.tc : Thread Cert.AdamGateUp.nD Cert.AdamGateUp.τ).loc Cert.AdamGateUp.main_arg3) = m ((c.tc : Thread Cert.AdamGateUp.nD Cert.AdamGateUp.τ).loc Cert.AdamGateUp.main_arg3)
      ∧ r.2.mem ((c.tc : Thread Cert.AdamGateUp.nD Cert.AdamGateUp.τ).loc Cert.AdamGateUp.main_arg4) = m ((c.tc : Thread Cert.AdamGateUp.nD Cert.AdamGateUp.τ).loc Cert.AdamGateUp.main_arg4)
      ∧ r.2.mem ((c.tc : Thread Cert.AdamGateUp.nD Cert.AdamGateUp.τ).loc Cert.AdamGateUp.main_arg5) = m ((c.tc : Thread Cert.AdamGateUp.nD Cert.AdamGateUp.τ).loc Cert.AdamGateUp.main_arg5))
      ∧ r.2.sem = fun _ => 0)

def quiescent_AdamGateUpIdeal [hAdamGateUpIdeal : Cert.AdamGateUpIdeal.Facts] [hPre_device_adam_gu : Cert.Pre_device_adam_gu.Facts] : Prop :=
  ∀ (m : (ℓ : Loc Cert.AdamGateUpIdeal.nD Cert.AdamGateUpIdeal.τ Cert.AdamGateUpIdeal.sig) → Buf (Elt Ideal) ℓ) (g : Dev Cert.AdamGateUpIdeal.nD → PrngReg), Pre_AdamGateUpIdeal m →
    θ_run (Cert.AdamGateUpIdeal.defs (F := Ideal)) (onTc (τ := Cert.AdamGateUpIdeal.τ) (Cert.AdamGateUpIdeal.main (F := Ideal))) ⟨m, fun _ => 0, g⟩ (fun r => (∀ c : Dev Cert.AdamGateUpIdeal.nD,
      r.2.mem ((c.tc : Thread Cert.AdamGateUpIdeal.nD Cert.AdamGateUpIdeal.τ).loc Cert.AdamGateUpIdeal.main_arg0) = m ((c.tc : Thread Cert.AdamGateUpIdeal.nD Cert.AdamGateUpIdeal.τ).loc Cert.AdamGateUpIdeal.main_arg0)
      ∧ r.2.mem ((c.tc : Thread Cert.AdamGateUpIdeal.nD Cert.AdamGateUpIdeal.τ).loc Cert.AdamGateUpIdeal.main_arg1) = m ((c.tc : Thread Cert.AdamGateUpIdeal.nD Cert.AdamGateUpIdeal.τ).loc Cert.AdamGateUpIdeal.main_arg1)
      ∧ r.2.mem ((c.tc : Thread Cert.AdamGateUpIdeal.nD Cert.AdamGateUpIdeal.τ).loc Cert.AdamGateUpIdeal.main_arg2) = m ((c.tc : Thread Cert.AdamGateUpIdeal.nD Cert.AdamGateUpIdeal.τ).loc Cert.AdamGateUpIdeal.main_arg2)
      ∧ r.2.mem ((c.tc : Thread Cert.AdamGateUpIdeal.nD Cert.AdamGateUpIdeal.τ).loc Cert.AdamGateUpIdeal.main_arg3) = m ((c.tc : Thread Cert.AdamGateUpIdeal.nD Cert.AdamGateUpIdeal.τ).loc Cert.AdamGateUpIdeal.main_arg3)
      ∧ r.2.mem ((c.tc : Thread Cert.AdamGateUpIdeal.nD Cert.AdamGateUpIdeal.τ).loc Cert.AdamGateUpIdeal.main_arg4) = m ((c.tc : Thread Cert.AdamGateUpIdeal.nD Cert.AdamGateUpIdeal.τ).loc Cert.AdamGateUpIdeal.main_arg4)
      ∧ r.2.mem ((c.tc : Thread Cert.AdamGateUpIdeal.nD Cert.AdamGateUpIdeal.τ).loc Cert.AdamGateUpIdeal.main_arg5) = m ((c.tc : Thread Cert.AdamGateUpIdeal.nD Cert.AdamGateUpIdeal.τ).loc Cert.AdamGateUpIdeal.main_arg5))
      ∧ r.2.sem = fun _ => 0)

def quiescent_AdamGateUpReferenceIdeal [hAdamGateUpReferenceIdeal : Cert.AdamGateUpReferenceIdeal.Facts] : Prop :=
  ∀ (m : (ℓ : Loc Cert.AdamGateUpReferenceIdeal.nD Cert.AdamGateUpReferenceIdeal.τ Cert.AdamGateUpReferenceIdeal.sig) → Buf (Elt Ideal) ℓ) (g : Dev Cert.AdamGateUpReferenceIdeal.nD → PrngReg), Pre_AdamGateUpReferenceIdeal m →
    θ_run (Cert.AdamGateUpReferenceIdeal.defs (F := Ideal)) (onTc (τ := Cert.AdamGateUpReferenceIdeal.τ) (Cert.AdamGateUpReferenceIdeal.main (F := Ideal))) ⟨m, fun _ => 0, g⟩ (fun r => (∀ c : Dev Cert.AdamGateUpReferenceIdeal.nD,
      r.2.mem ((c.tc : Thread Cert.AdamGateUpReferenceIdeal.nD Cert.AdamGateUpReferenceIdeal.τ).loc Cert.AdamGateUpReferenceIdeal.main_arg0) = m ((c.tc : Thread Cert.AdamGateUpReferenceIdeal.nD Cert.AdamGateUpReferenceIdeal.τ).loc Cert.AdamGateUpReferenceIdeal.main_arg0)
      ∧ r.2.mem ((c.tc : Thread Cert.AdamGateUpReferenceIdeal.nD Cert.AdamGateUpReferenceIdeal.τ).loc Cert.AdamGateUpReferenceIdeal.main_arg1) = m ((c.tc : Thread Cert.AdamGateUpReferenceIdeal.nD Cert.AdamGateUpReferenceIdeal.τ).loc Cert.AdamGateUpReferenceIdeal.main_arg1)
      ∧ r.2.mem ((c.tc : Thread Cert.AdamGateUpReferenceIdeal.nD Cert.AdamGateUpReferenceIdeal.τ).loc Cert.AdamGateUpReferenceIdeal.main_arg2) = m ((c.tc : Thread Cert.AdamGateUpReferenceIdeal.nD Cert.AdamGateUpReferenceIdeal.τ).loc Cert.AdamGateUpReferenceIdeal.main_arg2)
      ∧ r.2.mem ((c.tc : Thread Cert.AdamGateUpReferenceIdeal.nD Cert.AdamGateUpReferenceIdeal.τ).loc Cert.AdamGateUpReferenceIdeal.main_arg3) = m ((c.tc : Thread Cert.AdamGateUpReferenceIdeal.nD Cert.AdamGateUpReferenceIdeal.τ).loc Cert.AdamGateUpReferenceIdeal.main_arg3)
      ∧ r.2.mem ((c.tc : Thread Cert.AdamGateUpReferenceIdeal.nD Cert.AdamGateUpReferenceIdeal.τ).loc Cert.AdamGateUpReferenceIdeal.main_arg4) = m ((c.tc : Thread Cert.AdamGateUpReferenceIdeal.nD Cert.AdamGateUpReferenceIdeal.τ).loc Cert.AdamGateUpReferenceIdeal.main_arg4)
      ∧ r.2.mem ((c.tc : Thread Cert.AdamGateUpReferenceIdeal.nD Cert.AdamGateUpReferenceIdeal.τ).loc Cert.AdamGateUpReferenceIdeal.main_arg5) = m ((c.tc : Thread Cert.AdamGateUpReferenceIdeal.nD Cert.AdamGateUpReferenceIdeal.τ).loc Cert.AdamGateUpReferenceIdeal.main_arg5))
      ∧ r.2.sem = fun _ => 0)

def quiescent_AdamGateUpReferenceIdeal_pre_device_adam_gu [hAdamGateUpReferenceIdeal : Cert.AdamGateUpReferenceIdeal.Facts] [hPre_device_adam_gu : Cert.Pre_device_adam_gu.Facts] : Prop :=
  ∀ (m : (ℓ : Loc Cert.AdamGateUpReferenceIdeal.nD Cert.AdamGateUpReferenceIdeal.τ Cert.AdamGateUpReferenceIdeal.sig) → Buf (Elt Ideal) ℓ) (g : Dev Cert.AdamGateUpReferenceIdeal.nD → PrngReg), Pre_AdamGateUpReferenceIdeal_device_adam_gu m →
    θ_run (Cert.AdamGateUpReferenceIdeal.defs (F := Ideal)) (onTc (τ := Cert.AdamGateUpReferenceIdeal.τ) (Cert.AdamGateUpReferenceIdeal.main (F := Ideal))) ⟨m, fun _ => 0, g⟩ (fun r => (∀ c : Dev Cert.AdamGateUpReferenceIdeal.nD,
      r.2.mem ((c.tc : Thread Cert.AdamGateUpReferenceIdeal.nD Cert.AdamGateUpReferenceIdeal.τ).loc Cert.AdamGateUpReferenceIdeal.main_arg0) = m ((c.tc : Thread Cert.AdamGateUpReferenceIdeal.nD Cert.AdamGateUpReferenceIdeal.τ).loc Cert.AdamGateUpReferenceIdeal.main_arg0)
      ∧ r.2.mem ((c.tc : Thread Cert.AdamGateUpReferenceIdeal.nD Cert.AdamGateUpReferenceIdeal.τ).loc Cert.AdamGateUpReferenceIdeal.main_arg1) = m ((c.tc : Thread Cert.AdamGateUpReferenceIdeal.nD Cert.AdamGateUpReferenceIdeal.τ).loc Cert.AdamGateUpReferenceIdeal.main_arg1)
      ∧ r.2.mem ((c.tc : Thread Cert.AdamGateUpReferenceIdeal.nD Cert.AdamGateUpReferenceIdeal.τ).loc Cert.AdamGateUpReferenceIdeal.main_arg2) = m ((c.tc : Thread Cert.AdamGateUpReferenceIdeal.nD Cert.AdamGateUpReferenceIdeal.τ).loc Cert.AdamGateUpReferenceIdeal.main_arg2)
      ∧ r.2.mem ((c.tc : Thread Cert.AdamGateUpReferenceIdeal.nD Cert.AdamGateUpReferenceIdeal.τ).loc Cert.AdamGateUpReferenceIdeal.main_arg3) = m ((c.tc : Thread Cert.AdamGateUpReferenceIdeal.nD Cert.AdamGateUpReferenceIdeal.τ).loc Cert.AdamGateUpReferenceIdeal.main_arg3)
      ∧ r.2.mem ((c.tc : Thread Cert.AdamGateUpReferenceIdeal.nD Cert.AdamGateUpReferenceIdeal.τ).loc Cert.AdamGateUpReferenceIdeal.main_arg4) = m ((c.tc : Thread Cert.AdamGateUpReferenceIdeal.nD Cert.AdamGateUpReferenceIdeal.τ).loc Cert.AdamGateUpReferenceIdeal.main_arg4)
      ∧ r.2.mem ((c.tc : Thread Cert.AdamGateUpReferenceIdeal.nD Cert.AdamGateUpReferenceIdeal.τ).loc Cert.AdamGateUpReferenceIdeal.main_arg5) = m ((c.tc : Thread Cert.AdamGateUpReferenceIdeal.nD Cert.AdamGateUpReferenceIdeal.τ).loc Cert.AdamGateUpReferenceIdeal.main_arg5))
      ∧ r.2.sem = fun _ => 0)

def quiescent_AdamOut [hAdamOut : Cert.AdamOut.Facts] [hPre_device_adam_out : Cert.Pre_device_adam_out.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5))
      ∧ r.2.sem = fun _ => 0)

def quiescent_AdamOutIdeal [hAdamOutIdeal : Cert.AdamOutIdeal.Facts] [hPre_device_adam_out : Cert.Pre_device_adam_out.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3)
      ∧ r.2.mem ((c.tc : Thread Cert.AdamOutReferenceIdeal.nD Cert.AdamOutReferenceIdeal.τ).loc Cert.AdamOutReferenceIdeal.main_arg4) = m ((c.tc : Thread Cert.AdamOutReferenceIdeal.nD Cert.AdamOutReferenceIdeal.τ).loc Cert.AdamOutReferenceIdeal.main_arg4)
      ∧ r.2.mem ((c.tc : Thread Cert.AdamOutReferenceIdeal.nD Cert.AdamOutReferenceIdeal.τ).loc Cert.AdamOutReferenceIdeal.main_arg5) = m ((c.tc : Thread Cert.AdamOutReferenceIdeal.nD Cert.AdamOutReferenceIdeal.τ).loc Cert.AdamOutReferenceIdeal.main_arg5))
      ∧ r.2.sem = fun _ => 0)

def quiescent_AdamOutReferenceIdeal_pre_device_adam_out [hAdamOutReferenceIdeal : Cert.AdamOutReferenceIdeal.Facts] [hPre_device_adam_out : Cert.Pre_device_adam_out.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal_device_adam_out m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3)
      ∧ r.2.mem ((c.tc : Thread Cert.AdamOutReferenceIdeal.nD Cert.AdamOutReferenceIdeal.τ).loc Cert.AdamOutReferenceIdeal.main_arg4) = m ((c.tc : Thread Cert.AdamOutReferenceIdeal.nD Cert.AdamOutReferenceIdeal.τ).loc Cert.AdamOutReferenceIdeal.main_arg4)
      ∧ r.2.mem ((c.tc : Thread Cert.AdamOutReferenceIdeal.nD Cert.AdamOutReferenceIdeal.τ).loc Cert.AdamOutReferenceIdeal.main_arg5) = m ((c.tc : Thread Cert.AdamOutReferenceIdeal.nD Cert.AdamOutReferenceIdeal.τ).loc Cert.AdamOutReferenceIdeal.main_arg5))
      ∧ r.2.sem = fun _ => 0)

def quiescent_AdamIn [hAdamIn : Cert.AdamIn.Facts] [hPre_device_adam_in : Cert.Pre_device_adam_in.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5))
      ∧ r.2.sem = fun _ => 0)

def quiescent_AdamInIdeal [hAdamInIdeal : Cert.AdamInIdeal.Facts] [hPre_device_adam_in : Cert.Pre_device_adam_in.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3)
      ∧ r.2.mem ((c.tc : Thread Cert.AdamInReferenceIdeal.nD Cert.AdamInReferenceIdeal.τ).loc Cert.AdamInReferenceIdeal.main_arg4) = m ((c.tc : Thread Cert.AdamInReferenceIdeal.nD Cert.AdamInReferenceIdeal.τ).loc Cert.AdamInReferenceIdeal.main_arg4)
      ∧ r.2.mem ((c.tc : Thread Cert.AdamInReferenceIdeal.nD Cert.AdamInReferenceIdeal.τ).loc Cert.AdamInReferenceIdeal.main_arg5) = m ((c.tc : Thread Cert.AdamInReferenceIdeal.nD Cert.AdamInReferenceIdeal.τ).loc Cert.AdamInReferenceIdeal.main_arg5))
      ∧ r.2.sem = fun _ => 0)

def quiescent_AdamInReferenceIdeal_pre_device_adam_in [hAdamInReferenceIdeal : Cert.AdamInReferenceIdeal.Facts] [hPre_device_adam_in : Cert.Pre_device_adam_in.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal_device_adam_in m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3)
      ∧ r.2.mem ((c.tc : Thread Cert.AdamInReferenceIdeal.nD Cert.AdamInReferenceIdeal.τ).loc Cert.AdamInReferenceIdeal.main_arg4) = m ((c.tc : Thread Cert.AdamInReferenceIdeal.nD Cert.AdamInReferenceIdeal.τ).loc Cert.AdamInReferenceIdeal.main_arg4)
      ∧ r.2.mem ((c.tc : Thread Cert.AdamInReferenceIdeal.nD Cert.AdamInReferenceIdeal.τ).loc Cert.AdamInReferenceIdeal.main_arg5) = m ((c.tc : Thread Cert.AdamInReferenceIdeal.nD Cert.AdamInReferenceIdeal.τ).loc Cert.AdamInReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)) (v5 : (c : Dev Cert.KernelIdeal.nD) → Buf (Elt Ideal) ((c.tc : Thread Cert.KernelIdeal.nD Cert.KernelIdeal.τ).loc Cert.KernelIdeal.main_v7_5)) (v6 : (c : Dev Cert.KernelIdeal.nD) → Buf (Elt Ideal) ((c.tc : Thread Cert.KernelIdeal.nD Cert.KernelIdeal.τ).loc Cert.KernelIdeal.main_v7_6)) (v7 : (c : Dev Cert.KernelIdeal.nD) → Buf (Elt Ideal) ((c.tc : Thread Cert.KernelIdeal.nD Cert.KernelIdeal.τ).loc Cert.KernelIdeal.main_v7_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_v7_5) = v5 c
          ∧ r.2.mem ((c.tc : Thread Cert.KernelIdeal.nD Cert.KernelIdeal.τ).loc Cert.KernelIdeal.main_v7_6) = v6 c
          ∧ r.2.mem ((c.tc : Thread Cert.KernelIdeal.nD Cert.KernelIdeal.τ).loc Cert.KernelIdeal.main_v7_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_v145) = v2 c
          ∧ r.2.mem ((c.tc : Thread Cert.ReferenceIdeal.nD Cert.ReferenceIdeal.τ).loc Cert.ReferenceIdeal.main_v146) = v3 c
          ∧ r.2.mem ((c.tc : Thread Cert.ReferenceIdeal.nD Cert.ReferenceIdeal.τ).loc Cert.ReferenceIdeal.main_v147) = v4 c
          ∧ r.2.mem ((c.tc : Thread Cert.ReferenceIdeal.nD Cert.ReferenceIdeal.τ).loc Cert.ReferenceIdeal.main_v148) = v5 c
          ∧ r.2.mem ((c.tc : Thread Cert.ReferenceIdeal.nD Cert.ReferenceIdeal.τ).loc Cert.ReferenceIdeal.main_v149) = v6 c
          ∧ r.2.mem ((c.tc : Thread Cert.ReferenceIdeal.nD Cert.ReferenceIdeal.τ).loc Cert.ReferenceIdeal.main_v142) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v6) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_GateUp_GateUpIdeal : Prop :=
  True

def algebraic_GateUpIdeal_GateUpReferenceIdeal [hGateUpIdeal : Cert.GateUpIdeal.Facts] [hGateUpReferenceIdeal : Cert.GateUpReferenceIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)
      ∧ m' ((c.tc : Thread Cert.GateUpReferenceIdeal.nD Cert.GateUpReferenceIdeal.τ).loc Cert.GateUpReferenceIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v0)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v7) = v0 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v7) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_Enter_EnterIdeal : Prop :=
  True

def algebraic_EnterIdeal_EnterReferenceIdeal_pre_finite_enter [hEnterIdeal : Cert.EnterIdeal.Facts] [hEnterReferenceIdeal : Cert.EnterReferenceIdeal.Facts] [hPre_finite_enter : Cert.Pre_finite_enter.Facts] : Prop :=
  ∀ (m : (ℓ : Loc Cert.EnterIdeal.nD Cert.EnterIdeal.τ Cert.EnterIdeal.sig) → Buf (Elt Ideal) ℓ) (g : Dev Cert.EnterIdeal.nD → PrngReg)
    (m' : (ℓ : Loc Cert.EnterReferenceIdeal.nD Cert.EnterReferenceIdeal.τ Cert.EnterReferenceIdeal.sig) → Buf (Elt Ideal) ℓ) (g' : Dev Cert.EnterReferenceIdeal.nD → PrngReg), Pre_EnterIdeal_finite_enter m →
    (∀ c : Dev Cert.EnterIdeal.nD,
      m' ((c.tc : Thread Cert.EnterReferenceIdeal.nD Cert.EnterReferenceIdeal.τ).loc Cert.EnterReferenceIdeal.main_arg0) = m ((c.tc : Thread Cert.EnterIdeal.nD Cert.EnterIdeal.τ).loc Cert.EnterIdeal.main_arg0)
      ∧ m' ((c.tc : Thread Cert.EnterReferenceIdeal.nD Cert.EnterReferenceIdeal.τ).loc Cert.EnterReferenceIdeal.main_arg1) = m ((c.tc : Thread Cert.EnterIdeal.nD Cert.EnterIdeal.τ).loc Cert.EnterIdeal.main_arg1)
      ∧ m' ((c.tc : Thread Cert.EnterReferenceIdeal.nD Cert.EnterReferenceIdeal.τ).loc Cert.EnterReferenceIdeal.main_arg2) = m ((c.tc : Thread Cert.EnterIdeal.nD Cert.EnterIdeal.τ).loc Cert.EnterIdeal.main_arg2)
      ∧ m' ((c.tc : Thread Cert.EnterReferenceIdeal.nD Cert.EnterReferenceIdeal.τ).loc Cert.EnterReferenceIdeal.main_arg3) = m ((c.tc : Thread Cert.EnterIdeal.nD Cert.EnterIdeal.τ).loc Cert.EnterIdeal.main_arg3)
      ∧ m' ((c.tc : Thread Cert.EnterReferenceIdeal.nD Cert.EnterReferenceIdeal.τ).loc Cert.EnterReferenceIdeal.main_arg4) = m ((c.tc : Thread Cert.EnterIdeal.nD Cert.EnterIdeal.τ).loc Cert.EnterIdeal.main_arg4)
      ∧ m' ((c.tc : Thread Cert.EnterReferenceIdeal.nD Cert.EnterReferenceIdeal.τ).loc Cert.EnterReferenceIdeal.main_arg5) = m ((c.tc : Thread Cert.EnterIdeal.nD Cert.EnterIdeal.τ).loc Cert.EnterIdeal.main_arg5)
      ∧ m' ((c.tc : Thread Cert.EnterReferenceIdeal.nD Cert.EnterReferenceIdeal.τ).loc Cert.EnterReferenceIdeal.main_arg6) = m ((c.tc : Thread Cert.EnterIdeal.nD Cert.EnterIdeal.τ).loc Cert.EnterIdeal.main_arg6)) →
    ∃ (v0 : (c : Dev Cert.EnterIdeal.nD) → Buf (Elt Ideal) ((c.tc : Thread Cert.EnterIdeal.nD Cert.EnterIdeal.τ).loc Cert.EnterIdeal.main_v1_0)) (v1 : (c : Dev Cert.EnterIdeal.nD) → Buf (Elt Ideal) ((c.tc : Thread Cert.EnterIdeal.nD Cert.EnterIdeal.τ).loc Cert.EnterIdeal.main_v1_1)),
      θ_run (Cert.EnterIdeal.defs (F := Ideal)) (onTc (τ := Cert.EnterIdeal.τ) (Cert.EnterIdeal.main (F := Ideal))) ⟨m, fun _ => 0, g⟩ (fun r => ∀ c : Dev Cert.EnterIdeal.nD,
          r.2.mem ((c.tc : Thread Cert.EnterIdeal.nD Cert.EnterIdeal.τ).loc Cert.EnterIdeal.main_v1_0) = v0 c
          ∧ r.2.mem ((c.tc : Thread Cert.EnterIdeal.nD Cert.EnterIdeal.τ).loc Cert.EnterIdeal.main_v1_1) = v1 c
          ∧ r.2.mem ((c.tc : Thread Cert.EnterIdeal.nD Cert.EnterIdeal.τ).loc Cert.EnterIdeal.main_arg0) = m ((c.tc : Thread Cert.EnterIdeal.nD Cert.EnterIdeal.τ).loc Cert.EnterIdeal.main_arg0)
          ∧ r.2.mem ((c.tc : Thread Cert.EnterIdeal.nD Cert.EnterIdeal.τ).loc Cert.EnterIdeal.main_arg1) = m ((c.tc : Thread Cert.EnterIdeal.nD Cert.EnterIdeal.τ).loc Cert.EnterIdeal.main_arg1)
          ∧ r.2.mem ((c.tc : Thread Cert.EnterIdeal.nD Cert.EnterIdeal.τ).loc Cert.EnterIdeal.main_arg2) = m ((c.tc : Thread Cert.EnterIdeal.nD Cert.EnterIdeal.τ).loc Cert.EnterIdeal.main_arg2)
          ∧ r.2.mem ((c.tc : Thread Cert.EnterIdeal.nD Cert.EnterIdeal.τ).loc Cert.EnterIdeal.main_arg3) = m ((c.tc : Thread Cert.EnterIdeal.nD Cert.EnterIdeal.τ).loc Cert.EnterIdeal.main_arg3)
          ∧ r.2.mem ((c.tc : Thread Cert.EnterIdeal.nD Cert.EnterIdeal.τ).loc Cert.EnterIdeal.main_arg4) = m ((c.tc : Thread Cert.EnterIdeal.nD Cert.EnterIdeal.τ).loc Cert.EnterIdeal.main_arg4)
          ∧ r.2.mem ((c.tc : Thread Cert.EnterIdeal.nD Cert.EnterIdeal.τ).loc Cert.EnterIdeal.main_arg5) = m ((c.tc : Thread Cert.EnterIdeal.nD Cert.EnterIdeal.τ).loc Cert.EnterIdeal.main_arg5)
          ∧ r.2.mem ((c.tc : Thread Cert.EnterIdeal.nD Cert.EnterIdeal.τ).loc Cert.EnterIdeal.main_arg6) = m ((c.tc : Thread Cert.EnterIdeal.nD Cert.EnterIdeal.τ).loc Cert.EnterIdeal.main_arg6))
      ∧ θ_run (Cert.EnterReferenceIdeal.defs (F := Ideal)) (onTc (τ := Cert.EnterReferenceIdeal.τ) (Cert.EnterReferenceIdeal.main (F := Ideal))) ⟨m', fun _ => 0, g'⟩ (fun r => ∀ c : Dev Cert.EnterReferenceIdeal.nD,
          r.2.mem ((c.tc : Thread Cert.EnterReferenceIdeal.nD Cert.EnterReferenceIdeal.τ).loc Cert.EnterReferenceIdeal.main_v55) = v0 c
          ∧ r.2.mem ((c.tc : Thread Cert.EnterReferenceIdeal.nD Cert.EnterReferenceIdeal.τ).loc Cert.EnterReferenceIdeal.main_v56) = v1 c
          ∧ r.2.mem ((c.tc : Thread Cert.EnterReferenceIdeal.nD Cert.EnterReferenceIdeal.τ).loc Cert.EnterReferenceIdeal.main_arg0) = m' ((c.tc : Thread Cert.EnterReferenceIdeal.nD Cert.EnterReferenceIdeal.τ).loc Cert.EnterReferenceIdeal.main_arg0)
          ∧ r.2.mem ((c.tc : Thread Cert.EnterReferenceIdeal.nD Cert.EnterReferenceIdeal.τ).loc Cert.EnterReferenceIdeal.main_arg1) = m' ((c.tc : Thread Cert.EnterReferenceIdeal.nD Cert.EnterReferenceIdeal.τ).loc Cert.EnterReferenceIdeal.main_arg1)
          ∧ r.2.mem ((c.tc : Thread Cert.EnterReferenceIdeal.nD Cert.EnterReferenceIdeal.τ).loc Cert.EnterReferenceIdeal.main_arg2) = m' ((c.tc : Thread Cert.EnterReferenceIdeal.nD Cert.EnterReferenceIdeal.τ).loc Cert.EnterReferenceIdeal.main_arg2)
          ∧ r.2.mem ((c.tc : Thread Cert.EnterReferenceIdeal.nD Cert.EnterReferenceIdeal.τ).loc Cert.EnterReferenceIdeal.main_arg3) = m' ((c.tc : Thread Cert.EnterReferenceIdeal.nD Cert.EnterReferenceIdeal.τ).loc Cert.EnterReferenceIdeal.main_arg3)
          ∧ r.2.mem ((c.tc : Thread Cert.EnterReferenceIdeal.nD Cert.EnterReferenceIdeal.τ).loc Cert.EnterReferenceIdeal.main_arg4) = m' ((c.tc : Thread Cert.EnterReferenceIdeal.nD Cert.EnterReferenceIdeal.τ).loc Cert.EnterReferenceIdeal.main_arg4)
          ∧ r.2.mem ((c.tc : Thread Cert.EnterReferenceIdeal.nD Cert.EnterReferenceIdeal.τ).loc Cert.EnterReferenceIdeal.main_arg5) = m' ((c.tc : Thread Cert.EnterReferenceIdeal.nD Cert.EnterReferenceIdeal.τ).loc Cert.EnterReferenceIdeal.main_arg5)
          ∧ r.2.mem ((c.tc : Thread Cert.EnterReferenceIdeal.nD Cert.EnterReferenceIdeal.τ).loc Cert.EnterReferenceIdeal.main_arg6) = m' ((c.tc : Thread Cert.EnterReferenceIdeal.nD Cert.EnterReferenceIdeal.τ).loc Cert.EnterReferenceIdeal.main_arg6))

def preserves_Small_SmallIdeal : Prop :=
  True

def algebraic_SmallIdeal_SmallReferenceIdeal_pre_device_small [hSmallIdeal : Cert.SmallIdeal.Facts] [hSmallReferenceIdeal : Cert.SmallReferenceIdeal.Facts] [hPre_device_small : Cert.Pre_device_small.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallReferenceIdeal.nD Cert.SmallReferenceIdeal.τ Cert.SmallReferenceIdeal.sig) → Buf (Elt Ideal) ℓ) (g' : Dev Cert.SmallReferenceIdeal.nD → PrngReg), Pre_SmallIdeal_device_small m →
    (∀ c : Dev Cert.SmallIdeal.nD,
      m' ((c.tc : Thread Cert.SmallReferenceIdeal.nD Cert.SmallReferenceIdeal.τ).loc Cert.SmallReferenceIdeal.main_arg0) = m ((c.tc : Thread Cert.SmallIdeal.nD Cert.SmallIdeal.τ).loc Cert.SmallIdeal.main_arg0)
      ∧ m' ((c.tc : Thread Cert.SmallReferenceIdeal.nD Cert.SmallReferenceIdeal.τ).loc Cert.SmallReferenceIdeal.main_arg1) = m ((c.tc : Thread Cert.SmallIdeal.nD Cert.SmallIdeal.τ).loc Cert.SmallIdeal.main_arg1)
      ∧ m' ((c.tc : Thread Cert.SmallReferenceIdeal.nD Cert.SmallReferenceIdeal.τ).loc Cert.SmallReferenceIdeal.main_arg2) = m ((c.tc : Thread Cert.SmallIdeal.nD Cert.SmallIdeal.τ).loc Cert.SmallIdeal.main_arg2)
      ∧ m' ((c.tc : Thread Cert.SmallReferenceIdeal.nD Cert.SmallReferenceIdeal.τ).loc Cert.SmallReferenceIdeal.main_arg3) = m ((c.tc : Thread Cert.SmallIdeal.nD Cert.SmallIdeal.τ).loc Cert.SmallIdeal.main_arg3)
      ∧ m' ((c.tc : Thread Cert.SmallReferenceIdeal.nD Cert.SmallReferenceIdeal.τ).loc Cert.SmallReferenceIdeal.main_arg4) = m ((c.tc : Thread Cert.SmallIdeal.nD Cert.SmallIdeal.τ).loc Cert.SmallIdeal.main_arg4)
      ∧ m' ((c.tc : Thread Cert.SmallReferenceIdeal.nD Cert.SmallReferenceIdeal.τ).loc Cert.SmallReferenceIdeal.main_arg5) = m ((c.tc : Thread Cert.SmallIdeal.nD Cert.SmallIdeal.τ).loc Cert.SmallIdeal.main_arg5)
      ∧ m' ((c.tc : Thread Cert.SmallReferenceIdeal.nD Cert.SmallReferenceIdeal.τ).loc Cert.SmallReferenceIdeal.main_arg6) = m ((c.tc : Thread Cert.SmallIdeal.nD Cert.SmallIdeal.τ).loc Cert.SmallIdeal.main_arg6)
      ∧ m' ((c.tc : Thread Cert.SmallReferenceIdeal.nD Cert.SmallReferenceIdeal.τ).loc Cert.SmallReferenceIdeal.main_arg7) = m ((c.tc : Thread Cert.SmallIdeal.nD Cert.SmallIdeal.τ).loc Cert.SmallIdeal.main_arg7)
      ∧ m' ((c.tc : Thread Cert.SmallReferenceIdeal.nD Cert.SmallReferenceIdeal.τ).loc Cert.SmallReferenceIdeal.main_arg8) = m ((c.tc : Thread Cert.SmallIdeal.nD Cert.SmallIdeal.τ).loc Cert.SmallIdeal.main_arg8)
      ∧ m' ((c.tc : Thread Cert.SmallReferenceIdeal.nD Cert.SmallReferenceIdeal.τ).loc Cert.SmallReferenceIdeal.main_arg9) = m ((c.tc : Thread Cert.SmallIdeal.nD Cert.SmallIdeal.τ).loc Cert.SmallIdeal.main_arg9)
      ∧ m' ((c.tc : Thread Cert.SmallReferenceIdeal.nD Cert.SmallReferenceIdeal.τ).loc Cert.SmallReferenceIdeal.main_arg10) = m ((c.tc : Thread Cert.SmallIdeal.nD Cert.SmallIdeal.τ).loc Cert.SmallIdeal.main_arg10)
      ∧ m' ((c.tc : Thread Cert.SmallReferenceIdeal.nD Cert.SmallReferenceIdeal.τ).loc Cert.SmallReferenceIdeal.main_arg11) = m ((c.tc : Thread Cert.SmallIdeal.nD Cert.SmallIdeal.τ).loc Cert.SmallIdeal.main_arg11)
      ∧ m' ((c.tc : Thread Cert.SmallReferenceIdeal.nD Cert.SmallReferenceIdeal.τ).loc Cert.SmallReferenceIdeal.main_arg12) = m ((c.tc : Thread Cert.SmallIdeal.nD Cert.SmallIdeal.τ).loc Cert.SmallIdeal.main_arg12)
      ∧ m' ((c.tc : Thread Cert.SmallReferenceIdeal.nD Cert.SmallReferenceIdeal.τ).loc Cert.SmallReferenceIdeal.main_arg13) = m ((c.tc : Thread Cert.SmallIdeal.nD Cert.SmallIdeal.τ).loc Cert.SmallIdeal.main_arg13)
      ∧ m' ((c.tc : Thread Cert.SmallReferenceIdeal.nD Cert.SmallReferenceIdeal.τ).loc Cert.SmallReferenceIdeal.main_arg14) = m ((c.tc : Thread Cert.SmallIdeal.nD Cert.SmallIdeal.τ).loc Cert.SmallIdeal.main_arg14)
      ∧ m' ((c.tc : Thread Cert.SmallReferenceIdeal.nD Cert.SmallReferenceIdeal.τ).loc Cert.SmallReferenceIdeal.main_arg15) = m ((c.tc : Thread Cert.SmallIdeal.nD Cert.SmallIdeal.τ).loc Cert.SmallIdeal.main_arg15)
      ∧ m' ((c.tc : Thread Cert.SmallReferenceIdeal.nD Cert.SmallReferenceIdeal.τ).loc Cert.SmallReferenceIdeal.main_arg16) = m ((c.tc : Thread Cert.SmallIdeal.nD Cert.SmallIdeal.τ).loc Cert.SmallIdeal.main_arg16)
      ∧ m' ((c.tc : Thread Cert.SmallReferenceIdeal.nD Cert.SmallReferenceIdeal.τ).loc Cert.SmallReferenceIdeal.main_arg17) = m ((c.tc : Thread Cert.SmallIdeal.nD Cert.SmallIdeal.τ).loc Cert.SmallIdeal.main_arg17)
      ∧ m' ((c.tc : Thread Cert.SmallReferenceIdeal.nD Cert.SmallReferenceIdeal.τ).loc Cert.SmallReferenceIdeal.main_arg18) = m ((c.tc : Thread Cert.SmallIdeal.nD Cert.SmallIdeal.τ).loc Cert.SmallIdeal.main_arg18)
      ∧ m' ((c.tc : Thread Cert.SmallReferenceIdeal.nD Cert.SmallReferenceIdeal.τ).loc Cert.SmallReferenceIdeal.main_arg19) = m ((c.tc : Thread Cert.SmallIdeal.nD Cert.SmallIdeal.τ).loc Cert.SmallIdeal.main_arg19)
      ∧ m' ((c.tc : Thread Cert.SmallReferenceIdeal.nD Cert.SmallReferenceIdeal.τ).loc Cert.SmallReferenceIdeal.main_arg20) = m ((c.tc : Thread Cert.SmallIdeal.nD Cert.SmallIdeal.τ).loc Cert.SmallIdeal.main_arg20)
      ∧ m' ((c.tc : Thread Cert.SmallReferenceIdeal.nD Cert.SmallReferenceIdeal.τ).loc Cert.SmallReferenceIdeal.main_arg21) = m ((c.tc : Thread Cert.SmallIdeal.nD Cert.SmallIdeal.τ).loc Cert.SmallIdeal.main_arg21)
      ∧ m' ((c.tc : Thread Cert.SmallReferenceIdeal.nD Cert.SmallReferenceIdeal.τ).loc Cert.SmallReferenceIdeal.main_arg22) = m ((c.tc : Thread Cert.SmallIdeal.nD Cert.SmallIdeal.τ).loc Cert.SmallIdeal.main_arg22)
      ∧ m' ((c.tc : Thread Cert.SmallReferenceIdeal.nD Cert.SmallReferenceIdeal.τ).loc Cert.SmallReferenceIdeal.main_arg23) = m ((c.tc : Thread Cert.SmallIdeal.nD Cert.SmallIdeal.τ).loc Cert.SmallIdeal.main_arg23)
      ∧ m' ((c.tc : Thread Cert.SmallReferenceIdeal.nD Cert.SmallReferenceIdeal.τ).loc Cert.SmallReferenceIdeal.main_arg24) = m ((c.tc : Thread Cert.SmallIdeal.nD Cert.SmallIdeal.τ).loc Cert.SmallIdeal.main_arg24)
      ∧ m' ((c.tc : Thread Cert.SmallReferenceIdeal.nD Cert.SmallReferenceIdeal.τ).loc Cert.SmallReferenceIdeal.main_arg25) = m ((c.tc : Thread Cert.SmallIdeal.nD Cert.SmallIdeal.τ).loc Cert.SmallIdeal.main_arg25)
      ∧ m' ((c.tc : Thread Cert.SmallReferenceIdeal.nD Cert.SmallReferenceIdeal.τ).loc Cert.SmallReferenceIdeal.main_arg26) = m ((c.tc : Thread Cert.SmallIdeal.nD Cert.SmallIdeal.τ).loc Cert.SmallIdeal.main_arg26)
      ∧ m' ((c.tc : Thread Cert.SmallReferenceIdeal.nD Cert.SmallReferenceIdeal.τ).loc Cert.SmallReferenceIdeal.main_arg27) = m ((c.tc : Thread Cert.SmallIdeal.nD Cert.SmallIdeal.τ).loc Cert.SmallIdeal.main_arg27)
      ∧ m' ((c.tc : Thread Cert.SmallReferenceIdeal.nD Cert.SmallReferenceIdeal.τ).loc Cert.SmallReferenceIdeal.main_arg28) = m ((c.tc : Thread Cert.SmallIdeal.nD Cert.SmallIdeal.τ).loc Cert.SmallIdeal.main_arg28)
      ∧ m' ((c.tc : Thread Cert.SmallReferenceIdeal.nD Cert.SmallReferenceIdeal.τ).loc Cert.SmallReferenceIdeal.main_arg29) = m ((c.tc : Thread Cert.SmallIdeal.nD Cert.SmallIdeal.τ).loc Cert.SmallIdeal.main_arg29)) →
    ∃ (v0 : (c : Dev Cert.SmallIdeal.nD) → Buf (Elt Ideal) ((c.tc : Thread Cert.SmallIdeal.nD Cert.SmallIdeal.τ).loc Cert.SmallIdeal.main_v0_0)) (v1 : (c : Dev Cert.SmallIdeal.nD) → Buf (Elt Ideal) ((c.tc : Thread Cert.SmallIdeal.nD Cert.SmallIdeal.τ).loc Cert.SmallIdeal.main_v0_1)) (v2 : (c : Dev Cert.SmallIdeal.nD) → Buf (Elt Ideal) ((c.tc : Thread Cert.SmallIdeal.nD Cert.SmallIdeal.τ).loc Cert.SmallIdeal.main_v0_2)) (v3 : (c : Dev Cert.SmallIdeal.nD) → Buf (Elt Ideal) ((c.tc : Thread Cert.SmallIdeal.nD Cert.SmallIdeal.τ).loc Cert.SmallIdeal.main_v0_3)) (v4 : (c : Dev Cert.SmallIdeal.nD) → Buf (Elt Ideal) ((c.tc : Thread Cert.SmallIdeal.nD Cert.SmallIdeal.τ).loc Cert.SmallIdeal.main_v0_4)) (v5 : (c : Dev Cert.SmallIdeal.nD) → Buf (Elt Ideal) ((c.tc : Thread Cert.SmallIdeal.nD Cert.SmallIdeal.τ).loc Cert.SmallIdeal.main_v0_5)) (v6 : (c : Dev Cert.SmallIdeal.nD) → Buf (Elt Ideal) ((c.tc : Thread Cert.SmallIdeal.nD Cert.SmallIdeal.τ).loc Cert.SmallIdeal.main_v0_6)) (v7 : (c : Dev Cert.SmallIdeal.nD) → Buf (Elt Ideal) ((c.tc : Thread Cert.SmallIdeal.nD Cert.SmallIdeal.τ).loc Cert.SmallIdeal.main_v0_7)) (v8 : (c : Dev Cert.SmallIdeal.nD) → Buf (Elt Ideal) ((c.tc : Thread Cert.SmallIdeal.nD Cert.SmallIdeal.τ).loc Cert.SmallIdeal.main_v0_8)) (v9 : (c : Dev Cert.SmallIdeal.nD) → Buf (Elt Ideal) ((c.tc : Thread Cert.SmallIdeal.nD Cert.SmallIdeal.τ).loc Cert.SmallIdeal.main_v0_9)) (v10 : (c : Dev Cert.SmallIdeal.nD) → Buf (Elt Ideal) ((c.tc : Thread Cert.SmallIdeal.nD Cert.SmallIdeal.τ).loc Cert.SmallIdeal.main_v0_10)) (v11 : (c : Dev Cert.SmallIdeal.nD) → Buf (Elt Ideal) ((c.tc : Thread Cert.SmallIdeal.nD Cert.SmallIdeal.τ).loc Cert.SmallIdeal.main_v0_11)) (v12 : (c : Dev Cert.SmallIdeal.nD) → Buf (Elt Ideal) ((c.tc : Thread Cert.SmallIdeal.nD Cert.SmallIdeal.τ).loc Cert.SmallIdeal.main_v0_12)) (v13 : (c : Dev Cert.SmallIdeal.nD) → Buf (Elt Ideal) ((c.tc : Thread Cert.SmallIdeal.nD Cert.SmallIdeal.τ).loc Cert.SmallIdeal.main_v0_13)) (v14 : (c : Dev Cert.SmallIdeal.nD) → Buf (Elt Ideal) ((c.tc : Thread Cert.SmallIdeal.nD Cert.SmallIdeal.τ).loc Cert.SmallIdeal.main_v0_14)) (v15 : (c : Dev Cert.SmallIdeal.nD) → Buf (Elt Ideal) ((c.tc : Thread Cert.SmallIdeal.nD Cert.SmallIdeal.τ).loc Cert.SmallIdeal.main_v0_15)) (v16 : (c : Dev Cert.SmallIdeal.nD) → Buf (Elt Ideal) ((c.tc : Thread Cert.SmallIdeal.nD Cert.SmallIdeal.τ).loc Cert.SmallIdeal.main_v0_16)) (v17 : (c : Dev Cert.SmallIdeal.nD) → Buf (Elt Ideal) ((c.tc : Thread Cert.SmallIdeal.nD Cert.SmallIdeal.τ).loc Cert.SmallIdeal.main_v0_17)) (v18 : (c : Dev Cert.SmallIdeal.nD) → Buf (Elt Ideal) ((c.tc : Thread Cert.SmallIdeal.nD Cert.SmallIdeal.τ).loc Cert.SmallIdeal.main_v0_18)) (v19 : (c : Dev Cert.SmallIdeal.nD) → Buf (Elt Ideal) ((c.tc : Thread Cert.SmallIdeal.nD Cert.SmallIdeal.τ).loc Cert.SmallIdeal.main_v0_19)) (v20 : (c : Dev Cert.SmallIdeal.nD) → Buf (Elt Ideal) ((c.tc : Thread Cert.SmallIdeal.nD Cert.SmallIdeal.τ).loc Cert.SmallIdeal.main_v0_20)) (v21 : (c : Dev Cert.SmallIdeal.nD) → Buf (Elt Ideal) ((c.tc : Thread Cert.SmallIdeal.nD Cert.SmallIdeal.τ).loc Cert.SmallIdeal.main_v0_21)) (v22 : (c : Dev Cert.SmallIdeal.nD) → Buf (Elt Ideal) ((c.tc : Thread Cert.SmallIdeal.nD Cert.SmallIdeal.τ).loc Cert.SmallIdeal.main_v0_22)) (v23 : (c : Dev Cert.SmallIdeal.nD) → Buf (Elt Ideal) ((c.tc : Thread Cert.SmallIdeal.nD Cert.SmallIdeal.τ).loc Cert.SmallIdeal.main_v0_23)) (v24 : (c : Dev Cert.SmallIdeal.nD) → Buf (Elt Ideal) ((c.tc : Thread Cert.SmallIdeal.nD Cert.SmallIdeal.τ).loc Cert.SmallIdeal.main_v0_24)) (v25 : (c : Dev Cert.SmallIdeal.nD) → Buf (Elt Ideal) ((c.tc : Thread Cert.SmallIdeal.nD Cert.SmallIdeal.τ).loc Cert.SmallIdeal.main_v0_25)) (v26 : (c : Dev Cert.SmallIdeal.nD) → Buf (Elt Ideal) ((c.tc : Thread Cert.SmallIdeal.nD Cert.SmallIdeal.τ).loc Cert.SmallIdeal.main_v0_26)) (v27 : (c : Dev Cert.SmallIdeal.nD) → Buf (Elt Ideal) ((c.tc : Thread Cert.SmallIdeal.nD Cert.SmallIdeal.τ).loc Cert.SmallIdeal.main_v0_27)) (v28 : (c : Dev Cert.SmallIdeal.nD) → Buf (Elt Ideal) ((c.tc : Thread Cert.SmallIdeal.nD Cert.SmallIdeal.τ).loc Cert.SmallIdeal.main_v0_28)) (v29 : (c : Dev Cert.SmallIdeal.nD) → Buf (Elt Ideal) ((c.tc : Thread Cert.SmallIdeal.nD Cert.SmallIdeal.τ).loc Cert.SmallIdeal.main_v0_29)) (v30 : (c : Dev Cert.SmallIdeal.nD) → Buf (Elt Ideal) ((c.tc : Thread Cert.SmallIdeal.nD Cert.SmallIdeal.τ).loc Cert.SmallIdeal.main_v0_30)) (v31 : (c : Dev Cert.SmallIdeal.nD) → Buf (Elt Ideal) ((c.tc : Thread Cert.SmallIdeal.nD Cert.SmallIdeal.τ).loc Cert.SmallIdeal.main_v0_31)) (v32 : (c : Dev Cert.SmallIdeal.nD) → Buf (Elt Ideal) ((c.tc : Thread Cert.SmallIdeal.nD Cert.SmallIdeal.τ).loc Cert.SmallIdeal.main_v0_32)) (v33 : (c : Dev Cert.SmallIdeal.nD) → Buf (Elt Ideal) ((c.tc : Thread Cert.SmallIdeal.nD Cert.SmallIdeal.τ).loc Cert.SmallIdeal.main_v0_33)) (v34 : (c : Dev Cert.SmallIdeal.nD) → Buf (Elt Ideal) ((c.tc : Thread Cert.SmallIdeal.nD Cert.SmallIdeal.τ).loc Cert.SmallIdeal.main_v0_34)) (v35 : (c : Dev Cert.SmallIdeal.nD) → Buf (Elt Ideal) ((c.tc : Thread Cert.SmallIdeal.nD Cert.SmallIdeal.τ).loc Cert.SmallIdeal.main_v0_35)) (v36 : (c : Dev Cert.SmallIdeal.nD) → Buf (Elt Ideal) ((c.tc : Thread Cert.SmallIdeal.nD Cert.SmallIdeal.τ).loc Cert.SmallIdeal.main_v0_36)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v0_0) = v0 c
          ∧ r.2.mem ((c.tc : Thread Cert.SmallIdeal.nD Cert.SmallIdeal.τ).loc Cert.SmallIdeal.main_v0_1) = v1 c
          ∧ r.2.mem ((c.tc : Thread Cert.SmallIdeal.nD Cert.SmallIdeal.τ).loc Cert.SmallIdeal.main_v0_2) = v2 c
          ∧ r.2.mem ((c.tc : Thread Cert.SmallIdeal.nD Cert.SmallIdeal.τ).loc Cert.SmallIdeal.main_v0_3) = v3 c
          ∧ r.2.mem ((c.tc : Thread Cert.SmallIdeal.nD Cert.SmallIdeal.τ).loc Cert.SmallIdeal.main_v0_4) = v4 c
          ∧ r.2.mem ((c.tc : Thread Cert.SmallIdeal.nD Cert.SmallIdeal.τ).loc Cert.SmallIdeal.main_v0_5) = v5 c
          ∧ r.2.mem ((c.tc : Thread Cert.SmallIdeal.nD Cert.SmallIdeal.τ).loc Cert.SmallIdeal.main_v0_6) = v6 c
          ∧ r.2.mem ((c.tc : Thread Cert.SmallIdeal.nD Cert.SmallIdeal.τ).loc Cert.SmallIdeal.main_v0_7) = v7 c
          ∧ r.2.mem ((c.tc : Thread Cert.SmallIdeal.nD Cert.SmallIdeal.τ).loc Cert.SmallIdeal.main_v0_8) = v8 c
          ∧ r.2.mem ((c.tc : Thread Cert.SmallIdeal.nD Cert.SmallIdeal.τ).loc Cert.SmallIdeal.main_v0_9) = v9 c
          ∧ r.2.mem ((c.tc : Thread Cert.SmallIdeal.nD Cert.SmallIdeal.τ).loc Cert.SmallIdeal.main_v0_10) = v10 c
          ∧ r.2.mem ((c.tc : Thread Cert.SmallIdeal.nD Cert.SmallIdeal.τ).loc Cert.SmallIdeal.main_v0_11) = v11 c
          ∧ r.2.mem ((c.tc : Thread Cert.SmallIdeal.nD Cert.SmallIdeal.τ).loc Cert.SmallIdeal.main_v0_12) = v12 c
          ∧ r.2.mem ((c.tc : Thread Cert.SmallIdeal.nD Cert.SmallIdeal.τ).loc Cert.SmallIdeal.main_v0_13) = v13 c
          ∧ r.2.mem ((c.tc : Thread Cert.SmallIdeal.nD Cert.SmallIdeal.τ).loc Cert.SmallIdeal.main_v0_14) = v14 c
          ∧ r.2.mem ((c.tc : Thread Cert.SmallIdeal.nD Cert.SmallIdeal.τ).loc Cert.SmallIdeal.main_v0_15) = v15 c
          ∧ r.2.mem ((c.tc : Thread Cert.SmallIdeal.nD Cert.SmallIdeal.τ).loc Cert.SmallIdeal.main_v0_16) = v16 c
          ∧ r.2.mem ((c.tc : Thread Cert.SmallIdeal.nD Cert.SmallIdeal.τ).loc Cert.SmallIdeal.main_v0_17) = v17 c
          ∧ r.2.mem ((c.tc : Thread Cert.SmallIdeal.nD Cert.SmallIdeal.τ).loc Cert.SmallIdeal.main_v0_18) = v18 c
          ∧ r.2.mem ((c.tc : Thread Cert.SmallIdeal.nD Cert.SmallIdeal.τ).loc Cert.SmallIdeal.main_v0_19) = v19 c
          ∧ r.2.mem ((c.tc : Thread Cert.SmallIdeal.nD Cert.SmallIdeal.τ).loc Cert.SmallIdeal.main_v0_20) = v20 c
          ∧ r.2.mem ((c.tc : Thread Cert.SmallIdeal.nD Cert.SmallIdeal.τ).loc Cert.SmallIdeal.main_v0_21) = v21 c
          ∧ r.2.mem ((c.tc : Thread Cert.SmallIdeal.nD Cert.SmallIdeal.τ).loc Cert.SmallIdeal.main_v0_22) = v22 c
          ∧ r.2.mem ((c.tc : Thread Cert.SmallIdeal.nD Cert.SmallIdeal.τ).loc Cert.SmallIdeal.main_v0_23) = v23 c
          ∧ r.2.mem ((c.tc : Thread Cert.SmallIdeal.nD Cert.SmallIdeal.τ).loc Cert.SmallIdeal.main_v0_24) = v24 c
          ∧ r.2.mem ((c.tc : Thread Cert.SmallIdeal.nD Cert.SmallIdeal.τ).loc Cert.SmallIdeal.main_v0_25) = v25 c
          ∧ r.2.mem ((c.tc : Thread Cert.SmallIdeal.nD Cert.SmallIdeal.τ).loc Cert.SmallIdeal.main_v0_26) = v26 c
          ∧ r.2.mem ((c.tc : Thread Cert.SmallIdeal.nD Cert.SmallIdeal.τ).loc Cert.SmallIdeal.main_v0_27) = v27 c
          ∧ r.2.mem ((c.tc : Thread Cert.SmallIdeal.nD Cert.SmallIdeal.τ).loc Cert.SmallIdeal.main_v0_28) = v28 c
          ∧ r.2.mem ((c.tc : Thread Cert.SmallIdeal.nD Cert.SmallIdeal.τ).loc Cert.SmallIdeal.main_v0_29) = v29 c
          ∧ r.2.mem ((c.tc : Thread Cert.SmallIdeal.nD Cert.SmallIdeal.τ).loc Cert.SmallIdeal.main_v0_30) = v30 c
          ∧ r.2.mem ((c.tc : Thread Cert.SmallIdeal.nD Cert.SmallIdeal.τ).loc Cert.SmallIdeal.main_v0_31) = v31 c
          ∧ r.2.mem ((c.tc : Thread Cert.SmallIdeal.nD Cert.SmallIdeal.τ).loc Cert.SmallIdeal.main_v0_32) = v32 c
          ∧ r.2.mem ((c.tc : Thread Cert.SmallIdeal.nD Cert.SmallIdeal.τ).loc Cert.SmallIdeal.main_v0_33) = v33 c
          ∧ r.2.mem ((c.tc : Thread Cert.SmallIdeal.nD Cert.SmallIdeal.τ).loc Cert.SmallIdeal.main_v0_34) = v34 c
          ∧ r.2.mem ((c.tc : Thread Cert.SmallIdeal.nD Cert.SmallIdeal.τ).loc Cert.SmallIdeal.main_v0_35) = v35 c
          ∧ r.2.mem ((c.tc : Thread Cert.SmallIdeal.nD Cert.SmallIdeal.τ).loc Cert.SmallIdeal.main_v0_36) = v36 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
          ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
          ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
          ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
          ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
          ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
          ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
          ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
          ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
          ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
          ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
          ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
          ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
          ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16)
          ∧ r.2.mem ((c.tc : Thread Cert.SmallIdeal.nD Cert.SmallIdeal.τ).loc Cert.SmallIdeal.main_arg17) = m ((c.tc : Thread Cert.SmallIdeal.nD Cert.SmallIdeal.τ).loc Cert.SmallIdeal.main_arg17)
          ∧ r.2.mem ((c.tc : Thread Cert.SmallIdeal.nD Cert.SmallIdeal.τ).loc Cert.SmallIdeal.main_arg18) = m ((c.tc : Thread Cert.SmallIdeal.nD Cert.SmallIdeal.τ).loc Cert.SmallIdeal.main_arg18)
          ∧ r.2.mem ((c.tc : Thread Cert.SmallIdeal.nD Cert.SmallIdeal.τ).loc Cert.SmallIdeal.main_arg19) = m ((c.tc : Thread Cert.SmallIdeal.nD Cert.SmallIdeal.τ).loc Cert.SmallIdeal.main_arg19)
          ∧ r.2.mem ((c.tc : Thread Cert.SmallIdeal.nD Cert.SmallIdeal.τ).loc Cert.SmallIdeal.main_arg20) = m ((c.tc : Thread Cert.SmallIdeal.nD Cert.SmallIdeal.τ).loc Cert.SmallIdeal.main_arg20)
          ∧ r.2.mem ((c.tc : Thread Cert.SmallIdeal.nD Cert.SmallIdeal.τ).loc Cert.SmallIdeal.main_arg21) = m ((c.tc : Thread Cert.SmallIdeal.nD Cert.SmallIdeal.τ).loc Cert.SmallIdeal.main_arg21)
          ∧ r.2.mem ((c.tc : Thread Cert.SmallIdeal.nD Cert.SmallIdeal.τ).loc Cert.SmallIdeal.main_arg22) = m ((c.tc : Thread Cert.SmallIdeal.nD Cert.SmallIdeal.τ).loc Cert.SmallIdeal.main_arg22)
          ∧ r.2.mem ((c.tc : Thread Cert.SmallIdeal.nD Cert.SmallIdeal.τ).loc Cert.SmallIdeal.main_arg23) = m ((c.tc : Thread Cert.SmallIdeal.nD Cert.SmallIdeal.τ).loc Cert.SmallIdeal.main_arg23)
          ∧ r.2.mem ((c.tc : Thread Cert.SmallIdeal.nD Cert.SmallIdeal.τ).loc Cert.SmallIdeal.main_arg24) = m ((c.tc : Thread Cert.SmallIdeal.nD Cert.SmallIdeal.τ).loc Cert.SmallIdeal.main_arg24)
          ∧ r.2.mem ((c.tc : Thread Cert.SmallIdeal.nD Cert.SmallIdeal.τ).loc Cert.SmallIdeal.main_arg25) = m ((c.tc : Thread Cert.SmallIdeal.nD Cert.SmallIdeal.τ).loc Cert.SmallIdeal.main_arg25)
          ∧ r.2.mem ((c.tc : Thread Cert.SmallIdeal.nD Cert.SmallIdeal.τ).loc Cert.SmallIdeal.main_arg26) = m ((c.tc : Thread Cert.SmallIdeal.nD Cert.SmallIdeal.τ).loc Cert.SmallIdeal.main_arg26)
          ∧ r.2.mem ((c.tc : Thread Cert.SmallIdeal.nD Cert.SmallIdeal.τ).loc Cert.SmallIdeal.main_arg27) = m ((c.tc : Thread Cert.SmallIdeal.nD Cert.SmallIdeal.τ).loc Cert.SmallIdeal.main_arg27)
          ∧ r.2.mem ((c.tc : Thread Cert.SmallIdeal.nD Cert.SmallIdeal.τ).loc Cert.SmallIdeal.main_arg28) = m ((c.tc : Thread Cert.SmallIdeal.nD Cert.SmallIdeal.τ).loc Cert.SmallIdeal.main_arg28)
          ∧ r.2.mem ((c.tc : Thread Cert.SmallIdeal.nD Cert.SmallIdeal.τ).loc Cert.SmallIdeal.main_arg29) = m ((c.tc : Thread Cert.SmallIdeal.nD Cert.SmallIdeal.τ).loc Cert.SmallIdeal.main_arg29))
      ∧ θ_run (Cert.SmallReferenceIdeal.defs (F := Ideal)) (onTc (τ := Cert.SmallReferenceIdeal.τ) (Cert.SmallReferenceIdeal.main (F := Ideal))) ⟨m', fun _ => 0, g'⟩ (fun r => ∀ c : Dev Cert.SmallReferenceIdeal.nD,
          r.2.mem ((c.tc : Thread Cert.SmallReferenceIdeal.nD Cert.SmallReferenceIdeal.τ).loc Cert.SmallReferenceIdeal.main_v19) = v0 c
          ∧ r.2.mem ((c.tc : Thread Cert.SmallReferenceIdeal.nD Cert.SmallReferenceIdeal.τ).loc Cert.SmallReferenceIdeal.main_v11) = v1 c
          ∧ r.2.mem ((c.tc : Thread Cert.SmallReferenceIdeal.nD Cert.SmallReferenceIdeal.τ).loc Cert.SmallReferenceIdeal.main_v43) = v2 c
          ∧ r.2.mem ((c.tc : Thread Cert.SmallReferenceIdeal.nD Cert.SmallReferenceIdeal.τ).loc Cert.SmallReferenceIdeal.main_v24) = v3 c
          ∧ r.2.mem ((c.tc : Thread Cert.SmallReferenceIdeal.nD Cert.SmallReferenceIdeal.τ).loc Cert.SmallReferenceIdeal.main_v30) = v4 c
          ∧ r.2.mem ((c.tc : Thread Cert.SmallReferenceIdeal.nD Cert.SmallReferenceIdeal.τ).loc Cert.SmallReferenceIdeal.main_v12) = v5 c
          ∧ r.2.mem ((c.tc : Thread Cert.SmallReferenceIdeal.nD Cert.SmallReferenceIdeal.τ).loc Cert.SmallReferenceIdeal.main_v67) = v6 c
          ∧ r.2.mem ((c.tc : Thread Cert.SmallReferenceIdeal.nD Cert.SmallReferenceIdeal.τ).loc Cert.SmallReferenceIdeal.main_v48) = v7 c
          ∧ r.2.mem ((c.tc : Thread Cert.SmallReferenceIdeal.nD Cert.SmallReferenceIdeal.τ).loc Cert.SmallReferenceIdeal.main_v54) = v8 c
          ∧ r.2.mem ((c.tc : Thread Cert.SmallReferenceIdeal.nD Cert.SmallReferenceIdeal.τ).loc Cert.SmallReferenceIdeal.main_v13) = v9 c
          ∧ r.2.mem ((c.tc : Thread Cert.SmallReferenceIdeal.nD Cert.SmallReferenceIdeal.τ).loc Cert.SmallReferenceIdeal.main_v91) = v10 c
          ∧ r.2.mem ((c.tc : Thread Cert.SmallReferenceIdeal.nD Cert.SmallReferenceIdeal.τ).loc Cert.SmallReferenceIdeal.main_v72) = v11 c
          ∧ r.2.mem ((c.tc : Thread Cert.SmallReferenceIdeal.nD Cert.SmallReferenceIdeal.τ).loc Cert.SmallReferenceIdeal.main_v78) = v12 c
          ∧ r.2.mem ((c.tc : Thread Cert.SmallReferenceIdeal.nD Cert.SmallReferenceIdeal.τ).loc Cert.SmallReferenceIdeal.main_v14) = v13 c
          ∧ r.2.mem ((c.tc : Thread Cert.SmallReferenceIdeal.nD Cert.SmallReferenceIdeal.τ).loc Cert.SmallReferenceIdeal.main_v115) = v14 c
          ∧ r.2.mem ((c.tc : Thread Cert.SmallReferenceIdeal.nD Cert.SmallReferenceIdeal.τ).loc Cert.SmallReferenceIdeal.main_v96) = v15 c
          ∧ r.2.mem ((c.tc : Thread Cert.SmallReferenceIdeal.nD Cert.SmallReferenceIdeal.τ).loc Cert.SmallReferenceIdeal.main_v102) = v16 c
          ∧ r.2.mem ((c.tc : Thread Cert.SmallReferenceIdeal.nD Cert.SmallReferenceIdeal.τ).loc Cert.SmallReferenceIdeal.main_v8) = v17 c
          ∧ r.2.mem ((c.tc : Thread Cert.SmallReferenceIdeal.nD Cert.SmallReferenceIdeal.τ).loc Cert.SmallReferenceIdeal.main_v139) = v18 c
          ∧ r.2.mem ((c.tc : Thread Cert.SmallReferenceIdeal.nD Cert.SmallReferenceIdeal.τ).loc Cert.SmallReferenceIdeal.main_v120) = v19 c
          ∧ r.2.mem ((c.tc : Thread Cert.SmallReferenceIdeal.nD Cert.SmallReferenceIdeal.τ).loc Cert.SmallReferenceIdeal.main_v126) = v20 c
          ∧ r.2.mem ((c.tc : Thread Cert.SmallReferenceIdeal.nD Cert.SmallReferenceIdeal.τ).loc Cert.SmallReferenceIdeal.main_v15) = v21 c
          ∧ r.2.mem ((c.tc : Thread Cert.SmallReferenceIdeal.nD Cert.SmallReferenceIdeal.τ).loc Cert.SmallReferenceIdeal.main_v163) = v22 c
          ∧ r.2.mem ((c.tc : Thread Cert.SmallReferenceIdeal.nD Cert.SmallReferenceIdeal.τ).loc Cert.SmallReferenceIdeal.main_v144) = v23 c
          ∧ r.2.mem ((c.tc : Thread Cert.SmallReferenceIdeal.nD Cert.SmallReferenceIdeal.τ).loc Cert.SmallReferenceIdeal.main_v150) = v24 c
          ∧ r.2.mem ((c.tc : Thread Cert.SmallReferenceIdeal.nD Cert.SmallReferenceIdeal.τ).loc Cert.SmallReferenceIdeal.main_v16) = v25 c
          ∧ r.2.mem ((c.tc : Thread Cert.SmallReferenceIdeal.nD Cert.SmallReferenceIdeal.τ).loc Cert.SmallReferenceIdeal.main_v187) = v26 c
          ∧ r.2.mem ((c.tc : Thread Cert.SmallReferenceIdeal.nD Cert.SmallReferenceIdeal.τ).loc Cert.SmallReferenceIdeal.main_v168) = v27 c
          ∧ r.2.mem ((c.tc : Thread Cert.SmallReferenceIdeal.nD Cert.SmallReferenceIdeal.τ).loc Cert.SmallReferenceIdeal.main_v174) = v28 c
          ∧ r.2.mem ((c.tc : Thread Cert.SmallReferenceIdeal.nD Cert.SmallReferenceIdeal.τ).loc Cert.SmallReferenceIdeal.main_v17) = v29 c
          ∧ r.2.mem ((c.tc : Thread Cert.SmallReferenceIdeal.nD Cert.SmallReferenceIdeal.τ).loc Cert.SmallReferenceIdeal.main_v211) = v30 c
          ∧ r.2.mem ((c.tc : Thread Cert.SmallReferenceIdeal.nD Cert.SmallReferenceIdeal.τ).loc Cert.SmallReferenceIdeal.main_v192) = v31 c
          ∧ r.2.mem ((c.tc : Thread Cert.SmallReferenceIdeal.nD Cert.SmallReferenceIdeal.τ).loc Cert.SmallReferenceIdeal.main_v198) = v32 c
          ∧ r.2.mem ((c.tc : Thread Cert.SmallReferenceIdeal.nD Cert.SmallReferenceIdeal.τ).loc Cert.SmallReferenceIdeal.main_v18) = v33 c
          ∧ r.2.mem ((c.tc : Thread Cert.SmallReferenceIdeal.nD Cert.SmallReferenceIdeal.τ).loc Cert.SmallReferenceIdeal.main_v235) = v34 c
          ∧ r.2.mem ((c.tc : Thread Cert.SmallReferenceIdeal.nD Cert.SmallReferenceIdeal.τ).loc Cert.SmallReferenceIdeal.main_v216) = v35 c
          ∧ r.2.mem ((c.tc : Thread Cert.SmallReferenceIdeal.nD Cert.SmallReferenceIdeal.τ).loc Cert.SmallReferenceIdeal.main_v222) = v36 c
          ∧ r.2.mem ((c.tc : Thread Cert.SmallReferenceIdeal.nD Cert.SmallReferenceIdeal.τ).loc Cert.SmallReferenceIdeal.main_arg0) = m' ((c.tc : Thread Cert.SmallReferenceIdeal.nD Cert.SmallReferenceIdeal.τ).loc Cert.SmallReferenceIdeal.main_arg0)
          ∧ r.2.mem ((c.tc : Thread Cert.SmallReferenceIdeal.nD Cert.SmallReferenceIdeal.τ).loc Cert.SmallReferenceIdeal.main_arg1) = m' ((c.tc : Thread Cert.SmallReferenceIdeal.nD Cert.SmallReferenceIdeal.τ).loc Cert.SmallReferenceIdeal.main_arg1)
          ∧ r.2.mem ((c.tc : Thread Cert.SmallReferenceIdeal.nD Cert.SmallReferenceIdeal.τ).loc Cert.SmallReferenceIdeal.main_arg2) = m' ((c.tc : Thread Cert.SmallReferenceIdeal.nD Cert.SmallReferenceIdeal.τ).loc Cert.SmallReferenceIdeal.main_arg2)
          ∧ r.2.mem ((c.tc : Thread Cert.SmallReferenceIdeal.nD Cert.SmallReferenceIdeal.τ).loc Cert.SmallReferenceIdeal.main_arg3) = m' ((c.tc : Thread Cert.SmallReferenceIdeal.nD Cert.SmallReferenceIdeal.τ).loc Cert.SmallReferenceIdeal.main_arg3)
          ∧ r.2.mem ((c.tc : Thread Cert.SmallReferenceIdeal.nD Cert.SmallReferenceIdeal.τ).loc Cert.SmallReferenceIdeal.main_arg4) = m' ((c.tc : Thread Cert.SmallReferenceIdeal.nD Cert.SmallReferenceIdeal.τ).loc Cert.SmallReferenceIdeal.main_arg4)
          ∧ r.2.mem ((c.tc : Thread Cert.SmallReferenceIdeal.nD Cert.SmallReferenceIdeal.τ).loc Cert.SmallReferenceIdeal.main_arg5) = m' ((c.tc : Thread Cert.SmallReferenceIdeal.nD Cert.SmallReferenceIdeal.τ).loc Cert.SmallReferenceIdeal.main_arg5)
          ∧ r.2.mem ((c.tc : Thread Cert.SmallReferenceIdeal.nD Cert.SmallReferenceIdeal.τ).loc Cert.SmallReferenceIdeal.main_arg6) = m' ((c.tc : Thread Cert.SmallReferenceIdeal.nD Cert.SmallReferenceIdeal.τ).loc Cert.SmallReferenceIdeal.main_arg6)
          ∧ r.2.mem ((c.tc : Thread Cert.SmallReferenceIdeal.nD Cert.SmallReferenceIdeal.τ).loc Cert.SmallReferenceIdeal.main_arg7) = m' ((c.tc : Thread Cert.SmallReferenceIdeal.nD Cert.SmallReferenceIdeal.τ).loc Cert.SmallReferenceIdeal.main_arg7)
          ∧ r.2.mem ((c.tc : Thread Cert.SmallReferenceIdeal.nD Cert.SmallReferenceIdeal.τ).loc Cert.SmallReferenceIdeal.main_arg8) = m' ((c.tc : Thread Cert.SmallReferenceIdeal.nD Cert.SmallReferenceIdeal.τ).loc Cert.SmallReferenceIdeal.main_arg8)
          ∧ r.2.mem ((c.tc : Thread Cert.SmallReferenceIdeal.nD Cert.SmallReferenceIdeal.τ).loc Cert.SmallReferenceIdeal.main_arg9) = m' ((c.tc : Thread Cert.SmallReferenceIdeal.nD Cert.SmallReferenceIdeal.τ).loc Cert.SmallReferenceIdeal.main_arg9)
          ∧ r.2.mem ((c.tc : Thread Cert.SmallReferenceIdeal.nD Cert.SmallReferenceIdeal.τ).loc Cert.SmallReferenceIdeal.main_arg10) = m' ((c.tc : Thread Cert.SmallReferenceIdeal.nD Cert.SmallReferenceIdeal.τ).loc Cert.SmallReferenceIdeal.main_arg10)
          ∧ r.2.mem ((c.tc : Thread Cert.SmallReferenceIdeal.nD Cert.SmallReferenceIdeal.τ).loc Cert.SmallReferenceIdeal.main_arg11) = m' ((c.tc : Thread Cert.SmallReferenceIdeal.nD Cert.SmallReferenceIdeal.τ).loc Cert.SmallReferenceIdeal.main_arg11)
          ∧ r.2.mem ((c.tc : Thread Cert.SmallReferenceIdeal.nD Cert.SmallReferenceIdeal.τ).loc Cert.SmallReferenceIdeal.main_arg12) = m' ((c.tc : Thread Cert.SmallReferenceIdeal.nD Cert.SmallReferenceIdeal.τ).loc Cert.SmallReferenceIdeal.main_arg12)
          ∧ r.2.mem ((c.tc : Thread Cert.SmallReferenceIdeal.nD Cert.SmallReferenceIdeal.τ).loc Cert.SmallReferenceIdeal.main_arg13) = m' ((c.tc : Thread Cert.SmallReferenceIdeal.nD Cert.SmallReferenceIdeal.τ).loc Cert.SmallReferenceIdeal.main_arg13)
          ∧ r.2.mem ((c.tc : Thread Cert.SmallReferenceIdeal.nD Cert.SmallReferenceIdeal.τ).loc Cert.SmallReferenceIdeal.main_arg14) = m' ((c.tc : Thread Cert.SmallReferenceIdeal.nD Cert.SmallReferenceIdeal.τ).loc Cert.SmallReferenceIdeal.main_arg14)
          ∧ r.2.mem ((c.tc : Thread Cert.SmallReferenceIdeal.nD Cert.SmallReferenceIdeal.τ).loc Cert.SmallReferenceIdeal.main_arg15) = m' ((c.tc : Thread Cert.SmallReferenceIdeal.nD Cert.SmallReferenceIdeal.τ).loc Cert.SmallReferenceIdeal.main_arg15)
          ∧ r.2.mem ((c.tc : Thread Cert.SmallReferenceIdeal.nD Cert.SmallReferenceIdeal.τ).loc Cert.SmallReferenceIdeal.main_arg16) = m' ((c.tc : Thread Cert.SmallReferenceIdeal.nD Cert.SmallReferenceIdeal.τ).loc Cert.SmallReferenceIdeal.main_arg16)
          ∧ r.2.mem ((c.tc : Thread Cert.SmallReferenceIdeal.nD Cert.SmallReferenceIdeal.τ).loc Cert.SmallReferenceIdeal.main_arg17) = m' ((c.tc : Thread Cert.SmallReferenceIdeal.nD Cert.SmallReferenceIdeal.τ).loc Cert.SmallReferenceIdeal.main_arg17)
          ∧ r.2.mem ((c.tc : Thread Cert.SmallReferenceIdeal.nD Cert.SmallReferenceIdeal.τ).loc Cert.SmallReferenceIdeal.main_arg18) = m' ((c.tc : Thread Cert.SmallReferenceIdeal.nD Cert.SmallReferenceIdeal.τ).loc Cert.SmallReferenceIdeal.main_arg18)
          ∧ r.2.mem ((c.tc : Thread Cert.SmallReferenceIdeal.nD Cert.SmallReferenceIdeal.τ).loc Cert.SmallReferenceIdeal.main_arg19) = m' ((c.tc : Thread Cert.SmallReferenceIdeal.nD Cert.SmallReferenceIdeal.τ).loc Cert.SmallReferenceIdeal.main_arg19)
          ∧ r.2.mem ((c.tc : Thread Cert.SmallReferenceIdeal.nD Cert.SmallReferenceIdeal.τ).loc Cert.SmallReferenceIdeal.main_arg20) = m' ((c.tc : Thread Cert.SmallReferenceIdeal.nD Cert.SmallReferenceIdeal.τ).loc Cert.SmallReferenceIdeal.main_arg20)
          ∧ r.2.mem ((c.tc : Thread Cert.SmallReferenceIdeal.nD Cert.SmallReferenceIdeal.τ).loc Cert.SmallReferenceIdeal.main_arg21) = m' ((c.tc : Thread Cert.SmallReferenceIdeal.nD Cert.SmallReferenceIdeal.τ).loc Cert.SmallReferenceIdeal.main_arg21)
          ∧ r.2.mem ((c.tc : Thread Cert.SmallReferenceIdeal.nD Cert.SmallReferenceIdeal.τ).loc Cert.SmallReferenceIdeal.main_arg22) = m' ((c.tc : Thread Cert.SmallReferenceIdeal.nD Cert.SmallReferenceIdeal.τ).loc Cert.SmallReferenceIdeal.main_arg22)
          ∧ r.2.mem ((c.tc : Thread Cert.SmallReferenceIdeal.nD Cert.SmallReferenceIdeal.τ).loc Cert.SmallReferenceIdeal.main_arg23) = m' ((c.tc : Thread Cert.SmallReferenceIdeal.nD Cert.SmallReferenceIdeal.τ).loc Cert.SmallReferenceIdeal.main_arg23)
          ∧ r.2.mem ((c.tc : Thread Cert.SmallReferenceIdeal.nD Cert.SmallReferenceIdeal.τ).loc Cert.SmallReferenceIdeal.main_arg24) = m' ((c.tc : Thread Cert.SmallReferenceIdeal.nD Cert.SmallReferenceIdeal.τ).loc Cert.SmallReferenceIdeal.main_arg24)
          ∧ r.2.mem ((c.tc : Thread Cert.SmallReferenceIdeal.nD Cert.SmallReferenceIdeal.τ).loc Cert.SmallReferenceIdeal.main_arg25) = m' ((c.tc : Thread Cert.SmallReferenceIdeal.nD Cert.SmallReferenceIdeal.τ).loc Cert.SmallReferenceIdeal.main_arg25)
          ∧ r.2.mem ((c.tc : Thread Cert.SmallReferenceIdeal.nD Cert.SmallReferenceIdeal.τ).loc Cert.SmallReferenceIdeal.main_arg26) = m' ((c.tc : Thread Cert.SmallReferenceIdeal.nD Cert.SmallReferenceIdeal.τ).loc Cert.SmallReferenceIdeal.main_arg26)
          ∧ r.2.mem ((c.tc : Thread Cert.SmallReferenceIdeal.nD Cert.SmallReferenceIdeal.τ).loc Cert.SmallReferenceIdeal.main_arg27) = m' ((c.tc : Thread Cert.SmallReferenceIdeal.nD Cert.SmallReferenceIdeal.τ).loc Cert.SmallReferenceIdeal.main_arg27)
          ∧ r.2.mem ((c.tc : Thread Cert.SmallReferenceIdeal.nD Cert.SmallReferenceIdeal.τ).loc Cert.SmallReferenceIdeal.main_arg28) = m' ((c.tc : Thread Cert.SmallReferenceIdeal.nD Cert.SmallReferenceIdeal.τ).loc Cert.SmallReferenceIdeal.main_arg28)
          ∧ r.2.mem ((c.tc : Thread Cert.SmallReferenceIdeal.nD Cert.SmallReferenceIdeal.τ).loc Cert.SmallReferenceIdeal.main_arg29) = m' ((c.tc : Thread Cert.SmallReferenceIdeal.nD Cert.SmallReferenceIdeal.τ).loc Cert.SmallReferenceIdeal.main_arg29))

def preserves_AdamDown_AdamDownIdeal : Prop :=
  True

def algebraic_AdamDownIdeal_AdamDownReferenceIdeal [hAdamDownIdeal : Cert.AdamDownIdeal.Facts] [hAdamDownReferenceIdeal : Cert.AdamDownReferenceIdeal.Facts] [hPre_device_adam_down : Cert.Pre_device_adam_down.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownIdeal m →
    (∀ c : Dev Cert.AdamDownIdeal.nD,
      m' ((c.tc : Thread Cert.AdamDownReferenceIdeal.nD Cert.AdamDownReferenceIdeal.τ).loc Cert.AdamDownReferenceIdeal.main_arg0) = m ((c.tc : Thread Cert.AdamDownIdeal.nD Cert.AdamDownIdeal.τ).loc Cert.AdamDownIdeal.main_arg0)
      ∧ m' ((c.tc : Thread Cert.AdamDownReferenceIdeal.nD Cert.AdamDownReferenceIdeal.τ).loc Cert.AdamDownReferenceIdeal.main_arg1) = m ((c.tc : Thread Cert.AdamDownIdeal.nD Cert.AdamDownIdeal.τ).loc Cert.AdamDownIdeal.main_arg1)
      ∧ m' ((c.tc : Thread Cert.AdamDownReferenceIdeal.nD Cert.AdamDownReferenceIdeal.τ).loc Cert.AdamDownReferenceIdeal.main_arg2) = m ((c.tc : Thread Cert.AdamDownIdeal.nD Cert.AdamDownIdeal.τ).loc Cert.AdamDownIdeal.main_arg2)
      ∧ m' ((c.tc : Thread Cert.AdamDownReferenceIdeal.nD Cert.AdamDownReferenceIdeal.τ).loc Cert.AdamDownReferenceIdeal.main_arg3) = m ((c.tc : Thread Cert.AdamDownIdeal.nD Cert.AdamDownIdeal.τ).loc Cert.AdamDownIdeal.main_arg3)
      ∧ m' ((c.tc : Thread Cert.AdamDownReferenceIdeal.nD Cert.AdamDownReferenceIdeal.τ).loc Cert.AdamDownReferenceIdeal.main_arg4) = m ((c.tc : Thread Cert.AdamDownIdeal.nD Cert.AdamDownIdeal.τ).loc Cert.AdamDownIdeal.main_arg4)
      ∧ m' ((c.tc : Thread Cert.AdamDownReferenceIdeal.nD Cert.AdamDownReferenceIdeal.τ).loc Cert.AdamDownReferenceIdeal.main_arg5) = m ((c.tc : Thread Cert.AdamDownIdeal.nD Cert.AdamDownIdeal.τ).loc Cert.AdamDownIdeal.main_arg5)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
          ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_v9) = v0 c
          ∧ r.2.mem ((c.tc : Thread Cert.AdamDownReferenceIdeal.nD Cert.AdamDownReferenceIdeal.τ).loc Cert.AdamDownReferenceIdeal.main_v33) = v1 c
          ∧ r.2.mem ((c.tc : Thread Cert.AdamDownReferenceIdeal.nD Cert.AdamDownReferenceIdeal.τ).loc Cert.AdamDownReferenceIdeal.main_v14) = v2 c
          ∧ r.2.mem ((c.tc : Thread Cert.AdamDownReferenceIdeal.nD Cert.AdamDownReferenceIdeal.τ).loc Cert.AdamDownReferenceIdeal.main_v20) = v3 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3)
          ∧ r.2.mem ((c.tc : Thread Cert.AdamDownReferenceIdeal.nD Cert.AdamDownReferenceIdeal.τ).loc Cert.AdamDownReferenceIdeal.main_arg4) = m' ((c.tc : Thread Cert.AdamDownReferenceIdeal.nD Cert.AdamDownReferenceIdeal.τ).loc Cert.AdamDownReferenceIdeal.main_arg4)
          ∧ r.2.mem ((c.tc : Thread Cert.AdamDownReferenceIdeal.nD Cert.AdamDownReferenceIdeal.τ).loc Cert.AdamDownReferenceIdeal.main_arg5) = m' ((c.tc : Thread Cert.AdamDownReferenceIdeal.nD Cert.AdamDownReferenceIdeal.τ).loc Cert.AdamDownReferenceIdeal.main_arg5))

def preserves_AdamGateUp_AdamGateUpIdeal : Prop :=
  True

def algebraic_AdamGateUpIdeal_AdamGateUpReferenceIdeal [hAdamGateUpIdeal : Cert.AdamGateUpIdeal.Facts] [hAdamGateUpReferenceIdeal : Cert.AdamGateUpReferenceIdeal.Facts] [hPre_device_adam_gu : Cert.Pre_device_adam_gu.Facts] : Prop :=
  ∀ (m : (ℓ : Loc Cert.AdamGateUpIdeal.nD Cert.AdamGateUpIdeal.τ Cert.AdamGateUpIdeal.sig) → Buf (Elt Ideal) ℓ) (g : Dev Cert.AdamGateUpIdeal.nD → PrngReg)
    (m' : (ℓ : Loc Cert.AdamGateUpReferenceIdeal.nD Cert.AdamGateUpReferenceIdeal.τ Cert.AdamGateUpReferenceIdeal.sig) → Buf (Elt Ideal) ℓ) (g' : Dev Cert.AdamGateUpReferenceIdeal.nD → PrngReg), Pre_AdamGateUpIdeal m →
    (∀ c : Dev Cert.AdamGateUpIdeal.nD,
      m' ((c.tc : Thread Cert.AdamGateUpReferenceIdeal.nD Cert.AdamGateUpReferenceIdeal.τ).loc Cert.AdamGateUpReferenceIdeal.main_arg0) = m ((c.tc : Thread Cert.AdamGateUpIdeal.nD Cert.AdamGateUpIdeal.τ).loc Cert.AdamGateUpIdeal.main_arg0)
      ∧ m' ((c.tc : Thread Cert.AdamGateUpReferenceIdeal.nD Cert.AdamGateUpReferenceIdeal.τ).loc Cert.AdamGateUpReferenceIdeal.main_arg1) = m ((c.tc : Thread Cert.AdamGateUpIdeal.nD Cert.AdamGateUpIdeal.τ).loc Cert.AdamGateUpIdeal.main_arg1)
      ∧ m' ((c.tc : Thread Cert.AdamGateUpReferenceIdeal.nD Cert.AdamGateUpReferenceIdeal.τ).loc Cert.AdamGateUpReferenceIdeal.main_arg2) = m ((c.tc : Thread Cert.AdamGateUpIdeal.nD Cert.AdamGateUpIdeal.τ).loc Cert.AdamGateUpIdeal.main_arg2)
      ∧ m' ((c.tc : Thread Cert.AdamGateUpReferenceIdeal.nD Cert.AdamGateUpReferenceIdeal.τ).loc Cert.AdamGateUpReferenceIdeal.main_arg3) = m ((c.tc : Thread Cert.AdamGateUpIdeal.nD Cert.AdamGateUpIdeal.τ).loc Cert.AdamGateUpIdeal.main_arg3)
      ∧ m' ((c.tc : Thread Cert.AdamGateUpReferenceIdeal.nD Cert.AdamGateUpReferenceIdeal.τ).loc Cert.AdamGateUpReferenceIdeal.main_arg4) = m ((c.tc : Thread Cert.AdamGateUpIdeal.nD Cert.AdamGateUpIdeal.τ).loc Cert.AdamGateUpIdeal.main_arg4)
      ∧ m' ((c.tc : Thread Cert.AdamGateUpReferenceIdeal.nD Cert.AdamGateUpReferenceIdeal.τ).loc Cert.AdamGateUpReferenceIdeal.main_arg5) = m ((c.tc : Thread Cert.AdamGateUpIdeal.nD Cert.AdamGateUpIdeal.τ).loc Cert.AdamGateUpIdeal.main_arg5)) →
    ∃ (v0 : (c : Dev Cert.AdamGateUpIdeal.nD) → Buf (Elt Ideal) ((c.tc : Thread Cert.AdamGateUpIdeal.nD Cert.AdamGateUpIdeal.τ).loc Cert.AdamGateUpIdeal.main_v0_0)) (v1 : (c : Dev Cert.AdamGateUpIdeal.nD) → Buf (Elt Ideal) ((c.tc : Thread Cert.AdamGateUpIdeal.nD Cert.AdamGateUpIdeal.τ).loc Cert.AdamGateUpIdeal.main_v0_1)) (v2 : (c : Dev Cert.AdamGateUpIdeal.nD) → Buf (Elt Ideal) ((c.tc : Thread Cert.AdamGateUpIdeal.nD Cert.AdamGateUpIdeal.τ).loc Cert.AdamGateUpIdeal.main_v0_2)) (v3 : (c : Dev Cert.AdamGateUpIdeal.nD) → Buf (Elt Ideal) ((c.tc : Thread Cert.AdamGateUpIdeal.nD Cert.AdamGateUpIdeal.τ).loc Cert.AdamGateUpIdeal.main_v0_3)),
      θ_run (Cert.AdamGateUpIdeal.defs (F := Ideal)) (onTc (τ := Cert.AdamGateUpIdeal.τ) (Cert.AdamGateUpIdeal.main (F := Ideal))) ⟨m, fun _ => 0, g⟩ (fun r => ∀ c : Dev Cert.AdamGateUpIdeal.nD,
          r.2.mem ((c.tc : Thread Cert.AdamGateUpIdeal.nD Cert.AdamGateUpIdeal.τ).loc Cert.AdamGateUpIdeal.main_v0_0) = v0 c
          ∧ r.2.mem ((c.tc : Thread Cert.AdamGateUpIdeal.nD Cert.AdamGateUpIdeal.τ).loc Cert.AdamGateUpIdeal.main_v0_1) = v1 c
          ∧ r.2.mem ((c.tc : Thread Cert.AdamGateUpIdeal.nD Cert.AdamGateUpIdeal.τ).loc Cert.AdamGateUpIdeal.main_v0_2) = v2 c
          ∧ r.2.mem ((c.tc : Thread Cert.AdamGateUpIdeal.nD Cert.AdamGateUpIdeal.τ).loc Cert.AdamGateUpIdeal.main_v0_3) = v3 c
          ∧ r.2.mem ((c.tc : Thread Cert.AdamGateUpIdeal.nD Cert.AdamGateUpIdeal.τ).loc Cert.AdamGateUpIdeal.main_arg0) = m ((c.tc : Thread Cert.AdamGateUpIdeal.nD Cert.AdamGateUpIdeal.τ).loc Cert.AdamGateUpIdeal.main_arg0)
          ∧ r.2.mem ((c.tc : Thread Cert.AdamGateUpIdeal.nD Cert.AdamGateUpIdeal.τ).loc Cert.AdamGateUpIdeal.main_arg1) = m ((c.tc : Thread Cert.AdamGateUpIdeal.nD Cert.AdamGateUpIdeal.τ).loc Cert.AdamGateUpIdeal.main_arg1)
          ∧ r.2.mem ((c.tc : Thread Cert.AdamGateUpIdeal.nD Cert.AdamGateUpIdeal.τ).loc Cert.AdamGateUpIdeal.main_arg2) = m ((c.tc : Thread Cert.AdamGateUpIdeal.nD Cert.AdamGateUpIdeal.τ).loc Cert.AdamGateUpIdeal.main_arg2)
          ∧ r.2.mem ((c.tc : Thread Cert.AdamGateUpIdeal.nD Cert.AdamGateUpIdeal.τ).loc Cert.AdamGateUpIdeal.main_arg3) = m ((c.tc : Thread Cert.AdamGateUpIdeal.nD Cert.AdamGateUpIdeal.τ).loc Cert.AdamGateUpIdeal.main_arg3)
          ∧ r.2.mem ((c.tc : Thread Cert.AdamGateUpIdeal.nD Cert.AdamGateUpIdeal.τ).loc Cert.AdamGateUpIdeal.main_arg4) = m ((c.tc : Thread Cert.AdamGateUpIdeal.nD Cert.AdamGateUpIdeal.τ).loc Cert.AdamGateUpIdeal.main_arg4)
          ∧ r.2.mem ((c.tc : Thread Cert.AdamGateUpIdeal.nD Cert.AdamGateUpIdeal.τ).loc Cert.AdamGateUpIdeal.main_arg5) = m ((c.tc : Thread Cert.AdamGateUpIdeal.nD Cert.AdamGateUpIdeal.τ).loc Cert.AdamGateUpIdeal.main_arg5))
      ∧ θ_run (Cert.AdamGateUpReferenceIdeal.defs (F := Ideal)) (onTc (τ := Cert.AdamGateUpReferenceIdeal.τ) (Cert.AdamGateUpReferenceIdeal.main (F := Ideal))) ⟨m', fun _ => 0, g'⟩ (fun r => ∀ c : Dev Cert.AdamGateUpReferenceIdeal.nD,
          r.2.mem ((c.tc : Thread Cert.AdamGateUpReferenceIdeal.nD Cert.AdamGateUpReferenceIdeal.τ).loc Cert.AdamGateUpReferenceIdeal.main_v9) = v0 c
          ∧ r.2.mem ((c.tc : Thread Cert.AdamGateUpReferenceIdeal.nD Cert.AdamGateUpReferenceIdeal.τ).loc Cert.AdamGateUpReferenceIdeal.main_v33) = v1 c
          ∧ r.2.mem ((c.tc : Thread Cert.AdamGateUpReferenceIdeal.nD Cert.AdamGateUpReferenceIdeal.τ).loc Cert.AdamGateUpReferenceIdeal.main_v14) = v2 c
          ∧ r.2.mem ((c.tc : Thread Cert.AdamGateUpReferenceIdeal.nD Cert.AdamGateUpReferenceIdeal.τ).loc Cert.AdamGateUpReferenceIdeal.main_v20) = v3 c
          ∧ r.2.mem ((c.tc : Thread Cert.AdamGateUpReferenceIdeal.nD Cert.AdamGateUpReferenceIdeal.τ).loc Cert.AdamGateUpReferenceIdeal.main_arg0) = m' ((c.tc : Thread Cert.AdamGateUpReferenceIdeal.nD Cert.AdamGateUpReferenceIdeal.τ).loc Cert.AdamGateUpReferenceIdeal.main_arg0)
          ∧ r.2.mem ((c.tc : Thread Cert.AdamGateUpReferenceIdeal.nD Cert.AdamGateUpReferenceIdeal.τ).loc Cert.AdamGateUpReferenceIdeal.main_arg1) = m' ((c.tc : Thread Cert.AdamGateUpReferenceIdeal.nD Cert.AdamGateUpReferenceIdeal.τ).loc Cert.AdamGateUpReferenceIdeal.main_arg1)
          ∧ r.2.mem ((c.tc : Thread Cert.AdamGateUpReferenceIdeal.nD Cert.AdamGateUpReferenceIdeal.τ).loc Cert.AdamGateUpReferenceIdeal.main_arg2) = m' ((c.tc : Thread Cert.AdamGateUpReferenceIdeal.nD Cert.AdamGateUpReferenceIdeal.τ).loc Cert.AdamGateUpReferenceIdeal.main_arg2)
          ∧ r.2.mem ((c.tc : Thread Cert.AdamGateUpReferenceIdeal.nD Cert.AdamGateUpReferenceIdeal.τ).loc Cert.AdamGateUpReferenceIdeal.main_arg3) = m' ((c.tc : Thread Cert.AdamGateUpReferenceIdeal.nD Cert.AdamGateUpReferenceIdeal.τ).loc Cert.AdamGateUpReferenceIdeal.main_arg3)
          ∧ r.2.mem ((c.tc : Thread Cert.AdamGateUpReferenceIdeal.nD Cert.AdamGateUpReferenceIdeal.τ).loc Cert.AdamGateUpReferenceIdeal.main_arg4) = m' ((c.tc : Thread Cert.AdamGateUpReferenceIdeal.nD Cert.AdamGateUpReferenceIdeal.τ).loc Cert.AdamGateUpReferenceIdeal.main_arg4)
          ∧ r.2.mem ((c.tc : Thread Cert.AdamGateUpReferenceIdeal.nD Cert.AdamGateUpReferenceIdeal.τ).loc Cert.AdamGateUpReferenceIdeal.main_arg5) = m' ((c.tc : Thread Cert.AdamGateUpReferenceIdeal.nD Cert.AdamGateUpReferenceIdeal.τ).loc Cert.AdamGateUpReferenceIdeal.main_arg5))

def preserves_AdamOut_AdamOutIdeal : Prop :=
  True

def algebraic_AdamOutIdeal_AdamOutReferenceIdeal [hAdamOutIdeal : Cert.AdamOutIdeal.Facts] [hAdamOutReferenceIdeal : Cert.AdamOutReferenceIdeal.Facts] [hPre_device_adam_out : Cert.Pre_device_adam_out.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutIdeal m →
    (∀ c : Dev Cert.AdamOutIdeal.nD,
      m' ((c.tc : Thread Cert.AdamOutReferenceIdeal.nD Cert.AdamOutReferenceIdeal.τ).loc Cert.AdamOutReferenceIdeal.main_arg0) = m ((c.tc : Thread Cert.AdamOutIdeal.nD Cert.AdamOutIdeal.τ).loc Cert.AdamOutIdeal.main_arg0)
      ∧ m' ((c.tc : Thread Cert.AdamOutReferenceIdeal.nD Cert.AdamOutReferenceIdeal.τ).loc Cert.AdamOutReferenceIdeal.main_arg1) = m ((c.tc : Thread Cert.AdamOutIdeal.nD Cert.AdamOutIdeal.τ).loc Cert.AdamOutIdeal.main_arg1)
      ∧ m' ((c.tc : Thread Cert.AdamOutReferenceIdeal.nD Cert.AdamOutReferenceIdeal.τ).loc Cert.AdamOutReferenceIdeal.main_arg2) = m ((c.tc : Thread Cert.AdamOutIdeal.nD Cert.AdamOutIdeal.τ).loc Cert.AdamOutIdeal.main_arg2)
      ∧ m' ((c.tc : Thread Cert.AdamOutReferenceIdeal.nD Cert.AdamOutReferenceIdeal.τ).loc Cert.AdamOutReferenceIdeal.main_arg3) = m ((c.tc : Thread Cert.AdamOutIdeal.nD Cert.AdamOutIdeal.τ).loc Cert.AdamOutIdeal.main_arg3)
      ∧ m' ((c.tc : Thread Cert.AdamOutReferenceIdeal.nD Cert.AdamOutReferenceIdeal.τ).loc Cert.AdamOutReferenceIdeal.main_arg4) = m ((c.tc : Thread Cert.AdamOutIdeal.nD Cert.AdamOutIdeal.τ).loc Cert.AdamOutIdeal.main_arg4)
      ∧ m' ((c.tc : Thread Cert.AdamOutReferenceIdeal.nD Cert.AdamOutReferenceIdeal.τ).loc Cert.AdamOutReferenceIdeal.main_arg5) = m ((c.tc : Thread Cert.AdamOutIdeal.nD Cert.AdamOutIdeal.τ).loc Cert.AdamOutIdeal.main_arg5)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v9) = v0 c
          ∧ r.2.mem ((c.tc : Thread Cert.AdamOutReferenceIdeal.nD Cert.AdamOutReferenceIdeal.τ).loc Cert.AdamOutReferenceIdeal.main_v33) = v1 c
          ∧ r.2.mem ((c.tc : Thread Cert.AdamOutReferenceIdeal.nD Cert.AdamOutReferenceIdeal.τ).loc Cert.AdamOutReferenceIdeal.main_v14) = v2 c
          ∧ r.2.mem ((c.tc : Thread Cert.AdamOutReferenceIdeal.nD Cert.AdamOutReferenceIdeal.τ).loc Cert.AdamOutReferenceIdeal.main_v20) = v3 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3)
          ∧ r.2.mem ((c.tc : Thread Cert.AdamOutReferenceIdeal.nD Cert.AdamOutReferenceIdeal.τ).loc Cert.AdamOutReferenceIdeal.main_arg4) = m' ((c.tc : Thread Cert.AdamOutReferenceIdeal.nD Cert.AdamOutReferenceIdeal.τ).loc Cert.AdamOutReferenceIdeal.main_arg4)
          ∧ r.2.mem ((c.tc : Thread Cert.AdamOutReferenceIdeal.nD Cert.AdamOutReferenceIdeal.τ).loc Cert.AdamOutReferenceIdeal.main_arg5) = m' ((c.tc : Thread Cert.AdamOutReferenceIdeal.nD Cert.AdamOutReferenceIdeal.τ).loc Cert.AdamOutReferenceIdeal.main_arg5))

def preserves_AdamIn_AdamInIdeal : Prop :=
  True

def algebraic_AdamInIdeal_AdamInReferenceIdeal [hAdamInIdeal : Cert.AdamInIdeal.Facts] [hAdamInReferenceIdeal : Cert.AdamInReferenceIdeal.Facts] [hPre_device_adam_in : Cert.Pre_device_adam_in.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)
      ∧ m' ((c.tc : Thread Cert.AdamInReferenceIdeal.nD Cert.AdamInReferenceIdeal.τ).loc Cert.AdamInReferenceIdeal.main_arg4) = m ((c.tc : Thread Cert.AdamInIdeal.nD Cert.AdamInIdeal.τ).loc Cert.AdamInIdeal.main_arg4)
      ∧ m' ((c.tc : Thread Cert.AdamInReferenceIdeal.nD Cert.AdamInReferenceIdeal.τ).loc Cert.AdamInReferenceIdeal.main_arg5) = m ((c.tc : Thread Cert.AdamInIdeal.nD Cert.AdamInIdeal.τ).loc Cert.AdamInIdeal.main_arg5)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v9) = v0 c
          ∧ r.2.mem ((c.tc : Thread Cert.AdamInReferenceIdeal.nD Cert.AdamInReferenceIdeal.τ).loc Cert.AdamInReferenceIdeal.main_v33) = v1 c
          ∧ r.2.mem ((c.tc : Thread Cert.AdamInReferenceIdeal.nD Cert.AdamInReferenceIdeal.τ).loc Cert.AdamInReferenceIdeal.main_v14) = v2 c
          ∧ r.2.mem ((c.tc : Thread Cert.AdamInReferenceIdeal.nD Cert.AdamInReferenceIdeal.τ).loc Cert.AdamInReferenceIdeal.main_v20) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3)
          ∧ r.2.mem ((c.tc : Thread Cert.AdamInReferenceIdeal.nD Cert.AdamInReferenceIdeal.τ).loc Cert.AdamInReferenceIdeal.main_arg4) = m' ((c.tc : Thread Cert.AdamInReferenceIdeal.nD Cert.AdamInReferenceIdeal.τ).loc Cert.AdamInReferenceIdeal.main_arg4)
          ∧ r.2.mem ((c.tc : Thread Cert.AdamInReferenceIdeal.nD Cert.AdamInReferenceIdeal.τ).loc Cert.AdamInReferenceIdeal.main_arg5) = m' ((c.tc : Thread Cert.AdamInReferenceIdeal.nD Cert.AdamInReferenceIdeal.τ).loc Cert.AdamInReferenceIdeal.main_arg5))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownReferenceIdeal : Cert.DownReferenceIdeal.Facts) (hGateUp : Cert.GateUp.Facts) (hGateUpIdeal : Cert.GateUpIdeal.Facts) (hGateUpReferenceIdeal : Cert.GateUpReferenceIdeal.Facts) (hIn : Cert.In.Facts) (hInIdeal : Cert.InIdeal.Facts) (hInReferenceIdeal : Cert.InReferenceIdeal.Facts) (hEnter : Cert.Enter.Facts) (hEnterIdeal : Cert.EnterIdeal.Facts) (hEnterReferenceIdeal : Cert.EnterReferenceIdeal.Facts) (hSmall : Cert.Small.Facts) (hSmallIdeal : Cert.SmallIdeal.Facts) (hSmallReferenceIdeal : Cert.SmallReferenceIdeal.Facts) (hAdamDown : Cert.AdamDown.Facts) (hAdamDownIdeal : Cert.AdamDownIdeal.Facts) (hAdamDownReferenceIdeal : Cert.AdamDownReferenceIdeal.Facts) (hAdamGateUp : Cert.AdamGateUp.Facts) (hAdamGateUpIdeal : Cert.AdamGateUpIdeal.Facts) (hAdamGateUpReferenceIdeal : Cert.AdamGateUpReferenceIdeal.Facts) (hAdamOut : Cert.AdamOut.Facts) (hAdamOutIdeal : Cert.AdamOutIdeal.Facts) (hAdamOutReferenceIdeal : Cert.AdamOutReferenceIdeal.Facts) (hAdamIn : Cert.AdamIn.Facts) (hAdamInIdeal : Cert.AdamInIdeal.Facts) (hAdamInReferenceIdeal : Cert.AdamInReferenceIdeal.Facts) (hPre_finite : Cert.Pre_finite.Facts) (hPre_finite_enter : Cert.Pre_finite_enter.Facts) (hPre_device_small : Cert.Pre_device_small.Facts) (hPre_device_adam_down : Cert.Pre_device_adam_down.Facts) (hPre_device_adam_gu : Cert.Pre_device_adam_gu.Facts) (hPre_device_adam_out : Cert.Pre_device_adam_out.Facts) (hPre_device_adam_in : Cert.Pre_device_adam_in.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Down (hDown := hDown)
    ∧ quiescent_DownIdeal (hDownIdeal := hDownIdeal)
    ∧ quiescent_DownReferenceIdeal (hDownReferenceIdeal := hDownReferenceIdeal)
    ∧ quiescent_GateUp (hGateUp := hGateUp)
    ∧ quiescent_GateUpIdeal (hGateUpIdeal := hGateUpIdeal)
    ∧ quiescent_GateUpReferenceIdeal (hGateUpReferenceIdeal := hGateUpReferenceIdeal)
    ∧ quiescent_In (hIn := hIn)
    ∧ quiescent_InIdeal (hInIdeal := hInIdeal)
    ∧ quiescent_InReferenceIdeal (hInReferenceIdeal := hInReferenceIdeal)
    ∧ quiescent_Enter (hEnter := hEnter)
    ∧ quiescent_EnterIdeal (hEnterIdeal := hEnterIdeal)
    ∧ quiescent_EnterIdeal_pre_finite_enter (hEnterIdeal := hEnterIdeal) (hPre_finite_enter := hPre_finite_enter)
    ∧ quiescent_EnterReferenceIdeal (hEnterReferenceIdeal := hEnterReferenceIdeal)
    ∧ quiescent_EnterReferenceIdeal_pre_finite_enter (hEnterReferenceIdeal := hEnterReferenceIdeal) (hPre_finite_enter := hPre_finite_enter)
    ∧ quiescent_Small (hSmall := hSmall)
    ∧ quiescent_SmallIdeal (hSmallIdeal := hSmallIdeal)
    ∧ quiescent_SmallIdeal_pre_device_small (hSmallIdeal := hSmallIdeal) (hPre_device_small := hPre_device_small)
    ∧ quiescent_SmallReferenceIdeal (hSmallReferenceIdeal := hSmallReferenceIdeal)
    ∧ quiescent_SmallReferenceIdeal_pre_device_small (hSmallReferenceIdeal := hSmallReferenceIdeal) (hPre_device_small := hPre_device_small)
    ∧ quiescent_AdamDown (hAdamDown := hAdamDown) (hPre_device_adam_down := hPre_device_adam_down)
    ∧ quiescent_AdamDownIdeal (hAdamDownIdeal := hAdamDownIdeal) (hPre_device_adam_down := hPre_device_adam_down)
    ∧ quiescent_AdamDownReferenceIdeal (hAdamDownReferenceIdeal := hAdamDownReferenceIdeal)
    ∧ quiescent_AdamDownReferenceIdeal_pre_device_adam_down (hAdamDownReferenceIdeal := hAdamDownReferenceIdeal) (hPre_device_adam_down := hPre_device_adam_down)
    ∧ quiescent_AdamGateUp (hAdamGateUp := hAdamGateUp) (hPre_device_adam_gu := hPre_device_adam_gu)
    ∧ quiescent_AdamGateUpIdeal (hAdamGateUpIdeal := hAdamGateUpIdeal) (hPre_device_adam_gu := hPre_device_adam_gu)
    ∧ quiescent_AdamGateUpReferenceIdeal (hAdamGateUpReferenceIdeal := hAdamGateUpReferenceIdeal)
    ∧ quiescent_AdamGateUpReferenceIdeal_pre_device_adam_gu (hAdamGateUpReferenceIdeal := hAdamGateUpReferenceIdeal) (hPre_device_adam_gu := hPre_device_adam_gu)
    ∧ quiescent_AdamOut (hAdamOut := hAdamOut) (hPre_device_adam_out := hPre_device_adam_out)
    ∧ quiescent_AdamOutIdeal (hAdamOutIdeal := hAdamOutIdeal) (hPre_device_adam_out := hPre_device_adam_out)
    ∧ quiescent_AdamOutReferenceIdeal (hAdamOutReferenceIdeal := hAdamOutReferenceIdeal)
    ∧ quiescent_AdamOutReferenceIdeal_pre_device_adam_out (hAdamOutReferenceIdeal := hAdamOutReferenceIdeal) (hPre_device_adam_out := hPre_device_adam_out)
    ∧ quiescent_AdamIn (hAdamIn := hAdamIn) (hPre_device_adam_in := hPre_device_adam_in)
    ∧ quiescent_AdamInIdeal (hAdamInIdeal := hAdamInIdeal) (hPre_device_adam_in := hPre_device_adam_in)
    ∧ quiescent_AdamInReferenceIdeal (hAdamInReferenceIdeal := hAdamInReferenceIdeal)
    ∧ quiescent_AdamInReferenceIdeal_pre_device_adam_in (hAdamInReferenceIdeal := hAdamInReferenceIdeal) (hPre_device_adam_in := hPre_device_adam_in)
    ∧ preserves_Kernel_KernelIdeal
    ∧ algebraic_KernelIdeal_ReferenceIdeal_pre_finite (hKernelIdeal := hKernelIdeal) (hReferenceIdeal := hReferenceIdeal) (hPre_finite := hPre_finite)
    ∧ preserves_Down_DownIdeal
    ∧ algebraic_DownIdeal_DownReferenceIdeal (hDownIdeal := hDownIdeal) (hDownReferenceIdeal := hDownReferenceIdeal)
    ∧ preserves_GateUp_GateUpIdeal
    ∧ algebraic_GateUpIdeal_GateUpReferenceIdeal (hGateUpIdeal := hGateUpIdeal) (hGateUpReferenceIdeal := hGateUpReferenceIdeal)
    ∧ preserves_In_InIdeal
    ∧ algebraic_InIdeal_InReferenceIdeal (hInIdeal := hInIdeal) (hInReferenceIdeal := hInReferenceIdeal)
    ∧ preserves_Enter_EnterIdeal
    ∧ algebraic_EnterIdeal_EnterReferenceIdeal_pre_finite_enter (hEnterIdeal := hEnterIdeal) (hEnterReferenceIdeal := hEnterReferenceIdeal) (hPre_finite_enter := hPre_finite_enter)
    ∧ preserves_Small_SmallIdeal
    ∧ algebraic_SmallIdeal_SmallReferenceIdeal_pre_device_small (hSmallIdeal := hSmallIdeal) (hSmallReferenceIdeal := hSmallReferenceIdeal) (hPre_device_small := hPre_device_small)
    ∧ preserves_AdamDown_AdamDownIdeal
    ∧ algebraic_AdamDownIdeal_AdamDownReferenceIdeal (hAdamDownIdeal := hAdamDownIdeal) (hAdamDownReferenceIdeal := hAdamDownReferenceIdeal) (hPre_device_adam_down := hPre_device_adam_down)
    ∧ preserves_AdamGateUp_AdamGateUpIdeal
    ∧ algebraic_AdamGateUpIdeal_AdamGateUpReferenceIdeal (hAdamGateUpIdeal := hAdamGateUpIdeal) (hAdamGateUpReferenceIdeal := hAdamGateUpReferenceIdeal) (hPre_device_adam_gu := hPre_device_adam_gu)
    ∧ preserves_AdamOut_AdamOutIdeal
    ∧ algebraic_AdamOutIdeal_AdamOutReferenceIdeal (hAdamOutIdeal := hAdamOutIdeal) (hAdamOutReferenceIdeal := hAdamOutReferenceIdeal) (hPre_device_adam_out := hPre_device_adam_out)
    ∧ preserves_AdamIn_AdamInIdeal
    ∧ algebraic_AdamInIdeal_AdamInReferenceIdeal (hAdamInIdeal := hAdamInIdeal) (hAdamInReferenceIdeal := hAdamInReferenceIdeal) (hPre_device_adam_in := hPre_device_adam_in)
-- ==== Pre_device_adam_down.lean ====
abbrev S1 : Shape := ⟨1, ![1]⟩
abbrev S352x1024 : Shape := ⟨2, ![352, 1024]⟩
abbrev S8x352x1024 : Shape := ⟨3, ![8, 352, 1024]⟩
abbrev S7x352x1024 : Shape := ⟨3, ![7, 352, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S352x1024 .f32) (main_arg2 : FVec F S352x1024 .f32) (main_arg3 : FVec F S352x1024 .f32) (main_arg4 : FVec F S8x352x1024 .bf16) (main_arg5 : FVec F S7x352x1024 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_device_adam_gu.lean ====
abbrev S1 : Shape := ⟨1, ![1]⟩
abbrev S704x1024 : Shape := ⟨2, ![704, 1024]⟩
abbrev S8x704x1024 : Shape := ⟨3, ![8, 704, 1024]⟩
abbrev S7x704x1024 : Shape := ⟨3, ![7, 704, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S704x1024 .f32) (main_arg2 : FVec F S704x1024 .f32) (main_arg3 : FVec F S704x1024 .f32) (main_arg4 : FVec F S8x704x1024 .bf16) (main_arg5 : FVec F S7x704x1024 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_device_adam_in.lean ====
abbrev S1 : Shape := ⟨1, ![1]⟩
abbrev S288x1024 : Shape := ⟨2, ![288, 1024]⟩
abbrev S8x288x1024 : Shape := ⟨3, ![8, 288, 1024]⟩
abbrev S7x288x1024 : Shape := ⟨3, ![7, 288, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S288x1024 .f32) (main_arg2 : FVec F S288x1024 .f32) (main_arg3 : FVec F S288x1024 .f32) (main_arg4 : FVec F S8x288x1024 .bf16) (main_arg5 : FVec F S7x288x1024 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_device_adam_out.lean ====
abbrev S1 : Shape := ⟨1, ![1]⟩
abbrev S128x1024 : Shape := ⟨2, ![128, 1024]⟩
abbrev S8x128x1024 : Shape := ⟨3, ![8, 128, 1024]⟩
abbrev S7x128x1024 : Shape := ⟨3, ![7, 128, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S128x1024 .f32) (main_arg2 : FVec F S128x1024 .f32) (main_arg3 : FVec F S128x1024 .f32) (main_arg4 : FVec F S8x128x1024 .bf16) (main_arg5 : FVec F S7x128x1024 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_device_small.lean ====
abbrev S1 : Shape := ⟨1, ![1]⟩
abbrev S8x1x12032 : Shape := ⟨3, ![8, 1, 12032]⟩
abbrev S8x32x128 : Shape := ⟨3, ![8, 32, 128]⟩
abbrev S8x32 : Shape := ⟨2, ![8, 32]⟩
abbrev S1x6144 : Shape := ⟨2, ![1, 6144]⟩
abbrev S1x1024 : Shape := ⟨2, ![1, 1024]⟩
abbrev S1x8 : Shape := ⟨2, ![1, 8]⟩
abbrev S3x1x64 : Shape := ⟨3, ![3, 1, 64]⟩
abbrev S1x512 : Shape := ⟨2, ![1, 512]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x1x12032 .f32) (main_arg2 : FVec F S8x32x128 .f32) (main_arg3 : FVec F S8x32 .f32) (main_arg4 : FVec F S8x32 .f32) (main_arg5 : FVec F S8x32 .f32) (main_arg6 : FVec F S1x6144 .f32) (main_arg7 : FVec F S1x6144 .f32) (main_arg8 : FVec F S1x6144 .f32) (main_arg9 : FVec F S1x1024 .f32) (main_arg10 : FVec F S1x1024 .f32) (main_arg11 : FVec F S1x1024 .f32) (main_arg12 : FVec F S1x8 .f32) (main_arg13 : FVec F S1x8 .f32) (main_arg14 : FVec F S1x8 .f32) (main_arg15 : FVec F S3x1x64 .f32) (main_arg16 : FVec F S3x1x64 .f32) (main_arg17 : FVec F S3x1x64 .f32) (main_arg18 : FVec F S1x512 .f32) (main_arg19 : FVec F S1x512 .f32) (main_arg20 : FVec F S1x512 .f32) (main_arg21 : FVec F S1x512 .f32) (main_arg22 : FVec F S1x512 .f32) (main_arg23 : FVec F S1x512 .f32) (main_arg24 : FVec F S1x1024 .f32) (main_arg25 : FVec F S1x1024 .f32) (main_arg26 : FVec F S1x1024 .f32) (main_arg27 : FVec F S1x1024 .f32) (main_arg28 : FVec F S1x1024 .f32) (main_arg29 : FVec F S1x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_finite.lean ====
abbrev S4096x1024 : Shape := ⟨2, ![4096, 1024]⟩
abbrev S8x1024 : Shape := ⟨2, ![8, 1024]⟩
abbrev S1x1024 : Shape := ⟨2, ![1, 1024]⟩
abbrev S1024x5632 : Shape := ⟨2, ![1024, 5632]⟩
abbrev S2816x1024 : Shape := ⟨2, ![2816, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  bitsLt_bf16_f32 : FTy.bits .bf16 < FTy.bits .f32
  bcast_S_S8x1024 : S_.BroadcastsInDim S8x1024 (![] : Fin 0 → Fin S8x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)
  bcast_S_S1024x1024 : S_.BroadcastsInDim S1024x1024 (![] : Fin 0 → Fin S1024x1024.rank)

variable [Facts]

def fn_part1 {F : FTy → Type} [FloatOps F] (main_arg6 : FVec F S1024x1024 .bf16) (main_arg7 : FVec F S1x1024 .f32) (main_arg8 : FVec F S4096x1024 .f32) (main_v2 : IVec S4096x1024 1) (main_v6 : IVec S4096x1024 1) (main_v9 : IVec S8x1024 1) (main_v12 : IVec S1x1024 1) (main_v16 : IVec S1024x5632 1) (main_v18 : FVec F S2816x1024 .f32) : IVec S4096x1024 1 × IVec S4096x1024 1 × IVec S8x1024 1 × IVec S1x1024 1 × IVec S1024x5632 1 × IVec S2816x1024 1 × IVec S1024x1024 1 × IVec S1x1024 1 × IVec S4096x1024 1 :=
  let main_cst_4 : FVec F S_ .f32 := constant S_ .f32 0x7F800000#32
  let main_v19 : FVec F S2816x1024 .f32 := broadcastInDim S2816x1024 ![] bcast_S_S2816x1024 main_cst_4
  let main_v20 : IVec S2816x1024 1 := cmpf .olt main_v18 main_v19
  let main_v21 : FVec F S1024x1024 .f32 := (extf .f32 · bitsLt_bf16_f32) main_arg6
  let main_v22 : FVec F S1024x1024 .f32 := Host.absf main_v21
  let main_cst_5 : FVec F S_ .f32 := constant S_ .f32 0x7F800000#32
  let main_v23 : FVec F S1024x1024 .f32 := broadcastInDim S1024x1024 ![] bcast_S_S1024x1024 main_cst_5
  let main_v24 : IVec S1024x1024 1 := cmpf .olt main_v22 main_v23
  let main_v25 : FVec F S1x1024 .f32 := Host.absf main_arg7
  let main_cst_6 : FVec F S_ .f32 := constant S_ .f32 0x7F800000#32
  let main_v26 : FVec F S1x1024 .f32 := broadcastInDim S1x1024 ![] bcast_S_S1x1024 main_cst_6
  let main_v27 : IVec S1x1024 1 := cmpf .olt main_v25 main_v26
  let main_v28 : FVec F S4096x1024 .f32 := Host.absf main_arg8
  let main_cst_7 : FVec F S_ .f32 := constant S_ .f32 0x7F800000#32
  let main_v29 : FVec F S4096x1024 .f32 := broadcastInDim S4096x1024 ![] bcast_S_S4096x1024 main_cst_7
  let main_v30 : IVec S4096x1024 1 := cmpf .olt main_v28 main_v29
  (main_v2, main_v6, main_v9, main_v12, main_v16, main_v20, main_v24, main_v27, main_v30)

def fn {F : FTy → Type} [FloatOps F] (main_arg0 : FVec F S4096x1024 .f32) (main_arg1 : FVec F S4096x1024 .bf16) (main_arg2 : FVec F S8x1024 .f32) (main_arg3 : FVec F S1x1024 .f32) (main_arg4 : FVec F S1024x5632 .bf16) (main_arg5 : FVec F S2816x1024 .bf16) (main_arg6 : FVec F S1024x1024 .bf16) (main_arg7 : FVec F S1x1024 .f32) (main_arg8 : FVec F S4096x1024 .f32) : IVec S4096x1024 1 × IVec S4096x1024 1 × IVec S8x1024 1 × IVec S1x1024 1 × IVec S1024x5632 1 × IVec S2816x1024 1 × IVec S1024x1024 1 × IVec S1x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := (extf .f32 · bitsLt_bf16_f32) main_arg1
  let main_v4 : FVec F S4096x1024 .f32 := Host.absf main_v3
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_v7 : FVec F S8x1024 .f32 := Host.absf main_arg2
  let main_cst_1 : FVec F S_ .f32 := constant S_ .f32 0x7F800000#32
  let main_v8 : FVec F S8x1024 .f32 := broadcastInDim S8x1024 ![] bcast_S_S8x1024 main_cst_1
  let main_v9 : IVec S8x1024 1 := cmpf .olt main_v7 main_v8
  let main_v10 : FVec F S1x1024 .f32 := Host.absf main_arg3
  let main_cst_2 : FVec F S_ .f32 := constant S_ .f32 0x7F800000#32
  let main_v11 : FVec F S1x1024 .f32 := broadcastInDim S1x1024 ![] bcast_S_S1x1024 main_cst_2
  let main_v12 : IVec S1x1024 1 := cmpf .olt main_v10 main_v11
  let main_v13 : FVec F S1024x5632 .f32 := (extf .f32 · bitsLt_bf16_f32) main_arg4
  let main_v14 : FVec F S1024x5632 .f32 := Host.absf main_v13
  let main_cst_3 : FVec F S_ .f32 := constant S_ .f32 0x7F800000#32
  let main_v15 : FVec F S1024x5632 .f32 := broadcastInDim S1024x5632 ![] bcast_S_S1024x5632 main_cst_3
  let main_v16 : IVec S1024x5632 1 := cmpf .olt main_v14 main_v15
  let main_v17 : FVec F S2816x1024 .f32 := (extf .f32 · bitsLt_bf16_f32) main_arg5
  let main_v18 : FVec F S2816x1024 .f32 := Host.absf main_v17
  fn_part1 (F := F) main_arg6 main_arg7 main_arg8 main_v2 main_v6 main_v9 main_v12 main_v16 main_v18
-- ==== Pre_finite_enter.lean ====
abbrev S8x128 : Shape := ⟨2, ![8, 128]⟩
abbrev S4096x2304 : Shape := ⟨2, ![4096, 2304]⟩
abbrev S4096x1024 : Shape := ⟨2, ![4096, 1024]⟩
abbrev S8x1024 : Shape := ⟨2, ![8, 1024]⟩
abbrev S1x1024 : Shape := ⟨2, ![1, 1024]⟩
abbrev S1024x2304 : Shape := ⟨2, ![1024, 2304]⟩
abbrev S_ : Shape := ⟨0, ![]⟩

class Facts : Prop where
  bitsLt_bf16_f32 : FTy.bits .bf16 < FTy.bits .f32
  bcast_S_S4096x2304 : S_.BroadcastsInDim S4096x2304 (![] : Fin 0 → Fin S4096x2304.rank)
  bcast_S_S4096x1024 : S_.BroadcastsInDim S4096x1024 (![] : Fin 0 → Fin S4096x1024.rank)
  bcast_S_S8x1024 : S_.BroadcastsInDim S8x1024 (![] : Fin 0 → Fin S8x1024.rank)
  bcast_S_S1x1024 : S_.BroadcastsInDim S1x1024 (![] : Fin 0 → Fin S1x1024.rank)
  bcast_S_S1024x2304 : S_.BroadcastsInDim S1024x2304 (![] : Fin 0 → Fin S1024x2304.rank)

variable [Facts]

def fn_part1 {F : FTy → Type} [FloatOps F] (main_v3 : IVec S4096x2304 1) (main_v6 : IVec S4096x1024 1) (main_v10 : IVec S4096x1024 1) (main_v13 : IVec S8x1024 1) (main_v16 : IVec S1x1024 1) (main_v18 : FVec F S1024x2304 .f32) : IVec S4096x2304 1 × IVec S4096x1024 1 × IVec S4096x1024 1 × IVec S8x1024 1 × IVec S1x1024 1 × IVec S1024x2304 1 :=
  let main_cst_4 : FVec F S_ .f32 := constant S_ .f32 0x7F800000#32
  let main_v19 : FVec F S1024x2304 .f32 := broadcastInDim S1024x2304 ![] bcast_S_S1024x2304 main_cst_4
  let main_v20 : IVec S1024x2304 1 := cmpf .olt main_v18 main_v19
  (main_v3, main_v6, main_v10, main_v13, main_v16, main_v20)

def fn {F : FTy → Type} [FloatOps F] (main_arg0 : FVec F S8x128 .f32) (main_arg1 : FVec F S4096x2304 .bf16) (main_arg2 : FVec F S4096x1024 .f32) (main_arg3 : FVec F S4096x1024 .bf16) (main_arg4 : FVec F S8x1024 .f32) (main_arg5 : FVec F S1x1024 .f32) (main_arg6 : FVec F S1024x2304 .bf16) : IVec S4096x2304 1 × IVec S4096x1024 1 × IVec S4096x1024 1 × IVec S8x1024 1 × IVec S1x1024 1 × IVec S1024x2304 1 :=
  let main_v0 : FVec F S4096x2304 .f32 := (extf .f32 · bitsLt_bf16_f32) main_arg1
  let main_v1 : FVec F S4096x2304 .f32 := Host.absf main_v0
  let main_cst : FVec F S_ .f32 := constant S_ .f32 0x7F800000#32
  let main_v2 : FVec F S4096x2304 .f32 := broadcastInDim S4096x2304 ![] bcast_S_S4096x2304 main_cst
  let main_v3 : IVec S4096x2304 1 := cmpf .olt main_v1 main_v2
  let main_v4 : FVec F S4096x1024 .f32 := Host.absf main_arg2
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_v7 : FVec F S4096x1024 .f32 := (extf .f32 · bitsLt_bf16_f32) main_arg3
  let main_v8 : FVec F S4096x1024 .f32 := Host.absf main_v7
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S8x1024 .f32 := Host.absf main_arg4
  let main_cst_2 : FVec F S_ .f32 := constant S_ .f32 0x7F800000#32
  let main_v12 : FVec F S8x1024 .f32 := broadcastInDim S8x1024 ![] bcast_S_S8x1024 main_cst_2
  let main_v13 : IVec S8x1024 1 := cmpf .olt main_v11 main_v12
  let main_v14 : FVec F S1x1024 .f32 := Host.absf main_arg5
  let main_cst_3 : FVec F S_ .f32 := constant S_ .f32 0x7F800000#32
  let main_v15 : FVec F S1x1024 .f32 := broadcastInDim S1x1024 ![] bcast_S_S1x1024 main_cst_3
  let main_v16 : IVec S1x1024 1 := cmpf .olt main_v14 main_v15
  let main_v17 : FVec F S1024x2304 .f32 := (extf .f32 · bitsLt_bf16_f32) main_arg6
  let main_v18 : FVec F S1024x2304 .f32 := Host.absf main_v17
  fn_part1 (F := F) main_v3 main_v6 main_v10 main_v13 main_v16 main_v18
-- ==== Kernel.lean ====
abbrev S4096x1024 : Shape := ⟨2, ![4096, 1024]⟩
abbrev S8x1024 : Shape := ⟨2, ![8, 1024]⟩
abbrev S1x1024 : Shape := ⟨2, ![1, 1024]⟩
abbrev S1024x5632 : Shape := ⟨2, ![1024, 5632]⟩
abbrev S2816x1024 : Shape := ⟨2, ![2816, 1024]⟩
abbrev S1024x1024 : Shape := ⟨2, ![1024, 1024]⟩
abbrev S5632x1024 : Shape := ⟨2, ![5632, 1024]⟩
abbrev S4096x2816 : Shape := ⟨2, ![4096, 2816]⟩
abbrev S4096x5632 : Shape := ⟨2, ![4096, 5632]⟩
abbrev S256x1024 : Shape := ⟨2, ![256, 1024]⟩
abbrev S256x2816 : Shape := ⟨2, ![256, 2816]⟩
abbrev S256x5632 : Shape := ⟨2, ![256, 5632]⟩
abbrev S256 : Shape := ⟨1, ![256]⟩
abbrev S256x1 : Shape := ⟨2, ![256, 1]⟩
abbrev S1024 : Shape := ⟨1, ![1024]⟩
abbrev S1 : Shape := ⟨1, ![1]⟩
abbrev S1x1 : Shape := ⟨2, ![1, 1]⟩

abbrev nBuf : Space → Nat
  | .hbm => 24
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S8x1024, .f32⟩
  | .hbm, ⟨3, _⟩ => ⟨S1x1024, .f32⟩
  | .hbm, ⟨4, _⟩ => ⟨S1024x5632, .bf16⟩
  | .hbm, ⟨5, _⟩ => ⟨S2816x1024, .bf16⟩
  | .hbm, ⟨6, _⟩ => ⟨S1024x1024, .bf16⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .bf16⟩
  | .hbm, ⟨15, _⟩ => ⟨S5632x1024, .bf16⟩
  | .hbm, ⟨16, _⟩ => ⟨S4096x1024, .bf16⟩
  | .hbm, ⟨17, _⟩ => ⟨S4096x2816, .bf16⟩
  | .hbm, ⟨18, _⟩ => ⟨S4096x1024, .bf16⟩
  | .hbm, ⟨19, _⟩ => ⟨S4096x5632, .bf16⟩
  | .hbm, ⟨20, _⟩ => ⟨S4096x1024, .bf16⟩
  | .hbm, ⟨21, _⟩ => ⟨S1024x1024, .bf16⟩
  | .hbm, ⟨22, _⟩ => ⟨S4096x1024, .bf16⟩
  | .hbm, ⟨23, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S8x1024, .f32⟩
  | .local _ .vmem, ⟨7, _⟩ => ⟨S1x1024, .f32⟩
  | .local _ .vmem, ⟨8, _⟩ => ⟨S5632x1024, .bf16⟩
  | .local _ .vmem, ⟨9, _⟩ => ⟨S2816x1024, .bf16⟩
  | .local _ .vmem, ⟨10, _⟩ => ⟨S1024x1024, .bf16⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x2816, .bf16⟩
  | .local _ .vmem, ⟨17, _⟩ => ⟨S256x2816, .bf16⟩
  | .local _ .vmem, ⟨18, _⟩ => ⟨S256x1024, .bf16⟩
  | .local _ .vmem, ⟨19, _⟩ => ⟨S256x1024, .bf16⟩
  | .local _ .vmem, ⟨20, _⟩ => ⟨S256x5632, .bf16⟩
  | .local _ .vmem, ⟨21, _⟩ => ⟨S256x5632, .bf16⟩
  | .local _ .vmem, ⟨22, _⟩ => ⟨S256x1024, .bf16⟩
  | .local _ .vmem, ⟨23, _⟩ => ⟨S256x1024, .bf16⟩
  | .local _ .vmem, ⟨24, _⟩ => ⟨S1024x1024, .bf16⟩
  | .local _ .vmem, ⟨25, _⟩ => ⟨S256x1024, .bf16⟩
  | .local _ .vmem, ⟨26, _⟩ => ⟨S256x1024, .bf16⟩
  | .local _ .vmem, ⟨27, _⟩ => ⟨S8x1024, .f32⟩
  | .local _ .vmem, ⟨28, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev main_v7_5 : Ref sig .tc := ⟨.hbm, 21, rfl⟩
abbrev main_v7_6 : Ref sig .tc := ⟨.hbm, 22, rfl⟩
abbrev main_v7_7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem16_0 : DmaSem sig := 25
abbrev cc0_sem16_1 : DmaSem sig := 26
abbrev cc0_sem17_0 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5632x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x5632 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S4096x1024 : Shape := ⟨2, ![4096, 1024]⟩
abbrev S8x1024 : Shape := ⟨2, ![8, 1024]⟩
abbrev S1x1024 : Shape := ⟨2, ![1, 1024]⟩
abbrev S1024x5632 : Shape := ⟨2, ![1024, 5632]⟩
abbrev S2816x1024 : Shape := ⟨2, ![2816, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1024 : Shape := ⟨1, ![1024]⟩

abbrev nBuf : Space → Nat
  | .hbm => 204
  | .vmem => 0
  | .smem => 0
  | _ => 0

abbrev hbmTy0_0 (i : Nat) : BufTy := match i % 128 with
  | 0 => ⟨S4096x1024, .f32⟩
  | 1 => ⟨S4096x1024, .bf16⟩
  | 2 => ⟨S8x1024, .f32⟩
  | 3 => ⟨S1x1024, .f32⟩
  | 4 => ⟨S1024x5632, .bf16⟩
  | 5 => ⟨S2816x1024, .bf16⟩
  | 6 => ⟨S1024x1024, .bf16⟩
  | 7 => ⟨S1x1024, .f32⟩
  | 8 => ⟨S4096x1024, .f32⟩
  | 9 => ⟨S4096x1024, .f32⟩
  | 10 => ⟨S1024x5632, .f32⟩
  | 11 => ⟨S2816x1024, .f32⟩
  | 12 => ⟨S1024x1024, .f32⟩
  | 13 => ⟨S1x1024, .f32⟩
  | 14 => ⟨S1x1024, .f32⟩
  | 15 => ⟨S1x1024, .f32⟩
  | 16 => ⟨S1x1024, .f32⟩
  | 17 => ⟨S1x1024, .f32⟩
  | 18 => ⟨S1x1024, .f32⟩
  | 19 => ⟨S4096x1024, .f32⟩
  | 20 => ⟨S4096x1024, .f32⟩
  | 21 => ⟨S4096x1024, .f32⟩
  | 22 => ⟨S4096x1024, .f32⟩
  | 23 => ⟨S4096x1024, .f32⟩
  | 24 => ⟨S_, .f32⟩
  | 25 => ⟨S4096, .f32⟩
  | 26 => ⟨S4096x1, .f32⟩
  | 27 => ⟨S_, .f32⟩
  | 28 => ⟨S4096x1, .f32⟩
  | 29 => ⟨S4096x1, .f32⟩
  | 30 => ⟨S_, .f32⟩
  | 31 => ⟨S4096x1, .f32⟩
  | 32 => ⟨S4096x1, .f32⟩
  | 33 => ⟨S4096x1, .f32⟩
  | 34 => ⟨S4096x1, .f32⟩
  | 35 => ⟨S_, .f32⟩
  | 36 => ⟨S4096x1, .f32⟩
  | 37 => ⟨S4096x1, .f32⟩
  | 38 => ⟨S4096x1024, .f32⟩
  | 39 => ⟨S4096x1024, .f32⟩
  | 40 => ⟨S4096x1024, .f32⟩
  | 41 => ⟨S4096x1024, .f32⟩
  | 42 => ⟨S_, .f32⟩
  | 43 => ⟨S1x1024, .f32⟩
  | 44 => ⟨S1x1024, .f32⟩
  | 45 => ⟨S4096x1024, .f32⟩
  | 46 => ⟨S4096x1024, .f32⟩
  | 47 => ⟨S4096x1024, .f32⟩
  | 48 => ⟨S4096x1024, .f32⟩
  | 49 => ⟨S4096x5632, .f32⟩
  | 50 => ⟨S4096x2816, .f32⟩
  | 51 => ⟨S4096x2816, .f32⟩
  | 52 => ⟨S4096x2816, .f32⟩
  | 53 => ⟨S4096x2816, .f32⟩
  | 54 => ⟨S_, .f32⟩
  | 55 => ⟨S4096x2816, .f32⟩
  | 56 => ⟨S4096x2816, .f32⟩
  | 57 => ⟨S_, .f32⟩
  | 58 => ⟨S4096x2816, .f32⟩
  | 59 => ⟨S4096x2816, .f32⟩
  | 60 => ⟨S_, .f32⟩
  | 61 => ⟨S4096x2816, .f32⟩
  | 62 => ⟨S4096x2816, .f32⟩
  | 63 => ⟨S4096x2816, .f32⟩
  | 64 => ⟨S4096x2816, .f32⟩
  | 65 => ⟨S4096x2816, .f32⟩
  | 66 => ⟨S4096x1024, .f32⟩
  | 67 => ⟨S4096x1024, .f32⟩
  | 68 => ⟨S4096x1024, .f32⟩
  | 69 => ⟨S4096x1024, .f32⟩
  | 70 => ⟨S4096x1024, .f32⟩
  | 71 => ⟨S_, .f32⟩
  | 72 => ⟨S4096, .f32⟩
  | 73 => ⟨S4096x1, .f32⟩
  | 74 => ⟨S_, .f32⟩
  | 75 => ⟨S4096x1, .f32⟩
  | 76 => ⟨S4096x1, .f32⟩
  | 77 => ⟨S_, .f32⟩
  | 78 => ⟨S4096x1, .f32⟩
  | 79 => ⟨S4096x1, .f32⟩
  | 80 => ⟨S4096x1, .f32⟩
  | 81 => ⟨S4096x1, .f32⟩
  | 82 => ⟨S_, .f32⟩
  | 83 => ⟨S4096x1, .f32⟩
  | 84 => ⟨S4096x1, .f32⟩
  | 85 => ⟨S4096x1024, .f32⟩
  | 86 => ⟨S4096x1024, .f32⟩
  | 87 => ⟨S4096x1024, .f32⟩
  | 88 => ⟨S4096x1024, .f32⟩
  | 89 => ⟨S4096x1024, .f32⟩
  | 90 => ⟨S4096x1024, .f32⟩
  | 91 => ⟨S_, .f32⟩
  | 92 => ⟨S4096x1024, .f32⟩
  | 93 => ⟨S4096x1024, .f32⟩
  | 94 => ⟨S_, .f32⟩
  | 95 => ⟨S4096, .f32⟩
  | 96 => ⟨S_, .f32⟩
  | 97 => ⟨S4096, .f32⟩
  | 98 => ⟨S4096, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S4096, .f32⟩
  | 107 => ⟨S_, .f32⟩
  | 108 => ⟨S4096, .f32⟩
  | 109 => ⟨S4096, .f32⟩
  | 110 => ⟨S4096x1024, .f32⟩
  | 111 => ⟨S4096x1024, .f32⟩
  | 112 => ⟨S4096x1024, .f32⟩
  | 113 => ⟨S_, .f32⟩
  | 114 => ⟨S1024, .f32⟩
  | 115 => ⟨S1x1024, .f32⟩
  | 116 => ⟨S4096x1024, .f32⟩
  | 117 => ⟨S4096x1024, .f32⟩
  | 118 => ⟨S4096x1024, .f32⟩
  | 119 => ⟨S_, .f32⟩
  | 120 => ⟨S4096, .f32⟩
  | 121 => ⟨S4096x1, .f32⟩
  | 122 => ⟨S4096x1024, .f32⟩
  | 123 => ⟨S4096x1024, .f32⟩
  | 124 => ⟨S4096x1, .f32⟩
  | 125 => ⟨S_, .f32⟩
  | 126 => ⟨S4096x1, .f32⟩
  | 127 => ⟨S4096x1, .f32⟩
  | _ => ⟨S4096x1024, .f32⟩

abbrev hbmTy0_1 (i : Nat) : BufTy := match i % 128 with
  | 0 => ⟨S_, .f32⟩
  | 1 => ⟨S4096, .f32⟩
  | 2 => ⟨S4096x1024, .f32⟩
  | 3 => ⟨S4096x1024, .f32⟩
  | 4 => ⟨S4096x1024, .f32⟩
  | 5 => ⟨S4096x1024, .f32⟩
  | 6 => ⟨S4096x1024, .f32⟩
  | 7 => ⟨S4096x1024, .f32⟩
  | 8 => ⟨S4096x1024, .f32⟩
  | 9 => ⟨S4096x1024, .f32⟩
  | 10 => ⟨S_, .f32⟩
  | 11 => ⟨S1024, .f32⟩
  | 12 => ⟨S1x1024, .f32⟩
  | 13 => ⟨S4096x2816, .f32⟩
  | 14 => ⟨S4096x2816, .f32⟩
  | 15 => ⟨S4096x2816, .f32⟩
  | 16 => ⟨S4096x2816, .f32⟩
  | 17 => ⟨S4096x2816, .f32⟩
  | 18 => ⟨S4096x2816, .f32⟩
  | 19 => ⟨S4096x2816, .f32⟩
  | 20 => ⟨S4096x5632, .f32⟩
  | 21 => ⟨S4096x1024, .f32⟩
  | 22 => ⟨S_, .f32⟩
  | 23 => ⟨S1024, .f32⟩
  | 24 => ⟨S1x1024, .f32⟩
  | 25 => ⟨S4096x1024, .f32⟩
  | 26 => ⟨S_, .f32⟩
  | 27 => ⟨S1024, .f32⟩
  | 28 => ⟨S1x1024, .f32⟩
  | 29 => ⟨S4096x1024, .f32⟩
  | 30 => ⟨S4096x1024, .f32⟩
  | 31 => ⟨S4096x1024, .f32⟩
  | 32 => ⟨S_, .f32⟩
  | 33 => ⟨S1024, .f32⟩
  | 34 => ⟨S1x1024, .f32⟩
  | 35 => ⟨S4096x1024, .f32⟩
  | 36 => ⟨S4096x1024, .f32⟩
  | 37 => ⟨S4096x1024, .f32⟩
  | 38 => ⟨S_, .f32⟩
  | 39 => ⟨S4096, .f32⟩
  | 40 => ⟨S4096x1, .f32⟩
  | 41 => ⟨S4096x1024, .f32⟩
  | 42 => ⟨S4096x1024, .f32⟩
  | 43 => ⟨S4096x1, .f32⟩
  | 44 => ⟨S_, .f32⟩
  | 45 => ⟨S4096x1, .f32⟩
  | 46 => ⟨S4096x1, .f32⟩
  | 47 => ⟨S_, .f32⟩
  | 48 => ⟨S4096, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S_, .f32⟩
  | 59 => ⟨S1024, .f32⟩
  | 60 => ⟨S1x1024, .f32⟩
  | 61 => ⟨S1024x1024, .f32⟩
  | 62 => ⟨S1024x1024, .f32⟩
  | 63 => ⟨S4096x1024, .f32⟩
  | 64 => ⟨S_, .f32⟩
  | 65 => ⟨S1024, .f32⟩
  | 66 => ⟨S1x1024, .f32⟩
  | 67 => ⟨S1x1024, .f32⟩
  | 68 => ⟨S8x1024, .f32⟩
  | 69 => ⟨S4096x1024, .bf16⟩
  | 70 => ⟨S4096x2816, .bf16⟩
  | 71 => ⟨S4096x1024, .bf16⟩
  | 72 => ⟨S4096x5632, .bf16⟩
  | 73 => ⟨S4096x1024, .bf16⟩
  | 74 => ⟨S1024x1024, .bf16⟩
  | 75 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_v38_2 : Ref sig .tc := ⟨.hbm, 59, rfl⟩
abbrev main_call0_cst_1 : Ref sig .tc := ⟨.hbm, 60, rfl⟩
abbrev main_call0_v6 : Ref sig .tc := ⟨.hbm, 61, rfl⟩
abbrev main_call0_v7 : Ref sig .tc := ⟨.hbm, 62, rfl⟩
abbrev main_v38_1 : Ref sig .tc := ⟨.hbm, 63, rfl⟩
abbrev main_v38_0 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_4 : Ref sig .tc := ⟨.hbm, 71, rfl⟩
abbrev main_v45 : Ref sig .tc := ⟨.hbm, 72, rfl⟩
abbrev main_v46 : Ref sig .tc := ⟨.hbm, 73, rfl⟩
abbrev main_cst_5 : Ref sig .tc := ⟨.hbm, 74, rfl⟩
abbrev main_v47 : Ref sig .tc := ⟨.hbm, 75, rfl⟩
abbrev main_v48 : Ref sig .tc := ⟨.hbm, 76, rfl⟩
abbrev main_cst_6 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_7 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_8 : Ref sig .tc := ⟨.hbm, 91, rfl⟩
abbrev main_v61 : Ref sig .tc := ⟨.hbm, 92, rfl⟩
abbrev main_v62 : Ref sig .tc := ⟨.hbm, 93, rfl⟩
abbrev main_cst_9 : Ref sig .tc := ⟨.hbm, 94, rfl⟩
abbrev main_v63 : Ref sig .tc := ⟨.hbm, 95, rfl⟩
abbrev main_cst_10 : Ref sig .tc := ⟨.hbm, 96, rfl⟩
abbrev main_v64 : Ref sig .tc := ⟨.hbm, 97, rfl⟩
abbrev main_v65 : Ref sig .tc := ⟨.hbm, 98, rfl⟩
abbrev main_cst_11 : Ref sig .tc := ⟨.hbm, 99, rfl⟩
abbrev main_v66 : Ref sig .tc := ⟨.hbm, 100, rfl⟩
abbrev main_cst_12 : Ref sig .tc := ⟨.hbm, 101, rfl⟩
abbrev main_v67 : Ref sig .tc := ⟨.hbm, 102, rfl⟩
abbrev main_cst_13 : Ref sig .tc := ⟨.hbm, 103, rfl⟩
abbrev main_cst_14 : Ref sig .tc := ⟨.hbm, 104, rfl⟩
abbrev main_v68 : Ref sig .tc := ⟨.hbm, 105, rfl⟩
abbrev main_v69 : Ref sig .tc := ⟨.hbm, 106, rfl⟩
abbrev main_cst_15 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_16 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_17 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_18 : Ref sig .tc := ⟨.hbm, 125, rfl⟩
abbrev main_v85 : Ref sig .tc := ⟨.hbm, 126, rfl⟩
abbrev main_v86 : Ref sig .tc := ⟨.hbm, 127, rfl⟩
abbrev main_cst_19 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_20 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_call1_v0 : Ref sig .tc := ⟨.hbm, 144, rfl⟩
abbrev main_call1_v1 : Ref sig .tc := ⟨.hbm, 145, rfl⟩
abbrev main_call1_v2 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_cst_21 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_cst_22 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_cst_23 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_cst_24 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_cst_25 : Ref sig .tc := ⟨.hbm, 172, rfl⟩
abbrev main_v122 : Ref sig .tc := ⟨.hbm, 173, rfl⟩
abbrev main_v123 : Ref sig .tc := ⟨.hbm, 174, rfl⟩
abbrev main_cst_26 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_cst_27 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_cst_28 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩

abbrev nD : Nat := 1
abbrev τ : Topo := Topo.v7x

variable {F : FTy → Type} [FloatOps F]
-- ==== Down.lean ====
abbrev S8x128 : Shape := ⟨2, ![8, 128]⟩
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8x128, .f32⟩
  | .hbm, ⟨1, _⟩ => ⟨S4096x2816, .bf16⟩
  | .hbm, ⟨2, _⟩ => ⟨S4096x1024, .bf16⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownReferenceIdeal.lean ====
abbrev S8x128 : Shape := ⟨2, ![8, 128]⟩
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S4096x2816, .bf16⟩
  | .hbm, ⟨2, _⟩ => ⟨S4096x1024, .bf16⟩
  | .hbm, ⟨3, _⟩ => ⟨S_, .f32⟩
  | .hbm, ⟨4, _⟩ => ⟨S2816x1024, .f32⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== GateUp.lean ====
abbrev S8x128 : Shape := ⟨2, ![8, 128]⟩
abbrev S4096x5632 : Shape := ⟨2, ![4096, 5632]⟩
abbrev S4096x1024 : Shape := ⟨2, ![4096, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8x128, .f32⟩
  | .hbm, ⟨1, _⟩ => ⟨S4096x5632, .bf16⟩
  | .hbm, ⟨2, _⟩ => ⟨S4096x1024, .bf16⟩
  | .hbm, ⟨3, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GateUpReferenceIdeal.lean ====
abbrev S8x128 : Shape := ⟨2, ![8, 128]⟩
abbrev S4096x5632 : Shape := ⟨2, ![4096, 5632]⟩
abbrev S4096x1024 : Shape := ⟨2, ![4096, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S4096x5632, .bf16⟩
  | .hbm, ⟨2, _⟩ => ⟨S4096x1024, .bf16⟩
  | .hbm, ⟨3, _⟩ => ⟨S_, .f32⟩
  | .hbm, ⟨4, _⟩ => ⟨S1024x5632, .f32⟩
  | .hbm, ⟨5, _⟩ => ⟨S4096x1024, .f32⟩
  | .hbm, ⟨6, _⟩ => ⟨S4096x5632, .f32⟩
  | .hbm, ⟨7, _⟩ => ⟨S4096x5632, .f32⟩
  | .hbm, ⟨8, _⟩ => ⟨S5632x1024, .f32⟩
  | .hbm, ⟨9, _⟩ => ⟨S1024x5632, .f32⟩
  | .hbm, ⟨10, _⟩ => ⟨S5632x1024, .f32⟩
  | .hbm, ⟨11, _⟩ => ⟨S5632x1024, .bf16⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== In.lean ====
abbrev S4096x2304 : Shape := ⟨2, ![4096, 2304]⟩
abbrev S4096x1024 : Shape := ⟨2, ![4096, 1024]⟩
abbrev S2304x1024 : Shape := ⟨2, ![2304, 1024]⟩
abbrev S2048x1152 : Shape := ⟨2, ![2048, 1152]⟩
abbrev S2048x1024 : Shape := ⟨2, ![2048, 1024]⟩
abbrev S1152x1024 : Shape := ⟨2, ![1152, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2304, .bf16⟩
  | .hbm, ⟨1, _⟩ => ⟨S4096x1024, .bf16⟩
  | .hbm, ⟨2, _⟩ => ⟨S2304x1024, .bf16⟩
  | .local _ .vmem, ⟨0, _⟩ => ⟨S2048x1152, .bf16⟩
  | .local _ .vmem, ⟨1, _⟩ => ⟨S2048x1152, .bf16⟩
  | .local _ .vmem, ⟨2, _⟩ => ⟨S2048x1024, .bf16⟩
  | .local _ .vmem, ⟨3, _⟩ => ⟨S2048x1024, .bf16⟩
  | .local _ .vmem, ⟨4, _⟩ => ⟨S1152x1024, .bf16⟩
  | .local _ .vmem, ⟨5, _⟩ => ⟨S1152x1024, .bf16⟩
  | .local _ .vmem, ⟨6, _⟩ => ⟨S1152x1024, .f32⟩
  | _, _ => ⟨S4096x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InReferenceIdeal.lean ====
abbrev S4096x2304 : Shape := ⟨2, ![4096, 2304]⟩
abbrev S4096x1024 : Shape := ⟨2, ![4096, 1024]⟩
abbrev S_ : Shape := ⟨0, ![]⟩
abbrev S1024x2304 : Shape := ⟨2, ![1024, 2304]⟩
abbrev S2304x1024 : Shape := ⟨2, ![2304, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2304, .bf16⟩
  | .hbm, ⟨1, _⟩ => ⟨S4096x1024, .bf16⟩
  | .hbm, ⟨2, _⟩ => ⟨S_, .f32⟩
  | .hbm, ⟨3, _⟩ => ⟨S1024x2304, .f32⟩
  | .hbm, ⟨4, _⟩ => ⟨S4096x1024, .f32⟩
  | .hbm, ⟨5, _⟩ => ⟨S4096x2304, .f32⟩
  | .hbm, ⟨6, _⟩ => ⟨S4096x2304, .f32⟩
  | .hbm, ⟨7, _⟩ => ⟨S2304x1024, .f32⟩
  | .hbm, ⟨8, _⟩ => ⟨S1024x2304, .f32⟩
  | .hbm, ⟨9, _⟩ => ⟨S2304x1024, .f32⟩
  | .hbm, ⟨10, _⟩ => ⟨S2304x1024, .bf16⟩
  | _, _ => ⟨S4096x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Enter.lean ====
abbrev S8x128 : Shape := ⟨2, ![8, 128]⟩
abbrev S4096x2304 : Shape := ⟨2, ![4096, 2304]⟩
abbrev S4096x1024 : Shape := ⟨2, ![4096, 1024]⟩
abbrev S8x1024 : Shape := ⟨2, ![8, 1024]⟩
abbrev S1x1024 : Shape := ⟨2, ![1, 1024]⟩
abbrev S1024x2304 : Shape := ⟨2, ![1024, 2304]⟩
abbrev S2304x1024 : Shape := ⟨2, ![2304, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 12
  | .smem => 0
  | _ => 0

abbrev bufTy : (tb : Table) → Fin (tcTables nBuf tb) → BufTy
  | .hbm, ⟨0, _⟩ => ⟨S8x128, .f32⟩
  | .hbm, ⟨1, _⟩ => ⟨S4096x2304, .bf16⟩
  | .hbm, ⟨2, _⟩ => ⟨S4096x1024, .f32⟩
  | .hbm, ⟨3, _⟩ => ⟨S4096x1024, .bf16⟩
  | .hbm, ⟨4, _⟩ => ⟨S8x1024, .f32⟩
  | .hbm, ⟨5, _⟩ => ⟨S1x1024, .f32⟩
  | .hbm, ⟨6, _⟩ => ⟨S1024x2304, .bf16⟩
  | .hbm, ⟨7, _⟩ => ⟨S2304x1024, .bf16⟩
  | .hbm, ⟨8, _⟩ => ⟨S4096x1024, .f32⟩
  | .hbm, ⟨9, _⟩ => ⟨S8x1024, .f32⟩
  | .local _ .vmem, ⟨0, _⟩ => ⟨S1024x2304, .bf16⟩
  | .local _ .vmem, ⟨1, _⟩ => ⟨S1024x2304, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S8x1024, .f32⟩
  | .local _ .vmem, ⟨7, _⟩ => ⟨S1x1024, .f32⟩
  | .local _ .vmem, ⟨8, _⟩ => ⟨S2304x1024, .bf16⟩
  | .local _ .vmem, ⟨9, _⟩ => ⟨S1024x1024, .f32⟩
  | .local _ .vmem, ⟨10, _⟩ => ⟨S1024x1024, .f32⟩
  | .local _ .vmem, ⟨11, _⟩ => ⟨S8x1024, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![4], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2304x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== EnterReferenceIdeal.lean ====
abbrev S8x128 : Shape := ⟨2, ![8, 128]⟩
abbrev S4096x2304 : Shape := ⟨2, ![4096, 2304]⟩
abbrev S4096x1024 : Shape := ⟨2, ![4096, 1024]⟩
abbrev S8x1024 : Shape := ⟨2, ![8, 1024]⟩
abbrev S1x1024 : Shape := ⟨2, ![1, 1024]⟩
abbrev S1024x2304 : Shape := ⟨2, ![1024, 2304]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 76
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S4096x2304, .bf16⟩
  | .hbm, ⟨2, _⟩ => ⟨S4096x1024, .f32⟩
  | .hbm, ⟨3, _⟩ => ⟨S4096x1024, .bf16⟩
  | .hbm, ⟨4, _⟩ => ⟨S8x1024, .f32⟩
  | .hbm, ⟨5, _⟩ => ⟨S1x1024, .f32⟩
  | .hbm, ⟨6, _⟩ => ⟨S1024x2304, .bf16⟩
  | .hbm, ⟨7, _⟩ => ⟨S4096x2304, .f32⟩
  | .hbm, ⟨8, _⟩ => ⟨S4096x1024, .f32⟩
  | .hbm, ⟨9, _⟩ => ⟨S1024x2304, .f32⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x2304, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S1x1024, .f32⟩
  | .hbm, ⟨74, _⟩ => ⟨S4096x1024, .f32⟩
  | .hbm, ⟨75, _⟩ => ⟨S8x1024, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Small.lean ====
abbrev S1 : Shape := ⟨1, ![1]⟩
abbrev S8x1x12032 : Shape := ⟨3, ![8, 1, 12032]⟩
abbrev S8x32x128 : Shape := ⟨3, ![8, 32, 128]⟩
abbrev S8x32 : Shape := ⟨2, ![8, 32]⟩
abbrev S1x6144 : Shape := ⟨2, ![1, 6144]⟩
abbrev S1x1024 : Shape := ⟨2, ![1, 1024]⟩
abbrev S1x8 : Shape := ⟨2, ![1, 8]⟩
abbrev S3x1x64 : Shape := ⟨3, ![3, 1, 64]⟩
abbrev S1x512 : Shape := ⟨2, ![1, 512]⟩
abbrev S1x128 : Shape := ⟨2, ![1, 128]⟩
abbrev S1x1x12032 : Shape := ⟨3, ![1, 1, 12032]⟩
abbrev S1x12032 : Shape := ⟨2, ![1, 12032]⟩
abbrev S1x32x128 : Shape := ⟨3, ![1, 32, 128]⟩
abbrev S32x128 : Shape := ⟨2, ![32, 128]⟩
abbrev S96x128 : Shape := ⟨2, ![96, 128]⟩
abbrev S128x128 : Shape := ⟨2, ![128, 128]⟩
abbrev S5x512 : Shape := ⟨2, ![5, 512]⟩
abbrev S8x512 : Shape := ⟨2, ![8, 512]⟩
abbrev S8x64 : Shape := ⟨2, ![8, 64]⟩
abbrev S3x64 : Shape := ⟨2, ![3, 64]⟩
abbrev S1x64 : Shape := ⟨2, ![1, 64]⟩
abbrev S1x1x64 : Shape := ⟨3, ![1, 1, 64]⟩

abbrev nBuf : Space → Nat
  | .hbm => 67
  | .vmem => 66
  | .smem => 1
  | _ => 0

abbrev bufTy : (tb : Table) → Fin (tcTables nBuf tb) → BufTy
  | .hbm, ⟨0, _⟩ => ⟨S1, .i32⟩
  | .hbm, ⟨1, _⟩ => ⟨S8x1x12032, .f32⟩
  | .hbm, ⟨2, _⟩ => ⟨S8x32x128, .f32⟩
  | .hbm, ⟨3, _⟩ => ⟨S8x32, .f32⟩
  | .hbm, ⟨4, _⟩ => ⟨S8x32, .f32⟩
  | .hbm, ⟨5, _⟩ => ⟨S8x32, .f32⟩
  | .hbm, ⟨6, _⟩ => ⟨S1x6144, .f32⟩
  | .hbm, ⟨7, _⟩ => ⟨S1x6144, .f32⟩
  | .hbm, ⟨8, _⟩ => ⟨S1x6144, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x8, .f32⟩
  | .hbm, ⟨13, _⟩ => ⟨S1x8, .f32⟩
  | .hbm, ⟨14, _⟩ => ⟨S1x8, .f32⟩
  | .hbm, ⟨15, _⟩ => ⟨S3x1x64, .f32⟩
  | .hbm, ⟨16, _⟩ => ⟨S3x1x64, .f32⟩
  | .hbm, ⟨17, _⟩ => ⟨S3x1x64, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S1x512, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x128, .f32⟩
  | .hbm, ⟨31, _⟩ => ⟨S8x32, .f32⟩
  | .hbm, ⟨32, _⟩ => ⟨S8x32, .f32⟩
  | .hbm, ⟨33, _⟩ => ⟨S8x32, .f32⟩
  | .hbm, ⟨34, _⟩ => ⟨S8x32, .f32⟩
  | .hbm, ⟨35, _⟩ => ⟨S1x6144, .f32⟩
  | .hbm, ⟨36, _⟩ => ⟨S1x6144, .f32⟩
  | .hbm, ⟨37, _⟩ => ⟨S1x6144, .f32⟩
  | .hbm, ⟨38, _⟩ => ⟨S1x6144, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x8, .f32⟩
  | .hbm, ⟨44, _⟩ => ⟨S1x8, .f32⟩
  | .hbm, ⟨45, _⟩ => ⟨S1x8, .f32⟩
  | .hbm, ⟨46, _⟩ => ⟨S1x8, .f32⟩
  | .hbm, ⟨47, _⟩ => ⟨S3x1x64, .f32⟩
  | .hbm, ⟨48, _⟩ => ⟨S3x1x64, .f32⟩
  | .hbm, ⟨49, _⟩ => ⟨S3x1x64, .f32⟩
  | .hbm, ⟨50, _⟩ => ⟨S3x1x64, .f32⟩
  | .hbm, ⟨51, _⟩ => ⟨S1x512, .f32⟩
  | .hbm, ⟨52, _⟩ => ⟨S1x512, .f32⟩
  | .hbm, ⟨53, _⟩ => ⟨S1x512, .f32⟩
  | .hbm, ⟨54, _⟩ => ⟨S1x512, .f32⟩
  | .hbm, ⟨55, _⟩ => ⟨S1x512, .f32⟩
  | .hbm, ⟨56, _⟩ => ⟨S1x512, .f32⟩
  | .hbm, ⟨57, _⟩ => ⟨S1x512, .f32⟩
  | .hbm, ⟨58, _⟩ => ⟨S1x512, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .local _ .vmem, ⟨0, _⟩ => ⟨S8x1x12032, .f32⟩
  | .local _ .vmem, ⟨1, _⟩ => ⟨S8x32x128, .f32⟩
  | .local _ .vmem, ⟨2, _⟩ => ⟨S8x32, .f32⟩
  | .local _ .vmem, ⟨3, _⟩ => ⟨S8x32, .f32⟩
  | .local _ .vmem, ⟨4, _⟩ => ⟨S8x32, .f32⟩
  | .local _ .vmem, ⟨5, _⟩ => ⟨S1x6144, .f32⟩
  | .local _ .vmem, ⟨6, _⟩ => ⟨S1x6144, .f32⟩
  | .local _ .vmem, ⟨7, _⟩ => ⟨S1x6144, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x8, .f32⟩
  | .local _ .vmem, ⟨12, _⟩ => ⟨S1x8, .f32⟩
  | .local _ .vmem, ⟨13, _⟩ => ⟨S1x8, .f32⟩
  | .local _ .vmem, ⟨14, _⟩ => ⟨S3x1x64, .f32⟩
  | .local _ .vmem, ⟨15, _⟩ => ⟨S3x1x64, .f32⟩
  | .local _ .vmem, ⟨16, _⟩ => ⟨S3x1x64, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x128, .f32⟩
  | .local _ .vmem, ⟨30, _⟩ => ⟨S8x32, .f32⟩
  | .local _ .vmem, ⟨31, _⟩ => ⟨S8x32, .f32⟩
  | .local _ .vmem, ⟨32, _⟩ => ⟨S8x32, .f32⟩
  | .local _ .vmem, ⟨33, _⟩ => ⟨S8x32, .f32⟩
  | .local _ .vmem, ⟨34, _⟩ => ⟨S1x6144, .f32⟩
  | .local _ .vmem, ⟨35, _⟩ => ⟨S1x6144, .f32⟩
  | .local _ .vmem, ⟨36, _⟩ => ⟨S1x6144, .f32⟩
  | .local _ .vmem, ⟨37, _⟩ => ⟨S1x6144, .f32⟩
  | .local _ .vmem, ⟨38, _⟩ => ⟨S1x1024, .f32⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | .local _ .vmem, ⟨42, _⟩ => ⟨S1x8, .f32⟩
  | .local _ .vmem, ⟨43, _⟩ => ⟨S1x8, .f32⟩
  | .local _ .vmem, ⟨44, _⟩ => ⟨S1x8, .f32⟩
  | .local _ .vmem, ⟨45, _⟩ => ⟨S1x8, .f32⟩
  | .local _ .vmem, ⟨46, _⟩ => ⟨S3x1x64, .f32⟩
  | .local _ .vmem, ⟨47, _⟩ => ⟨S3x1x64, .f32⟩
  | .local _ .vmem, ⟨48, _⟩ => ⟨S3x1x64, .f32⟩
  | .local _ .vmem, ⟨49, _⟩ => ⟨S3x1x64, .f32⟩
  | .local _ .vmem, ⟨50, _⟩ => ⟨S1x512, .f32⟩
  | .local _ .vmem, ⟨51, _⟩ => ⟨S1x512, .f32⟩
  | .local _ .vmem, ⟨52, _⟩ => ⟨S1x512, .f32⟩
  | .local _ .vmem, ⟨53, _⟩ => ⟨S1x512, .f32⟩
  | .local _ .vmem, ⟨54, _⟩ => ⟨S1x512, .f32⟩
  | .local _ .vmem, ⟨55, _⟩ => ⟨S1x512, .f32⟩
  | .local _ .vmem, ⟨56, _⟩ => ⟨S1x512, .f32⟩
  | .local _ .vmem, ⟨57, _⟩ => ⟨S1x512, .f32⟩
  | .local _ .vmem, ⟨58, _⟩ => ⟨S1x1024, .f32⟩
  | .local _ .vmem, ⟨59, _⟩ => ⟨S1x1024, .f32⟩
  | .local _ .vmem, ⟨60, _⟩ => ⟨S1x1024, .f32⟩
  | .local _ .vmem, ⟨61, _⟩ => ⟨S1x1024, .f32⟩
  | .local _ .vmem, ⟨62, _⟩ => ⟨S1x1024, .f32⟩
  | .local _ .vmem, ⟨63, _⟩ => ⟨S1x1024, .f32⟩
  | .local _ .vmem, ⟨64, _⟩ => ⟨S1x1024, .f32⟩
  | .local _ .vmem, ⟨65, _⟩ => ⟨S1x1024, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .smem, ⟨0, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0_0 : Ref sig .tc := ⟨.hbm, 30, rfl⟩
abbrev main_v0_1 : Ref sig .tc := ⟨.hbm, 31, rfl⟩
abbrev main_v0_2 : Ref sig .tc := ⟨.hbm, 32, rfl⟩
abbrev main_v0_3 : Ref sig .tc := ⟨.hbm, 33, rfl⟩
abbrev main_v0_4 : Ref sig .tc := ⟨.hbm, 34, rfl⟩
abbrev main_v0_5 : Ref sig .tc := ⟨.hbm, 35, rfl⟩
abbrev main_v0_6 : Ref sig .tc := ⟨.hbm, 36, rfl⟩
abbrev main_v0_7 : Ref sig .tc := ⟨.hbm, 37, rfl⟩
abbrev main_v0_8 : Ref sig .tc := ⟨.hbm, 38, rfl⟩
abbrev main_v0_9 : Ref sig .tc := ⟨.hbm, 39, rfl⟩
abbrev main_v0_10 : Ref sig .tc := ⟨.hbm, 40, rfl⟩
abbrev main_v0_11 : Ref sig .tc := ⟨.hbm, 41, rfl⟩
abbrev main_v0_12 : Ref sig .tc := ⟨.hbm, 42, rfl⟩
abbrev main_v0_13 : Ref sig .tc := ⟨.hbm, 43, rfl⟩
abbrev main_v0_14 : Ref sig .tc := ⟨.hbm, 44, rfl⟩
abbrev main_v0_15 : Ref sig .tc := ⟨.hbm, 45, rfl⟩
abbrev main_v0_16 : Ref sig .tc := ⟨.hbm, 46, rfl⟩
abbrev main_v0_17 : Ref sig .tc := ⟨.hbm, 47, rfl⟩
abbrev main_v0_18 : Ref sig .tc := ⟨.hbm, 48, rfl⟩
abbrev main_v0_19 : Ref sig .tc := ⟨.hbm, 49, rfl⟩
abbrev main_v0_20 : Ref sig .tc := ⟨.hbm, 50, rfl⟩
abbrev main_v0_21 : Ref sig .tc := ⟨.hbm, 51, rfl⟩
abbrev main_v0_22 : Ref sig .tc := ⟨.hbm, 52, rfl⟩
abbrev main_v0_23 : Ref sig .tc := ⟨.hbm, 53, rfl⟩
abbrev main_v0_24 : Ref sig .tc := ⟨.hbm, 54, rfl⟩
abbrev main_v0_25 : Ref sig .tc := ⟨.hbm, 55, rfl⟩
abbrev main_v0_26 : Ref sig .tc := ⟨.hbm, 56, rfl⟩
abbrev main_v0_27 : Ref sig .tc := ⟨.hbm, 57, rfl⟩
abbrev main_v0_28 : Ref sig .tc := ⟨.hbm, 58, rfl⟩
abbrev main_v0_29 : Ref sig .tc := ⟨.hbm, 59, rfl⟩
abbrev main_v0_30 : Ref sig .tc := ⟨.hbm, 60, rfl⟩
abbrev main_v0_31 : Ref sig .tc := ⟨.hbm, 61, rfl⟩
abbrev main_v0_32 : Ref sig .tc := ⟨.hbm, 62, rfl⟩
abbrev main_v0_33 : Ref sig .tc := ⟨.hbm, 63, rfl⟩
abbrev main_v0_34 : Ref sig .tc := ⟨.hbm, 64, rfl⟩
abbrev main_v0_35 : Ref sig .tc := ⟨.hbm, 65, rfl⟩
abbrev main_v0_36 : Ref sig .tc := ⟨.hbm, 66, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg15_0 : Ref sig .tc := ⟨.vmem, 14, rfl⟩
abbrev cc0_stg16_0 : Ref sig .tc := ⟨.vmem, 15, rfl⟩
abbrev cc0_stg17_0 : Ref sig .tc := ⟨.vmem, 16, rfl⟩
abbrev cc0_stg18_0 : Ref sig .tc := ⟨.vmem, 17, rfl⟩
abbrev cc0_stg19_0 : Ref sig .tc := ⟨.vmem, 18, rfl⟩
abbrev cc0_stg20_0 : Ref sig .tc := ⟨.vmem, 19, rfl⟩
abbrev cc0_stg21_0 : Ref sig .tc := ⟨.vmem, 20, rfl⟩
abbrev cc0_stg22_0 : Ref sig .tc := ⟨.vmem, 21, rfl⟩
abbrev cc0_stg23_0 : Ref sig .tc := ⟨.vmem, 22, rfl⟩
abbrev cc0_stg24_0 : Ref sig .tc := ⟨.vmem, 23, rfl⟩
abbrev cc0_stg25_0 : Ref sig .tc := ⟨.vmem, 24, rfl⟩
abbrev cc0_stg26_0 : Ref sig .tc := ⟨.vmem, 25, rfl⟩
abbrev cc0_stg27_0 : Ref sig .tc := ⟨.vmem, 26, rfl⟩
abbrev cc0_stg28_0 : Ref sig .tc := ⟨.vmem, 27, rfl⟩
abbrev cc0_stg29_0 : Ref sig .tc := ⟨.vmem, 28, rfl⟩
abbrev cc0_stg30_0 : Ref sig .tc := ⟨.vmem, 29, rfl⟩
abbrev cc0_stg31_0 : Ref sig .tc := ⟨.vmem, 30, rfl⟩
abbrev cc0_stg32_0 : Ref sig .tc := ⟨.vmem, 31, rfl⟩
abbrev cc0_stg33_0 : Ref sig .tc := ⟨.vmem, 32, rfl⟩
abbrev cc0_stg34_0 : Ref sig .tc := ⟨.vmem, 33, rfl⟩
abbrev cc0_stg35_0 : Ref sig .tc := ⟨.vmem, 34, rfl⟩
abbrev cc0_stg36_0 : Ref sig .tc := ⟨.vmem, 35, rfl⟩
abbrev cc0_stg37_0 : Ref sig .tc := ⟨.vmem, 36, rfl⟩
abbrev cc0_stg38_0 : Ref sig .tc := ⟨.vmem, 37, rfl⟩
abbrev cc0_stg39_0 : Ref sig .tc := ⟨.vmem, 38, rfl⟩
abbrev cc0_stg40_0 : Ref sig .tc := ⟨.vmem, 39, rfl⟩
abbrev cc0_stg41_0 : Ref sig .tc := ⟨.vmem, 40, rfl⟩
abbrev cc0_stg42_0 : Ref sig .tc := ⟨.vmem, 41, rfl⟩
abbrev cc0_stg43_0 : Ref sig .tc := ⟨.vmem, 42, rfl⟩
abbrev cc0_stg44_0 : Ref sig .tc := ⟨.vmem, 43, rfl⟩
abbrev cc0_stg45_0 : Ref sig .tc := ⟨.vmem, 44, rfl⟩
abbrev cc0_stg46_0 : Ref sig .tc := ⟨.vmem, 45, rfl⟩
abbrev cc0_stg47_0 : Ref sig .tc := ⟨.vmem, 46, rfl⟩
abbrev cc0_stg48_0 : Ref sig .tc := ⟨.vmem, 47, rfl⟩
abbrev cc0_stg49_0 : Ref sig .tc := ⟨.vmem, 48, rfl⟩
abbrev cc0_stg50_0 : Ref sig .tc := ⟨.vmem, 49, rfl⟩
abbrev cc0_stg51_0 : Ref sig .tc := ⟨.vmem, 50, rfl⟩
abbrev cc0_stg52_0 : Ref sig .tc := ⟨.vmem, 51, rfl⟩
abbrev cc0_stg53_0 : Ref sig .tc := ⟨.vmem, 52, rfl⟩
abbrev cc0_stg54_0 : Ref sig .tc := ⟨.vmem, 53, rfl⟩
abbrev cc0_stg55_0 : Ref sig .tc := ⟨.vmem, 54, rfl⟩
abbrev cc0_stg56_0 : Ref sig .tc := ⟨.vmem, 55, rfl⟩
abbrev cc0_stg57_0 : Ref sig .tc := ⟨.vmem, 56, rfl⟩
abbrev cc0_stg58_0 : Ref sig .tc := ⟨.vmem, 57, rfl⟩
abbrev cc0_stg59_0 : Ref sig .tc := ⟨.vmem, 58, rfl⟩
abbrev cc0_stg60_0 : Ref sig .tc := ⟨.vmem, 59, rfl⟩
abbrev cc0_stg61_0 : Ref sig .tc := ⟨.vmem, 60, rfl⟩
abbrev cc0_stg62_0 : Ref sig .tc := ⟨.vmem, 61, rfl⟩
abbrev cc0_stg63_0 : Ref sig .tc := ⟨.vmem, 62, rfl⟩
abbrev cc0_stg64_0 : Ref sig .tc := ⟨.vmem, 63, rfl⟩
abbrev cc0_stg65_0 : Ref sig .tc := ⟨.vmem, 64, rfl⟩
abbrev cc0_stg66_0 : Ref sig .tc := ⟨.vmem, 65, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66

abbrev nD : Nat := 1
abbrev τ : Topo := Topo.v7x

variable {F : FTy → Type} [FloatOps F]

abbrev grid0 : Pipeline.Grid := .none

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1x12032 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S3x1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S3x1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S3x1x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x128 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S8x32 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S8x32 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S8x32 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S8x32 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x6144 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x6144 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x6144 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x6144 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x1024 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x1024 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x1024 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x8 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x8 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x8 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x8 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S3x1x64 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S3x1x64 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S3x1x64 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S3x1x64 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x512 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x512 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x512 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x512 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x512 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x512 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x512 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x512 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S1x1024 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1x1024 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S1x1024 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S1x1024 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S1x1024 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S1x1024 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S1x1024 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S1x1024 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))
-- ==== SmallReferenceIdeal.lean ====
abbrev S1 : Shape := ⟨1, ![1]⟩
abbrev S8x1x12032 : Shape := ⟨3, ![8, 1, 12032]⟩
abbrev S8x32x128 : Shape := ⟨3, ![8, 32, 128]⟩
abbrev S8x32 : Shape := ⟨2, ![8, 32]⟩
abbrev S1x6144 : Shape := ⟨2, ![1, 6144]⟩
abbrev S1x1024 : Shape := ⟨2, ![1, 1024]⟩
abbrev S1x8 : Shape := ⟨2, ![1, 8]⟩
abbrev S3x1x64 : Shape := ⟨3, ![3, 1, 64]⟩
abbrev S1x512 : Shape := ⟨2, ![1, 512]⟩
abbrev S_ : Shape := ⟨0, ![]⟩
abbrev S1x12032 : Shape := ⟨2, ![1, 12032]⟩
abbrev S1x1536 : Shape := ⟨2, ![1, 1536]⟩
abbrev S3x1x512 : Shape := ⟨3, ![3, 1, 512]⟩
abbrev S32x128 : Shape := ⟨2, ![32, 128]⟩
abbrev S32x8 : Shape := ⟨2, ![32, 8]⟩
abbrev S1x128 : Shape := ⟨2, ![1, 128]⟩

abbrev nBuf : Space → Nat
  | .hbm => 354
  | .vmem => 0
  | .smem => 0
  | _ => 0

abbrev hbmTy0_0 (i : Nat) : BufTy := match i % 128 with
  | 0 => ⟨S1, .i32⟩
  | 1 => ⟨S8x1x12032, .f32⟩
  | 2 => ⟨S8x32x128, .f32⟩
  | 3 => ⟨S8x32, .f32⟩
  | 4 => ⟨S8x32, .f32⟩
  | 5 => ⟨S8x32, .f32⟩
  | 6 => ⟨S1x6144, .f32⟩
  | 7 => ⟨S1x6144, .f32⟩
  | 8 => ⟨S1x6144, .f32⟩
  | 9 => ⟨S1x1024, .f32⟩
  | 10 => ⟨S1x1024, .f32⟩
  | 11 => ⟨S1x1024, .f32⟩
  | 12 => ⟨S1x8, .f32⟩
  | 13 => ⟨S1x8, .f32⟩
  | 14 => ⟨S1x8, .f32⟩
  | 15 => ⟨S3x1x64, .f32⟩
  | 16 => ⟨S3x1x64, .f32⟩
  | 17 => ⟨S3x1x64, .f32⟩
  | 18 => ⟨S1x512, .f32⟩
  | 19 => ⟨S1x512, .f32⟩
  | 20 => ⟨S1x512, .f32⟩
  | 21 => ⟨S1x512, .f32⟩
  | 22 => ⟨S1x512, .f32⟩
  | 23 => ⟨S1x512, .f32⟩
  | 24 => ⟨S1x1024, .f32⟩
  | 25 => ⟨S1x1024, .f32⟩
  | 26 => ⟨S1x1024, .f32⟩
  | 27 => ⟨S1x1024, .f32⟩
  | 28 => ⟨S1x1024, .f32⟩
  | 29 => ⟨S1x1024, .f32⟩
  | 30 => ⟨S_, .f32⟩
  | 31 => ⟨S1x12032, .f32⟩
  | 32 => ⟨S1x1536, .f32⟩
  | 33 => ⟨S3x1x512, .f32⟩
  | 34 => ⟨S_, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S_, .i32⟩
  | 44 => ⟨S3x1x64, .f32⟩
  | 45 => ⟨S_, .f32⟩
  | 46 => ⟨S32x128, .f32⟩
  | 47 => ⟨S32x8, .f32⟩
  | 48 => ⟨S8x32, .f32⟩
  | 49 => ⟨S1x6144, .f32⟩
  | 50 => ⟨S1x1024, .f32⟩
  | 51 => ⟨S1x8, .f32⟩
  | 52 => ⟨S1x512, .f32⟩
  | 53 => ⟨S1x512, .f32⟩
  | 54 => ⟨S1x1024, .f32⟩
  | 55 => ⟨S1x1024, .f32⟩
  | 56 => ⟨S1x128, .f32⟩
  | 57 => ⟨S_, .f32⟩
  | 58 => ⟨S8x32, .f32⟩
  | 59 => ⟨S8x32, .f32⟩
  | 60 => ⟨S_, .f32⟩
  | 61 => ⟨S8x32, .f32⟩
  | 62 => ⟨S8x32, .f32⟩
  | 63 => ⟨S8x32, .f32⟩
  | 64 => ⟨S_, .f32⟩
  | 65 => ⟨S8x32, .f32⟩
  | 66 => ⟨S8x32, .f32⟩
  | 67 => ⟨S8x32, .f32⟩
  | 68 => ⟨S_, .f32⟩
  | 69 => ⟨S8x32, .f32⟩
  | 70 => ⟨S8x32, .f32⟩
  | 71 => ⟨S8x32, .f32⟩
  | 72 => ⟨S_, .f32⟩
  | 73 => ⟨S8x32, .f32⟩
  | 74 => ⟨S8x32, .f32⟩
  | 75 => ⟨S_, .f32⟩
  | 76 => ⟨S8x32, .f32⟩
  | 77 => ⟨S8x32, .f32⟩
  | 78 => ⟨S8x32, .f32⟩
  | 79 => ⟨S_, .f32⟩
  | 80 => ⟨S8x32, .f32⟩
  | 81 => ⟨S8x32, .f32⟩
  | 82 => ⟨S8x32, .f32⟩
  | 83 => ⟨S_, .f32⟩
  | 84 => ⟨S8x32, .f32⟩
  | 85 => ⟨S8x32, .f32⟩
  | 86 => ⟨S8x32, .f32⟩
  | 87 => ⟨S_, .f32⟩
  | 88 => ⟨S8x32, .f32⟩
  | 89 => ⟨S8x32, .f32⟩
  | 90 => ⟨S_, .f32⟩
  | 91 => ⟨S1x6144, .f32⟩
  | 92 => ⟨S1x6144, .f32⟩
  | 93 => ⟨S_, .f32⟩
  | 94 => ⟨S1x6144, .f32⟩
  | 95 => ⟨S1x6144, .f32⟩
  | 96 => ⟨S1x6144, .f32⟩
  | 97 => ⟨S_, .f32⟩
  | 98 => ⟨S1x6144, .f32⟩
  | 99 => ⟨S1x6144, .f32⟩
  | 100 => ⟨S1x6144, .f32⟩
  | 101 => ⟨S_, .f32⟩
  | 102 => ⟨S1x6144, .f32⟩
  | 103 => ⟨S1x6144, .f32⟩
  | 104 => ⟨S1x6144, .f32⟩
  | 105 => ⟨S_, .f32⟩
  | 106 => ⟨S1x6144, .f32⟩
  | 107 => ⟨S1x6144, .f32⟩
  | 108 => ⟨S_, .f32⟩
  | 109 => ⟨S1x6144, .f32⟩
  | 110 => ⟨S1x6144, .f32⟩
  | 111 => ⟨S1x6144, .f32⟩
  | 112 => ⟨S_, .f32⟩
  | 113 => ⟨S1x6144, .f32⟩
  | 114 => ⟨S1x6144, .f32⟩
  | 115 => ⟨S1x6144, .f32⟩
  | 116 => ⟨S_, .f32⟩
  | 117 => ⟨S1x6144, .f32⟩
  | 118 => ⟨S1x6144, .f32⟩
  | 119 => ⟨S1x6144, .f32⟩
  | 120 => ⟨S_, .f32⟩
  | 121 => ⟨S1x6144, .f32⟩
  | 122 => ⟨S1x6144, .f32⟩
  | 123 => ⟨S_, .f32⟩
  | 124 => ⟨S1x1024, .f32⟩
  | 125 => ⟨S1x1024, .f32⟩
  | 126 => ⟨S_, .f32⟩
  | 127 => ⟨S1x1024, .f32⟩
  | _ => ⟨S1, .i32⟩

abbrev hbmTy0_1 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S1x1024, .f32⟩
  | 6 => ⟨S_, .f32⟩
  | 7 => ⟨S1x1024, .f32⟩
  | 8 => ⟨S1x1024, .f32⟩
  | 9 => ⟨S1x1024, .f32⟩
  | 10 => ⟨S_, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S1x1024, .f32⟩
  | 17 => ⟨S_, .f32⟩
  | 18 => ⟨S1x1024, .f32⟩
  | 19 => ⟨S1x1024, .f32⟩
  | 20 => ⟨S1x1024, .f32⟩
  | 21 => ⟨S_, .f32⟩
  | 22 => ⟨S1x1024, .f32⟩
  | 23 => ⟨S1x1024, .f32⟩
  | 24 => ⟨S1x1024, .f32⟩
  | 25 => ⟨S_, .f32⟩
  | 26 => ⟨S1x1024, .f32⟩
  | 27 => ⟨S1x1024, .f32⟩
  | 28 => ⟨S_, .f32⟩
  | 29 => ⟨S1x8, .f32⟩
  | 30 => ⟨S1x8, .f32⟩
  | 31 => ⟨S_, .f32⟩
  | 32 => ⟨S1x8, .f32⟩
  | 33 => ⟨S1x8, .f32⟩
  | 34 => ⟨S1x8, .f32⟩
  | 35 => ⟨S_, .f32⟩
  | 36 => ⟨S1x8, .f32⟩
  | 37 => ⟨S1x8, .f32⟩
  | 38 => ⟨S1x8, .f32⟩
  | 39 => ⟨S_, .f32⟩
  | 40 => ⟨S1x8, .f32⟩
  | 41 => ⟨S1x8, .f32⟩
  | 42 => ⟨S1x8, .f32⟩
  | 43 => ⟨S_, .f32⟩
  | 44 => ⟨S1x8, .f32⟩
  | 45 => ⟨S1x8, .f32⟩
  | 46 => ⟨S_, .f32⟩
  | 47 => ⟨S1x8, .f32⟩
  | 48 => ⟨S1x8, .f32⟩
  | 49 => ⟨S1x8, .f32⟩
  | 50 => ⟨S_, .f32⟩
  | 51 => ⟨S1x8, .f32⟩
  | 52 => ⟨S1x8, .f32⟩
  | 53 => ⟨S1x8, .f32⟩
  | 54 => ⟨S_, .f32⟩
  | 55 => ⟨S1x8, .f32⟩
  | 56 => ⟨S1x8, .f32⟩
  | 57 => ⟨S1x8, .f32⟩
  | 58 => ⟨S_, .f32⟩
  | 59 => ⟨S1x8, .f32⟩
  | 60 => ⟨S1x8, .f32⟩
  | 61 => ⟨S_, .f32⟩
  | 62 => ⟨S3x1x64, .f32⟩
  | 63 => ⟨S3x1x64, .f32⟩
  | 64 => ⟨S_, .f32⟩
  | 65 => ⟨S3x1x64, .f32⟩
  | 66 => ⟨S3x1x64, .f32⟩
  | 67 => ⟨S3x1x64, .f32⟩
  | 68 => ⟨S_, .f32⟩
  | 69 => ⟨S3x1x64, .f32⟩
  | 70 => ⟨S3x1x64, .f32⟩
  | 71 => ⟨S3x1x64, .f32⟩
  | 72 => ⟨S_, .f32⟩
  | 73 => ⟨S3x1x64, .f32⟩
  | 74 => ⟨S3x1x64, .f32⟩
  | 75 => ⟨S3x1x64, .f32⟩
  | 76 => ⟨S_, .f32⟩
  | 77 => ⟨S3x1x64, .f32⟩
  | 78 => ⟨S3x1x64, .f32⟩
  | 79 => ⟨S_, .f32⟩
  | 80 => ⟨S3x1x64, .f32⟩
  | 81 => ⟨S3x1x64, .f32⟩
  | 82 => ⟨S3x1x64, .f32⟩
  | 83 => ⟨S_, .f32⟩
  | 84 => ⟨S3x1x64, .f32⟩
  | 85 => ⟨S3x1x64, .f32⟩
  | 86 => ⟨S3x1x64, .f32⟩
  | 87 => ⟨S_, .f32⟩
  | 88 => ⟨S3x1x64, .f32⟩
  | 89 => ⟨S3x1x64, .f32⟩
  | 90 => ⟨S3x1x64, .f32⟩
  | 91 => ⟨S_, .f32⟩
  | 92 => ⟨S3x1x64, .f32⟩
  | 93 => ⟨S3x1x64, .f32⟩
  | 94 => ⟨S_, .f32⟩
  | 95 => ⟨S1x512, .f32⟩
  | 96 => ⟨S1x512, .f32⟩
  | 97 => ⟨S_, .f32⟩
  | 98 => ⟨S1x512, .f32⟩
  | 99 => ⟨S1x512, .f32⟩
  | 100 => ⟨S1x512, .f32⟩
  | 101 => ⟨S_, .f32⟩
  | 102 => ⟨S1x512, .f32⟩
  | 103 => ⟨S1x512, .f32⟩
  | 104 => ⟨S1x512, .f32⟩
  | 105 => ⟨S_, .f32⟩
  | 106 => ⟨S1x512, .f32⟩
  | 107 => ⟨S1x512, .f32⟩
  | 108 => ⟨S1x512, .f32⟩
  | 109 => ⟨S_, .f32⟩
  | 110 => ⟨S1x512, .f32⟩
  | 111 => ⟨S1x512, .f32⟩
  | 112 => ⟨S_, .f32⟩
  | 113 => ⟨S1x512, .f32⟩
  | 114 => ⟨S1x512, .f32⟩
  | 115 => ⟨S1x512, .f32⟩
  | 116 => ⟨S_, .f32⟩
  | 117 => ⟨S1x512, .f32⟩
  | 118 => ⟨S1x512, .f32⟩
  | 119 => ⟨S1x512, .f32⟩
  | 120 => ⟨S_, .f32⟩
  | 121 => ⟨S1x512, .f32⟩
  | 122 => ⟨S1x512, .f32⟩
  | 123 => ⟨S1x512, .f32⟩
  | 124 => ⟨S_, .f32⟩
  | 125 => ⟨S1x512, .f32⟩
  | 126 => ⟨S1x512, .f32⟩
  | 127 => ⟨S_, .f32⟩
  | _ => ⟨S1, .i32⟩

abbrev hbmTy0_2 (i : Nat) : BufTy := match i % 128 with
  | 0 => ⟨S1x512, .f32⟩
  | 1 => ⟨S1x512, .f32⟩
  | 2 => ⟨S_, .f32⟩
  | 3 => ⟨S1x512, .f32⟩
  | 4 => ⟨S1x512, .f32⟩
  | 5 => ⟨S1x512, .f32⟩
  | 6 => ⟨S_, .f32⟩
  | 7 => ⟨S1x512, .f32⟩
  | 8 => ⟨S1x512, .f32⟩
  | 9 => ⟨S1x512, .f32⟩
  | 10 => ⟨S_, .f32⟩
  | 11 => ⟨S1x512, .f32⟩
  | 12 => ⟨S1x512, .f32⟩
  | 13 => ⟨S1x512, .f32⟩
  | 14 => ⟨S_, .f32⟩
  | 15 => ⟨S1x512, .f32⟩
  | 16 => ⟨S1x512, .f32⟩
  | 17 => ⟨S_, .f32⟩
  | 18 => ⟨S1x512, .f32⟩
  | 19 => ⟨S1x512, .f32⟩
  | 20 => ⟨S1x512, .f32⟩
  | 21 => ⟨S_, .f32⟩
  | 22 => ⟨S1x512, .f32⟩
  | 23 => ⟨S1x512, .f32⟩
  | 24 => ⟨S1x512, .f32⟩
  | 25 => ⟨S_, .f32⟩
  | 26 => ⟨S1x512, .f32⟩
  | 27 => ⟨S1x512, .f32⟩
  | 28 => ⟨S1x512, .f32⟩
  | 29 => ⟨S_, .f32⟩
  | 30 => ⟨S1x512, .f32⟩
  | 31 => ⟨S1x512, .f32⟩
  | 32 => ⟨S_, .f32⟩
  | 33 => ⟨S1x1024, .f32⟩
  | 34 => ⟨S1x1024, .f32⟩
  | 35 => ⟨S_, .f32⟩
  | 36 => ⟨S1x1024, .f32⟩
  | 37 => ⟨S1x1024, .f32⟩
  | 38 => ⟨S1x1024, .f32⟩
  | 39 => ⟨S_, .f32⟩
  | 40 => ⟨S1x1024, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S_, .f32⟩
  | 51 => ⟨S1x1024, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S_, .f32⟩
  | 66 => ⟨S1x1024, .f32⟩
  | 67 => ⟨S1x1024, .f32⟩
  | 68 => ⟨S_, .f32⟩
  | 69 => ⟨S1x1024, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S_, .f32⟩
  | 84 => ⟨S1x1024, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S1x1024, .f32⟩
  | 91 => ⟨S_, .f32⟩
  | 92 => ⟨S1x1024, .f32⟩
  | 93 => ⟨S1x1024, .f32⟩
  | 94 => ⟨S1x1024, .f32⟩
  | 95 => ⟨S_, .f32⟩
  | 96 => ⟨S1x1024, .f32⟩
  | 97 => ⟨S1x1024, .f32⟩
  | _ => ⟨S1, .i32⟩

abbrev hbmTy (i : Nat) : BufTy := match i / 128 with
  | 0 => hbmTy0_0 i
  | 1 => hbmTy0_1 i
  | 2 => hbmTy0_2 i
  | _ => ⟨S1, .i32⟩

abbrev bufTy : (tb : Table) → Fin (tcTables nBuf tb) → BufTy
  | .hbm, ⟨i, _⟩ => hbmTy i
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_cst : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_c : Ref sig .tc := ⟨.hbm, 35, rfl⟩
abbrev main_v4 : Ref sig .tc := ⟨.hbm, 36, rfl⟩
abbrev main_c_0 : Ref sig .tc := ⟨.hbm, 37, rfl⟩
abbrev main_v5 : Ref sig .tc := ⟨.hbm, 38, rfl⟩
abbrev main_c_1 : Ref sig .tc := ⟨.hbm, 39, rfl⟩
abbrev main_v6 : Ref sig .tc := ⟨.hbm, 40, rfl⟩
abbrev main_v7 : Ref sig .tc := ⟨.hbm, 41, rfl⟩
abbrev main_c_2 : Ref sig .tc := ⟨.hbm, 42, rfl⟩
abbrev main_c_3 : Ref sig .tc := ⟨.hbm, 43, rfl⟩
abbrev main_v8 : Ref sig .tc := ⟨.hbm, 44, rfl⟩
abbrev main_cst_4 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_cst_5 : Ref sig .tc := ⟨.hbm, 57, rfl⟩
abbrev main_v20 : Ref sig .tc := ⟨.hbm, 58, rfl⟩
abbrev main_v21 : Ref sig .tc := ⟨.hbm, 59, rfl⟩
abbrev main_cst_6 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_cst_7 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_cst_8 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_cst_9 : Ref sig .tc := ⟨.hbm, 72, rfl⟩
abbrev main_v31 : Ref sig .tc := ⟨.hbm, 73, rfl⟩
abbrev main_v32 : Ref sig .tc := ⟨.hbm, 74, rfl⟩
abbrev main_cst_10 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_cst_11 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_cst_12 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_cst_13 : Ref sig .tc := ⟨.hbm, 87, rfl⟩
abbrev main_v42 : Ref sig .tc := ⟨.hbm, 88, rfl⟩
abbrev main_v43 : Ref sig .tc := ⟨.hbm, 89, rfl⟩
abbrev main_cst_14 : Ref sig .tc := ⟨.hbm, 90, rfl⟩
abbrev main_v44 : Ref sig .tc := ⟨.hbm, 91, rfl⟩
abbrev main_v45 : Ref sig .tc := ⟨.hbm, 92, rfl⟩
abbrev main_cst_15 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_cst_16 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_cst_17 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_cst_18 : Ref sig .tc := ⟨.hbm, 105, rfl⟩
abbrev main_v55 : Ref sig .tc := ⟨.hbm, 106, rfl⟩
abbrev main_v56 : Ref sig .tc := ⟨.hbm, 107, rfl⟩
abbrev main_cst_19 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_cst_20 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_cst_21 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_cst_22 : Ref sig .tc := ⟨.hbm, 120, rfl⟩
abbrev main_v66 : Ref sig .tc := ⟨.hbm, 121, rfl⟩
abbrev main_v67 : Ref sig .tc := ⟨.hbm, 122, rfl⟩
abbrev main_cst_23 : Ref sig .tc := ⟨.hbm, 123, rfl⟩
abbrev main_v68 : Ref sig .tc := ⟨.hbm, 124, rfl⟩
abbrev main_v69 : Ref sig .tc := ⟨.hbm, 125, rfl⟩
abbrev main_cst_24 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_cst_25 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_cst_26 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_cst_27 : Ref sig .tc := ⟨.hbm, 138, rfl⟩
abbrev main_v79 : Ref sig .tc := ⟨.hbm, 139, rfl⟩
abbrev main_v80 : Ref sig .tc := ⟨.hbm, 140, rfl⟩
abbrev main_cst_28 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_cst_29 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_cst_30 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_cst_31 : Ref sig .tc := ⟨.hbm, 153, rfl⟩
abbrev main_v90 : Ref sig .tc := ⟨.hbm, 154, rfl⟩
abbrev main_v91 : Ref sig .tc := ⟨.hbm, 155, rfl⟩
abbrev main_cst_32 : Ref sig .tc := ⟨.hbm, 156, rfl⟩
abbrev main_v92 : Ref sig .tc := ⟨.hbm, 157, rfl⟩
abbrev main_v93 : Ref sig .tc := ⟨.hbm, 158, rfl⟩
abbrev main_cst_33 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_cst_34 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_cst_35 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_cst_36 : Ref sig .tc := ⟨.hbm, 171, rfl⟩
abbrev main_v103 : Ref sig .tc := ⟨.hbm, 172, rfl⟩
abbrev main_v104 : Ref sig .tc := ⟨.hbm, 173, rfl⟩
abbrev main_cst_37 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_cst_38 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_cst_39 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_cst_40 : Ref sig .tc := ⟨.hbm, 186, rfl⟩
abbrev main_v114 : Ref sig .tc := ⟨.hbm, 187, rfl⟩
abbrev main_v115 : Ref sig .tc := ⟨.hbm, 188, rfl⟩
abbrev main_cst_41 : Ref sig .tc := ⟨.hbm, 189, rfl⟩
abbrev main_v116 : Ref sig .tc := ⟨.hbm, 190, rfl⟩
abbrev main_v117 : Ref sig .tc := ⟨.hbm, 191, rfl⟩
abbrev main_cst_42 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_cst_43 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_cst_44 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_cst_45 : Ref sig .tc := ⟨.hbm, 204, rfl⟩
abbrev main_v127 : Ref sig .tc := ⟨.hbm, 205, rfl⟩
abbrev main_v128 : Ref sig .tc := ⟨.hbm, 206, rfl⟩
abbrev main_cst_46 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_cst_47 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_cst_48 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_cst_49 : Ref sig .tc := ⟨.hbm, 219, rfl⟩
abbrev main_v138 : Ref sig .tc := ⟨.hbm, 220, rfl⟩
abbrev main_v139 : Ref sig .tc := ⟨.hbm, 221, rfl⟩
abbrev main_cst_50 : Ref sig .tc := ⟨.hbm, 222, rfl⟩
abbrev main_v140 : Ref sig .tc := ⟨.hbm, 223, rfl⟩
abbrev main_v141 : Ref sig .tc := ⟨.hbm, 224, rfl⟩
abbrev main_cst_51 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_cst_52 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_cst_53 : Ref sig .tc := ⟨.hbm, 233, rfl⟩
abbrev main_v148 : Ref sig .tc := ⟨.hbm, 234, rfl⟩
abbrev main_v149 : Ref sig .tc := ⟨.hbm, 235, rfl⟩
abbrev main_v150 : Ref sig .tc := ⟨.hbm, 236, rfl⟩
abbrev main_cst_54 : Ref sig .tc := ⟨.hbm, 237, rfl⟩
abbrev main_v151 : Ref sig .tc := ⟨.hbm, 238, rfl⟩
abbrev main_v152 : Ref sig .tc := ⟨.hbm, 239, rfl⟩
abbrev main_cst_55 : Ref sig .tc := ⟨.hbm, 240, rfl⟩
abbrev main_v153 : Ref sig .tc := ⟨.hbm, 241, rfl⟩
abbrev main_v154 : Ref sig .tc := ⟨.hbm, 242, rfl⟩
abbrev main_v155 : Ref sig .tc := ⟨.hbm, 243, rfl⟩
abbrev main_cst_56 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩
abbrev main_cst_57 : Ref sig .tc := ⟨.hbm, 248, rfl⟩
abbrev main_v159 : Ref sig .tc := ⟨.hbm, 249, rfl⟩
abbrev main_v160 : Ref sig .tc := ⟨.hbm, 250, rfl⟩
abbrev main_v161 : Ref sig .tc := ⟨.hbm, 251, rfl⟩
abbrev main_cst_58 : Ref sig .tc := ⟨.hbm, 252, rfl⟩
abbrev main_v162 : Ref sig .tc := ⟨.hbm, 253, rfl⟩
abbrev main_v163 : Ref sig .tc := ⟨.hbm, 254, rfl⟩
abbrev main_cst_59 : Ref sig .tc := ⟨.hbm, 255, rfl⟩
abbrev main_v164 : Ref sig .tc := ⟨.hbm, 256, rfl⟩
abbrev main_v165 : Ref sig .tc := ⟨.hbm, 257, rfl⟩
abbrev main_cst_60 : Ref sig .tc := ⟨.hbm, 258, rfl⟩
abbrev main_v166 : Ref sig .tc := ⟨.hbm, 259, rfl⟩
abbrev main_v167 : Ref sig .tc := ⟨.hbm, 260, rfl⟩
abbrev main_v168 : Ref sig .tc := ⟨.hbm, 261, rfl⟩
abbrev main_cst_61 : Ref sig .tc := ⟨.hbm, 262, rfl⟩
abbrev main_v169 : Ref sig .tc := ⟨.hbm, 263, rfl⟩
abbrev main_v170 : Ref sig .tc := ⟨.hbm, 264, rfl⟩
abbrev main_v171 : Ref sig .tc := ⟨.hbm, 265, rfl⟩
abbrev main_cst_62 : Ref sig .tc := ⟨.hbm, 266, rfl⟩
abbrev main_v172 : Ref sig .tc := ⟨.hbm, 267, rfl⟩
abbrev main_v173 : Ref sig .tc := ⟨.hbm, 268, rfl⟩
abbrev main_v174 : Ref sig .tc := ⟨.hbm, 269, rfl⟩
abbrev main_cst_63 : Ref sig .tc := ⟨.hbm, 270, rfl⟩
abbrev main_v175 : Ref sig .tc := ⟨.hbm, 271, rfl⟩
abbrev main_v176 : Ref sig .tc := ⟨.hbm, 272, rfl⟩
abbrev main_cst_64 : Ref sig .tc := ⟨.hbm, 273, rfl⟩
abbrev main_v177 : Ref sig .tc := ⟨.hbm, 274, rfl⟩
abbrev main_v178 : Ref sig .tc := ⟨.hbm, 275, rfl⟩
abbrev main_v179 : Ref sig .tc := ⟨.hbm, 276, rfl⟩
abbrev main_cst_65 : Ref sig .tc := ⟨.hbm, 277, rfl⟩
abbrev main_v180 : Ref sig .tc := ⟨.hbm, 278, rfl⟩
abbrev main_v181 : Ref sig .tc := ⟨.hbm, 279, rfl⟩
abbrev main_v182 : Ref sig .tc := ⟨.hbm, 280, rfl⟩
abbrev main_cst_66 : Ref sig .tc := ⟨.hbm, 281, rfl⟩
abbrev main_v183 : Ref sig .tc := ⟨.hbm, 282, rfl⟩
abbrev main_v184 : Ref sig .tc := ⟨.hbm, 283, rfl⟩
abbrev main_v185 : Ref sig .tc := ⟨.hbm, 284, rfl⟩
abbrev main_cst_67 : Ref sig .tc := ⟨.hbm, 285, rfl⟩
abbrev main_v186 : Ref sig .tc := ⟨.hbm, 286, rfl⟩
abbrev main_v187 : Ref sig .tc := ⟨.hbm, 287, rfl⟩
abbrev main_cst_68 : Ref sig .tc := ⟨.hbm, 288, rfl⟩
abbrev main_v188 : Ref sig .tc := ⟨.hbm, 289, rfl⟩
abbrev main_v189 : Ref sig .tc := ⟨.hbm, 290, rfl⟩
abbrev main_cst_69 : Ref sig .tc := ⟨.hbm, 291, rfl⟩
abbrev main_v190 : Ref sig .tc := ⟨.hbm, 292, rfl⟩
abbrev main_v191 : Ref sig .tc := ⟨.hbm, 293, rfl⟩
abbrev main_v192 : Ref sig .tc := ⟨.hbm, 294, rfl⟩
abbrev main_cst_70 : Ref sig .tc := ⟨.hbm, 295, rfl⟩
abbrev main_v193 : Ref sig .tc := ⟨.hbm, 296, rfl⟩
abbrev main_v194 : Ref sig .tc := ⟨.hbm, 297, rfl⟩
abbrev main_v195 : Ref sig .tc := ⟨.hbm, 298, rfl⟩
abbrev main_cst_71 : Ref sig .tc := ⟨.hbm, 299, rfl⟩
abbrev main_v196 : Ref sig .tc := ⟨.hbm, 300, rfl⟩
abbrev main_v197 : Ref sig .tc := ⟨.hbm, 301, rfl⟩
abbrev main_v198 : Ref sig .tc := ⟨.hbm, 302, rfl⟩
abbrev main_cst_72 : Ref sig .tc := ⟨.hbm, 303, rfl⟩
abbrev main_v199 : Ref sig .tc := ⟨.hbm, 304, rfl⟩
abbrev main_v200 : Ref sig .tc := ⟨.hbm, 305, rfl⟩
abbrev main_cst_73 : Ref sig .tc := ⟨.hbm, 306, rfl⟩
abbrev main_v201 : Ref sig .tc := ⟨.hbm, 307, rfl⟩
abbrev main_v202 : Ref sig .tc := ⟨.hbm, 308, rfl⟩
abbrev main_v203 : Ref sig .tc := ⟨.hbm, 309, rfl⟩
abbrev main_cst_74 : Ref sig .tc := ⟨.hbm, 310, rfl⟩
abbrev main_v204 : Ref sig .tc := ⟨.hbm, 311, rfl⟩
abbrev main_v205 : Ref sig .tc := ⟨.hbm, 312, rfl⟩
abbrev main_v206 : Ref sig .tc := ⟨.hbm, 313, rfl⟩
abbrev main_cst_75 : Ref sig .tc := ⟨.hbm, 314, rfl⟩
abbrev main_v207 : Ref sig .tc := ⟨.hbm, 315, rfl⟩
abbrev main_v208 : Ref sig .tc := ⟨.hbm, 316, rfl⟩
abbrev main_v209 : Ref sig .tc := ⟨.hbm, 317, rfl⟩
abbrev main_cst_76 : Ref sig .tc := ⟨.hbm, 318, rfl⟩
abbrev main_v210 : Ref sig .tc := ⟨.hbm, 319, rfl⟩
abbrev main_v211 : Ref sig .tc := ⟨.hbm, 320, rfl⟩
abbrev main_cst_77 : Ref sig .tc := ⟨.hbm, 321, rfl⟩
abbrev main_v212 : Ref sig .tc := ⟨.hbm, 322, rfl⟩
abbrev main_v213 : Ref sig .tc := ⟨.hbm, 323, rfl⟩
abbrev main_cst_78 : Ref sig .tc := ⟨.hbm, 324, rfl⟩
abbrev main_v214 : Ref sig .tc := ⟨.hbm, 325, rfl⟩
abbrev main_v215 : Ref sig .tc := ⟨.hbm, 326, rfl⟩
abbrev main_v216 : Ref sig .tc := ⟨.hbm, 327, rfl⟩
abbrev main_cst_79 : Ref sig .tc := ⟨.hbm, 328, rfl⟩
abbrev main_v217 : Ref sig .tc := ⟨.hbm, 329, rfl⟩
abbrev main_v218 : Ref sig .tc := ⟨.hbm, 330, rfl⟩
abbrev main_v219 : Ref sig .tc := ⟨.hbm, 331, rfl⟩
abbrev main_cst_80 : Ref sig .tc := ⟨.hbm, 332, rfl⟩
abbrev main_v220 : Ref sig .tc := ⟨.hbm, 333, rfl⟩
abbrev main_v221 : Ref sig .tc := ⟨.hbm, 334, rfl⟩
abbrev main_v222 : Ref sig .tc := ⟨.hbm, 335, rfl⟩
abbrev main_cst_81 : Ref sig .tc := ⟨.hbm, 336, rfl⟩
abbrev main_v223 : Ref sig .tc := ⟨.hbm, 337, rfl⟩
abbrev main_v224 : Ref sig .tc := ⟨.hbm, 338, rfl⟩
abbrev main_cst_82 : Ref sig .tc := ⟨.hbm, 339, rfl⟩
abbrev main_v225 : Ref sig .tc := ⟨.hbm, 340, rfl⟩
abbrev main_v226 : Ref sig .tc := ⟨.hbm, 341, rfl⟩
abbrev main_v227 : Ref sig .tc := ⟨.hbm, 342, rfl⟩
abbrev main_cst_83 : Ref sig .tc := ⟨.hbm, 343, rfl⟩
abbrev main_v228 : Ref sig .tc := ⟨.hbm, 344, rfl⟩
abbrev main_v229 : Ref sig .tc := ⟨.hbm, 345, rfl⟩
abbrev main_v230 : Ref sig .tc := ⟨.hbm, 346, rfl⟩
abbrev main_cst_84 : Ref sig .tc := ⟨.hbm, 347, rfl⟩
abbrev main_v231 : Ref sig .tc := ⟨.hbm, 348, rfl⟩
abbrev main_v232 : Ref sig .tc := ⟨.hbm, 349, rfl⟩
abbrev main_v233 : Ref sig .tc := ⟨.hbm, 350, rfl⟩
abbrev main_cst_85 : Ref sig .tc := ⟨.hbm, 351, rfl⟩
abbrev main_v234 : Ref sig .tc := ⟨.hbm, 352, rfl⟩
abbrev main_v235 : Ref sig .tc := ⟨.hbm, 353, rfl⟩

abbrev nD : Nat := 1
abbrev τ : Topo := Topo.v7x

variable {F : FTy → Type} [FloatOps F]
-- ==== AdamDown.lean ====
abbrev S1 : Shape := ⟨1, ![1]⟩
abbrev S352x1024 : Shape := ⟨2, ![352, 1024]⟩
abbrev S8x352x1024 : Shape := ⟨3, ![8, 352, 1024]⟩
abbrev S7x352x1024 : Shape := ⟨3, ![7, 352, 1024]⟩
abbrev S176x1024 : Shape := ⟨2, ![176, 1024]⟩
abbrev S1x176x1024 : Shape := ⟨3, ![1, 176, 1024]⟩
abbrev S7x176x1024 : Shape := ⟨3, ![7, 176, 1024]⟩

abbrev nBuf : Space → Nat
  | .hbm => 9
  | .vmem => 18
  | .smem => 1
  | _ => 0

abbrev bufTy : (tb : Table) → Fin (tcTables nBuf tb) → BufTy
  | .hbm, ⟨0, _⟩ => ⟨S352x1024, .f32⟩
  | .hbm, ⟨1, _⟩ => ⟨S352x1024, .f32⟩
  | .hbm, ⟨2, _⟩ => ⟨S352x1024, .f32⟩
  | .hbm, ⟨3, _⟩ => ⟨S8x352x1024, .bf16⟩
  | .hbm, ⟨4, _⟩ => ⟨S7x352x1024, .bf16⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S1x176x1024, .bf16⟩
  | .local _ .vmem, ⟨7, _⟩ => ⟨S1x176x1024, .bf16⟩
  | .local _ .vmem, ⟨8, _⟩ => ⟨S7x176x1024, .bf16⟩
  | .local _ .vmem, ⟨9, _⟩ => ⟨S7x176x1024, .bf16⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .smem, ⟨0, _⟩ => ⟨S1, .i32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S7x176x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownReferenceIdeal.lean ====
abbrev S1 : Shape := ⟨1, ![1]⟩
abbrev S352x1024 : Shape := ⟨2, ![352, 1024]⟩
abbrev S8x352x1024 : Shape := ⟨3, ![8, 352, 1024]⟩
abbrev S7x352x1024 : Shape := ⟨3, ![7, 352, 1024]⟩
abbrev S_ : Shape := ⟨0, ![]⟩
abbrev S1x352x1024 : Shape := ⟨3, ![1, 352, 1024]⟩

abbrev nBuf : Space → Nat
  | .hbm => 54
  | .vmem => 0
  | .smem => 0
  | _ => 0

abbrev bufTy : (tb : Table) → Fin (tcTables nBuf tb) → BufTy
  | .hbm, ⟨0, _⟩ => ⟨S1, .i32⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .bf16⟩
  | .hbm, ⟨5, _⟩ => ⟨S7x352x1024, .bf16⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S1x352x1024, .bf16⟩
  | .hbm, ⟨15, _⟩ => ⟨S352x1024, .bf16⟩
  | .hbm, ⟨16, _⟩ => ⟨S352x1024, .f32⟩
  | .hbm, ⟨17, _⟩ => ⟨S7x352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S_, .f32⟩
  | .hbm, ⟨22, _⟩ => ⟨S352x1024, .f32⟩
  | .hbm, ⟨23, _⟩ => ⟨S352x1024, .f32⟩
  | .hbm, ⟨24, _⟩ => ⟨S_, .f32⟩
  | .hbm, ⟨25, _⟩ => ⟨S352x1024, .f32⟩
  | .hbm, ⟨26, _⟩ => ⟨S352x1024, .f32⟩
  | .hbm, ⟨27, _⟩ => ⟨S352x1024, .f32⟩
  | .hbm, ⟨28, _⟩ => ⟨S_, .f32⟩
  | .hbm, ⟨29, _⟩ => ⟨S352x1024, .f32⟩
  | .hbm, ⟨30, _⟩ => ⟨S352x1024, .f32⟩
  | .hbm, ⟨31, _⟩ => ⟨S352x1024, .f32⟩
  | .hbm, ⟨32, _⟩ => ⟨S_, .f32⟩
  | .hbm, ⟨33, _⟩ => ⟨S352x1024, .f32⟩
  | .hbm, ⟨34, _⟩ => ⟨S352x1024, .f32⟩
  | .hbm, ⟨35, _⟩ => ⟨S352x1024, .f32⟩
  | .hbm, ⟨36, _⟩ => ⟨S_, .f32⟩
  | .hbm, ⟨37, _⟩ => ⟨S352x1024, .f32⟩
  | .hbm, ⟨38, _⟩ => ⟨S352x1024, .f32⟩
  | .hbm, ⟨39, _⟩ => ⟨S_, .f32⟩
  | .hbm, ⟨40, _⟩ => ⟨S352x1024, .f32⟩
  | .hbm, ⟨41, _⟩ => ⟨S352x1024, .f32⟩
  | .hbm, ⟨42, _⟩ => ⟨S352x1024, .f32⟩
  | .hbm, ⟨43, _⟩ => ⟨S_, .f32⟩
  | .hbm, ⟨44, _⟩ => ⟨S352x1024, .f32⟩
  | .hbm, ⟨45, _⟩ => ⟨S352x1024, .f32⟩
  | .hbm, ⟨46, _⟩ => ⟨S352x1024, .f32⟩
  | .hbm, ⟨47, _⟩ => ⟨S_, .f32⟩
  | .hbm, ⟨48, _⟩ => ⟨S352x1024, .f32⟩
  | .hbm, ⟨49, _⟩ => ⟨S352x1024, .f32⟩
  | .hbm, ⟨50, _⟩ => ⟨S352x1024, .f32⟩
  | .hbm, ⟨51, _⟩ => ⟨S_, .f32⟩
  | .hbm, ⟨52, _⟩ => ⟨S352x1024, .f32⟩
  | .hbm, ⟨53, _⟩ => ⟨S352x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_c_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_7 : Ref sig .tc := ⟨.hbm, 36, rfl⟩
abbrev main_v21 : Ref sig .tc := ⟨.hbm, 37, rfl⟩
abbrev main_v22 : Ref sig .tc := ⟨.hbm, 38, rfl⟩
abbrev main_cst_8 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_9 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_10 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_11 : Ref sig .tc := ⟨.hbm, 51, rfl⟩
abbrev main_v32 : Ref sig .tc := ⟨.hbm, 52, rfl⟩
abbrev main_v33 : Ref sig .tc := ⟨.hbm, 53, rfl⟩

abbrev nD : Nat := 1
abbrev τ : Topo := Topo.v7x

variable {F : FTy → Type} [FloatOps F]
-- ==== AdamGateUp.lean ====
abbrev S1 : Shape := ⟨1, ![1]⟩
abbrev S704x1024 : Shape := ⟨2, ![704, 1024]⟩
abbrev S8x704x1024 : Shape := ⟨3, ![8, 704, 1024]⟩
abbrev S7x704x1024 : Shape := ⟨3, ![7, 704, 1024]⟩
abbrev S352x1024 : Shape := ⟨2, ![352, 1024]⟩
abbrev S1x352x1024 : Shape := ⟨3, ![1, 352, 1024]⟩
abbrev S7x352x1024 : Shape := ⟨3, ![7, 352, 1024]⟩

abbrev nBuf : Space → Nat
  | .hbm => 9
  | .vmem => 18
  | .smem => 1
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S8x704x1024, .bf16⟩
  | .hbm, ⟨4, _⟩ => ⟨S7x704x1024, .bf16⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S1x352x1024, .bf16⟩
  | .local _ .vmem, ⟨7, _⟩ => ⟨S1x352x1024, .bf16⟩
  | .local _ .vmem, ⟨8, _⟩ => ⟨S7x352x1024, .bf16⟩
  | .local _ .vmem, ⟨9, _⟩ => ⟨S7x352x1024, .bf16⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | .local _ .smem, ⟨0, _⟩ => ⟨S1, .i32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S7x352x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamGateUpReferenceIdeal.lean ====
abbrev S1 : Shape := ⟨1, ![1]⟩
abbrev S704x1024 : Shape := ⟨2, ![704, 1024]⟩
abbrev S8x704x1024 : Shape := ⟨3, ![8, 704, 1024]⟩
abbrev S7x704x1024 : Shape := ⟨3, ![7, 704, 1024]⟩
abbrev S_ : Shape := ⟨0, ![]⟩
abbrev S1x704x1024 : Shape := ⟨3, ![1, 704, 1024]⟩

abbrev nBuf : Space → Nat
  | .hbm => 54
  | .vmem => 0
  | .smem => 0
  | _ => 0

abbrev bufTy : (tb : Table) → Fin (tcTables nBuf tb) → BufTy
  | .hbm, ⟨0, _⟩ => ⟨S1, .i32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S8x704x1024, .bf16⟩
  | .hbm, ⟨5, _⟩ => ⟨S7x704x1024, .bf16⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S1x704x1024, .bf16⟩
  | .hbm, ⟨15, _⟩ => ⟨S704x1024, .bf16⟩
  | .hbm, ⟨16, _⟩ => ⟨S704x1024, .f32⟩
  | .hbm, ⟨17, _⟩ => ⟨S7x704x1024, .f32⟩
  | .hbm, ⟨18, _⟩ => ⟨S_, .f32⟩
  | .hbm, ⟨19, _⟩ => ⟨S704x1024, .f32⟩
  | .hbm, ⟨20, _⟩ => ⟨S704x1024, .f32⟩
  | .hbm, ⟨21, _⟩ => ⟨S_, .f32⟩
  | .hbm, ⟨22, _⟩ => ⟨S704x1024, .f32⟩
  | .hbm, ⟨23, _⟩ => ⟨S704x1024, .f32⟩
  | .hbm, ⟨24, _⟩ => ⟨S_, .f32⟩
  | .hbm, ⟨25, _⟩ => ⟨S704x1024, .f32⟩
  | .hbm, ⟨26, _⟩ => ⟨S704x1024, .f32⟩
  | .hbm, ⟨27, _⟩ => ⟨S704x1024, .f32⟩
  | .hbm, ⟨28, _⟩ => ⟨S_, .f32⟩
  | .hbm, ⟨29, _⟩ => ⟨S704x1024, .f32⟩
  | .hbm, ⟨30, _⟩ => ⟨S704x1024, .f32⟩
  | .hbm, ⟨31, _⟩ => ⟨S704x1024, .f32⟩
  | .hbm, ⟨32, _⟩ => ⟨S_, .f32⟩
  | .hbm, ⟨33, _⟩ => ⟨S704x1024, .f32⟩
  | .hbm, ⟨34, _⟩ => ⟨S704x1024, .f32⟩
  | .hbm, ⟨35, _⟩ => ⟨S704x1024, .f32⟩
  | .hbm, ⟨36, _⟩ => ⟨S_, .f32⟩
  | .hbm, ⟨37, _⟩ => ⟨S704x1024, .f32⟩
  | .hbm, ⟨38, _⟩ => ⟨S704x1024, .f32⟩
  | .hbm, ⟨39, _⟩ => ⟨S_, .f32⟩
  | .hbm, ⟨40, _⟩ => ⟨S704x1024, .f32⟩
  | .hbm, ⟨41, _⟩ => ⟨S704x1024, .f32⟩
  | .hbm, ⟨42, _⟩ => ⟨S704x1024, .f32⟩
  | .hbm, ⟨43, _⟩ => ⟨S_, .f32⟩
  | .hbm, ⟨44, _⟩ => ⟨S704x1024, .f32⟩
  | .hbm, ⟨45, _⟩ => ⟨S704x1024, .f32⟩
  | .hbm, ⟨46, _⟩ => ⟨S704x1024, .f32⟩
  | .hbm, ⟨47, _⟩ => ⟨S_, .f32⟩
  | .hbm, ⟨48, _⟩ => ⟨S704x1024, .f32⟩
  | .hbm, ⟨49, _⟩ => ⟨S704x1024, .f32⟩
  | .hbm, ⟨50, _⟩ => ⟨S704x1024, .f32⟩
  | .hbm, ⟨51, _⟩ => ⟨S_, .f32⟩
  | .hbm, ⟨52, _⟩ => ⟨S704x1024, .f32⟩
  | .hbm, ⟨53, _⟩ => ⟨S704x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_c_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_7 : Ref sig .tc := ⟨.hbm, 36, rfl⟩
abbrev main_v21 : Ref sig .tc := ⟨.hbm, 37, rfl⟩
abbrev main_v22 : Ref sig .tc := ⟨.hbm, 38, rfl⟩
abbrev main_cst_8 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_9 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_10 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_11 : Ref sig .tc := ⟨.hbm, 51, rfl⟩
abbrev main_v32 : Ref sig .tc := ⟨.hbm, 52, rfl⟩
abbrev main_v33 : Ref sig .tc := ⟨.hbm, 53, rfl⟩

abbrev nD : Nat := 1
abbrev τ : Topo := Topo.v7x

variable {F : FTy → Type} [FloatOps F]
-- ==== AdamOut.lean ====
abbrev S1 : Shape := ⟨1, ![1]⟩
abbrev S128x1024 : Shape := ⟨2, ![128, 1024]⟩
abbrev S8x128x1024 : Shape := ⟨3, ![8, 128, 1024]⟩
abbrev S7x128x1024 : Shape := ⟨3, ![7, 128, 1024]⟩
abbrev S1x128x1024 : Shape := ⟨3, ![1, 128, 1024]⟩

abbrev nBuf : Space → Nat
  | .hbm => 9
  | .vmem => 9
  | .smem => 1
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S7x128x1024, .bf16⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S1x128x1024, .bf16⟩
  | .local _ .vmem, ⟨4, _⟩ => ⟨S7x128x1024, .bf16⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .smem, ⟨0, _⟩ => ⟨S1, .i32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S7x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamOutReferenceIdeal.lean ====
abbrev S1 : Shape := ⟨1, ![1]⟩
abbrev S128x1024 : Shape := ⟨2, ![128, 1024]⟩
abbrev S8x128x1024 : Shape := ⟨3, ![8, 128, 1024]⟩
abbrev S7x128x1024 : Shape := ⟨3, ![7, 128, 1024]⟩
abbrev S_ : Shape := ⟨0, ![]⟩
abbrev S1x128x1024 : Shape := ⟨3, ![1, 128, 1024]⟩

abbrev nBuf : Space → Nat
  | .hbm => 54
  | .vmem => 0
  | .smem => 0
  | _ => 0

abbrev bufTy : (tb : Table) → Fin (tcTables nBuf tb) → BufTy
  | .hbm, ⟨0, _⟩ => ⟨S1, .i32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .bf16⟩
  | .hbm, ⟨5, _⟩ => ⟨S7x128x1024, .bf16⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S1x128x1024, .bf16⟩
  | .hbm, ⟨15, _⟩ => ⟨S128x1024, .bf16⟩
  | .hbm, ⟨16, _⟩ => ⟨S128x1024, .f32⟩
  | .hbm, ⟨17, _⟩ => ⟨S7x128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S_, .f32⟩
  | .hbm, ⟨44, _⟩ => ⟨S128x1024, .f32⟩
  | .hbm, ⟨45, _⟩ => ⟨S128x1024, .f32⟩
  | .hbm, ⟨46, _⟩ => ⟨S128x1024, .f32⟩
  | .hbm, ⟨47, _⟩ => ⟨S_, .f32⟩
  | .hbm, ⟨48, _⟩ => ⟨S128x1024, .f32⟩
  | .hbm, ⟨49, _⟩ => ⟨S128x1024, .f32⟩
  | .hbm, ⟨50, _⟩ => ⟨S128x1024, .f32⟩
  | .hbm, ⟨51, _⟩ => ⟨S_, .f32⟩
  | .hbm, ⟨52, _⟩ => ⟨S128x1024, .f32⟩
  | .hbm, ⟨53, _⟩ => ⟨S128x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_c_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_7 : Ref sig .tc := ⟨.hbm, 36, rfl⟩
abbrev main_v21 : Ref sig .tc := ⟨.hbm, 37, rfl⟩
abbrev main_v22 : Ref sig .tc := ⟨.hbm, 38, rfl⟩
abbrev main_cst_8 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_9 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_10 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_11 : Ref sig .tc := ⟨.hbm, 51, rfl⟩
abbrev main_v32 : Ref sig .tc := ⟨.hbm, 52, rfl⟩
abbrev main_v33 : Ref sig .tc := ⟨.hbm, 53, rfl⟩

abbrev nD : Nat := 1
abbrev τ : Topo := Topo.v7x

variable {F : FTy → Type} [FloatOps F]
-- ==== AdamIn.lean ====
abbrev S1 : Shape := ⟨1, ![1]⟩
abbrev S288x1024 : Shape := ⟨2, ![288, 1024]⟩
abbrev S8x288x1024 : Shape := ⟨3, ![8, 288, 1024]⟩
abbrev S7x288x1024 : Shape := ⟨3, ![7, 288, 1024]⟩
abbrev S144x1024 : Shape := ⟨2, ![144, 1024]⟩
abbrev S1x144x1024 : Shape := ⟨3, ![1, 144, 1024]⟩
abbrev S7x144x1024 : Shape := ⟨3, ![7, 144, 1024]⟩

abbrev nBuf : Space → Nat
  | .hbm => 9
  | .vmem => 18
  | .smem => 1
  | _ => 0

abbrev bufTy : (tb : Table) → Fin (tcTables nBuf tb) → BufTy
  | .hbm, ⟨0, _⟩ => ⟨S288x1024, .f32⟩
  | .hbm, ⟨1, _⟩ => ⟨S288x1024, .f32⟩
  | .hbm, ⟨2, _⟩ => ⟨S288x1024, .f32⟩
  | .hbm, ⟨3, _⟩ => ⟨S8x288x1024, .bf16⟩
  | .hbm, ⟨4, _⟩ => ⟨S7x288x1024, .bf16⟩
  | .hbm, ⟨5, _⟩ => ⟨S288x1024, .f32⟩
  | .hbm, ⟨6, _⟩ => ⟨S288x1024, .f32⟩
  | .hbm, ⟨7, _⟩ => ⟨S288x1024, .f32⟩
  | .hbm, ⟨8, _⟩ => ⟨S288x1024, .f32⟩
  | .local _ .vmem, ⟨0, _⟩ => ⟨S144x1024, .f32⟩
  | .local _ .vmem, ⟨1, _⟩ => ⟨S144x1024, .f32⟩
  | .local _ .vmem, ⟨2, _⟩ => ⟨S144x1024, .f32⟩
  | .local _ .vmem, ⟨3, _⟩ => ⟨S144x1024, .f32⟩
  | .local _ .vmem, ⟨4, _⟩ => ⟨S144x1024, .f32⟩
  | .local _ .vmem, ⟨5, _⟩ => ⟨S144x1024, .f32⟩
  | .local _ .vmem, ⟨6, _⟩ => ⟨S1x144x1024, .bf16⟩
  | .local _ .vmem, ⟨7, _⟩ => ⟨S1x144x1024, .bf16⟩
  | .local _ .vmem, ⟨8, _⟩ => ⟨S7x144x1024, .bf16⟩
  | .local _ .vmem, ⟨9, _⟩ => ⟨S7x144x1024, .bf16⟩
  | .local _ .vmem, ⟨10, _⟩ => ⟨S144x1024, .f32⟩
  | .local _ .vmem, ⟨11, _⟩ => ⟨S144x1024, .f32⟩
  | .local _ .vmem, ⟨12, _⟩ => ⟨S144x1024, .f32⟩
  | .local _ .vmem, ⟨13, _⟩ => ⟨S144x1024, .f32⟩
  | .local _ .vmem, ⟨14, _⟩ => ⟨S144x1024, .f32⟩
  | .local _ .vmem, ⟨15, _⟩ => ⟨S144x1024, .f32⟩
  | .local _ .vmem, ⟨16, _⟩ => ⟨S144x1024, .f32⟩
  | .local _ .vmem, ⟨17, _⟩ => ⟨S144x1024, .f32⟩
  | .local _ .smem, ⟨0, _⟩ => ⟨S1, .i32⟩
  | _, _ => ⟨S288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S144x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S144x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S144x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x144x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S7x144x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S144x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S144x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S144x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S144x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInReferenceIdeal.lean ====
abbrev S1 : Shape := ⟨1, ![1]⟩
abbrev S288x1024 : Shape := ⟨2, ![288, 1024]⟩
abbrev S8x288x1024 : Shape := ⟨3, ![8, 288, 1024]⟩
abbrev S7x288x1024 : Shape := ⟨3, ![7, 288, 1024]⟩
abbrev S_ : Shape := ⟨0, ![]⟩
abbrev S1x288x1024 : Shape := ⟨3, ![1, 288, 1024]⟩

abbrev nBuf : Space → Nat
  | .hbm => 54
  | .vmem => 0
  | .smem => 0
  | _ => 0

abbrev bufTy : (tb : Table) → Fin (tcTables nBuf tb) → BufTy
  | .hbm, ⟨0, _⟩ => ⟨S1, .i32⟩
  | .hbm, ⟨1, _⟩ => ⟨S288x1024, .f32⟩
  | .hbm, ⟨2, _⟩ => ⟨S288x1024, .f32⟩
  | .hbm, ⟨3, _⟩ => ⟨S288x1024, .f32⟩
  | .hbm, ⟨4, _⟩ => ⟨S8x288x1024, .bf16⟩
  | .hbm, ⟨5, _⟩ => ⟨S7x288x1024, .bf16⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S1x288x1024, .bf16⟩
  | .hbm, ⟨15, _⟩ => ⟨S288x1024, .bf16⟩
  | .hbm, ⟨16, _⟩ => ⟨S288x1024, .f32⟩
  | .hbm, ⟨17, _⟩ => ⟨S7x288x1024, .f32⟩
  | .hbm, ⟨18, _⟩ => ⟨S_, .f32⟩
  | .hbm, ⟨19, _⟩ => ⟨S288x1024, .f32⟩
  | .hbm, ⟨20, _⟩ => ⟨S288x1024, .f32⟩
  | .hbm, ⟨21, _⟩ => ⟨S_, .f32⟩
  | .hbm, ⟨22, _⟩ => ⟨S288x1024, .f32⟩
  | .hbm, ⟨23, _⟩ => ⟨S288x1024, .f32⟩
  | .hbm, ⟨24, _⟩ => ⟨S_, .f32⟩
  | .hbm, ⟨25, _⟩ => ⟨S288x1024, .f32⟩
  | .hbm, ⟨26, _⟩ => ⟨S288x1024, .f32⟩
  | .hbm, ⟨27, _⟩ => ⟨S288x1024, .f32⟩
  | .hbm, ⟨28, _⟩ => ⟨S_, .f32⟩
  | .hbm, ⟨29, _⟩ => ⟨S288x1024, .f32⟩
  | .hbm, ⟨30, _⟩ => ⟨S288x1024, .f32⟩
  | .hbm, ⟨31, _⟩ => ⟨S288x1024, .f32⟩
  | .hbm, ⟨32, _⟩ => ⟨S_, .f32⟩
  | .hbm, ⟨33, _⟩ => ⟨S288x1024, .f32⟩
  | .hbm, ⟨34, _⟩ => ⟨S288x1024, .f32⟩
  | .hbm, ⟨35, _⟩ => ⟨S288x1024, .f32⟩
  | .hbm, ⟨36, _⟩ => ⟨S_, .f32⟩
  | .hbm, ⟨37, _⟩ => ⟨S288x1024, .f32⟩
  | .hbm, ⟨38, _⟩ => ⟨S288x1024, .f32⟩
  | .hbm, ⟨39, _⟩ => ⟨S_, .f32⟩
  | .hbm, ⟨40, _⟩ => ⟨S288x1024, .f32⟩
  | .hbm, ⟨41, _⟩ => ⟨S288x1024, .f32⟩
  | .hbm, ⟨42, _⟩ => ⟨S288x1024, .f32⟩
  | .hbm, ⟨43, _⟩ => ⟨S_, .f32⟩
  | .hbm, ⟨44, _⟩ => ⟨S288x1024, .f32⟩
  | .hbm, ⟨45, _⟩ => ⟨S288x1024, .f32⟩
  | .hbm, ⟨46, _⟩ => ⟨S288x1024, .f32⟩
  | .hbm, ⟨47, _⟩ => ⟨S_, .f32⟩
  | .hbm, ⟨48, _⟩ => ⟨S288x1024, .f32⟩
  | .hbm, ⟨49, _⟩ => ⟨S288x1024, .f32⟩
  | .hbm, ⟨50, _⟩ => ⟨S288x1024, .f32⟩
  | .hbm, ⟨51, _⟩ => ⟨S_, .f32⟩
  | .hbm, ⟨52, _⟩ => ⟨S288x1024, .f32⟩
  | .hbm, ⟨53, _⟩ => ⟨S288x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_c_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_7 : Ref sig .tc := ⟨.hbm, 36, rfl⟩
abbrev main_v21 : Ref sig .tc := ⟨.hbm, 37, rfl⟩
abbrev main_v22 : Ref sig .tc := ⟨.hbm, 38, rfl⟩
abbrev main_cst_8 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_9 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_10 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_11 : Ref sig .tc := ⟨.hbm, 51, rfl⟩
abbrev main_v32 : Ref sig .tc := ⟨.hbm, 52, rfl⟩
abbrev main_v33 : Ref sig .tc := ⟨.hbm, 53, rfl⟩

abbrev nD : Nat := 1
abbrev τ : Topo := Topo.v7x

variable {F : FTy → Type} [FloatOps F]
-- ==== Proof.Reals.lean ====
/- Arrays of reals read at coordinates. `Is2 v f` says that the rank-two array `v` of extended reals holds, at row `p` and
   column `j`, the real number `f p j`; `Is1`, `Is0` say the same of a vector and of a scalar. The real arrays are functions
   of natural numbers, so that a slice, a half or a block is a shift of the argument. Each lemma below carries one operation
   of a kernel body or of a host program from arrays of extended reals to their reals. -/
module

public import Idealize.ShloMosaic.Lib.ValueIdx
public import Idealize.ShloMosaic.Lib.ValueLayout
public import Idealize.ShloMosaic.Lib.ValueLayoutCasts
public import Idealize.ShloMosaic.Lib.Pipeline.Value
public import Idealize.ShloMosaic.Lib.Pointwise
public import Idealize.ShloMosaic.PureOps.Ideal.Laws

@[expose] public section

noncomputable section

open Idealize.ShloMosaic
open Idealize.ShloMosaic.ValueIdx (mulf_apply addf_apply subf_apply divf_apply constant_apply broadcastTo_1b_ab_apply shapeCast_a_a1_apply shapeCast_a_1a_apply)
open scoped BigOperators

namespace Cert.Reals

/-- The array holds the reals `f`. -/
def Is2 {a b : ℕ} (v : (⟨2, ![a, b]⟩ : Shape).Idx → EReal) (f : ℕ → ℕ → ℝ) : Prop :=
  ∀ (p : Fin a) (j : Fin b), v (ValueIdx.ix2 p j) = ((f p.val j.val : ℝ) : EReal)
/-- The vector holds the reals `f`. -/
def Is1 {a : ℕ} (v : (⟨1, ![a]⟩ : Shape).Idx → EReal) (f : ℕ → ℝ) : Prop :=
  ∀ (p : Fin a), v (ValueIdx.ix1 p) = ((f p.val : ℝ) : EReal)
/-- The scalar is the real `r`. -/
def Is0 (v : (⟨0, ![]⟩ : Shape).Idx → EReal) (r : ℝ) : Prop := v ValueIdx.ix0 = (r : EReal)

theorem coe_sum_fin {n : ℕ} (f : ℕ → ℝ) : (∑ k : Fin n, ((f k.val : ℝ) : EReal)) = ((∑ k ∈ Finset.range n, f k : ℝ) : EReal) := by
  rw [Fin.sum_univ_eq_sum_range (fun k => ((f k : ℝ) : EReal)) n]
  induction n with
  | zero => simp
  | succ n ih => rw [Finset.sum_range_succ, Finset.sum_range_succ, EReal.coe_add, ih]

section
variable {a b c k : ℕ}

theorem Is2.congr {v : (⟨2, ![a, b]⟩ : Shape).Idx → EReal} {f g : ℕ → ℕ → ℝ} (h : Is2 v f)
    (e : ∀ p j, p < a → j < b → f p j = g p j) : Is2 v g := fun p j => by rw [h p j, e _ _ p.isLt j.isLt]
theorem Is1.congr {v : (⟨1, ![a]⟩ : Shape).Idx → EReal} {f g : ℕ → ℝ} (h : Is1 v f)
    (e : ∀ p, p < a → f p = g p) : Is1 v g := fun p => by rw [h p, e _ p.isLt]
theorem Is0.congr {v : (⟨0, ![]⟩ : Shape).Idx → EReal} {f g : ℝ} (h : Is0 v f) (e : f = g) : Is0 v g := e ▸ h
/-- Two arrays that hold the same reals are one array. -/
theorem Is2.unique {v w : (⟨2, ![a, b]⟩ : Shape).Idx → EReal} {f : ℕ → ℕ → ℝ} (h : Is2 v f) (h' : Is2 w f) : v = w := by
  funext i; rw [ValueIdx.eq_ix2 i]; exact (h _ _).trans (h' _ _).symm

/-! ## Elementwise operations -/
section pointwise
variable {φ ψ : FTy} {v w : FVec Ideal ⟨2, ![a, b]⟩ φ} {f g : ℕ → ℕ → ℝ} {v1 w1 : FVec Ideal ⟨1, ![a]⟩ φ} {f1 g1 : ℕ → ℝ}

theorem Is2.add (hv : Is2 v f) (hw : Is2 w g) : Is2 (addf v w) (fun p j => f p j + g p j) := fun p j => by
  rw [addf_apply, hv, hw, EReal.coe_add]
theorem Is2.sub (hv : Is2 v f) (hw : Is2 w g) : Is2 (subf v w) (fun p j => f p j - g p j) := fun p j => by
  rw [subf_apply, hv, hw, EReal.coe_sub]
theorem Is2.mul (hv : Is2 v f) (hw : Is2 w g) : Is2 (mulf v w) (fun p j => f p j * g p j) := fun p j => by
  rw [mulf_apply, hv, hw, EReal.coe_mul]
theorem Is1.mul (hv : Is1 v1 f1) (hw : Is1 w1 g1) : Is1 (mulf v1 w1) (fun p => f1 p * g1 p) := fun p => by
  rw [mulf_apply, hv, hw, EReal.coe_mul]
theorem div_real {x y : ℝ} (h : y ≠ 0) : Ideal.div (x : EReal) (y : EReal) = ((x / y : ℝ) : EReal) := by
  rw [Ideal.div_coe h, ← EReal.coe_mul, mul_one_div]
theorem Is2.div (hv : Is2 v f) (hw : Is2 w g) (h : ∀ p j, p < a → j < b → g p j ≠ 0) :
    Is2 (divf v w) (fun p j => f p j / g p j) := fun p j => by
  rw [divf_apply, hv, hw, div_real (h _ _ p.isLt j.isLt)]
theorem Is2.hdiv (hv : Is2 v f) (hw : Is2 w g) (h : ∀ p j, p < a → j < b → g p j ≠ 0) :
    Is2 (Host.divf v w) (fun p j => f p j / g p j) := fun p j => by
  show Ideal.div (v _) (w _) = _
  rw [hv, hw, div_real (h _ _ p.isLt j.isLt)]
theorem Is1.hdiv (hv : Is1 v1 f1) (hw : Is1 w1 g1) (h : ∀ p, p < a → g1 p ≠ 0) :
    Is1 (Host.divf v1 w1) (fun p => f1 p / g1 p) := fun p => by
  show Ideal.div (v1 _) (w1 _) = _
  rw [hv, hw, div_real (h _ p.isLt)]
theorem Is2.hneg (hv : Is2 v f) : Is2 (Host.negf v) (fun p j => -f p j) := fun p j => by
  show -(v _) = _
  rw [hv, EReal.coe_neg]
theorem Is2.exp (hv : Is2 v f) : Is2 (Idealize.ShloMosaic.exp v) (fun p j => Real.exp (f p j)) := fun p j => by
  show Ideal.exp (v _) = _
  rw [hv]; rfl
theorem Is2.hexp (hv : Is2 v f) : Is2 (Host.exp v) (fun p j => Real.exp (f p j)) := fun p j => by
  show Ideal.exp (v _) = _
  rw [hv]; rfl
theorem rsqrt_real {x : ℝ} (h : 0 < x) : Ideal.rsqrt (x : EReal) = (((Real.sqrt x)⁻¹ : ℝ) : EReal) := by
  rw [Ideal.rsqrt_coe, if_neg (not_lt.mpr h.le), if_neg h.ne']
theorem Is2.rsqrt (hv : Is2 v f) (h : ∀ p j, 0 < f p j) : Is2 (Idealize.ShloMosaic.rsqrt v) (fun p j => (Real.sqrt (f p j))⁻¹) :=
  fun p j => by
  show Ideal.rsqrt (v _) = _
  rw [hv, rsqrt_real (h _ _)]
theorem Is2.hrsqrt (hv : Is2 v f) (h : ∀ p j, 0 < f p j) : Is2 (Host.rsqrt v) (fun p j => (Real.sqrt (f p j))⁻¹) :=
  fun p j => by
  show Ideal.rsqrt (v _) = _
  rw [hv, rsqrt_real (h _ _)]
theorem Is2.trunc (hv : Is2 v f) (h : ψ.bits < φ.bits) : Is2 (truncf ψ v h : FVec Ideal _ ψ) f := hv
theorem Is2.ext (hv : Is2 v f) (h : φ.bits < ψ.bits) : Is2 (extf ψ v h : FVec Ideal _ ψ) f := hv
theorem Is2.splat {r : ℝ} {x : EReal} (h : x = (r : EReal)) : Is2 (broadcast ⟨2, ![a, b]⟩ x) (fun _ _ => r) := fun _ _ => h
theorem Is0.const {bits : BitVec FTy.f32.bits} {r : ℝ} (h : Ideal.ofBits .f32 bits = (r : EReal)) : Is0 (constant (F := Ideal) ⟨0, ![]⟩ .f32 bits) r := h
theorem Is2.self {v : (⟨2, ![a, b]⟩ : Shape).Idx → EReal} {f : ℕ → ℕ → ℝ} (hv : Is2 v f) (h : (⟨2, ![a, b]⟩ : Shape).ShapeCasts ⟨2, ![a, b]⟩) : Is2 (shapeCast ⟨2, ![a, b]⟩ v h) f := by
  rwa [shapeCast_self]
end pointwise

/-! ## Broadcasts, reductions and casts of a kernel body -/
section kernel
variable {φ : FTy} {f : ℕ → ℕ → ℝ} {f1 : ℕ → ℝ}

theorem Is2.row {v : (⟨2, ![1, b]⟩ : Shape).Idx → EReal} (hv : Is2 v f) (h : (⟨2, ![1, b]⟩ : Shape).Broadcasts ⟨2, ![a, b]⟩) :
    Is2 (broadcastTo ⟨2, ![a, b]⟩ v h) (fun _ j => f 0 j) := fun p j => by
  rw [broadcastTo_1b_ab_apply]; exact hv 0 j
theorem Is2.col {v : (⟨2, ![a, 1]⟩ : Shape).Idx → EReal} (hv : Is2 v f) (h : (⟨2, ![a, 1]⟩ : Shape).Broadcasts ⟨2, ![a, b]⟩) :
    Is2 (broadcastTo ⟨2, ![a, b]⟩ v h) (fun p _ => f p 0) := fun p j => by
  rw [broadcastTo_apply v h (ValueIdx.ix2 p j) (ValueIdx.ix2 p (0 : Fin 1)) fun ax => by
    match ax with
    | ⟨0, _⟩ =>
      show p.val = if a = 1 then 0 else p.val
      split
      · have := p.isLt; omega
      · rfl
    | ⟨1, _⟩ => rfl]
  exact hv p 0
theorem Is2.rowSum {v : FVec Ideal ⟨2, ![a, b]⟩ φ} (hv : Is2 v f) (acc : BitVec φ.bits) (h : (⟨2, ![a, b]⟩ : Shape).Reduces [1] ⟨1, ![a]⟩)
    (hφ : FKind.Formats φ) (hacc : acc = FKind.add.neutral φ hφ) :
    Is1 (multiReduction .add [1] ⟨1, ![a]⟩ v acc h hφ hacc) (fun p => ∑ k ∈ Finset.range b, f p k) := fun p => by
  rw [multiReduction_add_apply, Ideal.reduceAdd_def, Ideal.reduceAdd_r2_a1, ← coe_sum_fin]
  exact Finset.sum_congr rfl fun k _ => hv p k
theorem Is2.colSum {v : FVec Ideal ⟨2, ![a, b]⟩ φ} (hv : Is2 v f) (acc : BitVec φ.bits) (h : (⟨2, ![a, b]⟩ : Shape).Reduces [0] ⟨1, ![b]⟩)
    (hφ : FKind.Formats φ) (hacc : acc = FKind.add.neutral φ hφ) :
    Is1 (multiReduction .add [0] ⟨1, ![b]⟩ v acc h hφ hacc) (fun j => ∑ k ∈ Finset.range a, f k j) := fun j => by
  rw [multiReduction_add_apply, Ideal.reduceAdd_def, Ideal.reduceAdd_r2_a0, ← coe_sum_fin (fun k => f k j.val)]
  exact Finset.sum_congr rfl fun k _ => hv k j
theorem Is1.asCol {v : (⟨1, ![a]⟩ : Shape).Idx → EReal} (hv : Is1 v f1) (h : (⟨1, ![a]⟩ : Shape).ShapeCasts ⟨2, ![a, 1]⟩) :
    Is2 (shapeCast ⟨2, ![a, 1]⟩ v h) (fun p _ => f1 p) := fun p j => by
  rw [shapeCast_a_a1_apply]; exact hv p
theorem Is1.asRow {v : (⟨1, ![a]⟩ : Shape).Idx → EReal} (hv : Is1 v f1) (h : (⟨1, ![a]⟩ : Shape).ShapeCasts ⟨2, ![1, a]⟩) :
    Is2 (shapeCast ⟨2, ![1, a]⟩ v h) (fun _ j => f1 j) := fun p j => by
  rw [shapeCast_a_1a_apply]; exact hv j
end kernel

/-! ## Products -/
section products
variable {φ φ' : FTy} {f g : ℕ → ℕ → ℝ}

/-- The sum over the contracted coordinate, taken from the extended reals to the reals. -/
theorem sum_mul {n : ℕ} {L R : Fin n → EReal} {l r : ℕ → ℝ} (hl : ∀ k, L k = ((l k.val : ℝ) : EReal)) (hr : ∀ k, R k = ((r k.val : ℝ) : EReal)) :
    ∑ k : Fin n, L k * R k = ((∑ k ∈ Finset.range n, l k * r k : ℝ) : EReal) := by
  rw [← coe_sum_fin]
  exact Finset.sum_congr rfl fun k _ => by rw [hl, hr, EReal.coe_mul]

/-- A one-axis contraction's sum, re-indexed by its coordinate. -/
theorem contr_sum {sl sr so : Shape} (d : DotDims sl sr so) {n : ℕ} (hr : d.contr.rank = 1) (hs : d.contr.size ⟨0, by omega⟩ = n)
    (lhs : sl.Idx → EReal) (rhs : sr.Idx → EReal) (j : so.Idx) (L : Fin n → sl.Idx) (R : Fin n → sr.Idx)
    (hl : ∀ q, d.lhsIdx j ((ValueIdx.contrEquiv1 d n hr hs).symm q) = L q)
    (hr' : ∀ q, d.rhsIdx j ((ValueIdx.contrEquiv1 d n hr hs).symm q) = R q) :
    ∑ q : d.contr.Idx, lhs (d.lhsIdx j q) * rhs (d.rhsIdx j q) = ∑ q : Fin n, lhs (L q) * rhs (R q) := by
  rw [← Equiv.sum_comp (ValueIdx.contrEquiv1 d n hr hs).symm]
  exact Finset.sum_congr rfl fun q _ => by rw [hl q, hr' q]
theorem sumNN {lhs : (⟨2, ![a, k]⟩ : Shape).Idx → EReal} {rhs : (⟨2, ![k, b]⟩ : Shape).Idx → EReal} (hv : Is2 lhs f) (hw : Is2 rhs g)
    (wf : DotDims.WF ⟨2, ![a, k]⟩ ⟨2, ![k, b]⟩ ⟨2, ![a, b]⟩ [1] [0] [0] [1] [] []) (p : Fin a) (j : Fin b) :
    ∑ q : ((⟨[1], [0], [0], [1], [], [], wf⟩ : DotDims ⟨2, ![a, k]⟩ ⟨2, ![k, b]⟩ ⟨2, ![a, b]⟩)).contr.Idx,
      lhs ((⟨[1], [0], [0], [1], [], [], wf⟩ : DotDims ⟨2, ![a, k]⟩ ⟨2, ![k, b]⟩ ⟨2, ![a, b]⟩).lhsIdx (ValueIdx.ix2 p j) q) * rhs ((⟨[1], [0], [0], [1], [], [], wf⟩ : DotDims ⟨2, ![a, k]⟩ ⟨2, ![k, b]⟩ ⟨2, ![a, b]⟩).rhsIdx (ValueIdx.ix2 p j) q)
      = ((∑ q ∈ Finset.range k, f p.val q * g q j.val : ℝ) : EReal) := by
  have hk := fun q : Fin k => ValueIdx.contrEquiv1_symm_val (⟨[1], [0], [0], [1], [], [], wf⟩ : DotDims ⟨2, ![a, k]⟩ ⟨2, ![k, b]⟩ ⟨2, ![a, b]⟩) k rfl rfl q
  rw [contr_sum (n := k) _ rfl rfl lhs rhs _ (fun q => ValueIdx.ix2 p q) (fun q => ValueIdx.ix2 q j)
    (fun q => funext fun x => Fin.ext (by
      match x with
      | ⟨0, _⟩ => exact rfl
      | ⟨1, _⟩ => exact hk q))
    (fun q => funext fun x => Fin.ext (by
      match x with
      | ⟨0, _⟩ => exact hk q
      | ⟨1, _⟩ => exact rfl))]
  exact sum_mul (l := fun q => f p q) (r := fun q => g q j) (fun q => hv p q) (fun q => hw q j)
theorem Is2.dotNN {v : FVec Ideal ⟨2, ![a, k]⟩ φ} {w : FVec Ideal ⟨2, ![k, b]⟩ φ'} (hv : Is2 v f) (hw : Is2 w g)
    (wf : DotDims.WF ⟨2, ![a, k]⟩ ⟨2, ![k, b]⟩ ⟨2, ![a, b]⟩ [1] [0] [0] [1] [] []) :
    Is2 (matmul ⟨[1], [0], [0], [1], [], [], wf⟩ none v w (constant ⟨2, ![a, b]⟩ .f32 0x00000000#32)) (fun p j => ∑ q ∈ Finset.range k, f p q * g q j) := fun p j => by
  refine (Ideal.matmul_constant_zero_apply _ none v w _).trans ?_
  exact sumNN hv hw wf p j
theorem Is2.hdotNN {v : FVec Ideal ⟨2, ![a, k]⟩ φ} {w : FVec Ideal ⟨2, ![k, b]⟩ φ'} (hv : Is2 v f) (hw : Is2 w g)
    (wf : DotDims.WF ⟨2, ![a, k]⟩ ⟨2, ![k, b]⟩ ⟨2, ![a, b]⟩ [1] [0] [0] [1] [] []) :
    Is2 (Host.dotGeneral ⟨[1], [0], [0], [1], [], [], wf⟩ none v w) (fun p j => ∑ q ∈ Finset.range k, f p q * g q j) := fun p j => by
  simp only [Host.dotGeneral]
  rw [Ideal.dotGeneral_apply]
  exact sumNN hv hw wf p j
theorem sumNT {lhs : (⟨2, ![a, k]⟩ : Shape).Idx → EReal} {rhs : (⟨2, ![b, k]⟩ : Shape).Idx → EReal} (hv : Is2 lhs f) (hw : Is2 rhs g)
    (wf : DotDims.WF ⟨2, ![a, k]⟩ ⟨2, ![b, k]⟩ ⟨2, ![a, b]⟩ [1] [1] [0] [0] [] []) (p : Fin a) (j : Fin b) :
    ∑ q : ((⟨[1], [1], [0], [0], [], [], wf⟩ : DotDims ⟨2, ![a, k]⟩ ⟨2, ![b, k]⟩ ⟨2, ![a, b]⟩)).contr.Idx,
      lhs ((⟨[1], [1], [0], [0], [], [], wf⟩ : DotDims ⟨2, ![a, k]⟩ ⟨2, ![b, k]⟩ ⟨2, ![a, b]⟩).lhsIdx (ValueIdx.ix2 p j) q) * rhs ((⟨[1], [1], [0], [0], [], [], wf⟩ : DotDims ⟨2, ![a, k]⟩ ⟨2, ![b, k]⟩ ⟨2, ![a, b]⟩).rhsIdx (ValueIdx.ix2 p j) q)
      = ((∑ q ∈ Finset.range k, f p.val q * g j.val q : ℝ) : EReal) := by
  have hk := fun q : Fin k => ValueIdx.contrEquiv1_symm_val (⟨[1], [1], [0], [0], [], [], wf⟩ : DotDims ⟨2, ![a, k]⟩ ⟨2, ![b, k]⟩ ⟨2, ![a, b]⟩) k rfl rfl q
  rw [contr_sum (n := k) _ rfl rfl lhs rhs _ (fun q => ValueIdx.ix2 p q) (fun q => ValueIdx.ix2 j q)
    (fun q => funext fun x => Fin.ext (by
      match x with
      | ⟨0, _⟩ => exact rfl
      | ⟨1, _⟩ => exact hk q))
    (fun q => funext fun x => Fin.ext (by
      match x with
      | ⟨0, _⟩ => exact rfl
      | ⟨1, _⟩ => exact hk q))]
  exact sum_mul (l := fun q => f p q) (r := fun q => g j q) (fun q => hv p q) (fun q => hw j q)
theorem Is2.dotNT {v : FVec Ideal ⟨2, ![a, k]⟩ φ} {w : FVec Ideal ⟨2, ![b, k]⟩ φ'} (hv : Is2 v f) (hw : Is2 w g)
    (wf : DotDims.WF ⟨2, ![a, k]⟩ ⟨2, ![b, k]⟩ ⟨2, ![a, b]⟩ [1] [1] [0] [0] [] []) :
    Is2 (matmul ⟨[1], [1], [0], [0], [], [], wf⟩ none v w (constant ⟨2, ![a, b]⟩ .f32 0x00000000#32)) (fun p j => ∑ q ∈ Finset.range k, f p q * g j q) := fun p j => by
  refine (Ideal.matmul_constant_zero_apply _ none v w _).trans ?_
  exact sumNT hv hw wf p j
theorem Is2.hdotNT {v : FVec Ideal ⟨2, ![a, k]⟩ φ} {w : FVec Ideal ⟨2, ![b, k]⟩ φ'} (hv : Is2 v f) (hw : Is2 w g)
    (wf : DotDims.WF ⟨2, ![a, k]⟩ ⟨2, ![b, k]⟩ ⟨2, ![a, b]⟩ [1] [1] [0] [0] [] []) :
    Is2 (Host.dotGeneral ⟨[1], [1], [0], [0], [], [], wf⟩ none v w) (fun p j => ∑ q ∈ Finset.range k, f p q * g j q) := fun p j => by
  simp only [Host.dotGeneral]
  rw [Ideal.dotGeneral_apply]
  exact sumNT hv hw wf p j
theorem sumTN {lhs : (⟨2, ![k, a]⟩ : Shape).Idx → EReal} {rhs : (⟨2, ![k, b]⟩ : Shape).Idx → EReal} (hv : Is2 lhs f) (hw : Is2 rhs g)
    (wf : DotDims.WF ⟨2, ![k, a]⟩ ⟨2, ![k, b]⟩ ⟨2, ![a, b]⟩ [0] [0] [1] [1] [] []) (p : Fin a) (j : Fin b) :
    ∑ q : ((⟨[0], [0], [1], [1], [], [], wf⟩ : DotDims ⟨2, ![k, a]⟩ ⟨2, ![k, b]⟩ ⟨2, ![a, b]⟩)).contr.Idx,
      lhs ((⟨[0], [0], [1], [1], [], [], wf⟩ : DotDims ⟨2, ![k, a]⟩ ⟨2, ![k, b]⟩ ⟨2, ![a, b]⟩).lhsIdx (ValueIdx.ix2 p j) q) * rhs ((⟨[0], [0], [1], [1], [], [], wf⟩ : DotDims ⟨2, ![k, a]⟩ ⟨2, ![k, b]⟩ ⟨2, ![a, b]⟩).rhsIdx (ValueIdx.ix2 p j) q)
      = ((∑ q ∈ Finset.range k, f q p.val * g q j.val : ℝ) : EReal) := by
  have hk := fun q : Fin k => ValueIdx.contrEquiv1_symm_val (⟨[0], [0], [1], [1], [], [], wf⟩ : DotDims ⟨2, ![k, a]⟩ ⟨2, ![k, b]⟩ ⟨2, ![a, b]⟩) k rfl rfl q
  rw [contr_sum (n := k) _ rfl rfl lhs rhs _ (fun q => ValueIdx.ix2 q p) (fun q => ValueIdx.ix2 q j)
    (fun q => funext fun x => Fin.ext (by
      match x with
      | ⟨0, _⟩ => exact hk q
      | ⟨1, _⟩ => exact rfl))
    (fun q => funext fun x => Fin.ext (by
      match x with
      | ⟨0, _⟩ => exact hk q
      | ⟨1, _⟩ => exact rfl))]
  exact sum_mul (l := fun q => f q p) (r := fun q => g q j) (fun q => hv q p) (fun q => hw q j)
theorem Is2.dotTN {v : FVec Ideal ⟨2, ![k, a]⟩ φ} {w : FVec Ideal ⟨2, ![k, b]⟩ φ'} (hv : Is2 v f) (hw : Is2 w g)
    (wf : DotDims.WF ⟨2, ![k, a]⟩ ⟨2, ![k, b]⟩ ⟨2, ![a, b]⟩ [0] [0] [1] [1] [] []) :
    Is2 (matmul ⟨[0], [0], [1], [1], [], [], wf⟩ none v w (constant ⟨2, ![a, b]⟩ .f32 0x00000000#32)) (fun p j => ∑ q ∈ Finset.range k, f q p * g q j) := fun p j => by
  refine (Ideal.matmul_constant_zero_apply _ none v w _).trans ?_
  exact sumTN hv hw wf p j
theorem Is2.hdotTN {v : FVec Ideal ⟨2, ![k, a]⟩ φ} {w : FVec Ideal ⟨2, ![k, b]⟩ φ'} (hv : Is2 v f) (hw : Is2 w g)
    (wf : DotDims.WF ⟨2, ![k, a]⟩ ⟨2, ![k, b]⟩ ⟨2, ![a, b]⟩ [0] [0] [1] [1] [] []) :
    Is2 (Host.dotGeneral ⟨[0], [0], [1], [1], [], [], wf⟩ none v w) (fun p j => ∑ q ∈ Finset.range k, f q p * g q j) := fun p j => by
  simp only [Host.dotGeneral]
  rw [Ideal.dotGeneral_apply]
  exact sumTN hv hw wf p j
end products

/-! ## Layout operations and sums of a host program -/
section host
variable {φ : FTy} {f g : ℕ → ℕ → ℝ} {f1 : ℕ → ℝ} {r : ℝ}

theorem Is0.hsplat2 {v : (⟨0, ![]⟩ : Shape).Idx → EReal} (hv : Is0 v r) (dims : Fin 0 → Fin 2)
    (h : (⟨0, ![]⟩ : Shape).BroadcastsInDim ⟨2, ![a, b]⟩ dims) : Is2 (broadcastInDim ⟨2, ![a, b]⟩ dims h v) (fun _ _ => r) := fun p j => by
  rw [broadcastInDim_apply dims h v (ValueIdx.ix2 p j) ValueIdx.ix0 (fun x => x.elim0)]; exact hv
theorem Is0.hsplat1 {v : (⟨0, ![]⟩ : Shape).Idx → EReal} (hv : Is0 v r) (dims : Fin 0 → Fin 1)
    (h : (⟨0, ![]⟩ : Shape).BroadcastsInDim ⟨1, ![a]⟩ dims) : Is1 (broadcastInDim ⟨1, ![a]⟩ dims h v) (fun _ => r) := fun p => by
  rw [broadcastInDim_apply dims h v (ValueIdx.ix1 p) ValueIdx.ix0 (fun x => x.elim0)]; exact hv
theorem Is1.hcol {v : (⟨1, ![a]⟩ : Shape).Idx → EReal} (hv : Is1 v f1)
    (h : (⟨1, ![a]⟩ : Shape).BroadcastsInDim ⟨2, ![a, b]⟩ ![0]) : Is2 (broadcastInDim ⟨2, ![a, b]⟩ ![0] h v) (fun p _ => f1 p) := fun p j => by
  rw [broadcastInDim_apply ![0] h v (ValueIdx.ix2 p j) (ValueIdx.ix1 p) (fun x => by
    match x with
    | ⟨0, _⟩ =>
      show p.val = if a = 1 then 0 else p.val
      split
      · have := p.isLt; omega
      · rfl)]
  exact hv p
theorem Is1.hrow {v : (⟨1, ![b]⟩ : Shape).Idx → EReal} (hv : Is1 v f1)
    (h : (⟨1, ![b]⟩ : Shape).BroadcastsInDim ⟨2, ![a, b]⟩ ![1]) : Is2 (broadcastInDim ⟨2, ![a, b]⟩ ![1] h v) (fun _ j => f1 j) := fun p j => by
  rw [broadcastInDim_apply ![1] h v (ValueIdx.ix2 p j) (ValueIdx.ix1 j) (fun x => by
    match x with
    | ⟨0, _⟩ =>
      show j.val = if b = 1 then 0 else j.val
      split
      · have := j.isLt; omega
      · rfl)]
  exact hv j
theorem Is2.hrow {v : (⟨2, ![1, b]⟩ : Shape).Idx → EReal} (hv : Is2 v f)
    (h : (⟨2, ![1, b]⟩ : Shape).BroadcastsInDim ⟨2, ![a, b]⟩ ![0, 1]) : Is2 (broadcastInDim ⟨2, ![a, b]⟩ ![0, 1] h v) (fun _ j => f 0 j) := fun p j => by
  rw [broadcastInDim_apply ![0, 1] h v (ValueIdx.ix2 p j) (ValueIdx.ix2 (0 : Fin 1) j) (fun x => by
    match x with
    | ⟨0, _⟩ => rfl
    | ⟨1, _⟩ =>
      show j.val = if b = 1 then 0 else j.val
      split
      · have := j.isLt; omega
      · rfl)]
  exact hv 0 j
theorem Is2.hcol {v : (⟨2, ![a, 1]⟩ : Shape).Idx → EReal} (hv : Is2 v f)
    (h : (⟨2, ![a, 1]⟩ : Shape).BroadcastsInDim ⟨2, ![a, b]⟩ ![0, 1]) : Is2 (broadcastInDim ⟨2, ![a, b]⟩ ![0, 1] h v) (fun p _ => f p 0) := fun p j => by
  rw [broadcastInDim_apply ![0, 1] h v (ValueIdx.ix2 p j) (ValueIdx.ix2 p (0 : Fin 1)) (fun x => by
    match x with
    | ⟨1, _⟩ => rfl
    | ⟨0, _⟩ =>
      show p.val = if a = 1 then 0 else p.val
      split
      · have := p.isLt; omega
      · rfl)]
  exact hv p 0
theorem Is2.hrowSum {v : FVec Ideal ⟨2, ![a, b]⟩ φ} {init : (⟨0, ![]⟩ : Shape).Idx → Ideal φ} (hv : Is2 v f) (hi : Is0 init 0)
    (h : (⟨2, ![a, b]⟩ : Shape).ReducesTo [1] ⟨1, ![a]⟩) (hu : 0 < (⟨0, ![]⟩ : Shape).numel) :
    Is1 (Host.reduceAdd v init h hu) (fun p => ∑ k ∈ Finset.range b, f p k) := fun p => by
  rw [Host.reduceAdd_apply, Ideal.hostReduceAdd_def, Ideal.hostReduceAdd_r2_a1, ← coe_sum_fin, ValueIdx.eq_ix0 (Shape.Idx.first hu), hi, EReal.coe_zero, zero_add]
  exact Finset.sum_congr rfl fun k _ => hv p k
theorem Is2.hcolSum {v : FVec Ideal ⟨2, ![a, b]⟩ φ} {init : (⟨0, ![]⟩ : Shape).Idx → Ideal φ} (hv : Is2 v f) (hi : Is0 init 0)
    (h : (⟨2, ![a, b]⟩ : Shape).ReducesTo [0] ⟨1, ![b]⟩) (hu : 0 < (⟨0, ![]⟩ : Shape).numel) :
    Is1 (Host.reduceAdd v init h hu) (fun j => ∑ k ∈ Finset.range a, f k j) := fun j => by
  rw [Host.reduceAdd_apply, Ideal.hostReduceAdd_def, Ideal.hostReduceAdd_r2_a0, ← coe_sum_fin (fun k => f k j.val), ValueIdx.eq_ix0 (Shape.Idx.first hu), hi, EReal.coe_zero, zero_add]
  exact Finset.sum_congr rfl fun k _ => hv k j
theorem Is1.hsum {v : FVec Ideal ⟨1, ![a]⟩ φ} {init : (⟨0, ![]⟩ : Shape).Idx → Ideal φ} (hv : Is1 v f1) (hi : Is0 init 0)
    (h : (⟨1, ![a]⟩ : Shape).ReducesTo [0] ⟨0, ![]⟩) (hu : 0 < (⟨0, ![]⟩ : Shape).numel) :
    Is0 (Host.reduceAdd v init h hu) (∑ k ∈ Finset.range a, f1 k) := by
  show Host.reduceAdd v init h hu ValueIdx.ix0 = _
  rw [Host.reduceAdd_apply, Ideal.hostReduceAdd_def, Ideal.hostReduceAdd_total _ (fun x => x.elim0), ValueIdx.eq_ix0 (Shape.Idx.first hu), hi, EReal.coe_zero, zero_add, ← coe_sum_fin]
  refine Fintype.sum_equiv (⟨fun i => i 0, fun q => ValueIdx.ix1 q, fun i => (ValueIdx.eq_ix1 i).symm, fun q => rfl⟩ : (⟨1, ![a]⟩ : Shape).Idx ≃ Fin a) _ _ fun i => ?_
  conv_lhs => rw [ValueIdx.eq_ix1 i]
  exact hv _
theorem Is2.hslice {m n : ℕ} {v : (⟨2, ![m, n]⟩ : Shape).Idx → EReal} (hv : Is2 v f) (p0 j0 : ℕ)
    (h : (⟨2, ![m, n]⟩ : Shape).Slices ![p0, j0] ⟨2, ![a, b]⟩) :
    Is2 (extractStridedSlice ⟨2, ![a, b]⟩ ![p0, j0] v h) (fun p j => f (p0 + p) (j0 + j)) := fun p j => by
  have hp : p0 + p.val < m := by have := h.2 (0 : Fin 2); have := p.isLt; simp at *; omega
  have hj : j0 + j.val < n := by have := h.2 (1 : Fin 2); have := j.isLt; simp at *; omega
  rw [extractStridedSlice_apply ![p0, j0] v h (ValueIdx.ix2 p j) (ValueIdx.ix2 ⟨p0 + p.val, hp⟩ ⟨j0 + j.val, hj⟩) (fun x => by
    match x with
    | ⟨0, _⟩ => rfl
    | ⟨1, _⟩ => rfl)]
  exact hv _ _
theorem Is2.htranspose {v : (⟨2, ![a, b]⟩ : Shape).Idx → EReal} (hv : Is2 v f) (h : (⟨2, ![a, b]⟩ : Shape).Transposes [1, 0] ⟨2, ![b, a]⟩) :
    Is2 (transpose ⟨2, ![b, a]⟩ [1, 0] v h) (fun p j => f j p) := fun p j => by
  rw [transpose_apply [1, 0] v h (ValueIdx.ix2 p j) (ValueIdx.ix2 j p) (fun x => by
    match x with
    | ⟨0, _⟩ => rfl
    | ⟨1, _⟩ => rfl)]
  exact hv j p
end host
end

/-! ## The constants -/
theorem lit_zero : Ideal.ofBits .f32 0x00000000#32 = ((0 : ℝ) : EReal) := by rw [Ideal.ofBits_zero_f32, EReal.coe_zero]
theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_inv1024 : Ideal.ofBits .f32 0x3A800000#32 = ((1 / 1024 : ℝ) : EReal) := by
  simp [Ideal.ofBits, Ideal.ieee, -EReal.coe_mul]; norm_num
theorem lit_inv2048 : Ideal.ofBits .f32 0x3A000000#32 = ((1 / 2048 : ℝ) : EReal) := by
  simp [Ideal.ofBits, Ideal.ieee, -EReal.coe_mul]; norm_num
/-- The small number added under the square root: the binary fraction nearest to a millionth. -/
def eps : ℝ := 8796093 / 8796093022208
theorem eps_pos : 0 < eps := by unfold eps; norm_num
theorem lit_eps : Ideal.ofBits .f32 0x358637BD#32 = ((eps : ℝ) : EReal) := by
  unfold eps; simp [Ideal.ofBits, Ideal.ieee, -EReal.coe_mul]; norm_num

end Cert.Reals

end
-- ==== Proof.Finite.lean ====
/-
An array of finite values as an array of reals.
-/
module
public import proofs.«01_k».proof.Proof.Reals
@[expose] public section
noncomputable section
open Idealize.ShloMosaic
open scoped BigOperators

namespace Cert.Reals

/-- The real numbers an array holds, by row and column; nought outside. -/
def realsOf {a b : ℕ} (v : (⟨2, ![a, b]⟩ : Shape).Idx → EReal) (p j : ℕ) : ℝ :=
  if h : p < a ∧ j < b then (v (ValueIdx.ix2 ⟨p, h.1⟩ ⟨j, h.2⟩)).toReal else 0

/-- An array without infinities holds its reals. -/
theorem Is2.realsOf {a b : ℕ} {v : (⟨2, ![a, b]⟩ : Shape).Idx → EReal} (h : ∀ i, v i ≠ ⊤ ∧ v i ≠ ⊥) : Is2 v (realsOf v) := fun p j => by
  unfold Cert.Reals.realsOf
  rw [dif_pos ⟨p.isLt, j.isLt⟩]
  exact (EReal.coe_toReal (h _).1 (h _).2).symm

/-- Where the magnitude lies below infinity the value is finite. -/
theorem finite_of_lt {s : Shape} {x : FVec Ideal s .f32} (hb : (⟨0, ![]⟩ : Shape).BroadcastsInDim s (![] : Fin 0 → Fin s.rank))
    (h : cmpf .olt (Host.absf x) (broadcastInDim s ![] hb (constant (F := Ideal) ⟨0, ![]⟩ .f32 0x7F800000#32)) = fun _ => 1#1) :
    ∀ i, x i ≠ ⊤ ∧ x i ≠ ⊥ := fun i => by
  have e := congrFun h i
  have htop : Ideal.ofBits .f32 0x7F800000#32 = ⊤ := by simp [Ideal.ofBits, Ideal.ieee]
  have e2 : Ideal.cmp .olt (max (x i) (-(x i))) (Ideal.ofBits .f32 0x7F800000#32) = 1#1 := e
  rw [htop] at e2
  constructor
  · intro hx; rw [hx] at e2; simp [Ideal.cmp] at e2
  · intro hx; rw [hx] at e2; simp [Ideal.cmp] at e2
/-! ## Single numbers, and arrays laid side by side or one above the other -/
theorem Is0.mul {v w : FVec Ideal ⟨0, ![]⟩ .f32} {r q : ℝ} (hv : Is0 v r) (hw : Is0 w q) : Is0 (mulf v w) (r * q) := by
  show v ValueIdx.ix0 * w ValueIdx.ix0 = _
  rw [hv, hw, EReal.coe_mul]
theorem Is2.hcat {a n1 n2 n : ℕ} {v : (⟨2, ![a, n1]⟩ : Shape).Idx → EReal} {w : (⟨2, ![a, n2]⟩ : Shape).Idx → EReal} {f g : ℕ → ℕ → ℝ} (hv : Is2 v f) (hw : Is2 w g)
    (h : Shape.Concatenates [⟨2, ![a, n1]⟩, ⟨2, ![a, n2]⟩] ⟨2, ![a, n]⟩ 1) (hn : n1 + n2 = n) :
    Is2 (concatenate ⟨2, ![a, n]⟩ 1 [⟨⟨2, ![a, n1]⟩, v⟩, ⟨⟨2, ![a, n2]⟩, w⟩] h) (fun p j => if j < n1 then f p j else g p (j - n1)) := fun p j => by
  beta_reduce
  by_cases hj : j.val < n1
  · rw [if_pos hj, concatenate_pair_apply_left (t := ⟨2, ![a, n]⟩) 1 v w h (ValueIdx.ix2 p j) rfl (ValueIdx.ix2 p (⟨j.val, hj⟩ : Fin n1)) (fun b => by
      match b with
      | ⟨0, _⟩ => rfl
      | ⟨1, _⟩ => rfl)]
    exact hv _ _
  · have hj2 : j.val - n1 < n2 := by have := j.isLt; omega
    rw [if_neg hj, concatenate_pair_apply_right (t := ⟨2, ![a, n]⟩) 1 v w h (ValueIdx.ix2 p j) rfl rfl (ValueIdx.ix2 p (⟨j.val - n1, hj2⟩ : Fin n2)) (fun b hb => by
      match b with
      | ⟨0, _⟩ => rfl
      | ⟨1, _⟩ => exact absurd rfl hb) (by show j.val - n1 + n1 = j.val; omega)]
    exact hw _ _
theorem Is2.hstack {b : ℕ} {v : Fin 8 → ((⟨2, ![1, b]⟩ : Shape).Idx → EReal)} {f : ℕ → ℕ → ℝ} (hv : ∀ q : Fin 8, Is2 (v q) (fun _ j => f q.val j))
    (h : Shape.Concatenates ((List.ofFn fun q : Fin 8 => (⟨⟨2, ![1, b]⟩, v q⟩ : (s : Shape) × (s.Idx → EReal))).map (·.1)) ⟨2, ![8, b]⟩ 0) :
    Is2 (concatenate ⟨2, ![8, b]⟩ 0 (List.ofFn fun q : Fin 8 => (⟨⟨2, ![1, b]⟩, v q⟩ : (s : Shape) × (s.Idx → EReal))) h) f := fun p j => by
  rw [concatenate_ofFn_unit_apply (t := ⟨2, ![8, b]⟩) (s₁ := ⟨2, ![1, b]⟩) 0 v h rfl rfl (ValueIdx.ix2 p j) p rfl (ValueIdx.ix2 (0 : Fin 1) j) (fun x hx => by
      match x with
      | ⟨0, _⟩ => exact absurd rfl hx
      | ⟨1, _⟩ => rfl)]
  exact hv p _ j
end Cert.Reals
end
-- ==== Proof.Spec.lean ====
/-
The values of the block's second half and its gradients, over the reals: plain functions of the token and the column.
-/
module
public import proofs.«01_k».proof.Proof.Reals
@[expose] public section
noncomputable section
open scoped BigOperators

namespace Cert.Spec
open Cert.Reals (eps eps_pos)

/-- The step's inputs to this part, as real functions of row and column: the residual stream, the mixer's merged output,
    the six modulation rows, the gains, the weights and the target. -/
structure Data where
  x : ℕ → ℕ → ℝ
  mg : ℕ → ℕ → ℝ
  mod : ℕ → ℕ → ℝ
  gn : ℕ → ℕ → ℝ
  wgu : ℕ → ℕ → ℝ
  wd : ℕ → ℕ → ℝ
  wo : ℕ → ℕ → ℝ
  gf : ℕ → ℕ → ℝ
  tg : ℕ → ℕ → ℝ

/-- The mean of the squares of row `p`, with the small number added. -/
def ms (f : ℕ → ℕ → ℝ) (p : ℕ) : ℝ := (∑ k ∈ Finset.range 1024, f p k * f p k) / 1024 + eps
/-- One over the root mean square. -/
def rs (f : ℕ → ℕ → ℝ) (p : ℕ) : ℝ := (Real.sqrt (ms f p))⁻¹
theorem ms_pos (f : ℕ → ℕ → ℝ) (p : ℕ) : 0 < ms f p :=
  add_pos_of_nonneg_of_pos (div_nonneg (Finset.sum_nonneg fun k _ => mul_self_nonneg _) (by norm_num)) eps_pos
/-- The normalisation's gradient: `u` the incoming gradient, `n` the normalised rows, `r` the reciprocal root. -/
def nback (u n : ℕ → ℕ → ℝ) (r : ℕ → ℝ) (p j : ℕ) : ℝ :=
  r p * (u p j - n p j * ((∑ k ∈ Finset.range 1024, u p k * n p k) / 1024))

namespace Data
variable (D : Data)
/-- The output projection. -/
def o1 (p j : ℕ) : ℝ := ∑ k ∈ Finset.range 1024, D.mg p k * D.wo k j
/-- The residual stream after the mixer. -/
def x1 (p j : ℕ) : ℝ := D.x p j + D.mod 2 j * D.o1 p j
def n1 (p j : ℕ) : ℝ := D.x1 p j * rs D.x1 p
/-- The second normalisation, modulated. -/
def h2 (p j : ℕ) : ℝ := D.n1 p j * D.gn 0 j * (1 + D.mod 4 j) + D.mod 3 j
def gate (p f : ℕ) : ℝ := ∑ k ∈ Finset.range 1024, D.h2 p k * D.wgu k f
def up (p f : ℕ) : ℝ := ∑ k ∈ Finset.range 1024, D.h2 p k * D.wgu k (2816 + f)
/-- The gate's logistic function. -/
def sg (p f : ℕ) : ℝ := 1 / (1 + Real.exp (-D.gate p f))
def act (p f : ℕ) : ℝ := D.gate p f * D.sg p f * D.up p f
def o2 (p j : ℕ) : ℝ := ∑ k ∈ Finset.range 2816, D.act p k * D.wd k j
/-- The residual stream after the feed-forward part. -/
def x2 (p j : ℕ) : ℝ := D.x1 p j + D.mod 5 j * D.o2 p j
def xn (p j : ℕ) : ℝ := D.x2 p j * rs D.x2 p
def err (p j : ℕ) : ℝ := D.xn p j * D.gf 0 j - D.tg p j
/-- The loss's gradient at the prediction. -/
def dy (p j : ℕ) : ℝ := D.err p j * (1 / 1024)
def dxn (p j : ℕ) : ℝ := D.dy p j * D.gf 0 j
def dx2 (p j : ℕ) : ℝ := nback D.dxn D.xn (rs D.x2) p j
def do2 (p j : ℕ) : ℝ := D.dx2 p j * D.mod 5 j
def dact (p f : ℕ) : ℝ := ∑ k ∈ Finset.range 1024, D.do2 p k * D.wd f k
def dgate (p f : ℕ) : ℝ := D.dact p f * (D.up p f * (D.sg p f * (1 + D.gate p f * (1 - D.sg p f))))
def dup (p f : ℕ) : ℝ := D.dact p f * (D.gate p f * D.sg p f)
/-- The gradients of the gate and of the up projection, side by side. -/
def dgu (p f : ℕ) : ℝ := if f < 2816 then D.dgate p f else D.dup p (f - 2816)
def dh (p j : ℕ) : ℝ := ∑ k ∈ Finset.range 2816, D.dgate p k * D.wgu j k + ∑ k ∈ Finset.range 2816, D.dup p k * D.wgu j (2816 + k)
def dn (p j : ℕ) : ℝ := D.dh p j * (1 + D.mod 4 j)
def dnx (p j : ℕ) : ℝ := D.dn p j * D.gn 0 j
def dx1 (p j : ℕ) : ℝ := D.dx2 p j + nback D.dnx D.n1 (rs D.x1) p j
def do1 (p j : ℕ) : ℝ := D.dx1 p j * D.mod 2 j
def dmg (p j : ℕ) : ℝ := ∑ k ∈ Finset.range 1024, D.do1 p k * D.wo j k
/-- What token `p` adds to row `q` of the eight small rows. -/
def row (q p j : ℕ) : ℝ :=
  match q with
  | 0 => D.dh p j
  | 1 => D.dh p j * (D.n1 p j * D.gn 0 j)
  | 2 => D.dn p j * D.n1 p j
  | 3 => D.dx2 p j * D.o2 p j
  | 4 => D.dy p j * D.xn p j
  | 5 => D.err p j * D.err p j
  | 7 => D.dx1 p j * D.o1 p j
  | _ => 0
/-- The small rows summed over the first `n` tokens. -/
def rows (n q j : ℕ) : ℝ := ∑ p ∈ Finset.range n, D.row q p j
/-- The loss: half the mean over columns of the squared error, summed over the tokens. -/
def loss : ℝ := (∑ j ∈ Finset.range 1024, D.rows 4096 5 j) * (1 / 2048)
/-- The eight small rows at the end: the seven sums over all tokens and the loss. -/
def small (q j : ℕ) : ℝ := if q = 6 then D.loss else D.rows 4096 q j
/-- The output projection's weight gradient over the first `n` tokens. -/
def dwo (n i j : ℕ) : ℝ := ∑ p ∈ Finset.range n, D.mg p i * D.do1 p j

theorem rows_add (n m q j : ℕ) : D.rows (n + m) q j = D.rows n q j + ∑ r ∈ Finset.range m, D.row q (n + r) j :=
  Finset.sum_range_add _ n m
theorem dwo_add (n m i j : ℕ) : D.dwo (n + m) i j = D.dwo n i j + ∑ r ∈ Finset.range m, D.mg (n + r) i * D.do1 (n + r) j :=
  Finset.sum_range_add _ n m
end Data
end Cert.Spec
end
-- ==== Proof.Block.lean ====
/-
What each operation of the kernel's body computes, over the reals, on a block of tokens that starts at token `b`.
-/
module
public import proofs.«01_k».proof.Proof.Spec
public import proofs.«01_k».proof.Proof.Gen.KernelIdeal.Skeleton
@[expose] public section
noncomputable section
open Idealize.ShloMosaic
open scoped BigOperators

namespace Cert.KernelIdeal.Block
open Cert.KernelIdeal Cert.KernelIdeal.Gen Cert.Reals Cert.Spec
variable {D : Data} {b : ℕ}

/-- One over the root mean square, as a body computes it. -/
theorem rs_is {v : FVec Ideal S256x1024 .f32} {f : ℕ → ℕ → ℝ} (hv : Is2 v (fun r j => f (b + r) j))
    (h1 : S256x1024.Reduces [1] S256) (h2 : FKind.Formats FTy.f32) (h3 : (0x00000000#32 : BitVec FTy.f32.bits) = FKind.add.neutral FTy.f32 h2) (h4 : S256.ShapeCasts S256x1) :
    Is2 (rsqrt (addf (divf (shapeCast S256x1 (multiReduction .add [1] S256 (mulf v v) 0x00000000#32 h1 h2 h3) h4) (broadcast S256x1 (Scalar.ofBits (F := Ideal) .f32 0x44800000#32)))
      (broadcast S256x1 (Scalar.ofBits (F := Ideal) .f32 0x358637BD#32)))) (fun r _ => rs f (b + r)) :=
  ((((((hv.mul hv).rowSum _ h1 h2 h3).asCol h4).div (Is2.splat lit_1024) (fun _ _ _ _ => by norm_num)).add (Is2.splat lit_eps)).rsqrt
    (fun r _ => ms_pos f (b + r)))

section fwd
variable {v3 : Vec Ideal S256x1024 .f32} {v15 v18 v23 : Vec Ideal S1x1024 .f32} {v28 v31 : Vec Ideal S2816x1024 .bf16}
  (h3 : Is2 v3 (fun r j => D.x1 (b + r) j)) (h15 : Is2 v15 D.gn) (h18 : Is2 v18 (fun r j => D.mod (4 + r) j)) (h23 : Is2 v23 (fun r j => D.mod (3 + r) j))
  (h28 : Is2 v28 (fun f k => D.wgu k f)) (h31 : Is2 v31 (fun f k => D.wgu k (2816 + f)))
include h3

theorem x1_is : Is2 (k0_pay3 v3) (fun r j => D.x1 (b + r) j) := h3.self _
include h15 h18 h23
theorem h2_is : Is2 (k0_pay4 v3 v15 v18 v23) (fun r j => D.h2 (b + r) j) := by
  unfold k0_pay4
  exact (((((x1_is h3).mul ((rs_is (x1_is h3) _ _ _ _).col _)).mul (h15.row _)).mul (((Is2.splat lit_one).add h18).row _)).add (h23.row _)).trunc _
include h28
theorem gate_is : Is2 (k0_pay5 v3 v15 v18 v23 v28) (fun r f => D.gate (b + r) f) := by
  unfold k0_pay5
  exact (h2_is h3 h15 h18 h23).dotNT (h28.self _) _
omit h28
include h31
theorem up_is : Is2 (k0_pay6 v3 v15 v18 v23 v31) (fun r f => D.up (b + r) f) := by
  unfold k0_pay6
  exact (h2_is h3 h15 h18 h23).dotNT (h31.self _) _
end fwd

section mid
variable {v4 : FVec Ideal S256x1024 .f32} {v30 v33 : FVec Ideal S256x2816 .f32} {cst : Ideal .f32} {v55 : Vec Ideal S2816x1024 .bf16}
  {v57 v71 : Vec Ideal S1x1024 .f32}
  (h4 : Is2 v4 (fun r j => D.x1 (b + r) j)) (h30 : Is2 v30 (fun r f => D.gate (b + r) f)) (h33 : Is2 v33 (fun r f => D.up (b + r) f))
  (hc : cst = ((0 : ℝ) : EReal)) (h55 : Is2 v55 D.wd) (h57 : Is2 v57 (fun r j => D.mod (5 + r) j)) (h71 : Is2 v71 D.gf)

include h30 hc in
theorem sg_is : Is2 (k0_pay7 v30 cst) (fun r f => D.sg (b + r) f) := by
  unfold k0_pay7
  refine ((Is2.splat lit_one).div ((Is2.splat lit_one).add ((Is2.splat hc).sub h30).exp) ?_).congr ?_
  · intro p j _ _; positivity
  · intro p j _ _; rw [zero_sub]; rfl
include h30 h33 hc in
theorem act_is : Is2 (k0_pay8 v30 v33 cst) (fun r f => D.act (b + r) f) := by
  unfold k0_pay8
  exact ((h30.mul (sg_is h30 hc)).mul h33).trunc _
include h30 h33 hc in
theorem dsilu_is : Is2 (k0_pay9 v30 v33 cst) (fun r f => D.up (b + r) f * (D.sg (b + r) f * (1 + D.gate (b + r) f * (1 - D.sg (b + r) f)))) := by
  unfold k0_pay9
  exact (h33.mul ((sg_is h30 hc).mul ((Is2.splat lit_one).add (h30.mul ((Is2.splat lit_one).sub (sg_is h30 hc)))))).trunc _
include h30 hc in
theorem silu_is : Is2 (k0_pay10 v30 cst) (fun r f => D.gate (b + r) f * D.sg (b + r) f) := by
  unfold k0_pay10
  exact (h30.mul (sg_is h30 hc)).trunc _
include h30 h33 hc h55 in
theorem o2_is : Is2 (k0_pay11 v30 v33 cst v55) (fun r j => D.o2 (b + r) j) := by
  unfold k0_pay11
  exact (act_is h30 h33 hc).dotNN h55 _
include h4 h30 h33 hc h55 h57
theorem x2_is : Is2 (k0_pay12 v4 v30 v33 cst v55 v57) (fun r j => D.x2 (b + r) j) := by
  unfold k0_pay12
  exact h4.add ((h57.row _).mul (o2_is h30 h33 hc h55))
theorem r2_is : Is2 (k0_pay13 v4 v30 v33 cst v55 v57) (fun r _ => rs D.x2 (b + r)) := by
  unfold k0_pay13
  exact rs_is (x2_is h4 h30 h33 hc h55 h57) _ _ _ _
theorem xn_is : Is2 (k0_pay14 v4 v30 v33 cst v55 v57) (fun r j => D.xn (b + r) j) := by
  unfold k0_pay14
  exact (x2_is h4 h30 h33 hc h55 h57).mul ((r2_is h4 h30 h33 hc h55 h57).col _)
include h71
theorem y_is : Is2 (k0_pay15 v4 v30 v33 cst v55 v57 v71) (fun r j => D.xn (b + r) j * D.gf 0 j) := by
  unfold k0_pay15
  exact (xn_is h4 h30 h33 hc h55 h57).mul (h71.row _)
end mid

/-- A block's sum over its tokens, added to the row before it. -/
theorem addRow {v : FVec Ideal S256x1024 .f32} {w : Vec Ideal S1x1024 .f32} {f : ℕ → ℕ → ℝ} {g : ℕ → ℝ} (hv : Is2 v f) (hw : Is2 w (fun _ j => g j))
    (h1 : S256x1024.Reduces [0] S1024) (h2 : FKind.Formats FTy.f32) (h3 : (0x00000000#32 : BitVec FTy.f32.bits) = FKind.add.neutral FTy.f32 h2) (h4 : S1024.ShapeCasts S1x1024) :
    Is2 (addf w (shapeCast S1x1024 (multiReduction .add [0] S1024 v 0x00000000#32 h1 h2 h3) h4)) (fun _ j => g j + ∑ r ∈ Finset.range 256, f r j) :=
  hw.add ((hv.colSum _ h1 h2 h3).asRow h4)

/-- The normalisation's gradient, as a body computes it. -/
theorem nback_is {u n : FVec Ideal S256x1024 .f32} {q : FVec Ideal S256x1 .f32} {fu fn : ℕ → ℕ → ℝ} {fr : ℕ → ℝ} (hu : Is2 u (fun r j => fu (b + r) j))
    (hn : Is2 n (fun r j => fn (b + r) j)) (hq : Is2 q (fun r _ => fr (b + r)))
    (h1 : S256x1024.Reduces [1] S256) (h2 : FKind.Formats FTy.f32) (h3 : (0x00000000#32 : BitVec FTy.f32.bits) = FKind.add.neutral FTy.f32 h2) (h4 : S256.ShapeCasts S256x1)
    (h5 h6 : S256x1.Broadcasts S256x1024) :
    Is2 (mulf (broadcastTo S256x1024 q h6) (subf u (mulf n (broadcastTo S256x1024 (divf (shapeCast S256x1 (multiReduction .add [1] S256 (mulf u n) 0x00000000#32 h1 h2 h3) h4)
      (broadcast S256x1 (Scalar.ofBits (F := Ideal) .f32 0x44800000#32))) h5)))) (fun r j => nback fu fn fr (b + r) j) :=
  (hq.col _).mul (hu.sub (hn.mul (((((hu.mul hn).rowSum _ h1 h2 h3).asCol h4).div (Is2.splat lit_1024) (fun _ _ _ _ => by norm_num)).col _)))

section top
variable {v56 v70 v73 : FVec Ideal S256x1024 .f32} {v68 : FVec Ideal S256x1 .f32} {v57 v71 : Vec Ideal S1x1024 .f32} {v74 : Vec Ideal S256x1024 .f32}
  {w : Vec Ideal S1x1024 .f32} {g : ℕ → ℝ}
  (h56 : Is2 v56 (fun r j => D.o2 (b + r) j)) (h68 : Is2 v68 (fun r _ => rs D.x2 (b + r))) (h70 : Is2 v70 (fun r j => D.xn (b + r) j))
  (h71 : Is2 v71 D.gf) (h73 : Is2 v73 (fun r j => D.xn (b + r) j * D.gf 0 j)) (h74 : Is2 v74 (fun r j => D.tg (b + r) j))
  (h57 : Is2 v57 (fun r j => D.mod (5 + r) j)) (hw : Is2 w (fun _ j => g j))

include h73 h74
theorem err_is : Is2 (k0_pay16 v73 v74) (fun r j => D.err (b + r) j) := by
  unfold k0_pay16
  exact h73.sub h74
theorem dy_is : Is2 (k0_pay17 v73 v74) (fun r j => D.dy (b + r) j) := by
  unfold k0_pay17
  exact (err_is h73 h74).mul (Is2.splat lit_inv1024)
include h68 h70 h71 in
theorem dx2_is : Is2 (k0_pay18 v68 v70 v71 v73 v74) (fun r j => D.dx2 (b + r) j) := by
  unfold k0_pay18
  exact nback_is (fu := D.dxn) (fn := D.xn) (fr := rs D.x2) ((dy_is h73 h74).mul (h71.row _)) h70 h68 _ _ _ _ _ _
include h70 hw in
theorem row4_is : Is2 (k0_pay19 v70 v73 v74 w) (fun _ j => g j + ∑ r ∈ Finset.range 256, D.row 4 (b + r) j) := by
  unfold k0_pay19
  exact addRow ((dy_is h73 h74).mul h70) (hw.self _) _ _ _ _
include hw in
theorem row5_is : Is2 (k0_pay20 v73 v74 w) (fun _ j => g j + ∑ r ∈ Finset.range 256, D.row 5 (b + r) j) := by
  unfold k0_pay20
  exact addRow ((err_is h73 h74).mul (err_is h73 h74)) (hw.self _) _ _ _ _
include h56 h68 h70 h71 hw in
theorem row3_is : Is2 (k0_pay21 v56 v68 v70 v71 v73 v74 w) (fun _ j => g j + ∑ r ∈ Finset.range 256, D.row 3 (b + r) j) := by
  unfold k0_pay21
  exact addRow ((dx2_is h68 h70 h71 h73 h74).mul h56) (hw.self _) _ _ _ _
include h57 h68 h70 h71 in
theorem do2_is : Is2 (k0_pay22 v57 v68 v70 v71 v73 v74) (fun r j => D.do2 (b + r) j) := by
  unfold k0_pay22
  exact ((dx2_is h68 h70 h71 h73 h74).mul (h57.row _)).trunc _
end top

section back
variable {v52 v54 : FVec Ideal S256x2816 .bf16} {v113 : FVec Ideal S256x1024 .bf16} {v115 v125 v128 : Vec Ideal S2816x1024 .bf16}
  (h52 : Is2 v52 (fun r f => D.up (b + r) f * (D.sg (b + r) f * (1 + D.gate (b + r) f * (1 - D.sg (b + r) f)))))
  (h54 : Is2 v54 (fun r f => D.gate (b + r) f * D.sg (b + r) f)) (h113 : Is2 v113 (fun r j => D.do2 (b + r) j)) (h115 : Is2 v115 D.wd)
  (h125 : Is2 v125 (fun f k => D.wgu k f)) (h128 : Is2 v128 (fun f k => D.wgu k (2816 + f)))
include h113 h115
theorem dact_is : Is2 (k0_pay23 v113 v115) (fun r f => D.dact (b + r) f) := by
  unfold k0_pay23
  exact h113.dotNT h115 _
include h52 in
theorem dgate_is : Is2 (k0_pay24 v52 v113 v115) (fun r f => D.dgate (b + r) f) := by
  unfold k0_pay24
  exact ((dact_is h113 h115).mul (h52.ext _)).trunc _
include h54 in
theorem dup_is : Is2 (k0_pay25 v54 v113 v115) (fun r f => D.dup (b + r) f) := by
  unfold k0_pay25
  exact ((dact_is h113 h115).mul (h54.ext _)).trunc _
include h52 h54 h125 h128 in
theorem dh_is : Is2 (k0_pay26 v52 v54 v113 v115 v125 v128) (fun r j => D.dh (b + r) j) := by
  unfold k0_pay26
  exact ((dgate_is h52 h113 h115).dotNN (h125.self _) _).add ((dup_is h54 h113 h115).dotNN (h128.self _) _)
end back

section last
variable {v4 v89 v131 v143 v182 : FVec Ideal S256x1024 .f32} {v141 : FVec Ideal S256x1 .f32} {v132 v133 v195 : Vec Ideal S1x1024 .f32}
  {v187 v204 : Vec Ideal S256x1024 .bf16} {v199 : Vec Ideal S1024x1024 .bf16} {v203 : Vec Ideal S1024x1024 .f32} {w : Vec Ideal S1x1024 .f32} {g : ℕ → ℝ}
  (h4 : Is2 v4 (fun r j => D.x1 (b + r) j)) (h89 : Is2 v89 (fun r j => D.dx2 (b + r) j)) (h131 : Is2 v131 (fun r j => D.dh (b + r) j))
  (h132 : Is2 v132 D.gn) (h133 : Is2 v133 (fun r j => D.mod (4 + r) j)) (h141 : Is2 v141 (fun r _ => rs D.x1 (b + r)))
  (h143 : Is2 v143 (fun r j => D.n1 (b + r) j)) (hw : Is2 w (fun _ j => g j))
include h4 in
theorem r1_is : Is2 (k0_pay27 v4) (fun r _ => rs D.x1 (b + r)) := by
  unfold k0_pay27
  exact rs_is h4 _ _ _ _
include h4 in
theorem n1_is : Is2 (k0_pay28 v4) (fun r j => D.n1 (b + r) j) := by
  unfold k0_pay28
  exact h4.mul ((r1_is h4).col _)
include hw in
theorem cast_is : Is2 (k0_pay29 w) (fun _ j => g j) := by
  unfold k0_pay29
  exact hw.self _
include h131 hw in
theorem row0_is : Is2 (k0_pay30 v131 w) (fun _ j => g j + ∑ r ∈ Finset.range 256, D.row 0 (b + r) j) := by
  unfold k0_pay30
  exact addRow h131 hw _ _ _ _
include h131 h132 h143 hw in
theorem row1_is : Is2 (k0_pay31 v131 v132 v143 w) (fun _ j => g j + ∑ r ∈ Finset.range 256, D.row 1 (b + r) j) := by
  unfold k0_pay31
  exact addRow (h131.mul (h143.mul (h132.row _))) (hw.self _) _ _ _ _
include h131 h133
theorem dn_is : Is2 (k0_pay32 v131 v133) (fun r j => D.dn (b + r) j) := by
  unfold k0_pay32
  exact h131.mul (((Is2.splat lit_one).add h133).row _)
include h143 hw in
theorem row2_is : Is2 (k0_pay33 v131 v133 v143 w) (fun _ j => g j + ∑ r ∈ Finset.range 256, D.row 2 (b + r) j) := by
  unfold k0_pay33
  exact addRow ((dn_is h131 h133).mul h143) (hw.self _) _ _ _ _
include h89 h132 h141 h143
theorem dx1_is : Is2 (k0_pay34 v89 v131 v132 v133 v141 v143) (fun r j => D.dx1 (b + r) j) := by
  unfold k0_pay34
  exact h89.add (nback_is (fu := D.dnx) (fn := D.n1) (fr := rs D.x1) ((dn_is h131 h133).mul (h132.row _)) h143 h141 _ _ _ _ _ _)
theorem dx1b_is : Is2 (k0_pay35 v89 v131 v132 v133 v141 v143) (fun r j => D.dx1 (b + r) j) := by
  unfold k0_pay35
  exact (dx1_is h89 h131 h132 h133 h141 h143).trunc _
end last

section out
variable {v182 : FVec Ideal S256x1024 .f32} {v195 : Vec Ideal S1x1024 .f32}
  {v187 v204 : Vec Ideal S256x1024 .bf16} {v199 : Vec Ideal S1024x1024 .bf16} {v203 : Vec Ideal S1024x1024 .f32} {w : Vec Ideal S1x1024 .f32} {g : ℕ → ℝ}
  {G : ℕ → ℕ → ℝ} {E : ℕ → ℕ → ℝ}
  (h182 : Is2 v182 (fun r j => D.dx1 (b + r) j)) (h187 : Is2 v187 (fun r j => D.o1 (b + r) j)) (h195 : Is2 v195 (fun r j => D.mod (2 + r) j))
  (h199 : Is2 v199 D.wo) (h203 : Is2 v203 G) (h204 : Is2 v204 (fun r j => D.mg (b + r) j)) (hw : Is2 w (fun _ j => g j))
include h182
include h187 hw in
theorem row7_is : Is2 (k0_pay36 v182 w v187) (fun _ j => g j + ∑ r ∈ Finset.range 256, D.row 7 (b + r) j) := by
  unfold k0_pay36
  exact addRow (h182.mul ((h187.self _).ext _)) (hw.self _) _ _ _ _
include h195
theorem do1_is : Is2 (k0_pay37 v182 v195) (fun r j => D.do1 (b + r) j) := by
  unfold k0_pay37
  exact (h182.mul (h195.row _)).trunc _
include h199 in
theorem dmg_is : Is2 (k0_pay38 v182 v195 v199) (fun r j => D.dmg (b + r) j) := by
  unfold k0_pay38
  exact ((do1_is h182 h195).dotNT h199 _).trunc _
include h203 h204
theorem dwo_is : Is2 (k0_pay39 v182 v195 v203 v204) (fun i j => G i j + ∑ r ∈ Finset.range 256, D.mg (b + r) i * D.do1 (b + r) j) := by
  unfold k0_pay39
  exact h203.add (h204.dotTN (do1_is h182 h195) _)
theorem dwos_is : Is2 (k0_pay40 v182 v195 v203 v204) (fun i j => G i j + ∑ r ∈ Finset.range 256, D.mg (b + r) i * D.do1 (b + r) j) := by
  unfold k0_pay40
  exact (dwo_is h182 h195 h203 h204).self _
theorem dwob_is : Is2 (k0_pay41 v182 v195 v203 v204) (fun i j => G i j + ∑ r ∈ Finset.range 256, D.mg (b + r) i * D.do1 (b + r) j) := by
  unfold k0_pay41
  exact (dwo_is h182 h195 h203 h204).trunc _
end out

/-- The loss row: the sum of a row over its columns, scaled, in every column. -/
theorem loss_is {w : Vec Ideal S1x1024 .f32} {g : ℕ → ℝ} (hw : Is2 w (fun _ j => g j)) :
    Is2 (k0_pay42 w) (fun _ _ => (∑ j ∈ Finset.range 1024, g j) * (1 / 2048)) := by
  unfold k0_pay42
  exact (((((hw.self _).rowSum _ _ _ _).asCol _).mul (Is2.splat lit_inv2048)).self _).col _
theorem zeros_is : Is2 (k0_pay1 (F := Ideal)) (fun _ _ => 0) := Is2.splat lit_zero
theorem zerow_is : Is2 (k0_pay2 (F := Ideal)) (fun _ _ => 0) := (Is2.splat lit_zero).self _

/-- The ten input blocks at the point whose tokens start at `b` hold the step's reals. -/
structure Blocks (D : Data) (b : ℕ) (x0 : Vec Ideal S256x1024 .f32) (x1 : Vec Ideal S256x1024 .bf16) (x2 : Vec Ideal S256x1024 .bf16) (x3 : Vec Ideal S8x1024 .f32)
    (x4 : Vec Ideal S1x1024 .f32) (x5 : Vec Ideal S5632x1024 .bf16) (x6 : Vec Ideal S2816x1024 .bf16) (x7 : Vec Ideal S1024x1024 .bf16) (x8 : Vec Ideal S1x1024 .f32)
    (x9 : Vec Ideal S256x1024 .f32) : Prop where
  h0 : Is2 x0 (fun r j => D.x1 (b + r) j)
  h1 : Is2 x1 (fun r j => D.o1 (b + r) j)
  h2 : Is2 x2 (fun r j => D.mg (b + r) j)
  h3 : Is2 x3 D.mod
  h4 : Is2 x4 D.gn
  h5 : Is2 x5 (fun f k => D.wgu k f)
  h6 : Is2 x6 D.wd
  h7 : Is2 x7 D.wo
  h8 : Is2 x8 D.gf
  h9 : Is2 x9 (fun r j => D.tg (b + r) j)

/-- Seven rows with a block's sums added are the rows summed over the block's tokens too; the eighth holds nothing yet. -/
theorem rows_step (b p j : ℕ) (hp : p < 8) :
    (if p = 7 then D.rows b 7 j + ∑ r ∈ Finset.range 256, D.row 7 (b + r) j else if p = 2 then D.rows b 2 j + ∑ r ∈ Finset.range 256, D.row 2 (b + r) j
      else if p = 1 then D.rows b 1 j + ∑ r ∈ Finset.range 256, D.row 1 (b + r) j else if p = 0 then D.rows b 0 j + ∑ r ∈ Finset.range 256, D.row 0 (b + r) j
      else if p = 3 then D.rows b 3 j + ∑ r ∈ Finset.range 256, D.row 3 (b + r) j else if p = 5 then D.rows b 5 j + ∑ r ∈ Finset.range 256, D.row 5 (b + r) j
      else if p = 4 then D.rows b 4 j + ∑ r ∈ Finset.range 256, D.row 4 (b + r) j else D.rows b p j) = D.rows (b + 256) p j := by
  rw [D.rows_add]
  split_ifs with h7 h2 h1 h0 h3 h5 h4
  iterate 7 (first | subst h7; rfl | subst h2; rfl | subst h1; rfl | subst h0; rfl | subst h3; rfl | subst h5; rfl | subst h4; rfl)
  obtain rfl : p = 6 := by omega
  simp [Data.row]
end Cert.KernelIdeal.Block
end
-- ==== Proof.Inputs.lean ====
/-
What the call's windows hold, as real functions: the host's lines before the call, and each window's block at a point.
-/
module
public import proofs.«01_k».proof.Proof.Finite
public import proofs.«01_k».proof.Proof.Block
public import proofs.«01_k».proof.Proof.Gen.KernelIdeal.Value
public import proofs.«01_k».proof.Defs
@[expose] public section
noncomputable section
open Idealize.ShloMosaic Idealize.ShloMosaic.TcCoe
open scoped BigOperators

namespace Cert.KernelIdeal.Inputs
open Cert.KernelIdeal Cert.KernelIdeal.Gen Cert.KernelIdeal.Block Cert.Reals Cert.Spec
variable (m : (ℓ : Loc nD τ sig) → Buf (Elt Ideal) ℓ) (c : Dev nD)

/-- The device's nine arguments as real functions. -/
def data : Data where
  x := realsOf (m ((c : Thread nD τ).loc main_arg0) : S4096x1024.Idx → EReal)
  mg := realsOf (m ((c : Thread nD τ).loc main_arg1) : S4096x1024.Idx → EReal)
  mod := realsOf (m ((c : Thread nD τ).loc main_arg2) : S8x1024.Idx → EReal)
  gn := realsOf (m ((c : Thread nD τ).loc main_arg3) : S1x1024.Idx → EReal)
  wgu := realsOf (m ((c : Thread nD τ).loc main_arg4) : S1024x5632.Idx → EReal)
  wd := realsOf (m ((c : Thread nD τ).loc main_arg5) : S2816x1024.Idx → EReal)
  wo := realsOf (m ((c : Thread nD τ).loc main_arg6) : S1024x1024.Idx → EReal)
  gf := realsOf (m ((c : Thread nD τ).loc main_arg7) : S1x1024.Idx → EReal)
  tg := realsOf (m ((c : Thread nD τ).loc main_arg8) : S4096x1024.Idx → EReal)

/-- The nine arguments hold reals. -/
structure Args : Prop where
  a0 : Is2 (m ((c : Thread nD τ).loc main_arg0) : S4096x1024.Idx → EReal) (data m c).x
  a1 : Is2 (m ((c : Thread nD τ).loc main_arg1) : S4096x1024.Idx → EReal) (data m c).mg
  a2 : Is2 (m ((c : Thread nD τ).loc main_arg2) : S8x1024.Idx → EReal) (data m c).mod
  a3 : Is2 (m ((c : Thread nD τ).loc main_arg3) : S1x1024.Idx → EReal) (data m c).gn
  a4 : Is2 (m ((c : Thread nD τ).loc main_arg4) : S1024x5632.Idx → EReal) (data m c).wgu
  a5 : Is2 (m ((c : Thread nD τ).loc main_arg5) : S2816x1024.Idx → EReal) (data m c).wd
  a6 : Is2 (m ((c : Thread nD τ).loc main_arg6) : S1024x1024.Idx → EReal) (data m c).wo
  a7 : Is2 (m ((c : Thread nD τ).loc main_arg7) : S1x1024.Idx → EReal) (data m c).gf
  a8 : Is2 (m ((c : Thread nD τ).loc main_arg8) : S4096x1024.Idx → EReal) (data m c).tg

/-- The precondition says so. -/
theorem args_of_pre [Cert.Pre_finite.Facts] (h : Cert.Pre_KernelIdeal_finite m) : Args m c := by
  obtain ⟨h0, h1, h2, h3, h4, h5, h6, h7, h8⟩ := h c
  exact ⟨.realsOf (finite_of_lt _ h0), .realsOf (finite_of_lt _ h1), .realsOf (finite_of_lt _ h2), .realsOf (finite_of_lt _ h3),
    .realsOf (finite_of_lt _ h4), .realsOf (finite_of_lt _ h5), .realsOf (finite_of_lt _ h6), .realsOf (finite_of_lt _ h7),
    .realsOf (finite_of_lt _ h8)⟩

variable {m c} (h : Args m c)
include h

/-- The host's output projection. -/
theorem o1_is : Is2 (V m c main_v5 : S4096x1024.Idx → EReal) (data m c).o1 := by
  have e : V m c main_v5 = truncf (F := Ideal) .bf16 (Host.dotGeneral (φ₁ := .bf16) (φ₂ := .bf16) dot_S4096x1024_S1024x1024_S4096x1024_1_0_0_1_n_n none
      (m ((c : Thread nD τ).loc main_arg1)) (m ((c : Thread nD τ).loc main_arg6))) bitsLt_bf16_f32 := by
    unfold_abbrev_sides; after_results
  rw [e]
  exact (h.a1.hdotNN h.a6 _).trunc _
/-- The residual stream the host adds it to. -/
theorem x1_is : Is2 (V m c main_v4 : S4096x1024.Idx → EReal) (data m c).x1 := by
  have e : V m c main_v4 = addf (F := Ideal) (φ := .f32) (m ((c : Thread nD τ).loc main_arg0)) (mulf (broadcastInDim S4096x1024 ![0, 1] bcast_S1x1024_S4096x1024_0_1
      (extractStridedSlice S1x1024 ![2, 0] (m ((c : Thread nD τ).loc main_arg2)) slices_S8x1024_S1x1024_2_0))
      (Host.dotGeneral (φ₁ := .bf16) (φ₂ := .bf16) dot_S4096x1024_S1024x1024_S4096x1024_1_0_0_1_n_n none
      (m ((c : Thread nD τ).loc main_arg1)) (m ((c : Thread nD τ).loc main_arg6)))) := by
    unfold_abbrev_sides; after_results
  rw [e]
  exact (h.a0.add (((h.a2.hslice 2 0 _).hrow _).mul (h.a1.hdotNN h.a6 _))).congr fun p j _ _ => by
    simp only [add_zero, zero_add]; rfl
/-- The wide weight, turned over. -/
theorem wgut_is : Is2 (V m c main_v6 : S5632x1024.Idx → EReal) (fun f k => (data m c).wgu k f) := by
  have e : V m c main_v6 = transpose S5632x1024 [1, 0] (m ((c : Thread nD τ).loc main_arg4)) transposes_S1024x5632_S5632x1024_1_0 := by
    unfold_abbrev_sides; after_results
  rw [e]
  exact h.a4.htranspose _
omit h

/-- Window 0 reads 256 rows a point. -/
theorem rows0 {f : ℕ → ℕ → ℝ} (hf : Is2 (V m c main_v4 : S4096x1024.Idx → EReal) f) (t : Fin cfg0.N) :
    Is2 (iblk m c 0 t : S256x1024.Idx → EReal) (fun r j => f (256 * t.val + r) j) := fun r j => by
  have hi : win0_0.index t 0 = t.val ∧ win0_0.index t 1 = 0 := (by decide +kernel : ∀ t : Fin grid0.N, win0_0.index t 0 = t.val ∧ win0_0.index t 1 = 0) t
  have hN : t.val < 16 := lt_of_lt_of_eq t.isLt N_0
  have hr : 256 * t.val + r.val < 4096 := by have := r.isLt; omega
  refine Eq.trans ?_ (hf ⟨256 * t.val + r.val, hr⟩ j)
  unfold iblk
  rw [View.read_apply]
  show V m c main_v4 _ = V m c main_v4 _
  congr 1
  funext a
  apply Fin.ext
  match a with
  | ⟨0, _⟩ => show win0_0.index t 0 * 256 + 1 * r.val = 256 * t.val + r.val; rw [hi.1]; omega
  | ⟨1, _⟩ => show win0_0.index t 1 * 1024 + 1 * j.val = j.val; rw [hi.2]; omega
/-- Window 1 reads 256 rows a point. -/
theorem rows1 {f : ℕ → ℕ → ℝ} (hf : Is2 (V m c main_v5 : S4096x1024.Idx → EReal) f) (t : Fin cfg0.N) :
    Is2 (iblk m c 1 t : S256x1024.Idx → EReal) (fun r j => f (256 * t.val + r) j) := fun r j => by
  have hi : win0_1.index t 0 = t.val ∧ win0_1.index t 1 = 0 := (by decide +kernel : ∀ t : Fin grid0.N, win0_1.index t 0 = t.val ∧ win0_1.index t 1 = 0) t
  have hN : t.val < 16 := lt_of_lt_of_eq t.isLt N_0
  have hr : 256 * t.val + r.val < 4096 := by have := r.isLt; omega
  refine Eq.trans ?_ (hf ⟨256 * t.val + r.val, hr⟩ j)
  unfold iblk
  rw [View.read_apply]
  show V m c main_v5 _ = V m c main_v5 _
  congr 1
  funext a
  apply Fin.ext
  match a with
  | ⟨0, _⟩ => show win0_1.index t 0 * 256 + 1 * r.val = 256 * t.val + r.val; rw [hi.1]; omega
  | ⟨1, _⟩ => show win0_1.index t 1 * 1024 + 1 * j.val = j.val; rw [hi.2]; omega
/-- Window 2 reads 256 rows a point. -/
theorem rows2 {f : ℕ → ℕ → ℝ} (hf : Is2 (V m c main_arg1 : S4096x1024.Idx → EReal) f) (t : Fin cfg0.N) :
    Is2 (iblk m c 2 t : S256x1024.Idx → EReal) (fun r j => f (256 * t.val + r) j) := fun r j => by
  have hi : win0_2.index t 0 = t.val ∧ win0_2.index t 1 = 0 := (by decide +kernel : ∀ t : Fin grid0.N, win0_2.index t 0 = t.val ∧ win0_2.index t 1 = 0) t
  have hN : t.val < 16 := lt_of_lt_of_eq t.isLt N_0
  have hr : 256 * t.val + r.val < 4096 := by have := r.isLt; omega
  refine Eq.trans ?_ (hf ⟨256 * t.val + r.val, hr⟩ j)
  unfold iblk
  rw [View.read_apply]
  show V m c main_arg1 _ = V m c main_arg1 _
  congr 1
  funext a
  apply Fin.ext
  match a with
  | ⟨0, _⟩ => show win0_2.index t 0 * 256 + 1 * r.val = 256 * t.val + r.val; rw [hi.1]; omega
  | ⟨1, _⟩ => show win0_2.index t 1 * 1024 + 1 * j.val = j.val; rw [hi.2]; omega
/-- Window 9 reads 256 rows a point. -/
theorem rows9 {f : ℕ → ℕ → ℝ} (hf : Is2 (V m c main_arg8 : S4096x1024.Idx → EReal) f) (t : Fin cfg0.N) :
    Is2 (iblk m c 9 t : S256x1024.Idx → EReal) (fun r j => f (256 * t.val + r) j) := fun r j => by
  have hi : win0_9.index t 0 = t.val ∧ win0_9.index t 1 = 0 := (by decide +kernel : ∀ t : Fin grid0.N, win0_9.index t 0 = t.val ∧ win0_9.index t 1 = 0) t
  have hN : t.val < 16 := lt_of_lt_of_eq t.isLt N_0
  have hr : 256 * t.val + r.val < 4096 := by have := r.isLt; omega
  refine Eq.trans ?_ (hf ⟨256 * t.val + r.val, hr⟩ j)
  unfold iblk
  rw [View.read_apply]
  show V m c main_arg8 _ = V m c main_arg8 _
  congr 1
  funext a
  apply Fin.ext
  match a with
  | ⟨0, _⟩ => show win0_9.index t 0 * 256 + 1 * r.val = 256 * t.val + r.val; rw [hi.1]; omega
  | ⟨1, _⟩ => show win0_9.index t 1 * 1024 + 1 * j.val = j.val; rw [hi.2]; omega
/-- Window 3 reads its whole array at every point. -/
theorem whole3 {f : ℕ → ℕ → ℝ} (hf : Is2 (V m c main_arg2 : S8x1024.Idx → EReal) f) (t : Fin cfg0.N) : Is2 (iblk m c 3 t : S8x1024.Idx → EReal) f := fun r j => by
  have hi : win0_3.index t 0 = 0 ∧ win0_3.index t 1 = 0 := (by decide +kernel : ∀ t : Fin grid0.N, win0_3.index t 0 = 0 ∧ win0_3.index t 1 = 0) t
  refine Eq.trans ?_ (hf r j)
  unfold iblk
  rw [View.read_apply]
  show V m c main_arg2 _ = V m c main_arg2 _
  congr 1
  funext a
  apply Fin.ext
  match a with
  | ⟨0, _⟩ => show win0_3.index t 0 * 8 + 1 * r.val = r.val; rw [hi.1]; omega
  | ⟨1, _⟩ => show win0_3.index t 1 * 1024 + 1 * j.val = j.val; rw [hi.2]; omega
/-- Window 4 reads its whole array at every point. -/
theorem whole4 {f : ℕ → ℕ → ℝ} (hf : Is2 (V m c main_arg3 : S1x1024.Idx → EReal) f) (t : Fin cfg0.N) : Is2 (iblk m c 4 t : S1x1024.Idx → EReal) f := fun r j => by
  have hi : win0_4.index t 0 = 0 ∧ win0_4.index t 1 = 0 := (by decide +kernel : ∀ t : Fin grid0.N, win0_4.index t 0 = 0 ∧ win0_4.index t 1 = 0) t
  refine Eq.trans ?_ (hf r j)
  unfold iblk
  rw [View.read_apply]
  show V m c main_arg3 _ = V m c main_arg3 _
  congr 1
  funext a
  apply Fin.ext
  match a with
  | ⟨0, _⟩ => show win0_4.index t 0 * 1 + 1 * r.val = r.val; rw [hi.1]; omega
  | ⟨1, _⟩ => show win0_4.index t 1 * 1024 + 1 * j.val = j.val; rw [hi.2]; omega
/-- Window 5 reads its whole array at every point. -/
theorem whole5 {f : ℕ → ℕ → ℝ} (hf : Is2 (V m c main_v6 : S5632x1024.Idx → EReal) f) (t : Fin cfg0.N) : Is2 (iblk m c 5 t : S5632x1024.Idx → EReal) f := fun r j => by
  have hi : win0_5.index t 0 = 0 ∧ win0_5.index t 1 = 0 := (by decide +kernel : ∀ t : Fin grid0.N, win0_5.index t 0 = 0 ∧ win0_5.index t 1 = 0) t
  refine Eq.trans ?_ (hf r j)
  unfold iblk
  rw [View.read_apply]
  show V m c main_v6 _ = V m c main_v6 _
  congr 1
  funext a
  apply Fin.ext
  match a with
  | ⟨0, _⟩ => show win0_5.index t 0 * 5632 + 1 * r.val = r.val; rw [hi.1]; omega
  | ⟨1, _⟩ => show win0_5.index t 1 * 1024 + 1 * j.val = j.val; rw [hi.2]; omega
/-- Window 6 reads its whole array at every point. -/
theorem whole6 {f : ℕ → ℕ → ℝ} (hf : Is2 (V m c main_arg5 : S2816x1024.Idx → EReal) f) (t : Fin cfg0.N) : Is2 (iblk m c 6 t : S2816x1024.Idx → EReal) f := fun r j => by
  have hi : win0_6.index t 0 = 0 ∧ win0_6.index t 1 = 0 := (by decide +kernel : ∀ t : Fin grid0.N, win0_6.index t 0 = 0 ∧ win0_6.index t 1 = 0) t
  refine Eq.trans ?_ (hf r j)
  unfold iblk
  rw [View.read_apply]
  show V m c main_arg5 _ = V m c main_arg5 _
  congr 1
  funext a
  apply Fin.ext
  match a with
  | ⟨0, _⟩ => show win0_6.index t 0 * 2816 + 1 * r.val = r.val; rw [hi.1]; omega
  | ⟨1, _⟩ => show win0_6.index t 1 * 1024 + 1 * j.val = j.val; rw [hi.2]; omega
/-- Window 7 reads its whole array at every point. -/
theorem whole7 {f : ℕ → ℕ → ℝ} (hf : Is2 (V m c main_arg6 : S1024x1024.Idx → EReal) f) (t : Fin cfg0.N) : Is2 (iblk m c 7 t : S1024x1024.Idx → EReal) f := fun r j => by
  have hi : win0_7.index t 0 = 0 ∧ win0_7.index t 1 = 0 := (by decide +kernel : ∀ t : Fin grid0.N, win0_7.index t 0 = 0 ∧ win0_7.index t 1 = 0) t
  refine Eq.trans ?_ (hf r j)
  unfold iblk
  rw [View.read_apply]
  show V m c main_arg6 _ = V m c main_arg6 _
  congr 1
  funext a
  apply Fin.ext
  match a with
  | ⟨0, _⟩ => show win0_7.index t 0 * 1024 + 1 * r.val = r.val; rw [hi.1]; omega
  | ⟨1, _⟩ => show win0_7.index t 1 * 1024 + 1 * j.val = j.val; rw [hi.2]; omega
/-- Window 8 reads its whole array at every point. -/
theorem whole8 {f : ℕ → ℕ → ℝ} (hf : Is2 (V m c main_arg7 : S1x1024.Idx → EReal) f) (t : Fin cfg0.N) : Is2 (iblk m c 8 t : S1x1024.Idx → EReal) f := fun r j => by
  have hi : win0_8.index t 0 = 0 ∧ win0_8.index t 1 = 0 := (by decide +kernel : ∀ t : Fin grid0.N, win0_8.index t 0 = 0 ∧ win0_8.index t 1 = 0) t
  refine Eq.trans ?_ (hf r j)
  unfold iblk
  rw [View.read_apply]
  show V m c main_arg7 _ = V m c main_arg7 _
  congr 1
  funext a
  apply Fin.ext
  match a with
  | ⟨0, _⟩ => show win0_8.index t 0 * 1 + 1 * r.val = r.val; rw [hi.1]; omega
  | ⟨1, _⟩ => show win0_8.index t 1 * 1024 + 1 * j.val = j.val; rw [hi.2]; omega

include h in
/-- At every point the windows hold that point's blocks. -/
theorem blocks (t : Fin cfg0.N) {b : ℕ} (hb : 256 * t.val = b) : Blocks (data m c) b (iblk m c 0 t) (iblk m c 1 t) (iblk m c 2 t) (iblk m c 3 t) (iblk m c 4 t)
    (iblk m c 5 t) (iblk m c 6 t) (iblk m c 7 t) (iblk m c 8 t) (iblk m c 9 t) where
  h0 := hb ▸ rows0 (x1_is h) t
  h1 := hb ▸ rows1 (o1_is h) t
  h2 := hb ▸ rows2 (by rw [V_main_arg1]; exact h.a1) t
  h3 := whole3 (by rw [V_main_arg2]; exact h.a2) t
  h4 := whole4 (by rw [V_main_arg3]; exact h.a3) t
  h5 := whole5 (wgut_is h) t
  h6 := whole6 (by rw [V_main_arg5]; exact h.a5) t
  h7 := whole7 (by rw [V_main_arg6]; exact h.a6) t
  h8 := whole8 (by rw [V_main_arg7]; exact h.a7) t
  h9 := hb ▸ rows9 (by rw [V_main_arg8]; exact h.a8) t
end Cert.KernelIdeal.Inputs
end
-- ==== Proof.Loads.lean ====
/-
Loads and stores of whole rows of a matrix that holds reals.
-/
module
public import proofs.«01_k».proof.Proof.Reals
public import Idealize.ShloMosaic.Lib.Pipeline
public import Idealize.ShloMosaic.Lib.WritesUnit
@[expose] public section
noncomputable section
open Idealize.ShloMosaic

namespace Cert.Reals
variable {sig : RefSig} {κ : Kind} {sp : Space} {m n k : ℕ} {f : ℕ → ℕ → ℝ}

/-- The array read through a rectangle of whole rows. -/
theorem Is2.rowsAt {X : (⟨2, ![m, n]⟩ : Shape).Idx → EReal} (hx : Is2 X f) (o : ℕ) (inb : ∀ a, (![o, 0] : Fin 2 → ℕ) a + (![k, n] : Fin 2 → ℕ) a ≤ (⟨2, ![m, n]⟩ : Shape).size a) :
    Is2 (a := k) (b := n) (fun x => X ((Rect.unit (s := ⟨2, ![m, n]⟩) ![o, 0] ![k, n] inb).idx x)) (fun r j => f (o + r) j) := fun p j => by
  beta_reduce
  have ho : o + p.val < m := by have := inb (0 : Fin 2); have := p.isLt; simp at *; omega
  rw [show (Rect.unit (s := ⟨2, ![m, n]⟩) ![o, 0] ![k, n] inb).idx (ValueIdx.ix2 p j) = ValueIdx.ix2 (⟨o + p.val, ho⟩ : Fin m) j from
    funext fun x => Fin.ext (by
      match x with
      | ⟨0, _⟩ => show o + 1 * p.val = o + p.val; omega
      | ⟨1, _⟩ => show 0 + 1 * j.val = j.val; omega)]
  exact hx _ _

section load
variable {arg : Memref sig κ sp ⟨2, ![m, n]⟩ .f32} (harg : arg.IsWhole) {x : Vec Ideal ⟨2, ![m, n]⟩ .f32}
  {brg : Memref sig κ sp ⟨2, ![m, n]⟩ .bf16} (hbrg : brg.IsWhole) {y : Vec Ideal ⟨2, ![m, n]⟩ .bf16}
/-- A load of rows from row `o` on. -/
theorem Is2.load (hx : Is2 x f) (o : ℕ) (inb : ∀ a, (![o, 0] : Fin 2 → ℕ) a + (![k, n] : Fin 2 → ℕ) a ≤ (⟨2, ![m, n]⟩ : Shape).size a) :
    Is2 (a := k) (b := n) (View.readAt (Elt Ideal) arg.view (Rect.unit (s := ⟨2, ![m, n]⟩) ![o, 0] ![k, n] inb).toLoadRect (harg.unread x)) (fun r j => f (o + r) j) := by
  rw [View.readAt_eq_ld, harg.read_unread]
  exact hx.rowsAt o inb
theorem Is2.loadb (hx : Is2 y f) (o : ℕ) (inb : ∀ a, (![o, 0] : Fin 2 → ℕ) a + (![k, n] : Fin 2 → ℕ) a ≤ (⟨2, ![m, n]⟩ : Shape).size a) :
    Is2 (a := k) (b := n) (View.readAt (Elt Ideal) brg.view (Rect.unit (s := ⟨2, ![m, n]⟩) ![o, 0] ![k, n] inb).toLoadRect (hbrg.unread y)) (fun r j => f (o + r) j) := by
  rw [View.readAt_eq_ld, hbrg.read_unread]
  exact hx.rowsAt o inb
/-- A load of the whole array. -/
theorem Is2.load0 (hx : Is2 x f) (inb : ∀ a, (![0, 0] : Fin 2 → ℕ) a + (![k, n] : Fin 2 → ℕ) a ≤ (⟨2, ![m, n]⟩ : Shape).size a) :
    Is2 (a := k) (b := n) (View.readAt (Elt Ideal) arg.view (Rect.unit (s := ⟨2, ![m, n]⟩) ![0, 0] ![k, n] inb).toLoadRect (harg.unread x)) f :=
  (hx.load harg 0 inb).congr fun p j _ _ => by rw [Nat.zero_add]
theorem Is2.load0b (hx : Is2 y f) (inb : ∀ a, (![0, 0] : Fin 2 → ℕ) a + (![k, n] : Fin 2 → ℕ) a ≤ (⟨2, ![m, n]⟩ : Shape).size a) :
    Is2 (a := k) (b := n) (View.readAt (Elt Ideal) brg.view (Rect.unit (s := ⟨2, ![m, n]⟩) ![0, 0] ![k, n] inb).toLoadRect (hbrg.unread y)) f :=
  (hx.loadb hbrg 0 inb).congr fun p j _ _ => by rw [Nat.zero_add]
end load

section store
variable (v : View sig κ sp (⟨2, ![m, n]⟩ : Shape) .f32) (z : v.ty.Contents (Elt Ideal))
/-- One row stored over an array that holds `f`. -/
theorem Is2.storeRow {L : List (View.Piece (Elt Ideal) (⟨2, ![m, n]⟩ : Shape) .f32)} (hL : Is2 (v.read (Elt Ideal) (v.writes (Elt Ideal) z L)) f) (q : ℕ)
    (inb : ∀ a, (![q, 0] : Fin 2 → ℕ) a + (![1, n] : Fin 2 → ℕ) a ≤ (⟨2, ![m, n]⟩ : Shape).size a)
    {w : Vec Ideal ⟨2, ![1, n]⟩ .f32} {g : ℕ → ℝ} (hw : Is2 w (fun _ j => g j)) :
    Is2 (v.read (Elt Ideal) (v.writes (Elt Ideal) z ((⟨Rect.unit (s := ⟨2, ![m, n]⟩) ![q, 0] ![1, n] inb, w⟩ : View.Piece (Elt Ideal) (⟨2, ![m, n]⟩ : Shape) .f32) :: L)))
      (fun p j => if p = q then g j else f p j) := fun p j => by
  beta_reduce
  by_cases h : p.val = q
  · rw [if_pos h, View.read_writes_cons_rows_of_mem v z inb w L (ValueIdx.ix2 p j) (ValueIdx.ix2 (0 : Fin 1) j) rfl (by show p.val = q + 0; omega) rfl]
    exact hw 0 j
  · rw [if_neg h, View.read_writes_cons_rows_of_not_mem v z inb w L (ValueIdx.ix2 p j) rfl (W := 1) rfl (by show p.val < q ∨ q + 1 ≤ p.val; omega)]
    exact hL p j
/-- The whole array stored. -/
theorem Is2.storeAll {L : List (View.Piece (Elt Ideal) (⟨2, ![m, n]⟩ : Shape) .f32)}
    (inb : ∀ a, (![0, 0] : Fin 2 → ℕ) a + (![m, n] : Fin 2 → ℕ) a ≤ (⟨2, ![m, n]⟩ : Shape).size a) {w : Vec Ideal ⟨2, ![m, n]⟩ .f32} (hw : Is2 w f) :
    Is2 (v.read (Elt Ideal) (v.writes (Elt Ideal) z ((⟨Rect.unit (s := ⟨2, ![m, n]⟩) ![0, 0] ![m, n] inb, w⟩ : View.Piece (Elt Ideal) (⟨2, ![m, n]⟩ : Shape) .f32) :: L))) f := fun p j => by
  rw [View.read_writes_cons_rows_of_mem v z inb w L (ValueIdx.ix2 p j) (ValueIdx.ix2 p j) rfl (by show p.val = 0 + p.val; omega) rfl]
  exact hw p j
/-- A row read back from the stores before it. -/
theorem Is2.readBack {L : List (View.Piece (Elt Ideal) (⟨2, ![m, n]⟩ : Shape) .f32)} (hL : Is2 (v.read (Elt Ideal) (v.writes (Elt Ideal) v.junk L)) f) (q : ℕ)
    (inb : ∀ a, (![q, 0] : Fin 2 → ℕ) a + (![k, n] : Fin 2 → ℕ) a ≤ (⟨2, ![m, n]⟩ : Shape).size a) :
    Is2 (a := k) (b := n) (v.readCov (Val := Elt Ideal) L (Rect.unit (s := ⟨2, ![m, n]⟩) ![q, 0] ![k, n] inb).toLoadRect) (fun r j => f (q + r) j) :=
  hL.rowsAt q inb
end store

/-- Row `q` of the array holds the reals `g`. -/
def RowIs (X : (⟨2, ![m, n]⟩ : Shape).Idx → EReal) (q : ℕ) (g : ℕ → ℝ) : Prop :=
  ∀ (p : Fin m) (j : Fin n), p.val = q → X (ValueIdx.ix2 p j) = ((g j.val : ℝ) : EReal)
section row
variable (v : View sig κ sp (⟨2, ![m, n]⟩ : Shape) .f32) (z : v.ty.Contents (Elt Ideal)) {L : List (View.Piece (Elt Ideal) (⟨2, ![m, n]⟩ : Shape) .f32)}
theorem RowIs.hit (q : ℕ) (inb : ∀ a, (![q, 0] : Fin 2 → ℕ) a + (![1, n] : Fin 2 → ℕ) a ≤ (⟨2, ![m, n]⟩ : Shape).size a)
    {w : Vec Ideal ⟨2, ![1, n]⟩ .f32} {g : ℕ → ℝ} (hw : Is2 w (fun _ j => g j)) :
    RowIs (v.read (Elt Ideal) (v.writes (Elt Ideal) z ((⟨Rect.unit (s := ⟨2, ![m, n]⟩) ![q, 0] ![1, n] inb, w⟩ : View.Piece (Elt Ideal) (⟨2, ![m, n]⟩ : Shape) .f32) :: L))) q g :=
  fun p j h => by
  rw [View.read_writes_cons_rows_of_mem v z inb w L (ValueIdx.ix2 p j) (ValueIdx.ix2 (0 : Fin 1) j) rfl (by show p.val = q + 0; omega) rfl]
  exact hw 0 j
theorem RowIs.miss {q' : ℕ} {g : ℕ → ℝ} (hL : RowIs (v.read (Elt Ideal) (v.writes (Elt Ideal) z L)) q' g) (q : ℕ)
    (inb : ∀ a, (![q, 0] : Fin 2 → ℕ) a + (![1, n] : Fin 2 → ℕ) a ≤ (⟨2, ![m, n]⟩ : Shape).size a) (hne : q' ≠ q)
    (w : Vec Ideal ⟨2, ![1, n]⟩ .f32) :
    RowIs (v.read (Elt Ideal) (v.writes (Elt Ideal) z ((⟨Rect.unit (s := ⟨2, ![m, n]⟩) ![q, 0] ![1, n] inb, w⟩ : View.Piece (Elt Ideal) (⟨2, ![m, n]⟩ : Shape) .f32) :: L))) q' g :=
  fun p j h => by
  rw [View.read_writes_cons_rows_of_not_mem v z inb w L (ValueIdx.ix2 p j) rfl (W := 1) rfl (by show p.val < q ∨ q + 1 ≤ p.val; omega)]
  exact hL p j h
theorem RowIs.readBack {q : ℕ} {g : ℕ → ℝ} (hL : RowIs (v.read (Elt Ideal) (v.writes (Elt Ideal) v.junk L)) q g)
    (inb : ∀ a, (![q, 0] : Fin 2 → ℕ) a + (![1, n] : Fin 2 → ℕ) a ≤ (⟨2, ![m, n]⟩ : Shape).size a) :
    Is2 (a := 1) (b := n) (v.readCov (Val := Elt Ideal) L (Rect.unit (s := ⟨2, ![m, n]⟩) ![q, 0] ![1, n] inb).toLoadRect) (fun _ j => g j) := fun p j => by
  have ho : q < m := by have := inb (0 : Fin 2); simp at *; omega
  show v.read (Elt Ideal) (v.writes (Elt Ideal) v.junk L) ((Rect.unit (s := ⟨2, ![m, n]⟩) ![q, 0] ![1, n] inb).idx (ValueIdx.ix2 p j)) = _
  rw [show (Rect.unit (s := ⟨2, ![m, n]⟩) ![q, 0] ![1, n] inb).idx (ValueIdx.ix2 p j) = ValueIdx.ix2 (⟨q, ho⟩ : Fin m) j from
    funext fun x => Fin.ext (by
      match x with
      | ⟨0, _⟩ => show q + 1 * p.val = q; have := p.isLt; omega
      | ⟨1, _⟩ => show 0 + 1 * j.val = j.val; omega)]
  exact hL _ _ rfl
end row

/-- An array stored in two pieces side by side. -/
theorem Is2.storeTwo {n1 n2 : ℕ} (v : View sig κ sp (⟨2, ![m, n]⟩ : Shape) .bf16) (z : v.ty.Contents (Elt Ideal)) {g : ℕ → ℕ → ℝ} (hn : n1 + n2 = n)
    (inb1 : ∀ a, (![0, 0] : Fin 2 → ℕ) a + (![m, n1] : Fin 2 → ℕ) a ≤ (⟨2, ![m, n]⟩ : Shape).size a)
    (inb2 : ∀ a, (![0, n1] : Fin 2 → ℕ) a + (![m, n2] : Fin 2 → ℕ) a ≤ (⟨2, ![m, n]⟩ : Shape).size a)
    {w1 : Vec Ideal ⟨2, ![m, n1]⟩ .bf16} {w2 : Vec Ideal ⟨2, ![m, n2]⟩ .bf16} (h1 : Is2 w1 f) (h2 : Is2 w2 g) :
    Is2 (v.read (Elt Ideal) (v.writes (Elt Ideal) z [(⟨Rect.unit (s := ⟨2, ![m, n]⟩) ![0, n1] ![m, n2] inb2, w2⟩ : View.Piece (Elt Ideal) (⟨2, ![m, n]⟩ : Shape) .bf16),
      ⟨Rect.unit (s := ⟨2, ![m, n]⟩) ![0, 0] ![m, n1] inb1, w1⟩])) (fun p j => if j < n1 then f p j else g p (j - n1)) := fun p j => by
  beta_reduce
  by_cases h : j.val < n1
  · rw [if_pos h, View.read_writes_cons_unit_of_not_mem v z inb2 w2 _ (ValueIdx.ix2 p j) rfl (1 : Fin 2) (Or.inl h),
      View.read_writes_cons_unit_of_mem v z inb1 w1 _ (ValueIdx.ix2 p j) (ValueIdx.ix2 p (⟨j.val, h⟩ : Fin n1)) rfl (fun a => by
        match a with
        | ⟨0, _⟩ => show p.val = 0 + p.val; omega
        | ⟨1, _⟩ => show j.val = 0 + j.val; omega)]
    exact h1 _ _
  · have hj : j.val - n1 < n2 := by have := j.isLt; omega
    rw [if_neg h, View.read_writes_cons_unit_of_mem v z inb2 w2 _ (ValueIdx.ix2 p j) (ValueIdx.ix2 p (⟨j.val - n1, hj⟩ : Fin n2)) rfl (fun a => by
        match a with
        | ⟨0, _⟩ => show p.val = 0 + p.val; omega
        | ⟨1, _⟩ => show j.val = n1 + (j.val - n1); omega)]
    exact h2 _ _
/-- The whole array stored, in the short format. -/
theorem Is2.storeAllb (v : View sig κ sp (⟨2, ![m, n]⟩ : Shape) .bf16) (z : v.ty.Contents (Elt Ideal)) {L : List (View.Piece (Elt Ideal) (⟨2, ![m, n]⟩ : Shape) .bf16)}
    (inb : ∀ a, (![0, 0] : Fin 2 → ℕ) a + (![m, n] : Fin 2 → ℕ) a ≤ (⟨2, ![m, n]⟩ : Shape).size a) {w : Vec Ideal ⟨2, ![m, n]⟩ .bf16} (hw : Is2 w f) :
    Is2 (v.read (Elt Ideal) (v.writes (Elt Ideal) z ((⟨Rect.unit (s := ⟨2, ![m, n]⟩) ![0, 0] ![m, n] inb, w⟩ : View.Piece (Elt Ideal) (⟨2, ![m, n]⟩ : Shape) .bf16) :: L))) f := fun p j => by
  rw [View.read_writes_cons_rows_of_mem v z inb w L (ValueIdx.ix2 p j) (ValueIdx.ix2 p j) rfl (by show p.val = 0 + p.val; omega) rfl]
  exact hw p j
end Cert.Reals
end
-- ==== Proof.CaseA.lean ====
/-
What the body leaves in its buffers at a first grid point, over the reals.
-/
module
public import proofs.«01_k».proof.Proof.Block
public import proofs.«01_k».proof.Proof.Loads
public import proofs.«01_k».proof.Proof.Gen.KernelIdeal.Frame
@[expose] public section
noncomputable section
open Idealize.ShloMosaic Idealize.ShloMosaic.TcCoe
open scoped BigOperators

namespace Cert.KernelIdeal.CaseA
open Cert.KernelIdeal Cert.KernelIdeal.Gen Cert.Reals Cert.Spec Cert.KernelIdeal.Block
variable {D : Data} {b : ℕ} {c : Dev nD} {i : grid0.Coords} {arg1 : Memref sig .tc .vmem S256x1024 .f32} {harg1 : arg1.IsWhole} {arg2 : Memref sig .tc .vmem S256x1024 .bf16} {harg2 : arg2.IsWhole} {arg3 : Memref sig .tc .vmem S256x1024 .bf16} {harg3 : arg3.IsWhole} {arg4 : Memref sig .tc .vmem S8x1024 .f32} {harg4 : arg4.IsWhole} {arg5 : Memref sig .tc .vmem S1x1024 .f32} {harg5 : arg5.IsWhole} {arg6 : Memref sig .tc .vmem S5632x1024 .bf16} {harg6 : arg6.IsWhole} {arg7 : Memref sig .tc .vmem S2816x1024 .bf16} {harg7 : arg7.IsWhole} {arg8 : Memref sig .tc .vmem S1024x1024 .bf16} {harg8 : arg8.IsWhole} {arg9 : Memref sig .tc .vmem S1x1024 .f32} {harg9 : arg9.IsWhole} {arg10 : Memref sig .tc .vmem S256x1024 .f32} {harg10 : arg10.IsWhole} {arg11 : Memref sig .tc .vmem S256x1024 .bf16} {harg11 : arg11.IsWhole} {arg12 : Memref sig .tc .vmem S256x2816 .bf16} {harg12 : arg12.IsWhole} {arg13 : Memref sig .tc .vmem S256x1024 .bf16} {harg13 : arg13.IsWhole} {arg14 : Memref sig .tc .vmem S256x5632 .bf16} {harg14 : arg14.IsWhole} {arg15 : Memref sig .tc .vmem S256x1024 .bf16} {harg15 : arg15.IsWhole} {arg16 : Memref sig .tc .vmem S1024x1024 .bf16} {harg16 : arg16.IsWhole} {arg17 : Memref sig .tc .vmem S256x1024 .bf16} {harg17 : arg17.IsWhole} {arg18 : Memref sig .tc .vmem S8x1024 .f32} {harg18 : arg18.IsWhole} {arg19 : Memref sig .tc .vmem S1024x1024 .f32} {harg19 : arg19.IsWhole} {hc0 : cond0_0 i} {hc1 : ¬cond0_1 i} {x0 : Vec Ideal S256x1024 .f32} {x1 : Vec Ideal S256x1024 .bf16} {x2 : Vec Ideal S256x1024 .bf16} {x3 : Vec Ideal S8x1024 .f32} {x4 : Vec Ideal S1x1024 .f32} {x5 : Vec Ideal S5632x1024 .bf16} {x6 : Vec Ideal S2816x1024 .bf16} {x7 : Vec Ideal S1024x1024 .bf16} {x8 : Vec Ideal S1x1024 .f32} {x9 : Vec Ideal S256x1024 .f32}

theorem r_is (H : Blocks D b x0 x1 x2 x3 x4 x5 x6 x7 x8 x9) : Is2 (kernelRun0_A.sl.r (F := Ideal) c arg1 harg1 x0) (fun r j => D.x1 (b + r) j) :=
  x1_is (H.h0.load0 harg1 _)
theorem r_1_is (H : Blocks D b x0 x1 x2 x3 x4 x5 x6 x7 x8 x9) : Is2 (kernelRun0_A.sl.r_1 (F := Ideal) c arg1 harg1 arg4 harg4 arg5 harg5 arg6 harg6 x0 x3 x4 x5) (fun r j => D.gate (b + r) j) :=
  gate_is (H.h0.load0 harg1 _) (H.h4.load0 harg5 _) (H.h3.load harg4 4 _) (H.h3.load harg4 3 _) (H.h5.load0b harg6 _)
theorem r_2_is (H : Blocks D b x0 x1 x2 x3 x4 x5 x6 x7 x8 x9) : Is2 (kernelRun0_A.sl.r_2 (F := Ideal) c arg1 harg1 arg4 harg4 arg5 harg5 arg6 harg6 x0 x3 x4 x5) (fun r j => D.up (b + r) j) :=
  up_is (H.h0.load0 harg1 _) (H.h4.load0 harg5 _) (H.h3.load harg4 4 _) (H.h3.load harg4 3 _) (H.h5.loadb harg6 2816 _)
theorem r_3_is (H : Blocks D b x0 x1 x2 x3 x4 x5 x6 x7 x8 x9) : Is2 (kernelRun0_A.sl.r_3 (F := Ideal) c arg1 harg1 arg4 harg4 arg5 harg5 arg6 harg6 x0 x3 x4 x5) (fun r f => D.up (b + r) f * (D.sg (b + r) f * (1 + D.gate (b + r) f * (1 - D.sg (b + r) f)))) :=
  dsilu_is (r_1_is H) (r_2_is H) lit_zero
theorem r_4_is (H : Blocks D b x0 x1 x2 x3 x4 x5 x6 x7 x8 x9) : Is2 (kernelRun0_A.sl.r_4 (F := Ideal) c arg1 harg1 arg4 harg4 arg5 harg5 arg6 harg6 x0 x3 x4 x5) (fun r f => D.gate (b + r) f * D.sg (b + r) f) :=
  silu_is (r_1_is H) lit_zero
theorem r_5_is (H : Blocks D b x0 x1 x2 x3 x4 x5 x6 x7 x8 x9) : Is2 (kernelRun0_A.sl.r_5 (F := Ideal) c arg1 harg1 arg4 harg4 arg5 harg5 arg6 harg6 arg7 harg7 x0 x3 x4 x5 x6) (fun r j => D.o2 (b + r) j) :=
  o2_is (r_1_is H) (r_2_is H) lit_zero (H.h6.load0b harg7 _)
theorem r_6_is (H : Blocks D b x0 x1 x2 x3 x4 x5 x6 x7 x8 x9) : Is2 (a := 1) (b := 1024) (kernelRun0_A.sl.r_6 (F := Ideal) c arg4 harg4 x3) (fun r j => D.mod (5 + r) j) :=
  H.h3.load harg4 5 _
theorem r_7_is (H : Blocks D b x0 x1 x2 x3 x4 x5 x6 x7 x8 x9) : Is2 (kernelRun0_A.sl.r_7 (F := Ideal) c arg1 harg1 arg4 harg4 arg5 harg5 arg6 harg6 arg7 harg7 x0 x3 x4 x5 x6) (fun r _ => rs D.x2 (b + r)) :=
  r2_is (r_is H) (r_1_is H) (r_2_is H) lit_zero (H.h6.load0b harg7 _) (H.h3.load harg4 5 _)
theorem r_8_is (H : Blocks D b x0 x1 x2 x3 x4 x5 x6 x7 x8 x9) : Is2 (kernelRun0_A.sl.r_8 (F := Ideal) c arg1 harg1 arg4 harg4 arg5 harg5 arg6 harg6 arg7 harg7 x0 x3 x4 x5 x6) (fun r j => D.xn (b + r) j) :=
  xn_is (r_is H) (r_1_is H) (r_2_is H) lit_zero (H.h6.load0b harg7 _) (H.h3.load harg4 5 _)
theorem r_9_is (H : Blocks D b x0 x1 x2 x3 x4 x5 x6 x7 x8 x9) : Is2 (a := 1) (b := 1024) (kernelRun0_A.sl.r_9 (F := Ideal) c arg9 harg9 x8) D.gf :=
  H.h8.load0 harg9 _
theorem r_10_is (H : Blocks D b x0 x1 x2 x3 x4 x5 x6 x7 x8 x9) : Is2 (kernelRun0_A.sl.r_10 (F := Ideal) c arg1 harg1 arg4 harg4 arg5 harg5 arg6 harg6 arg7 harg7 arg9 harg9 x0 x3 x4 x5 x6 x8) (fun r j => D.xn (b + r) j * D.gf 0 j) :=
  y_is (r_is H) (r_1_is H) (r_2_is H) lit_zero (H.h6.load0b harg7 _) (H.h3.load harg4 5 _) (H.h8.load0 harg9 _)
theorem r_11_is (H : Blocks D b x0 x1 x2 x3 x4 x5 x6 x7 x8 x9) : Is2 (a := 256) (b := 1024) (kernelRun0_A.sl.r_11 (F := Ideal) c arg10 harg10 x9) (fun r j => D.tg (b + r) j) :=
  H.h9.load0 harg10 _
theorem r_12_is (H : Blocks D b x0 x1 x2 x3 x4 x5 x6 x7 x8 x9) : Is2 (kernelRun0_A.sl.r_12 (F := Ideal) c arg1 harg1 arg4 harg4 arg5 harg5 arg6 harg6 arg7 harg7 arg9 harg9 arg10 harg10 x0 x3 x4 x5 x6 x8 x9) (fun r j => D.dx2 (b + r) j) :=
  dx2_is (r_7_is H) (r_8_is H) (r_9_is H) (r_10_is H) (r_11_is H)
theorem r_13_is (H : Blocks D b x0 x1 x2 x3 x4 x5 x6 x7 x8 x9) : Is2 (kernelRun0_A.sl.r_13 (F := Ideal) c arg1 harg1 arg4 harg4 arg5 harg5 arg6 harg6 arg7 harg7 arg9 harg9 arg10 harg10 x0 x3 x4 x5 x6 x8 x9) (fun r j => D.do2 (b + r) j) :=
  do2_is (r_7_is H) (r_8_is H) (r_9_is H) (r_10_is H) (r_11_is H) (r_6_is H)
theorem r_14_is (H : Blocks D b x0 x1 x2 x3 x4 x5 x6 x7 x8 x9) : Is2 (kernelRun0_A.sl.r_14 (F := Ideal) c arg1 harg1 arg4 harg4 arg5 harg5 arg6 harg6 arg7 harg7 arg9 harg9 arg10 harg10 x0 x3 x4 x5 x6 x8 x9) (fun r j => D.dh (b + r) j) :=
  dh_is (r_3_is H) (r_4_is H) (r_13_is H) (H.h6.load0b harg7 _) (H.h5.load0b harg6 _) (H.h5.loadb harg6 2816 _)
theorem r_15_is (H : Blocks D b x0 x1 x2 x3 x4 x5 x6 x7 x8 x9) : Is2 (a := 1) (b := 1024) (kernelRun0_A.sl.r_15 (F := Ideal) c arg5 harg5 x4) D.gn :=
  H.h4.load0 harg5 _
theorem r_16_is (H : Blocks D b x0 x1 x2 x3 x4 x5 x6 x7 x8 x9) : Is2 (a := 1) (b := 1024) (kernelRun0_A.sl.r_16 (F := Ideal) c arg4 harg4 x3) (fun r j => D.mod (4 + r) j) :=
  H.h3.load harg4 4 _
theorem r_17_is (H : Blocks D b x0 x1 x2 x3 x4 x5 x6 x7 x8 x9) : Is2 (kernelRun0_A.sl.r_17 (F := Ideal) c arg1 harg1 x0) (fun r _ => rs D.x1 (b + r)) :=
  r1_is (r_is H)
theorem r_18_is (H : Blocks D b x0 x1 x2 x3 x4 x5 x6 x7 x8 x9) : Is2 (kernelRun0_A.sl.r_18 (F := Ideal) c arg1 harg1 x0) (fun r j => D.n1 (b + r) j) :=
  n1_is (r_is H)
theorem r_20_is (H : Blocks D b x0 x1 x2 x3 x4 x5 x6 x7 x8 x9) : Is2 (kernelRun0_A.sl.r_20 (F := Ideal) c arg1 harg1 arg4 harg4 arg5 harg5 arg6 harg6 arg7 harg7 arg9 harg9 arg10 harg10 x0 x3 x4 x5 x6 x8 x9) (fun r j => D.dx1 (b + r) j) :=
  dx1_is (r_12_is H) (r_14_is H) (r_15_is H) (r_16_is H) (r_17_is H) (r_18_is H)
/-! ## The outputs of this block alone -/
theorem h2_out (H : Blocks D b x0 x1 x2 x3 x4 x5 x6 x7 x8 x9) :
    Is2 (out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9)
      (fun r j => D.h2 (b + r) j) := by
  unfold out0_A_10 kernelRun0_A
  exact Is2.storeAllb _ _ _ (h2_is (H.h0.load0 harg1 _) (H.h4.load0 harg5 _) (H.h3.load harg4 4 _) (H.h3.load harg4 3 _))
theorem act_out (H : Blocks D b x0 x1 x2 x3 x4 x5 x6 x7 x8 x9) :
    Is2 (out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9)
      (fun r j => D.act (b + r) j) := by
  unfold out0_A_11 kernelRun0_A
  exact Is2.storeAllb _ _ _ (act_is (r_1_is H) (r_2_is H) lit_zero)
theorem do2_out (H : Blocks D b x0 x1 x2 x3 x4 x5 x6 x7 x8 x9) :
    Is2 (out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9)
      (fun r j => D.do2 (b + r) j) := by
  unfold out0_A_12 kernelRun0_A
  exact Is2.storeAllb _ _ _ (r_13_is H)
theorem dgu_out (H : Blocks D b x0 x1 x2 x3 x4 x5 x6 x7 x8 x9) :
    Is2 (out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9)
      (fun r j => D.dgu (b + r) j) := by
  unfold out0_A_13 kernelRun0_A
  exact Is2.storeTwo _ _ rfl _ _ (dgate_is (r_3_is H) (r_13_is H) (H.h6.load0b harg7 _)) (dup_is (r_4_is H) (r_13_is H) (H.h6.load0b harg7 _))
theorem dx1_out (H : Blocks D b x0 x1 x2 x3 x4 x5 x6 x7 x8 x9) :
    Is2 (out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9)
      (fun r j => D.dx1 (b + r) j) := by
  unfold out0_A_14 kernelRun0_A
  exact Is2.storeAllb _ _ _ (dx1b_is (r_12_is H) (r_14_is H) (r_15_is H) (r_16_is H) (r_17_is H) (r_18_is H))
theorem dmg_out (H : Blocks D b x0 x1 x2 x3 x4 x5 x6 x7 x8 x9) :
    Is2 (out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9)
      (fun r j => D.dmg (b + r) j) := by
  unfold out0_A_16 kernelRun0_A
  exact Is2.storeAllb _ _ _ (dmg_is (r_20_is H) (H.h3.load harg4 2 _) (H.h7.load0b harg8 _))
/-! ## The weight gradient gathered so far -/
theorem v203_is : Is2 (a := 1024) (b := 1024) (kernelRun0_A.sl.v203 (F := Ideal) c arg19) (D.dwo 0) :=
  ((Is2.readBack arg19.view (Is2.storeAll arg19.view _ (L := []) _ zerow_is) 0 _)).congr fun i j _ _ => by simp [Data.dwo]
theorem dwo_out (H : Blocks D 0 x0 x1 x2 x3 x4 x5 x6 x7 x8 x9) :
    Is2 (out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9)
      (D.dwo 256) := by
  unfold out0_A_15 kernelRun0_A
  exact (Is2.storeAllb _ _ _ (dwob_is (r_20_is H) (H.h3.load harg4 2 _) v203_is (H.h2.load0b harg3 _))).congr fun i j _ _ => by rw [show (256 : ℕ) = 0 + 256 from rfl, D.dwo_add]
theorem dwo_acc (H : Blocks D 0 x0 x1 x2 x3 x4 x5 x6 x7 x8 x9) :
    Is2 (sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9)
      (D.dwo 256) := by
  unfold sout0_A_0 kernelRun0_A
  exact (Is2.storeAll _ _ _ (dwos_is (r_20_is H) (H.h3.load harg4 2 _) v203_is (H.h2.load0b harg3 _))).congr fun i j _ _ => by rw [show (256 : ℕ) = 0 + 256 from rfl, D.dwo_add]
/-! ## The small rows gathered so far -/
theorem st1_is : Is2 (arg18.view.read (Elt Ideal) (arg18.view.writes (Elt Ideal) arg18.view.junk (kernelRun0_A.sl.H17_1 (F := Ideal)))) (D.rows 0) :=
  (Is2.storeAll arg18.view _ (L := []) _ zeros_is).congr fun i j _ _ => by simp [Data.rows]
theorem v90_is : Is2 (a := 1) (b := 1024) (kernelRun0_A.sl.v90 (F := Ideal) c arg18) (fun _ j => D.rows 0 4 j) := by
  refine Is2.congr (a := 1) (b := 1024) (Is2.readBack arg18.view (st1_is (D := D)) 4 _) fun i j hi _ => ?_
  obtain rfl : i = 0 := by omega
  rfl
theorem st2_is (H : Blocks D 0 x0 x1 x2 x3 x4 x5 x6 x7 x8 x9) : Is2 (arg18.view.read (Elt Ideal) (arg18.view.writes (Elt Ideal) arg18.view.junk (kernelRun0_A.sl.H17_2 (F := Ideal) c arg1 harg1 arg4 harg4 arg5 harg5 arg6 harg6 arg7 harg7 arg9 harg9 arg10 harg10 arg18 x0 x3 x4 x5 x6 x8 x9))) (fun p j => if p = 4 then D.rows 0 4 j + ∑ r ∈ Finset.range 256, D.row 4 (0 + r) j else D.rows 0 p j) :=
  Is2.storeRow arg18.view _ st1_is 4 _ (row4_is (r_8_is H) (r_10_is H) (r_11_is H) v90_is)
theorem v97_is (H : Blocks D 0 x0 x1 x2 x3 x4 x5 x6 x7 x8 x9) : Is2 (a := 1) (b := 1024) (kernelRun0_A.sl.v97 (F := Ideal) c arg1 harg1 arg4 harg4 arg5 harg5 arg6 harg6 arg7 harg7 arg9 harg9 arg10 harg10 arg18 x0 x3 x4 x5 x6 x8 x9) (fun _ j => D.rows 0 5 j) := by
  refine Is2.congr (a := 1) (b := 1024) (Is2.readBack arg18.view (st2_is H) 5 _) fun i j hi _ => ?_
  obtain rfl : i = 0 := by omega
  simp
theorem st3_is (H : Blocks D 0 x0 x1 x2 x3 x4 x5 x6 x7 x8 x9) : Is2 (arg18.view.read (Elt Ideal) (arg18.view.writes (Elt Ideal) arg18.view.junk (kernelRun0_A.sl.H17_3 (F := Ideal) c arg1 harg1 arg4 harg4 arg5 harg5 arg6 harg6 arg7 harg7 arg9 harg9 arg10 harg10 arg18 x0 x3 x4 x5 x6 x8 x9))) (fun p j => if p = 5 then D.rows 0 5 j + ∑ r ∈ Finset.range 256, D.row 5 (0 + r) j else if p = 4 then D.rows 0 4 j + ∑ r ∈ Finset.range 256, D.row 4 (0 + r) j else D.rows 0 p j) :=
  Is2.storeRow arg18.view _ (st2_is H) 5 _ (row5_is (r_10_is H) (r_11_is H) (v97_is H))
theorem v104_is (H : Blocks D 0 x0 x1 x2 x3 x4 x5 x6 x7 x8 x9) : Is2 (a := 1) (b := 1024) (kernelRun0_A.sl.v104 (F := Ideal) c arg1 harg1 arg4 harg4 arg5 harg5 arg6 harg6 arg7 harg7 arg9 harg9 arg10 harg10 arg18 x0 x3 x4 x5 x6 x8 x9) (fun _ j => D.rows 0 3 j) := by
  refine Is2.congr (a := 1) (b := 1024) (Is2.readBack arg18.view (st3_is H) 3 _) fun i j hi _ => ?_
  obtain rfl : i = 0 := by omega
  simp
theorem st4_is (H : Blocks D 0 x0 x1 x2 x3 x4 x5 x6 x7 x8 x9) : Is2 (arg18.view.read (Elt Ideal) (arg18.view.writes (Elt Ideal) arg18.view.junk (kernelRun0_A.sl.H17_4 (F := Ideal) c arg1 harg1 arg4 harg4 arg5 harg5 arg6 harg6 arg7 harg7 arg9 harg9 arg10 harg10 arg18 x0 x3 x4 x5 x6 x8 x9))) (fun p j => if p = 3 then D.rows 0 3 j + ∑ r ∈ Finset.range 256, D.row 3 (0 + r) j else if p = 5 then D.rows 0 5 j + ∑ r ∈ Finset.range 256, D.row 5 (0 + r) j else if p = 4 then D.rows 0 4 j + ∑ r ∈ Finset.range 256, D.row 4 (0 + r) j else D.rows 0 p j) :=
  Is2.storeRow arg18.view _ (st3_is H) 3 _ (row3_is (r_5_is H) (r_7_is H) (r_8_is H) (r_9_is H) (r_10_is H) (r_11_is H) (v104_is H))
theorem v144_is (H : Blocks D 0 x0 x1 x2 x3 x4 x5 x6 x7 x8 x9) : Is2 (a := 1) (b := 1024) (kernelRun0_A.sl.v144 (F := Ideal) c arg1 harg1 arg4 harg4 arg5 harg5 arg6 harg6 arg7 harg7 arg9 harg9 arg10 harg10 arg18 x0 x3 x4 x5 x6 x8 x9) (fun _ j => D.rows 0 0 j) := by
  refine Is2.congr (a := 1) (b := 1024) (Is2.readBack arg18.view (st4_is H) 0 _) fun i j hi _ => ?_
  obtain rfl : i = 0 := by omega
  simp
theorem st5_is (H : Blocks D 0 x0 x1 x2 x3 x4 x5 x6 x7 x8 x9) : Is2 (arg18.view.read (Elt Ideal) (arg18.view.writes (Elt Ideal) arg18.view.junk (kernelRun0_A.sl.H17_5 (F := Ideal) c arg1 harg1 arg4 harg4 arg5 harg5 arg6 harg6 arg7 harg7 arg9 harg9 arg10 harg10 arg18 x0 x3 x4 x5 x6 x8 x9))) (fun p j => if p = 0 then D.rows 0 0 j + ∑ r ∈ Finset.range 256, D.row 0 (0 + r) j else if p = 3 then D.rows 0 3 j + ∑ r ∈ Finset.range 256, D.row 3 (0 + r) j else if p = 5 then D.rows 0 5 j + ∑ r ∈ Finset.range 256, D.row 5 (0 + r) j else if p = 4 then D.rows 0 4 j + ∑ r ∈ Finset.range 256, D.row 4 (0 + r) j else D.rows 0 p j) :=
  Is2.storeRow arg18.view _ (st4_is H) 0 _ (row0_is (r_14_is H) (cast_is (v144_is H)))
theorem v150_is (H : Blocks D 0 x0 x1 x2 x3 x4 x5 x6 x7 x8 x9) : Is2 (a := 1) (b := 1024) (kernelRun0_A.sl.v150 (F := Ideal) c arg1 harg1 arg4 harg4 arg5 harg5 arg6 harg6 arg7 harg7 arg9 harg9 arg10 harg10 arg18 x0 x3 x4 x5 x6 x8 x9) (fun _ j => D.rows 0 1 j) := by
  refine Is2.congr (a := 1) (b := 1024) (Is2.readBack arg18.view (st5_is H) 1 _) fun i j hi _ => ?_
  obtain rfl : i = 0 := by omega
  simp
theorem st6_is (H : Blocks D 0 x0 x1 x2 x3 x4 x5 x6 x7 x8 x9) : Is2 (arg18.view.read (Elt Ideal) (arg18.view.writes (Elt Ideal) arg18.view.junk (kernelRun0_A.sl.H17_6 (F := Ideal) c arg1 harg1 arg4 harg4 arg5 harg5 arg6 harg6 arg7 harg7 arg9 harg9 arg10 harg10 arg18 x0 x3 x4 x5 x6 x8 x9))) (fun p j => if p = 1 then D.rows 0 1 j + ∑ r ∈ Finset.range 256, D.row 1 (0 + r) j else if p = 0 then D.rows 0 0 j + ∑ r ∈ Finset.range 256, D.row 0 (0 + r) j else if p = 3 then D.rows 0 3 j + ∑ r ∈ Finset.range 256, D.row 3 (0 + r) j else if p = 5 then D.rows 0 5 j + ∑ r ∈ Finset.range 256, D.row 5 (0 + r) j else if p = 4 then D.rows 0 4 j + ∑ r ∈ Finset.range 256, D.row 4 (0 + r) j else D.rows 0 p j) :=
  Is2.storeRow arg18.view _ (st5_is H) 1 _ (row1_is (r_14_is H) (r_15_is H) (r_18_is H) (v150_is H))
theorem v163_is (H : Blocks D 0 x0 x1 x2 x3 x4 x5 x6 x7 x8 x9) : Is2 (a := 1) (b := 1024) (kernelRun0_A.sl.v163 (F := Ideal) c arg1 harg1 arg4 harg4 arg5 harg5 arg6 harg6 arg7 harg7 arg9 harg9 arg10 harg10 arg18 x0 x3 x4 x5 x6 x8 x9) (fun _ j => D.rows 0 2 j) := by
  refine Is2.congr (a := 1) (b := 1024) (Is2.readBack arg18.view (st6_is H) 2 _) fun i j hi _ => ?_
  obtain rfl : i = 0 := by omega
  simp
theorem st7_is (H : Blocks D 0 x0 x1 x2 x3 x4 x5 x6 x7 x8 x9) : Is2 (arg18.view.read (Elt Ideal) (arg18.view.writes (Elt Ideal) arg18.view.junk (kernelRun0_A.sl.H17_7 (F := Ideal) c arg1 harg1 arg4 harg4 arg5 harg5 arg6 harg6 arg7 harg7 arg9 harg9 arg10 harg10 arg18 x0 x3 x4 x5 x6 x8 x9))) (fun p j => if p = 2 then D.rows 0 2 j + ∑ r ∈ Finset.range 256, D.row 2 (0 + r) j else if p = 1 then D.rows 0 1 j + ∑ r ∈ Finset.range 256, D.row 1 (0 + r) j else if p = 0 then D.rows 0 0 j + ∑ r ∈ Finset.range 256, D.row 0 (0 + r) j else if p = 3 then D.rows 0 3 j + ∑ r ∈ Finset.range 256, D.row 3 (0 + r) j else if p = 5 then D.rows 0 5 j + ∑ r ∈ Finset.range 256, D.row 5 (0 + r) j else if p = 4 then D.rows 0 4 j + ∑ r ∈ Finset.range 256, D.row 4 (0 + r) j else D.rows 0 p j) :=
  Is2.storeRow arg18.view _ (st6_is H) 2 _ (row2_is (r_14_is H) (r_16_is H) (r_18_is H) (v163_is H))
theorem v185_is (H : Blocks D 0 x0 x1 x2 x3 x4 x5 x6 x7 x8 x9) : Is2 (a := 1) (b := 1024) (kernelRun0_A.sl.v185 (F := Ideal) c arg1 harg1 arg4 harg4 arg5 harg5 arg6 harg6 arg7 harg7 arg9 harg9 arg10 harg10 arg18 x0 x3 x4 x5 x6 x8 x9) (fun _ j => D.rows 0 7 j) := by
  refine Is2.congr (a := 1) (b := 1024) (Is2.readBack arg18.view (st7_is H) 7 _) fun i j hi _ => ?_
  obtain rfl : i = 0 := by omega
  simp
theorem small_out (H : Blocks D 0 x0 x1 x2 x3 x4 x5 x6 x7 x8 x9) :
    Is2 (out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9)
      (D.rows 256) := by
  unfold out0_A_17 kernelRun0_A
  rw [View.read_writes_junk_eq_canon, ← View.read_writes_junk_eq_canon arg18.view]
  exact (Is2.storeRow arg18.view _ (st7_is H) 7 _ (row7_is (r_20_is H) (H.h1.load0b harg2 _) (v185_is H))).congr fun p j hp _ => rows_step 0 p j hp
end Cert.KernelIdeal.CaseA
end
-- ==== Proof.CaseB.lean ====
/-
What the body leaves in its buffers at a middle grid point, over the reals.
-/
module
public import proofs.«01_k».proof.Proof.Block
public import proofs.«01_k».proof.Proof.Loads
public import proofs.«01_k».proof.Proof.Gen.KernelIdeal.Frame
@[expose] public section
noncomputable section
open Idealize.ShloMosaic Idealize.ShloMosaic.TcCoe
open scoped BigOperators

namespace Cert.KernelIdeal.CaseB
open Cert.KernelIdeal Cert.KernelIdeal.Gen Cert.Reals Cert.Spec Cert.KernelIdeal.Block
variable {D : Data} {b : ℕ} {c : Dev nD} {i : grid0.Coords} {arg1 : Memref sig .tc .vmem S256x1024 .f32} {harg1 : arg1.IsWhole} {arg2 : Memref sig .tc .vmem S256x1024 .bf16} {harg2 : arg2.IsWhole} {arg3 : Memref sig .tc .vmem S256x1024 .bf16} {harg3 : arg3.IsWhole} {arg4 : Memref sig .tc .vmem S8x1024 .f32} {harg4 : arg4.IsWhole} {arg5 : Memref sig .tc .vmem S1x1024 .f32} {harg5 : arg5.IsWhole} {arg6 : Memref sig .tc .vmem S5632x1024 .bf16} {harg6 : arg6.IsWhole} {arg7 : Memref sig .tc .vmem S2816x1024 .bf16} {harg7 : arg7.IsWhole} {arg8 : Memref sig .tc .vmem S1024x1024 .bf16} {harg8 : arg8.IsWhole} {arg9 : Memref sig .tc .vmem S1x1024 .f32} {harg9 : arg9.IsWhole} {arg10 : Memref sig .tc .vmem S256x1024 .f32} {harg10 : arg10.IsWhole} {arg11 : Memref sig .tc .vmem S256x1024 .bf16} {harg11 : arg11.IsWhole} {arg12 : Memref sig .tc .vmem S256x2816 .bf16} {harg12 : arg12.IsWhole} {arg13 : Memref sig .tc .vmem S256x1024 .bf16} {harg13 : arg13.IsWhole} {arg14 : Memref sig .tc .vmem S256x5632 .bf16} {harg14 : arg14.IsWhole} {arg15 : Memref sig .tc .vmem S256x1024 .bf16} {harg15 : arg15.IsWhole} {arg16 : Memref sig .tc .vmem S1024x1024 .bf16} {harg16 : arg16.IsWhole} {arg17 : Memref sig .tc .vmem S256x1024 .bf16} {harg17 : arg17.IsWhole} {arg18 : Memref sig .tc .vmem S8x1024 .f32} {harg18 : arg18.IsWhole} {arg19 : Memref sig .tc .vmem S1024x1024 .f32} {harg19 : arg19.IsWhole} {hc0 : ¬cond0_0 i} {hc1 : ¬cond0_1 i} {x0 : Vec Ideal S256x1024 .f32} {x1 : Vec Ideal S256x1024 .bf16} {x2 : Vec Ideal S256x1024 .bf16} {x3 : Vec Ideal S8x1024 .f32} {x4 : Vec Ideal S1x1024 .f32} {x5 : Vec Ideal S5632x1024 .bf16} {x6 : Vec Ideal S2816x1024 .bf16} {x7 : Vec Ideal S1024x1024 .bf16} {x8 : Vec Ideal S1x1024 .f32} {x9 : Vec Ideal S256x1024 .f32} {xo17 : Vec Ideal S8x1024 .f32} {xs0 : Vec Ideal S1024x1024 .f32}

theorem r_is (H : Blocks D b x0 x1 x2 x3 x4 x5 x6 x7 x8 x9) : Is2 (kernelRun0_B.sl.r (F := Ideal) c arg1 harg1 x0) (fun r j => D.x1 (b + r) j) :=
  x1_is (H.h0.load0 harg1 _)
theorem r_1_is (H : Blocks D b x0 x1 x2 x3 x4 x5 x6 x7 x8 x9) : Is2 (kernelRun0_B.sl.r_1 (F := Ideal) c arg1 harg1 arg4 harg4 arg5 harg5 arg6 harg6 x0 x3 x4 x5) (fun r j => D.gate (b + r) j) :=
  gate_is (H.h0.load0 harg1 _) (H.h4.load0 harg5 _) (H.h3.load harg4 4 _) (H.h3.load harg4 3 _) (H.h5.load0b harg6 _)
theorem r_2_is (H : Blocks D b x0 x1 x2 x3 x4 x5 x6 x7 x8 x9) : Is2 (kernelRun0_B.sl.r_2 (F := Ideal) c arg1 harg1 arg4 harg4 arg5 harg5 arg6 harg6 x0 x3 x4 x5) (fun r j => D.up (b + r) j) :=
  up_is (H.h0.load0 harg1 _) (H.h4.load0 harg5 _) (H.h3.load harg4 4 _) (H.h3.load harg4 3 _) (H.h5.loadb harg6 2816 _)
theorem r_3_is (H : Blocks D b x0 x1 x2 x3 x4 x5 x6 x7 x8 x9) : Is2 (kernelRun0_B.sl.r_3 (F := Ideal) c arg1 harg1 arg4 harg4 arg5 harg5 arg6 harg6 x0 x3 x4 x5) (fun r f => D.up (b + r) f * (D.sg (b + r) f * (1 + D.gate (b + r) f * (1 - D.sg (b + r) f)))) :=
  dsilu_is (r_1_is H) (r_2_is H) lit_zero
theorem r_4_is (H : Blocks D b x0 x1 x2 x3 x4 x5 x6 x7 x8 x9) : Is2 (kernelRun0_B.sl.r_4 (F := Ideal) c arg1 harg1 arg4 harg4 arg5 harg5 arg6 harg6 x0 x3 x4 x5) (fun r f => D.gate (b + r) f * D.sg (b + r) f) :=
  silu_is (r_1_is H) lit_zero
theorem r_5_is (H : Blocks D b x0 x1 x2 x3 x4 x5 x6 x7 x8 x9) : Is2 (kernelRun0_B.sl.r_5 (F := Ideal) c arg1 harg1 arg4 harg4 arg5 harg5 arg6 harg6 arg7 harg7 x0 x3 x4 x5 x6) (fun r j => D.o2 (b + r) j) :=
  o2_is (r_1_is H) (r_2_is H) lit_zero (H.h6.load0b harg7 _)
theorem r_6_is (H : Blocks D b x0 x1 x2 x3 x4 x5 x6 x7 x8 x9) : Is2 (a := 1) (b := 1024) (kernelRun0_B.sl.r_6 (F := Ideal) c arg4 harg4 x3) (fun r j => D.mod (5 + r) j) :=
  H.h3.load harg4 5 _
theorem r_7_is (H : Blocks D b x0 x1 x2 x3 x4 x5 x6 x7 x8 x9) : Is2 (kernelRun0_B.sl.r_7 (F := Ideal) c arg1 harg1 arg4 harg4 arg5 harg5 arg6 harg6 arg7 harg7 x0 x3 x4 x5 x6) (fun r _ => rs D.x2 (b + r)) :=
  r2_is (r_is H) (r_1_is H) (r_2_is H) lit_zero (H.h6.load0b harg7 _) (H.h3.load harg4 5 _)
theorem r_8_is (H : Blocks D b x0 x1 x2 x3 x4 x5 x6 x7 x8 x9) : Is2 (kernelRun0_B.sl.r_8 (F := Ideal) c arg1 harg1 arg4 harg4 arg5 harg5 arg6 harg6 arg7 harg7 x0 x3 x4 x5 x6) (fun r j => D.xn (b + r) j) :=
  xn_is (r_is H) (r_1_is H) (r_2_is H) lit_zero (H.h6.load0b harg7 _) (H.h3.load harg4 5 _)
theorem r_9_is (H : Blocks D b x0 x1 x2 x3 x4 x5 x6 x7 x8 x9) : Is2 (a := 1) (b := 1024) (kernelRun0_B.sl.r_9 (F := Ideal) c arg9 harg9 x8) D.gf :=
  H.h8.load0 harg9 _
theorem r_10_is (H : Blocks D b x0 x1 x2 x3 x4 x5 x6 x7 x8 x9) : Is2 (kernelRun0_B.sl.r_10 (F := Ideal) c arg1 harg1 arg4 harg4 arg5 harg5 arg6 harg6 arg7 harg7 arg9 harg9 x0 x3 x4 x5 x6 x8) (fun r j => D.xn (b + r) j * D.gf 0 j) :=
  y_is (r_is H) (r_1_is H) (r_2_is H) lit_zero (H.h6.load0b harg7 _) (H.h3.load harg4 5 _) (H.h8.load0 harg9 _)
theorem r_11_is (H : Blocks D b x0 x1 x2 x3 x4 x5 x6 x7 x8 x9) : Is2 (a := 256) (b := 1024) (kernelRun0_B.sl.r_11 (F := Ideal) c arg10 harg10 x9) (fun r j => D.tg (b + r) j) :=
  H.h9.load0 harg10 _
theorem r_12_is (H : Blocks D b x0 x1 x2 x3 x4 x5 x6 x7 x8 x9) : Is2 (kernelRun0_B.sl.r_12 (F := Ideal) c arg1 harg1 arg4 harg4 arg5 harg5 arg6 harg6 arg7 harg7 arg9 harg9 arg10 harg10 x0 x3 x4 x5 x6 x8 x9) (fun r j => D.dx2 (b + r) j) :=
  dx2_is (r_7_is H) (r_8_is H) (r_9_is H) (r_10_is H) (r_11_is H)
theorem r_13_is (H : Blocks D b x0 x1 x2 x3 x4 x5 x6 x7 x8 x9) : Is2 (kernelRun0_B.sl.r_13 (F := Ideal) c arg1 harg1 arg4 harg4 arg5 harg5 arg6 harg6 arg7 harg7 arg9 harg9 arg10 harg10 x0 x3 x4 x5 x6 x8 x9) (fun r j => D.do2 (b + r) j) :=
  do2_is (r_7_is H) (r_8_is H) (r_9_is H) (r_10_is H) (r_11_is H) (r_6_is H)
theorem r_14_is (H : Blocks D b x0 x1 x2 x3 x4 x5 x6 x7 x8 x9) : Is2 (kernelRun0_B.sl.r_14 (F := Ideal) c arg1 harg1 arg4 harg4 arg5 harg5 arg6 harg6 arg7 harg7 arg9 harg9 arg10 harg10 x0 x3 x4 x5 x6 x8 x9) (fun r j => D.dh (b + r) j) :=
  dh_is (r_3_is H) (r_4_is H) (r_13_is H) (H.h6.load0b harg7 _) (H.h5.load0b harg6 _) (H.h5.loadb harg6 2816 _)
theorem r_15_is (H : Blocks D b x0 x1 x2 x3 x4 x5 x6 x7 x8 x9) : Is2 (a := 1) (b := 1024) (kernelRun0_B.sl.r_15 (F := Ideal) c arg5 harg5 x4) D.gn :=
  H.h4.load0 harg5 _
theorem r_16_is (H : Blocks D b x0 x1 x2 x3 x4 x5 x6 x7 x8 x9) : Is2 (a := 1) (b := 1024) (kernelRun0_B.sl.r_16 (F := Ideal) c arg4 harg4 x3) (fun r j => D.mod (4 + r) j) :=
  H.h3.load harg4 4 _
theorem r_17_is (H : Blocks D b x0 x1 x2 x3 x4 x5 x6 x7 x8 x9) : Is2 (kernelRun0_B.sl.r_17 (F := Ideal) c arg1 harg1 x0) (fun r _ => rs D.x1 (b + r)) :=
  r1_is (r_is H)
theorem r_18_is (H : Blocks D b x0 x1 x2 x3 x4 x5 x6 x7 x8 x9) : Is2 (kernelRun0_B.sl.r_18 (F := Ideal) c arg1 harg1 x0) (fun r j => D.n1 (b + r) j) :=
  n1_is (r_is H)
theorem r_20_is (H : Blocks D b x0 x1 x2 x3 x4 x5 x6 x7 x8 x9) : Is2 (kernelRun0_B.sl.r_20 (F := Ideal) c arg1 harg1 arg4 harg4 arg5 harg5 arg6 harg6 arg7 harg7 arg9 harg9 arg10 harg10 x0 x3 x4 x5 x6 x8 x9) (fun r j => D.dx1 (b + r) j) :=
  dx1_is (r_12_is H) (r_14_is H) (r_15_is H) (r_16_is H) (r_17_is H) (r_18_is H)
/-! ## The outputs of this block alone -/
theorem h2_out (H : Blocks D b x0 x1 x2 x3 x4 x5 x6 x7 x8 x9) :
    Is2 (out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xo17 xs0)
      (fun r j => D.h2 (b + r) j) := by
  unfold out0_B_10 kernelRun0_B
  exact Is2.storeAllb _ _ _ (h2_is (H.h0.load0 harg1 _) (H.h4.load0 harg5 _) (H.h3.load harg4 4 _) (H.h3.load harg4 3 _))
theorem act_out (H : Blocks D b x0 x1 x2 x3 x4 x5 x6 x7 x8 x9) :
    Is2 (out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xo17 xs0)
      (fun r j => D.act (b + r) j) := by
  unfold out0_B_11 kernelRun0_B
  exact Is2.storeAllb _ _ _ (act_is (r_1_is H) (r_2_is H) lit_zero)
theorem do2_out (H : Blocks D b x0 x1 x2 x3 x4 x5 x6 x7 x8 x9) :
    Is2 (out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xo17 xs0)
      (fun r j => D.do2 (b + r) j) := by
  unfold out0_B_12 kernelRun0_B
  exact Is2.storeAllb _ _ _ (r_13_is H)
theorem dgu_out (H : Blocks D b x0 x1 x2 x3 x4 x5 x6 x7 x8 x9) :
    Is2 (out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xo17 xs0)
      (fun r j => D.dgu (b + r) j) := by
  unfold out0_B_13 kernelRun0_B
  exact Is2.storeTwo _ _ rfl _ _ (dgate_is (r_3_is H) (r_13_is H) (H.h6.load0b harg7 _)) (dup_is (r_4_is H) (r_13_is H) (H.h6.load0b harg7 _))
theorem dx1_out (H : Blocks D b x0 x1 x2 x3 x4 x5 x6 x7 x8 x9) :
    Is2 (out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xo17 xs0)
      (fun r j => D.dx1 (b + r) j) := by
  unfold out0_B_14 kernelRun0_B
  exact Is2.storeAllb _ _ _ (dx1b_is (r_12_is H) (r_14_is H) (r_15_is H) (r_16_is H) (r_17_is H) (r_18_is H))
theorem dmg_out (H : Blocks D b x0 x1 x2 x3 x4 x5 x6 x7 x8 x9) :
    Is2 (out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xo17 xs0)
      (fun r j => D.dmg (b + r) j) := by
  unfold out0_B_16 kernelRun0_B
  exact Is2.storeAllb _ _ _ (dmg_is (r_20_is H) (H.h3.load harg4 2 _) (H.h7.load0b harg8 _))
/-! ## The weight gradient gathered so far -/
theorem dwo_out (H : Blocks D b x0 x1 x2 x3 x4 x5 x6 x7 x8 x9) (Hw : Is2 xs0 (D.dwo b)) :
    Is2 (out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xo17 xs0)
      (D.dwo (b + 256)) := by
  unfold out0_B_15 kernelRun0_B
  exact (Is2.storeAllb _ _ _ (dwob_is (r_20_is H) (H.h3.load harg4 2 _) (Hw.load0 harg19 _) (H.h2.load0b harg3 _))).congr fun i j _ _ => by rw [D.dwo_add]
theorem dwo_acc (H : Blocks D b x0 x1 x2 x3 x4 x5 x6 x7 x8 x9) (Hw : Is2 xs0 (D.dwo b)) :
    Is2 (sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xo17 xs0)
      (D.dwo (b + 256)) := by
  unfold sout0_B_0 kernelRun0_B
  exact (Is2.storeAll _ _ _ (dwos_is (r_20_is H) (H.h3.load harg4 2 _) (Hw.load0 harg19 _) (H.h2.load0b harg3 _))).congr fun i j _ _ => by rw [D.dwo_add]
/-! ## The small rows gathered so far -/
theorem row_read (Hr : Is2 xo17 (D.rows b)) (q : ℕ) (hq : ∀ a, (![q, 0] : Fin 2 → ℕ) a + (![1, 1024] : Fin 2 → ℕ) a ≤ (⟨2, ![8, 1024]⟩ : Shape).size a) :
    Is2 (a := 1) (b := 1024) (View.readAt (Elt Ideal) arg18.view (Rect.unit (s := ⟨2, ![8, 1024]⟩) ![q, 0] ![1, 1024] hq).toLoadRect (harg18.unread xo17)) (fun _ j => D.rows b q j) := by
  refine Is2.congr (Hr.load harg18 q hq) fun i j hi _ => ?_
  obtain rfl : i = 0 := by omega
  rfl
theorem base_is (Hr : Is2 xo17 (D.rows b)) : Is2 (arg18.view.read (Elt Ideal) (arg18.view.writes (Elt Ideal) (harg18.unread xo17) [])) (D.rows b) := by
  rw [View.writes_nil, harg18.read_unread]; exact Hr
theorem small_out (H : Blocks D b x0 x1 x2 x3 x4 x5 x6 x7 x8 x9) (Hr : Is2 xo17 (D.rows b)) :
    Is2 (out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xo17 xs0)
      (D.rows (b + 256)) := by
  unfold out0_B_17 kernelRun0_B
  exact (Is2.storeRow arg18.view (harg18.unread xo17) (Is2.storeRow arg18.view (harg18.unread xo17) (Is2.storeRow arg18.view (harg18.unread xo17) (Is2.storeRow arg18.view (harg18.unread xo17) (Is2.storeRow arg18.view (harg18.unread xo17) (Is2.storeRow arg18.view (harg18.unread xo17) (Is2.storeRow arg18.view (harg18.unread xo17) (base_is (harg18 := harg18) Hr) 4 _ (row4_is (r_8_is H) (r_10_is H) (r_11_is H)
    (row_read (harg18 := harg18) Hr 4 _))) 5 _ (row5_is (r_10_is H) (r_11_is H)
    (row_read (harg18 := harg18) Hr 5 _))) 3 _ (row3_is (r_5_is H) (r_7_is H) (r_8_is H) (r_9_is H) (r_10_is H) (r_11_is H)
    (row_read (harg18 := harg18) Hr 3 _))) 0 _ (row0_is (r_14_is H)
    (cast_is (row_read (harg18 := harg18) Hr 0 _)))) 1 _ (row1_is (r_14_is H) (r_15_is H) (r_18_is H)
    (row_read (harg18 := harg18) Hr 1 _))) 2 _ (row2_is (r_14_is H) (r_16_is H) (r_18_is H)
    (row_read (harg18 := harg18) Hr 2 _))) 7 _ (row7_is (r_20_is H) (H.h1.load0b harg2 _)
    (row_read (harg18 := harg18) Hr 7 _))).congr fun p j hp _ => rows_step b p j hp
end Cert.KernelIdeal.CaseB
end
-- ==== Proof.CaseC.lean ====
/-
What the body leaves in its buffers at a last grid point, over the reals.
-/
module
public import proofs.«01_k».proof.Proof.Block
public import proofs.«01_k».proof.Proof.Loads
public import proofs.«01_k».proof.Proof.Gen.KernelIdeal.Frame
@[expose] public section
noncomputable section
open Idealize.ShloMosaic Idealize.ShloMosaic.TcCoe
open scoped BigOperators

namespace Cert.KernelIdeal.CaseC
open Cert.KernelIdeal Cert.KernelIdeal.Gen Cert.Reals Cert.Spec Cert.KernelIdeal.Block
variable {D : Data} {b : ℕ} {c : Dev nD} {i : grid0.Coords} {arg1 : Memref sig .tc .vmem S256x1024 .f32} {harg1 : arg1.IsWhole} {arg2 : Memref sig .tc .vmem S256x1024 .bf16} {harg2 : arg2.IsWhole} {arg3 : Memref sig .tc .vmem S256x1024 .bf16} {harg3 : arg3.IsWhole} {arg4 : Memref sig .tc .vmem S8x1024 .f32} {harg4 : arg4.IsWhole} {arg5 : Memref sig .tc .vmem S1x1024 .f32} {harg5 : arg5.IsWhole} {arg6 : Memref sig .tc .vmem S5632x1024 .bf16} {harg6 : arg6.IsWhole} {arg7 : Memref sig .tc .vmem S2816x1024 .bf16} {harg7 : arg7.IsWhole} {arg8 : Memref sig .tc .vmem S1024x1024 .bf16} {harg8 : arg8.IsWhole} {arg9 : Memref sig .tc .vmem S1x1024 .f32} {harg9 : arg9.IsWhole} {arg10 : Memref sig .tc .vmem S256x1024 .f32} {harg10 : arg10.IsWhole} {arg11 : Memref sig .tc .vmem S256x1024 .bf16} {harg11 : arg11.IsWhole} {arg12 : Memref sig .tc .vmem S256x2816 .bf16} {harg12 : arg12.IsWhole} {arg13 : Memref sig .tc .vmem S256x1024 .bf16} {harg13 : arg13.IsWhole} {arg14 : Memref sig .tc .vmem S256x5632 .bf16} {harg14 : arg14.IsWhole} {arg15 : Memref sig .tc .vmem S256x1024 .bf16} {harg15 : arg15.IsWhole} {arg16 : Memref sig .tc .vmem S1024x1024 .bf16} {harg16 : arg16.IsWhole} {arg17 : Memref sig .tc .vmem S256x1024 .bf16} {harg17 : arg17.IsWhole} {arg18 : Memref sig .tc .vmem S8x1024 .f32} {harg18 : arg18.IsWhole} {arg19 : Memref sig .tc .vmem S1024x1024 .f32} {harg19 : arg19.IsWhole} {hc0 : ¬cond0_0 i} {hc1 : cond0_1 i} {x0 : Vec Ideal S256x1024 .f32} {x1 : Vec Ideal S256x1024 .bf16} {x2 : Vec Ideal S256x1024 .bf16} {x3 : Vec Ideal S8x1024 .f32} {x4 : Vec Ideal S1x1024 .f32} {x5 : Vec Ideal S5632x1024 .bf16} {x6 : Vec Ideal S2816x1024 .bf16} {x7 : Vec Ideal S1024x1024 .bf16} {x8 : Vec Ideal S1x1024 .f32} {x9 : Vec Ideal S256x1024 .f32} {xo17 : Vec Ideal S8x1024 .f32} {xs0 : Vec Ideal S1024x1024 .f32}

theorem r_is (H : Blocks D b x0 x1 x2 x3 x4 x5 x6 x7 x8 x9) : Is2 (kernelRun0_C.sl.r (F := Ideal) c arg1 harg1 x0) (fun r j => D.x1 (b + r) j) :=
  x1_is (H.h0.load0 harg1 _)
theorem r_1_is (H : Blocks D b x0 x1 x2 x3 x4 x5 x6 x7 x8 x9) : Is2 (kernelRun0_C.sl.r_1 (F := Ideal) c arg1 harg1 arg4 harg4 arg5 harg5 arg6 harg6 x0 x3 x4 x5) (fun r j => D.gate (b + r) j) :=
  gate_is (H.h0.load0 harg1 _) (H.h4.load0 harg5 _) (H.h3.load harg4 4 _) (H.h3.load harg4 3 _) (H.h5.load0b harg6 _)
theorem r_2_is (H : Blocks D b x0 x1 x2 x3 x4 x5 x6 x7 x8 x9) : Is2 (kernelRun0_C.sl.r_2 (F := Ideal) c arg1 harg1 arg4 harg4 arg5 harg5 arg6 harg6 x0 x3 x4 x5) (fun r j => D.up (b + r) j) :=
  up_is (H.h0.load0 harg1 _) (H.h4.load0 harg5 _) (H.h3.load harg4 4 _) (H.h3.load harg4 3 _) (H.h5.loadb harg6 2816 _)
theorem r_3_is (H : Blocks D b x0 x1 x2 x3 x4 x5 x6 x7 x8 x9) : Is2 (kernelRun0_C.sl.r_3 (F := Ideal) c arg1 harg1 arg4 harg4 arg5 harg5 arg6 harg6 x0 x3 x4 x5) (fun r f => D.up (b + r) f * (D.sg (b + r) f * (1 + D.gate (b + r) f * (1 - D.sg (b + r) f)))) :=
  dsilu_is (r_1_is H) (r_2_is H) lit_zero
theorem r_4_is (H : Blocks D b x0 x1 x2 x3 x4 x5 x6 x7 x8 x9) : Is2 (kernelRun0_C.sl.r_4 (F := Ideal) c arg1 harg1 arg4 harg4 arg5 harg5 arg6 harg6 x0 x3 x4 x5) (fun r f => D.gate (b + r) f * D.sg (b + r) f) :=
  silu_is (r_1_is H) lit_zero
theorem r_5_is (H : Blocks D b x0 x1 x2 x3 x4 x5 x6 x7 x8 x9) : Is2 (kernelRun0_C.sl.r_5 (F := Ideal) c arg1 harg1 arg4 harg4 arg5 harg5 arg6 harg6 arg7 harg7 x0 x3 x4 x5 x6) (fun r j => D.o2 (b + r) j) :=
  o2_is (r_1_is H) (r_2_is H) lit_zero (H.h6.load0b harg7 _)
theorem r_6_is (H : Blocks D b x0 x1 x2 x3 x4 x5 x6 x7 x8 x9) : Is2 (a := 1) (b := 1024) (kernelRun0_C.sl.r_6 (F := Ideal) c arg4 harg4 x3) (fun r j => D.mod (5 + r) j) :=
  H.h3.load harg4 5 _
theorem r_7_is (H : Blocks D b x0 x1 x2 x3 x4 x5 x6 x7 x8 x9) : Is2 (kernelRun0_C.sl.r_7 (F := Ideal) c arg1 harg1 arg4 harg4 arg5 harg5 arg6 harg6 arg7 harg7 x0 x3 x4 x5 x6) (fun r _ => rs D.x2 (b + r)) :=
  r2_is (r_is H) (r_1_is H) (r_2_is H) lit_zero (H.h6.load0b harg7 _) (H.h3.load harg4 5 _)
theorem r_8_is (H : Blocks D b x0 x1 x2 x3 x4 x5 x6 x7 x8 x9) : Is2 (kernelRun0_C.sl.r_8 (F := Ideal) c arg1 harg1 arg4 harg4 arg5 harg5 arg6 harg6 arg7 harg7 x0 x3 x4 x5 x6) (fun r j => D.xn (b + r) j) :=
  xn_is (r_is H) (r_1_is H) (r_2_is H) lit_zero (H.h6.load0b harg7 _) (H.h3.load harg4 5 _)
theorem r_9_is (H : Blocks D b x0 x1 x2 x3 x4 x5 x6 x7 x8 x9) : Is2 (a := 1) (b := 1024) (kernelRun0_C.sl.r_9 (F := Ideal) c arg9 harg9 x8) D.gf :=
  H.h8.load0 harg9 _
theorem r_10_is (H : Blocks D b x0 x1 x2 x3 x4 x5 x6 x7 x8 x9) : Is2 (kernelRun0_C.sl.r_10 (F := Ideal) c arg1 harg1 arg4 harg4 arg5 harg5 arg6 harg6 arg7 harg7 arg9 harg9 x0 x3 x4 x5 x6 x8) (fun r j => D.xn (b + r) j * D.gf 0 j) :=
  y_is (r_is H) (r_1_is H) (r_2_is H) lit_zero (H.h6.load0b harg7 _) (H.h3.load harg4 5 _) (H.h8.load0 harg9 _)
theorem r_11_is (H : Blocks D b x0 x1 x2 x3 x4 x5 x6 x7 x8 x9) : Is2 (a := 256) (b := 1024) (kernelRun0_C.sl.r_11 (F := Ideal) c arg10 harg10 x9) (fun r j => D.tg (b + r) j) :=
  H.h9.load0 harg10 _
theorem r_12_is (H : Blocks D b x0 x1 x2 x3 x4 x5 x6 x7 x8 x9) : Is2 (kernelRun0_C.sl.r_12 (F := Ideal) c arg1 harg1 arg4 harg4 arg5 harg5 arg6 harg6 arg7 harg7 arg9 harg9 arg10 harg10 x0 x3 x4 x5 x6 x8 x9) (fun r j => D.dx2 (b + r) j) :=
  dx2_is (r_7_is H) (r_8_is H) (r_9_is H) (r_10_is H) (r_11_is H)
theorem r_13_is (H : Blocks D b x0 x1 x2 x3 x4 x5 x6 x7 x8 x9) : Is2 (kernelRun0_C.sl.r_13 (F := Ideal) c arg1 harg1 arg4 harg4 arg5 harg5 arg6 harg6 arg7 harg7 arg9 harg9 arg10 harg10 x0 x3 x4 x5 x6 x8 x9) (fun r j => D.do2 (b + r) j) :=
  do2_is (r_7_is H) (r_8_is H) (r_9_is H) (r_10_is H) (r_11_is H) (r_6_is H)
theorem r_14_is (H : Blocks D b x0 x1 x2 x3 x4 x5 x6 x7 x8 x9) : Is2 (kernelRun0_C.sl.r_14 (F := Ideal) c arg1 harg1 arg4 harg4 arg5 harg5 arg6 harg6 arg7 harg7 arg9 harg9 arg10 harg10 x0 x3 x4 x5 x6 x8 x9) (fun r j => D.dh (b + r) j) :=
  dh_is (r_3_is H) (r_4_is H) (r_13_is H) (H.h6.load0b harg7 _) (H.h5.load0b harg6 _) (H.h5.loadb harg6 2816 _)
theorem r_15_is (H : Blocks D b x0 x1 x2 x3 x4 x5 x6 x7 x8 x9) : Is2 (a := 1) (b := 1024) (kernelRun0_C.sl.r_15 (F := Ideal) c arg5 harg5 x4) D.gn :=
  H.h4.load0 harg5 _
theorem r_16_is (H : Blocks D b x0 x1 x2 x3 x4 x5 x6 x7 x8 x9) : Is2 (a := 1) (b := 1024) (kernelRun0_C.sl.r_16 (F := Ideal) c arg4 harg4 x3) (fun r j => D.mod (4 + r) j) :=
  H.h3.load harg4 4 _
theorem r_17_is (H : Blocks D b x0 x1 x2 x3 x4 x5 x6 x7 x8 x9) : Is2 (kernelRun0_C.sl.r_17 (F := Ideal) c arg1 harg1 x0) (fun r _ => rs D.x1 (b + r)) :=
  r1_is (r_is H)
theorem r_18_is (H : Blocks D b x0 x1 x2 x3 x4 x5 x6 x7 x8 x9) : Is2 (kernelRun0_C.sl.r_18 (F := Ideal) c arg1 harg1 x0) (fun r j => D.n1 (b + r) j) :=
  n1_is (r_is H)
theorem r_20_is (H : Blocks D b x0 x1 x2 x3 x4 x5 x6 x7 x8 x9) : Is2 (kernelRun0_C.sl.r_20 (F := Ideal) c arg1 harg1 arg4 harg4 arg5 harg5 arg6 harg6 arg7 harg7 arg9 harg9 arg10 harg10 x0 x3 x4 x5 x6 x8 x9) (fun r j => D.dx1 (b + r) j) :=
  dx1_is (r_12_is H) (r_14_is H) (r_15_is H) (r_16_is H) (r_17_is H) (r_18_is H)
/-! ## The outputs of this block alone -/
theorem h2_out (H : Blocks D b x0 x1 x2 x3 x4 x5 x6 x7 x8 x9) :
    Is2 (out0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xo17 xs0)
      (fun r j => D.h2 (b + r) j) := by
  unfold out0_C_10 kernelRun0_C
  exact Is2.storeAllb _ _ _ (h2_is (H.h0.load0 harg1 _) (H.h4.load0 harg5 _) (H.h3.load harg4 4 _) (H.h3.load harg4 3 _))
theorem act_out (H : Blocks D b x0 x1 x2 x3 x4 x5 x6 x7 x8 x9) :
    Is2 (out0_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xo17 xs0)
      (fun r j => D.act (b + r) j) := by
  unfold out0_C_11 kernelRun0_C
  exact Is2.storeAllb _ _ _ (act_is (r_1_is H) (r_2_is H) lit_zero)
theorem do2_out (H : Blocks D b x0 x1 x2 x3 x4 x5 x6 x7 x8 x9) :
    Is2 (out0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xo17 xs0)
      (fun r j => D.do2 (b + r) j) := by
  unfold out0_C_12 kernelRun0_C
  exact Is2.storeAllb _ _ _ (r_13_is H)
theorem dgu_out (H : Blocks D b x0 x1 x2 x3 x4 x5 x6 x7 x8 x9) :
    Is2 (out0_C_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xo17 xs0)
      (fun r j => D.dgu (b + r) j) := by
  unfold out0_C_13 kernelRun0_C
  exact Is2.storeTwo _ _ rfl _ _ (dgate_is (r_3_is H) (r_13_is H) (H.h6.load0b harg7 _)) (dup_is (r_4_is H) (r_13_is H) (H.h6.load0b harg7 _))
theorem dx1_out (H : Blocks D b x0 x1 x2 x3 x4 x5 x6 x7 x8 x9) :
    Is2 (out0_C_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xo17 xs0)
      (fun r j => D.dx1 (b + r) j) := by
  unfold out0_C_14 kernelRun0_C
  exact Is2.storeAllb _ _ _ (dx1b_is (r_12_is H) (r_14_is H) (r_15_is H) (r_16_is H) (r_17_is H) (r_18_is H))
theorem dmg_out (H : Blocks D b x0 x1 x2 x3 x4 x5 x6 x7 x8 x9) :
    Is2 (out0_C_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xo17 xs0)
      (fun r j => D.dmg (b + r) j) := by
  unfold out0_C_16 kernelRun0_C
  exact Is2.storeAllb _ _ _ (dmg_is (r_20_is H) (H.h3.load harg4 2 _) (H.h7.load0b harg8 _))
/-! ## The weight gradient gathered so far -/
theorem dwo_out (H : Blocks D b x0 x1 x2 x3 x4 x5 x6 x7 x8 x9) (Hw : Is2 xs0 (D.dwo b)) :
    Is2 (out0_C_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xo17 xs0)
      (D.dwo (b + 256)) := by
  unfold out0_C_15 kernelRun0_C
  exact (Is2.storeAllb _ _ _ (dwob_is (r_20_is H) (H.h3.load harg4 2 _) (Hw.load0 harg19 _) (H.h2.load0b harg3 _))).congr fun i j _ _ => by rw [D.dwo_add]
theorem dwo_acc (H : Blocks D b x0 x1 x2 x3 x4 x5 x6 x7 x8 x9) (Hw : Is2 xs0 (D.dwo b)) :
    Is2 (sout0_C_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xo17 xs0)
      (D.dwo (b + 256)) := by
  unfold sout0_C_0 kernelRun0_C
  exact (Is2.storeAll _ _ _ (dwos_is (r_20_is H) (H.h3.load harg4 2 _) (Hw.load0 harg19 _) (H.h2.load0b harg3 _))).congr fun i j _ _ => by rw [D.dwo_add]
/-! ## The small rows gathered so far -/
theorem row_read (Hr : Is2 xo17 (D.rows b)) (q : ℕ) (hq : ∀ a, (![q, 0] : Fin 2 → ℕ) a + (![1, 1024] : Fin 2 → ℕ) a ≤ (⟨2, ![8, 1024]⟩ : Shape).size a) :
    Is2 (a := 1) (b := 1024) (View.readAt (Elt Ideal) arg18.view (Rect.unit (s := ⟨2, ![8, 1024]⟩) ![q, 0] ![1, 1024] hq).toLoadRect (harg18.unread xo17)) (fun _ j => D.rows b q j) := by
  refine Is2.congr (Hr.load harg18 q hq) fun i j hi _ => ?_
  obtain rfl : i = 0 := by omega
  rfl
theorem base_is (Hr : Is2 xo17 (D.rows b)) : Is2 (arg18.view.read (Elt Ideal) (arg18.view.writes (Elt Ideal) (harg18.unread xo17) [])) (D.rows b) := by
  rw [View.writes_nil, harg18.read_unread]; exact Hr
theorem v215_is (H : Blocks D b x0 x1 x2 x3 x4 x5 x6 x7 x8 x9) (Hr : Is2 xo17 (D.rows b)) : Is2 (a := 1) (b := 1024) (kernelRun0_C.sl.v215 (F := Ideal) c arg1 harg1 arg2 harg2 arg4 harg4 arg5 harg5 arg6 harg6 arg7 harg7 arg9 harg9 arg10 harg10 arg18 harg18 x0 x1 x3 x4 x5 x6 x8 x9 xo17) (fun _ j => D.rows (b + 256) 5 j) := by
  refine Is2.congr (RowIs.readBack arg18.view ((((((RowIs.hit arg18.view _ 5 _ (row5_is (r_10_is H) (r_11_is H) (row_read (harg18 := harg18) Hr 5 _))).miss arg18.view _ 3 _ (by decide) _).miss arg18.view _ 0 _ (by decide) _).miss arg18.view _ 1 _ (by decide) _).miss arg18.view _ 2 _ (by decide) _).miss arg18.view _ 7 _ (by decide) _) _) ?_
  intro p j _ _
  rw [D.rows_add]
theorem small_out (H : Blocks D b x0 x1 x2 x3 x4 x5 x6 x7 x8 x9) (Hr : Is2 xo17 (D.rows b)) :
    Is2 (out0_C_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xo17 xs0)
      (fun p j => if p = 6 then (∑ j ∈ Finset.range 1024, D.rows (b + 256) 5 j) * (1 / 2048) else D.rows (b + 256) p j) := by
  unfold out0_C_17
  rw [View.read_writes_eq_canon _ _ _ (cover0_C_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xo17 xs0),
    ← View.read_writes_eq_canon arg18.view (harg18.unread xo17) _ (cover0_C_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 xo17 xs0)]
  unfold kernelRun0_C
  exact (Is2.storeRow arg18.view _ (Is2.storeRow arg18.view (harg18.unread xo17) (Is2.storeRow arg18.view (harg18.unread xo17) (Is2.storeRow arg18.view (harg18.unread xo17) (Is2.storeRow arg18.view (harg18.unread xo17) (Is2.storeRow arg18.view (harg18.unread xo17) (Is2.storeRow arg18.view (harg18.unread xo17) (Is2.storeRow arg18.view (harg18.unread xo17) (base_is (harg18 := harg18) Hr) 4 _ (row4_is (r_8_is H) (r_10_is H) (r_11_is H)
    (row_read (harg18 := harg18) Hr 4 _))) 5 _ (row5_is (r_10_is H) (r_11_is H)
    (row_read (harg18 := harg18) Hr 5 _))) 3 _ (row3_is (r_5_is H) (r_7_is H) (r_8_is H) (r_9_is H) (r_10_is H) (r_11_is H)
    (row_read (harg18 := harg18) Hr 3 _))) 0 _ (row0_is (r_14_is H)
    (cast_is (row_read (harg18 := harg18) Hr 0 _)))) 1 _ (row1_is (r_14_is H) (r_15_is H) (r_18_is H)
    (row_read (harg18 := harg18) Hr 1 _))) 2 _ (row2_is (r_14_is H) (r_16_is H) (r_18_is H)
    (row_read (harg18 := harg18) Hr 2 _))) 7 _ (row7_is (r_20_is H) (H.h1.load0b harg2 _)
    (row_read (harg18 := harg18) Hr 7 _))) 6 _ (loss_is (v215_is H Hr))).congr fun p j hp _ => by
    beta_reduce
    by_cases h : p = 6
    · rw [if_pos h, if_pos h]
    · rw [if_neg h, if_neg h]; exact rows_step b p j hp
end Cert.KernelIdeal.CaseC
end
-- ==== Proof.Arrays.lean ====
/-
The call's outputs after each point, and the arrays at the end.
-/
module
public import proofs.«01_k».proof.Proof.Inputs
public import proofs.«01_k».proof.Proof.CaseA
public import proofs.«01_k».proof.Proof.CaseB
public import proofs.«01_k».proof.Proof.CaseC
@[expose] public section
noncomputable section
open Idealize.ShloMosaic Idealize.ShloMosaic.TcCoe
open scoped BigOperators

namespace Cert.KernelIdeal.Arrays
open Cert.KernelIdeal Cert.KernelIdeal.Gen Cert.KernelIdeal.Value Cert.KernelIdeal.Inputs Cert.Reals Cert.Spec
variable {m : (ℓ : Loc nD τ sig) → Buf (Elt Ideal) ℓ} {c : Dev nD}

/-- What the outputs and the carried sum hold once `n + 1` blocks are done. -/
structure Holds (D : Data) (n : ℕ) (s : Vec Ideal S256x1024 .bf16 × Vec Ideal S256x2816 .bf16 × Vec Ideal S256x1024 .bf16 × Vec Ideal S256x5632 .bf16 × Vec Ideal S256x1024 .bf16 × Vec Ideal S1024x1024 .bf16 × Vec Ideal S256x1024 .bf16 × Vec Ideal S8x1024 .f32 × Vec Ideal S1024x1024 .f32) : Prop where
  h2 : Is2 s.1 (fun r j => D.h2 (256 * n + r) j)
  act : Is2 s.2.1 (fun r j => D.act (256 * n + r) j)
  do2 : Is2 s.2.2.1 (fun r j => D.do2 (256 * n + r) j)
  dgu : Is2 s.2.2.2.1 (fun r j => D.dgu (256 * n + r) j)
  dx1 : Is2 s.2.2.2.2.1 (fun r j => D.dx1 (256 * n + r) j)
  dwo : Is2 s.2.2.2.2.2.1 (D.dwo (256 * n + 256))
  dmg : Is2 s.2.2.2.2.2.2.1 (fun r j => D.dmg (256 * n + r) j)
  small : Is2 s.2.2.2.2.2.2.2.1 (if n < 15 then D.rows (256 * n + 256) else D.small)
  acc : Is2 s.2.2.2.2.2.2.2.2 (D.dwo (256 * n + 256))

/-- The nine together. -/
theorem Holds.mk' {D : Data} {n b : ℕ} (hb : b = 256 * n) {s0 s2 s4 s6 : Vec Ideal S256x1024 .bf16} {s1 : Vec Ideal S256x2816 .bf16} {s3 : Vec Ideal S256x5632 .bf16}
    {s5 : Vec Ideal S1024x1024 .bf16} {s7 : Vec Ideal S8x1024 .f32} {s8 : Vec Ideal S1024x1024 .f32} {e : ℕ} (he : e = b + 256) {w : ℕ → ℕ → ℝ}
    (h0 : Is2 s0 (fun r j => D.h2 (b + r) j)) (h1 : Is2 s1 (fun r j => D.act (b + r) j)) (h2 : Is2 s2 (fun r j => D.do2 (b + r) j))
    (h3 : Is2 s3 (fun r j => D.dgu (b + r) j)) (h4 : Is2 s4 (fun r j => D.dx1 (b + r) j)) (h5 : Is2 s5 (D.dwo e)) (h6 : Is2 s6 (fun r j => D.dmg (b + r) j))
    (h7 : Is2 s7 w) (h8 : Is2 s8 (D.dwo e)) (hw : ∀ p j, w p j = (if n < 15 then D.rows e else D.small) p j) : Holds D n (s0, s1, s2, s3, s4, s5, s6, s7, s8) := by
  subst hb he
  exact ⟨h0, h1, h2, h3, h4, h5, h6, h7.congr fun p j _ _ => hw p j, h8⟩

variable (h : Args m c)
include h

/-- The first point. -/
theorem holds_first (hN : 0 < cfg0.N) : Holds (data m c) 0 (stAt0 m c 0 hN junk0) := by
  have H := blocks h ⟨0, hN⟩ (b := 0) rfl
  have e := stAt0_A m c ⟨0, hN⟩ junk0 (Nat.zero_mod _) (by show ¬ 0 % 16 = 15; decide)
  refine e ▸ ?_
  exact Holds.mk' rfl rfl (CaseA.h2_out H) (CaseA.act_out H) (CaseA.do2_out H) (CaseA.dgu_out H) (CaseA.dx1_out H) (CaseA.dwo_out H) (CaseA.dmg_out H)
    (CaseA.small_out H) (CaseA.dwo_acc H) (fun p j => by rw [if_pos (show 0 < 15 by decide)])

/-- A point between. -/
theorem holds_mid (n : ℕ) (hN : n < cfg0.N) (h0 : 0 < n) (h15 : n < 15) {s : Vec Ideal S256x1024 .bf16 × Vec Ideal S256x2816 .bf16 × Vec Ideal S256x1024 .bf16 × Vec Ideal S256x5632 .bf16 × Vec Ideal S256x1024 .bf16 × Vec Ideal S1024x1024 .bf16 × Vec Ideal S256x1024 .bf16 × Vec Ideal S8x1024 .f32 × Vec Ideal S1024x1024 .f32}
    (hw : Is2 s.2.2.2.2.2.2.2.2 ((data m c).dwo (256 * n))) (hr : Is2 s.2.2.2.2.2.2.2.1 ((data m c).rows (256 * n))) :
    Holds (data m c) n (stAt0 m c n hN s) := by
  have H := blocks h ⟨n, hN⟩ rfl
  have e := stAt0_B m c ⟨n, hN⟩ s (by show ¬ n % 16 = 0; omega) (by show ¬ n % 16 = 15; omega)
  refine e ▸ ?_
  exact Holds.mk' rfl rfl (CaseB.h2_out H) (CaseB.act_out H) (CaseB.do2_out H) (CaseB.dgu_out H) (CaseB.dx1_out H) (CaseB.dwo_out H hw) (CaseB.dmg_out H)
    (CaseB.small_out H hr) (CaseB.dwo_acc H hw) (fun p j => by rw [if_pos h15])

/-- The last point. -/
theorem holds_last (n : ℕ) (hN : n < cfg0.N) (h15 : n = 15) {s : Vec Ideal S256x1024 .bf16 × Vec Ideal S256x2816 .bf16 × Vec Ideal S256x1024 .bf16 × Vec Ideal S256x5632 .bf16 × Vec Ideal S256x1024 .bf16 × Vec Ideal S1024x1024 .bf16 × Vec Ideal S256x1024 .bf16 × Vec Ideal S8x1024 .f32 × Vec Ideal S1024x1024 .f32}
    (hw : Is2 s.2.2.2.2.2.2.2.2 ((data m c).dwo (256 * n))) (hr : Is2 s.2.2.2.2.2.2.2.1 ((data m c).rows (256 * n))) :
    Holds (data m c) n (stAt0 m c n hN s) := by
  have H := blocks h ⟨n, hN⟩ rfl
  have e := stAt0_C m c ⟨n, hN⟩ s (by show ¬ n % 16 = 0; omega) (by show n % 16 = 15; omega)
  refine e ▸ ?_
  exact Holds.mk' rfl rfl (CaseC.h2_out H) (CaseC.act_out H) (CaseC.do2_out H) (CaseC.dgu_out H) (CaseC.dx1_out H) (CaseC.dwo_out H hw) (CaseC.dmg_out H)
    (CaseC.small_out H hr) (CaseC.dwo_acc H hw) (fun p j => by
      subst h15
      rw [if_neg (show ¬ 15 < 15 by decide)]; rfl)

/-- A later point, from the point before. -/
theorem holds_next (n : ℕ) (hN : n + 1 < cfg0.N) {s : Vec Ideal S256x1024 .bf16 × Vec Ideal S256x2816 .bf16 × Vec Ideal S256x1024 .bf16 × Vec Ideal S256x5632 .bf16 × Vec Ideal S256x1024 .bf16 × Vec Ideal S1024x1024 .bf16 × Vec Ideal S256x1024 .bf16 × Vec Ideal S8x1024 .f32 × Vec Ideal S1024x1024 .f32}
    (hs : Holds (data m c) n s) : Holds (data m c) (n + 1) (stAt0 m c (n + 1) hN s) := by
  have h16 : n + 1 < 16 := lt_of_lt_of_eq hN N_0
  have hw : Is2 s.2.2.2.2.2.2.2.2 ((data m c).dwo (256 * (n + 1))) := hs.acc
  have hr : Is2 s.2.2.2.2.2.2.2.1 ((data m c).rows (256 * (n + 1))) := by
    have := hs.small
    rwa [if_pos (by omega)] at this
  by_cases hl : n + 1 = 15
  · exact holds_last h (n + 1) hN hl hw hr
  · exact holds_mid h (n + 1) hN (by omega) (by omega) hw hr

/-- Every point. -/
theorem holds (j : ℕ) : ∀ hj : 0 + j < cfg0.N,
    Holds (data m c) j (Pipeline.accAt (fun n h => stAt0 m c n h junk0) (stAt0 m c) 0 j hj) := by
  induction j with
  | zero => exact fun hj => holds_first h hj
  | succ n ih =>
    intro hj
    have e : 0 + (n + 1) = n + 1 := Nat.zero_add _
    have := holds_next h n (by omega) (ih (by omega))
    show Holds (data m c) (n + 1) (stAt0 m c (0 + (n + 1)) hj _)
    simpa only [Nat.zero_add] using this

/-- The array of output 0. -/
theorem g10 : Is2 (G10 m c : S4096x1024.Idx → EReal) (data m c).h2 := fun p j => by
  have hp : pt10Of (ValueIdx.ix2 p j) = p.val / 256 := by
    show 1 * (p.val / 256 - 0) + 1 * (j.val / 1024 - 0) = p.val / 256
    have := j.isLt; omega
  have hN : pt10Of (ValueIdx.ix2 p j) < cfg0.N := by
    rw [hp]; exact lt_of_lt_of_eq (by have := p.isLt; omega) N_0.symm
  have hl : loc10Of (ValueIdx.ix2 p j) = ValueIdx.ix2 (⟨p.val % 256, Nat.mod_lt _ (by decide)⟩ : Fin 256) j := by
    funext a; apply Fin.ext
    match a with
    | ⟨0, _⟩ => rfl
    | ⟨1, _⟩ => show j.val % 1024 = j.val; exact Nat.mod_eq_of_lt j.isLt
  unfold G10
  rw [dif_pos hN, hl]
  refine ((holds h _ _).h2 _ _).trans ?_
  rw [hp]
  show (((data m c).h2 (256 * (p.val / 256) + p.val % 256) j.val : ℝ) : EReal) = _
  rw [Nat.div_add_mod]
/-- The array of output 1. -/
theorem g11 : Is2 (G11 m c : S4096x2816.Idx → EReal) (data m c).act := fun p j => by
  have hp : pt11Of (ValueIdx.ix2 p j) = p.val / 256 := by
    show 1 * (p.val / 256 - 0) + 1 * (j.val / 2816 - 0) = p.val / 256
    have := j.isLt; omega
  have hN : pt11Of (ValueIdx.ix2 p j) < cfg0.N := by
    rw [hp]; exact lt_of_lt_of_eq (by have := p.isLt; omega) N_0.symm
  have hl : loc11Of (ValueIdx.ix2 p j) = ValueIdx.ix2 (⟨p.val % 256, Nat.mod_lt _ (by decide)⟩ : Fin 256) j := by
    funext a; apply Fin.ext
    match a with
    | ⟨0, _⟩ => rfl
    | ⟨1, _⟩ => show j.val % 2816 = j.val; exact Nat.mod_eq_of_lt j.isLt
  unfold G11
  rw [dif_pos hN, hl]
  refine ((holds h _ _).act _ _).trans ?_
  rw [hp]
  show (((data m c).act (256 * (p.val / 256) + p.val % 256) j.val : ℝ) : EReal) = _
  rw [Nat.div_add_mod]
/-- The array of output 2. -/
theorem g12 : Is2 (G12 m c : S4096x1024.Idx → EReal) (data m c).do2 := fun p j => by
  have hp : pt12Of (ValueIdx.ix2 p j) = p.val / 256 := by
    show 1 * (p.val / 256 - 0) + 1 * (j.val / 1024 - 0) = p.val / 256
    have := j.isLt; omega
  have hN : pt12Of (ValueIdx.ix2 p j) < cfg0.N := by
    rw [hp]; exact lt_of_lt_of_eq (by have := p.isLt; omega) N_0.symm
  have hl : loc12Of (ValueIdx.ix2 p j) = ValueIdx.ix2 (⟨p.val % 256, Nat.mod_lt _ (by decide)⟩ : Fin 256) j := by
    funext a; apply Fin.ext
    match a with
    | ⟨0, _⟩ => rfl
    | ⟨1, _⟩ => show j.val % 1024 = j.val; exact Nat.mod_eq_of_lt j.isLt
  unfold G12
  rw [dif_pos hN, hl]
  refine ((holds h _ _).do2 _ _).trans ?_
  rw [hp]
  show (((data m c).do2 (256 * (p.val / 256) + p.val % 256) j.val : ℝ) : EReal) = _
  rw [Nat.div_add_mod]
/-- The array of output 3. -/
theorem g13 : Is2 (G13 m c : S4096x5632.Idx → EReal) (data m c).dgu := fun p j => by
  have hp : pt13Of (ValueIdx.ix2 p j) = p.val / 256 := by
    show 1 * (p.val / 256 - 0) + 1 * (j.val / 5632 - 0) = p.val / 256
    have := j.isLt; omega
  have hN : pt13Of (ValueIdx.ix2 p j) < cfg0.N := by
    rw [hp]; exact lt_of_lt_of_eq (by have := p.isLt; omega) N_0.symm
  have hl : loc13Of (ValueIdx.ix2 p j) = ValueIdx.ix2 (⟨p.val % 256, Nat.mod_lt _ (by decide)⟩ : Fin 256) j := by
    funext a; apply Fin.ext
    match a with
    | ⟨0, _⟩ => rfl
    | ⟨1, _⟩ => show j.val % 5632 = j.val; exact Nat.mod_eq_of_lt j.isLt
  unfold G13
  rw [dif_pos hN, hl]
  refine ((holds h _ _).dgu _ _).trans ?_
  rw [hp]
  show (((data m c).dgu (256 * (p.val / 256) + p.val % 256) j.val : ℝ) : EReal) = _
  rw [Nat.div_add_mod]
/-- The array of output 4. -/
theorem g14 : Is2 (G14 m c : S4096x1024.Idx → EReal) (data m c).dx1 := fun p j => by
  have hp : pt14Of (ValueIdx.ix2 p j) = p.val / 256 := by
    show 1 * (p.val / 256 - 0) + 1 * (j.val / 1024 - 0) = p.val / 256
    have := j.isLt; omega
  have hN : pt14Of (ValueIdx.ix2 p j) < cfg0.N := by
    rw [hp]; exact lt_of_lt_of_eq (by have := p.isLt; omega) N_0.symm
  have hl : loc14Of (ValueIdx.ix2 p j) = ValueIdx.ix2 (⟨p.val % 256, Nat.mod_lt _ (by decide)⟩ : Fin 256) j := by
    funext a; apply Fin.ext
    match a with
    | ⟨0, _⟩ => rfl
    | ⟨1, _⟩ => show j.val % 1024 = j.val; exact Nat.mod_eq_of_lt j.isLt
  unfold G14
  rw [dif_pos hN, hl]
  refine ((holds h _ _).dx1 _ _).trans ?_
  rw [hp]
  show (((data m c).dx1 (256 * (p.val / 256) + p.val % 256) j.val : ℝ) : EReal) = _
  rw [Nat.div_add_mod]
/-- The array of output 6. -/
theorem g16 : Is2 (G16 m c : S4096x1024.Idx → EReal) (data m c).dmg := fun p j => by
  have hp : pt16Of (ValueIdx.ix2 p j) = p.val / 256 := by
    show 1 * (p.val / 256 - 0) + 1 * (j.val / 1024 - 0) = p.val / 256
    have := j.isLt; omega
  have hN : pt16Of (ValueIdx.ix2 p j) < cfg0.N := by
    rw [hp]; exact lt_of_lt_of_eq (by have := p.isLt; omega) N_0.symm
  have hl : loc16Of (ValueIdx.ix2 p j) = ValueIdx.ix2 (⟨p.val % 256, Nat.mod_lt _ (by decide)⟩ : Fin 256) j := by
    funext a; apply Fin.ext
    match a with
    | ⟨0, _⟩ => rfl
    | ⟨1, _⟩ => show j.val % 1024 = j.val; exact Nat.mod_eq_of_lt j.isLt
  unfold G16
  rw [dif_pos hN, hl]
  refine ((holds h _ _).dmg _ _).trans ?_
  rw [hp]
  show (((data m c).dmg (256 * (p.val / 256) + p.val % 256) j.val : ℝ) : EReal) = _
  rw [Nat.div_add_mod]
/-- The output projection's weight gradient. -/
theorem g15 : Is2 (G15 m c : S1024x1024.Idx → EReal) ((data m c).dwo 4096) := by
  rw [G15_last]; exact (holds h 15 _).dwo
/-- The eight small rows. -/
theorem g17 : Is2 (G17 m c : S8x1024.Idx → EReal) (data m c).small := by
  rw [G17_last]; exact (holds h 15 _).small
end Cert.KernelIdeal.Arrays
end
-- ==== Proof.Lines.lean ====
/-
What each line of the reference computes, over the reals.
-/
module
public import proofs.«01_k».proof.Proof.Finite
public import proofs.«01_k».proof.Proof.Spec
public import proofs.«01_k».proof.Proof.Gen.ReferenceIdeal.Read
@[expose] public section
noncomputable section
open Idealize.ShloMosaic
open scoped BigOperators

namespace Cert.ReferenceIdeal.Lines
open Cert.ReferenceIdeal Cert.ReferenceIdeal.Gen Cert.Reals Cert.Spec
open Cert.ReferenceIdeal.Read

/-! ## The three places where the reference orders its sums and products otherwise -/
/-- The normalisation's gradient as the chain rule writes it. -/
theorem nback_ref (f u : ℕ → ℕ → ℝ) (p j : ℕ) :
    u p j * rs f p + f p j * (∑ k ∈ Finset.range 1, (∑ q ∈ Finset.range 1024, f p q * u p q) * (-(1/2) * (rs f p / ms f p)) / 1024)
      + (∑ k ∈ Finset.range 1, (∑ q ∈ Finset.range 1024, f p q * u p q) * (-(1/2) * (rs f p / ms f p)) / 1024) * f p j
      = nback u (fun p j => f p j * rs f p) (rs f) p j := by
  have hm : rs f p / ms f p = rs f p * (rs f p * rs f p) := by
    have h := ms_pos f p
    unfold rs
    rw [← mul_inv, Real.mul_self_sqrt h.le, div_eq_mul_inv]
  have hs : ∑ q ∈ Finset.range 1024, u p q * (f p q * rs f p) = (∑ q ∈ Finset.range 1024, f p q * u p q) * rs f p := by
    rw [Finset.sum_mul]; exact Finset.sum_congr rfl fun q _ => by ring
  unfold nback
  rw [Finset.sum_range_one, hm, hs]
  ring
/-- The hidden gradient in one sum. -/
theorem dh_ref (D : Data) (p j : ℕ) : ∑ k ∈ Finset.range 5632, D.dgu p k * D.wgu j k = D.dh p j := by
  rw [show 5632 = 2816 + 2816 from rfl, Finset.sum_range_add]
  unfold Data.dh Data.dgu
  refine congrArg₂ (· + ·) (Finset.sum_congr rfl fun k hk => ?_) (Finset.sum_congr rfl fun k _ => ?_)
  · rw [if_pos (Finset.mem_range.mp hk)]
  · rw [if_neg (by omega), Nat.add_sub_cancel_left]
/-- The loss summed by rows first. -/
theorem loss_ref (D : Data) : (1/2) * (∑ n ∈ Finset.range 4096, (∑ k ∈ Finset.range 1024, D.err n k * D.err n k) / 1024) = D.loss := by
  unfold Data.loss Data.rows
  rw [Finset.sum_comm, ← Finset.sum_div]
  simp only [Data.row]
  ring

variable {D : Data} {x0 : (⟨S4096x1024, .f32⟩ : BufTy).Contents (Elt Ideal)} {x1 : (⟨S4096x1024, .bf16⟩ : BufTy).Contents (Elt Ideal)} {x2 : (⟨S8x1024, .f32⟩ : BufTy).Contents (Elt Ideal)} {x3 : (⟨S1x1024, .f32⟩ : BufTy).Contents (Elt Ideal)} {x4 : (⟨S1024x5632, .bf16⟩ : BufTy).Contents (Elt Ideal)} {x5 : (⟨S2816x1024, .bf16⟩ : BufTy).Contents (Elt Ideal)} {x6 : (⟨S1024x1024, .bf16⟩ : BufTy).Contents (Elt Ideal)} {x7 : (⟨S1x1024, .f32⟩ : BufTy).Contents (Elt Ideal)} {x8 : (⟨S4096x1024, .f32⟩ : BufTy).Contents (Elt Ideal)}
/-- The nine arguments hold reals. -/
structure RArgs (D : Data) (x0 : (⟨S4096x1024, .f32⟩ : BufTy).Contents (Elt Ideal)) (x1 : (⟨S4096x1024, .bf16⟩ : BufTy).Contents (Elt Ideal)) (x2 : (⟨S8x1024, .f32⟩ : BufTy).Contents (Elt Ideal)) (x3 : (⟨S1x1024, .f32⟩ : BufTy).Contents (Elt Ideal)) (x4 : (⟨S1024x5632, .bf16⟩ : BufTy).Contents (Elt Ideal)) (x5 : (⟨S2816x1024, .bf16⟩ : BufTy).Contents (Elt Ideal)) (x6 : (⟨S1024x1024, .bf16⟩ : BufTy).Contents (Elt Ideal)) (x7 : (⟨S1x1024, .f32⟩ : BufTy).Contents (Elt Ideal)) (x8 : (⟨S4096x1024, .f32⟩ : BufTy).Contents (Elt Ideal)) : Prop where
  a0 : Is2 (a := 4096) (b := 1024) x0 D.x
  a1 : Is2 (a := 4096) (b := 1024) x1 D.mg
  a2 : Is2 (a := 8) (b := 1024) x2 D.mod
  a3 : Is2 (a := 1) (b := 1024) x3 D.gn
  a4 : Is2 (a := 1024) (b := 5632) x4 D.wgu
  a5 : Is2 (a := 2816) (b := 1024) x5 D.wd
  a6 : Is2 (a := 1024) (b := 1024) x6 D.wo
  a7 : Is2 (a := 1) (b := 1024) x7 D.gf
  a8 : Is2 (a := 4096) (b := 1024) x8 D.tg

variable (h : RArgs D x0 x1 x2 x3 x4 x5 x6 x7 x8)
include h

theorem v0_is : Is2 (a := 4096) (b := 1024) (val_main_v0 (F := Ideal) x1) (fun p j => D.mg p j) := by
  unfold val_main_v0
  exact h.a1.ext _
theorem v1_is : Is2 (a := 1024) (b := 5632) (val_main_v1 (F := Ideal) x4) (fun p j => D.wgu p j) := by
  unfold val_main_v1
  exact h.a4.ext _
theorem v2_is : Is2 (a := 2816) (b := 1024) (val_main_v2 (F := Ideal) x5) (fun p j => D.wd p j) := by
  unfold val_main_v2
  exact h.a5.ext _
theorem v3_is : Is2 (a := 1024) (b := 1024) (val_main_v3 (F := Ideal) x6) (fun p j => D.wo p j) := by
  unfold val_main_v3
  exact h.a6.ext _
theorem v4_is : Is2 (a := 1) (b := 1024) (val_main_v4 (F := Ideal) x2) (fun p j => D.mod (0 + p) (0 + j)) := by
  unfold val_main_v4
  exact h.a2.hslice 0 0 _
theorem v5_is : Is2 (a := 1) (b := 1024) (val_main_v5 (F := Ideal) x2) (fun p j => D.mod (1 + p) (0 + j)) := by
  unfold val_main_v5
  exact h.a2.hslice 1 0 _
theorem v6_is : Is2 (a := 1) (b := 1024) (val_main_v6 (F := Ideal) x2) (fun _ j => D.mod 2 j) := by
  unfold val_main_v6
  refine Is2.congr (h.a2.hslice 2 0 _) fun p j hp _ => ?_
  beta_reduce
  obtain rfl : p = 0 := by omega
  rw [zero_add]
theorem v7_is : Is2 (a := 1) (b := 1024) (val_main_v7 (F := Ideal) x2) (fun _ j => D.mod 3 j) := by
  unfold val_main_v7
  refine Is2.congr (h.a2.hslice 3 0 _) fun p j hp _ => ?_
  beta_reduce
  obtain rfl : p = 0 := by omega
  rw [zero_add]
theorem v8_is : Is2 (a := 1) (b := 1024) (val_main_v8 (F := Ideal) x2) (fun _ j => D.mod 4 j) := by
  unfold val_main_v8
  refine Is2.congr (h.a2.hslice 4 0 _) fun p j hp _ => ?_
  beta_reduce
  obtain rfl : p = 0 := by omega
  rw [zero_add]
theorem v9_is : Is2 (a := 1) (b := 1024) (val_main_v9 (F := Ideal) x2) (fun _ j => D.mod 5 j) := by
  unfold val_main_v9
  refine Is2.congr (h.a2.hslice 5 0 _) fun p j hp _ => ?_
  beta_reduce
  obtain rfl : p = 0 := by omega
  rw [zero_add]
theorem v10_is : Is2 (a := 4096) (b := 1024) (val_main_v10 (F := Ideal) x1 x6) (fun p j => D.o1 p j) := by
  unfold val_main_v10
  refine Is2.congr ((v0_is h).hdotNN (v3_is h) _) fun p j hp _ => ?_
  rfl
theorem v11_is : Is2 (a := 4096) (b := 1024) (val_main_v11 (F := Ideal) x2) (fun _ j => D.mod 2 j) := by
  unfold val_main_v11
  exact (v6_is h).hrow _
theorem v12_is : Is2 (a := 4096) (b := 1024) (val_main_v12 (F := Ideal) x1 x2 x6) (fun p j => (D.mod 2 j) * (D.o1 p j)) := by
  unfold val_main_v12
  exact (v11_is h).mul (v10_is h)
theorem v13_is : Is2 (a := 4096) (b := 1024) (val_main_v13 (F := Ideal) x0 x1 x2 x6) (fun p j => D.x1 p j) := by
  unfold val_main_v13
  refine Is2.congr (h.a0.add (v12_is h)) fun p j hp _ => ?_
  rfl
theorem v14_is : Is2 (a := 4096) (b := 1024) (val_main_v14 (F := Ideal) x0 x1 x2 x6) (fun p j => (D.x1 p j) * (D.x1 p j)) := by
  unfold val_main_v14
  exact (v13_is h).mul (v13_is h)
omit h in
theorem cst_is : Is0 (val_main_cst (F := Ideal) ) (0) := by
  unfold val_main_cst
  exact Is0.const lit_zero
theorem v15_is : Is1 (a := 4096) (val_main_v15 (F := Ideal) x0 x1 x2 x6) (fun p => ∑ k ∈ Finset.range 1024, ((D.x1 p k) * (D.x1 p k))) := by
  unfold val_main_v15
  exact (v14_is h).hrowSum (cst_is) _ _
theorem v16_is : Is2 (a := 4096) (b := 1) (val_main_v16 (F := Ideal) x0 x1 x2 x6) (fun p _ => ∑ k ∈ Finset.range 1024, ((D.x1 p k) * (D.x1 p k))) := by
  unfold val_main_v16
  exact (v15_is h).hcol _
omit h in
theorem cst_0_is : Is0 (val_main_cst_0 (F := Ideal) ) (1024) := by
  unfold val_main_cst_0
  exact Is0.const lit_1024
omit h in
theorem v17_is : Is2 (a := 4096) (b := 1) (val_main_v17 (F := Ideal) ) (fun _ _ => 1024) := by
  unfold val_main_v17
  exact (cst_0_is).hsplat2 _ _
theorem v18_is : Is2 (a := 4096) (b := 1) (val_main_v18 (F := Ideal) x0 x1 x2 x6) (fun p _ => (∑ k ∈ Finset.range 1024, ((D.x1 p k) * (D.x1 p k))) / 1024) := by
  unfold val_main_v18
  exact (v16_is h).hdiv (v17_is) (fun _ _ _ _ => by norm_num)
omit h in
theorem cst_1_is : Is0 (val_main_cst_1 (F := Ideal) ) (eps) := by
  unfold val_main_cst_1
  exact Is0.const lit_eps
omit h in
theorem v19_is : Is2 (a := 4096) (b := 1) (val_main_v19 (F := Ideal) ) (fun _ _ => eps) := by
  unfold val_main_v19
  exact (cst_1_is).hsplat2 _ _
theorem v20_is : Is2 (a := 4096) (b := 1) (val_main_v20 (F := Ideal) x0 x1 x2 x6) (fun p _ => ms D.x1 p) := by
  unfold val_main_v20
  refine Is2.congr ((v18_is h).add (v19_is)) fun p j hp _ => ?_
  rfl
theorem v21_is : Is2 (a := 4096) (b := 1) (val_main_v21 (F := Ideal) x0 x1 x2 x6) (fun p _ => rs D.x1 p) := by
  unfold val_main_v21
  refine Is2.congr ((v20_is h).hrsqrt (fun p _ => ms_pos _ _)) fun p j hp _ => ?_
  rfl
theorem v22_is : Is2 (a := 4096) (b := 1) (val_main_v22 (F := Ideal) x0 x1 x2 x6) (fun p _ => (rs D.x1 p) / (ms D.x1 p)) := by
  unfold val_main_v22
  exact (v21_is h).hdiv (v20_is h) (fun _ _ _ _ => (ms_pos _ _).ne')
omit h in
theorem cst_2_is : Is0 (val_main_cst_2 (F := Ideal) ) ((-(1/2))) := by
  unfold val_main_cst_2
  exact Is0.const lit_neg_half
omit h in
theorem v23_is : Is2 (a := 4096) (b := 1) (val_main_v23 (F := Ideal) ) (fun _ _ => (-(1/2))) := by
  unfold val_main_v23
  exact (cst_2_is).hsplat2 _ _
theorem v24_is : Is2 (a := 4096) (b := 1) (val_main_v24 (F := Ideal) x0 x1 x2 x6) (fun p _ => -(1/2) * (rs D.x1 p / ms D.x1 p)) := by
  unfold val_main_v24
  refine Is2.congr ((v23_is).mul (v22_is h)) fun p j hp _ => ?_
  rfl
theorem v25_is : Is2 (a := 4096) (b := 1024) (val_main_v25 (F := Ideal) x0 x1 x2 x6) (fun p _ => rs D.x1 p) := by
  unfold val_main_v25
  exact (v21_is h).hcol _
theorem v26_is : Is2 (a := 4096) (b := 1024) (val_main_v26 (F := Ideal) x0 x1 x2 x6) (fun p j => D.n1 p j) := by
  unfold val_main_v26
  refine Is2.congr ((v13_is h).mul (v25_is h)) fun p j hp _ => ?_
  rfl
theorem v27_is : Is2 (a := 4096) (b := 1024) (val_main_v27 (F := Ideal) x3) (fun _ j => D.gn 0 j) := by
  unfold val_main_v27
  exact h.a3.hrow _
theorem v28_is : Is2 (a := 4096) (b := 1024) (val_main_v28 (F := Ideal) x0 x1 x2 x3 x6) (fun p j => (D.n1 p j) * (D.gn 0 j)) := by
  unfold val_main_v28
  exact (v26_is h).mul (v27_is h)
omit h in
theorem cst_3_is : Is0 (val_main_cst_3 (F := Ideal) ) (1) := by
  unfold val_main_cst_3
  exact Is0.const lit_one
omit h in
theorem v29_is : Is2 (a := 1) (b := 1024) (val_main_v29 (F := Ideal) ) (fun _ _ => 1) := by
  unfold val_main_v29
  exact (cst_3_is).hsplat2 _ _
theorem v30_is : Is2 (a := 1) (b := 1024) (val_main_v30 (F := Ideal) x2) (fun _ j => 1 + (D.mod 4 j)) := by
  unfold val_main_v30
  exact (v29_is).add (v8_is h)
theorem v31_is : Is2 (a := 4096) (b := 1024) (val_main_v31 (F := Ideal) x2) (fun _ j => 1 + (D.mod 4 j)) := by
  unfold val_main_v31
  exact (v30_is h).hrow _
theorem v32_is : Is2 (a := 4096) (b := 1024) (val_main_v32 (F := Ideal) x0 x1 x2 x3 x6) (fun p j => ((D.n1 p j) * (D.gn 0 j)) * (1 + (D.mod 4 j))) := by
  unfold val_main_v32
  exact (v28_is h).mul (v31_is h)
theorem v33_is : Is2 (a := 4096) (b := 1024) (val_main_v33 (F := Ideal) x2) (fun _ j => D.mod 3 j) := by
  unfold val_main_v33
  exact (v7_is h).hrow _
theorem v34_is : Is2 (a := 4096) (b := 1024) (val_main_v34 (F := Ideal) x0 x1 x2 x3 x6) (fun p j => D.h2 p j) := by
  unfold val_main_v34
  refine Is2.congr ((v32_is h).add (v33_is h)) fun p j hp _ => ?_
  rfl
theorem v35_is : Is2 (a := 4096) (b := 5632) (val_main_v35 (F := Ideal) x0 x1 x2 x3 x4 x6) (fun p j => ∑ k ∈ Finset.range 1024, D.h2 p k * D.wgu k j) := by
  unfold val_main_v35
  refine Is2.congr ((v34_is h).hdotNN (v1_is h) _) fun p j hp _ => ?_
  rfl
theorem v36_is : Is2 (a := 4096) (b := 2816) (val_main_v36 (F := Ideal) x0 x1 x2 x3 x4 x6) (fun p j => D.gate p j) := by
  unfold val_main_v36
  refine Is2.congr ((v35_is h).hslice 0 0 _) fun p j hp _ => ?_
  beta_reduce
  simp only [zero_add]; rfl
theorem v37_is : Is2 (a := 4096) (b := 2816) (val_main_v37 (F := Ideal) x0 x1 x2 x3 x4 x6) (fun p j => D.up p j) := by
  unfold val_main_v37
  refine Is2.congr ((v35_is h).hslice 0 2816 _) fun p j hp _ => ?_
  beta_reduce
  simp only [zero_add]; rfl
theorem call0_v0_is : Is2 (a := 4096) (b := 2816) (val_main_call0_v0 (F := Ideal) x0 x1 x2 x3 x4 x6) (fun p j => -(D.gate p j)) := by
  unfold val_main_call0_v0
  exact (v36_is h).hneg
theorem call0_v1_is : Is2 (a := 4096) (b := 2816) (val_main_call0_v1 (F := Ideal) x0 x1 x2 x3 x4 x6) (fun p j => Real.exp (-(D.gate p j))) := by
  unfold val_main_call0_v1
  exact (call0_v0_is h).hexp
omit h in
theorem call0_cst_is : Is0 (val_main_call0_cst (F := Ideal) ) (1) := by
  unfold val_main_call0_cst
  exact Is0.const lit_one
omit h in
theorem call0_v2_is : Is2 (a := 4096) (b := 2816) (val_main_call0_v2 (F := Ideal) ) (fun _ _ => 1) := by
  unfold val_main_call0_v2
  exact (call0_cst_is).hsplat2 _ _
theorem call0_v3_is : Is2 (a := 4096) (b := 2816) (val_main_call0_v3 (F := Ideal) x0 x1 x2 x3 x4 x6) (fun p j => 1 + (Real.exp (-(D.gate p j)))) := by
  unfold val_main_call0_v3
  exact (call0_v2_is).add (call0_v1_is h)
omit h in
theorem call0_cst_0_is : Is0 (val_main_call0_cst_0 (F := Ideal) ) (1) := by
  unfold val_main_call0_cst_0
  exact Is0.const lit_one
omit h in
theorem call0_v4_is : Is2 (a := 4096) (b := 2816) (val_main_call0_v4 (F := Ideal) ) (fun _ _ => 1) := by
  unfold val_main_call0_v4
  exact (call0_cst_0_is).hsplat2 _ _
theorem v38_2_is : Is2 (a := 4096) (b := 2816) (val_main_v38_2 (F := Ideal) x0 x1 x2 x3 x4 x6) (fun p j => D.sg p j) := by
  unfold val_main_v38_2
  refine Is2.congr ((call0_v4_is).hdiv (call0_v3_is h) (fun _ _ _ _ => by positivity)) fun p j hp _ => ?_
  rfl
omit h in
theorem call0_cst_1_is : Is0 (val_main_call0_cst_1 (F := Ideal) ) (1) := by
  unfold val_main_call0_cst_1
  exact Is0.const lit_one
omit h in
theorem call0_v6_is : Is2 (a := 4096) (b := 2816) (val_main_call0_v6 (F := Ideal) ) (fun _ _ => 1) := by
  unfold val_main_call0_v6
  exact (call0_cst_1_is).hsplat2 _ _
theorem call0_v7_is : Is2 (a := 4096) (b := 2816) (val_main_call0_v7 (F := Ideal) x0 x1 x2 x3 x4 x6) (fun p j => 1 - (D.sg p j)) := by
  unfold val_main_call0_v7
  exact (call0_v6_is).sub (v38_2_is h)
theorem v38_1_is : Is2 (a := 4096) (b := 2816) (val_main_v38_1 (F := Ideal) x0 x1 x2 x3 x4 x6) (fun p j => (D.sg p j) * (1 - (D.sg p j))) := by
  unfold val_main_v38_1
  exact (v38_2_is h).mul (call0_v7_is h)
theorem v38_0_is : Is2 (a := 4096) (b := 2816) (val_main_v38_0 (F := Ideal) x0 x1 x2 x3 x4 x6) (fun p j => (D.gate p j) * (D.sg p j)) := by
  unfold val_main_v38_0
  exact (v36_is h).mul (v38_2_is h)
theorem v39_is : Is2 (a := 4096) (b := 2816) (val_main_v39 (F := Ideal) x0 x1 x2 x3 x4 x6) (fun p j => D.act p j) := by
  unfold val_main_v39
  refine Is2.congr ((v38_0_is h).mul (v37_is h)) fun p j hp _ => ?_
  rfl
theorem v40_is : Is2 (a := 4096) (b := 1024) (val_main_v40 (F := Ideal) x0 x1 x2 x3 x4 x5 x6) (fun p j => D.o2 p j) := by
  unfold val_main_v40
  refine Is2.congr ((v39_is h).hdotNN (v2_is h) _) fun p j hp _ => ?_
  rfl
theorem v41_is : Is2 (a := 4096) (b := 1024) (val_main_v41 (F := Ideal) x2) (fun _ j => D.mod 5 j) := by
  unfold val_main_v41
  exact (v9_is h).hrow _
theorem v42_is : Is2 (a := 4096) (b := 1024) (val_main_v42 (F := Ideal) x0 x1 x2 x3 x4 x5 x6) (fun p j => (D.mod 5 j) * (D.o2 p j)) := by
  unfold val_main_v42
  exact (v41_is h).mul (v40_is h)
theorem v43_is : Is2 (a := 4096) (b := 1024) (val_main_v43 (F := Ideal) x0 x1 x2 x3 x4 x5 x6) (fun p j => D.x2 p j) := by
  unfold val_main_v43
  refine Is2.congr ((v13_is h).add (v42_is h)) fun p j hp _ => ?_
  rfl
theorem v44_is : Is2 (a := 4096) (b := 1024) (val_main_v44 (F := Ideal) x0 x1 x2 x3 x4 x5 x6) (fun p j => (D.x2 p j) * (D.x2 p j)) := by
  unfold val_main_v44
  exact (v43_is h).mul (v43_is h)
omit h in
theorem cst_4_is : Is0 (val_main_cst_4 (F := Ideal) ) (0) := by
  unfold val_main_cst_4
  exact Is0.const lit_zero
theorem v45_is : Is1 (a := 4096) (val_main_v45 (F := Ideal) x0 x1 x2 x3 x4 x5 x6) (fun p => ∑ k ∈ Finset.range 1024, ((D.x2 p k) * (D.x2 p k))) := by
  unfold val_main_v45
  exact (v44_is h).hrowSum (cst_4_is) _ _
theorem v46_is : Is2 (a := 4096) (b := 1) (val_main_v46 (F := Ideal) x0 x1 x2 x3 x4 x5 x6) (fun p _ => ∑ k ∈ Finset.range 1024, ((D.x2 p k) * (D.x2 p k))) := by
  unfold val_main_v46
  exact (v45_is h).hcol _
omit h in
theorem cst_5_is : Is0 (val_main_cst_5 (F := Ideal) ) (1024) := by
  unfold val_main_cst_5
  exact Is0.const lit_1024
omit h in
theorem v47_is : Is2 (a := 4096) (b := 1) (val_main_v47 (F := Ideal) ) (fun _ _ => 1024) := by
  unfold val_main_v47
  exact (cst_5_is).hsplat2 _ _
theorem v48_is : Is2 (a := 4096) (b := 1) (val_main_v48 (F := Ideal) x0 x1 x2 x3 x4 x5 x6) (fun p _ => (∑ k ∈ Finset.range 1024, ((D.x2 p k) * (D.x2 p k))) / 1024) := by
  unfold val_main_v48
  exact (v46_is h).hdiv (v47_is) (fun _ _ _ _ => by norm_num)
omit h in
theorem cst_6_is : Is0 (val_main_cst_6 (F := Ideal) ) (eps) := by
  unfold val_main_cst_6
  exact Is0.const lit_eps
omit h in
theorem v49_is : Is2 (a := 4096) (b := 1) (val_main_v49 (F := Ideal) ) (fun _ _ => eps) := by
  unfold val_main_v49
  exact (cst_6_is).hsplat2 _ _
theorem v50_is : Is2 (a := 4096) (b := 1) (val_main_v50 (F := Ideal) x0 x1 x2 x3 x4 x5 x6) (fun p _ => ms D.x2 p) := by
  unfold val_main_v50
  refine Is2.congr ((v48_is h).add (v49_is)) fun p j hp _ => ?_
  rfl
theorem v51_is : Is2 (a := 4096) (b := 1) (val_main_v51 (F := Ideal) x0 x1 x2 x3 x4 x5 x6) (fun p _ => rs D.x2 p) := by
  unfold val_main_v51
  refine Is2.congr ((v50_is h).hrsqrt (fun p _ => ms_pos _ _)) fun p j hp _ => ?_
  rfl
theorem v52_is : Is2 (a := 4096) (b := 1) (val_main_v52 (F := Ideal) x0 x1 x2 x3 x4 x5 x6) (fun p _ => (rs D.x2 p) / (ms D.x2 p)) := by
  unfold val_main_v52
  exact (v51_is h).hdiv (v50_is h) (fun _ _ _ _ => (ms_pos _ _).ne')
omit h in
theorem cst_7_is : Is0 (val_main_cst_7 (F := Ideal) ) ((-(1/2))) := by
  unfold val_main_cst_7
  exact Is0.const lit_neg_half
omit h in
theorem v53_is : Is2 (a := 4096) (b := 1) (val_main_v53 (F := Ideal) ) (fun _ _ => (-(1/2))) := by
  unfold val_main_v53
  exact (cst_7_is).hsplat2 _ _
theorem v54_is : Is2 (a := 4096) (b := 1) (val_main_v54 (F := Ideal) x0 x1 x2 x3 x4 x5 x6) (fun p _ => -(1/2) * (rs D.x2 p / ms D.x2 p)) := by
  unfold val_main_v54
  refine Is2.congr ((v53_is).mul (v52_is h)) fun p j hp _ => ?_
  rfl
theorem v55_is : Is2 (a := 4096) (b := 1024) (val_main_v55 (F := Ideal) x0 x1 x2 x3 x4 x5 x6) (fun p _ => rs D.x2 p) := by
  unfold val_main_v55
  exact (v51_is h).hcol _
theorem v56_is : Is2 (a := 4096) (b := 1024) (val_main_v56 (F := Ideal) x0 x1 x2 x3 x4 x5 x6) (fun p j => D.xn p j) := by
  unfold val_main_v56
  refine Is2.congr ((v43_is h).mul (v55_is h)) fun p j hp _ => ?_
  rfl
theorem v57_is : Is2 (a := 4096) (b := 1024) (val_main_v57 (F := Ideal) x7) (fun _ j => D.gf 0 j) := by
  unfold val_main_v57
  exact h.a7.hrow _
theorem v58_is : Is2 (a := 4096) (b := 1024) (val_main_v58 (F := Ideal) x0 x1 x2 x3 x4 x5 x6 x7) (fun p j => (D.xn p j) * (D.gf 0 j)) := by
  unfold val_main_v58
  exact (v56_is h).mul (v57_is h)
theorem v59_is : Is2 (a := 4096) (b := 1024) (val_main_v59 (F := Ideal) x0 x1 x2 x3 x4 x5 x6 x7 x8) (fun p j => D.err p j) := by
  unfold val_main_v59
  refine Is2.congr ((v58_is h).sub h.a8) fun p j hp _ => ?_
  rfl
theorem v60_is : Is2 (a := 4096) (b := 1024) (val_main_v60 (F := Ideal) x0 x1 x2 x3 x4 x5 x6 x7 x8) (fun p j => (D.err p j) * (D.err p j)) := by
  unfold val_main_v60
  exact (v59_is h).mul (v59_is h)
omit h in
theorem cst_8_is : Is0 (val_main_cst_8 (F := Ideal) ) (2) := by
  unfold val_main_cst_8
  exact Is0.const lit_two
omit h in
theorem v61_is : Is2 (a := 4096) (b := 1024) (val_main_v61 (F := Ideal) ) (fun _ _ => 2) := by
  unfold val_main_v61
  exact (cst_8_is).hsplat2 _ _
theorem v62_is : Is2 (a := 4096) (b := 1024) (val_main_v62 (F := Ideal) x0 x1 x2 x3 x4 x5 x6 x7 x8) (fun p j => 2 * (D.err p j)) := by
  unfold val_main_v62
  exact (v61_is).mul (v59_is h)
omit h in
theorem cst_9_is : Is0 (val_main_cst_9 (F := Ideal) ) (0) := by
  unfold val_main_cst_9
  exact Is0.const lit_zero
theorem v63_is : Is1 (a := 4096) (val_main_v63 (F := Ideal) x0 x1 x2 x3 x4 x5 x6 x7 x8) (fun p => ∑ k ∈ Finset.range 1024, ((D.err p k) * (D.err p k))) := by
  unfold val_main_v63
  exact (v60_is h).hrowSum (cst_9_is) _ _
omit h in
theorem cst_10_is : Is0 (val_main_cst_10 (F := Ideal) ) (1024) := by
  unfold val_main_cst_10
  exact Is0.const lit_1024
omit h in
theorem v64_is : Is1 (a := 4096) (val_main_v64 (F := Ideal) ) (fun _ => 1024) := by
  unfold val_main_v64
  exact (cst_10_is).hsplat1 _ _
theorem v65_is : Is1 (a := 4096) (val_main_v65 (F := Ideal) x0 x1 x2 x3 x4 x5 x6 x7 x8) (fun p => (∑ k ∈ Finset.range 1024, ((D.err p k) * (D.err p k))) / 1024) := by
  unfold val_main_v65
  exact (v63_is h).hdiv (v64_is) (fun _ _ => by norm_num)
omit h in
theorem cst_11_is : Is0 (val_main_cst_11 (F := Ideal) ) (0) := by
  unfold val_main_cst_11
  exact Is0.const lit_zero
theorem v66_is : Is0 (val_main_v66 (F := Ideal) x0 x1 x2 x3 x4 x5 x6 x7 x8) (∑ n ∈ Finset.range 4096, ((∑ k ∈ Finset.range 1024, ((D.err n k) * (D.err n k))) / 1024)) := by
  unfold val_main_v66
  exact (v65_is h).hsum (cst_11_is) _ _
omit h in
theorem cst_12_is : Is0 (val_main_cst_12 (F := Ideal) ) ((1/2)) := by
  unfold val_main_cst_12
  exact Is0.const lit_half
theorem v67_is : Is0 (val_main_v67 (F := Ideal) x0 x1 x2 x3 x4 x5 x6 x7 x8) (D.loss) := by
  unfold val_main_v67
  refine Is0.congr ((cst_12_is).mul (v66_is h)) ?_
  exact loss_ref D
omit h in
theorem cst_13_is : Is0 (val_main_cst_13 (F := Ideal) ) ((1/2)) := by
  unfold val_main_cst_13
  exact Is0.const lit_half
omit h in
theorem cst_14_is : Is0 (val_main_cst_14 (F := Ideal) ) (1) := by
  unfold val_main_cst_14
  exact Is0.const lit_one
omit h in
theorem v68_is : Is0 (val_main_v68 (F := Ideal) ) ((1/2) * 1) := by
  unfold val_main_v68
  exact (cst_13_is).mul (cst_14_is)
omit h in
theorem v69_is : Is1 (a := 4096) (val_main_v69 (F := Ideal) ) (fun _ => (1/2) * 1) := by
  unfold val_main_v69
  exact (v68_is).hsplat1 _ _
omit h in
theorem cst_15_is : Is0 (val_main_cst_15 (F := Ideal) ) (1024) := by
  unfold val_main_cst_15
  exact Is0.const lit_1024
omit h in
theorem v70_is : Is1 (a := 4096) (val_main_v70 (F := Ideal) ) (fun _ => 1024) := by
  unfold val_main_v70
  exact (cst_15_is).hsplat1 _ _
omit h in
theorem v71_is : Is1 (a := 4096) (val_main_v71 (F := Ideal) ) (fun _ => ((1/2) * 1) / 1024) := by
  unfold val_main_v71
  exact (v69_is).hdiv (v70_is) (fun _ _ => by norm_num)
omit h in
theorem v72_is : Is2 (a := 4096) (b := 1024) (val_main_v72 (F := Ideal) ) (fun _ _ => ((1/2) * 1) / 1024) := by
  unfold val_main_v72
  exact (v71_is).hcol _
theorem v73_is : Is2 (a := 4096) (b := 1024) (val_main_v73 (F := Ideal) x0 x1 x2 x3 x4 x5 x6 x7 x8) (fun p j => D.dy p j) := by
  unfold val_main_v73
  refine Is2.congr ((v72_is).mul (v62_is h)) fun p j hp _ => ?_
  beta_reduce
  simp only [Data.dy]; ring
theorem v74_is : Is2 (a := 4096) (b := 1024) (val_main_v74 (F := Ideal) x0 x1 x2 x3 x4 x5 x6 x7 x8) (fun p j => (D.xn p j) * (D.dy p j)) := by
  unfold val_main_v74
  exact (v56_is h).mul (v73_is h)
omit h in
theorem cst_16_is : Is0 (val_main_cst_16 (F := Ideal) ) (0) := by
  unfold val_main_cst_16
  exact Is0.const lit_zero
theorem v75_is : Is1 (a := 1024) (val_main_v75 (F := Ideal) x0 x1 x2 x3 x4 x5 x6 x7 x8) (fun p => ∑ k ∈ Finset.range 4096, ((D.xn k p) * (D.dy k p))) := by
  unfold val_main_v75
  exact (v74_is h).hcolSum (cst_16_is) _ _
theorem v76_is : Is2 (a := 1) (b := 1024) (val_main_v76 (F := Ideal) x0 x1 x2 x3 x4 x5 x6 x7 x8) (fun _ j => D.rows 4096 4 j) := by
  unfold val_main_v76
  refine Is2.congr ((v75_is h).asRow _) fun p j hp _ => ?_
  beta_reduce
  exact Finset.sum_congr rfl fun k _ => by simp only [Data.row] <;> ring
theorem v77_is : Is2 (a := 4096) (b := 1024) (val_main_v77 (F := Ideal) x7) (fun _ j => D.gf 0 j) := by
  unfold val_main_v77
  exact h.a7.hrow _
theorem v78_is : Is2 (a := 4096) (b := 1024) (val_main_v78 (F := Ideal) x0 x1 x2 x3 x4 x5 x6 x7 x8) (fun p j => D.dxn p j) := by
  unfold val_main_v78
  refine Is2.congr ((v73_is h).mul (v77_is h)) fun p j hp _ => ?_
  rfl
theorem v79_is : Is2 (a := 4096) (b := 1024) (val_main_v79 (F := Ideal) x0 x1 x2 x3 x4 x5 x6 x7 x8) (fun p j => (D.x2 p j) * (D.dxn p j)) := by
  unfold val_main_v79
  exact (v43_is h).mul (v78_is h)
omit h in
theorem cst_17_is : Is0 (val_main_cst_17 (F := Ideal) ) (0) := by
  unfold val_main_cst_17
  exact Is0.const lit_zero
theorem v80_is : Is1 (a := 4096) (val_main_v80 (F := Ideal) x0 x1 x2 x3 x4 x5 x6 x7 x8) (fun p => ∑ k ∈ Finset.range 1024, ((D.x2 p k) * (D.dxn p k))) := by
  unfold val_main_v80
  exact (v79_is h).hrowSum (cst_17_is) _ _
theorem v81_is : Is2 (a := 4096) (b := 1) (val_main_v81 (F := Ideal) x0 x1 x2 x3 x4 x5 x6 x7 x8) (fun p _ => ∑ k ∈ Finset.range 1024, ((D.x2 p k) * (D.dxn p k))) := by
  unfold val_main_v81
  exact (v80_is h).asCol _
theorem v82_is : Is2 (a := 4096) (b := 1024) (val_main_v82 (F := Ideal) x0 x1 x2 x3 x4 x5 x6) (fun p _ => rs D.x2 p) := by
  unfold val_main_v82
  exact (v51_is h).hcol _
theorem v83_is : Is2 (a := 4096) (b := 1024) (val_main_v83 (F := Ideal) x0 x1 x2 x3 x4 x5 x6 x7 x8) (fun p j => (D.dxn p j) * (rs D.x2 p)) := by
  unfold val_main_v83
  exact (v78_is h).mul (v82_is h)
theorem v84_is : Is2 (a := 4096) (b := 1) (val_main_v84 (F := Ideal) x0 x1 x2 x3 x4 x5 x6 x7 x8) (fun p _ => (∑ k ∈ Finset.range 1024, ((D.x2 p k) * (D.dxn p k))) * (-(1/2) * (rs D.x2 p / ms D.x2 p))) := by
  unfold val_main_v84
  exact (v81_is h).mul (v54_is h)
omit h in
theorem cst_18_is : Is0 (val_main_cst_18 (F := Ideal) ) (1024) := by
  unfold val_main_cst_18
  exact Is0.const lit_1024
omit h in
theorem v85_is : Is2 (a := 4096) (b := 1) (val_main_v85 (F := Ideal) ) (fun _ _ => 1024) := by
  unfold val_main_v85
  exact (cst_18_is).hsplat2 _ _
theorem v86_is : Is2 (a := 4096) (b := 1) (val_main_v86 (F := Ideal) x0 x1 x2 x3 x4 x5 x6 x7 x8) (fun p _ => ((∑ k ∈ Finset.range 1024, ((D.x2 p k) * (D.dxn p k))) * (-(1/2) * (rs D.x2 p / ms D.x2 p))) / 1024) := by
  unfold val_main_v86
  exact (v84_is h).hdiv (v85_is) (fun _ _ _ _ => by norm_num)
omit h in
theorem cst_19_is : Is0 (val_main_cst_19 (F := Ideal) ) (0) := by
  unfold val_main_cst_19
  exact Is0.const lit_zero
theorem v87_is : Is1 (a := 4096) (val_main_v87 (F := Ideal) x0 x1 x2 x3 x4 x5 x6 x7 x8) (fun p => ∑ k ∈ Finset.range 1, (((∑ k ∈ Finset.range 1024, ((D.x2 p k) * (D.dxn p k))) * (-(1/2) * (rs D.x2 p / ms D.x2 p))) / 1024)) := by
  unfold val_main_v87
  exact (v86_is h).hrowSum (cst_19_is) _ _
theorem v88_is : Is2 (a := 4096) (b := 1024) (val_main_v88 (F := Ideal) x0 x1 x2 x3 x4 x5 x6 x7 x8) (fun p _ => ∑ k ∈ Finset.range 1, (((∑ k ∈ Finset.range 1024, ((D.x2 p k) * (D.dxn p k))) * (-(1/2) * (rs D.x2 p / ms D.x2 p))) / 1024)) := by
  unfold val_main_v88
  exact (v87_is h).hcol _
theorem v89_is : Is2 (a := 4096) (b := 1024) (val_main_v89 (F := Ideal) x0 x1 x2 x3 x4 x5 x6 x7 x8) (fun p j => (D.x2 p j) * (∑ k ∈ Finset.range 1, (((∑ k ∈ Finset.range 1024, ((D.x2 p k) * (D.dxn p k))) * (-(1/2) * (rs D.x2 p / ms D.x2 p))) / 1024))) := by
  unfold val_main_v89
  exact (v43_is h).mul (v88_is h)
theorem v90_is : Is2 (a := 4096) (b := 1024) (val_main_v90 (F := Ideal) x0 x1 x2 x3 x4 x5 x6 x7 x8) (fun p j => ((D.dxn p j) * (rs D.x2 p)) + ((D.x2 p j) * (∑ k ∈ Finset.range 1, (((∑ k ∈ Finset.range 1024, ((D.x2 p k) * (D.dxn p k))) * (-(1/2) * (rs D.x2 p / ms D.x2 p))) / 1024)))) := by
  unfold val_main_v90
  exact (v83_is h).add (v89_is h)
theorem v91_is : Is2 (a := 4096) (b := 1024) (val_main_v91 (F := Ideal) x0 x1 x2 x3 x4 x5 x6 x7 x8) (fun p j => (∑ k ∈ Finset.range 1, (((∑ k ∈ Finset.range 1024, ((D.x2 p k) * (D.dxn p k))) * (-(1/2) * (rs D.x2 p / ms D.x2 p))) / 1024)) * (D.x2 p j)) := by
  unfold val_main_v91
  exact (v88_is h).mul (v43_is h)
theorem v92_is : Is2 (a := 4096) (b := 1024) (val_main_v92 (F := Ideal) x0 x1 x2 x3 x4 x5 x6 x7 x8) (fun p j => D.dx2 p j) := by
  unfold val_main_v92
  refine Is2.congr ((v90_is h).add (v91_is h)) fun p j hp _ => ?_
  beta_reduce
  exact nback_ref D.x2 D.dxn p j
theorem v93_is : Is2 (a := 4096) (b := 1024) (val_main_v93 (F := Ideal) x2) (fun _ j => D.mod 5 j) := by
  unfold val_main_v93
  exact (v9_is h).hrow _
theorem v94_is : Is2 (a := 4096) (b := 1024) (val_main_v94 (F := Ideal) x0 x1 x2 x3 x4 x5 x6 x7 x8) (fun p j => D.do2 p j) := by
  unfold val_main_v94
  refine Is2.congr ((v93_is h).mul (v92_is h)) fun p j hp _ => ?_
  beta_reduce
  simp only [Data.do2]; ring
theorem v95_is : Is2 (a := 4096) (b := 1024) (val_main_v95 (F := Ideal) x0 x1 x2 x3 x4 x5 x6 x7 x8) (fun p j => (D.dx2 p j) * (D.o2 p j)) := by
  unfold val_main_v95
  exact (v92_is h).mul (v40_is h)
omit h in
theorem cst_20_is : Is0 (val_main_cst_20 (F := Ideal) ) (0) := by
  unfold val_main_cst_20
  exact Is0.const lit_zero
theorem v96_is : Is1 (a := 1024) (val_main_v96 (F := Ideal) x0 x1 x2 x3 x4 x5 x6 x7 x8) (fun p => ∑ k ∈ Finset.range 4096, ((D.dx2 k p) * (D.o2 k p))) := by
  unfold val_main_v96
  exact (v95_is h).hcolSum (cst_20_is) _ _
theorem v97_is : Is2 (a := 1) (b := 1024) (val_main_v97 (F := Ideal) x0 x1 x2 x3 x4 x5 x6 x7 x8) (fun _ j => D.rows 4096 3 j) := by
  unfold val_main_v97
  refine Is2.congr ((v96_is h).asRow _) fun p j hp _ => ?_
  beta_reduce
  exact Finset.sum_congr rfl fun k _ => by simp only [Data.row] <;> ring
theorem v98_is : Is2 (a := 4096) (b := 2816) (val_main_v98 (F := Ideal) x0 x1 x2 x3 x4 x5 x6 x7 x8) (fun p j => D.dact p j) := by
  unfold val_main_v98
  refine Is2.congr ((v94_is h).hdotNT (v2_is h) _) fun p j hp _ => ?_
  rfl
theorem v99_is : Is2 (a := 4096) (b := 2816) (val_main_v99 (F := Ideal) x0 x1 x2 x3 x4 x5 x6 x7 x8) (fun p j => D.dup p j) := by
  unfold val_main_v99
  refine Is2.congr ((v38_0_is h).mul (v98_is h)) fun p j hp _ => ?_
  beta_reduce
  simp only [Data.dup]; ring
theorem v100_is : Is2 (a := 4096) (b := 2816) (val_main_v100 (F := Ideal) x0 x1 x2 x3 x4 x5 x6 x7 x8) (fun p j => (D.dact p j) * (D.up p j)) := by
  unfold val_main_v100
  exact (v98_is h).mul (v37_is h)
theorem call1_v0_is : Is2 (a := 4096) (b := 2816) (val_main_call1_v0 (F := Ideal) x0 x1 x2 x3 x4 x5 x6 x7 x8) (fun p j => (D.gate p j) * ((D.dact p j) * (D.up p j))) := by
  unfold val_main_call1_v0
  exact (v36_is h).mul (v100_is h)
theorem call1_v1_is : Is2 (a := 4096) (b := 2816) (val_main_call1_v1 (F := Ideal) x0 x1 x2 x3 x4 x5 x6 x7 x8) (fun p j => ((D.dact p j) * (D.up p j)) * (D.sg p j)) := by
  unfold val_main_call1_v1
  exact (v100_is h).mul (v38_2_is h)
theorem call1_v2_is : Is2 (a := 4096) (b := 2816) (val_main_call1_v2 (F := Ideal) x0 x1 x2 x3 x4 x5 x6 x7 x8) (fun p j => ((D.gate p j) * ((D.dact p j) * (D.up p j))) * ((D.sg p j) * (1 - (D.sg p j)))) := by
  unfold val_main_call1_v2
  exact (call1_v0_is h).mul (v38_1_is h)
theorem v101_is : Is2 (a := 4096) (b := 2816) (val_main_v101 (F := Ideal) x0 x1 x2 x3 x4 x5 x6 x7 x8) (fun p j => D.dgate p j) := by
  unfold val_main_v101
  refine Is2.congr ((call1_v1_is h).add (call1_v2_is h)) fun p j hp _ => ?_
  beta_reduce
  simp only [Data.dgate]; ring
theorem v102_is : Is2 (a := 4096) (b := 5632) (val_main_v102 (F := Ideal) x0 x1 x2 x3 x4 x5 x6 x7 x8) (fun p j => D.dgu p j) := by
  unfold val_main_v102
  refine Is2.congr ((v101_is h).hcat (v99_is h) _ rfl) fun p j hp _ => ?_
  rfl
theorem v103_is : Is2 (a := 4096) (b := 1024) (val_main_v103 (F := Ideal) x0 x1 x2 x3 x4 x5 x6 x7 x8) (fun p j => D.dh p j) := by
  unfold val_main_v103
  refine Is2.congr ((v102_is h).hdotNT (v1_is h) _) fun p j hp _ => ?_
  beta_reduce
  exact dh_ref D p j
omit h in
theorem cst_21_is : Is0 (val_main_cst_21 (F := Ideal) ) (0) := by
  unfold val_main_cst_21
  exact Is0.const lit_zero
theorem v104_is : Is1 (a := 1024) (val_main_v104 (F := Ideal) x0 x1 x2 x3 x4 x5 x6 x7 x8) (fun p => ∑ k ∈ Finset.range 4096, (D.dh k p)) := by
  unfold val_main_v104
  exact (v103_is h).hcolSum (cst_21_is) _ _
theorem v105_is : Is2 (a := 1) (b := 1024) (val_main_v105 (F := Ideal) x0 x1 x2 x3 x4 x5 x6 x7 x8) (fun _ j => D.rows 4096 0 j) := by
  unfold val_main_v105
  refine Is2.congr ((v104_is h).asRow _) fun p j hp _ => ?_
  beta_reduce
  exact Finset.sum_congr rfl fun k _ => by simp only [Data.row] <;> ring
theorem v106_is : Is2 (a := 4096) (b := 1024) (val_main_v106 (F := Ideal) x0 x1 x2 x3 x4 x5 x6 x7 x8) (fun p j => ((D.n1 p j) * (D.gn 0 j)) * (D.dh p j)) := by
  unfold val_main_v106
  exact (v28_is h).mul (v103_is h)
omit h in
theorem cst_22_is : Is0 (val_main_cst_22 (F := Ideal) ) (0) := by
  unfold val_main_cst_22
  exact Is0.const lit_zero
theorem v107_is : Is1 (a := 1024) (val_main_v107 (F := Ideal) x0 x1 x2 x3 x4 x5 x6 x7 x8) (fun p => ∑ k ∈ Finset.range 4096, (((D.n1 k p) * (D.gn 0 p)) * (D.dh k p))) := by
  unfold val_main_v107
  exact (v106_is h).hcolSum (cst_22_is) _ _
theorem v108_is : Is2 (a := 1) (b := 1024) (val_main_v108 (F := Ideal) x0 x1 x2 x3 x4 x5 x6 x7 x8) (fun _ j => D.rows 4096 1 j) := by
  unfold val_main_v108
  refine Is2.congr ((v107_is h).asRow _) fun p j hp _ => ?_
  beta_reduce
  exact Finset.sum_congr rfl fun k _ => by simp only [Data.row] <;> ring
theorem v109_is : Is2 (a := 4096) (b := 1024) (val_main_v109 (F := Ideal) x2) (fun _ j => 1 + (D.mod 4 j)) := by
  unfold val_main_v109
  exact (v30_is h).hrow _
theorem v110_is : Is2 (a := 4096) (b := 1024) (val_main_v110 (F := Ideal) x0 x1 x2 x3 x4 x5 x6 x7 x8) (fun p j => D.dn p j) := by
  unfold val_main_v110
  refine Is2.congr ((v103_is h).mul (v109_is h)) fun p j hp _ => ?_
  rfl
theorem v111_is : Is2 (a := 4096) (b := 1024) (val_main_v111 (F := Ideal) x0 x1 x2 x3 x4 x5 x6 x7 x8) (fun p j => (D.n1 p j) * (D.dn p j)) := by
  unfold val_main_v111
  exact (v26_is h).mul (v110_is h)
omit h in
theorem cst_23_is : Is0 (val_main_cst_23 (F := Ideal) ) (0) := by
  unfold val_main_cst_23
  exact Is0.const lit_zero
theorem v112_is : Is1 (a := 1024) (val_main_v112 (F := Ideal) x0 x1 x2 x3 x4 x5 x6 x7 x8) (fun p => ∑ k ∈ Finset.range 4096, ((D.n1 k p) * (D.dn k p))) := by
  unfold val_main_v112
  exact (v111_is h).hcolSum (cst_23_is) _ _
theorem v113_is : Is2 (a := 1) (b := 1024) (val_main_v113 (F := Ideal) x0 x1 x2 x3 x4 x5 x6 x7 x8) (fun _ j => D.rows 4096 2 j) := by
  unfold val_main_v113
  refine Is2.congr ((v112_is h).asRow _) fun p j hp _ => ?_
  beta_reduce
  exact Finset.sum_congr rfl fun k _ => by simp only [Data.row] <;> ring
theorem v114_is : Is2 (a := 4096) (b := 1024) (val_main_v114 (F := Ideal) x3) (fun _ j => D.gn 0 j) := by
  unfold val_main_v114
  exact h.a3.hrow _
theorem v115_is : Is2 (a := 4096) (b := 1024) (val_main_v115 (F := Ideal) x0 x1 x2 x3 x4 x5 x6 x7 x8) (fun p j => D.dnx p j) := by
  unfold val_main_v115
  refine Is2.congr ((v110_is h).mul (v114_is h)) fun p j hp _ => ?_
  rfl
theorem v116_is : Is2 (a := 4096) (b := 1024) (val_main_v116 (F := Ideal) x0 x1 x2 x3 x4 x5 x6 x7 x8) (fun p j => (D.x1 p j) * (D.dnx p j)) := by
  unfold val_main_v116
  exact (v13_is h).mul (v115_is h)
omit h in
theorem cst_24_is : Is0 (val_main_cst_24 (F := Ideal) ) (0) := by
  unfold val_main_cst_24
  exact Is0.const lit_zero
theorem v117_is : Is1 (a := 4096) (val_main_v117 (F := Ideal) x0 x1 x2 x3 x4 x5 x6 x7 x8) (fun p => ∑ k ∈ Finset.range 1024, ((D.x1 p k) * (D.dnx p k))) := by
  unfold val_main_v117
  exact (v116_is h).hrowSum (cst_24_is) _ _
theorem v118_is : Is2 (a := 4096) (b := 1) (val_main_v118 (F := Ideal) x0 x1 x2 x3 x4 x5 x6 x7 x8) (fun p _ => ∑ k ∈ Finset.range 1024, ((D.x1 p k) * (D.dnx p k))) := by
  unfold val_main_v118
  exact (v117_is h).asCol _
theorem v119_is : Is2 (a := 4096) (b := 1024) (val_main_v119 (F := Ideal) x0 x1 x2 x6) (fun p _ => rs D.x1 p) := by
  unfold val_main_v119
  exact (v21_is h).hcol _
theorem v120_is : Is2 (a := 4096) (b := 1024) (val_main_v120 (F := Ideal) x0 x1 x2 x3 x4 x5 x6 x7 x8) (fun p j => (D.dnx p j) * (rs D.x1 p)) := by
  unfold val_main_v120
  exact (v115_is h).mul (v119_is h)
theorem v121_is : Is2 (a := 4096) (b := 1) (val_main_v121 (F := Ideal) x0 x1 x2 x3 x4 x5 x6 x7 x8) (fun p _ => (∑ k ∈ Finset.range 1024, ((D.x1 p k) * (D.dnx p k))) * (-(1/2) * (rs D.x1 p / ms D.x1 p))) := by
  unfold val_main_v121
  exact (v118_is h).mul (v24_is h)
omit h in
theorem cst_25_is : Is0 (val_main_cst_25 (F := Ideal) ) (1024) := by
  unfold val_main_cst_25
  exact Is0.const lit_1024
omit h in
theorem v122_is : Is2 (a := 4096) (b := 1) (val_main_v122 (F := Ideal) ) (fun _ _ => 1024) := by
  unfold val_main_v122
  exact (cst_25_is).hsplat2 _ _
theorem v123_is : Is2 (a := 4096) (b := 1) (val_main_v123 (F := Ideal) x0 x1 x2 x3 x4 x5 x6 x7 x8) (fun p _ => ((∑ k ∈ Finset.range 1024, ((D.x1 p k) * (D.dnx p k))) * (-(1/2) * (rs D.x1 p / ms D.x1 p))) / 1024) := by
  unfold val_main_v123
  exact (v121_is h).hdiv (v122_is) (fun _ _ _ _ => by norm_num)
omit h in
theorem cst_26_is : Is0 (val_main_cst_26 (F := Ideal) ) (0) := by
  unfold val_main_cst_26
  exact Is0.const lit_zero
theorem v124_is : Is1 (a := 4096) (val_main_v124 (F := Ideal) x0 x1 x2 x3 x4 x5 x6 x7 x8) (fun p => ∑ k ∈ Finset.range 1, (((∑ k ∈ Finset.range 1024, ((D.x1 p k) * (D.dnx p k))) * (-(1/2) * (rs D.x1 p / ms D.x1 p))) / 1024)) := by
  unfold val_main_v124
  exact (v123_is h).hrowSum (cst_26_is) _ _
theorem v125_is : Is2 (a := 4096) (b := 1024) (val_main_v125 (F := Ideal) x0 x1 x2 x3 x4 x5 x6 x7 x8) (fun p _ => ∑ k ∈ Finset.range 1, (((∑ k ∈ Finset.range 1024, ((D.x1 p k) * (D.dnx p k))) * (-(1/2) * (rs D.x1 p / ms D.x1 p))) / 1024)) := by
  unfold val_main_v125
  exact (v124_is h).hcol _
theorem v126_is : Is2 (a := 4096) (b := 1024) (val_main_v126 (F := Ideal) x0 x1 x2 x3 x4 x5 x6 x7 x8) (fun p j => (D.x1 p j) * (∑ k ∈ Finset.range 1, (((∑ k ∈ Finset.range 1024, ((D.x1 p k) * (D.dnx p k))) * (-(1/2) * (rs D.x1 p / ms D.x1 p))) / 1024))) := by
  unfold val_main_v126
  exact (v13_is h).mul (v125_is h)
theorem v127_is : Is2 (a := 4096) (b := 1024) (val_main_v127 (F := Ideal) x0 x1 x2 x3 x4 x5 x6 x7 x8) (fun p j => ((D.dnx p j) * (rs D.x1 p)) + ((D.x1 p j) * (∑ k ∈ Finset.range 1, (((∑ k ∈ Finset.range 1024, ((D.x1 p k) * (D.dnx p k))) * (-(1/2) * (rs D.x1 p / ms D.x1 p))) / 1024)))) := by
  unfold val_main_v127
  exact (v120_is h).add (v126_is h)
theorem v128_is : Is2 (a := 4096) (b := 1024) (val_main_v128 (F := Ideal) x0 x1 x2 x3 x4 x5 x6 x7 x8) (fun p j => (∑ k ∈ Finset.range 1, (((∑ k ∈ Finset.range 1024, ((D.x1 p k) * (D.dnx p k))) * (-(1/2) * (rs D.x1 p / ms D.x1 p))) / 1024)) * (D.x1 p j)) := by
  unfold val_main_v128
  exact (v125_is h).mul (v13_is h)
theorem v129_is : Is2 (a := 4096) (b := 1024) (val_main_v129 (F := Ideal) x0 x1 x2 x3 x4 x5 x6 x7 x8) (fun p j => nback D.dnx D.n1 (rs D.x1) p j) := by
  unfold val_main_v129
  refine Is2.congr ((v127_is h).add (v128_is h)) fun p j hp _ => ?_
  beta_reduce
  exact nback_ref D.x1 D.dnx p j
theorem v130_is : Is2 (a := 4096) (b := 1024) (val_main_v130 (F := Ideal) x0 x1 x2 x3 x4 x5 x6 x7 x8) (fun p j => D.dx1 p j) := by
  unfold val_main_v130
  refine Is2.congr ((v92_is h).add (v129_is h)) fun p j hp _ => ?_
  rfl
theorem v131_is : Is2 (a := 4096) (b := 1024) (val_main_v131 (F := Ideal) x2) (fun _ j => D.mod 2 j) := by
  unfold val_main_v131
  exact (v6_is h).hrow _
theorem v132_is : Is2 (a := 4096) (b := 1024) (val_main_v132 (F := Ideal) x0 x1 x2 x3 x4 x5 x6 x7 x8) (fun p j => D.do1 p j) := by
  unfold val_main_v132
  refine Is2.congr ((v131_is h).mul (v130_is h)) fun p j hp _ => ?_
  beta_reduce
  simp only [Data.do1]; ring
theorem v133_is : Is2 (a := 4096) (b := 1024) (val_main_v133 (F := Ideal) x0 x1 x2 x3 x4 x5 x6 x7 x8) (fun p j => (D.dx1 p j) * (D.o1 p j)) := by
  unfold val_main_v133
  exact (v130_is h).mul (v10_is h)
omit h in
theorem cst_27_is : Is0 (val_main_cst_27 (F := Ideal) ) (0) := by
  unfold val_main_cst_27
  exact Is0.const lit_zero
theorem v134_is : Is1 (a := 1024) (val_main_v134 (F := Ideal) x0 x1 x2 x3 x4 x5 x6 x7 x8) (fun p => ∑ k ∈ Finset.range 4096, ((D.dx1 k p) * (D.o1 k p))) := by
  unfold val_main_v134
  exact (v133_is h).hcolSum (cst_27_is) _ _
theorem v135_is : Is2 (a := 1) (b := 1024) (val_main_v135 (F := Ideal) x0 x1 x2 x3 x4 x5 x6 x7 x8) (fun _ j => D.rows 4096 7 j) := by
  unfold val_main_v135
  refine Is2.congr ((v134_is h).asRow _) fun p j hp _ => ?_
  beta_reduce
  exact Finset.sum_congr rfl fun k _ => by simp only [Data.row] <;> ring
theorem v136_is : Is2 (a := 1024) (b := 1024) (val_main_v136 (F := Ideal) x0 x1 x2 x3 x4 x5 x6 x7 x8) (fun p j => ∑ k ∈ Finset.range 4096, (D.do1 k p) * (D.mg k j)) := by
  unfold val_main_v136
  exact (v132_is h).hdotTN (v0_is h) _
theorem v137_is : Is2 (a := 1024) (b := 1024) (val_main_v137 (F := Ideal) x0 x1 x2 x3 x4 x5 x6 x7 x8) (fun p j => D.dwo 4096 p j) := by
  unfold val_main_v137
  refine Is2.congr ((v136_is h).htranspose _) fun p j hp _ => ?_
  beta_reduce
  exact Finset.sum_congr rfl fun k _ => mul_comm _ _
theorem v138_is : Is2 (a := 4096) (b := 1024) (val_main_v138 (F := Ideal) x0 x1 x2 x3 x4 x5 x6 x7 x8) (fun p j => D.dmg p j) := by
  unfold val_main_v138
  refine Is2.congr ((v132_is h).hdotNT (v3_is h) _) fun p j hp _ => ?_
  rfl
omit h in
theorem cst_28_is : Is0 (val_main_cst_28 (F := Ideal) ) (0) := by
  unfold val_main_cst_28
  exact Is0.const lit_zero
theorem v139_is : Is1 (a := 1024) (val_main_v139 (F := Ideal) x0 x1 x2 x3 x4 x5 x6 x7 x8) (fun p => ∑ k ∈ Finset.range 4096, ((D.err k p) * (D.err k p))) := by
  unfold val_main_v139
  exact (v60_is h).hcolSum (cst_28_is) _ _
theorem v140_is : Is2 (a := 1) (b := 1024) (val_main_v140 (F := Ideal) x0 x1 x2 x3 x4 x5 x6 x7 x8) (fun _ j => D.rows 4096 5 j) := by
  unfold val_main_v140
  refine Is2.congr ((v139_is h).hrow _) fun p j hp _ => ?_
  rfl
theorem v141_is : Is2 (a := 1) (b := 1024) (val_main_v141 (F := Ideal) x0 x1 x2 x3 x4 x5 x6 x7 x8) (fun _ _ => D.loss) := by
  unfold val_main_v141
  exact (v67_is h).hsplat2 _ _
theorem v143_is : Is2 (a := 4096) (b := 1024) (val_main_v143 (F := Ideal) x0 x1 x2 x3 x6) (fun p j => D.h2 p j) := by
  unfold val_main_v143
  exact (v34_is h).trunc _
theorem v144_is : Is2 (a := 4096) (b := 2816) (val_main_v144 (F := Ideal) x0 x1 x2 x3 x4 x6) (fun p j => D.act p j) := by
  unfold val_main_v144
  exact (v39_is h).trunc _
theorem v145_is : Is2 (a := 4096) (b := 1024) (val_main_v145 (F := Ideal) x0 x1 x2 x3 x4 x5 x6 x7 x8) (fun p j => D.do2 p j) := by
  unfold val_main_v145
  exact (v94_is h).trunc _
theorem v146_is : Is2 (a := 4096) (b := 5632) (val_main_v146 (F := Ideal) x0 x1 x2 x3 x4 x5 x6 x7 x8) (fun p j => D.dgu p j) := by
  unfold val_main_v146
  exact (v102_is h).trunc _
theorem v147_is : Is2 (a := 4096) (b := 1024) (val_main_v147 (F := Ideal) x0 x1 x2 x3 x4 x5 x6 x7 x8) (fun p j => D.dx1 p j) := by
  unfold val_main_v147
  exact (v130_is h).trunc _
theorem v148_is : Is2 (a := 1024) (b := 1024) (val_main_v148 (F := Ideal) x0 x1 x2 x3 x4 x5 x6 x7 x8) (fun p j => D.dwo 4096 p j) := by
  unfold val_main_v148
  exact (v137_is h).trunc _
theorem v149_is : Is2 (a := 4096) (b := 1024) (val_main_v149 (F := Ideal) x0 x1 x2 x3 x4 x5 x6 x7 x8) (fun p j => D.dmg p j) := by
  unfold val_main_v149
  exact (v138_is h).trunc _
theorem v142_is : Is2 (a := 8) (b := 1024) (val_main_v142 (F := Ideal) x0 x1 x2 x3 x4 x5 x6 x7 x8) D.small := by
  unfold val_main_v142
  exact Is2.hstack (b := 1024) (v := ![val_main_v105 (F := Ideal) x0 x1 x2 x3 x4 x5 x6 x7 x8, val_main_v108 (F := Ideal) x0 x1 x2 x3 x4 x5 x6 x7 x8, val_main_v113 (F := Ideal) x0 x1 x2 x3 x4 x5 x6 x7 x8, val_main_v97 (F := Ideal) x0 x1 x2 x3 x4 x5 x6 x7 x8, val_main_v76 (F := Ideal) x0 x1 x2 x3 x4 x5 x6 x7 x8, val_main_v140 (F := Ideal) x0 x1 x2 x3 x4 x5 x6 x7 x8, val_main_v141 (F := Ideal) x0 x1 x2 x3 x4 x5 x6 x7 x8, val_main_v135 (F := Ideal) x0 x1 x2 x3 x4 x5 x6 x7 x8]) (fun q => by
    match q with
    | ⟨0, _⟩ => exact (v105_is h).congr fun _ _ _ _ => rfl
    | ⟨1, _⟩ => exact (v108_is h).congr fun _ _ _ _ => rfl
    | ⟨2, _⟩ => exact (v113_is h).congr fun _ _ _ _ => rfl
    | ⟨3, _⟩ => exact (v97_is h).congr fun _ _ _ _ => rfl
    | ⟨4, _⟩ => exact (v76_is h).congr fun _ _ _ _ => rfl
    | ⟨5, _⟩ => exact (v140_is h).congr fun _ _ _ _ => rfl
    | ⟨6, _⟩ => exact (v141_is h).congr fun _ _ _ _ => rfl
    | ⟨7, _⟩ => exact (v135_is h).congr fun _ _ _ _ => rfl) _
end Cert.ReferenceIdeal.Lines
end
-- ==== Proof.Equation.lean ====
/-
The kernel's eight outputs are the reference's, whenever the arguments hold no infinities.
-/
module
public import proofs.«01_k».proof.Proof.Arrays
public import proofs.«01_k».proof.Proof.Lines
public import proofs.«01_k».proof.Defs
@[expose] public section
noncomputable section
open Idealize.ShloMosaic Idealize.ShloMosaic.TcCoe Idealize.ShloMosaic.StableHlo

namespace Cert.Equation
open Cert.Reals Cert.Spec

/-- The precondition's side conditions. -/
theorem preFacts : Cert.Pre_finite.Facts where
  bcast_S_S4096x1024 := by decide
  bitsLt_bf16_f32 := by decide
  bcast_S_S8x1024 := by decide
  bcast_S_S1x1024 := by decide
  bcast_S_S1024x5632 := by decide
  bcast_S_S2816x1024 := by decide
  bcast_S_S1024x1024 := by decide

/-- Both programs end with the same eight arrays. -/
theorem equation [Cert.Pre_finite.Facts] : Cert.algebraic_KernelIdeal_ReferenceIdeal_pre_finite
    (hKernelIdeal := Cert.KernelIdeal.Gen.facts) (hReferenceIdeal := Cert.ReferenceIdeal.Gen.facts) := by
  intro m g m' g' hpre harg
  have hk := fun c => Cert.KernelIdeal.Inputs.args_of_pre m c hpre
  have hr : ∀ c : Dev Cert.KernelIdeal.nD, Cert.ReferenceIdeal.Lines.RArgs (Cert.KernelIdeal.Inputs.data m c)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8)) := fun c => by
    obtain ⟨e0, e1, e2, e3, e4, e5, e6, e7, e8⟩ := harg c
    rw [e0, e1, e2, e3, e4, e5, e6, e7, e8]
    exact ⟨(hk c).a0, (hk c).a1, (hk c).a2, (hk c).a3, (hk c).a4, (hk c).a5, (hk c).a6, (hk c).a7, (hk c).a8⟩
  refine ⟨_, _, _, _, _, _, _, _, Cert.KernelIdeal.Value.run m g, ?_⟩
  refine (θ_run _ _ _).mono (fun r h c => ?_) (Cert.ReferenceIdeal.Value.run m' g')
  obtain ⟨h0, h1, h2, h3, h4, h5, h6, h7, hrest⟩ := h c
  exact ⟨h0.trans ((Cert.ReferenceIdeal.Read.val_main_v143_eq _).trans ((Cert.ReferenceIdeal.Lines.v143_is (hr c)).unique (Cert.KernelIdeal.Arrays.g10 (hk c)))),
    h1.trans ((Cert.ReferenceIdeal.Read.val_main_v144_eq _).trans ((Cert.ReferenceIdeal.Lines.v144_is (hr c)).unique (Cert.KernelIdeal.Arrays.g11 (hk c)))),
    h2.trans ((Cert.ReferenceIdeal.Read.val_main_v145_eq _).trans ((Cert.ReferenceIdeal.Lines.v145_is (hr c)).unique (Cert.KernelIdeal.Arrays.g12 (hk c)))),
    h3.trans ((Cert.ReferenceIdeal.Read.val_main_v146_eq _).trans ((Cert.ReferenceIdeal.Lines.v146_is (hr c)).unique (Cert.KernelIdeal.Arrays.g13 (hk c)))),
    h4.trans ((Cert.ReferenceIdeal.Read.val_main_v147_eq _).trans ((Cert.ReferenceIdeal.Lines.v147_is (hr c)).unique (Cert.KernelIdeal.Arrays.g14 (hk c)))),
    h5.trans ((Cert.ReferenceIdeal.Read.val_main_v148_eq _).trans ((Cert.ReferenceIdeal.Lines.v148_is (hr c)).unique (Cert.KernelIdeal.Arrays.g15 (hk c)))),
    h6.trans ((Cert.ReferenceIdeal.Read.val_main_v149_eq _).trans ((Cert.ReferenceIdeal.Lines.v149_is (hr c)).unique (Cert.KernelIdeal.Arrays.g16 (hk c)))),
    h7.trans ((Cert.ReferenceIdeal.Read.val_main_v142_eq _).trans ((Cert.ReferenceIdeal.Lines.v142_is (hr c)).unique (Cert.KernelIdeal.Arrays.g17 (hk c)))),
    hrest⟩
end Cert.Equation
end
-- ==== Proof.Sums.lean ====
/-
Matrices of extended reals given by a plain function of row and column, and their products in two halves of the rows.
No finiteness is needed: addition of extended reals is commutative and associative.
-/
module
public import proofs.«01_k».proof.Proof.Loads
@[expose] public section
noncomputable section
open Idealize.ShloMosaic
open scoped BigOperators

namespace Cert.Sums
open Cert.Reals

/-- The matrix holds the extended reals `f`. -/
def Ex2 {a b : ℕ} (v : (⟨2, ![a, b]⟩ : Shape).Idx → EReal) (f : ℕ → ℕ → EReal) : Prop :=
  ∀ (p : Fin a) (j : Fin b), v (ValueIdx.ix2 p j) = f p.val j.val
/-- The entries of a matrix, zero outside of it. -/
def entries {a b : ℕ} (v : (⟨2, ![a, b]⟩ : Shape).Idx → EReal) (p j : ℕ) : EReal :=
  if h : p < a ∧ j < b then v (ValueIdx.ix2 ⟨p, h.1⟩ ⟨j, h.2⟩) else 0
theorem entries_is {a b : ℕ} (v : (⟨2, ![a, b]⟩ : Shape).Idx → EReal) : Ex2 v (entries v) := fun p j => by
  unfold entries; rw [dif_pos ⟨p.isLt, j.isLt⟩]

variable {a b k n m : ℕ} {f g : ℕ → ℕ → EReal}
theorem Ex2.congr {v : (⟨2, ![a, b]⟩ : Shape).Idx → EReal} (hv : Ex2 v f) (h : ∀ p j, p < a → j < b → f p j = g p j) : Ex2 v g :=
  fun p j => (hv p j).trans (h _ _ p.isLt j.isLt)
theorem Ex2.fst {β : Type} {x : ((⟨2, ![a, b]⟩ : Shape).Idx → EReal) × β} {v : (⟨2, ![a, b]⟩ : Shape).Idx → EReal} {w : β} (h : x = (v, w)) (hv : Ex2 v f) : Ex2 x.1 f := by
  subst h; exact hv
theorem Ex2.snd {β : Type} {x : β × ((⟨2, ![a, b]⟩ : Shape).Idx → EReal)} {v : β} {w : (⟨2, ![a, b]⟩ : Shape).Idx → EReal} (h : x = (v, w)) (hw : Ex2 w f) : Ex2 x.2 f := by
  subst h; exact hw
theorem Ex2.unique {v w : (⟨2, ![a, b]⟩ : Shape).Idx → EReal} (hv : Ex2 v f) (hw : Ex2 w f) : v = w := funext fun x => by
  rw [ValueIdx.eq_ix2 x]; exact (hv _ _).trans (hw _ _).symm
theorem Ex2.self {v : (⟨2, ![a, b]⟩ : Shape).Idx → EReal} (hv : Ex2 v f) (h : (⟨2, ![a, b]⟩ : Shape).ShapeCasts ⟨2, ![a, b]⟩) :
    Ex2 (shapeCast ⟨2, ![a, b]⟩ v h) f := by
  rwa [shapeCast_self]
theorem Ex2.add {φ : FTy} {v w : FVec Ideal ⟨2, ![a, b]⟩ φ} (hv : Ex2 v f) (hw : Ex2 w g) : Ex2 (addf v w) (fun p j => f p j + g p j) := fun p j => by
  rw [addf_apply, hv, hw]; rfl

/-- The product over the rows `lo … lo + n` of two matrices. -/
def part (f g : ℕ → ℕ → EReal) (lo n i j : ℕ) : EReal := ∑ q ∈ Finset.range n, f (lo + q) i * g (lo + q) j
theorem part_add (f g : ℕ → ℕ → EReal) (n m i j : ℕ) : part f g 0 (n + m) i j = part f g 0 n i j + part f g n m i j := by
  unfold part; rw [Finset.sum_range_add]; simp only [Nat.zero_add]

theorem sumTN {lhs : (⟨2, ![k, a]⟩ : Shape).Idx → EReal} {rhs : (⟨2, ![k, b]⟩ : Shape).Idx → EReal} (hv : Ex2 lhs f) (hw : Ex2 rhs g)
    (wf : DotDims.WF ⟨2, ![k, a]⟩ ⟨2, ![k, b]⟩ ⟨2, ![a, b]⟩ [0] [0] [1] [1] [] []) (p : Fin a) (j : Fin b) :
    ∑ q : ((⟨[0], [0], [1], [1], [], [], wf⟩ : DotDims ⟨2, ![k, a]⟩ ⟨2, ![k, b]⟩ ⟨2, ![a, b]⟩)).contr.Idx,
      lhs ((⟨[0], [0], [1], [1], [], [], wf⟩ : DotDims ⟨2, ![k, a]⟩ ⟨2, ![k, b]⟩ ⟨2, ![a, b]⟩).lhsIdx (ValueIdx.ix2 p j) q) * rhs ((⟨[0], [0], [1], [1], [], [], wf⟩ : DotDims ⟨2, ![k, a]⟩ ⟨2, ![k, b]⟩ ⟨2, ![a, b]⟩).rhsIdx (ValueIdx.ix2 p j) q)
      = ∑ q ∈ Finset.range k, f q p.val * g q j.val := by
  have hk := fun q : Fin k => ValueIdx.contrEquiv1_symm_val (⟨[0], [0], [1], [1], [], [], wf⟩ : DotDims ⟨2, ![k, a]⟩ ⟨2, ![k, b]⟩ ⟨2, ![a, b]⟩) k rfl rfl q
  rw [contr_sum (n := k) _ rfl rfl lhs rhs _ (fun q => ValueIdx.ix2 q p) (fun q => ValueIdx.ix2 q j)
    (fun q => funext fun x => Fin.ext (by
      match x with
      | ⟨0, _⟩ => exact hk q
      | ⟨1, _⟩ => exact rfl))
    (fun q => funext fun x => Fin.ext (by
      match x with
      | ⟨0, _⟩ => exact hk q
      | ⟨1, _⟩ => exact rfl)), Finset.sum_range]
  exact Finset.sum_congr rfl fun q _ => by rw [hv q p, hw q j]
theorem Ex2.dotTN {φ φ' : FTy} {v : FVec Ideal ⟨2, ![k, a]⟩ φ} {w : FVec Ideal ⟨2, ![k, b]⟩ φ'} (hv : Ex2 v f) (hw : Ex2 w g)
    (wf : DotDims.WF ⟨2, ![k, a]⟩ ⟨2, ![k, b]⟩ ⟨2, ![a, b]⟩ [0] [0] [1] [1] [] []) :
    Ex2 (matmul ⟨[0], [0], [1], [1], [], [], wf⟩ none v w (constant ⟨2, ![a, b]⟩ .f32 0x00000000#32)) (fun p j => ∑ q ∈ Finset.range k, f q p * g q j) := fun p j => by
  refine (Ideal.matmul_constant_zero_apply _ none v w _).trans ?_
  exact sumTN hv hw wf p j
/-- The reference's product of the transposed right array with the left one, transposed back: the same sums. -/
theorem Ex2.hdotTN {φ φ' : FTy} {v : FVec Ideal ⟨2, ![k, a]⟩ φ} {w : FVec Ideal ⟨2, ![k, b]⟩ φ'} (hv : Ex2 v f) (hw : Ex2 w g)
    (wf : DotDims.WF ⟨2, ![k, a]⟩ ⟨2, ![k, b]⟩ ⟨2, ![a, b]⟩ [0] [0] [1] [1] [] []) :
    Ex2 (Host.dotGeneral ⟨[0], [0], [1], [1], [], [], wf⟩ none v w) (fun p j => ∑ q ∈ Finset.range k, f q p * g q j) := fun p j => by
  simp only [Host.dotGeneral]
  rw [Ideal.dotGeneral_apply]
  exact sumTN hv hw wf p j
theorem Ex2.htranspose {v : (⟨2, ![a, b]⟩ : Shape).Idx → EReal} (hv : Ex2 v f) (h : (⟨2, ![a, b]⟩ : Shape).Transposes [1, 0] ⟨2, ![b, a]⟩) :
    Ex2 (transpose ⟨2, ![b, a]⟩ [1, 0] v h) (fun p j => f j p) := fun p j => by
  rw [transpose_apply [1, 0] v h (ValueIdx.ix2 p j) (ValueIdx.ix2 j p) (fun x => by
    match x with
    | ⟨0, _⟩ => rfl
    | ⟨1, _⟩ => rfl)]
  exact hv j p

section mem
variable {sig : RefSig} {κ : Kind} {sp : Space}
theorem rect_all (inb : ∀ a, (![0, 0] : Fin 2 → ℕ) a + (![m, n] : Fin 2 → ℕ) a ≤ (⟨2, ![m, n]⟩ : Shape).size a) (p : Fin m) (j : Fin n) :
    (Rect.unit (s := ⟨2, ![m, n]⟩) ![0, 0] ![m, n] inb).idx (ValueIdx.ix2 p j) = ValueIdx.ix2 p j :=
  funext fun x => Fin.ext (by
    match x with
    | ⟨0, _⟩ => show 0 + 1 * p.val = p.val; omega
    | ⟨1, _⟩ => show 0 + 1 * j.val = j.val; omega)
/-- A load of a whole array. -/
theorem Ex2.load {arg : Memref sig κ sp ⟨2, ![m, n]⟩ .f32} (harg : arg.IsWhole) {x : Vec Ideal ⟨2, ![m, n]⟩ .f32} (hx : Ex2 x f)
    (inb : ∀ a, (![0, 0] : Fin 2 → ℕ) a + (![m, n] : Fin 2 → ℕ) a ≤ (⟨2, ![m, n]⟩ : Shape).size a) :
    Ex2 (View.readAt (Elt Ideal) arg.view (Rect.unit (s := ⟨2, ![m, n]⟩) ![0, 0] ![m, n] inb).toLoadRect (harg.unread x)) f := by
  rw [View.readAt_eq_ld, harg.read_unread]
  exact fun p j => (congrArg x (rect_all inb p j)).trans (hx p j)
/-- A store of a whole array over anything. -/
theorem Ex2.store (v : View sig κ sp (⟨2, ![m, n]⟩ : Shape) .f32) (z : v.ty.Contents (Elt Ideal)) {L : List (View.Piece (Elt Ideal) (⟨2, ![m, n]⟩ : Shape) .f32)}
    (inb : ∀ a, (![0, 0] : Fin 2 → ℕ) a + (![m, n] : Fin 2 → ℕ) a ≤ (⟨2, ![m, n]⟩ : Shape).size a) {w : Vec Ideal ⟨2, ![m, n]⟩ .f32} (hw : Ex2 w f) :
    Ex2 (v.read (Elt Ideal) (v.writes (Elt Ideal) z ((⟨Rect.unit (s := ⟨2, ![m, n]⟩) ![0, 0] ![m, n] inb, w⟩ : View.Piece (Elt Ideal) (⟨2, ![m, n]⟩ : Shape) .f32) :: L))) f := fun p j => by
  rw [View.read_writes_cons_rows_of_mem v z inb w L (ValueIdx.ix2 p j) (ValueIdx.ix2 p j) rfl (by show p.val = 0 + p.val; omega) rfl]
  exact hw p j
/-- A whole array read back from the stores before it. -/
theorem Ex2.readBack (v : View sig κ sp (⟨2, ![m, n]⟩ : Shape) .f32) {L : List (View.Piece (Elt Ideal) (⟨2, ![m, n]⟩ : Shape) .f32)} (hL : Ex2 (v.read (Elt Ideal) (v.writes (Elt Ideal) v.junk L)) f)
    (inb : ∀ a, (![0, 0] : Fin 2 → ℕ) a + (![m, n] : Fin 2 → ℕ) a ≤ (⟨2, ![m, n]⟩ : Shape).size a) :
    Ex2 (v.readCov (Val := Elt Ideal) L (Rect.unit (s := ⟨2, ![m, n]⟩) ![0, 0] ![m, n] inb).toLoadRect) f :=
  fun p j => (congrArg (v.read (Elt Ideal) (v.writes (Elt Ideal) v.junk L)) (rect_all inb p j)).trans (hL p j)
/-- A load of a whole array. -/
theorem Ex2.loadb {arg : Memref sig κ sp ⟨2, ![m, n]⟩ .bf16} (harg : arg.IsWhole) {x : Vec Ideal ⟨2, ![m, n]⟩ .bf16} (hx : Ex2 x f)
    (inb : ∀ a, (![0, 0] : Fin 2 → ℕ) a + (![m, n] : Fin 2 → ℕ) a ≤ (⟨2, ![m, n]⟩ : Shape).size a) :
    Ex2 (View.readAt (Elt Ideal) arg.view (Rect.unit (s := ⟨2, ![m, n]⟩) ![0, 0] ![m, n] inb).toLoadRect (harg.unread x)) f := by
  rw [View.readAt_eq_ld, harg.read_unread]
  exact fun p j => (congrArg x (rect_all inb p j)).trans (hx p j)
/-- A store of a whole array over anything. -/
theorem Ex2.storeb (v : View sig κ sp (⟨2, ![m, n]⟩ : Shape) .bf16) (z : v.ty.Contents (Elt Ideal)) {L : List (View.Piece (Elt Ideal) (⟨2, ![m, n]⟩ : Shape) .bf16)}
    (inb : ∀ a, (![0, 0] : Fin 2 → ℕ) a + (![m, n] : Fin 2 → ℕ) a ≤ (⟨2, ![m, n]⟩ : Shape).size a) {w : Vec Ideal ⟨2, ![m, n]⟩ .bf16} (hw : Ex2 w f) :
    Ex2 (v.read (Elt Ideal) (v.writes (Elt Ideal) z ((⟨Rect.unit (s := ⟨2, ![m, n]⟩) ![0, 0] ![m, n] inb, w⟩ : View.Piece (Elt Ideal) (⟨2, ![m, n]⟩ : Shape) .bf16) :: L))) f := fun p j => by
  rw [View.read_writes_cons_rows_of_mem v z inb w L (ValueIdx.ix2 p j) (ValueIdx.ix2 p j) rfl (by show p.val = 0 + p.val; omega) rfl]
  exact hw p j
end mem
end Cert.Sums
end
-- ==== Proof.DownProduct.lean ====
/-
The down projection's weight gradient: the kernel adds the products of two halves of the tokens, one block of 1408 rows of the result after the other; the
result is the product over all the tokens.
-/
module
public import proofs.«01_k».proof.Proof.Sums
public import proofs.«01_k».proof.Defs
public import proofs.«01_k».proof.Proof.Gen.DownIdeal.Value
public import proofs.«01_k».proof.Proof.Gen.DownReferenceIdeal.Run
public import proofs.«01_k».proof.Proof.Gen.DownReferenceIdeal.Read
@[expose] public section
noncomputable section
open Idealize.ShloMosaic Idealize.ShloMosaic.TcCoe Idealize.ShloMosaic.StableHlo Idealize.SL.Sem
open scoped BigOperators

namespace Cert.DownIdeal.Product
open Cert.DownIdeal Cert.DownIdeal.Gen Cert.DownIdeal.Value Cert.Sums
variable {f g G : ℕ → ℕ → EReal}

/-! ## One point -/
theorem zero_is : Ex2 (k0_pay1 (F := Ideal)) (fun _ _ => 0) := by
  have h : Ex2 (broadcast (⟨2, ![1408, 1024]⟩ : Shape) (Ideal.ofBits .f32 0x00000000#32)) (fun _ _ => 0) := fun _ _ => Cert.Reals.lit_zero.trans EReal.coe_zero
  unfold k0_pay1
  exact h.self _
section
variable {v3 : Vec Ideal S1408x1024 .f32} {v4 : Vec Ideal S2048x1408 .bf16} {v5 : Vec Ideal S2048x1024 .bf16}
theorem sum_is (h3 : Ex2 v3 G) (h4 : Ex2 v4 f) (h5 : Ex2 v5 g) : Ex2 (k0_pay2 v3 v4 v5) (fun i j => G i j + ∑ q ∈ Finset.range 2048, f q i * g q j) := by
  unfold k0_pay2
  exact h3.add (Ex2.dotTN (φ := .bf16) (φ' := .bf16) h4 h5 _)
theorem sums_is (h3 : Ex2 v3 G) (h4 : Ex2 v4 f) (h5 : Ex2 v5 g) : Ex2 (k0_pay3 v3 v4 v5) (fun i j => G i j + ∑ q ∈ Finset.range 2048, f q i * g q j) := by
  unfold k0_pay3
  exact (sum_is h3 h4 h5).self _
theorem sumo_is (h3 : Ex2 v3 G) (h4 : Ex2 v4 f) (h5 : Ex2 v5 g) : Ex2 (k0_pay4 v3 v4 v5) (fun i j => G i j + ∑ q ∈ Finset.range 2048, f q i * g q j) := by
  unfold k0_pay4
  exact sum_is h3 h4 h5
end
variable {c : Dev nD} {i : grid0.Coords} {arg2 : Memref sig .tc .vmem S2048x1408 .bf16} {harg2 : arg2.IsWhole} {arg3 : Memref sig .tc .vmem S2048x1024 .bf16} {harg3 : arg3.IsWhole}
  {arg5 : Memref sig .tc .vmem S1408x1024 .bf16} {harg5 : arg5.IsWhole} {arg6 : Memref sig .tc .vmem S1408x1024 .f32} {harg6 : arg6.IsWhole}
  {x0 : Vec Ideal S2048x1408 .bf16} {x1 : Vec Ideal S2048x1024 .bf16} {xs0 : Vec Ideal S1408x1024 .f32}
/-- The first half's point leaves its products in the scratch. -/
theorem first (hc0 : cond0_0 i) (h0 : Ex2 x0 f) (h1 : Ex2 x1 g) :
    Ex2 (sout0_A_0 (F := Ideal) c i arg2 harg2 arg3 harg3 arg5 harg5 arg6 harg6 hc0 x0 x1) (fun i j => ∑ q ∈ Finset.range 2048, f q i * g q j) := by
  unfold sout0_A_0 kernelRun0_A
  exact (Ex2.store _ _ _ (sums_is (Ex2.readBack arg6.view (Ex2.store arg6.view _ (L := []) _ zero_is) _) (h0.loadb harg2 _) (h1.loadb harg3 _))).congr fun i j _ _ => zero_add _
/-- The second half's point writes the sum of the scratch and its products. -/
theorem second (hc0 : ¬ cond0_0 i) (h0 : Ex2 x0 f) (h1 : Ex2 x1 g) (hs : Ex2 xs0 G) :
    Ex2 (out0_B_2 (F := Ideal) c i arg2 harg2 arg3 harg3 arg5 harg5 arg6 harg6 hc0 x0 x1 xs0) (fun i j => G i j + ∑ q ∈ Finset.range 2048, f q i * g q j) := by
  unfold out0_B_2 kernelRun0_B
  exact Ex2.storeb _ _ _ (sumo_is (hs.load harg6 _) (h0.loadb harg2 _) (h1.loadb harg3 _))

/-! ## The blocks -/
variable (m : (ℓ : Loc nD τ sig) → Buf (Elt Ideal) ℓ)
abbrev left (c : Dev nD) : S4096x2816.Idx → EReal := m ((c.tc : Thread nD τ).loc main_arg1)
abbrev right (c : Dev nD) : S4096x1024.Idx → EReal := m ((c.tc : Thread nD τ).loc main_arg2)
theorem index0 : ∀ t : Fin cfg0.N, win0_0.index t 0 = t.val % 2 ∧ win0_0.index t 1 = t.val / 2 := (by decide +kernel : ∀ t : Fin grid0.N, _)
theorem index1 : ∀ t : Fin cfg0.N, win0_1.index t 0 = t.val % 2 ∧ win0_1.index t 1 = 0 := (by decide +kernel : ∀ t : Fin grid0.N, _)
theorem index2 : ∀ t : Fin cfg0.N, win0_2.index t 0 = t.val / 2 ∧ win0_2.index t 1 = 0 := (by decide +kernel : ∀ t : Fin grid0.N, _)
/-- The left window at point `t`: half `t % 2` of the rows, block `t / 2` of the columns. -/
theorem block0 (c : Dev nD) (t : Fin cfg0.N) :
    Ex2 (iblk m c 0 t : S2048x1408.Idx → EReal) (fun r i => entries (left m c) (2048 * (t.val % 2) + r) (1408 * (t.val / 2) + i)) := fun r j => by
  have hi := index0 t
  have hN : t.val < 4 := lt_of_lt_of_eq t.isLt N_0
  have hr : 2048 * (t.val % 2) + r.val < 4096 := by have := r.isLt; omega
  have hj : 1408 * (t.val / 2) + j.val < 2816 := by have := j.isLt; omega
  refine Eq.trans ?_ (entries_is (left m c) ⟨_, hr⟩ ⟨_, hj⟩)
  unfold iblk
  rw [View.read_apply]
  show V m c main_arg1 _ = left m c _
  rw [V_main_arg1]
  show left m c _ = left m c _
  congr 1
  funext a
  apply Fin.ext
  match a with
  | ⟨0, _⟩ => show win0_0.index t 0 * 2048 + 1 * r.val = 2048 * (t.val % 2) + r.val; rw [hi.1]; omega
  | ⟨1, _⟩ => show win0_0.index t 1 * 1408 + 1 * j.val = 1408 * (t.val / 2) + j.val; rw [hi.2]; omega
/-- The right window at point `t`: half `t % 2` of the rows. -/
theorem block1 (c : Dev nD) (t : Fin cfg0.N) :
    Ex2 (iblk m c 1 t : S2048x1024.Idx → EReal) (fun r i => entries (right m c) (2048 * (t.val % 2) + r) i) := fun r j => by
  have hi := index1 t
  have hr : 2048 * (t.val % 2) + r.val < 4096 := by have := r.isLt; omega
  refine Eq.trans ?_ (entries_is (right m c) ⟨_, hr⟩ j)
  unfold iblk
  rw [View.read_apply]
  show V m c main_arg2 _ = right m c _
  rw [V_main_arg2]
  show right m c _ = right m c _
  congr 1
  funext a
  apply Fin.ext
  match a with
  | ⟨0, _⟩ => show win0_1.index t 0 * 2048 + 1 * r.val = 2048 * (t.val % 2) + r.val; rw [hi.1]; omega
  | ⟨1, _⟩ => show win0_1.index t 1 * 1024 + 1 * j.val = j.val; rw [hi.2]; omega

/-- The whole product. -/
def total (c : Dev nD) (i j : ℕ) : EReal := part (entries (left m c)) (entries (right m c)) 0 4096 i j
theorem halves (c : Dev nD) (i j : ℕ) : total m c i j
    = (∑ q ∈ Finset.range 2048, entries (left m c) q i * entries (right m c) q j)
      + ∑ q ∈ Finset.range 2048, entries (left m c) (2048 + q) i * entries (right m c) (2048 + q) j :=
  (part_add _ _ 2048 2048 i j).trans (by unfold part; simp only [Nat.zero_add])

/-- What the second point of a pair writes: its block of the product. -/
theorem written (c : Dev nD) (t : Fin cfg0.N) (h : t.val % 2 = 1) :
    Ex2 ((outsAt0 m c t.val t.isLt).1 : S1408x1024.Idx → EReal) (fun i j => total m c (1408 * (t.val / 2) + i) j) := by
  have hl : t.val - 1 < cfg0.N := Nat.lt_of_le_of_lt (Nat.sub_le _ _) t.isLt
  have e0 : (t.val - 1) % 2 = 0 := by omega
  have e1 : (t.val - 1) / 2 = t.val / 2 := by omega
  have hs : Ex2 ((outsAt0 m c (t.val - 1) hl).2 : S1408x1024.Idx → EReal)
      (fun i j => ∑ q ∈ Finset.range 2048, entries (left m c) q (1408 * (t.val / 2) + i) * entries (right m c) q j) := by
    refine Ex2.snd (outsAt0_A m c ⟨t.val - 1, hl⟩ e0) ((first _ (block0 m c ⟨t.val - 1, hl⟩) (block1 m c ⟨t.val - 1, hl⟩)).congr fun i j _ _ => ?_)
    dsimp only
    rw [e0, e1]
    simp only [Nat.mul_zero, Nat.zero_add]
  have h0 : ¬ t.val % 2 = 0 := by omega
  refine Ex2.fst (outsAt0_B m c t h0) ((second _ (block0 m c t) (block1 m c t) hs).congr fun i j _ _ => ?_)
  rw [h, halves]

/-- The array the kernel leaves. -/
def product (c : Dev nD) : S2816x1024.Idx → EReal := fun i => total m c (i 0).val (i 1).val
theorem flushed_eq (c : Dev nD) (t : Fin cfg0.N) (hf : (cfg0.win 2).flush t = true) :
    (dats m 0 c).flushed 2 t = ((cfg0.win 2).blk t).view.read (Elt Ideal) (product m c) := by
  have hm : t.val % 2 = 1 := (flush0_2 t).mp hf
  have hi := index2 t
  rw [flushed2]
  funext y
  obtain ⟨p, j, rfl⟩ : ∃ (p : Fin 1408) (j : Fin 1024), y = ValueIdx.ix2 p j := ⟨y 0, y 1, ValueIdx.eq_ix2 y⟩
  refine (written m c t hm p j).trans ?_
  rw [View.read_apply]
  show total m c (1408 * (t.val / 2) + p.val) j.val = total m c (((cfg0.win 2).blk t).view.emb (ValueIdx.ix2 p j) 0).val (((cfg0.win 2).blk t).view.emb (ValueIdx.ix2 p j) 1).val
  congr 1
  · show 1408 * (t.val / 2) + p.val = win0_2.index t 0 * 1408 + 1 * p.val; rw [hi.1]; omega
  · show j.val = win0_2.index t 1 * 1024 + 1 * j.val; rw [hi.2]; omega
theorem covered (t : Fin cfg0.N) (i : S2816x1024.Idx) (h : t.val / 2 = (i 0).val / 1408) : i ∈ ((cfg0.win 2).blk t).view.set := by
  have hi := index2 t
  have h1 : (i 1).val < 1024 := (i 1).isLt
  show i ∈ ((View.whole main_v0).slice (win0_2.rect t)).set
  rw [View.set_slice_whole, Rect.mem_set_unit]
  intro a
  match a with
  | ⟨0, _⟩ =>
    show win0_2.index t 0 * 1408 ≤ (i 0).val ∧ (i 0).val < win0_2.index t 0 * 1408 + 1408
    rw [hi.1]; omega
  | ⟨1, _⟩ =>
    show win0_2.index t 1 * 1024 ≤ (i 1).val ∧ (i 1).val < win0_2.index t 1 * 1024 + 1024
    rw [hi.2]; omega
/-- The result array is the product. -/
theorem final (c : Dev nD) : (dats m 0 c).arrAt 2 cfg0.N = product m c :=
  (dats m 0 c).arrAt_eq_of_cover 2 _ (fun t hf => flushed_eq m c t hf) (fun i => by
    have h0 : (i 0).val < 2816 := (i 0).isLt
    have hq : 2 * ((i 0).val / 1408) + 1 < cfg0.N := lt_of_lt_of_eq (show 2 * ((i 0).val / 1408) + 1 < 4 by omega) N_0.symm
    exact ⟨⟨2 * ((i 0).val / 1408) + 1, hq⟩, (flush0_2 _).mpr (by show (2 * ((i 0).val / 1408) + 1) % 2 = 1; omega),
      covered _ i (by show (2 * ((i 0).val / 1408) + 1) / 2 = (i 0).val / 1408; omega)⟩)
theorem product_is (c : Dev nD) : Ex2 (product m c : S2816x1024.Idx → EReal) (total m c) := fun _ _ => rfl

end Cert.DownIdeal.Product

namespace Cert.Products
open Cert.Sums
/-- The down projection's weight gradient: the kernel and the reference end with the same array. -/
theorem down_equation : Cert.algebraic_DownIdeal_DownReferenceIdeal
    (hDownIdeal := Cert.DownIdeal.Gen.facts) (hDownReferenceIdeal := Cert.DownReferenceIdeal.Gen.facts) := by
  intro m g m' g' _ harg
  refine ⟨fun c => Cert.DownIdeal.Product.product m c, ?_, ?_⟩
  · exact (θ_run _ _ _).mono (fun r h c => ⟨(h c).1.trans (Cert.DownIdeal.Product.final m c), (h c).2⟩) (Cert.DownIdeal.Value.run_blocks m g)
  · refine (θ_run _ _ _).mono (fun r h c => ⟨(h c).1.trans ?_, (h c).2⟩) (Cert.DownReferenceIdeal.Value.run m' g')
    obtain ⟨_, ea, eb⟩ := harg c
    rw [ea, eb]
    exact ((Ex2.htranspose (Ex2.hdotTN (φ := .f32) (φ' := .f32) (entries_is (Cert.DownIdeal.Product.right m c)) (entries_is (Cert.DownIdeal.Product.left m c)) _) _).congr (fun i j _ _ => by
      unfold Cert.DownIdeal.Product.total part; exact Finset.sum_congr rfl fun q _ => by rw [Nat.zero_add, mul_comm])).unique (Cert.DownIdeal.Product.product_is m c)
end Cert.Products
end
-- ==== Proof.GateUpProduct.lean ====
/-
The gate and up projection's weight gradient: the kernel adds the products of two halves of the tokens, one block of 1408 rows of the result after the other; the
result is the product over all the tokens.
-/
module
public import proofs.«01_k».proof.Proof.Sums
public import proofs.«01_k».proof.Defs
public import proofs.«01_k».proof.Proof.Gen.GateUpIdeal.Value
public import proofs.«01_k».proof.Proof.Gen.GateUpReferenceIdeal.Run
public import proofs.«01_k».proof.Proof.Gen.GateUpReferenceIdeal.Read
@[expose] public section
noncomputable section
open Idealize.ShloMosaic Idealize.ShloMosaic.TcCoe Idealize.ShloMosaic.StableHlo Idealize.SL.Sem
open scoped BigOperators

namespace Cert.GateUpIdeal.Product
open Cert.GateUpIdeal Cert.GateUpIdeal.Gen Cert.GateUpIdeal.Value Cert.Sums
variable {f g G : ℕ → ℕ → EReal}

/-! ## One point -/
theorem zero_is : Ex2 (k0_pay1 (F := Ideal)) (fun _ _ => 0) := by
  have h : Ex2 (broadcast (⟨2, ![1408, 1024]⟩ : Shape) (Ideal.ofBits .f32 0x00000000#32)) (fun _ _ => 0) := fun _ _ => Cert.Reals.lit_zero.trans EReal.coe_zero
  unfold k0_pay1
  exact h.self _
section
variable {v3 : Vec Ideal S1408x1024 .f32} {v4 : Vec Ideal S2048x1408 .bf16} {v5 : Vec Ideal S2048x1024 .bf16}
theorem sum_is (h3 : Ex2 v3 G) (h4 : Ex2 v4 f) (h5 : Ex2 v5 g) : Ex2 (k0_pay2 v3 v4 v5) (fun i j => G i j + ∑ q ∈ Finset.range 2048, f q i * g q j) := by
  unfold k0_pay2
  exact h3.add (Ex2.dotTN (φ := .bf16) (φ' := .bf16) h4 h5 _)
theorem sums_is (h3 : Ex2 v3 G) (h4 : Ex2 v4 f) (h5 : Ex2 v5 g) : Ex2 (k0_pay3 v3 v4 v5) (fun i j => G i j + ∑ q ∈ Finset.range 2048, f q i * g q j) := by
  unfold k0_pay3
  exact (sum_is h3 h4 h5).self _
theorem sumo_is (h3 : Ex2 v3 G) (h4 : Ex2 v4 f) (h5 : Ex2 v5 g) : Ex2 (k0_pay4 v3 v4 v5) (fun i j => G i j + ∑ q ∈ Finset.range 2048, f q i * g q j) := by
  unfold k0_pay4
  exact sum_is h3 h4 h5
end
variable {c : Dev nD} {i : grid0.Coords} {arg2 : Memref sig .tc .vmem S2048x1408 .bf16} {harg2 : arg2.IsWhole} {arg3 : Memref sig .tc .vmem S2048x1024 .bf16} {harg3 : arg3.IsWhole}
  {arg5 : Memref sig .tc .vmem S1408x1024 .bf16} {harg5 : arg5.IsWhole} {arg6 : Memref sig .tc .vmem S1408x1024 .f32} {harg6 : arg6.IsWhole}
  {x0 : Vec Ideal S2048x1408 .bf16} {x1 : Vec Ideal S2048x1024 .bf16} {xs0 : Vec Ideal S1408x1024 .f32}
/-- The first half's point leaves its products in the scratch. -/
theorem first (hc0 : cond0_0 i) (h0 : Ex2 x0 f) (h1 : Ex2 x1 g) :
    Ex2 (sout0_A_0 (F := Ideal) c i arg2 harg2 arg3 harg3 arg5 harg5 arg6 harg6 hc0 x0 x1) (fun i j => ∑ q ∈ Finset.range 2048, f q i * g q j) := by
  unfold sout0_A_0 kernelRun0_A
  exact (Ex2.store _ _ _ (sums_is (Ex2.readBack arg6.view (Ex2.store arg6.view _ (L := []) _ zero_is) _) (h0.loadb harg2 _) (h1.loadb harg3 _))).congr fun i j _ _ => zero_add _
/-- The second half's point writes the sum of the scratch and its products. -/
theorem second (hc0 : ¬ cond0_0 i) (h0 : Ex2 x0 f) (h1 : Ex2 x1 g) (hs : Ex2 xs0 G) :
    Ex2 (out0_B_2 (F := Ideal) c i arg2 harg2 arg3 harg3 arg5 harg5 arg6 harg6 hc0 x0 x1 xs0) (fun i j => G i j + ∑ q ∈ Finset.range 2048, f q i * g q j) := by
  unfold out0_B_2 kernelRun0_B
  exact Ex2.storeb _ _ _ (sumo_is (hs.load harg6 _) (h0.loadb harg2 _) (h1.loadb harg3 _))

/-! ## The blocks -/
variable (m : (ℓ : Loc nD τ sig) → Buf (Elt Ideal) ℓ)
abbrev left (c : Dev nD) : S4096x5632.Idx → EReal := m ((c.tc : Thread nD τ).loc main_arg1)
abbrev right (c : Dev nD) : S4096x1024.Idx → EReal := m ((c.tc : Thread nD τ).loc main_arg2)
theorem index0 : ∀ t : Fin cfg0.N, win0_0.index t 0 = t.val % 2 ∧ win0_0.index t 1 = t.val / 2 := (by decide +kernel : ∀ t : Fin grid0.N, _)
theorem index1 : ∀ t : Fin cfg0.N, win0_1.index t 0 = t.val % 2 ∧ win0_1.index t 1 = 0 := (by decide +kernel : ∀ t : Fin grid0.N, _)
theorem index2 : ∀ t : Fin cfg0.N, win0_2.index t 0 = t.val / 2 ∧ win0_2.index t 1 = 0 := (by decide +kernel : ∀ t : Fin grid0.N, _)
/-- The left window at point `t`: half `t % 2` of the rows, block `t / 2` of the columns. -/
theorem block0 (c : Dev nD) (t : Fin cfg0.N) :
    Ex2 (iblk m c 0 t : S2048x1408.Idx → EReal) (fun r i => entries (left m c) (2048 * (t.val % 2) + r) (1408 * (t.val / 2) + i)) := fun r j => by
  have hi := index0 t
  have hN : t.val < 8 := lt_of_lt_of_eq t.isLt N_0
  have hr : 2048 * (t.val % 2) + r.val < 4096 := by have := r.isLt; omega
  have hj : 1408 * (t.val / 2) + j.val < 5632 := by have := j.isLt; omega
  refine Eq.trans ?_ (entries_is (left m c) ⟨_, hr⟩ ⟨_, hj⟩)
  unfold iblk
  rw [View.read_apply]
  show V m c main_arg1 _ = left m c _
  rw [V_main_arg1]
  show left m c _ = left m c _
  congr 1
  funext a
  apply Fin.ext
  match a with
  | ⟨0, _⟩ => show win0_0.index t 0 * 2048 + 1 * r.val = 2048 * (t.val % 2) + r.val; rw [hi.1]; omega
  | ⟨1, _⟩ => show win0_0.index t 1 * 1408 + 1 * j.val = 1408 * (t.val / 2) + j.val; rw [hi.2]; omega
/-- The right window at point `t`: half `t % 2` of the rows. -/
theorem block1 (c : Dev nD) (t : Fin cfg0.N) :
    Ex2 (iblk m c 1 t : S2048x1024.Idx → EReal) (fun r i => entries (right m c) (2048 * (t.val % 2) + r) i) := fun r j => by
  have hi := index1 t
  have hr : 2048 * (t.val % 2) + r.val < 4096 := by have := r.isLt; omega
  refine Eq.trans ?_ (entries_is (right m c) ⟨_, hr⟩ j)
  unfold iblk
  rw [View.read_apply]
  show V m c main_arg2 _ = right m c _
  rw [V_main_arg2]
  show right m c _ = right m c _
  congr 1
  funext a
  apply Fin.ext
  match a with
  | ⟨0, _⟩ => show win0_1.index t 0 * 2048 + 1 * r.val = 2048 * (t.val % 2) + r.val; rw [hi.1]; omega
  | ⟨1, _⟩ => show win0_1.index t 1 * 1024 + 1 * j.val = j.val; rw [hi.2]; omega

/-- The whole product. -/
def total (c : Dev nD) (i j : ℕ) : EReal := part (entries (left m c)) (entries (right m c)) 0 4096 i j
theorem halves (c : Dev nD) (i j : ℕ) : total m c i j
    = (∑ q ∈ Finset.range 2048, entries (left m c) q i * entries (right m c) q j)
      + ∑ q ∈ Finset.range 2048, entries (left m c) (2048 + q) i * entries (right m c) (2048 + q) j :=
  (part_add _ _ 2048 2048 i j).trans (by unfold part; simp only [Nat.zero_add])

/-- What the second point of a pair writes: its block of the product. -/
theorem written (c : Dev nD) (t : Fin cfg0.N) (h : t.val % 2 = 1) :
    Ex2 ((outsAt0 m c t.val t.isLt).1 : S1408x1024.Idx → EReal) (fun i j => total m c (1408 * (t.val / 2) + i) j) := by
  have hl : t.val - 1 < cfg0.N := Nat.lt_of_le_of_lt (Nat.sub_le _ _) t.isLt
  have e0 : (t.val - 1) % 2 = 0 := by omega
  have e1 : (t.val - 1) / 2 = t.val / 2 := by omega
  have hs : Ex2 ((outsAt0 m c (t.val - 1) hl).2 : S1408x1024.Idx → EReal)
      (fun i j => ∑ q ∈ Finset.range 2048, entries (left m c) q (1408 * (t.val / 2) + i) * entries (right m c) q j) := by
    refine Ex2.snd (outsAt0_A m c ⟨t.val - 1, hl⟩ e0) ((first _ (block0 m c ⟨t.val - 1, hl⟩) (block1 m c ⟨t.val - 1, hl⟩)).congr fun i j _ _ => ?_)
    dsimp only
    rw [e0, e1]
    simp only [Nat.mul_zero, Nat.zero_add]
  have h0 : ¬ t.val % 2 = 0 := by omega
  refine Ex2.fst (outsAt0_B m c t h0) ((second _ (block0 m c t) (block1 m c t) hs).congr fun i j _ _ => ?_)
  rw [h, halves]

/-- The array the kernel leaves. -/
def product (c : Dev nD) : S5632x1024.Idx → EReal := fun i => total m c (i 0).val (i 1).val
theorem flushed_eq (c : Dev nD) (t : Fin cfg0.N) (hf : (cfg0.win 2).flush t = true) :
    (dats m 0 c).flushed 2 t = ((cfg0.win 2).blk t).view.read (Elt Ideal) (product m c) := by
  have hm : t.val % 2 = 1 := (flush0_2 t).mp hf
  have hi := index2 t
  rw [flushed2]
  funext y
  obtain ⟨p, j, rfl⟩ : ∃ (p : Fin 1408) (j : Fin 1024), y = ValueIdx.ix2 p j := ⟨y 0, y 1, ValueIdx.eq_ix2 y⟩
  refine (written m c t hm p j).trans ?_
  rw [View.read_apply]
  show total m c (1408 * (t.val / 2) + p.val) j.val = total m c (((cfg0.win 2).blk t).view.emb (ValueIdx.ix2 p j) 0).val (((cfg0.win 2).blk t).view.emb (ValueIdx.ix2 p j) 1).val
  congr 1
  · show 1408 * (t.val / 2) + p.val = win0_2.index t 0 * 1408 + 1 * p.val; rw [hi.1]; omega
  · show j.val = win0_2.index t 1 * 1024 + 1 * j.val; rw [hi.2]; omega
theorem covered (t : Fin cfg0.N) (i : S5632x1024.Idx) (h : t.val / 2 = (i 0).val / 1408) : i ∈ ((cfg0.win 2).blk t).view.set := by
  have hi := index2 t
  have h1 : (i 1).val < 1024 := (i 1).isLt
  show i ∈ ((View.whole main_v0).slice (win0_2.rect t)).set
  rw [View.set_slice_whole, Rect.mem_set_unit]
  intro a
  match a with
  | ⟨0, _⟩ =>
    show win0_2.index t 0 * 1408 ≤ (i 0).val ∧ (i 0).val < win0_2.index t 0 * 1408 + 1408
    rw [hi.1]; omega
  | ⟨1, _⟩ =>
    show win0_2.index t 1 * 1024 ≤ (i 1).val ∧ (i 1).val < win0_2.index t 1 * 1024 + 1024
    rw [hi.2]; omega
/-- The result array is the product. -/
theorem final (c : Dev nD) : (dats m 0 c).arrAt 2 cfg0.N = product m c :=
  (dats m 0 c).arrAt_eq_of_cover 2 _ (fun t hf => flushed_eq m c t hf) (fun i => by
    have h0 : (i 0).val < 5632 := (i 0).isLt
    have hq : 2 * ((i 0).val / 1408) + 1 < cfg0.N := lt_of_lt_of_eq (show 2 * ((i 0).val / 1408) + 1 < 8 by omega) N_0.symm
    exact ⟨⟨2 * ((i 0).val / 1408) + 1, hq⟩, (flush0_2 _).mpr (by show (2 * ((i 0).val / 1408) + 1) % 2 = 1; omega),
      covered _ i (by show (2 * ((i 0).val / 1408) + 1) / 2 = (i 0).val / 1408; omega)⟩)
theorem product_is (c : Dev nD) : Ex2 (product m c : S5632x1024.Idx → EReal) (total m c) := fun _ _ => rfl

end Cert.GateUpIdeal.Product

namespace Cert.Products
open Cert.Sums
/-- The gate and up projection's weight gradient: the kernel and the reference end with the same array. -/
theorem gateUp_equation : Cert.algebraic_GateUpIdeal_GateUpReferenceIdeal
    (hGateUpIdeal := Cert.GateUpIdeal.Gen.facts) (hGateUpReferenceIdeal := Cert.GateUpReferenceIdeal.Gen.facts) := by
  intro m g m' g' _ harg
  refine ⟨fun c => Cert.GateUpIdeal.Product.product m c, ?_, ?_⟩
  · exact (θ_run _ _ _).mono (fun r h c => ⟨(h c).1.trans (Cert.GateUpIdeal.Product.final m c), (h c).2⟩) (Cert.GateUpIdeal.Value.run_blocks m g)
  · refine (θ_run _ _ _).mono (fun r h c => ⟨(h c).1.trans ?_, (h c).2⟩) (Cert.GateUpReferenceIdeal.Value.run m' g')
    obtain ⟨_, ea, eb⟩ := harg c
    rw [ea, eb]
    exact ((Ex2.htranspose (Ex2.htranspose (Ex2.hdotTN (φ := .f32) (φ' := .f32) (entries_is (Cert.GateUpIdeal.Product.left m c)) (entries_is (Cert.GateUpIdeal.Product.right m c)) _) _) _).congr (fun i j _ _ => by
      unfold Cert.GateUpIdeal.Product.total part; exact Finset.sum_congr rfl fun q _ => by rw [Nat.zero_add])).unique (Cert.GateUpIdeal.Product.product_is m c)
end Cert.Products
end
-- ==== Proof.InProduct.lean ====
/-
The input projection's weight gradient: the kernel adds the products of two halves of the tokens, one block of 1152 rows of the result after the other; the
result is the product over all the tokens.
-/
module
public import proofs.«01_k».proof.Proof.Sums
public import proofs.«01_k».proof.Defs
public import proofs.«01_k».proof.Proof.Gen.InIdeal.Value
public import proofs.«01_k».proof.Proof.Gen.InReferenceIdeal.Run
public import proofs.«01_k».proof.Proof.Gen.InReferenceIdeal.Read
@[expose] public section
noncomputable section
open Idealize.ShloMosaic Idealize.ShloMosaic.TcCoe Idealize.ShloMosaic.StableHlo Idealize.SL.Sem
open scoped BigOperators

namespace Cert.InIdeal.Product
open Cert.InIdeal Cert.InIdeal.Gen Cert.InIdeal.Value Cert.Sums
variable {f g G : ℕ → ℕ → EReal}

/-! ## One point -/
theorem zero_is : Ex2 (k0_pay1 (F := Ideal)) (fun _ _ => 0) := by
  have h : Ex2 (broadcast (⟨2, ![1152, 1024]⟩ : Shape) (Ideal.ofBits .f32 0x00000000#32)) (fun _ _ => 0) := fun _ _ => Cert.Reals.lit_zero.trans EReal.coe_zero
  unfold k0_pay1
  exact h.self _
section
variable {v3 : Vec Ideal S1152x1024 .f32} {v4 : Vec Ideal S2048x1152 .bf16} {v5 : Vec Ideal S2048x1024 .bf16}
theorem sum_is (h3 : Ex2 v3 G) (h4 : Ex2 v4 f) (h5 : Ex2 v5 g) : Ex2 (k0_pay2 v3 v4 v5) (fun i j => G i j + ∑ q ∈ Finset.range 2048, f q i * g q j) := by
  unfold k0_pay2
  exact h3.add (Ex2.dotTN (φ := .bf16) (φ' := .bf16) h4 h5 _)
theorem sums_is (h3 : Ex2 v3 G) (h4 : Ex2 v4 f) (h5 : Ex2 v5 g) : Ex2 (k0_pay3 v3 v4 v5) (fun i j => G i j + ∑ q ∈ Finset.range 2048, f q i * g q j) := by
  unfold k0_pay3
  exact (sum_is h3 h4 h5).self _
theorem sumo_is (h3 : Ex2 v3 G) (h4 : Ex2 v4 f) (h5 : Ex2 v5 g) : Ex2 (k0_pay4 v3 v4 v5) (fun i j => G i j + ∑ q ∈ Finset.range 2048, f q i * g q j) := by
  unfold k0_pay4
  exact sum_is h3 h4 h5
end
variable {c : Dev nD} {i : grid0.Coords} {arg2 : Memref sig .tc .vmem S2048x1152 .bf16} {harg2 : arg2.IsWhole} {arg3 : Memref sig .tc .vmem S2048x1024 .bf16} {harg3 : arg3.IsWhole}
  {arg4 : Memref sig .tc .vmem S1152x1024 .bf16} {harg4 : arg4.IsWhole} {arg5 : Memref sig .tc .vmem S1152x1024 .f32} {harg5 : arg5.IsWhole}
  {x0 : Vec Ideal S2048x1152 .bf16} {x1 : Vec Ideal S2048x1024 .bf16} {xs0 : Vec Ideal S1152x1024 .f32}
/-- The first half's point leaves its products in the scratch. -/
theorem first (hc0 : cond0_0 i) (h0 : Ex2 x0 f) (h1 : Ex2 x1 g) :
    Ex2 (sout0_A_0 (F := Ideal) c i arg2 harg2 arg3 harg3 arg4 harg4 arg5 harg5 hc0 x0 x1) (fun i j => ∑ q ∈ Finset.range 2048, f q i * g q j) := by
  unfold sout0_A_0 kernelRun0_A
  exact (Ex2.store _ _ _ (sums_is (Ex2.readBack arg5.view (Ex2.store arg5.view _ (L := []) _ zero_is) _) (h0.loadb harg2 _) (h1.loadb harg3 _))).congr fun i j _ _ => zero_add _
/-- The second half's point writes the sum of the scratch and its products. -/
theorem second (hc0 : ¬ cond0_0 i) (h0 : Ex2 x0 f) (h1 : Ex2 x1 g) (hs : Ex2 xs0 G) :
    Ex2 (out0_B_2 (F := Ideal) c i arg2 harg2 arg3 harg3 arg4 harg4 arg5 harg5 hc0 x0 x1 xs0) (fun i j => G i j + ∑ q ∈ Finset.range 2048, f q i * g q j) := by
  unfold out0_B_2 kernelRun0_B
  exact Ex2.storeb _ _ _ (sumo_is (hs.load harg5 _) (h0.loadb harg2 _) (h1.loadb harg3 _))

/-! ## The blocks -/
variable (m : (ℓ : Loc nD τ sig) → Buf (Elt Ideal) ℓ)
abbrev left (c : Dev nD) : S4096x2304.Idx → EReal := m ((c.tc : Thread nD τ).loc main_arg0)
abbrev right (c : Dev nD) : S4096x1024.Idx → EReal := m ((c.tc : Thread nD τ).loc main_arg1)
theorem index0 : ∀ t : Fin cfg0.N, win0_0.index t 0 = t.val % 2 ∧ win0_0.index t 1 = t.val / 2 := (by decide +kernel : ∀ t : Fin grid0.N, _)
theorem index1 : ∀ t : Fin cfg0.N, win0_1.index t 0 = t.val % 2 ∧ win0_1.index t 1 = 0 := (by decide +kernel : ∀ t : Fin grid0.N, _)
theorem index2 : ∀ t : Fin cfg0.N, win0_2.index t 0 = t.val / 2 ∧ win0_2.index t 1 = 0 := (by decide +kernel : ∀ t : Fin grid0.N, _)
/-- The left window at point `t`: half `t % 2` of the rows, block `t / 2` of the columns. -/
theorem block0 (c : Dev nD) (t : Fin cfg0.N) :
    Ex2 (iblk m c 0 t : S2048x1152.Idx → EReal) (fun r i => entries (left m c) (2048 * (t.val % 2) + r) (1152 * (t.val / 2) + i)) := fun r j => by
  have hi := index0 t
  have hN : t.val < 4 := lt_of_lt_of_eq t.isLt N_0
  have hr : 2048 * (t.val % 2) + r.val < 4096 := by have := r.isLt; omega
  have hj : 1152 * (t.val / 2) + j.val < 2304 := by have := j.isLt; omega
  refine Eq.trans ?_ (entries_is (left m c) ⟨_, hr⟩ ⟨_, hj⟩)
  unfold iblk
  rw [View.read_apply]
  show V m c main_arg0 _ = left m c _
  rw [V_main_arg0]
  show left m c _ = left m c _
  congr 1
  funext a
  apply Fin.ext
  match a with
  | ⟨0, _⟩ => show win0_0.index t 0 * 2048 + 1 * r.val = 2048 * (t.val % 2) + r.val; rw [hi.1]; omega
  | ⟨1, _⟩ => show win0_0.index t 1 * 1152 + 1 * j.val = 1152 * (t.val / 2) + j.val; rw [hi.2]; omega
/-- The right window at point `t`: half `t % 2` of the rows. -/
theorem block1 (c : Dev nD) (t : Fin cfg0.N) :
    Ex2 (iblk m c 1 t : S2048x1024.Idx → EReal) (fun r i => entries (right m c) (2048 * (t.val % 2) + r) i) := fun r j => by
  have hi := index1 t
  have hr : 2048 * (t.val % 2) + r.val < 4096 := by have := r.isLt; omega
  refine Eq.trans ?_ (entries_is (right m c) ⟨_, hr⟩ j)
  unfold iblk
  rw [View.read_apply]
  show V m c main_arg1 _ = right m c _
  rw [V_main_arg1]
  show right m c _ = right m c _
  congr 1
  funext a
  apply Fin.ext
  match a with
  | ⟨0, _⟩ => show win0_1.index t 0 * 2048 + 1 * r.val = 2048 * (t.val % 2) + r.val; rw [hi.1]; omega
  | ⟨1, _⟩ => show win0_1.index t 1 * 1024 + 1 * j.val = j.val; rw [hi.2]; omega

/-- The whole product. -/
def total (c : Dev nD) (i j : ℕ) : EReal := part (entries (left m c)) (entries (right m c)) 0 4096 i j
theorem halves (c : Dev nD) (i j : ℕ) : total m c i j
    = (∑ q ∈ Finset.range 2048, entries (left m c) q i * entries (right m c) q j)
      + ∑ q ∈ Finset.range 2048, entries (left m c) (2048 + q) i * entries (right m c) (2048 + q) j :=
  (part_add _ _ 2048 2048 i j).trans (by unfold part; simp only [Nat.zero_add])

/-- What the second point of a pair writes: its block of the product. -/
theorem written (c : Dev nD) (t : Fin cfg0.N) (h : t.val % 2 = 1) :
    Ex2 ((outsAt0 m c t.val t.isLt).1 : S1152x1024.Idx → EReal) (fun i j => total m c (1152 * (t.val / 2) + i) j) := by
  have hl : t.val - 1 < cfg0.N := Nat.lt_of_le_of_lt (Nat.sub_le _ _) t.isLt
  have e0 : (t.val - 1) % 2 = 0 := by omega
  have e1 : (t.val - 1) / 2 = t.val / 2 := by omega
  have hs : Ex2 ((outsAt0 m c (t.val - 1) hl).2 : S1152x1024.Idx → EReal)
      (fun i j => ∑ q ∈ Finset.range 2048, entries (left m c) q (1152 * (t.val / 2) + i) * entries (right m c) q j) := by
    refine Ex2.snd (outsAt0_A m c ⟨t.val - 1, hl⟩ e0) ((first _ (block0 m c ⟨t.val - 1, hl⟩) (block1 m c ⟨t.val - 1, hl⟩)).congr fun i j _ _ => ?_)
    dsimp only
    rw [e0, e1]
    simp only [Nat.mul_zero, Nat.zero_add]
  have h0 : ¬ t.val % 2 = 0 := by omega
  refine Ex2.fst (outsAt0_B m c t h0) ((second _ (block0 m c t) (block1 m c t) hs).congr fun i j _ _ => ?_)
  rw [h, halves]

/-- The array the kernel leaves. -/
def product (c : Dev nD) : S2304x1024.Idx → EReal := fun i => total m c (i 0).val (i 1).val
theorem flushed_eq (c : Dev nD) (t : Fin cfg0.N) (hf : (cfg0.win 2).flush t = true) :
    (dats m 0 c).flushed 2 t = ((cfg0.win 2).blk t).view.read (Elt Ideal) (product m c) := by
  have hm : t.val % 2 = 1 := (flush0_2 t).mp hf
  have hi := index2 t
  rw [flushed2]
  funext y
  obtain ⟨p, j, rfl⟩ : ∃ (p : Fin 1152) (j : Fin 1024), y = ValueIdx.ix2 p j := ⟨y 0, y 1, ValueIdx.eq_ix2 y⟩
  refine (written m c t hm p j).trans ?_
  rw [View.read_apply]
  show total m c (1152 * (t.val / 2) + p.val) j.val = total m c (((cfg0.win 2).blk t).view.emb (ValueIdx.ix2 p j) 0).val (((cfg0.win 2).blk t).view.emb (ValueIdx.ix2 p j) 1).val
  congr 1
  · show 1152 * (t.val / 2) + p.val = win0_2.index t 0 * 1152 + 1 * p.val; rw [hi.1]; omega
  · show j.val = win0_2.index t 1 * 1024 + 1 * j.val; rw [hi.2]; omega
theorem covered (t : Fin cfg0.N) (i : S2304x1024.Idx) (h : t.val / 2 = (i 0).val / 1152) : i ∈ ((cfg0.win 2).blk t).view.set := by
  have hi := index2 t
  have h1 : (i 1).val < 1024 := (i 1).isLt
  show i ∈ ((View.whole main_v0).slice (win0_2.rect t)).set
  rw [View.set_slice_whole, Rect.mem_set_unit]
  intro a
  match a with
  | ⟨0, _⟩ =>
    show win0_2.index t 0 * 1152 ≤ (i 0).val ∧ (i 0).val < win0_2.index t 0 * 1152 + 1152
    rw [hi.1]; omega
  | ⟨1, _⟩ =>
    show win0_2.index t 1 * 1024 ≤ (i 1).val ∧ (i 1).val < win0_2.index t 1 * 1024 + 1024
    rw [hi.2]; omega
/-- The result array is the product. -/
theorem final (c : Dev nD) : (dats m 0 c).arrAt 2 cfg0.N = product m c :=
  (dats m 0 c).arrAt_eq_of_cover 2 _ (fun t hf => flushed_eq m c t hf) (fun i => by
    have h0 : (i 0).val < 2304 := (i 0).isLt
    have hq : 2 * ((i 0).val / 1152) + 1 < cfg0.N := lt_of_lt_of_eq (show 2 * ((i 0).val / 1152) + 1 < 4 by omega) N_0.symm
    exact ⟨⟨2 * ((i 0).val / 1152) + 1, hq⟩, (flush0_2 _).mpr (by show (2 * ((i 0).val / 1152) + 1) % 2 = 1; omega),
      covered _ i (by show (2 * ((i 0).val / 1152) + 1) / 2 = (i 0).val / 1152; omega)⟩)
theorem product_is (c : Dev nD) : Ex2 (product m c : S2304x1024.Idx → EReal) (total m c) := fun _ _ => rfl

end Cert.InIdeal.Product

namespace Cert.Products
open Cert.Sums
/-- The input projection's weight gradient: the kernel and the reference end with the same array. -/
theorem inProj_equation : Cert.algebraic_InIdeal_InReferenceIdeal
    (hInIdeal := Cert.InIdeal.Gen.facts) (hInReferenceIdeal := Cert.InReferenceIdeal.Gen.facts) := by
  intro m g m' g' _ harg
  refine ⟨fun c => Cert.InIdeal.Product.product m c, ?_, ?_⟩
  · exact (θ_run _ _ _).mono (fun r h c => ⟨(h c).1.trans (Cert.InIdeal.Product.final m c), (h c).2⟩) (Cert.InIdeal.Value.run_blocks m g)
  · refine (θ_run _ _ _).mono (fun r h c => ⟨(h c).1.trans ?_, (h c).2⟩) (Cert.InReferenceIdeal.Value.run m' g')
    obtain ⟨ea, eb⟩ := harg c
    rw [ea, eb]
    exact ((Ex2.htranspose (Ex2.htranspose (Ex2.hdotTN (φ := .f32) (φ' := .f32) (entries_is (Cert.InIdeal.Product.left m c)) (entries_is (Cert.InIdeal.Product.right m c)) _) _) _).congr (fun i j _ _ => by
      unfold Cert.InIdeal.Product.total part; exact Finset.sum_congr rfl fun q _ => by rw [Nat.zero_add])).unique (Cert.InIdeal.Product.product_is m c)
end Cert.Products
end
-- ==== Proof.EnterBlock.lean ====
/-
The first normalisation's way back: the values over the reals, and what each operation of the kernel's body computes on a
block of tokens that starts at token `b`.
-/
module
public import proofs.«01_k».proof.Proof.Spec
public import proofs.«01_k».proof.Proof.Gen.EnterIdeal.Skeleton
@[expose] public section
noncomputable section
open Idealize.ShloMosaic
open scoped BigOperators

namespace Cert.Enter
open Cert.Spec

/-- The inputs as real functions of row and column: the gradient at the input projection's result, the tokens, the gradient
    along the residual, the modulation rows, the gain and the weight. -/
structure Data where
  dp : ℕ → ℕ → ℝ
  x : ℕ → ℕ → ℝ
  res : ℕ → ℕ → ℝ
  mod : ℕ → ℕ → ℝ
  gn : ℕ → ℕ → ℝ
  w : ℕ → ℕ → ℝ
namespace Data
variable (D : Data)
/-- The normalised tokens. -/
def n (p j : ℕ) : ℝ := D.x p j * rs D.x p
/-- The gradient at the modulated tokens. -/
def dh (p j : ℕ) : ℝ := ∑ k ∈ Finset.range 2304, D.dp p k * D.w j k
def dn (p j : ℕ) : ℝ := D.dh p j * (1 + D.mod 1 j)
def dnx (p j : ℕ) : ℝ := D.dn p j * D.gn 0 j
/-- The tokens' gradient. -/
def dx (p j : ℕ) : ℝ := D.res p j + nback D.dnx D.n (rs D.x) p j
/-- What token `p` adds to row `q` of the eight small rows: the shift's, the scale's and the gain's gradients, then nothing. -/
def row (q p j : ℕ) : ℝ :=
  match q with
  | 0 => D.dh p j
  | 1 => D.dh p j * (D.n p j * D.gn 0 j)
  | 2 => D.dn p j * D.n p j
  | _ => 0
/-- The small rows summed over the first `k` tokens. -/
def rows (k q j : ℕ) : ℝ := ∑ p ∈ Finset.range k, D.row q p j
theorem rows_add (k m q j : ℕ) : D.rows (k + m) q j = D.rows k q j + ∑ r ∈ Finset.range m, D.row q (k + r) j :=
  Finset.sum_range_add _ k m
theorem rows_rest (k q j : ℕ) (h : 3 ≤ q) : D.rows k q j = 0 := by
  obtain ⟨q, rfl⟩ := Nat.exists_eq_add_of_le' h
  exact Finset.sum_eq_zero fun _ _ => rfl
/-- The first three rows one after the other, each with a block's sum added. -/
theorem rows_step (b p j : ℕ) :
    (if p = 2 then D.rows b 2 j + ∑ r ∈ Finset.range 1024, D.row 2 (b + r) j
      else if p = 1 then D.rows b 1 j + ∑ r ∈ Finset.range 1024, D.row 1 (b + r) j
      else if p = 0 then D.rows b 0 j + ∑ r ∈ Finset.range 1024, D.row 0 (b + r) j
      else D.rows b p j) = D.rows (b + 1024) p j := by
  by_cases h2 : p = 2
  · rw [if_pos h2, h2, D.rows_add]
  · by_cases h1 : p = 1
    · rw [if_neg h2, if_pos h1, h1, D.rows_add]
    · by_cases h0 : p = 0
      · rw [if_neg h2, if_neg h1, if_pos h0, h0, D.rows_add]
      · rw [if_neg h2, if_neg h1, if_neg h0, D.rows_rest _ _ _ (by omega), D.rows_rest _ _ _ (by omega)]
end Data
end Cert.Enter

namespace Cert.EnterIdeal.Block
open Cert.EnterIdeal Cert.EnterIdeal.Gen Cert.Reals Cert.Enter
open Cert.Spec (rs ms ms_pos nback)
variable {D : Data} {b : ℕ}

section norm
variable {v9 : Vec Ideal S1024x1024 .f32} {v10 : Vec Ideal S1x1024 .f32} (h9 : Is2 v9 (fun r j => D.x (b + r) j)) (h10 : Is2 v10 D.gn)
include h9
/-- One over the root mean square. -/
theorem r_is : Is2 (k0_pay8 v9) (fun r _ => rs D.x (b + r)) := by
  unfold k0_pay8
  exact ((((((h9.mul h9).rowSum _ _ _ _).asCol _).div (Is2.splat lit_1024) (fun _ _ _ _ => by norm_num)).add (Is2.splat lit_eps)).rsqrt
    (fun r _ => ms_pos D.x (b + r)))
theorem n_is : Is2 (k0_pay9 v9) (fun r j => D.n (b + r) j) := by
  unfold k0_pay9
  exact h9.mul ((r_is h9).col _)
include h10
theorem ng_is : Is2 (k0_pay12 v9 v10) (fun r j => D.n (b + r) j * D.gn 0 j) := by
  unfold k0_pay12
  exact (n_is h9).mul (h10.row _)
end norm

section grad
variable {v3 : Vec Ideal S1024x2304 .bf16} {v4 : Vec Ideal S2304x1024 .bf16} {v6 v8 v21 v31 : FVec Ideal S1024x1024 .f32} {v7 : Vec Ideal S1024x1024 .bf16}
  {v19 : FVec Ideal S1024x1 .f32} {v10 v11 w : Vec Ideal S1x1024 .f32} {g : ℕ → ℝ}
  (h3 : Is2 v3 (fun r k => D.dp (b + r) k)) (h4 : Is2 v4 (fun k j => D.w j k)) (h6 : Is2 v6 (fun r j => D.dh (b + r) j)) (h7 : Is2 v7 (fun r j => D.res (b + r) j))
  (h8 : Is2 v8 (fun r j => D.res (b + r) j)) (h10 : Is2 v10 D.gn) (h11 : Is2 v11 (fun r j => D.mod (1 + r) j)) (h19 : Is2 v19 (fun r _ => rs D.x (b + r)))
  (h21 : Is2 v21 (fun r j => D.n (b + r) j)) (h31 : Is2 v31 (fun r j => D.n (b + r) j * D.gn 0 j)) (hw : Is2 w (fun _ j => g j))
include h3 h4 in
theorem dh_is : Is2 (k0_pay6 v3 v4) (fun r j => D.dh (b + r) j) := by
  unfold k0_pay6
  exact h3.dotNN (h4.self _) _
include h7 in
theorem res_is : Is2 (k0_pay7 v7) (fun r j => D.res (b + r) j) := h7.ext _
include hw in
theorem cast_is : Is2 (k0_pay11 w) (fun _ j => g j) := hw.self _
/-- A block's sum over its tokens, added to the row before it. -/
theorem addRow {v : FVec Ideal S1024x1024 .f32} {w : Vec Ideal S1x1024 .f32} {f : ℕ → ℕ → ℝ} {g : ℕ → ℝ} (hv : Is2 v f) (hw : Is2 w (fun _ j => g j))
    (h1 : S1024x1024.Reduces [0] S1024) (h2 : FKind.Formats FTy.f32) (h3 : (0x00000000#32 : BitVec FTy.f32.bits) = FKind.add.neutral FTy.f32 h2) (h4 : S1024.ShapeCasts S1x1024) :
    Is2 (addf w (shapeCast S1x1024 (multiReduction .add [0] S1024 v 0x00000000#32 h1 h2 h3) h4)) (fun _ j => g j + ∑ r ∈ Finset.range 1024, f r j) :=
  hw.add ((hv.colSum _ h1 h2 h3).asRow h4)
include h3 h4 hw in
theorem row0_is : Is2 (k0_pay10 v3 v4 w) (fun _ j => g j + ∑ r ∈ Finset.range 1024, D.row 0 (b + r) j) := by
  unfold k0_pay10
  exact addRow (dh_is h3 h4) (hw.self _) _ _ _ _
include h6 h31 hw in
theorem row1_is : Is2 (k0_pay1 v6 w v31) (fun _ j => g j + ∑ r ∈ Finset.range 1024, D.row 1 (b + r) j) := by
  unfold k0_pay1
  exact addRow (h6.mul h31) hw _ _ _ _
include h6 h11
theorem dn_is : Is2 (k0_pay2 v6 v11) (fun r j => D.dn (b + r) j) := by
  unfold k0_pay2
  exact h6.mul (((Is2.splat lit_one).add h11).row _)
include h21 hw in
theorem row2_is : Is2 (k0_pay3 v6 v11 v21 w) (fun _ j => g j + ∑ r ∈ Finset.range 1024, D.row 2 (b + r) j) := by
  unfold k0_pay3
  exact addRow ((dn_is h6 h11).mul h21) (hw.self _) _ _ _ _
include h10 in
theorem dnx_is : Is2 (mulf (k0_pay2 v6 v11) (broadcastTo S1024x1024 v10 broadcasts_S1x1024_S1024x1024)) (fun r j => D.dnx (b + r) j) :=
  (dn_is h6 h11).mul (h10.row _)
include h8 h10 h19 h21 in
theorem dx_is : Is2 (k0_pay4 v6 v8 v10 v11 v19 v21) (fun r j => D.dx (b + r) j) := by
  unfold k0_pay4
  exact h8.add ((h19.col _).mul ((dnx_is h6 h10 h11).sub (h21.mul ((((((dnx_is h6 h10 h11).mul h21).rowSum _ _ _ _).asCol _).div (Is2.splat lit_1024)
    (fun _ _ _ _ => by norm_num)).col _))))
end grad
theorem zeros_is : Is2 (k0_pay5 (F := Ideal)) (D.rows 0) := (Is2.splat lit_zero).congr fun q j _ _ => (Finset.sum_range_zero _).symm

/-- The six input blocks at the point whose first token is `b`. -/
structure Blocks (D : Data) (b : ℕ) (x0 : Vec Ideal S1024x2304 .bf16) (x1 : Vec Ideal S1024x1024 .f32) (x2 : Vec Ideal S1024x1024 .bf16)
    (x3 : Vec Ideal S8x1024 .f32) (x4 : Vec Ideal S1x1024 .f32) (x5 : Vec Ideal S2304x1024 .bf16) : Prop where
  h0 : Is2 x0 (fun r k => D.dp (b + r) k)
  h1 : Is2 x1 (fun r j => D.x (b + r) j)
  h2 : Is2 x2 (fun r j => D.res (b + r) j)
  h3 : Is2 x3 D.mod
  h4 : Is2 x4 D.gn
  h5 : Is2 x5 (fun k j => D.w j k)
end Cert.EnterIdeal.Block
end
-- ==== Proof.EnterCases.lean ====
/-
What the body of the first normalisation's way back leaves in its buffers, over the reals: at the first point, which sets the
small rows to nought, and at a later one, which adds to them.
-/
module
public import proofs.«01_k».proof.Proof.EnterBlock
public import proofs.«01_k».proof.Proof.Loads
public import proofs.«01_k».proof.Proof.Gen.EnterIdeal.Frame
@[expose] public section
noncomputable section
open Idealize.ShloMosaic Idealize.ShloMosaic.TcCoe
open scoped BigOperators

namespace Cert.EnterIdeal.CaseA
open Cert.EnterIdeal Cert.EnterIdeal.Gen Cert.Reals Cert.Enter Cert.EnterIdeal.Block
open Cert.Spec (rs ms ms_pos nback)
variable {D : Data} {b : ℕ} {c : Dev nD} {i : grid0.Coords} {arg2 : Memref sig .tc .vmem S1024x2304 .bf16} {harg2 : arg2.IsWhole} {arg3 : Memref sig .tc .vmem S1024x1024 .f32} {harg3 : arg3.IsWhole} {arg4 : Memref sig .tc .vmem S1024x1024 .bf16} {harg4 : arg4.IsWhole} {arg5 : Memref sig .tc .vmem S8x1024 .f32} {harg5 : arg5.IsWhole} {arg6 : Memref sig .tc .vmem S1x1024 .f32} {harg6 : arg6.IsWhole} {arg7 : Memref sig .tc .vmem S2304x1024 .bf16} {harg7 : arg7.IsWhole} {arg8 : Memref sig .tc .vmem S1024x1024 .f32} {harg8 : arg8.IsWhole} {arg9 : Memref sig .tc .vmem S8x1024 .f32} {harg9 : arg9.IsWhole} {hc0 : cond0_0 i} {x0 : Vec Ideal S1024x2304 .bf16} {x1 : Vec Ideal S1024x1024 .f32} {x2 : Vec Ideal S1024x1024 .bf16} {x3 : Vec Ideal S8x1024 .f32} {x4 : Vec Ideal S1x1024 .f32} {x5 : Vec Ideal S2304x1024 .bf16}
theorem r_is (H : Blocks D b x0 x1 x2 x3 x4 x5) : Is2 (kernelRun0_A.sl.r (F := Ideal) c arg2 harg2 arg7 harg7 x0 x5) (fun r j => D.dh (b + r) j) := dh_is (H.h0.load0b harg2 _) (H.h5.load0b harg7 _)
theorem r_1_is (H : Blocks D b x0 x1 x2 x3 x4 x5) : Is2 (kernelRun0_A.sl.r_1 (F := Ideal) c arg4 harg4 x2) (fun r j => D.res (b + r) j) := res_is (H.h2.load0b harg4 _)
theorem r_2_is (H : Blocks D b x0 x1 x2 x3 x4 x5) : Is2 (a := 1) (b := 1024) (kernelRun0_A.sl.r_2 (F := Ideal) c arg6 harg6 x4) D.gn := H.h4.load0 harg6 _
theorem r_3_is (H : Blocks D b x0 x1 x2 x3 x4 x5) : Is2 (a := 1) (b := 1024) (kernelRun0_A.sl.r_3 (F := Ideal) c arg5 harg5 x3) (fun r j => D.mod (1 + r) j) := H.h3.load harg5 1 _
theorem r_4_is (H : Blocks D b x0 x1 x2 x3 x4 x5) : Is2 (kernelRun0_A.sl.r_4 (F := Ideal) c arg3 harg3 x1) (fun r _ => rs D.x (b + r)) := Block.r_is (H.h1.load0 harg3 _)
theorem r_5_is (H : Blocks D b x0 x1 x2 x3 x4 x5) : Is2 (kernelRun0_A.sl.r_5 (F := Ideal) c arg3 harg3 x1) (fun r j => D.n (b + r) j) := n_is (H.h1.load0 harg3 _)
theorem r_7_is (H : Blocks D b x0 x1 x2 x3 x4 x5) : Is2 (kernelRun0_A.sl.r_7 (F := Ideal) c arg3 harg3 arg6 harg6 x1 x4) (fun r j => D.n (b + r) j * D.gn 0 j) := ng_is (H.h1.load0 harg3 _) (H.h4.load0 harg6 _)
/-- The tokens' gradient. -/
theorem dx_out (H : Blocks D b x0 x1 x2 x3 x4 x5) : Is2 (out0_A_6 (F := Ideal) c i arg2 harg2 arg3 harg3 arg4 harg4 arg5 harg5 arg6 harg6 arg7 harg7 arg8 harg8 arg9 harg9 hc0 x0 x1 x2 x3 x4 x5) (fun r j => D.dx (b + r) j) := by
  unfold out0_A_6 kernelRun0_A
  exact Is2.storeAll _ _ _ (dx_is (r_is H) (r_1_is H) (r_2_is H) (r_3_is H) (r_4_is H) (r_5_is H))
theorem st1_is : Is2 (arg9.view.read (Elt Ideal) (arg9.view.writes (Elt Ideal) arg9.view.junk (kernelRun0_A.sl.H7_1 (F := Ideal)))) (D.rows 0) := Is2.storeAll arg9.view _ _ zeros_is
theorem v22_is : Is2 (a := 1) (b := 1024) (kernelRun0_A.sl.v22 (F := Ideal) c arg9) (fun _ j => D.rows 0 0 j) := by
  refine Is2.congr (a := 1) (b := 1024) (Is2.readBack arg9.view (st1_is (D := D)) 0 _) fun i j hi _ => ?_
  obtain rfl : i = 0 := by omega
  simp
theorem st2_is (H : Blocks D 0 x0 x1 x2 x3 x4 x5) : Is2 (arg9.view.read (Elt Ideal) (arg9.view.writes (Elt Ideal) arg9.view.junk (kernelRun0_A.sl.H7_2 (F := Ideal) c arg2 harg2 arg7 harg7 arg9 x0 x5))) (fun p j => if p = 0 then D.rows 0 0 j + ∑ r ∈ Finset.range 1024, D.row 0 (0 + r) j else D.rows 0 p j) :=
  Is2.storeRow arg9.view _ st1_is 0 _ (row0_is (H.h0.load0b harg2 _) (H.h5.load0b harg7 _) v22_is)
theorem v28_is (H : Blocks D 0 x0 x1 x2 x3 x4 x5) : Is2 (a := 1) (b := 1024) (kernelRun0_A.sl.v28 (F := Ideal) c arg2 harg2 arg7 harg7 arg9 x0 x5) (fun _ j => D.rows 0 1 j) := by
  refine Is2.congr (a := 1) (b := 1024) (Is2.readBack arg9.view (st2_is H) 1 _) fun i j hi _ => ?_
  obtain rfl : i = 0 := by omega
  simp
theorem st3_is (H : Blocks D 0 x0 x1 x2 x3 x4 x5) : Is2 (arg9.view.read (Elt Ideal) (arg9.view.writes (Elt Ideal) arg9.view.junk (kernelRun0_A.sl.H7_3 (F := Ideal) c arg2 harg2 arg3 harg3 arg6 harg6 arg7 harg7 arg9 x0 x1 x4 x5))) (fun p j => if p = 1 then D.rows 0 1 j + ∑ r ∈ Finset.range 1024, D.row 1 (0 + r) j else if p = 0 then D.rows 0 0 j + ∑ r ∈ Finset.range 1024, D.row 0 (0 + r) j else D.rows 0 p j) :=
  Is2.storeRow arg9.view _ (st2_is H) 1 _ (row1_is (r_is H) (r_7_is H) (cast_is (v28_is H)))
theorem v41_is (H : Blocks D 0 x0 x1 x2 x3 x4 x5) : Is2 (a := 1) (b := 1024) (kernelRun0_A.sl.v41 (F := Ideal) c arg2 harg2 arg3 harg3 arg6 harg6 arg7 harg7 arg9 x0 x1 x4 x5) (fun _ j => D.rows 0 2 j) := by
  refine Is2.congr (a := 1) (b := 1024) (Is2.readBack arg9.view (st3_is H) 2 _) fun i j hi _ => ?_
  obtain rfl : i = 0 := by omega
  simp
theorem small_out (H : Blocks D 0 x0 x1 x2 x3 x4 x5) : Is2 (out0_A_7 (F := Ideal) c i arg2 harg2 arg3 harg3 arg4 harg4 arg5 harg5 arg6 harg6 arg7 harg7 arg8 harg8 arg9 harg9 hc0 x0 x1 x2 x3 x4 x5) (D.rows 1024) := by
  unfold out0_A_7 kernelRun0_A
  rw [View.read_writes_junk_eq_canon, ← View.read_writes_junk_eq_canon arg9.view]
  exact (Is2.storeRow arg9.view _ (st3_is H) 2 _ (row2_is (r_is H) (r_3_is H) (r_5_is H) (v41_is H))).congr fun p j _ _ => D.rows_step 0 p j
end Cert.EnterIdeal.CaseA

namespace Cert.EnterIdeal.CaseB
open Cert.EnterIdeal Cert.EnterIdeal.Gen Cert.Reals Cert.Enter Cert.EnterIdeal.Block
open Cert.Spec (rs ms ms_pos nback)
variable {D : Data} {b : ℕ} {c : Dev nD} {i : grid0.Coords} {arg2 : Memref sig .tc .vmem S1024x2304 .bf16} {harg2 : arg2.IsWhole} {arg3 : Memref sig .tc .vmem S1024x1024 .f32} {harg3 : arg3.IsWhole} {arg4 : Memref sig .tc .vmem S1024x1024 .bf16} {harg4 : arg4.IsWhole} {arg5 : Memref sig .tc .vmem S8x1024 .f32} {harg5 : arg5.IsWhole} {arg6 : Memref sig .tc .vmem S1x1024 .f32} {harg6 : arg6.IsWhole} {arg7 : Memref sig .tc .vmem S2304x1024 .bf16} {harg7 : arg7.IsWhole} {arg8 : Memref sig .tc .vmem S1024x1024 .f32} {harg8 : arg8.IsWhole} {arg9 : Memref sig .tc .vmem S8x1024 .f32} {harg9 : arg9.IsWhole} {hc0 : ¬cond0_0 i} {x0 : Vec Ideal S1024x2304 .bf16} {x1 : Vec Ideal S1024x1024 .f32} {x2 : Vec Ideal S1024x1024 .bf16} {x3 : Vec Ideal S8x1024 .f32} {x4 : Vec Ideal S1x1024 .f32} {x5 : Vec Ideal S2304x1024 .bf16} {xo7 : Vec Ideal S8x1024 .f32}
theorem r_is (H : Blocks D b x0 x1 x2 x3 x4 x5) : Is2 (kernelRun0_B.sl.r (F := Ideal) c arg2 harg2 arg7 harg7 x0 x5) (fun r j => D.dh (b + r) j) := dh_is (H.h0.load0b harg2 _) (H.h5.load0b harg7 _)
theorem r_1_is (H : Blocks D b x0 x1 x2 x3 x4 x5) : Is2 (kernelRun0_B.sl.r_1 (F := Ideal) c arg4 harg4 x2) (fun r j => D.res (b + r) j) := res_is (H.h2.load0b harg4 _)
theorem r_2_is (H : Blocks D b x0 x1 x2 x3 x4 x5) : Is2 (a := 1) (b := 1024) (kernelRun0_B.sl.r_2 (F := Ideal) c arg6 harg6 x4) D.gn := H.h4.load0 harg6 _
theorem r_3_is (H : Blocks D b x0 x1 x2 x3 x4 x5) : Is2 (a := 1) (b := 1024) (kernelRun0_B.sl.r_3 (F := Ideal) c arg5 harg5 x3) (fun r j => D.mod (1 + r) j) := H.h3.load harg5 1 _
theorem r_4_is (H : Blocks D b x0 x1 x2 x3 x4 x5) : Is2 (kernelRun0_B.sl.r_4 (F := Ideal) c arg3 harg3 x1) (fun r _ => rs D.x (b + r)) := Block.r_is (H.h1.load0 harg3 _)
theorem r_5_is (H : Blocks D b x0 x1 x2 x3 x4 x5) : Is2 (kernelRun0_B.sl.r_5 (F := Ideal) c arg3 harg3 x1) (fun r j => D.n (b + r) j) := n_is (H.h1.load0 harg3 _)
theorem r_7_is (H : Blocks D b x0 x1 x2 x3 x4 x5) : Is2 (kernelRun0_B.sl.r_7 (F := Ideal) c arg3 harg3 arg6 harg6 x1 x4) (fun r j => D.n (b + r) j * D.gn 0 j) := ng_is (H.h1.load0 harg3 _) (H.h4.load0 harg6 _)
/-- The tokens' gradient. -/
theorem dx_out (H : Blocks D b x0 x1 x2 x3 x4 x5) : Is2 (out0_B_6 (F := Ideal) c i arg2 harg2 arg3 harg3 arg4 harg4 arg5 harg5 arg6 harg6 arg7 harg7 arg8 harg8 arg9 harg9 hc0 x0 x1 x2 x3 x4 x5 xo7) (fun r j => D.dx (b + r) j) := by
  unfold out0_B_6 kernelRun0_B
  exact Is2.storeAll _ _ _ (dx_is (r_is H) (r_1_is H) (r_2_is H) (r_3_is H) (r_4_is H) (r_5_is H))
theorem row_read (Hr : Is2 xo7 (D.rows b)) (q : ℕ) (hq : ∀ a, (![q, 0] : Fin 2 → ℕ) a + (![1, 1024] : Fin 2 → ℕ) a ≤ (⟨2, ![8, 1024]⟩ : Shape).size a) :
    Is2 (a := 1) (b := 1024) (View.readAt (Elt Ideal) arg9.view (Rect.unit (s := ⟨2, ![8, 1024]⟩) ![q, 0] ![1, 1024] hq).toLoadRect (harg9.unread xo7)) (fun _ j => D.rows b q j) := by
  refine Is2.congr (Hr.load harg9 q hq) fun i j hi _ => ?_
  obtain rfl : i = 0 := by omega
  rfl
theorem base_is (Hr : Is2 xo7 (D.rows b)) : Is2 (arg9.view.read (Elt Ideal) (arg9.view.writes (Elt Ideal) (harg9.unread xo7) [])) (D.rows b) := by
  rw [View.writes_nil, harg9.read_unread]; exact Hr
theorem small_out (H : Blocks D b x0 x1 x2 x3 x4 x5) (Hr : Is2 xo7 (D.rows b)) : Is2 (out0_B_7 (F := Ideal) c i arg2 harg2 arg3 harg3 arg4 harg4 arg5 harg5 arg6 harg6 arg7 harg7 arg8 harg8 arg9 harg9 hc0 x0 x1 x2 x3 x4 x5 xo7) (D.rows (b + 1024)) := by
  unfold out0_B_7 kernelRun0_B
  exact (Is2.storeRow arg9.view _ (Is2.storeRow arg9.view _ (Is2.storeRow arg9.view _ (base_is Hr) 0 _
    (row0_is (H.h0.load0b harg2 _) (H.h5.load0b harg7 _) (row_read (harg9 := harg9) Hr 0 _))) 1 _
    (row1_is (r_is H) (r_7_is H) (cast_is (row_read (harg9 := harg9) Hr 1 _)))) 2 _
    (row2_is (r_is H) (r_3_is H) (r_5_is H) (row_read (harg9 := harg9) Hr 2 _))).congr fun p j _ _ => D.rows_step b p j
end Cert.EnterIdeal.CaseB
end
-- ==== Proof.EnterArrays.lean ====
/-
The first normalisation's way back: what the call's windows hold, its outputs after each point, and the arrays at the end.
-/
module
public import proofs.«01_k».proof.Proof.Finite
public import proofs.«01_k».proof.Proof.EnterCases
public import proofs.«01_k».proof.Proof.Gen.EnterIdeal.Value
public import proofs.«01_k».proof.Defs
@[expose] public section
noncomputable section
open Idealize.ShloMosaic Idealize.ShloMosaic.TcCoe
open scoped BigOperators

/-- A pair's first array holds what its parts say. -/
theorem Cert.Reals.Is2.fst {a b : ℕ} {β : Type} {x : ((⟨2, ![a, b]⟩ : Shape).Idx → EReal) × β} {v : (⟨2, ![a, b]⟩ : Shape).Idx → EReal} {w : β} {f : ℕ → ℕ → ℝ}
    (e : x = (v, w)) (h : Cert.Reals.Is2 v f) : Cert.Reals.Is2 x.1 f := by subst e; exact h
/-- A pair's second array holds what its parts say. -/
theorem Cert.Reals.Is2.snd {a b : ℕ} {β : Type} {x : β × ((⟨2, ![a, b]⟩ : Shape).Idx → EReal)} {v : β} {w : (⟨2, ![a, b]⟩ : Shape).Idx → EReal} {f : ℕ → ℕ → ℝ}
    (e : x = (v, w)) (h : Cert.Reals.Is2 w f) : Cert.Reals.Is2 x.2 f := by subst e; exact h

namespace Cert.EnterIdeal.Arrays
open Cert.EnterIdeal Cert.EnterIdeal.Gen Cert.EnterIdeal.Value Cert.EnterIdeal.Block Cert.Reals Cert.Enter
variable (m : (ℓ : Loc nD τ sig) → Buf (Elt Ideal) ℓ) (c : Dev nD)

/-- The six arguments that count as real functions. -/
def data : Data where
  dp := realsOf (m ((c : Thread nD τ).loc main_arg1) : S4096x2304.Idx → EReal)
  x := realsOf (m ((c : Thread nD τ).loc main_arg2) : S4096x1024.Idx → EReal)
  res := realsOf (m ((c : Thread nD τ).loc main_arg3) : S4096x1024.Idx → EReal)
  mod := realsOf (m ((c : Thread nD τ).loc main_arg4) : S8x1024.Idx → EReal)
  gn := realsOf (m ((c : Thread nD τ).loc main_arg5) : S1x1024.Idx → EReal)
  w := realsOf (m ((c : Thread nD τ).loc main_arg6) : S1024x2304.Idx → EReal)

/-- The six arguments that count hold reals. -/
structure Args : Prop where
  a1 : Is2 (m ((c : Thread nD τ).loc main_arg1) : S4096x2304.Idx → EReal) (data m c).dp
  a2 : Is2 (m ((c : Thread nD τ).loc main_arg2) : S4096x1024.Idx → EReal) (data m c).x
  a3 : Is2 (m ((c : Thread nD τ).loc main_arg3) : S4096x1024.Idx → EReal) (data m c).res
  a4 : Is2 (m ((c : Thread nD τ).loc main_arg4) : S8x1024.Idx → EReal) (data m c).mod
  a5 : Is2 (m ((c : Thread nD τ).loc main_arg5) : S1x1024.Idx → EReal) (data m c).gn
  a6 : Is2 (m ((c : Thread nD τ).loc main_arg6) : S1024x2304.Idx → EReal) (data m c).w

/-- The precondition says so. -/
theorem args_of_pre [Cert.Pre_finite_enter.Facts] (h : Cert.Pre_EnterIdeal_finite_enter m) : Args m c := by
  obtain ⟨h1, h2, h3, h4, h5, h6⟩ := h c
  exact ⟨.realsOf (finite_of_lt _ h1), .realsOf (finite_of_lt _ h2), .realsOf (finite_of_lt _ h3), .realsOf (finite_of_lt _ h4),
    .realsOf (finite_of_lt _ h5), .realsOf (finite_of_lt _ h6)⟩

variable {m c}
/-- The weight, turned over by the host. -/
theorem wt_is (h : Args m c) : Is2 (V m c main_v0 : S2304x1024.Idx → EReal) (fun k j => (data m c).w j k) := by
  have e : V m c main_v0 = transpose S2304x1024 [1, 0] (m ((c : Thread nD τ).loc main_arg6)) transposes_S1024x2304_S2304x1024_1_0 := by
    unfold_abbrev_sides; after_results
  rw [e]
  exact h.a6.htranspose _
/-- Window 0 reads 1024 rows a point. -/
theorem rows0 {f : ℕ → ℕ → ℝ} (hf : Is2 (V m c main_arg1 : S4096x2304.Idx → EReal) f) (t : Fin cfg0.N) :
    Is2 (iblk m c 0 t : S1024x2304.Idx → EReal) (fun r j => f (1024 * t.val + r) j) := fun r j => by
  have hi : win0_0.index t 0 = t.val ∧ win0_0.index t 1 = 0 := (by decide +kernel : ∀ t : Fin grid0.N, win0_0.index t 0 = t.val ∧ win0_0.index t 1 = 0) t
  have hN : t.val < 4 := lt_of_lt_of_eq t.isLt N_0
  have hr : 1024 * t.val + r.val < 4096 := by have := r.isLt; omega
  refine Eq.trans ?_ (hf ⟨1024 * t.val + r.val, hr⟩ j)
  unfold iblk
  rw [View.read_apply]
  show V m c main_arg1 _ = V m c main_arg1 _
  congr 1
  funext a
  apply Fin.ext
  match a with
  | ⟨0, _⟩ => show win0_0.index t 0 * 1024 + 1 * r.val = 1024 * t.val + r.val; rw [hi.1]; omega
  | ⟨1, _⟩ => show win0_0.index t 1 * 2304 + 1 * j.val = j.val; rw [hi.2]; omega
/-- Window 1 reads 1024 rows a point. -/
theorem rows1 {f : ℕ → ℕ → ℝ} (hf : Is2 (V m c main_arg2 : S4096x1024.Idx → EReal) f) (t : Fin cfg0.N) :
    Is2 (iblk m c 1 t : S1024x1024.Idx → EReal) (fun r j => f (1024 * t.val + r) j) := fun r j => by
  have hi : win0_1.index t 0 = t.val ∧ win0_1.index t 1 = 0 := (by decide +kernel : ∀ t : Fin grid0.N, win0_1.index t 0 = t.val ∧ win0_1.index t 1 = 0) t
  have hN : t.val < 4 := lt_of_lt_of_eq t.isLt N_0
  have hr : 1024 * t.val + r.val < 4096 := by have := r.isLt; omega
  refine Eq.trans ?_ (hf ⟨1024 * t.val + r.val, hr⟩ j)
  unfold iblk
  rw [View.read_apply]
  show V m c main_arg2 _ = V m c main_arg2 _
  congr 1
  funext a
  apply Fin.ext
  match a with
  | ⟨0, _⟩ => show win0_1.index t 0 * 1024 + 1 * r.val = 1024 * t.val + r.val; rw [hi.1]; omega
  | ⟨1, _⟩ => show win0_1.index t 1 * 1024 + 1 * j.val = j.val; rw [hi.2]; omega
/-- Window 2 reads 1024 rows a point. -/
theorem rows2 {f : ℕ → ℕ → ℝ} (hf : Is2 (V m c main_arg3 : S4096x1024.Idx → EReal) f) (t : Fin cfg0.N) :
    Is2 (iblk m c 2 t : S1024x1024.Idx → EReal) (fun r j => f (1024 * t.val + r) j) := fun r j => by
  have hi : win0_2.index t 0 = t.val ∧ win0_2.index t 1 = 0 := (by decide +kernel : ∀ t : Fin grid0.N, win0_2.index t 0 = t.val ∧ win0_2.index t 1 = 0) t
  have hN : t.val < 4 := lt_of_lt_of_eq t.isLt N_0
  have hr : 1024 * t.val + r.val < 4096 := by have := r.isLt; omega
  refine Eq.trans ?_ (hf ⟨1024 * t.val + r.val, hr⟩ j)
  unfold iblk
  rw [View.read_apply]
  show V m c main_arg3 _ = V m c main_arg3 _
  congr 1
  funext a
  apply Fin.ext
  match a with
  | ⟨0, _⟩ => show win0_2.index t 0 * 1024 + 1 * r.val = 1024 * t.val + r.val; rw [hi.1]; omega
  | ⟨1, _⟩ => show win0_2.index t 1 * 1024 + 1 * j.val = j.val; rw [hi.2]; omega
/-- Window 3 reads its whole array at every point. -/
theorem whole3 {f : ℕ → ℕ → ℝ} (hf : Is2 (V m c main_arg4 : S8x1024.Idx → EReal) f) (t : Fin cfg0.N) : Is2 (iblk m c 3 t : S8x1024.Idx → EReal) f := fun r j => by
  have hi : win0_3.index t 0 = 0 ∧ win0_3.index t 1 = 0 := (by decide +kernel : ∀ t : Fin grid0.N, win0_3.index t 0 = 0 ∧ win0_3.index t 1 = 0) t
  refine Eq.trans ?_ (hf r j)
  unfold iblk
  rw [View.read_apply]
  show V m c main_arg4 _ = V m c main_arg4 _
  congr 1
  funext a
  apply Fin.ext
  match a with
  | ⟨0, _⟩ => show win0_3.index t 0 * 8 + 1 * r.val = r.val; rw [hi.1]; omega
  | ⟨1, _⟩ => show win0_3.index t 1 * 1024 + 1 * j.val = j.val; rw [hi.2]; omega
/-- Window 4 reads its whole array at every point. -/
theorem whole4 {f : ℕ → ℕ → ℝ} (hf : Is2 (V m c main_arg5 : S1x1024.Idx → EReal) f) (t : Fin cfg0.N) : Is2 (iblk m c 4 t : S1x1024.Idx → EReal) f := fun r j => by
  have hi : win0_4.index t 0 = 0 ∧ win0_4.index t 1 = 0 := (by decide +kernel : ∀ t : Fin grid0.N, win0_4.index t 0 = 0 ∧ win0_4.index t 1 = 0) t
  refine Eq.trans ?_ (hf r j)
  unfold iblk
  rw [View.read_apply]
  show V m c main_arg5 _ = V m c main_arg5 _
  congr 1
  funext a
  apply Fin.ext
  match a with
  | ⟨0, _⟩ => show win0_4.index t 0 * 1 + 1 * r.val = r.val; rw [hi.1]; omega
  | ⟨1, _⟩ => show win0_4.index t 1 * 1024 + 1 * j.val = j.val; rw [hi.2]; omega
/-- Window 5 reads its whole array at every point. -/
theorem whole5 {f : ℕ → ℕ → ℝ} (hf : Is2 (V m c main_v0 : S2304x1024.Idx → EReal) f) (t : Fin cfg0.N) : Is2 (iblk m c 5 t : S2304x1024.Idx → EReal) f := fun r j => by
  have hi : win0_5.index t 0 = 0 ∧ win0_5.index t 1 = 0 := (by decide +kernel : ∀ t : Fin grid0.N, win0_5.index t 0 = 0 ∧ win0_5.index t 1 = 0) t
  refine Eq.trans ?_ (hf r j)
  unfold iblk
  rw [View.read_apply]
  show V m c main_v0 _ = V m c main_v0 _
  congr 1
  funext a
  apply Fin.ext
  match a with
  | ⟨0, _⟩ => show win0_5.index t 0 * 2304 + 1 * r.val = r.val; rw [hi.1]; omega
  | ⟨1, _⟩ => show win0_5.index t 1 * 1024 + 1 * j.val = j.val; rw [hi.2]; omega

variable (h : Args m c)
include h
/-- At every point the windows hold that point's blocks. -/
theorem blocks (t : Fin cfg0.N) {b : ℕ} (hb : 1024 * t.val = b) : Blocks (data m c) b (iblk m c 0 t) (iblk m c 1 t) (iblk m c 2 t) (iblk m c 3 t) (iblk m c 4 t) (iblk m c 5 t) where
  h0 := hb ▸ rows0 (by rw [V_main_arg1]; exact h.a1) t
  h1 := hb ▸ rows1 (by rw [V_main_arg2]; exact h.a2) t
  h2 := hb ▸ rows2 (by rw [V_main_arg3]; exact h.a3) t
  h3 := whole3 (by rw [V_main_arg4]; exact h.a4) t
  h4 := whole4 (by rw [V_main_arg5]; exact h.a5) t
  h5 := whole5 (wt_is h) t

/-- The tokens' gradient after each point: that point's block. -/
theorem dx_after (t : Fin cfg0.N) : Is2 ((outsAt0 m c t.val t.isLt).1 : S1024x1024.Idx → EReal) (fun r j => (data m c).dx (1024 * t.val + r) j) := by
  by_cases h0 : t.val % 4 = 0
  · exact Is2.fst (outsAt0_A m c t h0) (CaseA.dx_out (blocks h t rfl))
  · exact Is2.fst (outsAt0_B m c t h0) (CaseB.dx_out (blocks h t rfl))

/-- The small rows after each point: the sums over the tokens so far. -/
theorem small_after : ∀ (n : ℕ) (hn : n < cfg0.N), Is2 ((outsAt0 m c n hn).2 : S8x1024.Idx → EReal) ((data m c).rows (1024 * n + 1024))
  | 0, hn => Is2.snd (outsAt0_A m c ⟨0, hn⟩ rfl) (CaseA.small_out (blocks h ⟨0, hn⟩ rfl))
  | n + 1, hn => by
    have h4 : n + 1 < 4 := lt_of_lt_of_eq hn N_0
    exact Is2.snd (outsAt0_B m c ⟨n + 1, hn⟩ (by show ¬ (n + 1) % 4 = 0; omega))
      (CaseB.small_out (blocks h ⟨n + 1, hn⟩ rfl) (small_after n (Nat.lt_of_succ_lt hn)))
omit h

theorem index6 : ∀ t : Fin cfg0.N, win0_6.index t 0 = t.val ∧ win0_6.index t 1 = 0 := (by decide +kernel : ∀ t : Fin grid0.N, _)
theorem index7 : ∀ t : Fin cfg0.N, win0_7.index t 0 = 0 ∧ win0_7.index t 1 = 0 := (by decide +kernel : ∀ t : Fin grid0.N, _)
variable (m c)
/-- The tokens' gradient as an array. -/
def dxArr : S4096x1024.Idx → EReal := fun i => (((data m c).dx (i 0).val (i 1).val : ℝ) : EReal)
/-- The small rows as an array. -/
def smallArr : S8x1024.Idx → EReal := fun i => (((data m c).rows 4096 (i 0).val (i 1).val : ℝ) : EReal)
theorem dxArr_is : Is2 (dxArr m c) (data m c).dx := fun _ _ => rfl
theorem smallArr_is : Is2 (smallArr m c) ((data m c).rows 4096) := fun _ _ => rfl
variable {m c}
include h
theorem flushed_dx (t : Fin cfg0.N) : (dats m 0 c).flushed 6 t = ((cfg0.win 6).blk t).view.read (Elt Ideal) (dxArr m c) := by
  have hi := index6 t
  rw [flushed6]
  funext y
  obtain ⟨p, j, rfl⟩ : ∃ (p : Fin 1024) (j : Fin 1024), y = ValueIdx.ix2 p j := ⟨y 0, y 1, ValueIdx.eq_ix2 y⟩
  refine (dx_after h t p j).trans ?_
  rw [View.read_apply]
  show (((data m c).dx (1024 * t.val + p.val) j.val : ℝ) : EReal)
    = (((data m c).dx (((cfg0.win 6).blk t).view.emb (ValueIdx.ix2 p j) 0).val (((cfg0.win 6).blk t).view.emb (ValueIdx.ix2 p j) 1).val : ℝ) : EReal)
  congr 2
  · show 1024 * t.val + p.val = win0_6.index t 0 * 1024 + 1 * p.val; rw [hi.1]; omega
  · show j.val = win0_6.index t 1 * 1024 + 1 * j.val; rw [hi.2]; omega
theorem flushed_small (t : Fin cfg0.N) (hf : (cfg0.win 7).flush t = true) : (dats m 0 c).flushed 7 t = ((cfg0.win 7).blk t).view.read (Elt Ideal) (smallArr m c) := by
  have hm : t.val % 4 = 3 := (flush0_7 t).mp hf
  have hN : t.val < 4 := lt_of_lt_of_eq t.isLt N_0
  have hi := index7 t
  rw [flushed7]
  funext y
  obtain ⟨p, j, rfl⟩ : ∃ (p : Fin 8) (j : Fin 1024), y = ValueIdx.ix2 p j := ⟨y 0, y 1, ValueIdx.eq_ix2 y⟩
  refine (small_after h t.val t.isLt p j).trans ?_
  rw [View.read_apply]
  show (((data m c).rows (1024 * t.val + 1024) p.val j.val : ℝ) : EReal)
    = (((data m c).rows 4096 (((cfg0.win 7).blk t).view.emb (ValueIdx.ix2 p j) 0).val (((cfg0.win 7).blk t).view.emb (ValueIdx.ix2 p j) 1).val : ℝ) : EReal)
  congr 2
  · omega
  · show p.val = win0_7.index t 0 * 8 + 1 * p.val; rw [hi.1]; omega
  · show j.val = win0_7.index t 1 * 1024 + 1 * j.val; rw [hi.2]; omega
/-- The array of the tokens' gradient at the end. -/
theorem final_dx : (dats m 0 c).arrAt 6 cfg0.N = dxArr m c :=
  (dats m 0 c).arrAt_eq_of_cover 6 _ (fun t _ => flushed_dx h t) (fun i => by
    have h0 : (i 0).val < 4096 := (i 0).isLt
    have h1 : (i 1).val < 1024 := (i 1).isLt
    have hq : (i 0).val / 1024 < cfg0.N := lt_of_lt_of_eq (show (i 0).val / 1024 < 4 by omega) N_0.symm
    have hi := index6 ⟨_, hq⟩
    refine ⟨⟨(i 0).val / 1024, hq⟩, flush0_6 _, ?_⟩
    show i ∈ ((View.whole main_v1_0).slice (win0_6.rect ⟨(i 0).val / 1024, hq⟩)).set
    rw [View.set_slice_whole, Rect.mem_set_unit]
    intro a
    match a with
    | ⟨0, _⟩ =>
      show win0_6.index ⟨(i 0).val / 1024, hq⟩ 0 * 1024 ≤ (i 0).val ∧ (i 0).val < win0_6.index ⟨(i 0).val / 1024, hq⟩ 0 * 1024 + 1024
      rw [hi.1]; dsimp only; omega
    | ⟨1, _⟩ =>
      show win0_6.index ⟨(i 0).val / 1024, hq⟩ 1 * 1024 ≤ (i 1).val ∧ (i 1).val < win0_6.index ⟨(i 0).val / 1024, hq⟩ 1 * 1024 + 1024
      rw [hi.2]; omega)
/-- The array of the small rows at the end. -/
theorem final_small : (dats m 0 c).arrAt 7 cfg0.N = smallArr m c :=
  (dats m 0 c).arrAt_eq_of_cover 7 _ (fun t hf => flushed_small h t hf) (fun i => by
    have h0 : (i 0).val < 8 := (i 0).isLt
    have h1 : (i 1).val < 1024 := (i 1).isLt
    have hq : 3 < cfg0.N := lt_of_lt_of_eq (show 3 < 4 by omega) N_0.symm
    have hi := index7 ⟨3, hq⟩
    refine ⟨⟨3, hq⟩, (flush0_7 _).mpr rfl, ?_⟩
    show i ∈ ((View.whole main_v1_1).slice (win0_7.rect ⟨3, hq⟩)).set
    rw [View.set_slice_whole, Rect.mem_set_unit]
    intro a
    match a with
    | ⟨0, _⟩ =>
      show win0_7.index ⟨3, hq⟩ 0 * 8 ≤ (i 0).val ∧ (i 0).val < win0_7.index ⟨3, hq⟩ 0 * 8 + 8
      rw [hi.1]; omega
    | ⟨1, _⟩ =>
      show win0_7.index ⟨3, hq⟩ 1 * 1024 ≤ (i 1).val ∧ (i 1).val < win0_7.index ⟨3, hq⟩ 1 * 1024 + 1024
      rw [hi.2]; omega)
end Cert.EnterIdeal.Arrays
end
-- ==== Proof.EnterLines.lean ====
/-
What each line of the first normalisation's reference computes, over the reals.
-/
module
public import proofs.«01_k».proof.Proof.Finite
public import proofs.«01_k».proof.Proof.Lines
public import proofs.«01_k».proof.Proof.EnterBlock
public import proofs.«01_k».proof.Proof.Gen.EnterReferenceIdeal.Read
@[expose] public section
noncomputable section
open Idealize.ShloMosaic
open scoped BigOperators

namespace Cert.EnterReferenceIdeal.Lines
open Cert.EnterReferenceIdeal Cert.EnterReferenceIdeal.Gen Cert.Reals Cert.Enter
open Cert.Spec (rs ms ms_pos nback)
open Cert.ReferenceIdeal.Lines (nback_ref)
open Cert.EnterReferenceIdeal.Read

variable {D : Data} {x1 : (⟨S4096x2304, .bf16⟩ : BufTy).Contents (Elt Ideal)} {x2 : (⟨S4096x1024, .f32⟩ : BufTy).Contents (Elt Ideal)} {x3 : (⟨S4096x1024, .bf16⟩ : BufTy).Contents (Elt Ideal)} {x4 : (⟨S8x1024, .f32⟩ : BufTy).Contents (Elt Ideal)} {x5 : (⟨S1x1024, .f32⟩ : BufTy).Contents (Elt Ideal)} {x6 : (⟨S1024x2304, .bf16⟩ : BufTy).Contents (Elt Ideal)}
/-- The six arguments that count hold reals. -/
structure RArgs (D : Data) (x1 : (⟨S4096x2304, .bf16⟩ : BufTy).Contents (Elt Ideal)) (x2 : (⟨S4096x1024, .f32⟩ : BufTy).Contents (Elt Ideal)) (x3 : (⟨S4096x1024, .bf16⟩ : BufTy).Contents (Elt Ideal)) (x4 : (⟨S8x1024, .f32⟩ : BufTy).Contents (Elt Ideal)) (x5 : (⟨S1x1024, .f32⟩ : BufTy).Contents (Elt Ideal)) (x6 : (⟨S1024x2304, .bf16⟩ : BufTy).Contents (Elt Ideal)) : Prop where
  a1 : Is2 (a := 4096) (b := 2304) x1 D.dp
  a2 : Is2 (a := 4096) (b := 1024) x2 D.x
  a3 : Is2 (a := 4096) (b := 1024) x3 D.res
  a4 : Is2 (a := 8) (b := 1024) x4 D.mod
  a5 : Is2 (a := 1) (b := 1024) x5 D.gn
  a6 : Is2 (a := 1024) (b := 2304) x6 D.w

variable (h : RArgs D x1 x2 x3 x4 x5 x6)
include h

theorem v0_is : Is2 (a := 4096) (b := 2304) (val_main_v0 (F := Ideal) x1) (fun p j => D.dp p j) := by
  unfold val_main_v0
  exact h.a1.ext _
theorem v1_is : Is2 (a := 4096) (b := 1024) (val_main_v1 (F := Ideal) x3) (fun p j => D.res p j) := by
  unfold val_main_v1
  exact h.a3.ext _
theorem v2_is : Is2 (a := 1024) (b := 2304) (val_main_v2 (F := Ideal) x6) (fun p j => D.w p j) := by
  unfold val_main_v2
  exact h.a6.ext _
theorem v3_is : Is2 (a := 1) (b := 1024) (val_main_v3 (F := Ideal) x4) (fun _ j => D.mod 0 j) := by
  unfold val_main_v3
  refine Is2.congr (h.a4.hslice 0 0 _) fun p j hp _ => ?_
  beta_reduce
  obtain rfl : p = 0 := by omega
  simp only [Nat.zero_add, Nat.add_zero]
theorem v4_is : Is2 (a := 1) (b := 1024) (val_main_v4 (F := Ideal) x4) (fun _ j => D.mod 1 j) := by
  unfold val_main_v4
  refine Is2.congr (h.a4.hslice 1 0 _) fun p j hp _ => ?_
  beta_reduce
  obtain rfl : p = 0 := by omega
  simp only [Nat.zero_add, Nat.add_zero]
theorem v5_is : Is2 (a := 4096) (b := 1024) (val_main_v5 (F := Ideal) x2) (fun p j => (D.x p j) * (D.x p j)) := by
  unfold val_main_v5
  exact h.a2.mul h.a2
omit h in
theorem cst_is : Is0 (val_main_cst (F := Ideal) ) (0) := by
  unfold val_main_cst
  exact Is0.const lit_zero
theorem v6_is : Is1 (a := 4096) (val_main_v6 (F := Ideal) x2) (fun p => ∑ k ∈ Finset.range 1024, ((D.x p k) * (D.x p k))) := by
  unfold val_main_v6
  exact (v5_is h).hrowSum (cst_is) _ _
theorem v7_is : Is2 (a := 4096) (b := 1) (val_main_v7 (F := Ideal) x2) (fun p _ => ∑ k ∈ Finset.range 1024, ((D.x p k) * (D.x p k))) := by
  unfold val_main_v7
  exact (v6_is h).hcol _
omit h in
theorem cst_0_is : Is0 (val_main_cst_0 (F := Ideal) ) (1024) := by
  unfold val_main_cst_0
  exact Is0.const lit_1024
omit h in
theorem v8_is : Is2 (a := 4096) (b := 1) (val_main_v8 (F := Ideal) ) (fun _ _ => 1024) := by
  unfold val_main_v8
  exact (cst_0_is).hsplat2 _ _
theorem v9_is : Is2 (a := 4096) (b := 1) (val_main_v9 (F := Ideal) x2) (fun p _ => (∑ k ∈ Finset.range 1024, ((D.x p k) * (D.x p k))) / 1024) := by
  unfold val_main_v9
  exact (v7_is h).hdiv (v8_is) (fun _ _ _ _ => by norm_num)
omit h in
theorem cst_1_is : Is0 (val_main_cst_1 (F := Ideal) ) (eps) := by
  unfold val_main_cst_1
  exact Is0.const lit_eps
omit h in
theorem v10_is : Is2 (a := 4096) (b := 1) (val_main_v10 (F := Ideal) ) (fun _ _ => eps) := by
  unfold val_main_v10
  exact (cst_1_is).hsplat2 _ _
theorem v11_is : Is2 (a := 4096) (b := 1) (val_main_v11 (F := Ideal) x2) (fun p _ => ms D.x p) := by
  unfold val_main_v11
  refine Is2.congr ((v9_is h).add (v10_is)) fun p j hp _ => ?_
  rfl
theorem v12_is : Is2 (a := 4096) (b := 1) (val_main_v12 (F := Ideal) x2) (fun p _ => rs D.x p) := by
  unfold val_main_v12
  refine Is2.congr ((v11_is h).hrsqrt (fun p _ => ms_pos _ _)) fun p j hp _ => ?_
  rfl
theorem v13_is : Is2 (a := 4096) (b := 1) (val_main_v13 (F := Ideal) x2) (fun p _ => (rs D.x p) / (ms D.x p)) := by
  unfold val_main_v13
  exact (v12_is h).hdiv (v11_is h) (fun _ _ _ _ => (ms_pos _ _).ne')
omit h in
theorem cst_2_is : Is0 (val_main_cst_2 (F := Ideal) ) ((-(1/2))) := by
  unfold val_main_cst_2
  exact Is0.const lit_neg_half
omit h in
theorem v14_is : Is2 (a := 4096) (b := 1) (val_main_v14 (F := Ideal) ) (fun _ _ => (-(1/2))) := by
  unfold val_main_v14
  exact (cst_2_is).hsplat2 _ _
theorem v15_is : Is2 (a := 4096) (b := 1) (val_main_v15 (F := Ideal) x2) (fun p _ => -(1/2) * (rs D.x p / ms D.x p)) := by
  unfold val_main_v15
  refine Is2.congr ((v14_is).mul (v13_is h)) fun p j hp _ => ?_
  rfl
theorem v16_is : Is2 (a := 4096) (b := 1024) (val_main_v16 (F := Ideal) x2) (fun p _ => rs D.x p) := by
  unfold val_main_v16
  exact (v12_is h).hcol _
theorem v17_is : Is2 (a := 4096) (b := 1024) (val_main_v17 (F := Ideal) x2) (fun p j => D.n p j) := by
  unfold val_main_v17
  refine Is2.congr (h.a2.mul (v16_is h)) fun p j hp _ => ?_
  rfl
theorem v18_is : Is2 (a := 4096) (b := 1024) (val_main_v18 (F := Ideal) x5) (fun _ j => D.gn 0 j) := by
  unfold val_main_v18
  exact h.a5.hrow _
theorem v19_is : Is2 (a := 4096) (b := 1024) (val_main_v19 (F := Ideal) x2 x5) (fun p j => (D.n p j) * (D.gn 0 j)) := by
  unfold val_main_v19
  exact (v17_is h).mul (v18_is h)
omit h in
theorem cst_3_is : Is0 (val_main_cst_3 (F := Ideal) ) (1) := by
  unfold val_main_cst_3
  exact Is0.const lit_one
omit h in
theorem v20_is : Is2 (a := 1) (b := 1024) (val_main_v20 (F := Ideal) ) (fun _ _ => 1) := by
  unfold val_main_v20
  exact (cst_3_is).hsplat2 _ _
theorem v21_is : Is2 (a := 1) (b := 1024) (val_main_v21 (F := Ideal) x4) (fun _ j => 1 + (D.mod 1 j)) := by
  unfold val_main_v21
  exact (v20_is).add (v4_is h)
theorem v22_is : Is2 (a := 4096) (b := 1024) (val_main_v22 (F := Ideal) x4) (fun _ j => 1 + (D.mod 1 j)) := by
  unfold val_main_v22
  exact (v21_is h).hrow _
theorem v23_is : Is2 (a := 4096) (b := 1024) (val_main_v23 (F := Ideal) x2 x4 x5) (fun p j => ((D.n p j) * (D.gn 0 j)) * (1 + (D.mod 1 j))) := by
  unfold val_main_v23
  exact (v19_is h).mul (v22_is h)
theorem v24_is : Is2 (a := 4096) (b := 1024) (val_main_v24 (F := Ideal) x4) (fun _ j => D.mod 0 j) := by
  unfold val_main_v24
  exact (v3_is h).hrow _
theorem v25_is : Is2 (a := 4096) (b := 1024) (val_main_v25 (F := Ideal) x2 x4 x5) (fun p j => (((D.n p j) * (D.gn 0 j)) * (1 + (D.mod 1 j))) + (D.mod 0 j)) := by
  unfold val_main_v25
  exact (v23_is h).add (v24_is h)
theorem v26_is : Is2 (a := 4096) (b := 2304) (val_main_v26 (F := Ideal) x2 x4 x5 x6) (fun p j => ∑ k ∈ Finset.range 1024, ((((D.n p k) * (D.gn 0 k)) * (1 + (D.mod 1 k))) + (D.mod 0 k)) * (D.w k j)) := by
  unfold val_main_v26
  exact (v25_is h).hdotNN (v2_is h) _
theorem v27_is : Is2 (a := 4096) (b := 1024) (val_main_v27 (F := Ideal) x1 x6) (fun p j => D.dh p j) := by
  unfold val_main_v27
  refine Is2.congr ((v0_is h).hdotNT (v2_is h) _) fun p j hp _ => ?_
  rfl
omit h in
theorem cst_4_is : Is0 (val_main_cst_4 (F := Ideal) ) (0) := by
  unfold val_main_cst_4
  exact Is0.const lit_zero
theorem v28_is : Is1 (a := 1024) (val_main_v28 (F := Ideal) x1 x6) (fun p => ∑ k ∈ Finset.range 4096, (D.dh k p)) := by
  unfold val_main_v28
  exact (v27_is h).hcolSum (cst_4_is) _ _
theorem v29_is : Is2 (a := 1) (b := 1024) (val_main_v29 (F := Ideal) x1 x6) (fun _ j => D.rows 4096 0 j) := by
  unfold val_main_v29
  refine Is2.congr ((v28_is h).asRow _) fun p j hp _ => ?_
  rfl
theorem v30_is : Is2 (a := 4096) (b := 1024) (val_main_v30 (F := Ideal) x1 x2 x5 x6) (fun p j => ((D.n p j) * (D.gn 0 j)) * (D.dh p j)) := by
  unfold val_main_v30
  exact (v19_is h).mul (v27_is h)
omit h in
theorem cst_5_is : Is0 (val_main_cst_5 (F := Ideal) ) (0) := by
  unfold val_main_cst_5
  exact Is0.const lit_zero
theorem v31_is : Is1 (a := 1024) (val_main_v31 (F := Ideal) x1 x2 x5 x6) (fun p => ∑ k ∈ Finset.range 4096, (((D.n k p) * (D.gn 0 p)) * (D.dh k p))) := by
  unfold val_main_v31
  exact (v30_is h).hcolSum (cst_5_is) _ _
theorem v32_is : Is2 (a := 1) (b := 1024) (val_main_v32 (F := Ideal) x1 x2 x5 x6) (fun _ j => D.rows 4096 1 j) := by
  unfold val_main_v32
  refine Is2.congr ((v31_is h).asRow _) fun p j hp _ => ?_
  beta_reduce
  exact Finset.sum_congr rfl fun k _ => by simp only [Data.row] <;> ring
theorem v33_is : Is2 (a := 4096) (b := 1024) (val_main_v33 (F := Ideal) x4) (fun _ j => 1 + (D.mod 1 j)) := by
  unfold val_main_v33
  exact (v21_is h).hrow _
theorem v34_is : Is2 (a := 4096) (b := 1024) (val_main_v34 (F := Ideal) x1 x4 x6) (fun p j => D.dn p j) := by
  unfold val_main_v34
  refine Is2.congr ((v27_is h).mul (v33_is h)) fun p j hp _ => ?_
  rfl
theorem v35_is : Is2 (a := 4096) (b := 1024) (val_main_v35 (F := Ideal) x1 x2 x4 x6) (fun p j => (D.n p j) * (D.dn p j)) := by
  unfold val_main_v35
  exact (v17_is h).mul (v34_is h)
omit h in
theorem cst_6_is : Is0 (val_main_cst_6 (F := Ideal) ) (0) := by
  unfold val_main_cst_6
  exact Is0.const lit_zero
theorem v36_is : Is1 (a := 1024) (val_main_v36 (F := Ideal) x1 x2 x4 x6) (fun p => ∑ k ∈ Finset.range 4096, ((D.n k p) * (D.dn k p))) := by
  unfold val_main_v36
  exact (v35_is h).hcolSum (cst_6_is) _ _
theorem v37_is : Is2 (a := 1) (b := 1024) (val_main_v37 (F := Ideal) x1 x2 x4 x6) (fun _ j => D.rows 4096 2 j) := by
  unfold val_main_v37
  refine Is2.congr ((v36_is h).asRow _) fun p j hp _ => ?_
  beta_reduce
  exact Finset.sum_congr rfl fun k _ => by simp only [Data.row] <;> ring
theorem v38_is : Is2 (a := 4096) (b := 1024) (val_main_v38 (F := Ideal) x5) (fun _ j => D.gn 0 j) := by
  unfold val_main_v38
  exact h.a5.hrow _
theorem v39_is : Is2 (a := 4096) (b := 1024) (val_main_v39 (F := Ideal) x1 x4 x5 x6) (fun p j => D.dnx p j) := by
  unfold val_main_v39
  refine Is2.congr ((v34_is h).mul (v38_is h)) fun p j hp _ => ?_
  rfl
theorem v40_is : Is2 (a := 4096) (b := 1024) (val_main_v40 (F := Ideal) x1 x2 x4 x5 x6) (fun p j => (D.x p j) * (D.dnx p j)) := by
  unfold val_main_v40
  exact h.a2.mul (v39_is h)
omit h in
theorem cst_7_is : Is0 (val_main_cst_7 (F := Ideal) ) (0) := by
  unfold val_main_cst_7
  exact Is0.const lit_zero
theorem v41_is : Is1 (a := 4096) (val_main_v41 (F := Ideal) x1 x2 x4 x5 x6) (fun p => ∑ k ∈ Finset.range 1024, ((D.x p k) * (D.dnx p k))) := by
  unfold val_main_v41
  exact (v40_is h).hrowSum (cst_7_is) _ _
theorem v42_is : Is2 (a := 4096) (b := 1) (val_main_v42 (F := Ideal) x1 x2 x4 x5 x6) (fun p _ => ∑ k ∈ Finset.range 1024, ((D.x p k) * (D.dnx p k))) := by
  unfold val_main_v42
  exact (v41_is h).asCol _
theorem v43_is : Is2 (a := 4096) (b := 1024) (val_main_v43 (F := Ideal) x2) (fun p _ => rs D.x p) := by
  unfold val_main_v43
  exact (v12_is h).hcol _
theorem v44_is : Is2 (a := 4096) (b := 1024) (val_main_v44 (F := Ideal) x1 x2 x4 x5 x6) (fun p j => (D.dnx p j) * (rs D.x p)) := by
  unfold val_main_v44
  exact (v39_is h).mul (v43_is h)
theorem v45_is : Is2 (a := 4096) (b := 1) (val_main_v45 (F := Ideal) x1 x2 x4 x5 x6) (fun p _ => (∑ k ∈ Finset.range 1024, ((D.x p k) * (D.dnx p k))) * (-(1/2) * (rs D.x p / ms D.x p))) := by
  unfold val_main_v45
  exact (v42_is h).mul (v15_is h)
omit h in
theorem cst_8_is : Is0 (val_main_cst_8 (F := Ideal) ) (1024) := by
  unfold val_main_cst_8
  exact Is0.const lit_1024
omit h in
theorem v46_is : Is2 (a := 4096) (b := 1) (val_main_v46 (F := Ideal) ) (fun _ _ => 1024) := by
  unfold val_main_v46
  exact (cst_8_is).hsplat2 _ _
theorem v47_is : Is2 (a := 4096) (b := 1) (val_main_v47 (F := Ideal) x1 x2 x4 x5 x6) (fun p _ => ((∑ k ∈ Finset.range 1024, ((D.x p k) * (D.dnx p k))) * (-(1/2) * (rs D.x p / ms D.x p))) / 1024) := by
  unfold val_main_v47
  exact (v45_is h).hdiv (v46_is) (fun _ _ _ _ => by norm_num)
omit h in
theorem cst_9_is : Is0 (val_main_cst_9 (F := Ideal) ) (0) := by
  unfold val_main_cst_9
  exact Is0.const lit_zero
theorem v48_is : Is1 (a := 4096) (val_main_v48 (F := Ideal) x1 x2 x4 x5 x6) (fun p => ∑ k ∈ Finset.range 1, (((∑ k ∈ Finset.range 1024, ((D.x p k) * (D.dnx p k))) * (-(1/2) * (rs D.x p / ms D.x p))) / 1024)) := by
  unfold val_main_v48
  exact (v47_is h).hrowSum (cst_9_is) _ _
theorem v49_is : Is2 (a := 4096) (b := 1024) (val_main_v49 (F := Ideal) x1 x2 x4 x5 x6) (fun p _ => ∑ k ∈ Finset.range 1, (((∑ k ∈ Finset.range 1024, ((D.x p k) * (D.dnx p k))) * (-(1/2) * (rs D.x p / ms D.x p))) / 1024)) := by
  unfold val_main_v49
  exact (v48_is h).hcol _
theorem v50_is : Is2 (a := 4096) (b := 1024) (val_main_v50 (F := Ideal) x1 x2 x4 x5 x6) (fun p j => (D.x p j) * (∑ k ∈ Finset.range 1, (((∑ k ∈ Finset.range 1024, ((D.x p k) * (D.dnx p k))) * (-(1/2) * (rs D.x p / ms D.x p))) / 1024))) := by
  unfold val_main_v50
  exact h.a2.mul (v49_is h)
theorem v51_is : Is2 (a := 4096) (b := 1024) (val_main_v51 (F := Ideal) x1 x2 x4 x5 x6) (fun p j => ((D.dnx p j) * (rs D.x p)) + ((D.x p j) * (∑ k ∈ Finset.range 1, (((∑ k ∈ Finset.range 1024, ((D.x p k) * (D.dnx p k))) * (-(1/2) * (rs D.x p / ms D.x p))) / 1024)))) := by
  unfold val_main_v51
  exact (v44_is h).add (v50_is h)
theorem v52_is : Is2 (a := 4096) (b := 1024) (val_main_v52 (F := Ideal) x1 x2 x4 x5 x6) (fun p j => (∑ k ∈ Finset.range 1, (((∑ k ∈ Finset.range 1024, ((D.x p k) * (D.dnx p k))) * (-(1/2) * (rs D.x p / ms D.x p))) / 1024)) * (D.x p j)) := by
  unfold val_main_v52
  exact (v49_is h).mul h.a2
theorem v53_is : Is2 (a := 4096) (b := 1024) (val_main_v53 (F := Ideal) x1 x2 x4 x5 x6) (fun p j => nback D.dnx D.n (rs D.x) p j) := by
  unfold val_main_v53
  refine Is2.congr ((v51_is h).add (v52_is h)) fun p j hp _ => ?_
  beta_reduce
  exact nback_ref D.x D.dnx p j
omit h in
theorem cst_10_is : Is0 (val_main_cst_10 (F := Ideal) ) (0) := by
  unfold val_main_cst_10
  exact Is0.const lit_zero
omit h in
theorem v54_is : Is2 (a := 1) (b := 1024) (val_main_v54 (F := Ideal) ) (fun _ _ => 0) := by
  unfold val_main_v54
  exact (cst_10_is).hsplat2 _ _
theorem v55_is : Is2 (a := 4096) (b := 1024) (val_main_v55 (F := Ideal) x1 x2 x3 x4 x5 x6) (fun p j => D.dx p j) := by
  unfold val_main_v55
  refine Is2.congr ((v1_is h).add (v53_is h)) fun p j hp _ => ?_
  rfl
theorem v56_is : Is2 (a := 8) (b := 1024) (val_main_v56 (F := Ideal) x1 x2 x4 x5 x6) (D.rows 4096) := by
  unfold val_main_v56
  exact Is2.hstack (b := 1024) (v := ![val_main_v29 (F := Ideal) x1 x6, val_main_v32 (F := Ideal) x1 x2 x5 x6, val_main_v37 (F := Ideal) x1 x2 x4 x6, val_main_v54 (F := Ideal), val_main_v54 (F := Ideal), val_main_v54 (F := Ideal), val_main_v54 (F := Ideal), val_main_v54 (F := Ideal)]) (fun q => by
    match q with
    | ⟨0, _⟩ => exact (v29_is h).congr fun _ _ _ _ => rfl
    | ⟨1, _⟩ => exact (v32_is h).congr fun _ _ _ _ => rfl
    | ⟨2, _⟩ => exact (v37_is h).congr fun _ _ _ _ => rfl
    | ⟨3, _⟩ => exact v54_is.congr fun _ _ _ _ => (D.rows_rest 4096 3 _ (by decide)).symm
    | ⟨4, _⟩ => exact v54_is.congr fun _ _ _ _ => (D.rows_rest 4096 4 _ (by decide)).symm
    | ⟨5, _⟩ => exact v54_is.congr fun _ _ _ _ => (D.rows_rest 4096 5 _ (by decide)).symm
    | ⟨6, _⟩ => exact v54_is.congr fun _ _ _ _ => (D.rows_rest 4096 6 _ (by decide)).symm
    | ⟨7, _⟩ => exact v54_is.congr fun _ _ _ _ => (D.rows_rest 4096 7 _ (by decide)).symm) _
end Cert.EnterReferenceIdeal.Lines
end
-- ==== Proof.EnterEquation.lean ====
/-
The first normalisation's way back: the kernel's two outputs are the reference's, whenever the arguments hold no infinities.
-/
module
public import proofs.«01_k».proof.Proof.EnterArrays
public import proofs.«01_k».proof.Proof.EnterLines
public import proofs.«01_k».proof.Proof.Gen.EnterReferenceIdeal.Run
public import proofs.«01_k».proof.Defs
@[expose] public section
noncomputable section
open Idealize.ShloMosaic Idealize.ShloMosaic.TcCoe Idealize.ShloMosaic.StableHlo Idealize.SL.Sem
open scoped BigOperators

namespace Cert.EnterEquation
open Cert.Reals Cert.Enter

/-- The precondition's side conditions. -/
theorem preFacts : Cert.Pre_finite_enter.Facts where
  bitsLt_bf16_f32 := by decide
  bcast_S_S4096x2304 := by decide
  bcast_S_S4096x1024 := by decide
  bcast_S_S8x1024 := by decide
  bcast_S_S1x1024 := by decide
  bcast_S_S1024x2304 := by decide

/-- Both programs end with the same two arrays. -/
theorem equation [Cert.Pre_finite_enter.Facts] : Cert.algebraic_EnterIdeal_EnterReferenceIdeal_pre_finite_enter
    (hEnterIdeal := Cert.EnterIdeal.Gen.facts) (hEnterReferenceIdeal := Cert.EnterReferenceIdeal.Gen.facts) := by
  intro m g m' g' hpre harg
  have hk := fun c => Cert.EnterIdeal.Arrays.args_of_pre m c hpre
  have hr : ∀ c : Dev Cert.EnterIdeal.nD, Cert.EnterReferenceIdeal.Lines.RArgs (Cert.EnterIdeal.Arrays.data m c)
      (m' ((c.tc : Thread Cert.EnterReferenceIdeal.nD Cert.EnterReferenceIdeal.τ).loc Cert.EnterReferenceIdeal.main_arg1))
      (m' ((c.tc : Thread Cert.EnterReferenceIdeal.nD Cert.EnterReferenceIdeal.τ).loc Cert.EnterReferenceIdeal.main_arg2))
      (m' ((c.tc : Thread Cert.EnterReferenceIdeal.nD Cert.EnterReferenceIdeal.τ).loc Cert.EnterReferenceIdeal.main_arg3))
      (m' ((c.tc : Thread Cert.EnterReferenceIdeal.nD Cert.EnterReferenceIdeal.τ).loc Cert.EnterReferenceIdeal.main_arg4))
      (m' ((c.tc : Thread Cert.EnterReferenceIdeal.nD Cert.EnterReferenceIdeal.τ).loc Cert.EnterReferenceIdeal.main_arg5))
      (m' ((c.tc : Thread Cert.EnterReferenceIdeal.nD Cert.EnterReferenceIdeal.τ).loc Cert.EnterReferenceIdeal.main_arg6)) := fun c => by
    obtain ⟨e0, e1, e2, e3, e4, e5, e6⟩ := harg c
    rw [e1, e2, e3, e4, e5, e6]
    exact ⟨(hk c).a1, (hk c).a2, (hk c).a3, (hk c).a4, (hk c).a5, (hk c).a6⟩
  refine ⟨fun c => Cert.EnterIdeal.Arrays.dxArr m c, fun c => Cert.EnterIdeal.Arrays.smallArr m c, ?_, ?_⟩
  · exact (θ_run _ _ _).mono (fun r h c => ⟨(h c).1.trans (Cert.EnterIdeal.Arrays.final_dx (hk c)), (h c).2.1.trans (Cert.EnterIdeal.Arrays.final_small (hk c)), (h c).2.2⟩)
      (Cert.EnterIdeal.Value.run_blocks m g)
  · refine (θ_run _ _ _).mono (fun r h c => ?_) (Cert.EnterReferenceIdeal.Value.run m' g')
    obtain ⟨h0, h1, hrest⟩ := h c
    exact ⟨h0.trans ((Cert.EnterReferenceIdeal.Read.val_main_v55_eq _ _).trans ((Cert.EnterReferenceIdeal.Lines.v55_is (hr c)).unique (Cert.EnterIdeal.Arrays.dxArr_is m c))),
      h1.trans ((Cert.EnterReferenceIdeal.Read.val_main_v56_eq _ _ _ _ _).trans ((Cert.EnterReferenceIdeal.Lines.v56_is (hr c)).unique (Cert.EnterIdeal.Arrays.smallArr_is m c))),
      hrest⟩
end Cert.EnterEquation
end
-- ==== Proof.SmallBits.lean ====
/-
The body of the update of the small parameters, on the bits: on whole buffers it runs to its end and leaves its inputs as they were.
-/
module

public import proofs.«01_k».proof.Proof.Gen.Small.Frame.Runs

@[expose] public section

set_option maxRecDepth 16384

noncomputable section

namespace Cert.Small.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A buffer of the kernel's core that holds an array. -/
abbrev held (c : Dev nD) {sp : Space} {s : Shape} {e : EltTy} (a : Memref sig .tc sp s e) (x : Vec F s e) : sProp 𝕄 := owns (c : Thread nD τ) a fullShare x
/-- The same, whatever the buffer held before it was filled. -/
abbrev given (c : Dev nD) {sp : Space} {s : Shape} {e : EltTy} (a : Memref sig .tc sp s e) (x : Vec F s e) : sProp 𝕄 := iprop(∃ _d : Vec F s e, owns (c : Thread nD τ) a fullShare x)
/-- A buffer of the kernel's core that holds anything. -/
abbrev anything (c : Dev nD) {sp : Space} {s : Shape} {e : EltTy} (a : Memref sig .tc sp s e) : sProp 𝕄 := iprop(∃ d, owns (c : Thread nD τ) a fullShare d)

set_option maxHeartbeats 20000000 in
/-- The body on whole buffers: the loads, the stores, and what they leave. -/
theorem body_run (c : Dev nD)
    (a0 : Memref sig .tc .smem S1 .i32) (h0 : a0.IsWhole) (a1 : Memref sig .tc .vmem S8x1x12032 .f32) (h1 : a1.IsWhole)
    (a2 : Memref sig .tc .vmem S8x32x128 .f32) (h2 : a2.IsWhole) (a3 : Memref sig .tc .vmem S8x32 .f32) (h3 : a3.IsWhole)
    (a4 : Memref sig .tc .vmem S8x32 .f32) (h4 : a4.IsWhole) (a5 : Memref sig .tc .vmem S8x32 .f32) (h5 : a5.IsWhole)
    (a6 : Memref sig .tc .vmem S1x6144 .f32) (h6 : a6.IsWhole) (a7 : Memref sig .tc .vmem S1x6144 .f32) (h7 : a7.IsWhole)
    (a8 : Memref sig .tc .vmem S1x6144 .f32) (h8 : a8.IsWhole) (a9 : Memref sig .tc .vmem S1x1024 .f32) (h9 : a9.IsWhole)
    (a10 : Memref sig .tc .vmem S1x1024 .f32) (h10 : a10.IsWhole) (a11 : Memref sig .tc .vmem S1x1024 .f32) (h11 : a11.IsWhole)
    (a12 : Memref sig .tc .vmem S1x8 .f32) (h12 : a12.IsWhole) (a13 : Memref sig .tc .vmem S1x8 .f32) (h13 : a13.IsWhole)
    (a14 : Memref sig .tc .vmem S1x8 .f32) (h14 : a14.IsWhole) (a15 : Memref sig .tc .vmem S3x1x64 .f32) (h15 : a15.IsWhole)
    (a16 : Memref sig .tc .vmem S3x1x64 .f32) (h16 : a16.IsWhole) (a17 : Memref sig .tc .vmem S3x1x64 .f32) (h17 : a17.IsWhole)
    (a18 : Memref sig .tc .vmem S1x512 .f32) (h18 : a18.IsWhole) (a19 : Memref sig .tc .vmem S1x512 .f32) (h19 : a19.IsWhole)
    (a20 : Memref sig .tc .vmem S1x512 .f32) (h20 : a20.IsWhole) (a21 : Memref sig .tc .vmem S1x512 .f32) (h21 : a21.IsWhole)
    (a22 : Memref sig .tc .vmem S1x512 .f32) (h22 : a22.IsWhole) (a23 : Memref sig .tc .vmem S1x512 .f32) (h23 : a23.IsWhole)
    (a24 : Memref sig .tc .vmem S1x1024 .f32) (h24 : a24.IsWhole) (a25 : Memref sig .tc .vmem S1x1024 .f32) (h25 : a25.IsWhole)
    (a26 : Memref sig .tc .vmem S1x1024 .f32) (h26 : a26.IsWhole) (a27 : Memref sig .tc .vmem S1x1024 .f32) (h27 : a27.IsWhole)
    (a28 : Memref sig .tc .vmem S1x1024 .f32) (h28 : a28.IsWhole) (a29 : Memref sig .tc .vmem S1x1024 .f32) (h29 : a29.IsWhole)
    (a30 : Memref sig .tc .vmem S1x128 .f32) (h30 : a30.IsWhole) (a31 : Memref sig .tc .vmem S8x32 .f32) (h31 : a31.IsWhole)
    (a32 : Memref sig .tc .vmem S8x32 .f32) (h32 : a32.IsWhole) (a33 : Memref sig .tc .vmem S8x32 .f32) (h33 : a33.IsWhole)
    (a34 : Memref sig .tc .vmem S8x32 .f32) (h34 : a34.IsWhole) (a35 : Memref sig .tc .vmem S1x6144 .f32) (h35 : a35.IsWhole)
    (a36 : Memref sig .tc .vmem S1x6144 .f32) (h36 : a36.IsWhole) (a37 : Memref sig .tc .vmem S1x6144 .f32) (h37 : a37.IsWhole)
    (a38 : Memref sig .tc .vmem S1x6144 .f32) (h38 : a38.IsWhole) (a39 : Memref sig .tc .vmem S1x1024 .f32) (h39 : a39.IsWhole)
    (a40 : Memref sig .tc .vmem S1x1024 .f32) (h40 : a40.IsWhole) (a41 : Memref sig .tc .vmem S1x1024 .f32) (h41 : a41.IsWhole)
    (a42 : Memref sig .tc .vmem S1x1024 .f32) (h42 : a42.IsWhole) (a43 : Memref sig .tc .vmem S1x8 .f32) (h43 : a43.IsWhole)
    (a44 : Memref sig .tc .vmem S1x8 .f32) (h44 : a44.IsWhole) (a45 : Memref sig .tc .vmem S1x8 .f32) (h45 : a45.IsWhole)
    (a46 : Memref sig .tc .vmem S1x8 .f32) (h46 : a46.IsWhole) (a47 : Memref sig .tc .vmem S3x1x64 .f32) (h47 : a47.IsWhole)
    (a48 : Memref sig .tc .vmem S3x1x64 .f32) (h48 : a48.IsWhole) (a49 : Memref sig .tc .vmem S3x1x64 .f32) (h49 : a49.IsWhole)
    (a50 : Memref sig .tc .vmem S3x1x64 .f32) (h50 : a50.IsWhole) (a51 : Memref sig .tc .vmem S1x512 .f32) (h51 : a51.IsWhole)
    (a52 : Memref sig .tc .vmem S1x512 .f32) (h52 : a52.IsWhole) (a53 : Memref sig .tc .vmem S1x512 .f32) (h53 : a53.IsWhole)
    (a54 : Memref sig .tc .vmem S1x512 .f32) (h54 : a54.IsWhole) (a55 : Memref sig .tc .vmem S1x512 .f32) (h55 : a55.IsWhole)
    (a56 : Memref sig .tc .vmem S1x512 .f32) (h56 : a56.IsWhole) (a57 : Memref sig .tc .vmem S1x512 .f32) (h57 : a57.IsWhole)
    (a58 : Memref sig .tc .vmem S1x512 .f32) (h58 : a58.IsWhole) (a59 : Memref sig .tc .vmem S1x1024 .f32) (h59 : a59.IsWhole)
    (a60 : Memref sig .tc .vmem S1x1024 .f32) (h60 : a60.IsWhole) (a61 : Memref sig .tc .vmem S1x1024 .f32) (h61 : a61.IsWhole)
    (a62 : Memref sig .tc .vmem S1x1024 .f32) (h62 : a62.IsWhole) (a63 : Memref sig .tc .vmem S1x1024 .f32) (h63 : a63.IsWhole)
    (a64 : Memref sig .tc .vmem S1x1024 .f32) (h64 : a64.IsWhole) (a65 : Memref sig .tc .vmem S1x1024 .f32) (h65 : a65.IsWhole)
    (a66 : Memref sig .tc .vmem S1x1024 .f32) (h66 : a66.IsWhole)
    (x0 : Vec F S1 .i32) (x1 : Vec F S8x1x12032 .f32) (x2 : Vec F S8x32x128 .f32) (x3 : Vec F S8x32 .f32) (x4 : Vec F S8x32 .f32) (x5 : Vec F S8x32 .f32)
    (x6 : Vec F S1x6144 .f32) (x7 : Vec F S1x6144 .f32) (x8 : Vec F S1x6144 .f32) (x9 : Vec F S1x1024 .f32) (x10 : Vec F S1x1024 .f32)
    (x11 : Vec F S1x1024 .f32) (x12 : Vec F S1x8 .f32) (x13 : Vec F S1x8 .f32) (x14 : Vec F S1x8 .f32) (x15 : Vec F S3x1x64 .f32)
    (x16 : Vec F S3x1x64 .f32) (x17 : Vec F S3x1x64 .f32) (x18 : Vec F S1x512 .f32) (x19 : Vec F S1x512 .f32) (x20 : Vec F S1x512 .f32)
    (x21 : Vec F S1x512 .f32) (x22 : Vec F S1x512 .f32) (x23 : Vec F S1x512 .f32) (x24 : Vec F S1x1024 .f32) (x25 : Vec F S1x1024 .f32)
    (x26 : Vec F S1x1024 .f32) (x27 : Vec F S1x1024 .f32) (x28 : Vec F S1x1024 .f32) (x29 : Vec F S1x1024 .f32)
    (E : Set ℕ) (K : PUnit → sProp 𝕄) :
    iprop((given c a0 x0 ∗ given c a1 x1 ∗ given c a2 x2 ∗ given c a3 x3 ∗ given c a4 x4 ∗ given c a5 x5 ∗ given c a6 x6 ∗ given c a7 x7 ∗ given c a8 x8 ∗
      given c a9 x9 ∗ given c a10 x10 ∗ given c a11 x11 ∗ given c a12 x12 ∗ given c a13 x13 ∗ given c a14 x14 ∗ given c a15 x15 ∗ given c a16 x16 ∗
      given c a17 x17 ∗ given c a18 x18 ∗ given c a19 x19 ∗ given c a20 x20 ∗ given c a21 x21 ∗ given c a22 x22 ∗ given c a23 x23 ∗ given c a24 x24 ∗
      given c a25 x25 ∗ given c a26 x26 ∗ given c a27 x27 ∗ given c a28 x28 ∗ given c a29 x29 ∗ anything c a30 ∗ anything c a31 ∗ anything c a32 ∗
      anything c a33 ∗ anything c a34 ∗ anything c a35 ∗ anything c a36 ∗ anything c a37 ∗ anything c a38 ∗ anything c a39 ∗ anything c a40 ∗ anything c a41 ∗
      anything c a42 ∗ anything c a43 ∗ anything c a44 ∗ anything c a45 ∗ anything c a46 ∗ anything c a47 ∗ anything c a48 ∗ anything c a49 ∗ anything c a50 ∗
      anything c a51 ∗ anything c a52 ∗ anything c a53 ∗ anything c a54 ∗ anything c a55 ∗ anything c a56 ∗ anything c a57 ∗ anything c a58 ∗ anything c a59 ∗
      anything c a60 ∗ anything c a61 ∗ anything c a62 ∗ anything c a63 ∗ anything c a64 ∗ anything c a65 ∗ anything c a66)
      ∗ (iprop(held c a0 x0 ∗ held c a1 x1 ∗ held c a2 x2 ∗ held c a3 x3 ∗ held c a4 x4 ∗ held c a5 x5 ∗ held c a6 x6 ∗ held c a7 x7 ∗ held c a8 x8 ∗ held c a9 x9 ∗
        held c a10 x10 ∗ held c a11 x11 ∗ held c a12 x12 ∗ held c a13 x13 ∗ held c a14 x14 ∗ held c a15 x15 ∗ held c a16 x16 ∗ held c a17 x17 ∗ held c a18 x18 ∗
        held c a19 x19 ∗ held c a20 x20 ∗ held c a21 x21 ∗ held c a22 x22 ∗ held c a23 x23 ∗ held c a24 x24 ∗ held c a25 x25 ∗ held c a26 x26 ∗ held c a27 x27 ∗
        held c a28 x28 ∗ held c a29 x29 ∗ anything c a30 ∗ anything c a31 ∗ anything c a32 ∗ anything c a33 ∗ anything c a34 ∗ anything c a35 ∗ anything c a36 ∗
        anything c a37 ∗ anything c a38 ∗ anything c a39 ∗ anything c a40 ∗ anything c a41 ∗ anything c a42 ∗ anything c a43 ∗ anything c a44 ∗ anything c a45 ∗
        anything c a46 ∗ anything c a47 ∗ anything c a48 ∗ anything c a49 ∗ anything c a50 ∗ anything c a51 ∗ anything c a52 ∗ anything c a53 ∗ anything c a54 ∗
        anything c a55 ∗ anything c a56 ∗ anything c a57 ∗ anything c a58 ∗ anything c a59 ∗ anything c a60 ∗ anything c a61 ∗ anything c a62 ∗ anything c a63 ∗
        anything c a64 ∗ anything c a65 ∗ anything c a66) -∗ K ⟨⟩))
    ⊢ wp frame (wpE (defs₀ (F := F)) Variants.none c none) E (cc0_small_update a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20
      a21 h21 a22 h22 a23 h23 a24 h24 a25 h25 a26 h26 a27 h27 a28 h28 a29 h29 a30 h30 a31 h31 a32 h32 a33 h33 a34 h34 a35 h35 a36 h36 a37 h37 a38 h38
      a39 h39 a40 h40 a41 h41 a42 h42 a43 h43 a44 h44 a45 h45 a46 h46 a47 h47 a48 h48 a49 h49 a50 h50 a51 h51 a52 h52 a53 h53 a54 h54 a55 h55 a56 h56
      a57 h57 a58 h58 a59 h59 a60 h60 a61 h61 a62 h62 a63 h63 a64 h64 a65 h65 a66 h66) K := by
  dsimp only [held, given, anything]
  simp only [cc0_small_update_eq_skeleton]; unfold cc0_small_update_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩,
    ⟨%d7, %f7, %e7, H7⟩, ⟨%d8, %f8, %e8, H8⟩, ⟨%d9, %f9, %e9, H9⟩, ⟨%d10, %f10, %e10, H10⟩, ⟨%d11, %f11, %e11, H11⟩, ⟨%d12, %f12, %e12, H12⟩,
    ⟨%d13, %f13, %e13, H13⟩, ⟨%d14, %f14, %e14, H14⟩, ⟨%d15, %f15, %e15, H15⟩, ⟨%d16, %f16, %e16, H16⟩, ⟨%d17, %f17, %e17, H17⟩, ⟨%d18, %f18, %e18, H18⟩,
    ⟨%d19, %f19, %e19, H19⟩, ⟨%d20, %f20, %e20, H20⟩, ⟨%d21, %f21, %e21, H21⟩, ⟨%d22, %f22, %e22, H22⟩, ⟨%d23, %f23, %e23, H23⟩, ⟨%d24, %f24, %e24, H24⟩,
    ⟨%d25, %f25, %e25, H25⟩, ⟨%d26, %f26, %e26, H26⟩, ⟨%d27, %f27, %e27, H27⟩, ⟨%d28, %f28, %e28, H28⟩, ⟨%d29, %f29, %e29, H29⟩, ⟨%d30, %f30, -, H30⟩,
    ⟨%d31, %f31, -, H31⟩, ⟨%d32, %f32, -, H32⟩, ⟨%d33, %f33, -, H33⟩, ⟨%d34, %f34, -, H34⟩, ⟨%d35, %f35, -, H35⟩, ⟨%d36, %f36, -, H36⟩,
    ⟨%d37, %f37, -, H37⟩, ⟨%d38, %f38, -, H38⟩, ⟨%d39, %f39, -, H39⟩, ⟨%d40, %f40, -, H40⟩, ⟨%d41, %f41, -, H41⟩, ⟨%d42, %f42, -, H42⟩,
    ⟨%d43, %f43, -, H43⟩, ⟨%d44, %f44, -, H44⟩, ⟨%d45, %f45, -, H45⟩, ⟨%d46, %f46, -, H46⟩, ⟨%d47, %f47, -, H47⟩, ⟨%d48, %f48, -, H48⟩,
    ⟨%d49, %f49, -, H49⟩, ⟨%d50, %f50, -, H50⟩, ⟨%d51, %f51, -, H51⟩, ⟨%d52, %f52, -, H52⟩, ⟨%d53, %f53, -, H53⟩, ⟨%d54, %f54, -, H54⟩,
    ⟨%d55, %f55, -, H55⟩, ⟨%d56, %f56, -, H56⟩, ⟨%d57, %f57, -, H57⟩, ⟨%d58, %f58, -, H58⟩, ⟨%d59, %f59, -, H59⟩, ⟨%d60, %f60, -, H60⟩,
    ⟨%d61, %f61, -, H61⟩, ⟨%d62, %f62, -, H62⟩, ⟨%d63, %f63, -, H63⟩, ⟨%d64, %f64, -, H64⟩, ⟨%d65, %f65, -, H65⟩, ⟨%d66, %f66, -, H66⟩⟩, Hk⟩
  obtain rfl := h0.eq_unread e0; obtain rfl := h1.eq_unread e1; obtain rfl := h2.eq_unread e2; obtain rfl := h3.eq_unread e3;
  obtain rfl := h4.eq_unread e4; obtain rfl := h5.eq_unread e5; obtain rfl := h6.eq_unread e6; obtain rfl := h7.eq_unread e7;
  obtain rfl := h8.eq_unread e8; obtain rfl := h9.eq_unread e9; obtain rfl := h10.eq_unread e10; obtain rfl := h11.eq_unread e11;
  obtain rfl := h12.eq_unread e12; obtain rfl := h13.eq_unread e13; obtain rfl := h14.eq_unread e14; obtain rfl := h15.eq_unread e15;
  obtain rfl := h16.eq_unread e16; obtain rfl := h17.eq_unread e17; obtain rfl := h18.eq_unread e18; obtain rfl := h19.eq_unread e19;
  obtain rfl := h20.eq_unread e20; obtain rfl := h21.eq_unread e21; obtain rfl := h22.eq_unread e22; obtain rfl := h23.eq_unread e23;
  obtain rfl := h24.eq_unread e24; obtain rfl := h25.eq_unread e25; obtain rfl := h26.eq_unread e26; obtain rfl := h27.eq_unread e27;
  obtain rfl := h28.eq_unread e28; obtain rfl := h29.eq_unread e29
  sl_exec
  sl_step
  iapply Hk
  isplitl [H0]
  · iexists _; isplitr; swap; · iexact H0
    ipureintro; exact h0.read_unread _
  isplitl [H1]
  · iexists _; isplitr; swap; · iexact H1
    ipureintro; exact h1.read_unread _
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact h5.read_unread _
  isplitl [H6]
  · iexists _; isplitr; swap; · iexact H6
    ipureintro; exact h6.read_unread _
  isplitl [H7]
  · iexists _; isplitr; swap; · iexact H7
    ipureintro; exact h7.read_unread _
  isplitl [H8]
  · iexists _; isplitr; swap; · iexact H8
    ipureintro; exact h8.read_unread _
  isplitl [H9]
  · iexists _; isplitr; swap; · iexact H9
    ipureintro; exact h9.read_unread _
  isplitl [H10]
  · iexists _; isplitr; swap; · iexact H10
    ipureintro; exact h10.read_unread _
  isplitl [H11]
  · iexists _; isplitr; swap; · iexact H11
    ipureintro; exact h11.read_unread _
  isplitl [H12]
  · iexists _; isplitr; swap; · iexact H12
    ipureintro; exact h12.read_unread _
  isplitl [H13]
  · iexists _; isplitr; swap; · iexact H13
    ipureintro; exact h13.read_unread _
  isplitl [H14]
  · iexists _; isplitr; swap; · iexact H14
    ipureintro; exact h14.read_unread _
  isplitl [H15]
  · iexists _; isplitr; swap; · iexact H15
    ipureintro; exact h15.read_unread _
  isplitl [H16]
  · iexists _; isplitr; swap; · iexact H16
    ipureintro; exact h16.read_unread _
  isplitl [H17]
  · iexists _; isplitr; swap; · iexact H17
    ipureintro; exact h17.read_unread _
  isplitl [H18]
  · iexists _; isplitr; swap; · iexact H18
    ipureintro; exact h18.read_unread _
  isplitl [H19]
  · iexists _; isplitr; swap; · iexact H19
    ipureintro; exact h19.read_unread _
  isplitl [H20]
  · iexists _; isplitr; swap; · iexact H20
    ipureintro; exact h20.read_unread _
  isplitl [H21]
  · iexists _; isplitr; swap; · iexact H21
    ipureintro; exact h21.read_unread _
  isplitl [H22]
  · iexists _; isplitr; swap; · iexact H22
    ipureintro; exact h22.read_unread _
  isplitl [H23]
  · iexists _; isplitr; swap; · iexact H23
    ipureintro; exact h23.read_unread _
  isplitl [H24]
  · iexists _; isplitr; swap; · iexact H24
    ipureintro; exact h24.read_unread _
  isplitl [H25]
  · iexists _; isplitr; swap; · iexact H25
    ipureintro; exact h25.read_unread _
  isplitl [H26]
  · iexists _; isplitr; swap; · iexact H26
    ipureintro; exact h26.read_unread _
  isplitl [H27]
  · iexists _; isplitr; swap; · iexact H27
    ipureintro; exact h27.read_unread _
  isplitl [H28]
  · iexists _; isplitr; swap; · iexact H28
    ipureintro; exact h28.read_unread _
  isplitl [H29]
  · iexists _; isplitr; swap; · iexact H29
    ipureintro; exact h29.read_unread _
  isplitl [H30]
  · iexists _, _; isplitr; swap; · iexact H30
    ipureintro; rfl
  isplitl [H31]
  · iexists _, _; isplitr; swap; · iexact H31
    ipureintro; rfl
  isplitl [H32]
  · iexists _, _; isplitr; swap; · iexact H32
    ipureintro; rfl
  isplitl [H33]
  · iexists _, _; isplitr; swap; · iexact H33
    ipureintro; rfl
  isplitl [H34]
  · iexists _, _; isplitr; swap; · iexact H34
    ipureintro; rfl
  isplitl [H35]
  · iexists _, _; isplitr; swap; · iexact H35
    ipureintro; rfl
  isplitl [H36]
  · iexists _, _; isplitr; swap; · iexact H36
    ipureintro; rfl
  isplitl [H37]
  · iexists _, _; isplitr; swap; · iexact H37
    ipureintro; rfl
  isplitl [H38]
  · iexists _, _; isplitr; swap; · iexact H38
    ipureintro; rfl
  isplitl [H39]
  · iexists _, _; isplitr; swap; · iexact H39
    ipureintro; rfl
  isplitl [H40]
  · iexists _, _; isplitr; swap; · iexact H40
    ipureintro; rfl
  isplitl [H41]
  · iexists _, _; isplitr; swap; · iexact H41
    ipureintro; rfl
  isplitl [H42]
  · iexists _, _; isplitr; swap; · iexact H42
    ipureintro; rfl
  isplitl [H43]
  · iexists _, _; isplitr; swap; · iexact H43
    ipureintro; rfl
  isplitl [H44]
  · iexists _, _; isplitr; swap; · iexact H44
    ipureintro; rfl
  isplitl [H45]
  · iexists _, _; isplitr; swap; · iexact H45
    ipureintro; rfl
  isplitl [H46]
  · iexists _, _; isplitr; swap; · iexact H46
    ipureintro; rfl
  isplitl [H47]
  · iexists _, _; isplitr; swap; · iexact H47
    ipureintro; rfl
  isplitl [H48]
  · iexists _, _; isplitr; swap; · iexact H48
    ipureintro; rfl
  isplitl [H49]
  · iexists _, _; isplitr; swap; · iexact H49
    ipureintro; rfl
  isplitl [H50]
  · iexists _, _; isplitr; swap; · iexact H50
    ipureintro; rfl
  isplitl [H51]
  · iexists _, _; isplitr; swap; · iexact H51
    ipureintro; rfl
  isplitl [H52]
  · iexists _, _; isplitr; swap; · iexact H52
    ipureintro; rfl
  isplitl [H53]
  · iexists _, _; isplitr; swap; · iexact H53
    ipureintro; rfl
  isplitl [H54]
  · iexists _, _; isplitr; swap; · iexact H54
    ipureintro; rfl
  isplitl [H55]
  · iexists _, _; isplitr; swap; · iexact H55
    ipureintro; rfl
  isplitl [H56]
  · iexists _, _; isplitr; swap; · iexact H56
    ipureintro; rfl
  isplitl [H57]
  · iexists _, _; isplitr; swap; · iexact H57
    ipureintro; rfl
  isplitl [H58]
  · iexists _, _; isplitr; swap; · iexact H58
    ipureintro; rfl
  isplitl [H59]
  · iexists _, _; isplitr; swap; · iexact H59
    ipureintro; rfl
  isplitl [H60]
  · iexists _, _; isplitr; swap; · iexact H60
    ipureintro; rfl
  isplitl [H61]
  · iexists _, _; isplitr; swap; · iexact H61
    ipureintro; rfl
  isplitl [H62]
  · iexists _, _; isplitr; swap; · iexact H62
    ipureintro; rfl
  isplitl [H63]
  · iexists _, _; isplitr; swap; · iexact H63
    ipureintro; rfl
  isplitl [H64]
  · iexists _, _; isplitr; swap; · iexact H64
    ipureintro; rfl
  isplitl [H65]
  · iexists _, _; isplitr; swap; · iexact H65
    ipureintro; rfl
  iexists _, _; isplitr; swap; · iexact H66
  ipureintro; rfl

end Cert.Small.Gen

end
-- ==== Proof.SmallBitsFrame.lean ====
/-
The run of the update of the small parameters, on the bits: what its pipeline leaves.
-/
module

public import proofs.«01_k».proof.Proof.SmallBits
public import Idealize.ShloMosaic.Lib.Claim

@[expose] public section

set_option maxRecDepth 16384

noncomputable section

namespace Cert.Small.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The outputs: nothing is said of them. -/
def forgets0 : Fin 67 → Bool := fun w => w.val == 30 || w.val == 31 || w.val == 32 || w.val == 33 || w.val == 34 || w.val == 35 || w.val == 36 || w.val == 37 || w.val == 38 || w.val == 39 ||
  w.val == 40 || w.val == 41 || w.val == 42 || w.val == 43 || w.val == 44 || w.val == 45 || w.val == 46 || w.val == 47 || w.val == 48 || w.val == 49 ||
  w.val == 50 || w.val == 51 || w.val == 52 || w.val == 53 || w.val == 54 || w.val == 55 || w.val == 56 || w.val == 57 || w.val == 58 || w.val == 59 ||
  w.val == 60 || w.val == 61 || w.val == 62 || w.val == 63 || w.val == 64 || w.val == 65 || w.val == 66

/-- The pipeline's data: its arrays as the launch finds them, and what the body leaves in each buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, h⟩ => Pipeline.Dat.unnamed (cfg := cfg0) ⟨30, h⟩ t
    | ⟨31, h⟩ => Pipeline.Dat.unnamed (cfg := cfg0) ⟨31, h⟩ t
    | ⟨32, h⟩ => Pipeline.Dat.unnamed (cfg := cfg0) ⟨32, h⟩ t
    | ⟨33, h⟩ => Pipeline.Dat.unnamed (cfg := cfg0) ⟨33, h⟩ t
    | ⟨34, h⟩ => Pipeline.Dat.unnamed (cfg := cfg0) ⟨34, h⟩ t
    | ⟨35, h⟩ => Pipeline.Dat.unnamed (cfg := cfg0) ⟨35, h⟩ t
    | ⟨36, h⟩ => Pipeline.Dat.unnamed (cfg := cfg0) ⟨36, h⟩ t
    | ⟨37, h⟩ => Pipeline.Dat.unnamed (cfg := cfg0) ⟨37, h⟩ t
    | ⟨38, h⟩ => Pipeline.Dat.unnamed (cfg := cfg0) ⟨38, h⟩ t
    | ⟨39, h⟩ => Pipeline.Dat.unnamed (cfg := cfg0) ⟨39, h⟩ t
    | ⟨40, h⟩ => Pipeline.Dat.unnamed (cfg := cfg0) ⟨40, h⟩ t
    | ⟨41, h⟩ => Pipeline.Dat.unnamed (cfg := cfg0) ⟨41, h⟩ t
    | ⟨42, h⟩ => Pipeline.Dat.unnamed (cfg := cfg0) ⟨42, h⟩ t
    | ⟨43, h⟩ => Pipeline.Dat.unnamed (cfg := cfg0) ⟨43, h⟩ t
    | ⟨44, h⟩ => Pipeline.Dat.unnamed (cfg := cfg0) ⟨44, h⟩ t
    | ⟨45, h⟩ => Pipeline.Dat.unnamed (cfg := cfg0) ⟨45, h⟩ t
    | ⟨46, h⟩ => Pipeline.Dat.unnamed (cfg := cfg0) ⟨46, h⟩ t
    | ⟨47, h⟩ => Pipeline.Dat.unnamed (cfg := cfg0) ⟨47, h⟩ t
    | ⟨48, h⟩ => Pipeline.Dat.unnamed (cfg := cfg0) ⟨48, h⟩ t
    | ⟨49, h⟩ => Pipeline.Dat.unnamed (cfg := cfg0) ⟨49, h⟩ t
    | ⟨50, h⟩ => Pipeline.Dat.unnamed (cfg := cfg0) ⟨50, h⟩ t
    | ⟨51, h⟩ => Pipeline.Dat.unnamed (cfg := cfg0) ⟨51, h⟩ t
    | ⟨52, h⟩ => Pipeline.Dat.unnamed (cfg := cfg0) ⟨52, h⟩ t
    | ⟨53, h⟩ => Pipeline.Dat.unnamed (cfg := cfg0) ⟨53, h⟩ t
    | ⟨54, h⟩ => Pipeline.Dat.unnamed (cfg := cfg0) ⟨54, h⟩ t
    | ⟨55, h⟩ => Pipeline.Dat.unnamed (cfg := cfg0) ⟨55, h⟩ t
    | ⟨56, h⟩ => Pipeline.Dat.unnamed (cfg := cfg0) ⟨56, h⟩ t
    | ⟨57, h⟩ => Pipeline.Dat.unnamed (cfg := cfg0) ⟨57, h⟩ t
    | ⟨58, h⟩ => Pipeline.Dat.unnamed (cfg := cfg0) ⟨58, h⟩ t
    | ⟨59, h⟩ => Pipeline.Dat.unnamed (cfg := cfg0) ⟨59, h⟩ t
    | ⟨60, h⟩ => Pipeline.Dat.unnamed (cfg := cfg0) ⟨60, h⟩ t
    | ⟨61, h⟩ => Pipeline.Dat.unnamed (cfg := cfg0) ⟨61, h⟩ t
    | ⟨62, h⟩ => Pipeline.Dat.unnamed (cfg := cfg0) ⟨62, h⟩ t
    | ⟨63, h⟩ => Pipeline.Dat.unnamed (cfg := cfg0) ⟨63, h⟩ t
    | ⟨64, h⟩ => Pipeline.Dat.unnamed (cfg := cfg0) ⟨64, h⟩ t
    | ⟨65, h⟩ => Pipeline.Dat.unnamed (cfg := cfg0) ⟨65, h⟩ t
    | ⟨66, h⟩ => Pipeline.Dat.unnamed (cfg := cfg0) ⟨66, h⟩ t
    | ⟨_ + 67, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

/-- A buffer that holds what `f` says, of whatever it held before. -/
abbrev B (c : Dev nD) {sp : Space} {s : Shape} {e : EltTy} {α : Type} (a : Memref sig .tc sp s e) (f : α → Vec F s e) : sProp 𝕄 :=
  iprop(∃ d, owns (c : Thread nD τ) a fullShare (f d))

/-- Before the body the inputs hold their blocks. -/
def bodyPre (c : Dev nD) (t : Fin cfg0.N) : sProp 𝕄 :=
  iprop((dats m 0 c).Φ t.castSucc ∗ (dats m 0 c).owesAt () t.castSucc ∗ B c (ms0_0 t) ((dats m 0 c).before 0 t) ∗ B c (ms0_1 t) ((dats m 0 c).before 1 t) ∗
    B c (ms0_2 t) ((dats m 0 c).before 2 t) ∗ B c (ms0_3 t) ((dats m 0 c).before 3 t) ∗ B c (ms0_4 t) ((dats m 0 c).before 4 t) ∗
    B c (ms0_5 t) ((dats m 0 c).before 5 t) ∗ B c (ms0_6 t) ((dats m 0 c).before 6 t) ∗ B c (ms0_7 t) ((dats m 0 c).before 7 t) ∗
    B c (ms0_8 t) ((dats m 0 c).before 8 t) ∗ B c (ms0_9 t) ((dats m 0 c).before 9 t) ∗ B c (ms0_10 t) ((dats m 0 c).before 10 t) ∗
    B c (ms0_11 t) ((dats m 0 c).before 11 t) ∗ B c (ms0_12 t) ((dats m 0 c).before 12 t) ∗ B c (ms0_13 t) ((dats m 0 c).before 13 t) ∗
    B c (ms0_14 t) ((dats m 0 c).before 14 t) ∗ B c (ms0_15 t) ((dats m 0 c).before 15 t) ∗ B c (ms0_16 t) ((dats m 0 c).before 16 t) ∗
    B c (ms0_17 t) ((dats m 0 c).before 17 t) ∗ B c (ms0_18 t) ((dats m 0 c).before 18 t) ∗ B c (ms0_19 t) ((dats m 0 c).before 19 t) ∗
    B c (ms0_20 t) ((dats m 0 c).before 20 t) ∗ B c (ms0_21 t) ((dats m 0 c).before 21 t) ∗ B c (ms0_22 t) ((dats m 0 c).before 22 t) ∗
    B c (ms0_23 t) ((dats m 0 c).before 23 t) ∗ B c (ms0_24 t) ((dats m 0 c).before 24 t) ∗ B c (ms0_25 t) ((dats m 0 c).before 25 t) ∗
    B c (ms0_26 t) ((dats m 0 c).before 26 t) ∗ B c (ms0_27 t) ((dats m 0 c).before 27 t) ∗ B c (ms0_28 t) ((dats m 0 c).before 28 t) ∗
    B c (ms0_29 t) ((dats m 0 c).before 29 t) ∗ anything c (ms0_30 t) ∗ anything c (ms0_31 t) ∗ anything c (ms0_32 t) ∗ anything c (ms0_33 t) ∗
    anything c (ms0_34 t) ∗ anything c (ms0_35 t) ∗ anything c (ms0_36 t) ∗ anything c (ms0_37 t) ∗ anything c (ms0_38 t) ∗ anything c (ms0_39 t) ∗
    anything c (ms0_40 t) ∗ anything c (ms0_41 t) ∗ anything c (ms0_42 t) ∗ anything c (ms0_43 t) ∗ anything c (ms0_44 t) ∗ anything c (ms0_45 t) ∗
    anything c (ms0_46 t) ∗ anything c (ms0_47 t) ∗ anything c (ms0_48 t) ∗ anything c (ms0_49 t) ∗ anything c (ms0_50 t) ∗ anything c (ms0_51 t) ∗
    anything c (ms0_52 t) ∗ anything c (ms0_53 t) ∗ anything c (ms0_54 t) ∗ anything c (ms0_55 t) ∗ anything c (ms0_56 t) ∗ anything c (ms0_57 t) ∗
    anything c (ms0_58 t) ∗ anything c (ms0_59 t) ∗ anything c (ms0_60 t) ∗ anything c (ms0_61 t) ∗ anything c (ms0_62 t) ∗ anything c (ms0_63 t) ∗
    anything c (ms0_64 t) ∗ anything c (ms0_65 t) ∗ anything c (ms0_66 t))

/-- After it the buffers hold what the data says. -/
def bodyPost (c : Dev nD) (t : Fin cfg0.N) : sProp 𝕄 :=
  iprop((dats m 0 c).Φ t.succ ∗ (dats m 0 c).owesAt () t.succ ∗ held c (ms0_0 t) ((dats m 0 c).after 0 t) ∗ held c (ms0_1 t) ((dats m 0 c).after 1 t) ∗
    held c (ms0_2 t) ((dats m 0 c).after 2 t) ∗ held c (ms0_3 t) ((dats m 0 c).after 3 t) ∗ held c (ms0_4 t) ((dats m 0 c).after 4 t) ∗
    held c (ms0_5 t) ((dats m 0 c).after 5 t) ∗ held c (ms0_6 t) ((dats m 0 c).after 6 t) ∗ held c (ms0_7 t) ((dats m 0 c).after 7 t) ∗
    held c (ms0_8 t) ((dats m 0 c).after 8 t) ∗ held c (ms0_9 t) ((dats m 0 c).after 9 t) ∗ held c (ms0_10 t) ((dats m 0 c).after 10 t) ∗
    held c (ms0_11 t) ((dats m 0 c).after 11 t) ∗ held c (ms0_12 t) ((dats m 0 c).after 12 t) ∗ held c (ms0_13 t) ((dats m 0 c).after 13 t) ∗
    held c (ms0_14 t) ((dats m 0 c).after 14 t) ∗ held c (ms0_15 t) ((dats m 0 c).after 15 t) ∗ held c (ms0_16 t) ((dats m 0 c).after 16 t) ∗
    held c (ms0_17 t) ((dats m 0 c).after 17 t) ∗ held c (ms0_18 t) ((dats m 0 c).after 18 t) ∗ held c (ms0_19 t) ((dats m 0 c).after 19 t) ∗
    held c (ms0_20 t) ((dats m 0 c).after 20 t) ∗ held c (ms0_21 t) ((dats m 0 c).after 21 t) ∗ held c (ms0_22 t) ((dats m 0 c).after 22 t) ∗
    held c (ms0_23 t) ((dats m 0 c).after 23 t) ∗ held c (ms0_24 t) ((dats m 0 c).after 24 t) ∗ held c (ms0_25 t) ((dats m 0 c).after 25 t) ∗
    held c (ms0_26 t) ((dats m 0 c).after 26 t) ∗ held c (ms0_27 t) ((dats m 0 c).after 27 t) ∗ held c (ms0_28 t) ((dats m 0 c).after 28 t) ∗
    held c (ms0_29 t) ((dats m 0 c).after 29 t) ∗ anything c (ms0_30 t) ∗ anything c (ms0_31 t) ∗ anything c (ms0_32 t) ∗ anything c (ms0_33 t) ∗
    anything c (ms0_34 t) ∗ anything c (ms0_35 t) ∗ anything c (ms0_36 t) ∗ anything c (ms0_37 t) ∗ anything c (ms0_38 t) ∗ anything c (ms0_39 t) ∗
    anything c (ms0_40 t) ∗ anything c (ms0_41 t) ∗ anything c (ms0_42 t) ∗ anything c (ms0_43 t) ∗ anything c (ms0_44 t) ∗ anything c (ms0_45 t) ∗
    anything c (ms0_46 t) ∗ anything c (ms0_47 t) ∗ anything c (ms0_48 t) ∗ anything c (ms0_49 t) ∗ anything c (ms0_50 t) ∗ anything c (ms0_51 t) ∗
    anything c (ms0_52 t) ∗ anything c (ms0_53 t) ∗ anything c (ms0_54 t) ∗ anything c (ms0_55 t) ∗ anything c (ms0_56 t) ∗ anything c (ms0_57 t) ∗
    anything c (ms0_58 t) ∗ anything c (ms0_59 t) ∗ anything c (ms0_60 t) ∗ anything c (ms0_61 t) ∗ anything c (ms0_62 t) ∗ anything c (ms0_63 t) ∗
    anything c (ms0_64 t) ∗ anything c (ms0_65 t) ∗ anything c (ms0_66 t))

set_option maxHeartbeats 4000000 in
/-- The body, from what the pipeline hands it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  have hb : ∀ w, (dats m 0 c).A w = V m c (Pipeline.arrRef spec0 w) := A_eq m c
  simp only [B, before0_0_of m (dats m 0 c) (hb 0) (fun _ => rfl), before0_1_of m (dats m 0 c) (hb 1) (fun _ => rfl),
    before0_2_of m (dats m 0 c) (hb 2) (fun _ => rfl), before0_3_of m (dats m 0 c) (hb 3) (fun _ => rfl),
    before0_4_of m (dats m 0 c) (hb 4) (fun _ => rfl), before0_5_of m (dats m 0 c) (hb 5) (fun _ => rfl),
    before0_6_of m (dats m 0 c) (hb 6) (fun _ => rfl), before0_7_of m (dats m 0 c) (hb 7) (fun _ => rfl),
    before0_8_of m (dats m 0 c) (hb 8) (fun _ => rfl), before0_9_of m (dats m 0 c) (hb 9) (fun _ => rfl),
    before0_10_of m (dats m 0 c) (hb 10) (fun _ => rfl), before0_11_of m (dats m 0 c) (hb 11) (fun _ => rfl),
    before0_12_of m (dats m 0 c) (hb 12) (fun _ => rfl), before0_13_of m (dats m 0 c) (hb 13) (fun _ => rfl),
    before0_14_of m (dats m 0 c) (hb 14) (fun _ => rfl), before0_15_of m (dats m 0 c) (hb 15) (fun _ => rfl),
    before0_16_of m (dats m 0 c) (hb 16) (fun _ => rfl), before0_17_of m (dats m 0 c) (hb 17) (fun _ => rfl),
    before0_18_of m (dats m 0 c) (hb 18) (fun _ => rfl), before0_19_of m (dats m 0 c) (hb 19) (fun _ => rfl),
    before0_20_of m (dats m 0 c) (hb 20) (fun _ => rfl), before0_21_of m (dats m 0 c) (hb 21) (fun _ => rfl),
    before0_22_of m (dats m 0 c) (hb 22) (fun _ => rfl), before0_23_of m (dats m 0 c) (hb 23) (fun _ => rfl),
    before0_24_of m (dats m 0 c) (hb 24) (fun _ => rfl), before0_25_of m (dats m 0 c) (hb 25) (fun _ => rfl),
    before0_26_of m (dats m 0 c) (hb 26) (fun _ => rfl), before0_27_of m (dats m 0 c) (hb 27) (fun _ => rfl),
    before0_28_of m (dats m 0 c) (hb 28) (fun _ => rfl), before0_29_of m (dats m 0 c) (hb 29) (fun _ => rfl)]
  rw [show (dats m 0 c).Φ t.succ = (dats m 0 c).Φ t.castSucc from rfl, show (dats m 0 c).owesAt () t.succ = (dats m 0 c).owesAt () t.castSucc from rfl]
  dsimp only [dats]
  iintro ⟨HΦ, Ho, H⟩
  iapply (body_run c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ Set.univ _)
  isplitl [H]; · iexact H
  iintro H
  isplitl [HΦ]; · iexact HΦ
  isplitl [Ho]; · iexact Ho
  iexact H

theorem defs₀_row (t : Fin cfg0.N) : defs₀ (F := F) .tc cfg0.body (cfg0.bodyArgs t (cfg0.slots t)) = bodyAt0 t := by
  unfold defs₀; rw [Defs.onTc_tc]

set_option maxHeartbeats 4000000 in
/-- What the library asks of the body. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The launch, every counter at zero at the end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

end Cert.Small.Gen

end
-- ==== Proof.Adam.lean ====
/-
One step of the optimiser on a matrix whose gradient comes in eight parts: the formulas on extended reals, and blocks of three axes.
No finiteness is needed: the same operations on the same entries, and a sum in another order.
-/
module
public import proofs.«01_k».proof.Proof.Sums
public import Idealize.ShloMosaic.Lib.DynamicIndex
@[expose] public section
noncomputable section
open Idealize.ShloMosaic
open scoped BigOperators

namespace Cert.Adam
open Cert.Sums

/-- The number a bit pattern of 32 bits stands for. -/
abbrev lit (b : BitVec 32) : EReal := (Scalar.ofBits .f32 b : Ideal .f32)
/-- The new first moment of one entry. -/
@[irreducible] def newM (g m : EReal) : EReal := FloatOps.addf (F := Ideal) (φ := .f32) (FloatOps.mulf (F := Ideal) (φ := .f32) (lit 0x3F666666#32) m) (FloatOps.mulf (F := Ideal) (φ := .f32) (lit 0x3DCCCCCD#32) g)
/-- The new second moment of one entry. -/
@[irreducible] def newV (g v : EReal) : EReal :=
  FloatOps.addf (F := Ideal) (φ := .f32) (FloatOps.mulf (F := Ideal) (φ := .f32) (lit 0x3F7FBE77#32) v)
    (FloatOps.mulf (F := Ideal) (φ := .f32) (lit 0x3A83126F#32) (FloatOps.mulf (F := Ideal) (φ := .f32) g g))
/-- What is added to one entry of the weight, from its new moments. -/
@[irreducible] def delta (w m v : EReal) : EReal :=
  FloatOps.mulf (F := Ideal) (φ := .f32) (lit 0xBA83126F#32) (FloatOps.addf (F := Ideal) (φ := .f32)
    (FloatOps.divf (F := Ideal) (φ := .f32) (FloatOps.divf (F := Ideal) (φ := .f32) m (lit 0x3F26BD02#32))
      (FloatOps.addf (F := Ideal) (φ := .f32) (Ideal.sqrt (FloatOps.divf (F := Ideal) (φ := .f32) v (lit 0x3C231ACC#32))) (lit 0x322BCC77#32)))
    (FloatOps.mulf (F := Ideal) (φ := .f32) (lit 0x3C23D70A#32) w))

/-! ## The kernel's lines -/
section kernel
variable {s : Shape} (g w m v : FVec Ideal s .f32)
theorem kernel_m (j : s.Idx) : addf (mulf (broadcast s (Scalar.ofBits .f32 0x3F666666#32 : Ideal .f32)) m) (mulf (broadcast s (Scalar.ofBits .f32 0x3DCCCCCD#32 : Ideal .f32)) g) j = newM (g j) (m j) := by unfold newM; rfl
theorem kernel_v (j : s.Idx) : addf (mulf (broadcast s (Scalar.ofBits .f32 0x3F7FBE77#32 : Ideal .f32)) v) (mulf (broadcast s (Scalar.ofBits .f32 0x3A83126F#32 : Ideal .f32)) (mulf g g)) j
    = newV (g j) (v j) := by unfold newV; rfl
theorem kernel_d (j : s.Idx) : mulf (broadcast s (Scalar.ofBits .f32 0xBA83126F#32 : Ideal .f32))
      (addf (divf (divf m (broadcast s (Scalar.ofBits .f32 0x3F26BD02#32 : Ideal .f32)))
        (addf (sqrt (divf v (broadcast s (Scalar.ofBits .f32 0x3C231ACC#32 : Ideal .f32)))) (broadcast s (Scalar.ofBits .f32 0x322BCC77#32 : Ideal .f32))))
        (mulf (broadcast s (Scalar.ofBits .f32 0x3C23D70A#32 : Ideal .f32)) w)) j
    = delta (w j) (m j) (v j) := by unfold delta; rfl
end kernel

/-! ## The reference's lines -/
section reference
variable {s : Shape} (h : (⟨0, ![]⟩ : Shape).BroadcastsInDim s (![] : Fin 0 → Fin s.rank)) (g w m v : FVec Ideal s .f32)
theorem host_m (j : s.Idx) : addf (mulf (broadcastInDim s ![] h (constant ⟨0, ![]⟩ .f32 0x3F666666#32)) m) (mulf (broadcastInDim s ![] h (constant ⟨0, ![]⟩ .f32 0x3DCCCCCD#32)) g) j = newM (g j) (m j) := by unfold newM; rfl
theorem host_v (j : s.Idx) : addf (mulf (broadcastInDim s ![] h (constant ⟨0, ![]⟩ .f32 0x3F7FBE77#32)) v) (mulf (broadcastInDim s ![] h (constant ⟨0, ![]⟩ .f32 0x3A83126F#32)) (mulf g g)) j
    = newV (g j) (v j) := by unfold newV; rfl
theorem host_d (j : s.Idx) : mulf (broadcastInDim s ![] h (constant ⟨0, ![]⟩ .f32 0xBA83126F#32))
      (addf (Host.divf (Host.divf m (broadcastInDim s ![] h (constant ⟨0, ![]⟩ .f32 0x3F26BD02#32)))
        (addf (Host.sqrt (Host.divf v (broadcastInDim s ![] h (constant ⟨0, ![]⟩ .f32 0x3C231ACC#32)))) (broadcastInDim s ![] h (constant ⟨0, ![]⟩ .f32 0x322BCC77#32))))
        (mulf (broadcastInDim s ![] h (constant ⟨0, ![]⟩ .f32 0x3C23D70A#32)) w)) j
    = delta (w j) (m j) (v j) := by unfold delta; rfl
end reference

/-! ## Arrays of three axes -/
/-- The array holds the extended reals `f`. -/
def Ex3 {a b c : ℕ} (v : (⟨3, ![a, b, c]⟩ : Shape).Idx → EReal) (f : ℕ → ℕ → ℕ → EReal) : Prop :=
  ∀ (k : Fin a) (p : Fin b) (j : Fin c), v (ValueIdx.ix3 k p j) = f k.val p.val j.val
/-- The entries of an array, zero outside of it. -/
def entries3 {a b c : ℕ} (v : (⟨3, ![a, b, c]⟩ : Shape).Idx → EReal) (k p j : ℕ) : EReal :=
  if h : k < a ∧ p < b ∧ j < c then v (ValueIdx.ix3 ⟨k, h.1⟩ ⟨p, h.2.1⟩ ⟨j, h.2.2⟩) else 0
theorem entries3_is {a b c : ℕ} (v : (⟨3, ![a, b, c]⟩ : Shape).Idx → EReal) : Ex3 v (entries3 v) := fun k p j => by
  unfold entries3; rw [dif_pos ⟨k.isLt, p.isLt, j.isLt⟩]

/-- The sum of the eight parts, this device's own first. -/
def grad (me : ℕ) (parts land : ℕ → ℕ → ℕ → EReal) (p j : ℕ) : EReal := parts me p j + ∑ k : Fin 7, land k.val p j

variable {a b c : ℕ} {f : ℕ → ℕ → ℕ → EReal}
/-- The only slab of an array, as a matrix of larger floats. -/
theorem slab {v : FVec Ideal ⟨3, ![1, b, c]⟩ .bf16} (hv : Ex3 v f) (hc : (⟨3, ![1, b, c]⟩ : Shape).ShapeCasts ⟨2, ![b, c]⟩) (hb : FTy.bits .bf16 < FTy.bits .f32) :
    Ex2 (extf .f32 (shapeCast ⟨2, ![b, c]⟩ v hc) hb) (fun p j => f 0 p j) := fun p j => by
  show shapeCast ⟨2, ![b, c]⟩ v hc (ValueIdx.ix2 p j) = _
  rw [shapeCast_apply v hc (ValueIdx.ix2 p j) (ValueIdx.ix3 0 p j) (by
    rewrite [Shape.rowMajor_val_three, Shape.rowMajor_val_two]
    show (0 * b + p.val) * c + j.val = p.val * c + j.val
    rw [Nat.zero_mul, Nat.zero_add])]
  exact hv 0 p j
section mem
variable {sig : RefSig} {κ : Kind} {sp : Space}
/-- A load of one slab. -/
theorem load {arg : Memref sig κ sp ⟨3, ![a, b, c]⟩ .bf16} (harg : arg.IsWhole) {x : Vec Ideal ⟨3, ![a, b, c]⟩ .bf16} (hx : Ex3 x f) (k : ℕ)
    (inb : ∀ z, (![k, 0, 0] : Fin 3 → ℕ) z + (![1, b, c] : Fin 3 → ℕ) z ≤ (⟨3, ![a, b, c]⟩ : Shape).size z) :
    Ex3 (View.readAt (Elt Ideal) arg.view (Rect.unit (s := ⟨3, ![a, b, c]⟩) ![k, 0, 0] ![1, b, c] inb).toLoadRect (harg.unread x)) (fun q p j => f (k + q) p j) := by
  rw [View.readAt_eq_ld, harg.read_unread]
  intro q p j
  have hk : k + 1 ≤ a := inb 0
  have hq : k + q.val < a := by have := q.isLt; omega
  refine (congrArg x ?_).trans (hx ⟨k + q.val, hq⟩ p j)
  funext z
  apply Fin.ext
  match z with
  | ⟨0, _⟩ => show k + 1 * q.val = k + q.val; omega
  | ⟨1, _⟩ => show 0 + 1 * p.val = p.val; omega
  | ⟨2, _⟩ => show 0 + 1 * j.val = j.val; omega
/-- A load of one slab, as a matrix of larger floats. -/
theorem slabLoad {arg : Memref sig κ sp ⟨3, ![a, b, c]⟩ .bf16} (harg : arg.IsWhole) {x : Vec Ideal ⟨3, ![a, b, c]⟩ .bf16} (hx : Ex3 x f) (k : ℕ)
    (inb : ∀ z, (![k, 0, 0] : Fin 3 → ℕ) z + (![1, b, c] : Fin 3 → ℕ) z ≤ (⟨3, ![a, b, c]⟩ : Shape).size z)
    (hc : (⟨3, ![1, b, c]⟩ : Shape).ShapeCasts ⟨2, ![b, c]⟩) (hb : FTy.bits .bf16 < FTy.bits .f32) :
    Ex2 (extf .f32 (φ := .bf16) (F := Ideal) (shapeCast ⟨2, ![b, c]⟩ (View.readAt (Elt Ideal) arg.view (Rect.unit (s := ⟨3, ![a, b, c]⟩) ![k, 0, 0] ![1, b, c] inb).toLoadRect (harg.unread x)) hc) hb)
      (fun p j => f k p j) := slab (f := fun q p j => f (k + q) p j) (load harg hx k inb) hc hb
end mem
/-- The kernel adds the parts up one after the other. -/
theorem chain (me : ℕ) (parts land : ℕ → ℕ → ℕ → EReal) (p j : ℕ) :
    parts me p j + land 0 p j + land 1 p j + land 2 p j + land 3 p j + land 4 p j + land 5 p j + land 6 p j = grad me parts land p j := by
  unfold grad
  simp only [Fin.sum_univ_succ, Fin.sum_univ_zero, add_zero, add_assoc]
  rfl

/-! ## The index of the device -/
/-- Two comparisons that both hold. -/
theorem index_bounds {x : BitVec 32} (h : IntOp.andi (IntOp.cmpi .sge x 0#32) (IntOp.cmpi .slt x 8#32) = 1#1) : x.toNat < 8 ∧ x.toInt = (x.toNat : ℤ) := by
  have andi_one (a b : BitVec 1) : IntOp.andi a b = 1#1 ↔ a = 1#1 ∧ b = 1#1 := by revert a b; decide
  have ofBool_eq_one (p : Bool) : (BitVec.ofBool p = 1#1) ↔ p = true := by cases p <;> decide
  rw [andi_one] at h
  simp only [ofBool_eq_one, IntOp.cmpi, BitVec.sle, BitVec.slt, decide_eq_true_eq, BitVec.toInt, BitVec.toNat_ofNat] at h
  have hx := x.isLt
  constructor
  · omega
  · rw [BitVec.toInt]; omega
/-- The reference's own slab: the index is in range, so that nothing is clamped. -/
theorem own {me : BitVec 32} (hm : me.toNat < 8) (hi : me.toInt = (me.toNat : ℤ)) {v : FVec Ideal ⟨3, ![8, b, c]⟩ .bf16} (hv : Ex3 v f) (start : Fin 3 → ℤ)
    (h0 : start 0 = me.toInt) (h1 : start 1 = 0) (h2 : start 2 = 0) (h : (⟨3, ![8, b, c]⟩ : Shape).Slices (fun _ => 0) ⟨3, ![1, b, c]⟩) :
    Ex3 (Host.dynamicSlice ⟨3, ![1, b, c]⟩ v start h) (fun k p j => f (me.toNat + k) p j) := by
  have hs : (⟨3, ![8, b, c]⟩ : Shape).Slices ![me.toNat, 0, 0] ⟨3, ![1, b, c]⟩ := ⟨rfl, fun z => by
    match z with
    | ⟨0, _⟩ => show me.toNat + 1 ≤ 8; omega
    | ⟨1, _⟩ => show 0 + b ≤ b; omega
    | ⟨2, _⟩ => show 0 + c ≤ c; omega⟩
  rw [Host.dynamicSlice_eq_extractStridedSlice _ v start ![me.toNat, 0, 0] h hs (fun z => by
    match z with
    | ⟨0, _⟩ => exact h0.trans hi
    | ⟨1, _⟩ => exact h1
    | ⟨2, _⟩ => exact h2)]
  intro k p j
  have hk : k.val = 0 := by have := k.isLt; omega
  refine Eq.trans (congrArg v ?_) (hv ⟨me.toNat + k.val, by omega⟩ p j)
  funext z
  apply Fin.ext
  match z with
  | ⟨0, _⟩ => rfl
  | ⟨1, _⟩ => show 0 + p.val = p.val; omega
  | ⟨2, _⟩ => show 0 + j.val = j.val; omega
end Cert.Adam
end
-- ==== Proof.SmallSpec.lean ====
/-
The update of the small parameters, as functions of its arguments: the devices' sums added up, and one step of the optimiser on each parameter.
-/
module
public import proofs.«01_k».proof.Proof.Adam
public import proofs.«01_k».proof.Proof.Gen.SmallIdeal.Skeleton
public import Idealize.ShloMosaic.Lib.VecWindow
@[expose] public section
noncomputable section
open Idealize.ShloMosaic
open scoped BigOperators

namespace Cert.SmallIdeal
open Cert.Sums Cert.Adam
/-- The devices' sums in one column of the packed row, added up. -/
def total (x : S8x1x12032.Idx → EReal) (j : ℕ) : EReal := ∑ k : Fin 8, entries3 x k.val 0 j
/-- The columns of the packed row from `o` on. -/
def lanes {n : ℕ} (o : ℕ) (x : S8x1x12032.Idx → EReal) : (⟨2, ![1, n]⟩ : Shape).Idx → EReal := fun i => total x (o + (i 1).val)
/-- The bias of the relative positions: the devices' sums added up, the heads as rows. -/
def rel (x : S8x32x128.Idx → EReal) : S8x32.Idx → EReal := fun i => ∑ k : Fin 8, entries3 x k.val (i 1).val (i 0).val
/-- The convolution's three rows of the packed row, and rows of zeros. -/
def rows (x : S8x1x12032.Idx → EReal) : S8x512.Idx → EReal :=
  concatenate S8x512 0 [⟨S1x512, extractStridedSlice S1x512 ![0, 10368] (lanes 0 x) Gen.slices_S1x12032_o0_10368_S1x512⟩, ⟨S1x512, extractStridedSlice S1x512 ![0, 10880] (lanes 0 x) Gen.slices_S1x12032_o0_10880_S1x512⟩,
    ⟨S1x512, extractStridedSlice S1x512 ![0, 11392] (lanes 0 x) Gen.slices_S1x12032_o0_11392_S1x512⟩, ⟨S5x512, broadcast S5x512 (Scalar.ofBits .f32 0x00000000#32 : Ideal .f32)⟩] Gen.concatenates_S1x512_S1x512_S1x512_S5x512_S8x512_d0
/-- This device's columns of the convolution's rows, as the kernel cuts them out. -/
def taps (x0 : S1.Idx → BitVec 32) (x1 : S8x1x12032.Idx → EReal) : S3x64.Idx → EReal :=
  Gen.k0_pay7 (F := Ideal) (rows x1) (Scalar.subi 512#32 (Scalar.muli (x0 (ValueIdx.ix1 0)) 64#32)) 512#32 (Scalar.cmpi .eq 512#32 0#32) 1#32
/-- A device's columns, as the weights are laid out. -/
def col (T : S3x64.Idx → EReal) : S3x1x64.Idx → EReal := fun i => T (ValueIdx.ix2 (i 0) (i 2))
/-- The gradient of the convolution's weights. -/
def conv (x0 : S1.Idx → BitVec 32) (x1 : S8x1x12032.Idx → EReal) : S3x1x64.Idx → EReal := col (taps x0 x1)

variable {s : Shape}
/-- The new first moments. -/
def mom1 (g m : s.Idx → EReal) : s.Idx → EReal := fun i => newM (g i) (m i)
/-- The new second moments. -/
def mom2 (g v : s.Idx → EReal) : s.Idx → EReal := fun i => newV (g i) (v i)
/-- What is added to a weight. -/
def step (w m v : s.Idx → EReal) : s.Idx → EReal := fun i => delta (w i) (m i) (v i)

section mem
variable {sig : RefSig} {κ : Kind} {sp : Space} {e : EltTy}
/-- A load of a whole array. -/
theorem load_full {arg : Memref sig κ sp s e} (harg : arg.IsWhole) (x : Vec Ideal s e) {off : Fin s.rank → ℕ} (inb : ∀ a, off a + s.size a ≤ s.size a) :
    View.readAt (Elt Ideal) arg.view (Rect.unit off s.size inb).toLoadRect (harg.unread x) = x := by
  rw [View.readAt_eq_ld, harg.read_unread]
  funext y
  exact congrArg x (funext fun a => Fin.ext (by show off a + 1 * (y a).val = (y a).val; have := inb a; omega))
end mem
end Cert.SmallIdeal
end
-- ==== Proof.SmallSums.lean ====
/-
The small parameters' update: what the kernel's lines are in terms of the arguments.
-/
module
public import proofs.«01_k».proof.Proof.SmallSpec
@[expose] public section
noncomputable section
open Idealize.ShloMosaic
open scoped BigOperators

namespace Cert.SmallIdeal
open Cert.Sums Cert.Adam Cert.SmallIdeal.Gen
/-- One device's slab. -/
def part {b c : ℕ} (k : ℕ) (x : (⟨3, ![8, b, c]⟩ : Shape).Idx → EReal) : (⟨3, ![1, b, c]⟩ : Shape).Idx → EReal := fun i => entries3 x k (i 1).val (i 2).val
/-- One row of three. -/
def tap (k : Fin 3) (x : S3x1x64.Idx → EReal) : S1x1x64.Idx → EReal := fun i => x (ValueIdx.ix3 k 0 (i 2))

section mem
variable {sig : RefSig} {κ : Kind} {sp : Space}
theorem load_part {b c : ℕ} {arg : Memref sig κ sp ⟨3, ![8, b, c]⟩ .f32} (harg : arg.IsWhole) (x : Vec Ideal ⟨3, ![8, b, c]⟩ .f32) (k : ℕ)
    (inb : ∀ z, (![k, 0, 0] : Fin 3 → ℕ) z + (![1, b, c] : Fin 3 → ℕ) z ≤ (⟨3, ![8, b, c]⟩ : Shape).size z) :
    View.readAt (Elt Ideal) arg.view (Rect.unit (s := ⟨3, ![8, b, c]⟩) ![k, 0, 0] ![1, b, c] inb).toLoadRect (harg.unread x) = part k x := by
  rw [View.readAt_eq_ld, harg.read_unread]
  funext i
  have hk : k + 1 ≤ 8 := inb 0
  have h0 : (i 0).val < 1 := (i 0).isLt
  refine Eq.trans (congrArg x (?_ : _ = ValueIdx.ix3 ⟨k, by omega⟩ (i 1) (i 2))) (entries3_is x _ _ _)
  funext z
  apply Fin.ext
  match z with
  | ⟨0, _⟩ => show k + 1 * (i 0).val = k; omega
  | ⟨1, _⟩ => show 0 + 1 * (i 1).val = (i 1).val; omega
  | ⟨2, _⟩ => show 0 + 1 * (i 2).val = (i 2).val; omega
theorem load_tap {arg : Memref sig κ sp S3x1x64 .f32} (harg : arg.IsWhole) (x : Vec Ideal S3x1x64 .f32) (k : Fin 3) {off : Fin 3 → ℕ} (ho : off = ![k.val, 0, 0])
    (inb : ∀ z, off z + S1x1x64.size z ≤ S3x1x64.size z) :
    View.readAt (Elt Ideal) arg.view (Rect.unit (s := S3x1x64) off S1x1x64.size inb).toLoadRect (harg.unread x) = tap k x := by
  subst ho
  rw [View.readAt_eq_ld, harg.read_unread]
  funext i
  have h0 : (i 0).val < 1 := (i 0).isLt
  have h1 : (i 1).val < 1 := (i 1).isLt
  refine congrArg x (funext fun z => Fin.ext ?_)
  match z with
  | ⟨0, _⟩ => show k.val + 1 * (i 0).val = k.val; omega
  | ⟨1, _⟩ => show 0 + 1 * (i 1).val = 0; omega
  | ⟨2, _⟩ => show 0 + 1 * (i 2).val = (i 2).val; omega
theorem load_tap0 {arg : Memref sig κ sp S3x1x64 .f32} (harg : arg.IsWhole) (x : Vec Ideal S3x1x64 .f32) (inb : ∀ z, (![0, 0, 0] : Fin 3 → ℕ) z + S1x1x64.size z ≤ S3x1x64.size z) :
    View.readAt (Elt Ideal) arg.view (Rect.unit (s := S3x1x64) ![0, 0, 0] S1x1x64.size inb).toLoadRect (harg.unread x) = tap 0 x := load_tap harg x 0 rfl inb
theorem load_tap1 {arg : Memref sig κ sp S3x1x64 .f32} (harg : arg.IsWhole) (x : Vec Ideal S3x1x64 .f32) (inb : ∀ z, (![1, 0, 0] : Fin 3 → ℕ) z + S1x1x64.size z ≤ S3x1x64.size z) :
    View.readAt (Elt Ideal) arg.view (Rect.unit (s := S3x1x64) ![1, 0, 0] S1x1x64.size inb).toLoadRect (harg.unread x) = tap 1 x := load_tap harg x 1 rfl inb
theorem load_tap2 {arg : Memref sig κ sp S3x1x64 .f32} (harg : arg.IsWhole) (x : Vec Ideal S3x1x64 .f32) (inb : ∀ z, (![2, 0, 0] : Fin 3 → ℕ) z + S1x1x64.size z ≤ S3x1x64.size z) :
    View.readAt (Elt Ideal) arg.view (Rect.unit (s := S3x1x64) ![2, 0, 0] S1x1x64.size inb).toLoadRect (harg.unread x) = tap 2 x := load_tap harg x 2 rfl inb
/-- The device's number, read from its buffer. -/
theorem load_me {arg : Memref sig κ sp S1 .i32} (harg : arg.IsWhole) (x : Vec Ideal S1 .i32) (inb : ∀ z, (![0] : Fin 1 → ℕ) z + S1.size z ≤ S1.size z) (i : S1.Idx) :
    View.readAt (Elt Ideal) arg.view (Rect.unit (s := S1) ![0] S1.size inb).toLoadRect (harg.unread x) i = x (ValueIdx.ix1 0) := by
  rw [load_full]
  exact congrArg x (funext fun z => Fin.ext (by
    match z with
    | ⟨0, _⟩ => have : (i 0).val < 1 := (i 0).isLt; show (i 0).val = 0; omega))
/-- Three stores of a row each are one array. -/
theorem rows3 (v : View sig κ sp S3x1x64 .f32) (f : v.ty.Contents (Elt Ideal)) (inb0 inb1 inb2) (w0 w1 w2 : S1x1x64.Idx → EReal) (Y : S3x1x64.Idx → EReal)
    (h0 : w0 = tap 0 Y) (h1 : w1 = tap 1 Y) (h2 : w2 = tap 2 Y) :
    v.read (Elt Ideal) (v.writes (Elt Ideal) f [⟨Rect.unit ![2, 0, 0] S1x1x64.size inb2, w2⟩, ⟨Rect.unit ![1, 0, 0] S1x1x64.size inb1, w1⟩, ⟨Rect.unit ![0, 0, 0] S1x1x64.size inb0, w0⟩]) = Y := by
  funext y
  subst h0 h1 h2
  have hy1 : (y 1).val < 1 := (y 1).isLt
  have at_ (k : Fin 3) (hk : (y 0).val = k.val) : tap k Y (ValueIdx.ix3 0 0 (y 2)) = Y y := congrArg Y (funext fun z => Fin.ext (by
    match z with
    | ⟨0, _⟩ => exact hk.symm
    | ⟨1, _⟩ => show 0 = (y 1).val; omega
    | ⟨2, _⟩ => rfl))
  have mem (k : ℕ) (hk : (y 0).val = k) : ∀ a, (y a).val = (![k, 0, 0] : Fin 3 → ℕ) a + ((ValueIdx.ix3 0 0 (y 2) : S1x1x64.Idx) a).val := fun a => by
    match a with
    | ⟨0, _⟩ => show (y 0).val = k + 0; omega
    | ⟨1, _⟩ => show (y 1).val = 0 + 0; omega
    | ⟨2, _⟩ => show (y 2).val = 0 + (y 2).val; omega
  have out (k : ℕ) (hk : (y 0).val < k) : (y 0).val < (![k, 0, 0] : Fin 3 → ℕ) 0 ∨ (![k, 0, 0] : Fin 3 → ℕ) 0 + S1x1x64.size 0 ≤ (y 0).val := .inl hk
  have h3 : (y 0).val < 3 := (y 0).isLt
  rcases (by omega : (y 0).val = 2 ∨ (y 0).val = 1 ∨ (y 0).val = 0) with h | h | h
  · exact (View.read_writes_cons_unit_of_mem v f inb2 _ _ y _ rfl (mem 2 h)).trans (at_ 2 h)
  · exact (View.read_writes_cons_unit_of_not_mem v f inb2 _ _ y rfl 0 (out 2 (by omega))).trans
      ((View.read_writes_cons_unit_of_mem v f inb1 _ _ y _ rfl (mem 1 h)).trans (at_ 1 h))
  · exact (View.read_writes_cons_unit_of_not_mem v f inb2 _ _ y rfl 0 (out 2 (by omega))).trans
      ((View.read_writes_cons_unit_of_not_mem v f inb1 _ _ y rfl 0 (out 1 (by omega))).trans
        ((View.read_writes_cons_unit_of_mem v f inb0 _ _ y _ rfl (mem 0 h)).trans (at_ 0 h)))
end mem

/-! ## The sums -/
theorem drop {b c : ℕ} (k : ℕ) (x : (⟨3, ![8, b, c]⟩ : Shape).Idx → EReal) (h : (⟨3, ![1, b, c]⟩ : Shape).ShapeCasts ⟨2, ![b, c]⟩) (i : (⟨2, ![b, c]⟩ : Shape).Idx) :
    shapeCast ⟨2, ![b, c]⟩ (part k x) h i = entries3 x k (i 0).val (i 1).val :=
  shapeCast_apply (part k x) h i (ValueIdx.ix3 0 (i 0) (i 1)) (by
    rewrite [Shape.rowMajor_val_three, Shape.rowMajor_val_two]
    show (0 * b + (i 0).val) * c + (i 1).val = (i 0).val * c + (i 1).val
    rw [Nat.zero_mul, Nat.zero_add])
theorem eight {b c : ℕ} (x : (⟨3, ![8, b, c]⟩ : Shape).Idx → EReal) (h : (⟨3, ![1, b, c]⟩ : Shape).ShapeCasts ⟨2, ![b, c]⟩) (i : (⟨2, ![b, c]⟩ : Shape).Idx) :
    (addf (addf (addf (addf (addf (addf (addf (shapeCast ⟨2, ![b, c]⟩ (part 0 x) h) (shapeCast ⟨2, ![b, c]⟩ (part 1 x) h)) (shapeCast ⟨2, ![b, c]⟩ (part 2 x) h)) (shapeCast ⟨2, ![b, c]⟩ (part 3 x) h))
      (shapeCast ⟨2, ![b, c]⟩ (part 4 x) h)) (shapeCast ⟨2, ![b, c]⟩ (part 5 x) h)) (shapeCast ⟨2, ![b, c]⟩ (part 6 x) h)) (shapeCast ⟨2, ![b, c]⟩ (part 7 x) h) : FVec Ideal ⟨2, ![b, c]⟩ .f32) i
      = ∑ k : Fin 8, entries3 x k.val (i 0).val (i 1).val := by
  show shapeCast ⟨2, ![b, c]⟩ (part 0 x) h i + shapeCast ⟨2, ![b, c]⟩ (part 1 x) h i + shapeCast ⟨2, ![b, c]⟩ (part 2 x) h i + shapeCast ⟨2, ![b, c]⟩ (part 3 x) h i
    + shapeCast ⟨2, ![b, c]⟩ (part 4 x) h i + shapeCast ⟨2, ![b, c]⟩ (part 5 x) h i + shapeCast ⟨2, ![b, c]⟩ (part 6 x) h i + shapeCast ⟨2, ![b, c]⟩ (part 7 x) h i = _
  simp only [drop]
  exact (Fin.sum_univ_eight (fun k : Fin 8 => entries3 x k.val (i 0).val (i 1).val)).symm
variable (x : S8x1x12032.Idx → EReal)
theorem row_is : k0_pay3 (F := Ideal) (k0_pay1 (part 0 x) (part 1 x) (part 2 x) (part 3 x) (part 4 x)) (part 5 x) (part 6 x) (part 7 x) = lanes 0 x := funext fun i => by
  refine (eight x shapeCasts_S1x1x12032_S1x12032 i).trans ?_
  have h0 : (i 0).val = 0 := by have : (i 0).val < 1 := (i 0).isLt; omega
  show ∑ k : Fin 8, entries3 x k.val (i 0).val (i 1).val = ∑ k : Fin 8, entries3 x k.val 0 (0 + (i 1).val)
  rw [h0, Nat.zero_add]
theorem rows_is : k0_pay6 (F := Ideal) (k0_pay1 (part 0 x) (part 1 x) (part 2 x) (part 3 x) (part 4 x)) (part 5 x) (part 6 x) (part 7 x) = rows x := by
  unfold rows; rw [← row_is]; rfl
theorem cut {n : ℕ} (o : ℕ) (h : S1x12032.Slices ![0, o] ⟨2, ![1, n]⟩) : extractStridedSlice ⟨2, ![1, n]⟩ ![0, o] (lanes 0 x) h = lanes o x := funext fun i =>
  have hb : o + (i 1).val < 12032 := by
    have h1 : o + n ≤ 12032 := h.2 1
    have h2 : (i 1).val < n := (i 1).isLt
    omega
  (extractStridedSlice_apply ![0, o] (lanes 0 x) h i (ValueIdx.ix2 0 ⟨o + (i 1).val, hb⟩) (fun a => by
    match a with
    | ⟨0, _⟩ => show 0 = 0 + (i 0).val; have : (i 0).val < 1 := (i 0).isLt; omega
    | ⟨1, _⟩ => rfl)).trans (by show total x (0 + (o + (i 1).val)) = total x (o + (i 1).val); rw [Nat.zero_add])
theorem loss_is : k0_pay5 (F := Ideal) (k0_pay1 (part 0 x) (part 1 x) (part 2 x) (part 3 x) (part 4 x)) (part 5 x) (part 6 x) (part 7 x) = lanes 11904 x := by
  rw [← cut x 11904 slices_S1x12032_o0_11904_S1x128, ← row_is]; rfl
theorem rel_is (x : S8x32x128.Idx → EReal) : k0_pay4 (F := Ideal) (k0_pay2 (part 0 x) (part 1 x) (part 2 x) (part 3 x) (part 4 x)) (part 5 x) (part 6 x) (part 7 x) = rel x := funext fun i => by
  unfold k0_pay4 k0_pay2
  dsimp only
  refine (extractStridedSlice_apply ![0, 0] _ slices_S128x128_o0_0_S8x32 i (ValueIdx.ix2 ⟨(i 0).val, by have : (i 0).val < 8 := (i 0).isLt; omega⟩ ⟨(i 1).val, by have : (i 1).val < 32 := (i 1).isLt; omega⟩) (fun a => by
    match a with
    | ⟨0, _⟩ => show (i 0).val = 0 + (i 0).val; omega
    | ⟨1, _⟩ => show (i 1).val = 0 + (i 1).val; omega)).trans ?_
  refine (transpose_apply [1, 0] _ transposes_S128x128_p1_0_S128x128 _ (ValueIdx.ix2 ⟨(i 1).val, by have : (i 1).val < 32 := (i 1).isLt; omega⟩ ⟨(i 0).val, by have : (i 0).val < 8 := (i 0).isLt; omega⟩) (fun b => by
    match b with
    | ⟨0, _⟩ => rfl
    | ⟨1, _⟩ => rfl)).trans ?_
  refine (concatenate_pair_apply_left (t := S128x128) (s₁ := S32x128) (s₂ := S96x128) 0 _ _ concatenates_S32x128_S96x128_S128x128_d0 _ rfl (ValueIdx.ix2 ⟨(i 1).val, (i 1).isLt⟩ ⟨(i 0).val, by have : (i 0).val < 8 := (i 0).isLt; omega⟩ : S32x128.Idx) (fun b => ?_)).trans ?_
  · match b with
    | ⟨0, _⟩ => rfl
    | ⟨1, _⟩ => rfl
  · exact eight x shapeCasts_S1x32x128_S32x128 _

/-! ## The parameters' lines -/
theorem p13 : k0_pay13 (F := Ideal) (lanes 0 x) = lanes 0 x := cut x 0 slices_S1x12032_o0_0_S1x6144
theorem p14 (m : S1x6144.Idx → EReal) : k0_pay14 (F := Ideal) (lanes 0 x) m = mom1 (lanes 0 x) m := by rw [← p13]; exact funext (kernel_m _ m)
theorem p15 (v : S1x6144.Idx → EReal) : k0_pay15 (F := Ideal) (lanes 0 x) v = mom2 (lanes 0 x) v := by rw [← p13]; exact funext (kernel_v _ v)
theorem p16 (w m v : S1x6144.Idx → EReal) : k0_pay16 (F := Ideal) (lanes 0 x) w m v = step w (mom1 (lanes 0 x) m) (mom2 (lanes 0 x) v) := by
  rw [← p14, ← p15]; exact funext (kernel_d w _ _)
theorem p17 : k0_pay17 (F := Ideal) (lanes 0 x) = lanes 6144 x := cut x 6144 slices_S1x12032_o0_6144_S1x1024
theorem p18 (m : S1x1024.Idx → EReal) : k0_pay18 (F := Ideal) (lanes 0 x) m = mom1 (lanes 6144 x) m := by rw [← p17]; exact funext (kernel_m _ m)
theorem p19 (v : S1x1024.Idx → EReal) : k0_pay19 (F := Ideal) (lanes 0 x) v = mom2 (lanes 6144 x) v := by rw [← p17]; exact funext (kernel_v _ v)
theorem p20 (w m v : S1x1024.Idx → EReal) : k0_pay20 (F := Ideal) (lanes 0 x) w m v = step w (mom1 (lanes 6144 x) m) (mom2 (lanes 6144 x) v) := by
  rw [← p18, ← p19]; exact funext (kernel_d w _ _)
theorem p21 : k0_pay21 (F := Ideal) (lanes 0 x) = lanes 7168 x := cut x 7168 slices_S1x12032_o0_7168_S1x8
theorem p22 (m : S1x8.Idx → EReal) : k0_pay22 (F := Ideal) (lanes 0 x) m = mom1 (lanes 7168 x) m := by rw [← p21]; exact funext (kernel_m _ m)
theorem p23 (v : S1x8.Idx → EReal) : k0_pay23 (F := Ideal) (lanes 0 x) v = mom2 (lanes 7168 x) v := by rw [← p21]; exact funext (kernel_v _ v)
theorem p24 (w m v : S1x8.Idx → EReal) : k0_pay24 (F := Ideal) (lanes 0 x) w m v = step w (mom1 (lanes 7168 x) m) (mom2 (lanes 7168 x) v) := by
  rw [← p22, ← p23]; exact funext (kernel_d w _ _)
theorem p51 : k0_pay51 (F := Ideal) (lanes 0 x) = lanes 7296 x := cut x 7296 slices_S1x12032_o0_7296_S1x512
theorem p52 (m : S1x512.Idx → EReal) : k0_pay52 (F := Ideal) (lanes 0 x) m = mom1 (lanes 7296 x) m := by rw [← p51]; exact funext (kernel_m _ m)
theorem p53 (v : S1x512.Idx → EReal) : k0_pay53 (F := Ideal) (lanes 0 x) v = mom2 (lanes 7296 x) v := by rw [← p51]; exact funext (kernel_v _ v)
theorem p54 (w m v : S1x512.Idx → EReal) : k0_pay54 (F := Ideal) (lanes 0 x) w m v = step w (mom1 (lanes 7296 x) m) (mom2 (lanes 7296 x) v) := by
  rw [← p52, ← p53]; exact funext (kernel_d w _ _)
theorem p55 : k0_pay55 (F := Ideal) (lanes 0 x) = lanes 7808 x := cut x 7808 slices_S1x12032_o0_7808_S1x512
theorem p56 (m : S1x512.Idx → EReal) : k0_pay56 (F := Ideal) (lanes 0 x) m = mom1 (lanes 7808 x) m := by rw [← p55]; exact funext (kernel_m _ m)
theorem p57 (v : S1x512.Idx → EReal) : k0_pay57 (F := Ideal) (lanes 0 x) v = mom2 (lanes 7808 x) v := by rw [← p55]; exact funext (kernel_v _ v)
theorem p58 (w m v : S1x512.Idx → EReal) : k0_pay58 (F := Ideal) (lanes 0 x) w m v = step w (mom1 (lanes 7808 x) m) (mom2 (lanes 7808 x) v) := by
  rw [← p56, ← p57]; exact funext (kernel_d w _ _)
theorem p59 : k0_pay59 (F := Ideal) (lanes 0 x) = lanes 8320 x := cut x 8320 slices_S1x12032_o0_8320_S1x1024
theorem p60 (m : S1x1024.Idx → EReal) : k0_pay60 (F := Ideal) (lanes 0 x) m = mom1 (lanes 8320 x) m := by rw [← p59]; exact funext (kernel_m _ m)
theorem p61 (v : S1x1024.Idx → EReal) : k0_pay61 (F := Ideal) (lanes 0 x) v = mom2 (lanes 8320 x) v := by rw [← p59]; exact funext (kernel_v _ v)
theorem p62 (w m v : S1x1024.Idx → EReal) : k0_pay62 (F := Ideal) (lanes 0 x) w m v = step w (mom1 (lanes 8320 x) m) (mom2 (lanes 8320 x) v) := by
  rw [← p60, ← p61]; exact funext (kernel_d w _ _)
theorem p63 : k0_pay63 (F := Ideal) (lanes 0 x) = lanes 9344 x := cut x 9344 slices_S1x12032_o0_9344_S1x1024
theorem p64 (m : S1x1024.Idx → EReal) : k0_pay64 (F := Ideal) (lanes 0 x) m = mom1 (lanes 9344 x) m := by rw [← p63]; exact funext (kernel_m _ m)
theorem p65 (v : S1x1024.Idx → EReal) : k0_pay65 (F := Ideal) (lanes 0 x) v = mom2 (lanes 9344 x) v := by rw [← p63]; exact funext (kernel_v _ v)
theorem p66 (w m v : S1x1024.Idx → EReal) : k0_pay66 (F := Ideal) (lanes 0 x) w m v = step w (mom1 (lanes 9344 x) m) (mom2 (lanes 9344 x) v) := by
  rw [← p64, ← p65]; exact funext (kernel_d w _ _)

/-! The bias of the relative positions. -/
section rel
variable (g w m v : S8x32.Idx → EReal)
theorem p8 : k0_pay8 (F := Ideal) g m = mom1 g m := funext (kernel_m g m)
theorem p9 : k0_pay9 (F := Ideal) g v = mom2 g v := funext (kernel_v g v)
theorem p12 : k0_pay12 (F := Ideal) (k0_pay10 g w m v) k0_pay11 = step w (mom1 g m) (mom2 g v) := by rw [← p8, ← p9]; exact funext (kernel_d w _ _)
end rel

/-! ## The convolution's lines -/
theorem lift (y : S1x64.Idx → EReal) (h : S1x64.ShapeCasts S1x1x64) : shapeCast S1x1x64 y h = fun i => y (ValueIdx.ix2 0 (i 2)) := funext fun i =>
  shapeCast_apply y h i (ValueIdx.ix2 0 (i 2)) (by
    rewrite [Shape.rowMajor_val_three, Shape.rowMajor_val_two]
    have h0 : (i 0).val < 1 := (i 0).isLt
    have h1 : (i 1).val < 1 := (i 1).isLt
    show 0 * 64 + (i 2).val = ((i 0).val * 1 + (i 1).val) * 64 + (i 2).val
    omega)
theorem flat (y : S1x1x64.Idx → EReal) (h : S1x1x64.ShapeCasts S1x64) : shapeCast S1x64 y h = fun i => y (ValueIdx.ix3 0 0 (i 1)) := funext fun i =>
  shapeCast_apply y h i (ValueIdx.ix3 0 0 (i 1)) (by
    rewrite [Shape.rowMajor_val_three, Shape.rowMajor_val_two]
    have h0 : (i 0).val < 1 := (i 0).isLt
    show (0 * 1 + 0) * 64 + (i 1).val = (i 0).val * 64 + (i 1).val
    omega)
theorem line (k : Fin 3) (T : S3x64.Idx → EReal) {off : Fin 2 → ℕ} (ho : off = ![k.val, 0]) (h : S3x64.Slices off S1x64) :
    extractStridedSlice S1x64 off T h = fun i => T (ValueIdx.ix2 k (i 1)) := funext fun i => by
  subst ho
  exact extractStridedSlice_apply ![k.val, 0] T h i (ValueIdx.ix2 k (i 1)) (fun a => by
    match a with
    | ⟨0, _⟩ => show k.val = k.val + (i 0).val; have : (i 0).val < 1 := (i 0).isLt; omega
    | ⟨1, _⟩ => show (i 1).val = 0 + (i 1).val; omega)
section conv
variable (T : S3x64.Idx → EReal) (w m v : S3x1x64.Idx → EReal)
theorem mline (k : Fin 3) {off : Fin 2 → ℕ} (ho : off = ![k.val, 0]) (h : S3x64.Slices off S1x64) (hc : S1x1x64.ShapeCasts S1x64) (j : S1x64.Idx) :
    (addf (mulf (broadcast S1x64 (Scalar.ofBits .f32 0x3F666666#32 : Ideal .f32)) (shapeCast S1x64 (tap k m) hc)) (mulf (broadcast S1x64 (Scalar.ofBits .f32 0x3DCCCCCD#32 : Ideal .f32)) (extractStridedSlice S1x64 off T h)) : FVec Ideal S1x64 .f32) j
      = newM (T (ValueIdx.ix2 k (j 1))) (m (ValueIdx.ix3 k 0 (j 1))) := by
  rw [kernel_m, line k T ho h, flat]; rfl
theorem vline (k : Fin 3) {off : Fin 2 → ℕ} (ho : off = ![k.val, 0]) (h : S3x64.Slices off S1x64) (hc : S1x1x64.ShapeCasts S1x64) (j : S1x64.Idx) :
    (addf (mulf (broadcast S1x64 (Scalar.ofBits .f32 0x3F7FBE77#32 : Ideal .f32)) (shapeCast S1x64 (tap k v) hc)) (mulf (broadcast S1x64 (Scalar.ofBits .f32 0x3A83126F#32 : Ideal .f32)) (mulf (extractStridedSlice S1x64 off T h) (extractStridedSlice S1x64 off T h))) : FVec Ideal S1x64 .f32) j
      = newV (T (ValueIdx.ix2 k (j 1))) (v (ValueIdx.ix3 k 0 (j 1))) := by
  rw [kernel_v, line k T ho h, flat]; rfl
theorem tapG0 : k0_pay25 (F := Ideal) T = tap 0 (col T) := funext fun i => (congrFun (lift _ _) i).trans (congrFun (line 0 T rfl slices_S3x64_o0_0_S1x64) _)
theorem tapM0 : k0_pay32 (F := Ideal) (k0_pay28 T (tap 0 m)) = tap 0 (mom1 (col T) m) := funext fun i => (congrFun (lift _ _) i).trans (mline T m 0 rfl slices_S3x64_o0_0_S1x64 shapeCasts_S1x1x64_S1x64 _)
theorem tapV0 : k0_pay33 (F := Ideal) (k0_pay29 T (tap 0 v)) = tap 0 (mom2 (col T) v) := funext fun i => (congrFun (lift _ _) i).trans (vline T v 0 rfl slices_S3x64_o0_0_S1x64 shapeCasts_S1x1x64_S1x64 _)
theorem tapD0 : k0_pay31 (F := Ideal) (k0_pay26 (tap 0 w)) (k0_pay30 T (tap 0 m) (tap 0 v)) = tap 0 (step w (mom1 (col T) m) (mom2 (col T) v)) := funext fun i => (congrFun (lift _ _) i).trans
  ((kernel_d (shapeCast S1x64 (tap 0 w) shapeCasts_S1x1x64_S1x64) _ _ _).trans (congr (congrArg₂ delta (congrFun (flat (tap 0 w) shapeCasts_S1x1x64_S1x64) _) (mline T m 0 rfl slices_S3x64_o0_0_S1x64 shapeCasts_S1x1x64_S1x64 _)) (vline T v 0 rfl slices_S3x64_o0_0_S1x64 shapeCasts_S1x1x64_S1x64 _)))
theorem tapG1 : k0_pay34 (F := Ideal) T = tap 1 (col T) := funext fun i => (congrFun (lift _ _) i).trans (congrFun (line 1 T rfl slices_S3x64_o1_0_S1x64) _)
theorem tapM1 : k0_pay41 (F := Ideal) (k0_pay38 T (tap 1 m)) = tap 1 (mom1 (col T) m) := funext fun i => (congrFun (lift _ _) i).trans (mline T m 1 rfl slices_S3x64_o1_0_S1x64 shapeCasts_S1x1x64_S1x64 _)
theorem tapV1 : k0_pay42 (F := Ideal) (k0_pay36 T) (k0_pay37 (tap 1 v)) (Scalar.ofBits .f32 0x3F7FBE77#32 : Ideal .f32) = tap 1 (mom2 (col T) v) := funext fun i => (congrFun (lift _ _) i).trans (vline T v 1 rfl slices_S3x64_o1_0_S1x64 shapeCasts_S1x1x64_S1x64 _)
theorem tapD1 : k0_pay40 (F := Ideal) (k0_pay35 (tap 1 w)) (k0_pay36 T) (k0_pay37 (tap 1 v)) (k0_pay38 T (tap 1 m)) (Scalar.ofBits .f32 0x3F7FBE77#32 : Ideal .f32) = tap 1 (step w (mom1 (col T) m) (mom2 (col T) v)) := funext fun i => (congrFun (lift _ _) i).trans
  ((kernel_d (shapeCast S1x64 (tap 1 w) shapeCasts_S1x1x64_S1x64) _ _ _).trans (congr (congrArg₂ delta (congrFun (flat (tap 1 w) shapeCasts_S1x1x64_S1x64) _) (mline T m 1 rfl slices_S3x64_o1_0_S1x64 shapeCasts_S1x1x64_S1x64 _)) (vline T v 1 rfl slices_S3x64_o1_0_S1x64 shapeCasts_S1x1x64_S1x64 _)))
theorem tapG2 : k0_pay43 (F := Ideal) T = tap 2 (col T) := funext fun i => (congrFun (lift _ _) i).trans (congrFun (line 2 T rfl slices_S3x64_o2_0_S1x64) _)
theorem tapM2 : k0_pay49 (F := Ideal) (k0_pay45 T) (tap 2 m) = tap 2 (mom1 (col T) m) := funext fun i => (congrFun (lift _ _) i).trans (mline T m 2 rfl slices_S3x64_o2_0_S1x64 shapeCasts_S1x1x64_S1x64 _)
theorem tapV2 : k0_pay50 (F := Ideal) (k0_pay47 (k0_pay45 T) (tap 2 v)) = tap 2 (mom2 (col T) v) := funext fun i => (congrFun (lift _ _) i).trans (vline T v 2 rfl slices_S3x64_o2_0_S1x64 shapeCasts_S1x1x64_S1x64 _)
theorem tapD2 : k0_pay48 (F := Ideal) (k0_pay44 (tap 2 w)) (k0_pay45 T) (tap 2 m) (tap 2 v) = tap 2 (step w (mom1 (col T) m) (mom2 (col T) v)) := funext fun i => (congrFun (lift _ _) i).trans
  ((kernel_d (shapeCast S1x64 (tap 2 w) shapeCasts_S1x1x64_S1x64) _ _ _).trans (congr (congrArg₂ delta (congrFun (flat (tap 2 w) shapeCasts_S1x1x64_S1x64) _) (mline T m 2 rfl slices_S3x64_o2_0_S1x64 shapeCasts_S1x1x64_S1x64 _)) (vline T v 2 rfl slices_S3x64_o2_0_S1x64 shapeCasts_S1x1x64_S1x64 _)))
end conv

/-! ## The same, as the kernel loads them -/
section raw
variable {sig : RefSig} {κ : Kind} {sp : Space}
variable {a : Memref sig κ sp S8x1x12032 .f32} (h : a.IsWhole) (x : Vec Ideal S8x1x12032 .f32)
  {i0 : ∀ z, (![0, 0, 0] : Fin 3 → ℕ) z + S1x1x12032.size z ≤ S8x1x12032.size z} {i1 : ∀ z, (![1, 0, 0] : Fin 3 → ℕ) z + S1x1x12032.size z ≤ S8x1x12032.size z} {i2 : ∀ z, (![2, 0, 0] : Fin 3 → ℕ) z + S1x1x12032.size z ≤ S8x1x12032.size z} {i3 : ∀ z, (![3, 0, 0] : Fin 3 → ℕ) z + S1x1x12032.size z ≤ S8x1x12032.size z} {i4 : ∀ z, (![4, 0, 0] : Fin 3 → ℕ) z + S1x1x12032.size z ≤ S8x1x12032.size z} {i5 : ∀ z, (![5, 0, 0] : Fin 3 → ℕ) z + S1x1x12032.size z ≤ S8x1x12032.size z} {i6 : ∀ z, (![6, 0, 0] : Fin 3 → ℕ) z + S1x1x12032.size z ≤ S8x1x12032.size z} {i7 : ∀ z, (![7, 0, 0] : Fin 3 → ℕ) z + S1x1x12032.size z ≤ S8x1x12032.size z}
theorem row_raw : k0_pay3 (F := Ideal) (k0_pay1 (View.readAt (Elt Ideal) a.view (Rect.unit (s := S8x1x12032) ![0, 0, 0] S1x1x12032.size i0).toLoadRect (h.unread x)) (View.readAt (Elt Ideal) a.view (Rect.unit (s := S8x1x12032) ![1, 0, 0] S1x1x12032.size i1).toLoadRect (h.unread x)) (View.readAt (Elt Ideal) a.view (Rect.unit (s := S8x1x12032) ![2, 0, 0] S1x1x12032.size i2).toLoadRect (h.unread x)) (View.readAt (Elt Ideal) a.view (Rect.unit (s := S8x1x12032) ![3, 0, 0] S1x1x12032.size i3).toLoadRect (h.unread x)) (View.readAt (Elt Ideal) a.view (Rect.unit (s := S8x1x12032) ![4, 0, 0] S1x1x12032.size i4).toLoadRect (h.unread x))) (View.readAt (Elt Ideal) a.view (Rect.unit (s := S8x1x12032) ![5, 0, 0] S1x1x12032.size i5).toLoadRect (h.unread x)) (View.readAt (Elt Ideal) a.view (Rect.unit (s := S8x1x12032) ![6, 0, 0] S1x1x12032.size i6).toLoadRect (h.unread x)) (View.readAt (Elt Ideal) a.view (Rect.unit (s := S8x1x12032) ![7, 0, 0] S1x1x12032.size i7).toLoadRect (h.unread x)) = lanes 0 x := by simp only [load_part]; exact row_is x
theorem loss_raw : k0_pay5 (F := Ideal) (k0_pay1 (View.readAt (Elt Ideal) a.view (Rect.unit (s := S8x1x12032) ![0, 0, 0] S1x1x12032.size i0).toLoadRect (h.unread x)) (View.readAt (Elt Ideal) a.view (Rect.unit (s := S8x1x12032) ![1, 0, 0] S1x1x12032.size i1).toLoadRect (h.unread x)) (View.readAt (Elt Ideal) a.view (Rect.unit (s := S8x1x12032) ![2, 0, 0] S1x1x12032.size i2).toLoadRect (h.unread x)) (View.readAt (Elt Ideal) a.view (Rect.unit (s := S8x1x12032) ![3, 0, 0] S1x1x12032.size i3).toLoadRect (h.unread x)) (View.readAt (Elt Ideal) a.view (Rect.unit (s := S8x1x12032) ![4, 0, 0] S1x1x12032.size i4).toLoadRect (h.unread x))) (View.readAt (Elt Ideal) a.view (Rect.unit (s := S8x1x12032) ![5, 0, 0] S1x1x12032.size i5).toLoadRect (h.unread x)) (View.readAt (Elt Ideal) a.view (Rect.unit (s := S8x1x12032) ![6, 0, 0] S1x1x12032.size i6).toLoadRect (h.unread x)) (View.readAt (Elt Ideal) a.view (Rect.unit (s := S8x1x12032) ![7, 0, 0] S1x1x12032.size i7).toLoadRect (h.unread x)) = lanes 11904 x := by simp only [load_part]; exact loss_is x
theorem taps_raw {sp' : Space} {a0 : Memref sig κ sp' S1 .i32} (h0 : a0.IsWhole) (x0 : Vec Ideal S1 .i32) {j0 : ∀ z, (![0] : Fin 1 → ℕ) z + S1.size z ≤ S1.size z} {i : S1.Idx} :
    k0_pay7 (F := Ideal) (k0_pay6 (F := Ideal) (k0_pay1 (View.readAt (Elt Ideal) a.view (Rect.unit (s := S8x1x12032) ![0, 0, 0] S1x1x12032.size i0).toLoadRect (h.unread x)) (View.readAt (Elt Ideal) a.view (Rect.unit (s := S8x1x12032) ![1, 0, 0] S1x1x12032.size i1).toLoadRect (h.unread x)) (View.readAt (Elt Ideal) a.view (Rect.unit (s := S8x1x12032) ![2, 0, 0] S1x1x12032.size i2).toLoadRect (h.unread x)) (View.readAt (Elt Ideal) a.view (Rect.unit (s := S8x1x12032) ![3, 0, 0] S1x1x12032.size i3).toLoadRect (h.unread x)) (View.readAt (Elt Ideal) a.view (Rect.unit (s := S8x1x12032) ![4, 0, 0] S1x1x12032.size i4).toLoadRect (h.unread x))) (View.readAt (Elt Ideal) a.view (Rect.unit (s := S8x1x12032) ![5, 0, 0] S1x1x12032.size i5).toLoadRect (h.unread x)) (View.readAt (Elt Ideal) a.view (Rect.unit (s := S8x1x12032) ![6, 0, 0] S1x1x12032.size i6).toLoadRect (h.unread x)) (View.readAt (Elt Ideal) a.view (Rect.unit (s := S8x1x12032) ![7, 0, 0] S1x1x12032.size i7).toLoadRect (h.unread x))) (Scalar.subi 512#32 (Scalar.muli (View.readAt (Elt Ideal) a0.view (Rect.unit (s := S1) ![0] S1.size j0).toLoadRect (h0.unread x0) i) 64#32)) 512#32 (Scalar.cmpi .eq 512#32 0#32) 1#32 = taps x0 x := by
  rw [load_me]; simp only [load_part, rows_is]; rfl
end raw
section raw
variable {sig : RefSig} {κ : Kind} {sp : Space} {a : Memref sig κ sp S8x32x128 .f32} (h : a.IsWhole) (x : Vec Ideal S8x32x128 .f32)
  {i0 : ∀ z, (![0, 0, 0] : Fin 3 → ℕ) z + S1x32x128.size z ≤ S8x32x128.size z} {i1 : ∀ z, (![1, 0, 0] : Fin 3 → ℕ) z + S1x32x128.size z ≤ S8x32x128.size z} {i2 : ∀ z, (![2, 0, 0] : Fin 3 → ℕ) z + S1x32x128.size z ≤ S8x32x128.size z} {i3 : ∀ z, (![3, 0, 0] : Fin 3 → ℕ) z + S1x32x128.size z ≤ S8x32x128.size z} {i4 : ∀ z, (![4, 0, 0] : Fin 3 → ℕ) z + S1x32x128.size z ≤ S8x32x128.size z} {i5 : ∀ z, (![5, 0, 0] : Fin 3 → ℕ) z + S1x32x128.size z ≤ S8x32x128.size z} {i6 : ∀ z, (![6, 0, 0] : Fin 3 → ℕ) z + S1x32x128.size z ≤ S8x32x128.size z} {i7 : ∀ z, (![7, 0, 0] : Fin 3 → ℕ) z + S1x32x128.size z ≤ S8x32x128.size z}
theorem rel_raw : k0_pay4 (F := Ideal) (k0_pay2 (View.readAt (Elt Ideal) a.view (Rect.unit (s := S8x32x128) ![0, 0, 0] S1x32x128.size i0).toLoadRect (h.unread x)) (View.readAt (Elt Ideal) a.view (Rect.unit (s := S8x32x128) ![1, 0, 0] S1x32x128.size i1).toLoadRect (h.unread x)) (View.readAt (Elt Ideal) a.view (Rect.unit (s := S8x32x128) ![2, 0, 0] S1x32x128.size i2).toLoadRect (h.unread x)) (View.readAt (Elt Ideal) a.view (Rect.unit (s := S8x32x128) ![3, 0, 0] S1x32x128.size i3).toLoadRect (h.unread x)) (View.readAt (Elt Ideal) a.view (Rect.unit (s := S8x32x128) ![4, 0, 0] S1x32x128.size i4).toLoadRect (h.unread x))) (View.readAt (Elt Ideal) a.view (Rect.unit (s := S8x32x128) ![5, 0, 0] S1x32x128.size i5).toLoadRect (h.unread x)) (View.readAt (Elt Ideal) a.view (Rect.unit (s := S8x32x128) ![6, 0, 0] S1x32x128.size i6).toLoadRect (h.unread x)) (View.readAt (Elt Ideal) a.view (Rect.unit (s := S8x32x128) ![7, 0, 0] S1x32x128.size i7).toLoadRect (h.unread x)) = rel x := by simp only [load_part]; exact rel_is x
end raw
end Cert.SmallIdeal
end
-- ==== Proof.SmallValues.lean ====
/-
The small parameters' update: the reference's sums, and the columns of the convolution's gradient, in terms of the arguments.
-/
module
public import proofs.«01_k».proof.Proof.SmallSums
public import proofs.«01_k».proof.Proof.Gen.SmallReferenceIdeal.Run
public import Idealize.ShloMosaic.Lib.KernelVsHost
public import Idealize.ShloMosaic.Lib.Pipeline.Value
@[expose] public section
set_option maxRecDepth 16384
noncomputable section
open Idealize.ShloMosaic
open scoped BigOperators

namespace Cert.SmallIdeal
open Cert.Sums Cert.Adam Cert.SmallIdeal.Gen
/-! ## The kernel's columns of the convolution's gradient -/
section rows
variable (x : S8x1x12032.Idx → EReal)
theorem row_at {o : ℕ} (h : S1x12032.Slices ![0, o] S1x512) (q : ℕ) (hq : q < 512) : extractStridedSlice S1x512 ![0, o] (lanes 0 x) h (ValueIdx.ix2 0 ⟨q, hq⟩) = total x (o + q) := by
  rw [cut]; rfl
/-- The rows that the kernel stacks: one for each tap. -/
theorem rows_apply (k : Fin 3) (q : ℕ) (hq : q < 512) (i : S8x512.Idx) (h0 : (i 0).val = k.val) (h1 : (i 1).val = q) : rows x i = total x (10368 + 512 * k.val + q) := by
  unfold rows
  have hi : ∀ b : Fin 2, b ≠ 0 → ((ValueIdx.ix2 (n0 := 1) (n1 := 512) 0 ⟨q, hq⟩) b).val = (i b).val := fun b hb => by
    match b with
    | ⟨0, _⟩ => exact absurd rfl hb
    | ⟨1, _⟩ => exact h1.symm
  match k, h0 with
  | ⟨0, _⟩, h0 => exact (concatenate_apply_piece (t := S8x512) 0 _ _ i 0 (by show 0 < 4; decide) S1x512 _ rfl rfl 0 rfl (ValueIdx.ix2 0 ⟨q, hq⟩) hi h0.symm).trans (row_at x _ q hq)
  | ⟨1, _⟩, h0 => exact (concatenate_apply_piece (t := S8x512) 0 _ _ i 1 (by show 1 < 4; decide) S1x512 _ rfl rfl 1 rfl (ValueIdx.ix2 0 ⟨q, hq⟩) hi h0.symm).trans (row_at x _ q hq)
  | ⟨2, _⟩, h0 => exact (concatenate_apply_piece (t := S8x512) 0 _ _ i 2 (by show 2 < 4; decide) S1x512 _ rfl rfl 2 rfl (ValueIdx.ix2 0 ⟨q, hq⟩) hi h0.symm).trans (row_at x _ q hq)
end rows
/-- By how much the rows are turned, read off the device's number. -/
def turn (b : BitVec 32) : BitVec 32 :=
  let v59 := Scalar.subi 512#32 (Scalar.muli b 64#32)
  let v61 := Scalar.select (Scalar.cmpi .eq 512#32 0#32) 1#32 512#32
  let v62 := Scalar.remsi v59 v61
  Scalar.select (Scalar.andi (Scalar.xori (Scalar.cmpi .slt v62 0#32) (Scalar.cmpi .slt v61 0#32)) (Scalar.cmpi .ne v62 0#32)) (Scalar.addi v62 v61) v62
theorem turn_is (b : BitVec 32) (h : b.toNat < 8) : (turn b).toNat = (512 - 64 * b.toNat) % 512 := by
  have e : ∀ k < 8, (turn (BitVec.ofNat 32 k)).toNat = (512 - 64 * k) % 512 := by decide
  have := e b.toNat h
  rwa [BitVec.ofNat_toNat, BitVec.setWidth_eq] at this
/-- Under the bound on the device's number the kernel's columns are the device's own. -/
theorem taps_apply (x0 : S1.Idx → BitVec 32) (x1 : S8x1x12032.Idx → EReal) (h : (x0 (ValueIdx.ix1 0)).toNat < 8) (k : Fin 3) (q : Fin 64) :
    taps x0 x1 (ValueIdx.ix2 k q) = total x1 (10368 + 512 * k.val + (64 * (x0 (ValueIdx.ix1 0)).toNat + q.val)) := by
  have hk := k.isLt
  have hq := q.isLt
  show extractStridedSlice S3x64 ![0, 0] (extractStridedSlice S8x64 ![0, 0] (dynamicRotate 1 (turn (x0 (ValueIdx.ix1 0))) none (rows x1) rotates_S8x512_d1) slices_S8x512_o0_0_S8x64) slices_S8x64_o0_0_S3x64 (ValueIdx.ix2 k q) = _
  refine (extractStridedSlice_apply ![0, 0] _ slices_S8x64_o0_0_S3x64 (ValueIdx.ix2 k q) (ValueIdx.ix2 ⟨k.val, by omega⟩ q) (fun a => by
    match a with
    | ⟨0, _⟩ => exact (Nat.zero_add _).symm
    | ⟨1, _⟩ => exact (Nat.zero_add _).symm)).trans ?_
  refine (extractStridedSlice_apply ![0, 0] _ slices_S8x512_o0_0_S8x64 (ValueIdx.ix2 ⟨k.val, by omega⟩ q) (ValueIdx.ix2 ⟨k.val, by omega⟩ ⟨q.val, by omega⟩) (fun a => by
    match a with
    | ⟨0, _⟩ => exact (Nat.zero_add _).symm
    | ⟨1, _⟩ => exact (Nat.zero_add _).symm)).trans ?_
  have hl : 64 * (x0 (ValueIdx.ix1 0)).toNat + q.val < 512 := by omega
  refine (dynamicRotate_apply 1 _ _ _ _ (ValueIdx.ix2 ⟨k.val, by omega⟩ ⟨64 * (x0 (ValueIdx.ix1 0)).toNat + q.val, hl⟩) (fun b => ?_)).trans (rows_apply x1 k _ hl _ rfl rfl)
  match b with
  | ⟨0, _⟩ => rfl
  | ⟨1, _⟩ =>
    show 64 * (x0 (ValueIdx.ix1 0)).toNat + q.val = (q.val + 512 - (turn (x0 (ValueIdx.ix1 0))).toNat % 512) % 512
    rw [turn_is _ h]
    omega
end Cert.SmallIdeal

namespace Cert.SmallReferenceIdeal
open Cert.Sums Cert.Adam Cert.SmallReferenceIdeal.Gen Cert.SmallReferenceIdeal.Value
open Cert.SmallIdeal (total lanes rel conv taps col mom1 mom2 step cut taps_apply)
/-! ## The reference's gradients -/
theorem sum_is (x : FVec Ideal S8x1x12032 .f32) : Host.reduceAdd x (constant S_ .f32 0x00000000#32) reducesTo_S8x1x12032_S1x12032_d0 h_S_ = lanes 0 x := funext fun i => by
  simp only [Host.reduceAdd, Ideal.hostReduceAdd_def]
  rw [Ideal.hostReduceAdd_single reducesTo_S8x1x12032_S1x12032_d0 (by decide)]
  rw [show (constant (F := Ideal) S_ .f32 0x00000000#32) (Shape.Idx.first h_S_) = (0 : EReal) from Ideal.ofBits_zero_f32, zero_add]
  refine (Finset.sum_congr rfl fun k _ => ?_ : _ = ∑ k : Fin 8, entries3 x k.val 0 (0 + (i 1).val))
  have h0 : (i 0).val < 1 := (i 0).isLt
  have h1 : (i 1).val < 12032 := (i 1).isLt
  refine Eq.trans (congrArg x (?_ : _ = ValueIdx.ix3 k 0 ⟨0 + (i 1).val, by omega⟩)) (entries3_is x _ _ _)
  exact funext fun a => Fin.ext (by
    match a with
    | ⟨0, _⟩ => rfl
    | ⟨1, _⟩ => show (i 0).val = 0; omega
    | ⟨2, _⟩ => exact (Nat.zero_add _).symm)
theorem relsum (x : FVec Ideal S8x32x128 .f32) (j : S32x128.Idx) : Host.reduceAdd x (constant S_ .f32 0x00000000#32) reducesTo_S8x32x128_S32x128_d0 h_S_ j = ∑ k : Fin 8, entries3 x k.val (j 0).val (j 1).val := by
  simp only [Host.reduceAdd, Ideal.hostReduceAdd_def]
  rw [Ideal.hostReduceAdd_single reducesTo_S8x32x128_S32x128_d0 (by decide)]
  rw [show (constant (F := Ideal) S_ .f32 0x00000000#32) (Shape.Idx.first h_S_) = (0 : EReal) from Ideal.ofBits_zero_f32, zero_add]
  refine (Finset.sum_congr rfl fun k _ => ?_ : _ = ∑ k : Fin 8, entries3 x k.val (j 0).val (j 1).val)
  refine Eq.trans (congrArg x (?_ : _ = ValueIdx.ix3 k (j 0) (j 1))) (entries3_is x _ _ _)
  exact funext fun a => Fin.ext (by match a with | ⟨0, _⟩ => rfl | ⟨1, _⟩ => rfl | ⟨2, _⟩ => rfl)
theorem rel_is (x : FVec Ideal S8x32x128 .f32) : transpose S8x32 [1, 0] (extractStridedSlice S32x8 ![0, 0] (Host.reduceAdd x (constant S_ .f32 0x00000000#32) reducesTo_S8x32x128_S32x128_d0 h_S_) slices_S32x128_S32x8_0_0) transposes_S32x8_S8x32_1_0 = rel x := funext fun i => by
  have h0 : (i 0).val < 8 := (i 0).isLt
  have h1 : (i 1).val < 32 := (i 1).isLt
  refine (transpose_apply [1, 0] _ transposes_S32x8_S8x32_1_0 i (ValueIdx.ix2 (i 1) (i 0)) (fun a => by
    match a with
    | ⟨0, _⟩ => rfl
    | ⟨1, _⟩ => rfl)).trans ?_
  refine (extractStridedSlice_apply ![0, 0] _ slices_S32x128_S32x8_0_0 (ValueIdx.ix2 (i 1) (i 0)) (ValueIdx.ix2 (i 1) ⟨(i 0).val, by omega⟩) (fun a => by
    match a with
    | ⟨0, _⟩ => exact (Nat.zero_add _).symm
    | ⟨1, _⟩ => exact (Nat.zero_add _).symm)).trans ?_
  exact relsum x _
/-- The first column of a device, as the reference computes it. -/
def first (b : BitVec 32) : BitVec 32 := Scalar.select (Scalar.cmpi .slt (Scalar.muli b 64#32) 0#32) (Scalar.addi (Scalar.muli b 64#32) 512#32) (Scalar.muli b 64#32)
theorem first_is (b : BitVec 32) (h : b.toNat < 8) : (first b).toInt = ((64 * b.toNat : ℕ) : ℤ) := by
  have e : ∀ k < 8, (first (BitVec.ofNat 32 k)).toInt = ((64 * k : ℕ) : ℤ) := by decide
  have := e b.toNat h
  rwa [BitVec.ofNat_toNat, BitVec.setWidth_eq] at this
variable (V : Valuation τ sig (Elt Ideal))
theorem conv_is (h : (V (Proc.devRef .tc main_arg0) (ValueIdx.ix1 0) : BitVec 32).toNat < 8) :
    res_main_v8 V = conv (V (Proc.devRef .tc main_arg0)) (V (Proc.devRef .tc main_arg1)) := by
  unfold res_main_v8 res_main_v0 res_main_v4
  rw [sum_is]
  generalize V (Proc.devRef .tc main_arg0) = x0 at h ⊢
  generalize V (Proc.devRef .tc main_arg1) = x1
  have hs : S3x1x512.Slices ![0, 0, 64 * (x0 (ValueIdx.ix1 0) : BitVec 32).toNat] S3x1x64 := ⟨rfl, fun z => by
    match z with
    | ⟨0, _⟩ => show 0 + 3 ≤ 3; omega
    | ⟨1, _⟩ => show 0 + 1 ≤ 1; omega
    | ⟨2, _⟩ => show 64 * (x0 (ValueIdx.ix1 0) : BitVec 32).toNat + 64 ≤ 512; omega⟩
  have hc : (shapeCast S_ x0 shapeCasts_S1_S_ (Shape.Idx.first h_S_) : BitVec 32) = x0 (ValueIdx.ix1 0) :=
    congrArg x0 (funext fun a => Fin.ext (by
      match a with
      | ⟨0, _⟩ => exact Nat.lt_one_iff.mp (Fin.isLt _)))
  rw [Host.dynamicSlice_eq_extractStridedSlice _ _ _ ![0, 0, 64 * (x0 (ValueIdx.ix1 0) : BitVec 32).toNat] _ hs (fun z => by
    match z with
    | ⟨0, _⟩ => rfl
    | ⟨1, _⟩ => rfl
    | ⟨2, _⟩ =>
      refine Eq.trans (congrArg BitVec.toInt ?_) (first_is _ h)
      show first (shapeCast S_ x0 shapeCasts_S1_S_ (Shape.Idx.first h_S_)) = _
      rw [hc])]
  funext i
  have h0 : (i 0).val < 3 := (i 0).isLt
  have h1 : (i 1).val < 1 := (i 1).isLt
  have h2 : (i 2).val < 64 := (i 2).isLt
  refine (extractStridedSlice_apply _ _ hs i (ValueIdx.ix3 ⟨(i 0).val, h0⟩ 0 ⟨64 * (x0 (ValueIdx.ix1 0) : BitVec 32).toNat + (i 2).val, by omega⟩) (fun a => by
    match a with
    | ⟨0, _⟩ => exact (Nat.zero_add _).symm
    | ⟨1, _⟩ => show 0 = 0 + (i 1).val; omega
    | ⟨2, _⟩ => rfl)).trans ?_
  refine (shapeCast_apply _ shapeCasts_S1x1536_S3x1x512 _ (ValueIdx.ix2 0 ⟨512 * (i 0).val + (64 * (x0 (ValueIdx.ix1 0) : BitVec 32).toNat + (i 2).val), by omega⟩) ?_).trans ?_
  · rewrite [Shape.rowMajor_val_three, Shape.rowMajor_val_two]
    show 0 * 1536 + (512 * (i 0).val + (64 * (x0 (ValueIdx.ix1 0) : BitVec 32).toNat + (i 2).val)) = ((i 0).val * 1 + 0) * 512 + (64 * (x0 (ValueIdx.ix1 0) : BitVec 32).toNat + (i 2).val)
    omega
  · rw [cut]
    refine Eq.trans ?_ (taps_apply x0 x1 h (i 0) (i 2)).symm
    show total x1 (10368 + (512 * (i 0).val + (64 * (x0 (ValueIdx.ix1 0) : BitVec 32).toNat + (i 2).val))) = _
    rw [← Nat.add_assoc]
end Cert.SmallReferenceIdeal
end
-- ==== Proof.SmallBody.lean ====
/-
The body of the update of the small parameters: on whole buffers it leaves its inputs as they were and every output at its value.
-/
module

public import proofs.«01_k».proof.Proof.Gen.SmallIdeal.Frame.Runs
public import proofs.«01_k».proof.Proof.SmallSums

@[expose] public section

set_option maxRecDepth 16384

noncomputable section

namespace Cert.SmallIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SmallIdeal

local notation "𝕄" => MT nD τ sig Unit (Elt Ideal) ℕ (UR sig nD τ) ℕ

/-- A buffer of the kernel's core that holds an array. -/
abbrev held (c : Dev nD) {sp : Space} {s : Shape} {e : EltTy} (a : Memref sig .tc sp s e) (x : Vec Ideal s e) : sProp 𝕄 := owns (c : Thread nD τ) a fullShare x
/-- The same, whatever the buffer held before it was filled. -/
abbrev given (c : Dev nD) {sp : Space} {s : Shape} {e : EltTy} (a : Memref sig .tc sp s e) (x : Vec Ideal s e) : sProp 𝕄 := iprop(∃ _d : Vec Ideal s e, owns (c : Thread nD τ) a fullShare x)
/-- A buffer of the kernel's core that holds anything. -/
abbrev anything (c : Dev nD) {sp : Space} {s : Shape} {e : EltTy} (a : Memref sig .tc sp s e) : sProp 𝕄 := iprop(∃ d, owns (c : Thread nD τ) a fullShare d)

set_option maxHeartbeats 20000000 in
/-- The body on whole buffers: the loads, the stores, and what they leave. -/
theorem body_run (c : Dev nD)
    (a0 : Memref sig .tc .smem S1 .i32) (h0 : a0.IsWhole) (a1 : Memref sig .tc .vmem S8x1x12032 .f32) (h1 : a1.IsWhole)
    (a2 : Memref sig .tc .vmem S8x32x128 .f32) (h2 : a2.IsWhole) (a3 : Memref sig .tc .vmem S8x32 .f32) (h3 : a3.IsWhole)
    (a4 : Memref sig .tc .vmem S8x32 .f32) (h4 : a4.IsWhole) (a5 : Memref sig .tc .vmem S8x32 .f32) (h5 : a5.IsWhole)
    (a6 : Memref sig .tc .vmem S1x6144 .f32) (h6 : a6.IsWhole) (a7 : Memref sig .tc .vmem S1x6144 .f32) (h7 : a7.IsWhole)
    (a8 : Memref sig .tc .vmem S1x6144 .f32) (h8 : a8.IsWhole) (a9 : Memref sig .tc .vmem S1x1024 .f32) (h9 : a9.IsWhole)
    (a10 : Memref sig .tc .vmem S1x1024 .f32) (h10 : a10.IsWhole) (a11 : Memref sig .tc .vmem S1x1024 .f32) (h11 : a11.IsWhole)
    (a12 : Memref sig .tc .vmem S1x8 .f32) (h12 : a12.IsWhole) (a13 : Memref sig .tc .vmem S1x8 .f32) (h13 : a13.IsWhole)
    (a14 : Memref sig .tc .vmem S1x8 .f32) (h14 : a14.IsWhole) (a15 : Memref sig .tc .vmem S3x1x64 .f32) (h15 : a15.IsWhole)
    (a16 : Memref sig .tc .vmem S3x1x64 .f32) (h16 : a16.IsWhole) (a17 : Memref sig .tc .vmem S3x1x64 .f32) (h17 : a17.IsWhole)
    (a18 : Memref sig .tc .vmem S1x512 .f32) (h18 : a18.IsWhole) (a19 : Memref sig .tc .vmem S1x512 .f32) (h19 : a19.IsWhole)
    (a20 : Memref sig .tc .vmem S1x512 .f32) (h20 : a20.IsWhole) (a21 : Memref sig .tc .vmem S1x512 .f32) (h21 : a21.IsWhole)
    (a22 : Memref sig .tc .vmem S1x512 .f32) (h22 : a22.IsWhole) (a23 : Memref sig .tc .vmem S1x512 .f32) (h23 : a23.IsWhole)
    (a24 : Memref sig .tc .vmem S1x1024 .f32) (h24 : a24.IsWhole) (a25 : Memref sig .tc .vmem S1x1024 .f32) (h25 : a25.IsWhole)
    (a26 : Memref sig .tc .vmem S1x1024 .f32) (h26 : a26.IsWhole) (a27 : Memref sig .tc .vmem S1x1024 .f32) (h27 : a27.IsWhole)
    (a28 : Memref sig .tc .vmem S1x1024 .f32) (h28 : a28.IsWhole) (a29 : Memref sig .tc .vmem S1x1024 .f32) (h29 : a29.IsWhole)
    (a30 : Memref sig .tc .vmem S1x128 .f32) (h30 : a30.IsWhole) (a31 : Memref sig .tc .vmem S8x32 .f32) (h31 : a31.IsWhole)
    (a32 : Memref sig .tc .vmem S8x32 .f32) (h32 : a32.IsWhole) (a33 : Memref sig .tc .vmem S8x32 .f32) (h33 : a33.IsWhole)
    (a34 : Memref sig .tc .vmem S8x32 .f32) (h34 : a34.IsWhole) (a35 : Memref sig .tc .vmem S1x6144 .f32) (h35 : a35.IsWhole)
    (a36 : Memref sig .tc .vmem S1x6144 .f32) (h36 : a36.IsWhole) (a37 : Memref sig .tc .vmem S1x6144 .f32) (h37 : a37.IsWhole)
    (a38 : Memref sig .tc .vmem S1x6144 .f32) (h38 : a38.IsWhole) (a39 : Memref sig .tc .vmem S1x1024 .f32) (h39 : a39.IsWhole)
    (a40 : Memref sig .tc .vmem S1x1024 .f32) (h40 : a40.IsWhole) (a41 : Memref sig .tc .vmem S1x1024 .f32) (h41 : a41.IsWhole)
    (a42 : Memref sig .tc .vmem S1x1024 .f32) (h42 : a42.IsWhole) (a43 : Memref sig .tc .vmem S1x8 .f32) (h43 : a43.IsWhole)
    (a44 : Memref sig .tc .vmem S1x8 .f32) (h44 : a44.IsWhole) (a45 : Memref sig .tc .vmem S1x8 .f32) (h45 : a45.IsWhole)
    (a46 : Memref sig .tc .vmem S1x8 .f32) (h46 : a46.IsWhole) (a47 : Memref sig .tc .vmem S3x1x64 .f32) (h47 : a47.IsWhole)
    (a48 : Memref sig .tc .vmem S3x1x64 .f32) (h48 : a48.IsWhole) (a49 : Memref sig .tc .vmem S3x1x64 .f32) (h49 : a49.IsWhole)
    (a50 : Memref sig .tc .vmem S3x1x64 .f32) (h50 : a50.IsWhole) (a51 : Memref sig .tc .vmem S1x512 .f32) (h51 : a51.IsWhole)
    (a52 : Memref sig .tc .vmem S1x512 .f32) (h52 : a52.IsWhole) (a53 : Memref sig .tc .vmem S1x512 .f32) (h53 : a53.IsWhole)
    (a54 : Memref sig .tc .vmem S1x512 .f32) (h54 : a54.IsWhole) (a55 : Memref sig .tc .vmem S1x512 .f32) (h55 : a55.IsWhole)
    (a56 : Memref sig .tc .vmem S1x512 .f32) (h56 : a56.IsWhole) (a57 : Memref sig .tc .vmem S1x512 .f32) (h57 : a57.IsWhole)
    (a58 : Memref sig .tc .vmem S1x512 .f32) (h58 : a58.IsWhole) (a59 : Memref sig .tc .vmem S1x1024 .f32) (h59 : a59.IsWhole)
    (a60 : Memref sig .tc .vmem S1x1024 .f32) (h60 : a60.IsWhole) (a61 : Memref sig .tc .vmem S1x1024 .f32) (h61 : a61.IsWhole)
    (a62 : Memref sig .tc .vmem S1x1024 .f32) (h62 : a62.IsWhole) (a63 : Memref sig .tc .vmem S1x1024 .f32) (h63 : a63.IsWhole)
    (a64 : Memref sig .tc .vmem S1x1024 .f32) (h64 : a64.IsWhole) (a65 : Memref sig .tc .vmem S1x1024 .f32) (h65 : a65.IsWhole)
    (a66 : Memref sig .tc .vmem S1x1024 .f32) (h66 : a66.IsWhole)
    (x0 : Vec Ideal S1 .i32) (x1 : Vec Ideal S8x1x12032 .f32) (x2 : Vec Ideal S8x32x128 .f32) (x3 : Vec Ideal S8x32 .f32) (x4 : Vec Ideal S8x32 .f32)
    (x5 : Vec Ideal S8x32 .f32) (x6 : Vec Ideal S1x6144 .f32) (x7 : Vec Ideal S1x6144 .f32) (x8 : Vec Ideal S1x6144 .f32) (x9 : Vec Ideal S1x1024 .f32)
    (x10 : Vec Ideal S1x1024 .f32) (x11 : Vec Ideal S1x1024 .f32) (x12 : Vec Ideal S1x8 .f32) (x13 : Vec Ideal S1x8 .f32) (x14 : Vec Ideal S1x8 .f32)
    (x15 : Vec Ideal S3x1x64 .f32) (x16 : Vec Ideal S3x1x64 .f32) (x17 : Vec Ideal S3x1x64 .f32) (x18 : Vec Ideal S1x512 .f32)
    (x19 : Vec Ideal S1x512 .f32) (x20 : Vec Ideal S1x512 .f32) (x21 : Vec Ideal S1x512 .f32) (x22 : Vec Ideal S1x512 .f32) (x23 : Vec Ideal S1x512 .f32)
    (x24 : Vec Ideal S1x1024 .f32) (x25 : Vec Ideal S1x1024 .f32) (x26 : Vec Ideal S1x1024 .f32) (x27 : Vec Ideal S1x1024 .f32)
    (x28 : Vec Ideal S1x1024 .f32) (x29 : Vec Ideal S1x1024 .f32)
    (E : Set ℕ) (K : PUnit → sProp 𝕄) :
    iprop((given c a0 x0 ∗ given c a1 x1 ∗ given c a2 x2 ∗ given c a3 x3 ∗ given c a4 x4 ∗ given c a5 x5 ∗ given c a6 x6 ∗ given c a7 x7 ∗ given c a8 x8 ∗
      given c a9 x9 ∗ given c a10 x10 ∗ given c a11 x11 ∗ given c a12 x12 ∗ given c a13 x13 ∗ given c a14 x14 ∗ given c a15 x15 ∗ given c a16 x16 ∗
      given c a17 x17 ∗ given c a18 x18 ∗ given c a19 x19 ∗ given c a20 x20 ∗ given c a21 x21 ∗ given c a22 x22 ∗ given c a23 x23 ∗ given c a24 x24 ∗
      given c a25 x25 ∗ given c a26 x26 ∗ given c a27 x27 ∗ given c a28 x28 ∗ given c a29 x29 ∗ anything c a30 ∗ anything c a31 ∗ anything c a32 ∗
      anything c a33 ∗ anything c a34 ∗ anything c a35 ∗ anything c a36 ∗ anything c a37 ∗ anything c a38 ∗ anything c a39 ∗ anything c a40 ∗ anything c a41 ∗
      anything c a42 ∗ anything c a43 ∗ anything c a44 ∗ anything c a45 ∗ anything c a46 ∗ anything c a47 ∗ anything c a48 ∗ anything c a49 ∗ anything c a50 ∗
      anything c a51 ∗ anything c a52 ∗ anything c a53 ∗ anything c a54 ∗ anything c a55 ∗ anything c a56 ∗ anything c a57 ∗ anything c a58 ∗ anything c a59 ∗
      anything c a60 ∗ anything c a61 ∗ anything c a62 ∗ anything c a63 ∗ anything c a64 ∗ anything c a65 ∗ anything c a66)
      ∗ (iprop(held c a0 x0 ∗ held c a1 x1 ∗ held c a2 x2 ∗ held c a3 x3 ∗ held c a4 x4 ∗ held c a5 x5 ∗ held c a6 x6 ∗ held c a7 x7 ∗ held c a8 x8 ∗ held c a9 x9 ∗
        held c a10 x10 ∗ held c a11 x11 ∗ held c a12 x12 ∗ held c a13 x13 ∗ held c a14 x14 ∗ held c a15 x15 ∗ held c a16 x16 ∗ held c a17 x17 ∗ held c a18 x18 ∗
        held c a19 x19 ∗ held c a20 x20 ∗ held c a21 x21 ∗ held c a22 x22 ∗ held c a23 x23 ∗ held c a24 x24 ∗ held c a25 x25 ∗ held c a26 x26 ∗ held c a27 x27 ∗
        held c a28 x28 ∗ held c a29 x29 ∗ held c a30 (lanes (n := 128) 11904 x1) ∗ held c a31 (rel x2) ∗
        held c a32 (step x3 (mom1 (rel x2) x4) (mom2 (rel x2) x5)) ∗ held c a33 (mom1 (rel x2) x4) ∗ held c a34 (mom2 (rel x2) x5) ∗ held c a35 (lanes 0 x1) ∗
        held c a36 (step x6 (mom1 (lanes 0 x1) x7) (mom2 (lanes 0 x1) x8)) ∗ held c a37 (mom1 (lanes 0 x1) x7) ∗ held c a38 (mom2 (lanes 0 x1) x8) ∗
        held c a39 (lanes 6144 x1) ∗ held c a40 (step x9 (mom1 (lanes 6144 x1) x10) (mom2 (lanes 6144 x1) x11)) ∗ held c a41 (mom1 (lanes 6144 x1) x10) ∗
        held c a42 (mom2 (lanes 6144 x1) x11) ∗ held c a43 (lanes 7168 x1) ∗ held c a44 (step x12 (mom1 (lanes 7168 x1) x13) (mom2 (lanes 7168 x1) x14)) ∗
        held c a45 (mom1 (lanes 7168 x1) x13) ∗ held c a46 (mom2 (lanes 7168 x1) x14) ∗ held c a47 (conv x0 x1) ∗
        held c a48 (step x15 (mom1 (conv x0 x1) x16) (mom2 (conv x0 x1) x17)) ∗ held c a49 (mom1 (conv x0 x1) x16) ∗ held c a50 (mom2 (conv x0 x1) x17) ∗
        held c a51 (lanes 7296 x1) ∗ held c a52 (step x18 (mom1 (lanes 7296 x1) x19) (mom2 (lanes 7296 x1) x20)) ∗ held c a53 (mom1 (lanes 7296 x1) x19) ∗
        held c a54 (mom2 (lanes 7296 x1) x20) ∗ held c a55 (lanes 7808 x1) ∗ held c a56 (step x21 (mom1 (lanes 7808 x1) x22) (mom2 (lanes 7808 x1) x23)) ∗
        held c a57 (mom1 (lanes 7808 x1) x22) ∗ held c a58 (mom2 (lanes 7808 x1) x23) ∗ held c a59 (lanes 8320 x1) ∗
        held c a60 (step x24 (mom1 (lanes 8320 x1) x25) (mom2 (lanes 8320 x1) x26)) ∗ held c a61 (mom1 (lanes 8320 x1) x25) ∗
        held c a62 (mom2 (lanes 8320 x1) x26) ∗ held c a63 (lanes 9344 x1) ∗ held c a64 (step x27 (mom1 (lanes 9344 x1) x28) (mom2 (lanes 9344 x1) x29)) ∗
        held c a65 (mom1 (lanes 9344 x1) x28) ∗ held c a66 (mom2 (lanes 9344 x1) x29)) -∗ K ⟨⟩))
    ⊢ wp frame (wpE (defs₀ (F := Ideal)) Variants.none c none) E (cc0_small_update a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20
      a21 h21 a22 h22 a23 h23 a24 h24 a25 h25 a26 h26 a27 h27 a28 h28 a29 h29 a30 h30 a31 h31 a32 h32 a33 h33 a34 h34 a35 h35 a36 h36 a37 h37 a38 h38
      a39 h39 a40 h40 a41 h41 a42 h42 a43 h43 a44 h44 a45 h45 a46 h46 a47 h47 a48 h48 a49 h49 a50 h50 a51 h51 a52 h52 a53 h53 a54 h54 a55 h55 a56 h56
      a57 h57 a58 h58 a59 h59 a60 h60 a61 h61 a62 h62 a63 h63 a64 h64 a65 h65 a66 h66) K := by
  dsimp only [held, given, anything]
  simp only [cc0_small_update_eq_skeleton]; unfold cc0_small_update_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩,
    ⟨%d7, %f7, %e7, H7⟩, ⟨%d8, %f8, %e8, H8⟩, ⟨%d9, %f9, %e9, H9⟩, ⟨%d10, %f10, %e10, H10⟩, ⟨%d11, %f11, %e11, H11⟩, ⟨%d12, %f12, %e12, H12⟩,
    ⟨%d13, %f13, %e13, H13⟩, ⟨%d14, %f14, %e14, H14⟩, ⟨%d15, %f15, %e15, H15⟩, ⟨%d16, %f16, %e16, H16⟩, ⟨%d17, %f17, %e17, H17⟩, ⟨%d18, %f18, %e18, H18⟩,
    ⟨%d19, %f19, %e19, H19⟩, ⟨%d20, %f20, %e20, H20⟩, ⟨%d21, %f21, %e21, H21⟩, ⟨%d22, %f22, %e22, H22⟩, ⟨%d23, %f23, %e23, H23⟩, ⟨%d24, %f24, %e24, H24⟩,
    ⟨%d25, %f25, %e25, H25⟩, ⟨%d26, %f26, %e26, H26⟩, ⟨%d27, %f27, %e27, H27⟩, ⟨%d28, %f28, %e28, H28⟩, ⟨%d29, %f29, %e29, H29⟩, ⟨%d30, %f30, -, H30⟩,
    ⟨%d31, %f31, -, H31⟩, ⟨%d32, %f32, -, H32⟩, ⟨%d33, %f33, -, H33⟩, ⟨%d34, %f34, -, H34⟩, ⟨%d35, %f35, -, H35⟩, ⟨%d36, %f36, -, H36⟩,
    ⟨%d37, %f37, -, H37⟩, ⟨%d38, %f38, -, H38⟩, ⟨%d39, %f39, -, H39⟩, ⟨%d40, %f40, -, H40⟩, ⟨%d41, %f41, -, H41⟩, ⟨%d42, %f42, -, H42⟩,
    ⟨%d43, %f43, -, H43⟩, ⟨%d44, %f44, -, H44⟩, ⟨%d45, %f45, -, H45⟩, ⟨%d46, %f46, -, H46⟩, ⟨%d47, %f47, -, H47⟩, ⟨%d48, %f48, -, H48⟩,
    ⟨%d49, %f49, -, H49⟩, ⟨%d50, %f50, -, H50⟩, ⟨%d51, %f51, -, H51⟩, ⟨%d52, %f52, -, H52⟩, ⟨%d53, %f53, -, H53⟩, ⟨%d54, %f54, -, H54⟩,
    ⟨%d55, %f55, -, H55⟩, ⟨%d56, %f56, -, H56⟩, ⟨%d57, %f57, -, H57⟩, ⟨%d58, %f58, -, H58⟩, ⟨%d59, %f59, -, H59⟩, ⟨%d60, %f60, -, H60⟩,
    ⟨%d61, %f61, -, H61⟩, ⟨%d62, %f62, -, H62⟩, ⟨%d63, %f63, -, H63⟩, ⟨%d64, %f64, -, H64⟩, ⟨%d65, %f65, -, H65⟩, ⟨%d66, %f66, -, H66⟩⟩, Hk⟩
  obtain rfl := h0.eq_unread e0; obtain rfl := h1.eq_unread e1; obtain rfl := h2.eq_unread e2; obtain rfl := h3.eq_unread e3;
  obtain rfl := h4.eq_unread e4; obtain rfl := h5.eq_unread e5; obtain rfl := h6.eq_unread e6; obtain rfl := h7.eq_unread e7;
  obtain rfl := h8.eq_unread e8; obtain rfl := h9.eq_unread e9; obtain rfl := h10.eq_unread e10; obtain rfl := h11.eq_unread e11;
  obtain rfl := h12.eq_unread e12; obtain rfl := h13.eq_unread e13; obtain rfl := h14.eq_unread e14; obtain rfl := h15.eq_unread e15;
  obtain rfl := h16.eq_unread e16; obtain rfl := h17.eq_unread e17; obtain rfl := h18.eq_unread e18; obtain rfl := h19.eq_unread e19;
  obtain rfl := h20.eq_unread e20; obtain rfl := h21.eq_unread e21; obtain rfl := h22.eq_unread e22; obtain rfl := h23.eq_unread e23;
  obtain rfl := h24.eq_unread e24; obtain rfl := h25.eq_unread e25; obtain rfl := h26.eq_unread e26; obtain rfl := h27.eq_unread e27;
  obtain rfl := h28.eq_unread e28; obtain rfl := h29.eq_unread e29
  sl_exec
  sl_step
  iapply Hk
  isplitl [H0]
  · iexists _; isplitr; swap; · iexact H0
    ipureintro; exact h0.read_unread _
  isplitl [H1]
  · iexists _; isplitr; swap; · iexact H1
    ipureintro; exact h1.read_unread _
  isplitl [H2]
  · iexists _; isplitr; swap; · iexact H2
    ipureintro; exact h2.read_unread _
  isplitl [H3]
  · iexists _; isplitr; swap; · iexact H3
    ipureintro; exact h3.read_unread _
  isplitl [H4]
  · iexists _; isplitr; swap; · iexact H4
    ipureintro; exact h4.read_unread _
  isplitl [H5]
  · iexists _; isplitr; swap; · iexact H5
    ipureintro; exact h5.read_unread _
  isplitl [H6]
  · iexists _; isplitr; swap; · iexact H6
    ipureintro; exact h6.read_unread _
  isplitl [H7]
  · iexists _; isplitr; swap; · iexact H7
    ipureintro; exact h7.read_unread _
  isplitl [H8]
  · iexists _; isplitr; swap; · iexact H8
    ipureintro; exact h8.read_unread _
  isplitl [H9]
  · iexists _; isplitr; swap; · iexact H9
    ipureintro; exact h9.read_unread _
  isplitl [H10]
  · iexists _; isplitr; swap; · iexact H10
    ipureintro; exact h10.read_unread _
  isplitl [H11]
  · iexists _; isplitr; swap; · iexact H11
    ipureintro; exact h11.read_unread _
  isplitl [H12]
  · iexists _; isplitr; swap; · iexact H12
    ipureintro; exact h12.read_unread _
  isplitl [H13]
  · iexists _; isplitr; swap; · iexact H13
    ipureintro; exact h13.read_unread _
  isplitl [H14]
  · iexists _; isplitr; swap; · iexact H14
    ipureintro; exact h14.read_unread _
  isplitl [H15]
  · iexists _; isplitr; swap; · iexact H15
    ipureintro; exact h15.read_unread _
  isplitl [H16]
  · iexists _; isplitr; swap; · iexact H16
    ipureintro; exact h16.read_unread _
  isplitl [H17]
  · iexists _; isplitr; swap; · iexact H17
    ipureintro; exact h17.read_unread _
  isplitl [H18]
  · iexists _; isplitr; swap; · iexact H18
    ipureintro; exact h18.read_unread _
  isplitl [H19]
  · iexists _; isplitr; swap; · iexact H19
    ipureintro; exact h19.read_unread _
  isplitl [H20]
  · iexists _; isplitr; swap; · iexact H20
    ipureintro; exact h20.read_unread _
  isplitl [H21]
  · iexists _; isplitr; swap; · iexact H21
    ipureintro; exact h21.read_unread _
  isplitl [H22]
  · iexists _; isplitr; swap; · iexact H22
    ipureintro; exact h22.read_unread _
  isplitl [H23]
  · iexists _; isplitr; swap; · iexact H23
    ipureintro; exact h23.read_unread _
  isplitl [H24]
  · iexists _; isplitr; swap; · iexact H24
    ipureintro; exact h24.read_unread _
  isplitl [H25]
  · iexists _; isplitr; swap; · iexact H25
    ipureintro; exact h25.read_unread _
  isplitl [H26]
  · iexists _; isplitr; swap; · iexact H26
    ipureintro; exact h26.read_unread _
  isplitl [H27]
  · iexists _; isplitr; swap; · iexact H27
    ipureintro; exact h27.read_unread _
  isplitl [H28]
  · iexists _; isplitr; swap; · iexact H28
    ipureintro; exact h28.read_unread _
  isplitl [H29]
  · iexists _; isplitr; swap; · iexact H29
    ipureintro; exact h29.read_unread _
  isplitl [H30]
  · iexists _; isplitr; swap; · iexact H30
    ipureintro; exact (View.read_writes_full _ _ _ _ _).trans (loss_raw h1 x1)
  isplitl [H31]
  · iexists _; isplitr; swap; · iexact H31
    ipureintro; exact (View.read_writes_full _ _ _ _ _).trans (rel_raw h2 x2)
  isplitl [H32]
  · iexists _; isplitr; swap; · iexact H32
    ipureintro; exact (View.read_writes_full _ _ _ _ _).trans ((congrArg (fun t => k0_pay12 (F := Ideal) t k0_pay11) (congr (congr (congrArg₂ (k0_pay10 (F := Ideal)) (rel_raw h2 x2) (load_full h3 x3 _)) (load_full h4 x4 _)) (load_full h5 x5 _))).trans (p12 (rel x2) x3 x4 x5))
  isplitl [H33]
  · iexists _; isplitr; swap; · iexact H33
    ipureintro; exact (View.read_writes_full _ _ _ _ _).trans ((congrArg₂ (k0_pay8 (F := Ideal)) (rel_raw h2 x2) (load_full h4 x4 _)).trans (p8 (rel x2) x4))
  isplitl [H34]
  · iexists _; isplitr; swap; · iexact H34
    ipureintro; exact (View.read_writes_full _ _ _ _ _).trans ((congrArg₂ (k0_pay9 (F := Ideal)) (rel_raw h2 x2) (load_full h5 x5 _)).trans (p9 (rel x2) x5))
  isplitl [H35]
  · iexists _; isplitr; swap; · iexact H35
    ipureintro; exact (View.read_writes_full _ _ _ _ _).trans ((congrArg (k0_pay13 (F := Ideal)) (row_raw h1 x1)).trans (p13 x1))
  isplitl [H36]
  · iexists _; isplitr; swap; · iexact H36
    ipureintro; exact (View.read_writes_full _ _ _ _ _).trans ((congr (congr (congrArg₂ (k0_pay16 (F := Ideal)) (row_raw h1 x1) (load_full h6 x6 _)) (load_full h7 x7 _)) (load_full h8 x8 _)).trans (p16 x1 x6 x7 x8))
  isplitl [H37]
  · iexists _; isplitr; swap; · iexact H37
    ipureintro; exact (View.read_writes_full _ _ _ _ _).trans ((congrArg₂ (k0_pay14 (F := Ideal)) (row_raw h1 x1) (load_full h7 x7 _)).trans (p14 x1 x7))
  isplitl [H38]
  · iexists _; isplitr; swap; · iexact H38
    ipureintro; exact (View.read_writes_full _ _ _ _ _).trans ((congrArg₂ (k0_pay15 (F := Ideal)) (row_raw h1 x1) (load_full h8 x8 _)).trans (p15 x1 x8))
  isplitl [H39]
  · iexists _; isplitr; swap; · iexact H39
    ipureintro; exact (View.read_writes_full _ _ _ _ _).trans ((congrArg (k0_pay17 (F := Ideal)) (row_raw h1 x1)).trans (p17 x1))
  isplitl [H40]
  · iexists _; isplitr; swap; · iexact H40
    ipureintro; exact (View.read_writes_full _ _ _ _ _).trans ((congr (congr (congrArg₂ (k0_pay20 (F := Ideal)) (row_raw h1 x1) (load_full h9 x9 _)) (load_full h10 x10 _)) (load_full h11 x11 _)).trans (p20 x1 x9 x10 x11))
  isplitl [H41]
  · iexists _; isplitr; swap; · iexact H41
    ipureintro; exact (View.read_writes_full _ _ _ _ _).trans ((congrArg₂ (k0_pay18 (F := Ideal)) (row_raw h1 x1) (load_full h10 x10 _)).trans (p18 x1 x10))
  isplitl [H42]
  · iexists _; isplitr; swap; · iexact H42
    ipureintro; exact (View.read_writes_full _ _ _ _ _).trans ((congrArg₂ (k0_pay19 (F := Ideal)) (row_raw h1 x1) (load_full h11 x11 _)).trans (p19 x1 x11))
  isplitl [H43]
  · iexists _; isplitr; swap; · iexact H43
    ipureintro; exact (View.read_writes_full _ _ _ _ _).trans ((congrArg (k0_pay21 (F := Ideal)) (row_raw h1 x1)).trans (p21 x1))
  isplitl [H44]
  · iexists _; isplitr; swap; · iexact H44
    ipureintro; exact (View.read_writes_full _ _ _ _ _).trans ((congr (congr (congrArg₂ (k0_pay24 (F := Ideal)) (row_raw h1 x1) (load_full h12 x12 _)) (load_full h13 x13 _)) (load_full h14 x14 _)).trans (p24 x1 x12 x13 x14))
  isplitl [H45]
  · iexists _; isplitr; swap; · iexact H45
    ipureintro; exact (View.read_writes_full _ _ _ _ _).trans ((congrArg₂ (k0_pay22 (F := Ideal)) (row_raw h1 x1) (load_full h13 x13 _)).trans (p22 x1 x13))
  isplitl [H46]
  · iexists _; isplitr; swap; · iexact H46
    ipureintro; exact (View.read_writes_full _ _ _ _ _).trans ((congrArg₂ (k0_pay23 (F := Ideal)) (row_raw h1 x1) (load_full h14 x14 _)).trans (p23 x1 x14))
  isplitl [H47]
  · iexists _; isplitr; swap; · iexact H47
    ipureintro; refine rows3 _ _ _ _ _ _ _ _ _ ?_ ?_ ?_
    · exact (congrArg (k0_pay25 (F := Ideal)) (taps_raw h1 x1 h0 x0)).trans (tapG0 (taps x0 x1))
    · exact (congrArg (k0_pay34 (F := Ideal)) (taps_raw h1 x1 h0 x0)).trans (tapG1 (taps x0 x1))
    · exact (congrArg (k0_pay43 (F := Ideal)) (taps_raw h1 x1 h0 x0)).trans (tapG2 (taps x0 x1))
  isplitl [H48]
  · iexists _; isplitr; swap; · iexact H48
    ipureintro; refine rows3 _ _ _ _ _ _ _ _ _ ?_ ?_ ?_
    · exact (congrArg₂ (k0_pay31 (F := Ideal)) (congrArg (k0_pay26 (F := Ideal)) (load_tap0 h15 x15 _)) (congr (congrArg₂ (k0_pay30 (F := Ideal)) (taps_raw h1 x1 h0 x0) (load_tap0 h16 x16 _)) (load_tap0 h17 x17 _))).trans (tapD0 (taps x0 x1) x15 x16 x17)
    · exact (congrFun (congr (congr (congrArg₂ (k0_pay40 (F := Ideal)) (congrArg (k0_pay35 (F := Ideal)) (load_tap1 h15 x15 _)) (congrArg (k0_pay36 (F := Ideal)) (taps_raw h1 x1 h0 x0))) (congrArg (k0_pay37 (F := Ideal)) (load_tap1 h17 x17 _))) (congrArg₂ (k0_pay38 (F := Ideal)) (taps_raw h1 x1 h0 x0) (load_tap1 h16 x16 _))) (Scalar.ofBits .f32 0x3F7FBE77#32 : Ideal .f32)).trans (tapD1 (taps x0 x1) x15 x16 x17)
    · exact (congr (congr (congrArg₂ (k0_pay48 (F := Ideal)) (congrArg (k0_pay44 (F := Ideal)) (load_tap2 h15 x15 _)) (congrArg (k0_pay45 (F := Ideal)) (taps_raw h1 x1 h0 x0))) (load_tap2 h16 x16 _)) (load_tap2 h17 x17 _)).trans (tapD2 (taps x0 x1) x15 x16 x17)
  isplitl [H49]
  · iexists _; isplitr; swap; · iexact H49
    ipureintro; refine rows3 _ _ _ _ _ _ _ _ _ ?_ ?_ ?_
    · exact (congrArg (k0_pay32 (F := Ideal)) (congrArg₂ (k0_pay28 (F := Ideal)) (taps_raw h1 x1 h0 x0) (load_tap0 h16 x16 _))).trans (tapM0 (taps x0 x1) x16)
    · exact (congrArg (k0_pay41 (F := Ideal)) (congrArg₂ (k0_pay38 (F := Ideal)) (taps_raw h1 x1 h0 x0) (load_tap1 h16 x16 _))).trans (tapM1 (taps x0 x1) x16)
    · exact (congrArg₂ (k0_pay49 (F := Ideal)) (congrArg (k0_pay45 (F := Ideal)) (taps_raw h1 x1 h0 x0)) (load_tap2 h16 x16 _)).trans (tapM2 (taps x0 x1) x16)
  isplitl [H50]
  · iexists _; isplitr; swap; · iexact H50
    ipureintro; refine rows3 _ _ _ _ _ _ _ _ _ ?_ ?_ ?_
    · exact (congrArg (k0_pay33 (F := Ideal)) (congrArg₂ (k0_pay29 (F := Ideal)) (taps_raw h1 x1 h0 x0) (load_tap0 h17 x17 _))).trans (tapV0 (taps x0 x1) x17)
    · exact (congrArg₂ (fun s t => k0_pay42 (F := Ideal) s t (Scalar.ofBits .f32 0x3F7FBE77#32 : Ideal .f32)) (congrArg (k0_pay36 (F := Ideal)) (taps_raw h1 x1 h0 x0)) (congrArg (k0_pay37 (F := Ideal)) (load_tap1 h17 x17 _))).trans (tapV1 (taps x0 x1) x17)
    · exact (congrArg (k0_pay50 (F := Ideal)) (congrArg₂ (k0_pay47 (F := Ideal)) (congrArg (k0_pay45 (F := Ideal)) (taps_raw h1 x1 h0 x0)) (load_tap2 h17 x17 _))).trans (tapV2 (taps x0 x1) x17)
  isplitl [H51]
  · iexists _; isplitr; swap; · iexact H51
    ipureintro; exact (View.read_writes_full _ _ _ _ _).trans ((congrArg (k0_pay51 (F := Ideal)) (row_raw h1 x1)).trans (p51 x1))
  isplitl [H52]
  · iexists _; isplitr; swap; · iexact H52
    ipureintro; exact (View.read_writes_full _ _ _ _ _).trans ((congr (congr (congrArg₂ (k0_pay54 (F := Ideal)) (row_raw h1 x1) (load_full h18 x18 _)) (load_full h19 x19 _)) (load_full h20 x20 _)).trans (p54 x1 x18 x19 x20))
  isplitl [H53]
  · iexists _; isplitr; swap; · iexact H53
    ipureintro; exact (View.read_writes_full _ _ _ _ _).trans ((congrArg₂ (k0_pay52 (F := Ideal)) (row_raw h1 x1) (load_full h19 x19 _)).trans (p52 x1 x19))
  isplitl [H54]
  · iexists _; isplitr; swap; · iexact H54
    ipureintro; exact (View.read_writes_full _ _ _ _ _).trans ((congrArg₂ (k0_pay53 (F := Ideal)) (row_raw h1 x1) (load_full h20 x20 _)).trans (p53 x1 x20))
  isplitl [H55]
  · iexists _; isplitr; swap; · iexact H55
    ipureintro; exact (View.read_writes_full _ _ _ _ _).trans ((congrArg (k0_pay55 (F := Ideal)) (row_raw h1 x1)).trans (p55 x1))
  isplitl [H56]
  · iexists _; isplitr; swap; · iexact H56
    ipureintro; exact (View.read_writes_full _ _ _ _ _).trans ((congr (congr (congrArg₂ (k0_pay58 (F := Ideal)) (row_raw h1 x1) (load_full h21 x21 _)) (load_full h22 x22 _)) (load_full h23 x23 _)).trans (p58 x1 x21 x22 x23))
  isplitl [H57]
  · iexists _; isplitr; swap; · iexact H57
    ipureintro; exact (View.read_writes_full _ _ _ _ _).trans ((congrArg₂ (k0_pay56 (F := Ideal)) (row_raw h1 x1) (load_full h22 x22 _)).trans (p56 x1 x22))
  isplitl [H58]
  · iexists _; isplitr; swap; · iexact H58
    ipureintro; exact (View.read_writes_full _ _ _ _ _).trans ((congrArg₂ (k0_pay57 (F := Ideal)) (row_raw h1 x1) (load_full h23 x23 _)).trans (p57 x1 x23))
  isplitl [H59]
  · iexists _; isplitr; swap; · iexact H59
    ipureintro; exact (View.read_writes_full _ _ _ _ _).trans ((congrArg (k0_pay59 (F := Ideal)) (row_raw h1 x1)).trans (p59 x1))
  isplitl [H60]
  · iexists _; isplitr; swap; · iexact H60
    ipureintro; exact (View.read_writes_full _ _ _ _ _).trans ((congr (congr (congrArg₂ (k0_pay62 (F := Ideal)) (row_raw h1 x1) (load_full h24 x24 _)) (load_full h25 x25 _)) (load_full h26 x26 _)).trans (p62 x1 x24 x25 x26))
  isplitl [H61]
  · iexists _; isplitr; swap; · iexact H61
    ipureintro; exact (View.read_writes_full _ _ _ _ _).trans ((congrArg₂ (k0_pay60 (F := Ideal)) (row_raw h1 x1) (load_full h25 x25 _)).trans (p60 x1 x25))
  isplitl [H62]
  · iexists _; isplitr; swap; · iexact H62
    ipureintro; exact (View.read_writes_full _ _ _ _ _).trans ((congrArg₂ (k0_pay61 (F := Ideal)) (row_raw h1 x1) (load_full h26 x26 _)).trans (p61 x1 x26))
  isplitl [H63]
  · iexists _; isplitr; swap; · iexact H63
    ipureintro; exact (View.read_writes_full _ _ _ _ _).trans ((congrArg (k0_pay63 (F := Ideal)) (row_raw h1 x1)).trans (p63 x1))
  isplitl [H64]
  · iexists _; isplitr; swap; · iexact H64
    ipureintro; exact (View.read_writes_full _ _ _ _ _).trans ((congr (congr (congrArg₂ (k0_pay66 (F := Ideal)) (row_raw h1 x1) (load_full h27 x27 _)) (load_full h28 x28 _)) (load_full h29 x29 _)).trans (p66 x1 x27 x28 x29))
  isplitl [H65]
  · iexists _; isplitr; swap; · iexact H65
    ipureintro; exact (View.read_writes_full _ _ _ _ _).trans ((congrArg₂ (k0_pay64 (F := Ideal)) (row_raw h1 x1) (load_full h28 x28 _)).trans (p64 x1 x28))
  iexists _; isplitr; swap; · iexact H66
  ipureintro; exact (View.read_writes_full _ _ _ _ _).trans ((congrArg₂ (k0_pay65 (F := Ideal)) (row_raw h1 x1) (load_full h29 x29 _)).trans (p65 x1 x29))

end Cert.SmallIdeal.Gen

end
-- ==== Proof.SmallFrame.lean ====
/-
The run of the update of the small parameters: what its pipeline leaves.
-/
module

public import proofs.«01_k».proof.Proof.SmallBody
public import Idealize.ShloMosaic.Lib.Claim

@[expose] public section

set_option maxRecDepth 16384

noncomputable section

namespace Cert.SmallIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SmallIdeal

local notation "𝕄" => MT nD τ sig Unit (Elt Ideal) ℕ (UR sig nD τ) ℕ

variable (m : (ℓ : Loc nD τ sig) → Buf (Elt Ideal) ℓ) (ρ : Dev nD → PrngReg)

/-- The pipeline's data: its arrays as the launch finds them, and what the body leaves in each buffer. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => lanes (n := 128) 11904 (iblk m c 1 t)
    | ⟨31, _⟩ => rel (iblk m c 2 t)
    | ⟨32, _⟩ => step (iblk m c 3 t) (mom1 (rel (iblk m c 2 t)) (iblk m c 4 t)) (mom2 (rel (iblk m c 2 t)) (iblk m c 5 t))
    | ⟨33, _⟩ => mom1 (rel (iblk m c 2 t)) (iblk m c 4 t)
    | ⟨34, _⟩ => mom2 (rel (iblk m c 2 t)) (iblk m c 5 t)
    | ⟨35, _⟩ => lanes 0 (iblk m c 1 t)
    | ⟨36, _⟩ => step (iblk m c 6 t) (mom1 (lanes 0 (iblk m c 1 t)) (iblk m c 7 t)) (mom2 (lanes 0 (iblk m c 1 t)) (iblk m c 8 t))
    | ⟨37, _⟩ => mom1 (lanes 0 (iblk m c 1 t)) (iblk m c 7 t)
    | ⟨38, _⟩ => mom2 (lanes 0 (iblk m c 1 t)) (iblk m c 8 t)
    | ⟨39, _⟩ => lanes 6144 (iblk m c 1 t)
    | ⟨40, _⟩ => step (iblk m c 9 t) (mom1 (lanes 6144 (iblk m c 1 t)) (iblk m c 10 t)) (mom2 (lanes 6144 (iblk m c 1 t)) (iblk m c 11 t))
    | ⟨41, _⟩ => mom1 (lanes 6144 (iblk m c 1 t)) (iblk m c 10 t)
    | ⟨42, _⟩ => mom2 (lanes 6144 (iblk m c 1 t)) (iblk m c 11 t)
    | ⟨43, _⟩ => lanes 7168 (iblk m c 1 t)
    | ⟨44, _⟩ => step (iblk m c 12 t) (mom1 (lanes 7168 (iblk m c 1 t)) (iblk m c 13 t)) (mom2 (lanes 7168 (iblk m c 1 t)) (iblk m c 14 t))
    | ⟨45, _⟩ => mom1 (lanes 7168 (iblk m c 1 t)) (iblk m c 13 t)
    | ⟨46, _⟩ => mom2 (lanes 7168 (iblk m c 1 t)) (iblk m c 14 t)
    | ⟨47, _⟩ => conv (iblk m c 0 t) (iblk m c 1 t)
    | ⟨48, _⟩ => step (iblk m c 15 t) (mom1 (conv (iblk m c 0 t) (iblk m c 1 t)) (iblk m c 16 t)) (mom2 (conv (iblk m c 0 t) (iblk m c 1 t)) (iblk m c 17 t))
    | ⟨49, _⟩ => mom1 (conv (iblk m c 0 t) (iblk m c 1 t)) (iblk m c 16 t)
    | ⟨50, _⟩ => mom2 (conv (iblk m c 0 t) (iblk m c 1 t)) (iblk m c 17 t)
    | ⟨51, _⟩ => lanes 7296 (iblk m c 1 t)
    | ⟨52, _⟩ => step (iblk m c 18 t) (mom1 (lanes 7296 (iblk m c 1 t)) (iblk m c 19 t)) (mom2 (lanes 7296 (iblk m c 1 t)) (iblk m c 20 t))
    | ⟨53, _⟩ => mom1 (lanes 7296 (iblk m c 1 t)) (iblk m c 19 t)
    | ⟨54, _⟩ => mom2 (lanes 7296 (iblk m c 1 t)) (iblk m c 20 t)
    | ⟨55, _⟩ => lanes 7808 (iblk m c 1 t)
    | ⟨56, _⟩ => step (iblk m c 21 t) (mom1 (lanes 7808 (iblk m c 1 t)) (iblk m c 22 t)) (mom2 (lanes 7808 (iblk m c 1 t)) (iblk m c 23 t))
    | ⟨57, _⟩ => mom1 (lanes 7808 (iblk m c 1 t)) (iblk m c 22 t)
    | ⟨58, _⟩ => mom2 (lanes 7808 (iblk m c 1 t)) (iblk m c 23 t)
    | ⟨59, _⟩ => lanes 8320 (iblk m c 1 t)
    | ⟨60, _⟩ => step (iblk m c 24 t) (mom1 (lanes 8320 (iblk m c 1 t)) (iblk m c 25 t)) (mom2 (lanes 8320 (iblk m c 1 t)) (iblk m c 26 t))
    | ⟨61, _⟩ => mom1 (lanes 8320 (iblk m c 1 t)) (iblk m c 25 t)
    | ⟨62, _⟩ => mom2 (lanes 8320 (iblk m c 1 t)) (iblk m c 26 t)
    | ⟨63, _⟩ => lanes 9344 (iblk m c 1 t)
    | ⟨64, _⟩ => step (iblk m c 27 t) (mom1 (lanes 9344 (iblk m c 1 t)) (iblk m c 28 t)) (mom2 (lanes 9344 (iblk m c 1 t)) (iblk m c 29 t))
    | ⟨65, _⟩ => mom1 (lanes 9344 (iblk m c 1 t)) (iblk m c 28 t)
    | ⟨66, _⟩ => mom2 (lanes 9344 (iblk m c 1 t)) (iblk m c 29 t)
    | ⟨_ + 67, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

/-- A buffer that holds what `f` says, of whatever it held before. -/
abbrev B (c : Dev nD) {sp : Space} {s : Shape} {e : EltTy} {α : Type} (a : Memref sig .tc sp s e) (f : α → Vec Ideal s e) : sProp 𝕄 :=
  iprop(∃ d, owns (c : Thread nD τ) a fullShare (f d))

/-- Before the body the inputs hold their blocks. -/
def bodyPre (c : Dev nD) (t : Fin cfg0.N) : sProp 𝕄 :=
  iprop((dats m 0 c).Φ t.castSucc ∗ (dats m 0 c).owesAt () t.castSucc ∗ B c (ms0_0 t) ((dats m 0 c).before 0 t) ∗ B c (ms0_1 t) ((dats m 0 c).before 1 t) ∗
    B c (ms0_2 t) ((dats m 0 c).before 2 t) ∗ B c (ms0_3 t) ((dats m 0 c).before 3 t) ∗ B c (ms0_4 t) ((dats m 0 c).before 4 t) ∗
    B c (ms0_5 t) ((dats m 0 c).before 5 t) ∗ B c (ms0_6 t) ((dats m 0 c).before 6 t) ∗ B c (ms0_7 t) ((dats m 0 c).before 7 t) ∗
    B c (ms0_8 t) ((dats m 0 c).before 8 t) ∗ B c (ms0_9 t) ((dats m 0 c).before 9 t) ∗ B c (ms0_10 t) ((dats m 0 c).before 10 t) ∗
    B c (ms0_11 t) ((dats m 0 c).before 11 t) ∗ B c (ms0_12 t) ((dats m 0 c).before 12 t) ∗ B c (ms0_13 t) ((dats m 0 c).before 13 t) ∗
    B c (ms0_14 t) ((dats m 0 c).before 14 t) ∗ B c (ms0_15 t) ((dats m 0 c).before 15 t) ∗ B c (ms0_16 t) ((dats m 0 c).before 16 t) ∗
    B c (ms0_17 t) ((dats m 0 c).before 17 t) ∗ B c (ms0_18 t) ((dats m 0 c).before 18 t) ∗ B c (ms0_19 t) ((dats m 0 c).before 19 t) ∗
    B c (ms0_20 t) ((dats m 0 c).before 20 t) ∗ B c (ms0_21 t) ((dats m 0 c).before 21 t) ∗ B c (ms0_22 t) ((dats m 0 c).before 22 t) ∗
    B c (ms0_23 t) ((dats m 0 c).before 23 t) ∗ B c (ms0_24 t) ((dats m 0 c).before 24 t) ∗ B c (ms0_25 t) ((dats m 0 c).before 25 t) ∗
    B c (ms0_26 t) ((dats m 0 c).before 26 t) ∗ B c (ms0_27 t) ((dats m 0 c).before 27 t) ∗ B c (ms0_28 t) ((dats m 0 c).before 28 t) ∗
    B c (ms0_29 t) ((dats m 0 c).before 29 t) ∗ B c (ms0_30 t) ((dats m 0 c).before 30 t) ∗ B c (ms0_31 t) ((dats m 0 c).before 31 t) ∗
    B c (ms0_32 t) ((dats m 0 c).before 32 t) ∗ B c (ms0_33 t) ((dats m 0 c).before 33 t) ∗ B c (ms0_34 t) ((dats m 0 c).before 34 t) ∗
    B c (ms0_35 t) ((dats m 0 c).before 35 t) ∗ B c (ms0_36 t) ((dats m 0 c).before 36 t) ∗ B c (ms0_37 t) ((dats m 0 c).before 37 t) ∗
    B c (ms0_38 t) ((dats m 0 c).before 38 t) ∗ B c (ms0_39 t) ((dats m 0 c).before 39 t) ∗ B c (ms0_40 t) ((dats m 0 c).before 40 t) ∗
    B c (ms0_41 t) ((dats m 0 c).before 41 t) ∗ B c (ms0_42 t) ((dats m 0 c).before 42 t) ∗ B c (ms0_43 t) ((dats m 0 c).before 43 t) ∗
    B c (ms0_44 t) ((dats m 0 c).before 44 t) ∗ B c (ms0_45 t) ((dats m 0 c).before 45 t) ∗ B c (ms0_46 t) ((dats m 0 c).before 46 t) ∗
    B c (ms0_47 t) ((dats m 0 c).before 47 t) ∗ B c (ms0_48 t) ((dats m 0 c).before 48 t) ∗ B c (ms0_49 t) ((dats m 0 c).before 49 t) ∗
    B c (ms0_50 t) ((dats m 0 c).before 50 t) ∗ B c (ms0_51 t) ((dats m 0 c).before 51 t) ∗ B c (ms0_52 t) ((dats m 0 c).before 52 t) ∗
    B c (ms0_53 t) ((dats m 0 c).before 53 t) ∗ B c (ms0_54 t) ((dats m 0 c).before 54 t) ∗ B c (ms0_55 t) ((dats m 0 c).before 55 t) ∗
    B c (ms0_56 t) ((dats m 0 c).before 56 t) ∗ B c (ms0_57 t) ((dats m 0 c).before 57 t) ∗ B c (ms0_58 t) ((dats m 0 c).before 58 t) ∗
    B c (ms0_59 t) ((dats m 0 c).before 59 t) ∗ B c (ms0_60 t) ((dats m 0 c).before 60 t) ∗ B c (ms0_61 t) ((dats m 0 c).before 61 t) ∗
    B c (ms0_62 t) ((dats m 0 c).before 62 t) ∗ B c (ms0_63 t) ((dats m 0 c).before 63 t) ∗ B c (ms0_64 t) ((dats m 0 c).before 64 t) ∗
    B c (ms0_65 t) ((dats m 0 c).before 65 t) ∗ B c (ms0_66 t) ((dats m 0 c).before 66 t))

/-- After it the buffers hold what the data says. -/
def bodyPost (c : Dev nD) (t : Fin cfg0.N) : sProp 𝕄 :=
  iprop((dats m 0 c).Φ t.succ ∗ (dats m 0 c).owesAt () t.succ ∗ held c (ms0_0 t) ((dats m 0 c).after 0 t) ∗ held c (ms0_1 t) ((dats m 0 c).after 1 t) ∗
    held c (ms0_2 t) ((dats m 0 c).after 2 t) ∗ held c (ms0_3 t) ((dats m 0 c).after 3 t) ∗ held c (ms0_4 t) ((dats m 0 c).after 4 t) ∗
    held c (ms0_5 t) ((dats m 0 c).after 5 t) ∗ held c (ms0_6 t) ((dats m 0 c).after 6 t) ∗ held c (ms0_7 t) ((dats m 0 c).after 7 t) ∗
    held c (ms0_8 t) ((dats m 0 c).after 8 t) ∗ held c (ms0_9 t) ((dats m 0 c).after 9 t) ∗ held c (ms0_10 t) ((dats m 0 c).after 10 t) ∗
    held c (ms0_11 t) ((dats m 0 c).after 11 t) ∗ held c (ms0_12 t) ((dats m 0 c).after 12 t) ∗ held c (ms0_13 t) ((dats m 0 c).after 13 t) ∗
    held c (ms0_14 t) ((dats m 0 c).after 14 t) ∗ held c (ms0_15 t) ((dats m 0 c).after 15 t) ∗ held c (ms0_16 t) ((dats m 0 c).after 16 t) ∗
    held c (ms0_17 t) ((dats m 0 c).after 17 t) ∗ held c (ms0_18 t) ((dats m 0 c).after 18 t) ∗ held c (ms0_19 t) ((dats m 0 c).after 19 t) ∗
    held c (ms0_20 t) ((dats m 0 c).after 20 t) ∗ held c (ms0_21 t) ((dats m 0 c).after 21 t) ∗ held c (ms0_22 t) ((dats m 0 c).after 22 t) ∗
    held c (ms0_23 t) ((dats m 0 c).after 23 t) ∗ held c (ms0_24 t) ((dats m 0 c).after 24 t) ∗ held c (ms0_25 t) ((dats m 0 c).after 25 t) ∗
    held c (ms0_26 t) ((dats m 0 c).after 26 t) ∗ held c (ms0_27 t) ((dats m 0 c).after 27 t) ∗ held c (ms0_28 t) ((dats m 0 c).after 28 t) ∗
    held c (ms0_29 t) ((dats m 0 c).after 29 t) ∗ held c (ms0_30 t) ((dats m 0 c).after 30 t) ∗ held c (ms0_31 t) ((dats m 0 c).after 31 t) ∗
    held c (ms0_32 t) ((dats m 0 c).after 32 t) ∗ held c (ms0_33 t) ((dats m 0 c).after 33 t) ∗ held c (ms0_34 t) ((dats m 0 c).after 34 t) ∗
    held c (ms0_35 t) ((dats m 0 c).after 35 t) ∗ held c (ms0_36 t) ((dats m 0 c).after 36 t) ∗ held c (ms0_37 t) ((dats m 0 c).after 37 t) ∗
    held c (ms0_38 t) ((dats m 0 c).after 38 t) ∗ held c (ms0_39 t) ((dats m 0 c).after 39 t) ∗ held c (ms0_40 t) ((dats m 0 c).after 40 t) ∗
    held c (ms0_41 t) ((dats m 0 c).after 41 t) ∗ held c (ms0_42 t) ((dats m 0 c).after 42 t) ∗ held c (ms0_43 t) ((dats m 0 c).after 43 t) ∗
    held c (ms0_44 t) ((dats m 0 c).after 44 t) ∗ held c (ms0_45 t) ((dats m 0 c).after 45 t) ∗ held c (ms0_46 t) ((dats m 0 c).after 46 t) ∗
    held c (ms0_47 t) ((dats m 0 c).after 47 t) ∗ held c (ms0_48 t) ((dats m 0 c).after 48 t) ∗ held c (ms0_49 t) ((dats m 0 c).after 49 t) ∗
    held c (ms0_50 t) ((dats m 0 c).after 50 t) ∗ held c (ms0_51 t) ((dats m 0 c).after 51 t) ∗ held c (ms0_52 t) ((dats m 0 c).after 52 t) ∗
    held c (ms0_53 t) ((dats m 0 c).after 53 t) ∗ held c (ms0_54 t) ((dats m 0 c).after 54 t) ∗ held c (ms0_55 t) ((dats m 0 c).after 55 t) ∗
    held c (ms0_56 t) ((dats m 0 c).after 56 t) ∗ held c (ms0_57 t) ((dats m 0 c).after 57 t) ∗ held c (ms0_58 t) ((dats m 0 c).after 58 t) ∗
    held c (ms0_59 t) ((dats m 0 c).after 59 t) ∗ held c (ms0_60 t) ((dats m 0 c).after 60 t) ∗ held c (ms0_61 t) ((dats m 0 c).after 61 t) ∗
    held c (ms0_62 t) ((dats m 0 c).after 62 t) ∗ held c (ms0_63 t) ((dats m 0 c).after 63 t) ∗ held c (ms0_64 t) ((dats m 0 c).after 64 t) ∗
    held c (ms0_65 t) ((dats m 0 c).after 65 t) ∗ held c (ms0_66 t) ((dats m 0 c).after 66 t))

set_option maxHeartbeats 4000000 in
/-- The body, from what the pipeline hands it. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  have hb : ∀ w, (dats m 0 c).A w = V m c (Pipeline.arrRef spec0 w) := A_eq m c
  simp only [B, before0_0_of m (dats m 0 c) (hb 0) (fun _ => rfl), before0_1_of m (dats m 0 c) (hb 1) (fun _ => rfl),
    before0_2_of m (dats m 0 c) (hb 2) (fun _ => rfl), before0_3_of m (dats m 0 c) (hb 3) (fun _ => rfl),
    before0_4_of m (dats m 0 c) (hb 4) (fun _ => rfl), before0_5_of m (dats m 0 c) (hb 5) (fun _ => rfl),
    before0_6_of m (dats m 0 c) (hb 6) (fun _ => rfl), before0_7_of m (dats m 0 c) (hb 7) (fun _ => rfl),
    before0_8_of m (dats m 0 c) (hb 8) (fun _ => rfl), before0_9_of m (dats m 0 c) (hb 9) (fun _ => rfl),
    before0_10_of m (dats m 0 c) (hb 10) (fun _ => rfl), before0_11_of m (dats m 0 c) (hb 11) (fun _ => rfl),
    before0_12_of m (dats m 0 c) (hb 12) (fun _ => rfl), before0_13_of m (dats m 0 c) (hb 13) (fun _ => rfl),
    before0_14_of m (dats m 0 c) (hb 14) (fun _ => rfl), before0_15_of m (dats m 0 c) (hb 15) (fun _ => rfl),
    before0_16_of m (dats m 0 c) (hb 16) (fun _ => rfl), before0_17_of m (dats m 0 c) (hb 17) (fun _ => rfl),
    before0_18_of m (dats m 0 c) (hb 18) (fun _ => rfl), before0_19_of m (dats m 0 c) (hb 19) (fun _ => rfl),
    before0_20_of m (dats m 0 c) (hb 20) (fun _ => rfl), before0_21_of m (dats m 0 c) (hb 21) (fun _ => rfl),
    before0_22_of m (dats m 0 c) (hb 22) (fun _ => rfl), before0_23_of m (dats m 0 c) (hb 23) (fun _ => rfl),
    before0_24_of m (dats m 0 c) (hb 24) (fun _ => rfl), before0_25_of m (dats m 0 c) (hb 25) (fun _ => rfl),
    before0_26_of m (dats m 0 c) (hb 26) (fun _ => rfl), before0_27_of m (dats m 0 c) (hb 27) (fun _ => rfl),
    before0_28_of m (dats m 0 c) (hb 28) (fun _ => rfl), before0_29_of m (dats m 0 c) (hb 29) (fun _ => rfl)]
  rw [show (dats m 0 c).Φ t.succ = (dats m 0 c).Φ t.castSucc from rfl, show (dats m 0 c).owesAt () t.succ = (dats m 0 c).owesAt () t.castSucc from rfl]
  dsimp only [dats]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩,
    ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩,
    ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩,
    ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩,
    ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩,
    ⟨%d57, H57⟩, ⟨%d58, H58⟩, ⟨%d59, H59⟩, ⟨%d60, H60⟩, ⟨%d61, H61⟩, ⟨%d62, H62⟩, ⟨%d63, H63⟩, ⟨%d64, H64⟩, ⟨%d65, H65⟩, ⟨%d66, H66⟩⟩
  iapply (body_run c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ Set.univ _)
  isplitl [H0 H1 H2 H3 H4 H5 H6 H7 H8 H9 H10 H11 H12 H13 H14 H15 H16 H17 H18 H19 H20 H21 H22 H23 H24 H25 H26 H27 H28 H29 H30 H31 H32 H33 H34 H35 H36 H37 H38 H39
    H40 H41 H42 H43 H44 H45 H46 H47 H48 H49 H50 H51 H52 H53 H54 H55 H56 H57 H58 H59 H60 H61 H62 H63 H64 H65 H66]
  · isplitl [H0]; · iexists d0; iexact H0
    isplitl [H1]; · iexists d1; iexact H1
    isplitl [H2]; · iexists d2; iexact H2
    isplitl [H3]; · iexists d3; iexact H3
    isplitl [H4]; · iexists d4; iexact H4
    isplitl [H5]; · iexists d5; iexact H5
    isplitl [H6]; · iexists d6; iexact H6
    isplitl [H7]; · iexists d7; iexact H7
    isplitl [H8]; · iexists d8; iexact H8
    isplitl [H9]; · iexists d9; iexact H9
    isplitl [H10]; · iexists d10; iexact H10
    isplitl [H11]; · iexists d11; iexact H11
    isplitl [H12]; · iexists d12; iexact H12
    isplitl [H13]; · iexists d13; iexact H13
    isplitl [H14]; · iexists d14; iexact H14
    isplitl [H15]; · iexists d15; iexact H15
    isplitl [H16]; · iexists d16; iexact H16
    isplitl [H17]; · iexists d17; iexact H17
    isplitl [H18]; · iexists d18; iexact H18
    isplitl [H19]; · iexists d19; iexact H19
    isplitl [H20]; · iexists d20; iexact H20
    isplitl [H21]; · iexists d21; iexact H21
    isplitl [H22]; · iexists d22; iexact H22
    isplitl [H23]; · iexists d23; iexact H23
    isplitl [H24]; · iexists d24; iexact H24
    isplitl [H25]; · iexists d25; iexact H25
    isplitl [H26]; · iexists d26; iexact H26
    isplitl [H27]; · iexists d27; iexact H27
    isplitl [H28]; · iexists d28; iexact H28
    isplitl [H29]; · iexists d29; iexact H29
    isplitl [H30]; · iexists _; iexact H30
    isplitl [H31]; · iexists _; iexact H31
    isplitl [H32]; · iexists _; iexact H32
    isplitl [H33]; · iexists _; iexact H33
    isplitl [H34]; · iexists _; iexact H34
    isplitl [H35]; · iexists _; iexact H35
    isplitl [H36]; · iexists _; iexact H36
    isplitl [H37]; · iexists _; iexact H37
    isplitl [H38]; · iexists _; iexact H38
    isplitl [H39]; · iexists _; iexact H39
    isplitl [H40]; · iexists _; iexact H40
    isplitl [H41]; · iexists _; iexact H41
    isplitl [H42]; · iexists _; iexact H42
    isplitl [H43]; · iexists _; iexact H43
    isplitl [H44]; · iexists _; iexact H44
    isplitl [H45]; · iexists _; iexact H45
    isplitl [H46]; · iexists _; iexact H46
    isplitl [H47]; · iexists _; iexact H47
    isplitl [H48]; · iexists _; iexact H48
    isplitl [H49]; · iexists _; iexact H49
    isplitl [H50]; · iexists _; iexact H50
    isplitl [H51]; · iexists _; iexact H51
    isplitl [H52]; · iexists _; iexact H52
    isplitl [H53]; · iexists _; iexact H53
    isplitl [H54]; · iexists _; iexact H54
    isplitl [H55]; · iexists _; iexact H55
    isplitl [H56]; · iexists _; iexact H56
    isplitl [H57]; · iexists _; iexact H57
    isplitl [H58]; · iexists _; iexact H58
    isplitl [H59]; · iexists _; iexact H59
    isplitl [H60]; · iexists _; iexact H60
    isplitl [H61]; · iexists _; iexact H61
    isplitl [H62]; · iexists _; iexact H62
    isplitl [H63]; · iexists _; iexact H63
    isplitl [H64]; · iexists _; iexact H64
    isplitl [H65]; · iexists _; iexact H65
    iexists _; iexact H66
  iintro H
  isplitl [HΦ]; · iexact HΦ
  isplitl [Ho]; · iexact Ho
  iexact H

theorem defs₀_row (t : Fin cfg0.N) : defs₀ (F := Ideal) .tc cfg0.body (cfg0.bodyArgs t (cfg0.slots t)) = bodyAt0 t := by
  unfold defs₀; rw [Defs.onTc_tc]

set_option maxHeartbeats 4000000 in
/-- What the library asks of the body. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- The launch, every counter at zero at the end. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch. -/
theorem run_main : θ_run defs (onTc (τ := τ) (main (F := Ideal))) (s₀ m ρ) (Pipeline.FramePost cfgs (dats m) 0 (V m)) :=
  (θ_run defs _ _).mono (fun _ h => h.1) (run_main_quiescent m ρ)

end Cert.SmallIdeal.Gen

end
-- ==== Proof.SmallEquation.lean ====
/-
The small parameters' update: the kernel's thirty-seven outputs are the reference's, whenever the device's number lies below eight.
-/
module
public import proofs.«01_k».proof.Proof.SmallValues
public import proofs.«01_k».proof.Proof.SmallFrame
public import Idealize.ShloMosaic.Lib.Pipeline.ValueKit
public import proofs.«01_k».proof.Defs
@[expose] public section
set_option maxRecDepth 16384
noncomputable section
open Idealize.ShloMosaic Idealize.ShloMosaic.TcCoe Idealize.ShloMosaic.StableHlo Idealize.SL.Sem

namespace Cert.SmallReferenceIdeal
open Cert.Adam
open Cert.SmallIdeal (lanes rel conv mom1 mom2 step cut)
open Cert.SmallIdeal.Gen (iblk dats)
open Cert.SmallReferenceIdeal.Gen Cert.SmallReferenceIdeal.Value
/-! ## The reference's lines -/
theorem lanes_is {n o : ℕ} (x : FVec Ideal S8x1x12032 .f32) (h : S1x12032.Slices ![0, o] ⟨2, ![1, n]⟩) :
    extractStridedSlice ⟨2, ![1, n]⟩ ![0, o] (Host.reduceAdd x (constant S_ .f32 0x00000000#32) reducesTo_S8x1x12032_S1x12032_d0 h_S_) h = lanes o x := by
  rw [sum_is]; exact cut x o h
section lines
variable {s : Shape} {h : S_.BroadcastsInDim s (![] : Fin 0 → Fin s.rank)} {g g' w w' m m' v v' : FVec Ideal s .f32} (eg : g = g') (ew : w = w') (em : m = m') (ev : v = v')
include eg em in
theorem ref_m : addf (mulf (broadcastInDim s ![] h (constant S_ .f32 0x3F666666#32)) m) (mulf (broadcastInDim s ![] h (constant S_ .f32 0x3DCCCCCD#32)) g) = mom1 g' m' := by
  subst eg em; exact funext (host_m h g m)
include eg ev in
theorem ref_v : addf (mulf (broadcastInDim s ![] h (constant S_ .f32 0x3F7FBE77#32)) v) (mulf (broadcastInDim s ![] h (constant S_ .f32 0x3A83126F#32)) (mulf g g)) = mom2 g' v' := by
  subst eg ev; exact funext (host_v h g v)
include eg ew em ev in
theorem ref_d : mulf (broadcastInDim s ![] h (constant S_ .f32 0xBA83126F#32))
      (addf (Host.divf (Host.divf (addf (mulf (broadcastInDim s ![] h (constant S_ .f32 0x3F666666#32)) m) (mulf (broadcastInDim s ![] h (constant S_ .f32 0x3DCCCCCD#32)) g)) (broadcastInDim s ![] h (constant S_ .f32 0x3F26BD02#32)))
        (addf (Host.sqrt (Host.divf (addf (mulf (broadcastInDim s ![] h (constant S_ .f32 0x3F7FBE77#32)) v) (mulf (broadcastInDim s ![] h (constant S_ .f32 0x3A83126F#32)) (mulf g g))) (broadcastInDim s ![] h (constant S_ .f32 0x3C231ACC#32))))
          (broadcastInDim s ![] h (constant S_ .f32 0x322BCC77#32))))
        (mulf (broadcastInDim s ![] h (constant S_ .f32 0x3C23D70A#32)) w)) = step w' (mom1 g' m') (mom2 g' v') := by
  rw [ref_m eg em, ref_v eg ev]; subst ew; exact funext (host_d h w _ _)
end lines
/-! ## The kernel's arrays -/
/-- The one point of the grid. -/
abbrev t0 : Fin Cert.SmallIdeal.cfg0.N := ⟨0, by decide⟩
theorem place (n k : ℕ) : 0 * n + 1 * k = k := by omega
/-- The precondition's side conditions. -/
theorem preFacts : Cert.Pre_device_small.Facts where
  bcast_S_S1 := by decide

set_option maxHeartbeats 4000000 in
/-- Both programs end with the same thirty-seven arrays. -/
theorem equation [Cert.Pre_device_small.Facts] : Cert.algebraic_SmallIdeal_SmallReferenceIdeal_pre_device_small
    (hSmallIdeal := Cert.SmallIdeal.Gen.facts) (hSmallReferenceIdeal := Cert.SmallReferenceIdeal.Gen.facts) := by
  intro m g m' g' hpre harg
  refine ⟨fun c => (dats m 0 c).arrAt 30 Cert.SmallIdeal.cfg0.N, fun c => (dats m 0 c).arrAt 31 Cert.SmallIdeal.cfg0.N,
    fun c => (dats m 0 c).arrAt 32 Cert.SmallIdeal.cfg0.N, fun c => (dats m 0 c).arrAt 33 Cert.SmallIdeal.cfg0.N,
    fun c => (dats m 0 c).arrAt 34 Cert.SmallIdeal.cfg0.N, fun c => (dats m 0 c).arrAt 35 Cert.SmallIdeal.cfg0.N,
    fun c => (dats m 0 c).arrAt 36 Cert.SmallIdeal.cfg0.N, fun c => (dats m 0 c).arrAt 37 Cert.SmallIdeal.cfg0.N,
    fun c => (dats m 0 c).arrAt 38 Cert.SmallIdeal.cfg0.N, fun c => (dats m 0 c).arrAt 39 Cert.SmallIdeal.cfg0.N,
    fun c => (dats m 0 c).arrAt 40 Cert.SmallIdeal.cfg0.N, fun c => (dats m 0 c).arrAt 41 Cert.SmallIdeal.cfg0.N,
    fun c => (dats m 0 c).arrAt 42 Cert.SmallIdeal.cfg0.N, fun c => (dats m 0 c).arrAt 43 Cert.SmallIdeal.cfg0.N,
    fun c => (dats m 0 c).arrAt 44 Cert.SmallIdeal.cfg0.N, fun c => (dats m 0 c).arrAt 45 Cert.SmallIdeal.cfg0.N,
    fun c => (dats m 0 c).arrAt 46 Cert.SmallIdeal.cfg0.N, fun c => (dats m 0 c).arrAt 47 Cert.SmallIdeal.cfg0.N,
    fun c => (dats m 0 c).arrAt 48 Cert.SmallIdeal.cfg0.N, fun c => (dats m 0 c).arrAt 49 Cert.SmallIdeal.cfg0.N,
    fun c => (dats m 0 c).arrAt 50 Cert.SmallIdeal.cfg0.N, fun c => (dats m 0 c).arrAt 51 Cert.SmallIdeal.cfg0.N,
    fun c => (dats m 0 c).arrAt 52 Cert.SmallIdeal.cfg0.N, fun c => (dats m 0 c).arrAt 53 Cert.SmallIdeal.cfg0.N,
    fun c => (dats m 0 c).arrAt 54 Cert.SmallIdeal.cfg0.N, fun c => (dats m 0 c).arrAt 55 Cert.SmallIdeal.cfg0.N,
    fun c => (dats m 0 c).arrAt 56 Cert.SmallIdeal.cfg0.N, fun c => (dats m 0 c).arrAt 57 Cert.SmallIdeal.cfg0.N,
    fun c => (dats m 0 c).arrAt 58 Cert.SmallIdeal.cfg0.N, fun c => (dats m 0 c).arrAt 59 Cert.SmallIdeal.cfg0.N,
    fun c => (dats m 0 c).arrAt 60 Cert.SmallIdeal.cfg0.N, fun c => (dats m 0 c).arrAt 61 Cert.SmallIdeal.cfg0.N,
    fun c => (dats m 0 c).arrAt 62 Cert.SmallIdeal.cfg0.N, fun c => (dats m 0 c).arrAt 63 Cert.SmallIdeal.cfg0.N,
    fun c => (dats m 0 c).arrAt 64 Cert.SmallIdeal.cfg0.N, fun c => (dats m 0 c).arrAt 65 Cert.SmallIdeal.cfg0.N,
    fun c => (dats m 0 c).arrAt 66 Cert.SmallIdeal.cfg0.N, ?_, ?_⟩
  · exact (θ_run _ _ _).mono (fun r h c => ⟨(h.1 c).1 30, (h.1 c).1 31, (h.1 c).1 32, (h.1 c).1 33, (h.1 c).1 34, (h.1 c).1 35, (h.1 c).1 36, (h.1 c).1 37, (h.1 c).1 38, (h.1 c).1 39,
      (h.1 c).1 40, (h.1 c).1 41, (h.1 c).1 42, (h.1 c).1 43, (h.1 c).1 44, (h.1 c).1 45, (h.1 c).1 46, (h.1 c).1 47, (h.1 c).1 48, (h.1 c).1 49,
      (h.1 c).1 50, (h.1 c).1 51, (h.1 c).1 52, (h.1 c).1 53, (h.1 c).1 54, (h.1 c).1 55, (h.1 c).1 56, (h.1 c).1 57, (h.1 c).1 58, (h.1 c).1 59,
      (h.1 c).1 60, (h.1 c).1 61, (h.1 c).1 62, (h.1 c).1 63, (h.1 c).1 64, (h.1 c).1 65, (h.1 c).1 66, h.2 c⟩)
      (θ_run_and (Cert.SmallIdeal.Gen.run_main m g) (Cert.SmallIdeal.Gen.frame_of m g (dats m) (Cert.SmallIdeal.Gen.A_eq m) (Cert.SmallIdeal.Gen.run_main m g)))
  · refine (θ_run _ _ _).mono (fun r h c => ?_) (Cert.SmallReferenceIdeal.Value.run m' g')
    obtain ⟨a0, a1, a2, a3, a4, a5, a6, a7, a8, a9, a10, a11, a12, a13, a14, a15, a16, a17, a18, a19, a20, a21, a22, a23, a24, a25, a26, a27, a28, a29⟩ := harg c
    obtain ⟨h0, h1, h2, h3, h4, h5, h6, h7, h8, h9, h10, h11, h12, h13, h14, h15, h16, h17, h18, h19, h20, h21, h22, h23, h24, h25, h26, h27, h28, h29, h30, h31,
      h32, h33, h34, h35, h36, hrest⟩ := h c
    have bound : (m ((c.tc : Thread Cert.SmallIdeal.nD Cert.SmallIdeal.τ).loc Cert.SmallIdeal.main_arg0) (ValueIdx.ix1 0) : BitVec 32).toNat < 8 := (index_bounds (congrFun (hpre c) (ValueIdx.ix1 0))).1
    have b' : (m' ((c.tc : Thread Cert.SmallReferenceIdeal.nD Cert.SmallReferenceIdeal.τ).loc main_arg0) (ValueIdx.ix1 0) : BitVec 32).toNat < 8 := by rw [a0]; exact bound
    replace a0 : launchContents m' c (Proc.devRef .tc main_arg0) = iblk m c 0 t0 :=
      a0.trans (funext fun i => congrArg (m (c.tc.loc Cert.SmallIdeal.main_arg0)) (funext fun a => Fin.ext (place _ _).symm))
    replace a1 : launchContents m' c (Proc.devRef .tc main_arg1) = iblk m c 1 t0 :=
      a1.trans (funext fun i => congrArg (m (c.tc.loc Cert.SmallIdeal.main_arg1)) (funext fun a => Fin.ext (place _ _).symm))
    replace a2 : launchContents m' c (Proc.devRef .tc main_arg2) = iblk m c 2 t0 :=
      a2.trans (funext fun i => congrArg (m (c.tc.loc Cert.SmallIdeal.main_arg2)) (funext fun a => Fin.ext (place _ _).symm))
    replace a3 : launchContents m' c (Proc.devRef .tc main_arg3) = iblk m c 3 t0 :=
      a3.trans (funext fun i => congrArg (m (c.tc.loc Cert.SmallIdeal.main_arg3)) (funext fun a => Fin.ext (place _ _).symm))
    replace a4 : launchContents m' c (Proc.devRef .tc main_arg4) = iblk m c 4 t0 :=
      a4.trans (funext fun i => congrArg (m (c.tc.loc Cert.SmallIdeal.main_arg4)) (funext fun a => Fin.ext (place _ _).symm))
    replace a5 : launchContents m' c (Proc.devRef .tc main_arg5) = iblk m c 5 t0 :=
      a5.trans (funext fun i => congrArg (m (c.tc.loc Cert.SmallIdeal.main_arg5)) (funext fun a => Fin.ext (place _ _).symm))
    replace a6 : launchContents m' c (Proc.devRef .tc main_arg6) = iblk m c 6 t0 :=
      a6.trans (funext fun i => congrArg (m (c.tc.loc Cert.SmallIdeal.main_arg6)) (funext fun a => Fin.ext (place _ _).symm))
    replace a7 : launchContents m' c (Proc.devRef .tc main_arg7) = iblk m c 7 t0 :=
      a7.trans (funext fun i => congrArg (m (c.tc.loc Cert.SmallIdeal.main_arg7)) (funext fun a => Fin.ext (place _ _).symm))
    replace a8 : launchContents m' c (Proc.devRef .tc main_arg8) = iblk m c 8 t0 :=
      a8.trans (funext fun i => congrArg (m (c.tc.loc Cert.SmallIdeal.main_arg8)) (funext fun a => Fin.ext (place _ _).symm))
    replace a9 : launchContents m' c (Proc.devRef .tc main_arg9) = iblk m c 9 t0 :=
      a9.trans (funext fun i => congrArg (m (c.tc.loc Cert.SmallIdeal.main_arg9)) (funext fun a => Fin.ext (place _ _).symm))
    replace a10 : launchContents m' c (Proc.devRef .tc main_arg10) = iblk m c 10 t0 :=
      a10.trans (funext fun i => congrArg (m (c.tc.loc Cert.SmallIdeal.main_arg10)) (funext fun a => Fin.ext (place _ _).symm))
    replace a11 : launchContents m' c (Proc.devRef .tc main_arg11) = iblk m c 11 t0 :=
      a11.trans (funext fun i => congrArg (m (c.tc.loc Cert.SmallIdeal.main_arg11)) (funext fun a => Fin.ext (place _ _).symm))
    replace a12 : launchContents m' c (Proc.devRef .tc main_arg12) = iblk m c 12 t0 :=
      a12.trans (funext fun i => congrArg (m (c.tc.loc Cert.SmallIdeal.main_arg12)) (funext fun a => Fin.ext (place _ _).symm))
    replace a13 : launchContents m' c (Proc.devRef .tc main_arg13) = iblk m c 13 t0 :=
      a13.trans (funext fun i => congrArg (m (c.tc.loc Cert.SmallIdeal.main_arg13)) (funext fun a => Fin.ext (place _ _).symm))
    replace a14 : launchContents m' c (Proc.devRef .tc main_arg14) = iblk m c 14 t0 :=
      a14.trans (funext fun i => congrArg (m (c.tc.loc Cert.SmallIdeal.main_arg14)) (funext fun a => Fin.ext (place _ _).symm))
    replace a15 : launchContents m' c (Proc.devRef .tc main_arg15) = iblk m c 15 t0 :=
      a15.trans (funext fun i => congrArg (m (c.tc.loc Cert.SmallIdeal.main_arg15)) (funext fun a => Fin.ext (place _ _).symm))
    replace a16 : launchContents m' c (Proc.devRef .tc main_arg16) = iblk m c 16 t0 :=
      a16.trans (funext fun i => congrArg (m (c.tc.loc Cert.SmallIdeal.main_arg16)) (funext fun a => Fin.ext (place _ _).symm))
    replace a17 : launchContents m' c (Proc.devRef .tc main_arg17) = iblk m c 17 t0 :=
      a17.trans (funext fun i => congrArg (m (c.tc.loc Cert.SmallIdeal.main_arg17)) (funext fun a => Fin.ext (place _ _).symm))
    replace a18 : launchContents m' c (Proc.devRef .tc main_arg18) = iblk m c 18 t0 :=
      a18.trans (funext fun i => congrArg (m (c.tc.loc Cert.SmallIdeal.main_arg18)) (funext fun a => Fin.ext (place _ _).symm))
    replace a19 : launchContents m' c (Proc.devRef .tc main_arg19) = iblk m c 19 t0 :=
      a19.trans (funext fun i => congrArg (m (c.tc.loc Cert.SmallIdeal.main_arg19)) (funext fun a => Fin.ext (place _ _).symm))
    replace a20 : launchContents m' c (Proc.devRef .tc main_arg20) = iblk m c 20 t0 :=
      a20.trans (funext fun i => congrArg (m (c.tc.loc Cert.SmallIdeal.main_arg20)) (funext fun a => Fin.ext (place _ _).symm))
    replace a21 : launchContents m' c (Proc.devRef .tc main_arg21) = iblk m c 21 t0 :=
      a21.trans (funext fun i => congrArg (m (c.tc.loc Cert.SmallIdeal.main_arg21)) (funext fun a => Fin.ext (place _ _).symm))
    replace a22 : launchContents m' c (Proc.devRef .tc main_arg22) = iblk m c 22 t0 :=
      a22.trans (funext fun i => congrArg (m (c.tc.loc Cert.SmallIdeal.main_arg22)) (funext fun a => Fin.ext (place _ _).symm))
    replace a23 : launchContents m' c (Proc.devRef .tc main_arg23) = iblk m c 23 t0 :=
      a23.trans (funext fun i => congrArg (m (c.tc.loc Cert.SmallIdeal.main_arg23)) (funext fun a => Fin.ext (place _ _).symm))
    replace a24 : launchContents m' c (Proc.devRef .tc main_arg24) = iblk m c 24 t0 :=
      a24.trans (funext fun i => congrArg (m (c.tc.loc Cert.SmallIdeal.main_arg24)) (funext fun a => Fin.ext (place _ _).symm))
    replace a25 : launchContents m' c (Proc.devRef .tc main_arg25) = iblk m c 25 t0 :=
      a25.trans (funext fun i => congrArg (m (c.tc.loc Cert.SmallIdeal.main_arg25)) (funext fun a => Fin.ext (place _ _).symm))
    replace a26 : launchContents m' c (Proc.devRef .tc main_arg26) = iblk m c 26 t0 :=
      a26.trans (funext fun i => congrArg (m (c.tc.loc Cert.SmallIdeal.main_arg26)) (funext fun a => Fin.ext (place _ _).symm))
    replace a27 : launchContents m' c (Proc.devRef .tc main_arg27) = iblk m c 27 t0 :=
      a27.trans (funext fun i => congrArg (m (c.tc.loc Cert.SmallIdeal.main_arg27)) (funext fun a => Fin.ext (place _ _).symm))
    replace a28 : launchContents m' c (Proc.devRef .tc main_arg28) = iblk m c 28 t0 :=
      a28.trans (funext fun i => congrArg (m (c.tc.loc Cert.SmallIdeal.main_arg28)) (funext fun a => Fin.ext (place _ _).symm))
    replace a29 : launchContents m' c (Proc.devRef .tc main_arg29) = iblk m c 29 t0 :=
      a29.trans (funext fun i => congrArg (m (c.tc.loc Cert.SmallIdeal.main_arg29)) (funext fun a => Fin.ext (place _ _).symm))
    have e0 := (lanes_is _ slices_S1x12032_S1x128_0_11904).trans (congrArg (lanes (n := 128) 11904) a1)
    have g0 : res_main_v11 (launchContents m' c) = rel (iblk m c 2 t0) := (rel_is _).trans (congrArg rel a2)
    have g1 : res_main_v12 (launchContents m' c) = lanes (n := 6144) 0 (iblk m c 1 t0) := (lanes_is _ slices_S1x12032_S1x6144_0_0).trans (congrArg (lanes (n := 6144) 0) a1)
    have g2 : res_main_v13 (launchContents m' c) = lanes (n := 1024) 6144 (iblk m c 1 t0) := (lanes_is _ slices_S1x12032_S1x1024_0_6144).trans (congrArg (lanes (n := 1024) 6144) a1)
    have g3 : res_main_v14 (launchContents m' c) = lanes (n := 8) 7168 (iblk m c 1 t0) := (lanes_is _ slices_S1x12032_S1x8_0_7168).trans (congrArg (lanes (n := 8) 7168) a1)
    have g4 : res_main_v8 (launchContents m' c) = conv (iblk m c 0 t0) (iblk m c 1 t0) := (conv_is (launchContents m' c) b').trans (congrArg₂ conv a0 a1)
    have g5 : res_main_v15 (launchContents m' c) = lanes (n := 512) 7296 (iblk m c 1 t0) := (lanes_is _ slices_S1x12032_S1x512_0_7296).trans (congrArg (lanes (n := 512) 7296) a1)
    have g6 : res_main_v16 (launchContents m' c) = lanes (n := 512) 7808 (iblk m c 1 t0) := (lanes_is _ slices_S1x12032_S1x512_0_7808).trans (congrArg (lanes (n := 512) 7808) a1)
    have g7 : res_main_v17 (launchContents m' c) = lanes (n := 1024) 8320 (iblk m c 1 t0) := (lanes_is _ slices_S1x12032_S1x1024_0_8320).trans (congrArg (lanes (n := 1024) 8320) a1)
    have g8 : res_main_v18 (launchContents m' c) = lanes (n := 1024) 9344 (iblk m c 1 t0) := (lanes_is _ slices_S1x12032_S1x1024_0_9344).trans (congrArg (lanes (n := 1024) 9344) a1)
    exact ⟨h0.trans (e0.trans ((dats m 0 c).arrAt_eq_of_after_last 30 t0 (by decide +kernel) _ fun _ => rfl).symm),
      h1.trans (g0.trans ((dats m 0 c).arrAt_eq_of_after_last 31 t0 (by decide +kernel) _ fun _ => rfl).symm),
      h2.trans ((ref_d g0 a3 a4 a5).trans ((dats m 0 c).arrAt_eq_of_after_last 32 t0 (by decide +kernel) _ fun _ => rfl).symm),
      h3.trans ((ref_m g0 a4).trans ((dats m 0 c).arrAt_eq_of_after_last 33 t0 (by decide +kernel) _ fun _ => rfl).symm),
      h4.trans ((ref_v g0 a5).trans ((dats m 0 c).arrAt_eq_of_after_last 34 t0 (by decide +kernel) _ fun _ => rfl).symm),
      h5.trans (g1.trans ((dats m 0 c).arrAt_eq_of_after_last 35 t0 (by decide +kernel) _ fun _ => rfl).symm),
      h6.trans ((ref_d g1 a6 a7 a8).trans ((dats m 0 c).arrAt_eq_of_after_last 36 t0 (by decide +kernel) _ fun _ => rfl).symm),
      h7.trans ((ref_m g1 a7).trans ((dats m 0 c).arrAt_eq_of_after_last 37 t0 (by decide +kernel) _ fun _ => rfl).symm),
      h8.trans ((ref_v g1 a8).trans ((dats m 0 c).arrAt_eq_of_after_last 38 t0 (by decide +kernel) _ fun _ => rfl).symm),
      h9.trans (g2.trans ((dats m 0 c).arrAt_eq_of_after_last 39 t0 (by decide +kernel) _ fun _ => rfl).symm),
      h10.trans ((ref_d g2 a9 a10 a11).trans ((dats m 0 c).arrAt_eq_of_after_last 40 t0 (by decide +kernel) _ fun _ => rfl).symm),
      h11.trans ((ref_m g2 a10).trans ((dats m 0 c).arrAt_eq_of_after_last 41 t0 (by decide +kernel) _ fun _ => rfl).symm),
      h12.trans ((ref_v g2 a11).trans ((dats m 0 c).arrAt_eq_of_after_last 42 t0 (by decide +kernel) _ fun _ => rfl).symm),
      h13.trans (g3.trans ((dats m 0 c).arrAt_eq_of_after_last 43 t0 (by decide +kernel) _ fun _ => rfl).symm),
      h14.trans ((ref_d g3 a12 a13 a14).trans ((dats m 0 c).arrAt_eq_of_after_last 44 t0 (by decide +kernel) _ fun _ => rfl).symm),
      h15.trans ((ref_m g3 a13).trans ((dats m 0 c).arrAt_eq_of_after_last 45 t0 (by decide +kernel) _ fun _ => rfl).symm),
      h16.trans ((ref_v g3 a14).trans ((dats m 0 c).arrAt_eq_of_after_last 46 t0 (by decide +kernel) _ fun _ => rfl).symm),
      h17.trans (g4.trans ((dats m 0 c).arrAt_eq_of_after_last 47 t0 (by decide +kernel) _ fun _ => rfl).symm),
      h18.trans ((ref_d g4 a15 a16 a17).trans ((dats m 0 c).arrAt_eq_of_after_last 48 t0 (by decide +kernel) _ fun _ => rfl).symm),
      h19.trans ((ref_m g4 a16).trans ((dats m 0 c).arrAt_eq_of_after_last 49 t0 (by decide +kernel) _ fun _ => rfl).symm),
      h20.trans ((ref_v g4 a17).trans ((dats m 0 c).arrAt_eq_of_after_last 50 t0 (by decide +kernel) _ fun _ => rfl).symm),
      h21.trans (g5.trans ((dats m 0 c).arrAt_eq_of_after_last 51 t0 (by decide +kernel) _ fun _ => rfl).symm),
      h22.trans ((ref_d g5 a18 a19 a20).trans ((dats m 0 c).arrAt_eq_of_after_last 52 t0 (by decide +kernel) _ fun _ => rfl).symm),
      h23.trans ((ref_m g5 a19).trans ((dats m 0 c).arrAt_eq_of_after_last 53 t0 (by decide +kernel) _ fun _ => rfl).symm),
      h24.trans ((ref_v g5 a20).trans ((dats m 0 c).arrAt_eq_of_after_last 54 t0 (by decide +kernel) _ fun _ => rfl).symm),
      h25.trans (g6.trans ((dats m 0 c).arrAt_eq_of_after_last 55 t0 (by decide +kernel) _ fun _ => rfl).symm),
      h26.trans ((ref_d g6 a21 a22 a23).trans ((dats m 0 c).arrAt_eq_of_after_last 56 t0 (by decide +kernel) _ fun _ => rfl).symm),
      h27.trans ((ref_m g6 a22).trans ((dats m 0 c).arrAt_eq_of_after_last 57 t0 (by decide +kernel) _ fun _ => rfl).symm),
      h28.trans ((ref_v g6 a23).trans ((dats m 0 c).arrAt_eq_of_after_last 58 t0 (by decide +kernel) _ fun _ => rfl).symm),
      h29.trans (g7.trans ((dats m 0 c).arrAt_eq_of_after_last 59 t0 (by decide +kernel) _ fun _ => rfl).symm),
      h30.trans ((ref_d g7 a24 a25 a26).trans ((dats m 0 c).arrAt_eq_of_after_last 60 t0 (by decide +kernel) _ fun _ => rfl).symm),
      h31.trans ((ref_m g7 a25).trans ((dats m 0 c).arrAt_eq_of_after_last 61 t0 (by decide +kernel) _ fun _ => rfl).symm),
      h32.trans ((ref_v g7 a26).trans ((dats m 0 c).arrAt_eq_of_after_last 62 t0 (by decide +kernel) _ fun _ => rfl).symm),
      h33.trans (g8.trans ((dats m 0 c).arrAt_eq_of_after_last 63 t0 (by decide +kernel) _ fun _ => rfl).symm),
      h34.trans ((ref_d g8 a27 a28 a29).trans ((dats m 0 c).arrAt_eq_of_after_last 64 t0 (by decide +kernel) _ fun _ => rfl).symm),
      h35.trans ((ref_m g8 a28).trans ((dats m 0 c).arrAt_eq_of_after_last 65 t0 (by decide +kernel) _ fun _ => rfl).symm),
      h36.trans ((ref_v g8 a29).trans ((dats m 0 c).arrAt_eq_of_after_last 66 t0 (by decide +kernel) _ fun _ => rfl).symm),
      hrest⟩
end Cert.SmallReferenceIdeal
end
-- ==== Proof.AdamDownReference.lean ====
/-
One of the optimiser's references, run in two stages: the gradient's sum, and the moments and the step from it.
-/
module
public import proofs.«01_k».proof.Proof.Gen.AdamDownReferenceIdeal
public import Idealize.ShloMosaic.Lib.StableHlo.Run
public import Idealize.ShloMosaic.Lib.StableHlo.RunClose
@[expose] public section
noncomputable section
namespace Cert.AdamDownReferenceIdeal.Staged
open Cert.AdamDownReferenceIdeal Cert.AdamDownReferenceIdeal.Gen Idealize.ShloMosaic Idealize.ShloMosaic.TcCoe Idealize.SL.Sem Idealize.ShloMosaic.StableHlo
-- Short names for the types of the arrays: integers, truth values, f32 and bf16.
abbrev Iv (F : FTy → Type) : Type := (⟨S1, .i32⟩ : BufTy).Contents (Elt F)
abbrev H1 (F : FTy → Type) : Type := (⟨S1x352x1024, .bf16⟩ : BufTy).Contents (Elt F)
abbrev Hs (F : FTy → Type) : Type := (⟨S352x1024, .bf16⟩ : BufTy).Contents (Elt F)
abbrev Rs (F : FTy → Type) : Type := (⟨S352x1024, .f32⟩ : BufTy).Contents (Elt F)
abbrev H7 (F : FTy → Type) : Type := (⟨S7x352x1024, .bf16⟩ : BufTy).Contents (Elt F)
abbrev R7 (F : FTy → Type) : Type := (⟨S7x352x1024, .f32⟩ : BufTy).Contents (Elt F)
abbrev H8 (F : FTy → Type) : Type := (⟨S8x352x1024, .bf16⟩ : BufTy).Contents (Elt F)
abbrev R0 (F : FTy → Type) : Type := (⟨S_, .f32⟩ : BufTy).Contents (Elt F)
abbrev P0 (F : FTy → Type) : Type := (⟨S_, .i1⟩ : BufTy).Contents (Elt F)
abbrev I0 (F : FTy → Type) : Type := (⟨S_, .i32⟩ : BufTy).Contents (Elt F)
variable {F : FTy → Type} [FloatOps F]

/-- The operations up to the gradient. -/
abbrev opsA : List (HloOp τ sig (Elt F)) :=
  [ reshape main_arg0 main_v0 (rfl : (.i32 : EltTy) = .i32) shapeCasts_S1_S_,
    nullary main_c (constantI S_ 32 0#32),
    binary main_v0 main_c main_v1 (cmpi .slt : I0 F → I0 F → P0 F),
    nullary main_c_0 (constantI S_ 32 8#32),
    binary main_v0 main_c_0 main_v2 (addi : I0 F → I0 F → I0 F),
    ternary main_v1 main_v2 main_v0 main_v3 (select : P0 F → I0 F → I0 F → I0 F),
    nullary main_c_1 (constantI S_ 32 0#32),
    nullary main_c_2 (constantI S_ 32 0#32),
    unaryIndexed main_arg4 ![main_v3, main_c_1, main_c_2] ⟨S_, .i32⟩ main_v4 ((fun x i => Host.dynamicSlice S1x352x1024 x (fun k => (i k (Shape.Idx.first h_S_)).toInt) sliceFits_S8x352x1024_S1x352x1024) : H8 F → (Fin 3 → I0 F) → H1 F),
    reshape main_v4 main_v5 (rfl : (.bf16 : EltTy) = .bf16) shapeCasts_S1x352x1024_S352x1024,
    unary main_v5 main_v6 ((extf .f32 · bitsLt_bf16_f32) : Hs F → Rs F),
    unary main_arg5 main_v7 ((extf .f32 · bitsLt_bf16_f32) : H7 F → R7 F),
    nullary main_cst (constant S_ .f32 0x00000000#32),
    binary main_v7 main_cst main_v8 ((fun x v => Host.reduceAdd x v reducesTo_S7x352x1024_S352x1024_d0 h_S_) : R7 F → R0 F → Rs F),
    binary main_v6 main_v8 main_v9 (addf : Rs F → Rs F → Rs F) ]
/-- The operations after it. -/
abbrev opsB : List (HloOp τ sig (Elt F)) :=
  [ nullary main_cst_3 (constant S_ .f32 0x3F666666#32),
    unary main_cst_3 main_v10 (broadcastInDim S352x1024 ![] bcast_S_S352x1024 : R0 F → Rs F),
    binary main_v10 main_arg2 main_v11 (mulf : Rs F → Rs F → Rs F),
    nullary main_cst_4 (constant S_ .f32 0x3DCCCCCD#32),
    unary main_cst_4 main_v12 (broadcastInDim S352x1024 ![] bcast_S_S352x1024 : R0 F → Rs F),
    binary main_v12 main_v9 main_v13 (mulf : Rs F → Rs F → Rs F),
    binary main_v11 main_v13 main_v14 (addf : Rs F → Rs F → Rs F),
    nullary main_cst_5 (constant S_ .f32 0x3F7FBE77#32),
    unary main_cst_5 main_v15 (broadcastInDim S352x1024 ![] bcast_S_S352x1024 : R0 F → Rs F),
    binary main_v15 main_arg3 main_v16 (mulf : Rs F → Rs F → Rs F),
    binary main_v9 main_v9 main_v17 (mulf : Rs F → Rs F → Rs F),
    nullary main_cst_6 (constant S_ .f32 0x3A83126F#32),
    unary main_cst_6 main_v18 (broadcastInDim S352x1024 ![] bcast_S_S352x1024 : R0 F → Rs F),
    binary main_v18 main_v17 main_v19 (mulf : Rs F → Rs F → Rs F),
    binary main_v16 main_v19 main_v20 (addf : Rs F → Rs F → Rs F),
    nullary main_cst_7 (constant S_ .f32 0x3F26BD02#32),
    unary main_cst_7 main_v21 (broadcastInDim S352x1024 ![] bcast_S_S352x1024 : R0 F → Rs F),
    binary main_v14 main_v21 main_v22 (Host.divf : Rs F → Rs F → Rs F),
    nullary main_cst_8 (constant S_ .f32 0x3C231ACC#32),
    unary main_cst_8 main_v23 (broadcastInDim S352x1024 ![] bcast_S_S352x1024 : R0 F → Rs F),
    binary main_v20 main_v23 main_v24 (Host.divf : Rs F → Rs F → Rs F),
    unary main_v24 main_v25 (Host.sqrt : Rs F → Rs F),
    nullary main_cst_9 (constant S_ .f32 0x322BCC77#32),
    unary main_cst_9 main_v26 (broadcastInDim S352x1024 ![] bcast_S_S352x1024 : R0 F → Rs F),
    binary main_v25 main_v26 main_v27 (addf : Rs F → Rs F → Rs F),
    binary main_v22 main_v27 main_v28 (Host.divf : Rs F → Rs F → Rs F),
    nullary main_cst_10 (constant S_ .f32 0x3C23D70A#32),
    unary main_cst_10 main_v29 (broadcastInDim S352x1024 ![] bcast_S_S352x1024 : R0 F → Rs F),
    binary main_v29 main_arg1 main_v30 (mulf : Rs F → Rs F → Rs F),
    binary main_v28 main_v30 main_v31 (addf : Rs F → Rs F → Rs F),
    nullary main_cst_11 (constant S_ .f32 0xBA83126F#32),
    unary main_cst_11 main_v32 (broadcastInDim S352x1024 ![] bcast_S_S352x1024 : R0 F → Rs F),
    binary main_v32 main_v31 main_v33 (mulf : Rs F → Rs F → Rs F) ]
theorem after_append (x y : List (HloOp τ sig (Elt F))) (V : Valuation τ sig (Elt F)) : after (x ++ y) V = after y (after x V) := by
  induction x generalizing V with
  | nil => rfl
  | cons op x ih => exact ih _
set_option maxRecDepth 8192 in
theorem main_eq (c : Dev nD) : main (F := F) c = seq (opsA ++ opsB) := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : ((opsA ++ opsB : List (HloOp τ sig (Elt F)))).Forall fun op => op.bufs ⊆ tcRefs τ sig :=
  ⟨reshape_bufs_sub .., nullary_bufs_sub .., binary_bufs_sub .., nullary_bufs_sub .., binary_bufs_sub .., ternary_bufs_sub .., nullary_bufs_sub .., nullary_bufs_sub .., unaryIndexed_bufs_sub .., reshape_bufs_sub .., unary_bufs_sub .., unary_bufs_sub .., nullary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

/-- The reference's own slab of the parts. -/
def own (x0 : Iv F) (x4 : H8 F) : H1 F :=
  Host.dynamicSlice S1x352x1024 x4 (fun k => (((![select (cmpi .slt (shapeCast _ x0 shapeCasts_S1_S_) (constantI S_ 32 0#32)) (addi (shapeCast _ x0 shapeCasts_S1_S_) (constantI S_ 32 8#32)) (shapeCast _ x0 shapeCasts_S1_S_), constantI S_ 32 0#32, constantI S_ 32 0#32] : Fin 3 → I0 F)) k (Shape.Idx.first h_S_)).toInt) sliceFits_S8x352x1024_S1x352x1024
/-- The gradient. -/
def sum (x0 : Iv F) (x4 : H8 F) (x5 : H7 F) : Rs F :=
  addf (extf .f32 (shapeCast _ (own x0 x4) shapeCasts_S1x352x1024_S352x1024) bitsLt_bf16_f32)
    (Host.reduceAdd (extf .f32 x5 bitsLt_bf16_f32) (constant S_ .f32 0x00000000#32) reducesTo_S7x352x1024_S352x1024_d0 h_S_)
/-- One number everywhere. -/
abbrev fill (b : BitVec 32) : Rs F := broadcastInDim S352x1024 ![] bcast_S_S352x1024 (constant S_ .f32 b)
/-- The new first moment from the gradient. -/
def moment1 (g x2 : Rs F) : Rs F :=
  addf (mulf (fill 0x3F666666#32) x2) (mulf (fill 0x3DCCCCCD#32) g)
/-- The new second moment from the gradient. -/
def moment2 (g x3 : Rs F) : Rs F :=
  addf (mulf (fill 0x3F7FBE77#32) x3) (mulf (fill 0x3A83126F#32) (mulf g g))
/-- The step from the new moments. -/
def step (x1 m v : Rs F) : Rs F :=
  mulf (fill 0xBA83126F#32)
    (addf (Host.divf (Host.divf m (fill 0x3F26BD02#32))
      (addf (Host.sqrt (Host.divf v (fill 0x3C231ACC#32))) (fill 0x322BCC77#32)))
      (mulf (fill 0x3C23D70A#32) x1))

/-! ## The first stage -/
section stages
variable (V : Valuation τ sig (Elt F))
theorem slice_A : after opsA V main_v9 = sum (V main_arg0) (V main_arg4) (V main_arg5) := by
  after_results_simp_entrywise
  rfl
theorem keep_A0 : after opsA V main_arg0 = V main_arg0 := by after_results_simp
theorem keep_A1 : after opsA V main_arg1 = V main_arg1 := by after_results_simp
theorem keep_A2 : after opsA V main_arg2 = V main_arg2 := by after_results_simp
theorem keep_A3 : after opsA V main_arg3 = V main_arg3 := by after_results_simp
theorem keep_A4 : after opsA V main_arg4 = V main_arg4 := by after_results_simp
theorem keep_A5 : after opsA V main_arg5 = V main_arg5 := by after_results_simp
/-! ## The second stage -/
theorem keep_B0 : after opsB V main_arg0 = V main_arg0 := by after_results_simp
theorem keep_B1 : after opsB V main_arg1 = V main_arg1 := by after_results_simp
theorem keep_B2 : after opsB V main_arg2 = V main_arg2 := by after_results_simp
theorem keep_B3 : after opsB V main_arg3 = V main_arg3 := by after_results_simp
theorem keep_B4 : after opsB V main_arg4 = V main_arg4 := by after_results_simp
theorem keep_B5 : after opsB V main_arg5 = V main_arg5 := by after_results_simp
theorem grad_B : after opsB V main_v9 = V main_v9 := by after_results_simp
theorem m_B : after opsB V main_v14 = moment1 (V main_v9) (V main_arg2) := by
  after_results_simp
  rfl
theorem v_B : after opsB V main_v20 = moment2 (V main_v9) (V main_arg3) := by
  after_results_simp
  rfl
theorem d_B : after opsB V main_v33 = step (V main_arg1) (moment1 (V main_v9) (V main_arg2)) (moment2 (V main_v9) (V main_arg3)) := by
  after_results_simp
  rfl
end stages

/-- The gradient in terms of the memory. -/
abbrev sumOf (m : (ℓ : Loc nD τ sig) → Buf (Elt F) ℓ) (c : Dev nD) : Rs F := sum (m (c.tc.loc main_arg0)) (m (c.tc.loc main_arg4)) (m (c.tc.loc main_arg5))
/-- The run: the four results in terms of the arguments, and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem (c.tc.loc main_v9) = sumOf m c
      ∧ r.2.mem (c.tc.loc main_v33) = step (m (c.tc.loc main_arg1))
          (moment1 (sumOf m c) (m (c.tc.loc main_arg2)))
          (moment2 (sumOf m c) (m (c.tc.loc main_arg3)))
      ∧ r.2.mem (c.tc.loc main_v14) = moment1 (sumOf m c) (m (c.tc.loc main_arg2))
      ∧ r.2.mem (c.tc.loc main_v20) = moment2 (sumOf m c) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5) := by
  refine (θ_run defs _ _).mono (fun r h c => ?_) (run_seq scopedRefs_eq scopedSems_eq defs main (fun _ => opsA ++ opsB) main_eq (fun _ => ops_sub) m ρ)
  refine ⟨?_, ?_, ?_, ?_, ?_, ?_, ?_, ?_, ?_, ?_⟩
  · rw [h c main_v9, after_append, grad_B, slice_A]
  · rw [h c main_v33, after_append, d_B, slice_A, keep_A1, keep_A2, keep_A3]
  · rw [h c main_v14, after_append, m_B, slice_A, keep_A2]
  · rw [h c main_v20, after_append, v_B, slice_A, keep_A3]
  · rw [h c main_arg0, after_append, keep_B0, keep_A0]
  · rw [h c main_arg1, after_append, keep_B1, keep_A1]
  · rw [h c main_arg2, after_append, keep_B2, keep_A2]
  · rw [h c main_arg3, after_append, keep_B3, keep_A3]
  · rw [h c main_arg4, after_append, keep_B4, keep_A4]
  · rw [h c main_arg5, after_append, keep_B5, keep_A5]
end Cert.AdamDownReferenceIdeal.Staged
end
-- ==== Proof.AdamDown.lean ====
/-
One of the optimiser's calls: what its windows hold, its four outputs, and the same four arrays from the reference.
-/
module
public import proofs.«01_k».proof.Proof.Adam
public import proofs.«01_k».proof.Proof.Gen.AdamDown.Frame
public import proofs.«01_k».proof.Proof.Gen.AdamDownIdeal.Frame
public import proofs.«01_k».proof.Proof.AdamDownReference
public import Idealize.ShloMosaic.Lib.Pointwise.Reduce
public import proofs.«01_k».proof.Proof.Gen.Pre_device_adam_down
public import proofs.«01_k».proof.Defs
@[expose] public section
noncomputable section
open Idealize.ShloMosaic Idealize.ShloMosaic.TcCoe Idealize.ShloMosaic.StableHlo Idealize.SL.Sem
open scoped BigOperators

/-- The precondition says that the device's index lies below eight. -/
theorem Cert.Adam.device_adam_down_bounds {F : FTy → Type} [FloatOps F] {x0 : IVec Cert.Pre_device_adam_down.S1 32} {x1 x2 x3 : FVec F Cert.Pre_device_adam_down.S352x1024 .f32}
    {x4 : FVec F Cert.Pre_device_adam_down.S8x352x1024 .bf16} {x5 : FVec F Cert.Pre_device_adam_down.S7x352x1024 .bf16}
    (h : Cert.Pre_device_adam_down.fn (F := F) x0 x1 x2 x3 x4 x5 = fun _ => 1#1) (j : Cert.Pre_device_adam_down.S1.Idx) :
    (x0 j).toNat < 8 ∧ (x0 j).toInt = ((x0 j).toNat : ℤ) := Cert.Adam.index_bounds (congrFun h j)

namespace Cert.AdamDown
open Cert.AdamDown.Gen
/-- The precondition puts every block of the parts inside their array. -/
theorem ok_of_pre (m : (ℓ : Loc nD τ sig) → Buf (Elt Bits) ℓ) (h : Cert.Pre_AdamDown m) : Ok m := fun i => by
  have hv := Cert.Adam.device_adam_down_bounds (h 0)
  have hb : ∀ a, (cc0_transform_3 inb_S1_S1_0 numel1_S1 (tbl m) i a + 1) * S1x176x1024.size a ≤ S8x352x1024.size a := fun a => by
    match a with
    | ⟨0, _⟩ =>
      have hw := (hv ((Rect.unit (s := S1) ![0] S1.size inb_S1_S1_0).emb (Shape.Idx.first (numel1_S1.symm ▸ Nat.one_pos)))).1
      show ((tbl m 0 ((Rect.unit (s := S1) ![0] S1.size inb_S1_S1_0).emb (Shape.Idx.first (numel1_S1.symm ▸ Nat.one_pos))) : BitVec 32).toNat + 1) * 1 ≤ 8
      have e : (tbl m 0 ((Rect.unit (s := S1) ![0] S1.size inb_S1_S1_0).emb (Shape.Idx.first (numel1_S1.symm ▸ Nat.one_pos))) : BitVec 32)
        = (m ((0 : Dev nD).tc.loc main_arg0) ((Rect.unit (s := S1) ![0] S1.size inb_S1_S1_0).emb (Shape.Idx.first (numel1_S1.symm ▸ Nat.one_pos))) : BitVec 32) := rfl
      rw [e]; omega
    | ⟨1, _⟩ =>
      show ((BitVec.ofNat 32 (i 0).val).toNat + 1) * 176 ≤ 352
      have hi : (i 0).val < 2 := (i 0).isLt
      rw [BitVec.toNat_ofNat, Nat.mod_eq_of_lt (by omega)]; omega
    | ⟨2, _⟩ => show ((0#32 : BitVec 32).toNat + 1) * 1024 ≤ 1024; decide
  exact ⟨hb, .inr (Affine.block_words_dvd (of_decide_eq_true rfl) (by decide))⟩
end Cert.AdamDown

namespace Cert.AdamDownIdeal
open Cert.AdamDownIdeal.Gen Cert.Sums Cert.Adam
variable (m : (ℓ : Loc nD τ sig) → Buf (Elt Ideal) ℓ)
/-- The device's index, as the kernel reads it. -/
def me : BitVec 32 := m ((0 : Dev nD).tc.loc main_arg0) ((Rect.unit (s := S1) ![0] S1.size inb_S1_S1_0).emb (Shape.Idx.first (numel1_S1.symm ▸ Nat.one_pos)))
theorem me_bounds (h : Cert.Pre_AdamDownIdeal m) : (me m).toNat < 8 ∧ (me m).toInt = ((me m).toNat : ℤ) := Cert.Adam.device_adam_down_bounds (h 0) _
/-- The precondition puts every block of the parts inside their array. -/
theorem ok_of_pre (h : Cert.Pre_AdamDownIdeal m) : Ok m := fun i => by
  have hv := (me_bounds m h).1
  have hb : ∀ a, (cc0_transform_3 inb_S1_S1_0 numel1_S1 (tbl m) i a + 1) * S1x176x1024.size a ≤ S8x352x1024.size a := fun a => by
    match a with
    | ⟨0, _⟩ =>
      show ((me m).toNat + 1) * 1 ≤ 8
      omega
    | ⟨1, _⟩ =>
      show ((BitVec.ofNat 32 (i 0).val).toNat + 1) * 176 ≤ 352
      have hi : (i 0).val < 2 := (i 0).isLt
      rw [BitVec.toNat_ofNat, Nat.mod_eq_of_lt (by omega)]; omega
    | ⟨2, _⟩ => show ((0#32 : BitVec 32).toNat + 1) * 1024 ≤ 1024; decide
  exact ⟨hb, .inr (Affine.block_words_dvd (of_decide_eq_true rfl) (by decide))⟩

/-! ## The arrays -/
variable (c : Dev nD)
/-- The weight. -/
def w : ℕ → ℕ → EReal := entries (m (c.tc.loc main_arg1) : S352x1024.Idx → EReal)
/-- The first moment. -/
def m1 : ℕ → ℕ → EReal := entries (m (c.tc.loc main_arg2) : S352x1024.Idx → EReal)
/-- The second moment. -/
def m2 : ℕ → ℕ → EReal := entries (m (c.tc.loc main_arg3) : S352x1024.Idx → EReal)
/-- This device's gradient, in eight parts. -/
def parts : ℕ → ℕ → ℕ → EReal := entries3 (m (c.tc.loc main_arg4) : S8x352x1024.Idx → EReal)
/-- The parts the seven other devices sent. -/
def land : ℕ → ℕ → ℕ → EReal := entries3 (m (c.tc.loc main_arg5) : S7x352x1024.Idx → EReal)
/-- The gradient. -/
def g : ℕ → ℕ → EReal := grad (me m).toNat (parts m c) (land m c)
/-- The new first moment. -/
def nm (p j : ℕ) : EReal := newM (g m c p j) (m1 m c p j)
/-- The new second moment. -/
def nv (p j : ℕ) : EReal := newV (g m c p j) (m2 m c p j)
/-- The step. -/
def dw (p j : ℕ) : EReal := delta (w m c p j) (nm m c p j) (nv m c p j)

/-! ## The windows -/
variable (hO : Ok m)
theorem coord0 (t : Fin (cfgM m hO).N) : (grid0.coords t 0).val = t.val := (by decide +kernel : ∀ t : Fin grid0.N, (grid0.coords t 0).val = t.val) t
theorem points (t : Fin (cfgM m hO).N) : t.val < 2 := lt_of_lt_of_eq t.isLt N_0
/-- A row of a point's block in the whole array. -/
def row (t : Fin (cfgM m hO).N) (p : Fin 176) : Fin 352 := ⟨176 * t.val + p.val, by have := points m hO t; have := p.isLt; omega⟩
theorem row_place (t : Fin (cfgM m hO).N) (p : ℕ) : (BitVec.ofNat 32 (grid0.coords t 0).val).toNat * 176 + 1 * p = 176 * t.val + p := by
  have := points m hO t
  rw [coord0 m hO t, BitVec.toNat_ofNat, Nat.mod_eq_of_lt (by omega)]; omega
theorem zero_place (n j : ℕ) : (0#32 : BitVec 32).toNat * n + 1 * j = j := by rw [show (0#32 : BitVec 32).toNat = 0 from rfl]; omega
theorem place (t : Fin (cfgM m hO).N) (p : Fin 176) (j : Fin 1024) (e : S352x1024.Idx) (h0 : (e 0).val = (BitVec.ofNat 32 (grid0.coords t 0).val).toNat * 176 + 1 * p.val)
    (h1 : (e 1).val = (0#32 : BitVec 32).toNat * 1024 + 1 * j.val) : e = ValueIdx.ix2 (row m hO t p) j := funext fun a => Fin.ext (by
  match a with
  | ⟨0, _⟩ => exact h0.trans (row_place m hO t p.val)
  | ⟨1, _⟩ => exact h1.trans (zero_place _ _))
/-- Window 0 reads 176 rows a point. -/
theorem block0 (t : Fin (cfgM m hO).N) : Ex2 (iblk m hO c 0 t : S176x1024.Idx → EReal) (fun p j => w m c (176 * t.val + p) j) := fun p j => by
  show V m c main_arg1 ((((cfgM m hO).win 0).blk t).view.emb (ValueIdx.ix2 p j)) = _
  exact (congrFun (V_main_arg1 m c) _).trans ((congrArg (m (c.tc.loc main_arg1)) (place m hO t p j _ rfl rfl)).trans (entries_is (m (c.tc.loc main_arg1) : S352x1024.Idx → EReal) (row m hO t p) j))
/-- Window 1 reads 176 rows a point. -/
theorem block1 (t : Fin (cfgM m hO).N) : Ex2 (iblk m hO c 1 t : S176x1024.Idx → EReal) (fun p j => m1 m c (176 * t.val + p) j) := fun p j => by
  show V m c main_arg2 ((((cfgM m hO).win 1).blk t).view.emb (ValueIdx.ix2 p j)) = _
  exact (congrFun (V_main_arg2 m c) _).trans ((congrArg (m (c.tc.loc main_arg2)) (place m hO t p j _ rfl rfl)).trans (entries_is (m (c.tc.loc main_arg2) : S352x1024.Idx → EReal) (row m hO t p) j))
/-- Window 2 reads 176 rows a point. -/
theorem block2 (t : Fin (cfgM m hO).N) : Ex2 (iblk m hO c 2 t : S176x1024.Idx → EReal) (fun p j => m2 m c (176 * t.val + p) j) := fun p j => by
  show V m c main_arg3 ((((cfgM m hO).win 2).blk t).view.emb (ValueIdx.ix2 p j)) = _
  exact (congrFun (V_main_arg3 m c) _).trans ((congrArg (m (c.tc.loc main_arg3)) (place m hO t p j _ rfl rfl)).trans (entries_is (m (c.tc.loc main_arg3) : S352x1024.Idx → EReal) (row m hO t p) j))

/-- Window 3 reads this device's own part, 176 rows a point. -/
theorem block3 (t : Fin (cfgM m hO).N) : Ex3 (iblk m hO c 3 t : S1x176x1024.Idx → EReal) (fun k p j => parts m c ((me m).toNat + k) (176 * t.val + p) j) := fun k p j => by
  obtain rfl : c = 0 := Subsingleton.elim _ _
  have hN := points m hO t
  have hk : k.val = 0 := by have := k.isLt; omega
  have hr : 176 * t.val + p.val < 352 := by have := p.isLt; omega
  have hm : (me m).toNat + 1 ≤ 8 := by
    obtain ⟨hh, _⟩ := hO (grid0.coords t)
    have := hh 0
    have e : ((me m).toNat + 1) * 1 ≤ 8 := this
    omega
  refine Eq.trans ?_ (entries3_is (m ((0 : Dev nD).tc.loc main_arg4) : S8x352x1024.Idx → EReal) ⟨(me m).toNat + k.val, by omega⟩ ⟨176 * t.val + p.val, hr⟩ j)
  show V m (0 : Dev nD) main_arg4 ((((cfgM m hO).win 3).blk t).view.emb (ValueIdx.ix3 k p j)) = m ((0 : Dev nD).tc.loc main_arg4) (ValueIdx.ix3 ⟨(me m).toNat + k.val, by omega⟩ ⟨176 * t.val + p.val, hr⟩ j)
  refine (congrFun (V_main_arg4 m (0 : Dev nD)) _).trans (congrArg (m ((0 : Dev nD).tc.loc main_arg4)) (funext fun a => Fin.ext ?_))
  match a with
  | ⟨0, _⟩ => show (me m).toNat * 1 + 1 * k.val = (me m).toNat + k.val; omega
  | ⟨1, _⟩ => exact row_place m hO t p.val
  | ⟨2, _⟩ => exact zero_place _ _
/-- Window 4 reads what came from the others, 176 rows a point. -/
theorem block4 (t : Fin (cfgM m hO).N) : Ex3 (iblk m hO c 4 t : S7x176x1024.Idx → EReal) (fun k p j => land m c k (176 * t.val + p) j) := fun k p j => by
  have hN := points m hO t
  have hr : 176 * t.val + p.val < 352 := by have := p.isLt; omega
  refine Eq.trans ?_ (entries3_is (m (c.tc.loc main_arg5) : S7x352x1024.Idx → EReal) k ⟨176 * t.val + p.val, hr⟩ j)
  show V m c main_arg5 ((((cfgM m hO).win 4).blk t).view.emb (ValueIdx.ix3 k p j)) = m (c.tc.loc main_arg5) (ValueIdx.ix3 k ⟨176 * t.val + p.val, hr⟩ j)
  refine (congrFun (V_main_arg5 m c) _).trans (congrArg (m (c.tc.loc main_arg5)) (funext fun a => Fin.ext ?_))
  match a with
  | ⟨0, _⟩ => exact zero_place 7 k.val
  | ⟨1, _⟩ => exact row_place m hO t p.val
  | ⟨2, _⟩ => exact zero_place _ _

/-! ## The body -/
section lines
variable {G W M1 M2 : ℕ → ℕ → EReal} {r x y z : FVec Ideal S176x1024 .f32} (hr : Ex2 r G) (hx : Ex2 x W) (hy : Ex2 y M1) (hz : Ex2 z M2)
include hr
theorem pay1_is (hy : Ex2 y M1) : Ex2 (k0_pay1 r y) (fun p j => newM (G p j) (M1 p j)) := fun p j => by
  show _ = newM (G p.val j.val) (M1 p.val j.val)
  unfold k0_pay1
  rw [← hr p j, ← hy p j]
  exact kernel_m r y _
theorem pay2_is (hz : Ex2 z M2) : Ex2 (k0_pay2 r z) (fun p j => newV (G p j) (M2 p j)) := fun p j => by
  show _ = newV (G p.val j.val) (M2 p.val j.val)
  unfold k0_pay2
  rw [← hr p j, ← hz p j]
  exact kernel_v r z _
include hx hy hz
theorem pay3_is : Ex2 (k0_pay3 r x y z) (fun p j => delta (W p j) (newM (G p j) (M1 p j)) (newV (G p j) (M2 p j))) := fun p j => by
  have e1 : _ = newM (G p.val j.val) (M1 p.val j.val) := pay1_is hr hy p j
  have e2 : _ = newV (G p.val j.val) (M2 p.val j.val) := pay2_is hr hz p j
  show _ = delta (W p.val j.val) (newM (G p.val j.val) (M1 p.val j.val)) (newV (G p.val j.val) (M2 p.val j.val))
  unfold k0_pay3
  rw [← e1, ← e2, ← hx p j]
  exact kernel_d x (k0_pay1 r y) (k0_pay2 r z) _
end lines

/-- One of the seven parts that came from the others, as a point reads it. -/
abbrev sent (t : Fin (cfgM m hO).N) (o : ℕ) (inb : ∀ z, (![o, 0, 0] : Fin 3 → ℕ) z + (![1, 176, 1024] : Fin 3 → ℕ) z ≤ S7x176x1024.size z) : Vec Ideal S1x176x1024 .bf16 :=
  View.readAt (Elt Ideal) (ms0_4 m hO t).view (Rect.unit (s := S7x176x1024) ![o, 0, 0] ![1, 176, 1024] inb).toLoadRect ((hs0_4 m hO t).unread (iblk m hO c 4 t))
/-- The sum that a point stores. -/
def total (t : Fin (cfgM m hO).N) : FVec Ideal S176x1024 .f32 :=
  k0_pay4 (View.readAt (Elt Ideal) (ms0_3 m hO t).view (Rect.unit (s := S1x176x1024) ![0, 0, 0] ![1, 176, 1024] inb_S1x176x1024_S1x176x1024_0_0_0).toLoadRect ((hs0_3 m hO t).unread (iblk m hO c 3 t)))
    (sent m c hO t 0 inb_S7x176x1024_S1x176x1024_0_0_0) (sent m c hO t 1 inb_S7x176x1024_S1x176x1024_1_0_0)
    (sent m c hO t 2 inb_S7x176x1024_S1x176x1024_2_0_0) (sent m c hO t 3 inb_S7x176x1024_S1x176x1024_3_0_0)
    (sent m c hO t 4 inb_S7x176x1024_S1x176x1024_4_0_0) (sent m c hO t 5 inb_S7x176x1024_S1x176x1024_5_0_0)
    (sent m c hO t 6 inb_S7x176x1024_S1x176x1024_6_0_0)
/-- The weight as a point reads it. -/
def readW (t : Fin (cfgM m hO).N) : Vec Ideal S176x1024 .f32 := View.readAt (Elt Ideal) (ms0_0 m hO t).view (Rect.unit (s := S176x1024) ![0, 0] ![176, 1024] inb_S176x1024_S176x1024_0_0).toLoadRect ((hs0_0 m hO t).unread (iblk m hO c 0 t))
/-- The first moment as a point reads it. -/
def readM (t : Fin (cfgM m hO).N) : Vec Ideal S176x1024 .f32 := View.readAt (Elt Ideal) (ms0_1 m hO t).view (Rect.unit (s := S176x1024) ![0, 0] ![176, 1024] inb_S176x1024_S176x1024_0_0).toLoadRect ((hs0_1 m hO t).unread (iblk m hO c 1 t))
/-- The second moment as a point reads it. -/
def readV (t : Fin (cfgM m hO).N) : Vec Ideal S176x1024 .f32 := View.readAt (Elt Ideal) (ms0_2 m hO t).view (Rect.unit (s := S176x1024) ![0, 0] ![176, 1024] inb_S176x1024_S176x1024_0_0).toLoadRect ((hs0_2 m hO t).unread (iblk m hO c 2 t))
theorem total_is (t : Fin (cfgM m hO).N) : Ex2 (total m c hO t) (fun p j => g m c (176 * t.val + p) j) := by
  unfold total k0_pay4
  have hs (o : ℕ) := slabLoad (hs0_4 m hO t) (block4 m c hO t) o
  exact ((((((((slabLoad (hs0_3 m hO t) (block3 m c hO t) 0 _ _ _).add (hs 0 _ _ _)).add (hs 1 _ _ _)).add (hs 2 _ _ _)).add (hs 3 _ _ _)).add (hs 4 _ _ _)).add (hs 5 _ _ _)).add (hs 6 _ _ _)).congr
    (g := fun p j => g m c (176 * t.val + p) j) (fun p j _ _ => chain (me m).toNat (parts m c) (land m c) (176 * t.val + p) j)
theorem readW_is (t : Fin (cfgM m hO).N) : Ex2 (readW m c hO t) (fun p j => w m c (176 * t.val + p) j) := Ex2.load (hs0_0 m hO t) (block0 m c hO t) inb_S176x1024_S176x1024_0_0
theorem readM_is (t : Fin (cfgM m hO).N) : Ex2 (readM m c hO t) (fun p j => m1 m c (176 * t.val + p) j) := Ex2.load (hs0_1 m hO t) (block1 m c hO t) inb_S176x1024_S176x1024_0_0
theorem readV_is (t : Fin (cfgM m hO).N) : Ex2 (readV m c hO t) (fun p j => m2 m c (176 * t.val + p) j) := Ex2.load (hs0_2 m hO t) (block2 m c hO t) inb_S176x1024_S176x1024_0_0
theorem outs_is (t : Fin (cfgM m hO).N) : outsAt0 m hO c t
    = (VO0_5.read (Elt Ideal) (VO0_5.writes (Elt Ideal) VO0_5.junk [⟨Rect.unit (s := S176x1024) ![0, 0] ![176, 1024] inb_S176x1024_S176x1024_0_0, total m c hO t⟩]),
      VO0_6.read (Elt Ideal) (VO0_6.writes (Elt Ideal) VO0_6.junk [⟨Rect.unit (s := S176x1024) ![0, 0] ![176, 1024] inb_S176x1024_S176x1024_0_0, k0_pay3 (total m c hO t) (readW m c hO t) (readM m c hO t) (readV m c hO t)⟩]),
      VO0_7.read (Elt Ideal) (VO0_7.writes (Elt Ideal) VO0_7.junk [⟨Rect.unit (s := S176x1024) ![0, 0] ![176, 1024] inb_S176x1024_S176x1024_0_0, k0_pay1 (total m c hO t) (readM m c hO t)⟩]),
      VO0_8.read (Elt Ideal) (VO0_8.writes (Elt Ideal) VO0_8.junk [⟨Rect.unit (s := S176x1024) ![0, 0] ![176, 1024] inb_S176x1024_S176x1024_0_0, k0_pay2 (total m c hO t) (readV m c hO t)⟩])) := rfl
theorem step_is (t : Fin (cfgM m hO).N) : Ex2 (k0_pay3 (total m c hO t) (readW m c hO t) (readM m c hO t) (readV m c hO t)) (fun p j => dw m c (176 * t.val + p) j) :=
  pay3_is (total_is m c hO t) (readW_is m c hO t) (readM_is m c hO t) (readV_is m c hO t)
theorem moment1_is (t : Fin (cfgM m hO).N) : Ex2 (k0_pay1 (total m c hO t) (readM m c hO t)) (fun p j => nm m c (176 * t.val + p) j) := pay1_is (total_is m c hO t) (readM_is m c hO t)
theorem moment2_is (t : Fin (cfgM m hO).N) : Ex2 (k0_pay2 (total m c hO t) (readV m c hO t)) (fun p j => nv m c (176 * t.val + p) j) := pay2_is (total_is m c hO t) (readV_is m c hO t)
theorem after5 (t : Fin (cfgM m hO).N) : Ex2 ((outsAt0 m hO c t).1 : S176x1024.Idx → EReal) (fun p j => g m c (176 * t.val + p) j) := by
  rw [outs_is m c hO t]; dsimp only; exact Ex2.store VO0_5 _ _ (total_is m c hO t)
theorem after6 (t : Fin (cfgM m hO).N) : Ex2 ((outsAt0 m hO c t).2.1 : S176x1024.Idx → EReal) (fun p j => dw m c (176 * t.val + p) j) := by
  rw [outs_is m c hO t]; dsimp only; exact Ex2.store VO0_6 _ _ (step_is m c hO t)
theorem after7 (t : Fin (cfgM m hO).N) : Ex2 ((outsAt0 m hO c t).2.2.1 : S176x1024.Idx → EReal) (fun p j => nm m c (176 * t.val + p) j) := by
  rw [outs_is m c hO t]; dsimp only; exact Ex2.store VO0_7 _ _ (moment1_is m c hO t)
theorem after8 (t : Fin (cfgM m hO).N) : Ex2 ((outsAt0 m hO c t).2.2.2 : S176x1024.Idx → EReal) (fun p j => nv m c (176 * t.val + p) j) := by
  rw [outs_is m c hO t]; dsimp only; exact Ex2.store VO0_8 _ _ (moment2_is m c hO t)

/-! ## The arrays at the end -/
/-- The array of a function of row and column. -/
def arr (f : ℕ → ℕ → EReal) : S352x1024.Idx → EReal := fun i => f (i 0).val (i 1).val
theorem arr_is (f : ℕ → ℕ → EReal) : Ex2 (arr f) f := fun _ _ => rfl
theorem flush_is (t : Fin (cfgM m hO).N) {x : S176x1024.Idx → EReal} {f : ℕ → ℕ → EReal} (h : Ex2 x (fun p j => f (176 * t.val + p) j)) (e : S176x1024.Idx → S352x1024.Idx)
    (h0 : ∀ y, (e y 0).val = (BitVec.ofNat 32 (grid0.coords t 0).val).toNat * 176 + 1 * (y 0).val) (h1 : ∀ y, (e y 1).val = (0#32 : BitVec 32).toNat * 1024 + 1 * (y 1).val) :
    x = fun y => arr f (e y) := funext fun y => by
  obtain ⟨p, j, rfl⟩ : ∃ (p : Fin 176) (j : Fin 1024), y = ValueIdx.ix2 p j := ⟨y 0, y 1, ValueIdx.eq_ix2 y⟩
  exact (h p j).trans (congrArg (arr f) (place m hO t p j _ (h0 _) (h1 _)).symm)
/-- The blocks of the points make up the whole array. -/
theorem cover (i : S352x1024.Idx) : ∃ t : Fin (cfgM m hO).N, i ∈ (((cfgM m hO).win 5).rect t).set := by
  have h0 : (i 0).val < 352 := (i 0).isLt
  have h1 : (i 1).val < 1024 := (i 1).isLt
  have hq : (i 0).val / 176 < (cfgM m hO).N := lt_of_lt_of_eq (show (i 0).val / 176 < 2 by omega) N_0.symm
  refine ⟨⟨(i 0).val / 176, hq⟩, Rect.mem_set_unit.mpr fun a => ?_⟩
  match a with
  | ⟨0, _⟩ =>
    show (BitVec.ofNat 32 (grid0.coords ⟨(i 0).val / 176, hq⟩ 0).val).toNat * 176 ≤ (i 0).val ∧ (i 0).val < (BitVec.ofNat 32 (grid0.coords ⟨(i 0).val / 176, hq⟩ 0).val).toNat * 176 + 176
    rw [coord0 m hO ⟨(i 0).val / 176, hq⟩, BitVec.toNat_ofNat, Nat.mod_eq_of_lt (by show (i 0).val / 176 < 2 ^ 32; omega)]; dsimp only; omega
  | ⟨1, _⟩ =>
    show (0#32 : BitVec 32).toNat * 1024 ≤ (i 1).val ∧ (i 1).val < (0#32 : BitVec 32).toNat * 1024 + 1024
    rw [show (0#32 : BitVec 32).toNat = 0 from rfl]; omega
theorem flushed5 (t : Fin (cfgM m hO).N) : (dats m hO 0 c).flushed 5 t = (((cfgM m hO).win 5).blk t).view.read (Elt Ideal) (arr (g m c)) := by
  show ((cfgM m hO).win 5).cut (grid0.coords t) ((dats m hO 0 c).after 5 t) = _
  rw [after0_5]
  exact flush_is m hO t (after5 m c hO t) (fun y => (((cfgM m hO).win 5).blk t).view.emb y) (fun _ => rfl) (fun _ => rfl)
/-- Output 5 at the end. -/
theorem final5 : (dats m hO 0 c).arrAt 5 (cfgM m hO).N = arr (g m c) :=
  (dats m hO 0 c).arrAt_eq_of_cover 5 _ (fun t _ => flushed5 m c hO t) (fun (i : S352x1024.Idx) => by
    obtain ⟨t, h⟩ := cover m hO i
    exact ⟨t, flush0_5 (adm m hO) t, (Finset.ext_iff.mp (View.set_slice_whole main_v0_0 (((cfgM m hO).win 5).rect t)) i).mpr h⟩)
theorem flushed6 (t : Fin (cfgM m hO).N) : (dats m hO 0 c).flushed 6 t = (((cfgM m hO).win 6).blk t).view.read (Elt Ideal) (arr (dw m c)) := by
  show ((cfgM m hO).win 6).cut (grid0.coords t) ((dats m hO 0 c).after 6 t) = _
  rw [after0_6]
  exact flush_is m hO t (after6 m c hO t) (fun y => (((cfgM m hO).win 6).blk t).view.emb y) (fun _ => rfl) (fun _ => rfl)
/-- Output 6 at the end. -/
theorem final6 : (dats m hO 0 c).arrAt 6 (cfgM m hO).N = arr (dw m c) :=
  (dats m hO 0 c).arrAt_eq_of_cover 6 _ (fun t _ => flushed6 m c hO t) (fun (i : S352x1024.Idx) => by
    obtain ⟨t, h⟩ := cover m hO i
    exact ⟨t, flush0_6 (adm m hO) t, (Finset.ext_iff.mp (View.set_slice_whole main_v0_1 (((cfgM m hO).win 6).rect t)) i).mpr h⟩)
theorem flushed7 (t : Fin (cfgM m hO).N) : (dats m hO 0 c).flushed 7 t = (((cfgM m hO).win 7).blk t).view.read (Elt Ideal) (arr (nm m c)) := by
  show ((cfgM m hO).win 7).cut (grid0.coords t) ((dats m hO 0 c).after 7 t) = _
  rw [after0_7]
  exact flush_is m hO t (after7 m c hO t) (fun y => (((cfgM m hO).win 7).blk t).view.emb y) (fun _ => rfl) (fun _ => rfl)
/-- Output 7 at the end. -/
theorem final7 : (dats m hO 0 c).arrAt 7 (cfgM m hO).N = arr (nm m c) :=
  (dats m hO 0 c).arrAt_eq_of_cover 7 _ (fun t _ => flushed7 m c hO t) (fun (i : S352x1024.Idx) => by
    obtain ⟨t, h⟩ := cover m hO i
    exact ⟨t, flush0_7 (adm m hO) t, (Finset.ext_iff.mp (View.set_slice_whole main_v0_2 (((cfgM m hO).win 7).rect t)) i).mpr h⟩)
theorem flushed8 (t : Fin (cfgM m hO).N) : (dats m hO 0 c).flushed 8 t = (((cfgM m hO).win 8).blk t).view.read (Elt Ideal) (arr (nv m c)) := by
  show ((cfgM m hO).win 8).cut (grid0.coords t) ((dats m hO 0 c).after 8 t) = _
  rw [after0_8]
  exact flush_is m hO t (after8 m c hO t) (fun y => (((cfgM m hO).win 8).blk t).view.emb y) (fun _ => rfl) (fun _ => rfl)
/-- Output 8 at the end. -/
theorem final8 : (dats m hO 0 c).arrAt 8 (cfgM m hO).N = arr (nv m c) :=
  (dats m hO 0 c).arrAt_eq_of_cover 8 _ (fun t _ => flushed8 m c hO t) (fun (i : S352x1024.Idx) => by
    obtain ⟨t, h⟩ := cover m hO i
    exact ⟨t, flush0_8 (adm m hO) t, (Finset.ext_iff.mp (View.set_slice_whole main_v0_3 (((cfgM m hO).win 8).rect t)) i).mpr h⟩)

/-- The run: the four arrays, and the arguments as they were. -/
theorem run (hO : Ok m) (ρ : Dev nD → PrngReg) : θ_run defs (onTc (τ := τ) (main (F := Ideal))) ⟨m, fun _ => 0, ρ⟩ (fun r => ∀ c : Dev nD,
      r.2.mem (c.tc.loc main_v0_0) = arr (g m c)
      ∧ r.2.mem (c.tc.loc main_v0_1) = arr (dw m c)
      ∧ r.2.mem (c.tc.loc main_v0_2) = arr (nm m c)
      ∧ r.2.mem (c.tc.loc main_v0_3) = arr (nv m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)) :=
  (θ_run defs _ _).mono (fun r h c => ⟨(h.1 c).1 5 |>.trans (final5 m c hO), (h.1 c).1 6 |>.trans (final6 m c hO), (h.1 c).1 7 |>.trans (final7 m c hO),
    (h.1 c).1 8 |>.trans (final8 m c hO), h.2 c⟩) (θ_run_and (run_main m ρ hO) (unchanged m ρ hO))
end Cert.AdamDownIdeal

namespace Cert.AdamDownReferenceIdeal
open Cert.AdamDownReferenceIdeal.Gen Cert.AdamDownReferenceIdeal.Staged Cert.Sums Cert.Adam
section lines
variable {x0 : IVec S1 32} {i : BitVec 32} (h0 : ∀ j, x0 j = i) (hb : i.toNat < 8 ∧ i.toInt = (i.toNat : ℤ))
  {x4 : FVec Ideal S8x352x1024 .bf16} {x5 : FVec Ideal S7x352x1024 .bf16} {P L : ℕ → ℕ → ℕ → EReal} (h4 : Ex3 x4 P) (h5 : Ex3 x5 L)
include h0 hb
theorem index_is (j : S_.Idx) : select (cmpi .slt (shapeCast _ x0 shapeCasts_S1_S_) (constantI S_ 32 0#32)) (addi (shapeCast _ x0 shapeCasts_S1_S_) (constantI S_ 32 8#32)) (shapeCast _ x0 shapeCasts_S1_S_) j = i := by
  have e : shapeCast S_ x0 shapeCasts_S1_S_ j = i := h0 _
  refine (select_slt_zero_of_nonneg (shapeCast S_ x0 shapeCasts_S1_S_) _ (shapeCast S_ x0 shapeCasts_S1_S_) j ?_).trans e
  rw [e, hb.2]; omega
include h4 h5
theorem grad_is : Ex2 (sum (F := Ideal) x0 x4 x5) (grad i.toNat P L) := fun p j => by
  have e4 := slab (f := fun k p j => P (i.toNat + k) p j) (Cert.Adam.own hb.1 hb.2 h4
    (fun k => (((![select (cmpi .slt (shapeCast _ x0 shapeCasts_S1_S_) (constantI S_ 32 0#32)) (addi (shapeCast _ x0 shapeCasts_S1_S_) (constantI S_ 32 8#32)) (shapeCast _ x0 shapeCasts_S1_S_), constantI S_ 32 0#32, constantI S_ 32 0#32] : Fin 3 → (⟨S_, .i32⟩ : BufTy).Contents (Elt Ideal))) k (Shape.Idx.first h_S_)).toInt)
    (congrArg BitVec.toInt (index_is h0 hb (Shape.Idx.first h_S_))) rfl rfl sliceFits_S8x352x1024_S1x352x1024) shapeCasts_S1x352x1024_S352x1024 bitsLt_bf16_f32 p j
  refine congrArg₂ (fun a b : EReal => a + b) e4 ?_
  simp only [Host.reduceAdd, Ideal.hostReduceAdd_def]
  rw [Ideal.hostReduceAdd_single reducesTo_S7x352x1024_S352x1024_d0 (by decide)]
  rw [show (constant (F := Ideal) S_ .f32 0x00000000#32) (Shape.Idx.first h_S_) = (0 : EReal) from Ideal.ofBits_zero_f32, zero_add]
  refine Finset.sum_congr rfl fun k _ => ?_
  refine Eq.trans (congrArg x5 ?_) (h5 k p j)
  exact funext fun a => Fin.ext (by match a with | ⟨0, _⟩ => rfl | ⟨1, _⟩ => rfl | ⟨2, _⟩ => rfl)
end lines
theorem step_apply (x1 m v : FVec Ideal S352x1024 .f32) (j : S352x1024.Idx) : step (F := Ideal) x1 m v j = delta (x1 j) (m j) (v j) := by
  unfold step
  exact host_d bcast_S_S352x1024 x1 m v j
section lines
variable {x0 x1 x2 x3 : FVec Ideal S352x1024 .f32} {G W M1 M2 : ℕ → ℕ → EReal} (h0 : Ex2 x0 G)
include h0
theorem m_is (h2 : Ex2 x2 M1) : Ex2 (moment1 (F := Ideal) x0 x2) (fun p j => newM (G p j) (M1 p j)) := fun p j => by
  show _ = newM (G p.val j.val) (M1 p.val j.val)
  rw [← h0 p j, ← h2 p j]
  exact host_m bcast_S_S352x1024 x0 x2 _
theorem v_is (h3 : Ex2 x3 M2) : Ex2 (moment2 (F := Ideal) x0 x3) (fun p j => newV (G p j) (M2 p j)) := fun p j => by
  show _ = newV (G p.val j.val) (M2 p.val j.val)
  rw [← h0 p j, ← h3 p j]
  exact host_v bcast_S_S352x1024 x0 x3 _
omit h0 in
theorem d_is (h1 : Ex2 x1 W) (h2 : Ex2 x2 M1) (h3 : Ex2 x3 M2) : Ex2 (step (F := Ideal) x1 x2 x3) (fun p j => delta (W p j) (M1 p j) (M2 p j)) := fun p j => by
  refine (step_apply x1 x2 x3 (ValueIdx.ix2 p j)).trans ?_
  rw [h1 p j, h2 p j, h3 p j]
end lines
end Cert.AdamDownReferenceIdeal

namespace Cert.Adam
open Cert.Sums
open Cert.AdamDownIdeal (arr arr_is me w m1 m2 parts land g dw nm nv)
/-- The kernel and the reference end with the same four arrays. -/
theorem device_adam_down_equation : Cert.algebraic_AdamDownIdeal_AdamDownReferenceIdeal
    (hAdamDownIdeal := Cert.AdamDownIdeal.Gen.facts) (hAdamDownReferenceIdeal := Cert.AdamDownReferenceIdeal.Gen.facts)
    (hPre_device_adam_down := Cert.Pre_device_adam_down.Gen.facts) := by
  intro m ρ m' ρ' hpre harg
  have hb := Cert.AdamDownIdeal.me_bounds m hpre
  refine ⟨fun c => arr (g m c), fun c => arr (dw m c), fun c => arr (nm m c), fun c => arr (nv m c),
    Cert.AdamDownIdeal.run m (Cert.AdamDownIdeal.ok_of_pre m hpre) ρ, ?_⟩
  refine (θ_run _ _ _).mono (fun r h c => ?_) (Cert.AdamDownReferenceIdeal.Staged.run m' ρ')
  obtain ⟨e0, e1, e2, e3, e4, e5⟩ := harg c
  obtain ⟨hg, hd, hm, hv, hrest⟩ := h c
  have h0 : ∀ j, m' (c.tc.loc Cert.AdamDownReferenceIdeal.main_arg0) j = me m := fun j => by
    rw [e0]
    obtain rfl : c = 0 := Subsingleton.elim _ _
    unfold me
    exact congrArg (m ((0 : Dev Cert.AdamDownIdeal.nD).tc.loc Cert.AdamDownIdeal.main_arg0))
      (funext fun (a : Fin 1) => match a with | ⟨0, _⟩ => Subsingleton.elim (α := Fin 1) _ _)
  have h1 : Ex2 (m' (c.tc.loc Cert.AdamDownReferenceIdeal.main_arg1) : Cert.AdamDownReferenceIdeal.S352x1024.Idx → EReal) (w m c) := by
    rw [e1]; exact entries_is _
  have h2 : Ex2 (m' (c.tc.loc Cert.AdamDownReferenceIdeal.main_arg2) : Cert.AdamDownReferenceIdeal.S352x1024.Idx → EReal) (m1 m c) := by
    rw [e2]; exact entries_is _
  have h3 : Ex2 (m' (c.tc.loc Cert.AdamDownReferenceIdeal.main_arg3) : Cert.AdamDownReferenceIdeal.S352x1024.Idx → EReal) (m2 m c) := by
    rw [e3]; exact entries_is _
  have h4 : Ex3 (m' (c.tc.loc Cert.AdamDownReferenceIdeal.main_arg4) : Cert.AdamDownReferenceIdeal.S8x352x1024.Idx → EReal) (parts m c) := by
    rw [e4]; exact entries3_is _
  have h5 : Ex3 (m' (c.tc.loc Cert.AdamDownReferenceIdeal.main_arg5) : Cert.AdamDownReferenceIdeal.S7x352x1024.Idx → EReal) (land m c) := by
    rw [e5]; exact entries3_is _
  have hs := Cert.AdamDownReferenceIdeal.grad_is h0 hb h4 h5
  exact ⟨hg.trans (hs.unique (arr_is (g m c))),
    hd.trans ((Cert.AdamDownReferenceIdeal.d_is h1 (Cert.AdamDownReferenceIdeal.m_is hs h2) (Cert.AdamDownReferenceIdeal.v_is hs h3)).unique (arr_is (dw m c))),
    hm.trans ((Cert.AdamDownReferenceIdeal.m_is hs h2).unique (arr_is (nm m c))),
    hv.trans ((Cert.AdamDownReferenceIdeal.v_is hs h3).unique (arr_is (nv m c))), hrest⟩
end Cert.Adam
end
-- ==== Proof.AdamGateUpReference.lean ====
/-
One of the optimiser's references, run in two stages: the gradient's sum, and the moments and the step from it.
-/
module
public import proofs.«01_k».proof.Proof.Gen.AdamGateUpReferenceIdeal
public import Idealize.ShloMosaic.Lib.StableHlo.Run
public import Idealize.ShloMosaic.Lib.StableHlo.RunClose
@[expose] public section
noncomputable section
namespace Cert.AdamGateUpReferenceIdeal.Staged
open Cert.AdamGateUpReferenceIdeal Cert.AdamGateUpReferenceIdeal.Gen Idealize.ShloMosaic Idealize.ShloMosaic.TcCoe Idealize.SL.Sem Idealize.ShloMosaic.StableHlo
-- Short names for the types of the arrays: integers, truth values, f32 and bf16.
abbrev Iv (F : FTy → Type) : Type := (⟨S1, .i32⟩ : BufTy).Contents (Elt F)
abbrev H1 (F : FTy → Type) : Type := (⟨S1x704x1024, .bf16⟩ : BufTy).Contents (Elt F)
abbrev Hs (F : FTy → Type) : Type := (⟨S704x1024, .bf16⟩ : BufTy).Contents (Elt F)
abbrev Rs (F : FTy → Type) : Type := (⟨S704x1024, .f32⟩ : BufTy).Contents (Elt F)
abbrev H7 (F : FTy → Type) : Type := (⟨S7x704x1024, .bf16⟩ : BufTy).Contents (Elt F)
abbrev R7 (F : FTy → Type) : Type := (⟨S7x704x1024, .f32⟩ : BufTy).Contents (Elt F)
abbrev H8 (F : FTy → Type) : Type := (⟨S8x704x1024, .bf16⟩ : BufTy).Contents (Elt F)
abbrev R0 (F : FTy → Type) : Type := (⟨S_, .f32⟩ : BufTy).Contents (Elt F)
abbrev P0 (F : FTy → Type) : Type := (⟨S_, .i1⟩ : BufTy).Contents (Elt F)
abbrev I0 (F : FTy → Type) : Type := (⟨S_, .i32⟩ : BufTy).Contents (Elt F)
variable {F : FTy → Type} [FloatOps F]

/-- The operations up to the gradient. -/
abbrev opsA : List (HloOp τ sig (Elt F)) :=
  [ reshape main_arg0 main_v0 (rfl : (.i32 : EltTy) = .i32) shapeCasts_S1_S_,
    nullary main_c (constantI S_ 32 0#32),
    binary main_v0 main_c main_v1 (cmpi .slt : I0 F → I0 F → P0 F),
    nullary main_c_0 (constantI S_ 32 8#32),
    binary main_v0 main_c_0 main_v2 (addi : I0 F → I0 F → I0 F),
    ternary main_v1 main_v2 main_v0 main_v3 (select : P0 F → I0 F → I0 F → I0 F),
    nullary main_c_1 (constantI S_ 32 0#32),
    nullary main_c_2 (constantI S_ 32 0#32),
    unaryIndexed main_arg4 ![main_v3, main_c_1, main_c_2] ⟨S_, .i32⟩ main_v4 ((fun x i => Host.dynamicSlice S1x704x1024 x (fun k => (i k (Shape.Idx.first h_S_)).toInt) sliceFits_S8x704x1024_S1x704x1024) : H8 F → (Fin 3 → I0 F) → H1 F),
    reshape main_v4 main_v5 (rfl : (.bf16 : EltTy) = .bf16) shapeCasts_S1x704x1024_S704x1024,
    unary main_v5 main_v6 ((extf .f32 · bitsLt_bf16_f32) : Hs F → Rs F),
    unary main_arg5 main_v7 ((extf .f32 · bitsLt_bf16_f32) : H7 F → R7 F),
    nullary main_cst (constant S_ .f32 0x00000000#32),
    binary main_v7 main_cst main_v8 ((fun x v => Host.reduceAdd x v reducesTo_S7x704x1024_S704x1024_d0 h_S_) : R7 F → R0 F → Rs F),
    binary main_v6 main_v8 main_v9 (addf : Rs F → Rs F → Rs F) ]
/-- The operations after it. -/
abbrev opsB : List (HloOp τ sig (Elt F)) :=
  [ nullary main_cst_3 (constant S_ .f32 0x3F666666#32),
    unary main_cst_3 main_v10 (broadcastInDim S704x1024 ![] bcast_S_S704x1024 : R0 F → Rs F),
    binary main_v10 main_arg2 main_v11 (mulf : Rs F → Rs F → Rs F),
    nullary main_cst_4 (constant S_ .f32 0x3DCCCCCD#32),
    unary main_cst_4 main_v12 (broadcastInDim S704x1024 ![] bcast_S_S704x1024 : R0 F → Rs F),
    binary main_v12 main_v9 main_v13 (mulf : Rs F → Rs F → Rs F),
    binary main_v11 main_v13 main_v14 (addf : Rs F → Rs F → Rs F),
    nullary main_cst_5 (constant S_ .f32 0x3F7FBE77#32),
    unary main_cst_5 main_v15 (broadcastInDim S704x1024 ![] bcast_S_S704x1024 : R0 F → Rs F),
    binary main_v15 main_arg3 main_v16 (mulf : Rs F → Rs F → Rs F),
    binary main_v9 main_v9 main_v17 (mulf : Rs F → Rs F → Rs F),
    nullary main_cst_6 (constant S_ .f32 0x3A83126F#32),
    unary main_cst_6 main_v18 (broadcastInDim S704x1024 ![] bcast_S_S704x1024 : R0 F → Rs F),
    binary main_v18 main_v17 main_v19 (mulf : Rs F → Rs F → Rs F),
    binary main_v16 main_v19 main_v20 (addf : Rs F → Rs F → Rs F),
    nullary main_cst_7 (constant S_ .f32 0x3F26BD02#32),
    unary main_cst_7 main_v21 (broadcastInDim S704x1024 ![] bcast_S_S704x1024 : R0 F → Rs F),
    binary main_v14 main_v21 main_v22 (Host.divf : Rs F → Rs F → Rs F),
    nullary main_cst_8 (constant S_ .f32 0x3C231ACC#32),
    unary main_cst_8 main_v23 (broadcastInDim S704x1024 ![] bcast_S_S704x1024 : R0 F → Rs F),
    binary main_v20 main_v23 main_v24 (Host.divf : Rs F → Rs F → Rs F),
    unary main_v24 main_v25 (Host.sqrt : Rs F → Rs F),
    nullary main_cst_9 (constant S_ .f32 0x322BCC77#32),
    unary main_cst_9 main_v26 (broadcastInDim S704x1024 ![] bcast_S_S704x1024 : R0 F → Rs F),
    binary main_v25 main_v26 main_v27 (addf : Rs F → Rs F → Rs F),
    binary main_v22 main_v27 main_v28 (Host.divf : Rs F → Rs F → Rs F),
    nullary main_cst_10 (constant S_ .f32 0x3C23D70A#32),
    unary main_cst_10 main_v29 (broadcastInDim S704x1024 ![] bcast_S_S704x1024 : R0 F → Rs F),
    binary main_v29 main_arg1 main_v30 (mulf : Rs F → Rs F → Rs F),
    binary main_v28 main_v30 main_v31 (addf : Rs F → Rs F → Rs F),
    nullary main_cst_11 (constant S_ .f32 0xBA83126F#32),
    unary main_cst_11 main_v32 (broadcastInDim S704x1024 ![] bcast_S_S704x1024 : R0 F → Rs F),
    binary main_v32 main_v31 main_v33 (mulf : Rs F → Rs F → Rs F) ]
theorem after_append (x y : List (HloOp τ sig (Elt F))) (V : Valuation τ sig (Elt F)) : after (x ++ y) V = after y (after x V) := by
  induction x generalizing V with
  | nil => rfl
  | cons op x ih => exact ih _
set_option maxRecDepth 8192 in
theorem main_eq (c : Dev nD) : main (F := F) c = seq (opsA ++ opsB) := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : ((opsA ++ opsB : List (HloOp τ sig (Elt F)))).Forall fun op => op.bufs ⊆ tcRefs τ sig :=
  ⟨reshape_bufs_sub .., nullary_bufs_sub .., binary_bufs_sub .., nullary_bufs_sub .., binary_bufs_sub .., ternary_bufs_sub .., nullary_bufs_sub .., nullary_bufs_sub .., unaryIndexed_bufs_sub .., reshape_bufs_sub .., unary_bufs_sub .., unary_bufs_sub .., nullary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

/-- The reference's own slab of the parts. -/
def own (x0 : Iv F) (x4 : H8 F) : H1 F :=
  Host.dynamicSlice S1x704x1024 x4 (fun k => (((![select (cmpi .slt (shapeCast _ x0 shapeCasts_S1_S_) (constantI S_ 32 0#32)) (addi (shapeCast _ x0 shapeCasts_S1_S_) (constantI S_ 32 8#32)) (shapeCast _ x0 shapeCasts_S1_S_), constantI S_ 32 0#32, constantI S_ 32 0#32] : Fin 3 → I0 F)) k (Shape.Idx.first h_S_)).toInt) sliceFits_S8x704x1024_S1x704x1024
/-- The gradient. -/
def sum (x0 : Iv F) (x4 : H8 F) (x5 : H7 F) : Rs F :=
  addf (extf .f32 (shapeCast _ (own x0 x4) shapeCasts_S1x704x1024_S704x1024) bitsLt_bf16_f32)
    (Host.reduceAdd (extf .f32 x5 bitsLt_bf16_f32) (constant S_ .f32 0x00000000#32) reducesTo_S7x704x1024_S704x1024_d0 h_S_)
/-- One number everywhere. -/
abbrev fill (b : BitVec 32) : Rs F := broadcastInDim S704x1024 ![] bcast_S_S704x1024 (constant S_ .f32 b)
/-- The new first moment from the gradient. -/
def moment1 (g x2 : Rs F) : Rs F :=
  addf (mulf (fill 0x3F666666#32) x2) (mulf (fill 0x3DCCCCCD#32) g)
/-- The new second moment from the gradient. -/
def moment2 (g x3 : Rs F) : Rs F :=
  addf (mulf (fill 0x3F7FBE77#32) x3) (mulf (fill 0x3A83126F#32) (mulf g g))
/-- The step from the new moments. -/
def step (x1 m v : Rs F) : Rs F :=
  mulf (fill 0xBA83126F#32)
    (addf (Host.divf (Host.divf m (fill 0x3F26BD02#32))
      (addf (Host.sqrt (Host.divf v (fill 0x3C231ACC#32))) (fill 0x322BCC77#32)))
      (mulf (fill 0x3C23D70A#32) x1))

/-! ## The first stage -/
section stages
variable (V : Valuation τ sig (Elt F))
theorem slice_A : after opsA V main_v9 = sum (V main_arg0) (V main_arg4) (V main_arg5) := by
  after_results_simp_entrywise
  rfl
theorem keep_A0 : after opsA V main_arg0 = V main_arg0 := by after_results_simp
theorem keep_A1 : after opsA V main_arg1 = V main_arg1 := by after_results_simp
theorem keep_A2 : after opsA V main_arg2 = V main_arg2 := by after_results_simp
theorem keep_A3 : after opsA V main_arg3 = V main_arg3 := by after_results_simp
theorem keep_A4 : after opsA V main_arg4 = V main_arg4 := by after_results_simp
theorem keep_A5 : after opsA V main_arg5 = V main_arg5 := by after_results_simp
/-! ## The second stage -/
theorem keep_B0 : after opsB V main_arg0 = V main_arg0 := by after_results_simp
theorem keep_B1 : after opsB V main_arg1 = V main_arg1 := by after_results_simp
theorem keep_B2 : after opsB V main_arg2 = V main_arg2 := by after_results_simp
theorem keep_B3 : after opsB V main_arg3 = V main_arg3 := by after_results_simp
theorem keep_B4 : after opsB V main_arg4 = V main_arg4 := by after_results_simp
theorem keep_B5 : after opsB V main_arg5 = V main_arg5 := by after_results_simp
theorem grad_B : after opsB V main_v9 = V main_v9 := by after_results_simp
theorem m_B : after opsB V main_v14 = moment1 (V main_v9) (V main_arg2) := by
  after_results_simp
  rfl
theorem v_B : after opsB V main_v20 = moment2 (V main_v9) (V main_arg3) := by
  after_results_simp
  rfl
theorem d_B : after opsB V main_v33 = step (V main_arg1) (moment1 (V main_v9) (V main_arg2)) (moment2 (V main_v9) (V main_arg3)) := by
  after_results_simp
  rfl
end stages

/-- The gradient in terms of the memory. -/
abbrev sumOf (m : (ℓ : Loc nD τ sig) → Buf (Elt F) ℓ) (c : Dev nD) : Rs F := sum (m (c.tc.loc main_arg0)) (m (c.tc.loc main_arg4)) (m (c.tc.loc main_arg5))
/-- The run: the four results in terms of the arguments, and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem (c.tc.loc main_v9) = sumOf m c
      ∧ r.2.mem (c.tc.loc main_v33) = step (m (c.tc.loc main_arg1))
          (moment1 (sumOf m c) (m (c.tc.loc main_arg2)))
          (moment2 (sumOf m c) (m (c.tc.loc main_arg3)))
      ∧ r.2.mem (c.tc.loc main_v14) = moment1 (sumOf m c) (m (c.tc.loc main_arg2))
      ∧ r.2.mem (c.tc.loc main_v20) = moment2 (sumOf m c) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5) := by
  refine (θ_run defs _ _).mono (fun r h c => ?_) (run_seq scopedRefs_eq scopedSems_eq defs main (fun _ => opsA ++ opsB) main_eq (fun _ => ops_sub) m ρ)
  refine ⟨?_, ?_, ?_, ?_, ?_, ?_, ?_, ?_, ?_, ?_⟩
  · rw [h c main_v9, after_append, grad_B, slice_A]
  · rw [h c main_v33, after_append, d_B, slice_A, keep_A1, keep_A2, keep_A3]
  · rw [h c main_v14, after_append, m_B, slice_A, keep_A2]
  · rw [h c main_v20, after_append, v_B, slice_A, keep_A3]
  · rw [h c main_arg0, after_append, keep_B0, keep_A0]
  · rw [h c main_arg1, after_append, keep_B1, keep_A1]
  · rw [h c main_arg2, after_append, keep_B2, keep_A2]
  · rw [h c main_arg3, after_append, keep_B3, keep_A3]
  · rw [h c main_arg4, after_append, keep_B4, keep_A4]
  · rw [h c main_arg5, after_append, keep_B5, keep_A5]
end Cert.AdamGateUpReferenceIdeal.Staged
end
-- ==== Proof.AdamGateUp.lean ====
/-
One of the optimiser's calls: what its windows hold, its four outputs, and the same four arrays from the reference.
-/
module
public import proofs.«01_k».proof.Proof.Adam
public import proofs.«01_k».proof.Proof.Gen.AdamGateUp.Frame
public import proofs.«01_k».proof.Proof.Gen.AdamGateUpIdeal.Frame
public import proofs.«01_k».proof.Proof.AdamGateUpReference
public import Idealize.ShloMosaic.Lib.Pointwise.Reduce
public import proofs.«01_k».proof.Proof.Gen.Pre_device_adam_gu
public import proofs.«01_k».proof.Defs
@[expose] public section
noncomputable section
open Idealize.ShloMosaic Idealize.ShloMosaic.TcCoe Idealize.ShloMosaic.StableHlo Idealize.SL.Sem
open scoped BigOperators

/-- The precondition says that the device's index lies below eight. -/
theorem Cert.Adam.device_adam_gu_bounds {F : FTy → Type} [FloatOps F] {x0 : IVec Cert.Pre_device_adam_gu.S1 32} {x1 x2 x3 : FVec F Cert.Pre_device_adam_gu.S704x1024 .f32}
    {x4 : FVec F Cert.Pre_device_adam_gu.S8x704x1024 .bf16} {x5 : FVec F Cert.Pre_device_adam_gu.S7x704x1024 .bf16}
    (h : Cert.Pre_device_adam_gu.fn (F := F) x0 x1 x2 x3 x4 x5 = fun _ => 1#1) (j : Cert.Pre_device_adam_gu.S1.Idx) :
    (x0 j).toNat < 8 ∧ (x0 j).toInt = ((x0 j).toNat : ℤ) := Cert.Adam.index_bounds (congrFun h j)

namespace Cert.AdamGateUp
open Cert.AdamGateUp.Gen
/-- The precondition puts every block of the parts inside their array. -/
theorem ok_of_pre (m : (ℓ : Loc nD τ sig) → Buf (Elt Bits) ℓ) (h : Cert.Pre_AdamGateUp m) : Ok m := fun i => by
  have hv := Cert.Adam.device_adam_gu_bounds (h 0)
  have hb : ∀ a, (cc0_transform_3 inb_S1_S1_0 numel1_S1 (tbl m) i a + 1) * S1x352x1024.size a ≤ S8x704x1024.size a := fun a => by
    match a with
    | ⟨0, _⟩ =>
      have hw := (hv ((Rect.unit (s := S1) ![0] S1.size inb_S1_S1_0).emb (Shape.Idx.first (numel1_S1.symm ▸ Nat.one_pos)))).1
      show ((tbl m 0 ((Rect.unit (s := S1) ![0] S1.size inb_S1_S1_0).emb (Shape.Idx.first (numel1_S1.symm ▸ Nat.one_pos))) : BitVec 32).toNat + 1) * 1 ≤ 8
      have e : (tbl m 0 ((Rect.unit (s := S1) ![0] S1.size inb_S1_S1_0).emb (Shape.Idx.first (numel1_S1.symm ▸ Nat.one_pos))) : BitVec 32)
        = (m ((0 : Dev nD).tc.loc main_arg0) ((Rect.unit (s := S1) ![0] S1.size inb_S1_S1_0).emb (Shape.Idx.first (numel1_S1.symm ▸ Nat.one_pos))) : BitVec 32) := rfl
      rw [e]; omega
    | ⟨1, _⟩ =>
      show ((BitVec.ofNat 32 (i 0).val).toNat + 1) * 352 ≤ 704
      have hi : (i 0).val < 2 := (i 0).isLt
      rw [BitVec.toNat_ofNat, Nat.mod_eq_of_lt (by omega)]; omega
    | ⟨2, _⟩ => show ((0#32 : BitVec 32).toNat + 1) * 1024 ≤ 1024; decide
  exact ⟨hb, .inr (Affine.block_words_dvd (of_decide_eq_true rfl) (by decide))⟩
end Cert.AdamGateUp

namespace Cert.AdamGateUpIdeal
open Cert.AdamGateUpIdeal.Gen Cert.Sums Cert.Adam
variable (m : (ℓ : Loc nD τ sig) → Buf (Elt Ideal) ℓ)
/-- The device's index, as the kernel reads it. -/
def me : BitVec 32 := m ((0 : Dev nD).tc.loc main_arg0) ((Rect.unit (s := S1) ![0] S1.size inb_S1_S1_0).emb (Shape.Idx.first (numel1_S1.symm ▸ Nat.one_pos)))
theorem me_bounds (h : Cert.Pre_AdamGateUpIdeal m) : (me m).toNat < 8 ∧ (me m).toInt = ((me m).toNat : ℤ) := Cert.Adam.device_adam_gu_bounds (h 0) _
/-- The precondition puts every block of the parts inside their array. -/
theorem ok_of_pre (h : Cert.Pre_AdamGateUpIdeal m) : Ok m := fun i => by
  have hv := (me_bounds m h).1
  have hb : ∀ a, (cc0_transform_3 inb_S1_S1_0 numel1_S1 (tbl m) i a + 1) * S1x352x1024.size a ≤ S8x704x1024.size a := fun a => by
    match a with
    | ⟨0, _⟩ =>
      show ((me m).toNat + 1) * 1 ≤ 8
      omega
    | ⟨1, _⟩ =>
      show ((BitVec.ofNat 32 (i 0).val).toNat + 1) * 352 ≤ 704
      have hi : (i 0).val < 2 := (i 0).isLt
      rw [BitVec.toNat_ofNat, Nat.mod_eq_of_lt (by omega)]; omega
    | ⟨2, _⟩ => show ((0#32 : BitVec 32).toNat + 1) * 1024 ≤ 1024; decide
  exact ⟨hb, .inr (Affine.block_words_dvd (of_decide_eq_true rfl) (by decide))⟩

/-! ## The arrays -/
variable (c : Dev nD)
/-- The weight. -/
def w : ℕ → ℕ → EReal := entries (m (c.tc.loc main_arg1) : S704x1024.Idx → EReal)
/-- The first moment. -/
def m1 : ℕ → ℕ → EReal := entries (m (c.tc.loc main_arg2) : S704x1024.Idx → EReal)
/-- The second moment. -/
def m2 : ℕ → ℕ → EReal := entries (m (c.tc.loc main_arg3) : S704x1024.Idx → EReal)
/-- This device's gradient, in eight parts. -/
def parts : ℕ → ℕ → ℕ → EReal := entries3 (m (c.tc.loc main_arg4) : S8x704x1024.Idx → EReal)
/-- The parts the seven other devices sent. -/
def land : ℕ → ℕ → ℕ → EReal := entries3 (m (c.tc.loc main_arg5) : S7x704x1024.Idx → EReal)
/-- The gradient. -/
def g : ℕ → ℕ → EReal := grad (me m).toNat (parts m c) (land m c)
/-- The new first moment. -/
def nm (p j : ℕ) : EReal := newM (g m c p j) (m1 m c p j)
/-- The new second moment. -/
def nv (p j : ℕ) : EReal := newV (g m c p j) (m2 m c p j)
/-- The step. -/
def dw (p j : ℕ) : EReal := delta (w m c p j) (nm m c p j) (nv m c p j)

/-! ## The windows -/
variable (hO : Ok m)
theorem coord0 (t : Fin (cfgM m hO).N) : (grid0.coords t 0).val = t.val := (by decide +kernel : ∀ t : Fin grid0.N, (grid0.coords t 0).val = t.val) t
theorem points (t : Fin (cfgM m hO).N) : t.val < 2 := lt_of_lt_of_eq t.isLt N_0
/-- A row of a point's block in the whole array. -/
def row (t : Fin (cfgM m hO).N) (p : Fin 352) : Fin 704 := ⟨352 * t.val + p.val, by have := points m hO t; have := p.isLt; omega⟩
theorem row_place (t : Fin (cfgM m hO).N) (p : ℕ) : (BitVec.ofNat 32 (grid0.coords t 0).val).toNat * 352 + 1 * p = 352 * t.val + p := by
  have := points m hO t
  rw [coord0 m hO t, BitVec.toNat_ofNat, Nat.mod_eq_of_lt (by omega)]; omega
theorem zero_place (n j : ℕ) : (0#32 : BitVec 32).toNat * n + 1 * j = j := by rw [show (0#32 : BitVec 32).toNat = 0 from rfl]; omega
theorem place (t : Fin (cfgM m hO).N) (p : Fin 352) (j : Fin 1024) (e : S704x1024.Idx) (h0 : (e 0).val = (BitVec.ofNat 32 (grid0.coords t 0).val).toNat * 352 + 1 * p.val)
    (h1 : (e 1).val = (0#32 : BitVec 32).toNat * 1024 + 1 * j.val) : e = ValueIdx.ix2 (row m hO t p) j := funext fun a => Fin.ext (by
  match a with
  | ⟨0, _⟩ => exact h0.trans (row_place m hO t p.val)
  | ⟨1, _⟩ => exact h1.trans (zero_place _ _))
/-- Window 0 reads 352 rows a point. -/
theorem block0 (t : Fin (cfgM m hO).N) : Ex2 (iblk m hO c 0 t : S352x1024.Idx → EReal) (fun p j => w m c (352 * t.val + p) j) := fun p j => by
  show V m c main_arg1 ((((cfgM m hO).win 0).blk t).view.emb (ValueIdx.ix2 p j)) = _
  exact (congrFun (V_main_arg1 m c) _).trans ((congrArg (m (c.tc.loc main_arg1)) (place m hO t p j _ rfl rfl)).trans (entries_is (m (c.tc.loc main_arg1) : S704x1024.Idx → EReal) (row m hO t p) j))
/-- Window 1 reads 352 rows a point. -/
theorem block1 (t : Fin (cfgM m hO).N) : Ex2 (iblk m hO c 1 t : S352x1024.Idx → EReal) (fun p j => m1 m c (352 * t.val + p) j) := fun p j => by
  show V m c main_arg2 ((((cfgM m hO).win 1).blk t).view.emb (ValueIdx.ix2 p j)) = _
  exact (congrFun (V_main_arg2 m c) _).trans ((congrArg (m (c.tc.loc main_arg2)) (place m hO t p j _ rfl rfl)).trans (entries_is (m (c.tc.loc main_arg2) : S704x1024.Idx → EReal) (row m hO t p) j))
/-- Window 2 reads 352 rows a point. -/
theorem block2 (t : Fin (cfgM m hO).N) : Ex2 (iblk m hO c 2 t : S352x1024.Idx → EReal) (fun p j => m2 m c (352 * t.val + p) j) := fun p j => by
  show V m c main_arg3 ((((cfgM m hO).win 2).blk t).view.emb (ValueIdx.ix2 p j)) = _
  exact (congrFun (V_main_arg3 m c) _).trans ((congrArg (m (c.tc.loc main_arg3)) (place m hO t p j _ rfl rfl)).trans (entries_is (m (c.tc.loc main_arg3) : S704x1024.Idx → EReal) (row m hO t p) j))

/-- Window 3 reads this device's own part, 352 rows a point. -/
theorem block3 (t : Fin (cfgM m hO).N) : Ex3 (iblk m hO c 3 t : S1x352x1024.Idx → EReal) (fun k p j => parts m c ((me m).toNat + k) (352 * t.val + p) j) := fun k p j => by
  obtain rfl : c = 0 := Subsingleton.elim _ _
  have hN := points m hO t
  have hk : k.val = 0 := by have := k.isLt; omega
  have hr : 352 * t.val + p.val < 704 := by have := p.isLt; omega
  have hm : (me m).toNat + 1 ≤ 8 := by
    obtain ⟨hh, _⟩ := hO (grid0.coords t)
    have := hh 0
    have e : ((me m).toNat + 1) * 1 ≤ 8 := this
    omega
  refine Eq.trans ?_ (entries3_is (m ((0 : Dev nD).tc.loc main_arg4) : S8x704x1024.Idx → EReal) ⟨(me m).toNat + k.val, by omega⟩ ⟨352 * t.val + p.val, hr⟩ j)
  show V m (0 : Dev nD) main_arg4 ((((cfgM m hO).win 3).blk t).view.emb (ValueIdx.ix3 k p j)) = m ((0 : Dev nD).tc.loc main_arg4) (ValueIdx.ix3 ⟨(me m).toNat + k.val, by omega⟩ ⟨352 * t.val + p.val, hr⟩ j)
  refine (congrFun (V_main_arg4 m (0 : Dev nD)) _).trans (congrArg (m ((0 : Dev nD).tc.loc main_arg4)) (funext fun a => Fin.ext ?_))
  match a with
  | ⟨0, _⟩ => show (me m).toNat * 1 + 1 * k.val = (me m).toNat + k.val; omega
  | ⟨1, _⟩ => exact row_place m hO t p.val
  | ⟨2, _⟩ => exact zero_place _ _
/-- Window 4 reads what came from the others, 352 rows a point. -/
theorem block4 (t : Fin (cfgM m hO).N) : Ex3 (iblk m hO c 4 t : S7x352x1024.Idx → EReal) (fun k p j => land m c k (352 * t.val + p) j) := fun k p j => by
  have hN := points m hO t
  have hr : 352 * t.val + p.val < 704 := by have := p.isLt; omega
  refine Eq.trans ?_ (entries3_is (m (c.tc.loc main_arg5) : S7x704x1024.Idx → EReal) k ⟨352 * t.val + p.val, hr⟩ j)
  show V m c main_arg5 ((((cfgM m hO).win 4).blk t).view.emb (ValueIdx.ix3 k p j)) = m (c.tc.loc main_arg5) (ValueIdx.ix3 k ⟨352 * t.val + p.val, hr⟩ j)
  refine (congrFun (V_main_arg5 m c) _).trans (congrArg (m (c.tc.loc main_arg5)) (funext fun a => Fin.ext ?_))
  match a with
  | ⟨0, _⟩ => exact zero_place 7 k.val
  | ⟨1, _⟩ => exact row_place m hO t p.val
  | ⟨2, _⟩ => exact zero_place _ _

/-! ## The body -/
section lines
variable {G W M1 M2 : ℕ → ℕ → EReal} {r x y z : FVec Ideal S352x1024 .f32} (hr : Ex2 r G) (hx : Ex2 x W) (hy : Ex2 y M1) (hz : Ex2 z M2)
include hr
theorem pay1_is (hy : Ex2 y M1) : Ex2 (k0_pay1 r y) (fun p j => newM (G p j) (M1 p j)) := fun p j => by
  show _ = newM (G p.val j.val) (M1 p.val j.val)
  unfold k0_pay1
  rw [← hr p j, ← hy p j]
  exact kernel_m r y _
theorem pay2_is (hz : Ex2 z M2) : Ex2 (k0_pay2 r z) (fun p j => newV (G p j) (M2 p j)) := fun p j => by
  show _ = newV (G p.val j.val) (M2 p.val j.val)
  unfold k0_pay2
  rw [← hr p j, ← hz p j]
  exact kernel_v r z _
include hx hy hz
theorem pay3_is : Ex2 (k0_pay3 r x y z) (fun p j => delta (W p j) (newM (G p j) (M1 p j)) (newV (G p j) (M2 p j))) := fun p j => by
  have e1 : _ = newM (G p.val j.val) (M1 p.val j.val) := pay1_is hr hy p j
  have e2 : _ = newV (G p.val j.val) (M2 p.val j.val) := pay2_is hr hz p j
  show _ = delta (W p.val j.val) (newM (G p.val j.val) (M1 p.val j.val)) (newV (G p.val j.val) (M2 p.val j.val))
  unfold k0_pay3
  rw [← e1, ← e2, ← hx p j]
  exact kernel_d x (k0_pay1 r y) (k0_pay2 r z) _
end lines

/-- One of the seven parts that came from the others, as a point reads it. -/
abbrev sent (t : Fin (cfgM m hO).N) (o : ℕ) (inb : ∀ z, (![o, 0, 0] : Fin 3 → ℕ) z + (![1, 352, 1024] : Fin 3 → ℕ) z ≤ S7x352x1024.size z) : Vec Ideal S1x352x1024 .bf16 :=
  View.readAt (Elt Ideal) (ms0_4 m hO t).view (Rect.unit (s := S7x352x1024) ![o, 0, 0] ![1, 352, 1024] inb).toLoadRect ((hs0_4 m hO t).unread (iblk m hO c 4 t))
/-- The sum that a point stores. -/
def total (t : Fin (cfgM m hO).N) : FVec Ideal S352x1024 .f32 :=
  k0_pay4 (View.readAt (Elt Ideal) (ms0_3 m hO t).view (Rect.unit (s := S1x352x1024) ![0, 0, 0] ![1, 352, 1024] inb_S1x352x1024_S1x352x1024_0_0_0).toLoadRect ((hs0_3 m hO t).unread (iblk m hO c 3 t)))
    (sent m c hO t 0 inb_S7x352x1024_S1x352x1024_0_0_0) (sent m c hO t 1 inb_S7x352x1024_S1x352x1024_1_0_0)
    (sent m c hO t 2 inb_S7x352x1024_S1x352x1024_2_0_0) (sent m c hO t 3 inb_S7x352x1024_S1x352x1024_3_0_0)
    (sent m c hO t 4 inb_S7x352x1024_S1x352x1024_4_0_0) (sent m c hO t 5 inb_S7x352x1024_S1x352x1024_5_0_0)
    (sent m c hO t 6 inb_S7x352x1024_S1x352x1024_6_0_0)
/-- The weight as a point reads it. -/
def readW (t : Fin (cfgM m hO).N) : Vec Ideal S352x1024 .f32 := View.readAt (Elt Ideal) (ms0_0 m hO t).view (Rect.unit (s := S352x1024) ![0, 0] ![352, 1024] inb_S352x1024_S352x1024_0_0).toLoadRect ((hs0_0 m hO t).unread (iblk m hO c 0 t))
/-- The first moment as a point reads it. -/
def readM (t : Fin (cfgM m hO).N) : Vec Ideal S352x1024 .f32 := View.readAt (Elt Ideal) (ms0_1 m hO t).view (Rect.unit (s := S352x1024) ![0, 0] ![352, 1024] inb_S352x1024_S352x1024_0_0).toLoadRect ((hs0_1 m hO t).unread (iblk m hO c 1 t))
/-- The second moment as a point reads it. -/
def readV (t : Fin (cfgM m hO).N) : Vec Ideal S352x1024 .f32 := View.readAt (Elt Ideal) (ms0_2 m hO t).view (Rect.unit (s := S352x1024) ![0, 0] ![352, 1024] inb_S352x1024_S352x1024_0_0).toLoadRect ((hs0_2 m hO t).unread (iblk m hO c 2 t))
theorem total_is (t : Fin (cfgM m hO).N) : Ex2 (total m c hO t) (fun p j => g m c (352 * t.val + p) j) := by
  unfold total k0_pay4
  have hs (o : ℕ) := slabLoad (hs0_4 m hO t) (block4 m c hO t) o
  exact ((((((((slabLoad (hs0_3 m hO t) (block3 m c hO t) 0 _ _ _).add (hs 0 _ _ _)).add (hs 1 _ _ _)).add (hs 2 _ _ _)).add (hs 3 _ _ _)).add (hs 4 _ _ _)).add (hs 5 _ _ _)).add (hs 6 _ _ _)).congr
    (g := fun p j => g m c (352 * t.val + p) j) (fun p j _ _ => chain (me m).toNat (parts m c) (land m c) (352 * t.val + p) j)
theorem readW_is (t : Fin (cfgM m hO).N) : Ex2 (readW m c hO t) (fun p j => w m c (352 * t.val + p) j) := Ex2.load (hs0_0 m hO t) (block0 m c hO t) inb_S352x1024_S352x1024_0_0
theorem readM_is (t : Fin (cfgM m hO).N) : Ex2 (readM m c hO t) (fun p j => m1 m c (352 * t.val + p) j) := Ex2.load (hs0_1 m hO t) (block1 m c hO t) inb_S352x1024_S352x1024_0_0
theorem readV_is (t : Fin (cfgM m hO).N) : Ex2 (readV m c hO t) (fun p j => m2 m c (352 * t.val + p) j) := Ex2.load (hs0_2 m hO t) (block2 m c hO t) inb_S352x1024_S352x1024_0_0
theorem outs_is (t : Fin (cfgM m hO).N) : outsAt0 m hO c t
    = (VO0_5.read (Elt Ideal) (VO0_5.writes (Elt Ideal) VO0_5.junk [⟨Rect.unit (s := S352x1024) ![0, 0] ![352, 1024] inb_S352x1024_S352x1024_0_0, total m c hO t⟩]),
      VO0_6.read (Elt Ideal) (VO0_6.writes (Elt Ideal) VO0_6.junk [⟨Rect.unit (s := S352x1024) ![0, 0] ![352, 1024] inb_S352x1024_S352x1024_0_0, k0_pay3 (total m c hO t) (readW m c hO t) (readM m c hO t) (readV m c hO t)⟩]),
      VO0_7.read (Elt Ideal) (VO0_7.writes (Elt Ideal) VO0_7.junk [⟨Rect.unit (s := S352x1024) ![0, 0] ![352, 1024] inb_S352x1024_S352x1024_0_0, k0_pay1 (total m c hO t) (readM m c hO t)⟩]),
      VO0_8.read (Elt Ideal) (VO0_8.writes (Elt Ideal) VO0_8.junk [⟨Rect.unit (s := S352x1024) ![0, 0] ![352, 1024] inb_S352x1024_S352x1024_0_0, k0_pay2 (total m c hO t) (readV m c hO t)⟩])) := rfl
theorem step_is (t : Fin (cfgM m hO).N) : Ex2 (k0_pay3 (total m c hO t) (readW m c hO t) (readM m c hO t) (readV m c hO t)) (fun p j => dw m c (352 * t.val + p) j) :=
  pay3_is (total_is m c hO t) (readW_is m c hO t) (readM_is m c hO t) (readV_is m c hO t)
theorem moment1_is (t : Fin (cfgM m hO).N) : Ex2 (k0_pay1 (total m c hO t) (readM m c hO t)) (fun p j => nm m c (352 * t.val + p) j) := pay1_is (total_is m c hO t) (readM_is m c hO t)
theorem moment2_is (t : Fin (cfgM m hO).N) : Ex2 (k0_pay2 (total m c hO t) (readV m c hO t)) (fun p j => nv m c (352 * t.val + p) j) := pay2_is (total_is m c hO t) (readV_is m c hO t)
theorem after5 (t : Fin (cfgM m hO).N) : Ex2 ((outsAt0 m hO c t).1 : S352x1024.Idx → EReal) (fun p j => g m c (352 * t.val + p) j) := by
  rw [outs_is m c hO t]; dsimp only; exact Ex2.store VO0_5 _ _ (total_is m c hO t)
theorem after6 (t : Fin (cfgM m hO).N) : Ex2 ((outsAt0 m hO c t).2.1 : S352x1024.Idx → EReal) (fun p j => dw m c (352 * t.val + p) j) := by
  rw [outs_is m c hO t]; dsimp only; exact Ex2.store VO0_6 _ _ (step_is m c hO t)
theorem after7 (t : Fin (cfgM m hO).N) : Ex2 ((outsAt0 m hO c t).2.2.1 : S352x1024.Idx → EReal) (fun p j => nm m c (352 * t.val + p) j) := by
  rw [outs_is m c hO t]; dsimp only; exact Ex2.store VO0_7 _ _ (moment1_is m c hO t)
theorem after8 (t : Fin (cfgM m hO).N) : Ex2 ((outsAt0 m hO c t).2.2.2 : S352x1024.Idx → EReal) (fun p j => nv m c (352 * t.val + p) j) := by
  rw [outs_is m c hO t]; dsimp only; exact Ex2.store VO0_8 _ _ (moment2_is m c hO t)

/-! ## The arrays at the end -/
/-- The array of a function of row and column. -/
def arr (f : ℕ → ℕ → EReal) : S704x1024.Idx → EReal := fun i => f (i 0).val (i 1).val
theorem arr_is (f : ℕ → ℕ → EReal) : Ex2 (arr f) f := fun _ _ => rfl
theorem flush_is (t : Fin (cfgM m hO).N) {x : S352x1024.Idx → EReal} {f : ℕ → ℕ → EReal} (h : Ex2 x (fun p j => f (352 * t.val + p) j)) (e : S352x1024.Idx → S704x1024.Idx)
    (h0 : ∀ y, (e y 0).val = (BitVec.ofNat 32 (grid0.coords t 0).val).toNat * 352 + 1 * (y 0).val) (h1 : ∀ y, (e y 1).val = (0#32 : BitVec 32).toNat * 1024 + 1 * (y 1).val) :
    x = fun y => arr f (e y) := funext fun y => by
  obtain ⟨p, j, rfl⟩ : ∃ (p : Fin 352) (j : Fin 1024), y = ValueIdx.ix2 p j := ⟨y 0, y 1, ValueIdx.eq_ix2 y⟩
  exact (h p j).trans (congrArg (arr f) (place m hO t p j _ (h0 _) (h1 _)).symm)
/-- The blocks of the points make up the whole array. -/
theorem cover (i : S704x1024.Idx) : ∃ t : Fin (cfgM m hO).N, i ∈ (((cfgM m hO).win 5).rect t).set := by
  have h0 : (i 0).val < 704 := (i 0).isLt
  have h1 : (i 1).val < 1024 := (i 1).isLt
  have hq : (i 0).val / 352 < (cfgM m hO).N := lt_of_lt_of_eq (show (i 0).val / 352 < 2 by omega) N_0.symm
  refine ⟨⟨(i 0).val / 352, hq⟩, Rect.mem_set_unit.mpr fun a => ?_⟩
  match a with
  | ⟨0, _⟩ =>
    show (BitVec.ofNat 32 (grid0.coords ⟨(i 0).val / 352, hq⟩ 0).val).toNat * 352 ≤ (i 0).val ∧ (i 0).val < (BitVec.ofNat 32 (grid0.coords ⟨(i 0).val / 352, hq⟩ 0).val).toNat * 352 + 352
    rw [coord0 m hO ⟨(i 0).val / 352, hq⟩, BitVec.toNat_ofNat, Nat.mod_eq_of_lt (by show (i 0).val / 352 < 2 ^ 32; omega)]; dsimp only; omega
  | ⟨1, _⟩ =>
    show (0#32 : BitVec 32).toNat * 1024 ≤ (i 1).val ∧ (i 1).val < (0#32 : BitVec 32).toNat * 1024 + 1024
    rw [show (0#32 : BitVec 32).toNat = 0 from rfl]; omega
theorem flushed5 (t : Fin (cfgM m hO).N) : (dats m hO 0 c).flushed 5 t = (((cfgM m hO).win 5).blk t).view.read (Elt Ideal) (arr (g m c)) := by
  show ((cfgM m hO).win 5).cut (grid0.coords t) ((dats m hO 0 c).after 5 t) = _
  rw [after0_5]
  exact flush_is m hO t (after5 m c hO t) (fun y => (((cfgM m hO).win 5).blk t).view.emb y) (fun _ => rfl) (fun _ => rfl)
/-- Output 5 at the end. -/
theorem final5 : (dats m hO 0 c).arrAt 5 (cfgM m hO).N = arr (g m c) :=
  (dats m hO 0 c).arrAt_eq_of_cover 5 _ (fun t _ => flushed5 m c hO t) (fun (i : S704x1024.Idx) => by
    obtain ⟨t, h⟩ := cover m hO i
    exact ⟨t, flush0_5 (adm m hO) t, (Finset.ext_iff.mp (View.set_slice_whole main_v0_0 (((cfgM m hO).win 5).rect t)) i).mpr h⟩)
theorem flushed6 (t : Fin (cfgM m hO).N) : (dats m hO 0 c).flushed 6 t = (((cfgM m hO).win 6).blk t).view.read (Elt Ideal) (arr (dw m c)) := by
  show ((cfgM m hO).win 6).cut (grid0.coords t) ((dats m hO 0 c).after 6 t) = _
  rw [after0_6]
  exact flush_is m hO t (after6 m c hO t) (fun y => (((cfgM m hO).win 6).blk t).view.emb y) (fun _ => rfl) (fun _ => rfl)
/-- Output 6 at the end. -/
theorem final6 : (dats m hO 0 c).arrAt 6 (cfgM m hO).N = arr (dw m c) :=
  (dats m hO 0 c).arrAt_eq_of_cover 6 _ (fun t _ => flushed6 m c hO t) (fun (i : S704x1024.Idx) => by
    obtain ⟨t, h⟩ := cover m hO i
    exact ⟨t, flush0_6 (adm m hO) t, (Finset.ext_iff.mp (View.set_slice_whole main_v0_1 (((cfgM m hO).win 6).rect t)) i).mpr h⟩)
theorem flushed7 (t : Fin (cfgM m hO).N) : (dats m hO 0 c).flushed 7 t = (((cfgM m hO).win 7).blk t).view.read (Elt Ideal) (arr (nm m c)) := by
  show ((cfgM m hO).win 7).cut (grid0.coords t) ((dats m hO 0 c).after 7 t) = _
  rw [after0_7]
  exact flush_is m hO t (after7 m c hO t) (fun y => (((cfgM m hO).win 7).blk t).view.emb y) (fun _ => rfl) (fun _ => rfl)
/-- Output 7 at the end. -/
theorem final7 : (dats m hO 0 c).arrAt 7 (cfgM m hO).N = arr (nm m c) :=
  (dats m hO 0 c).arrAt_eq_of_cover 7 _ (fun t _ => flushed7 m c hO t) (fun (i : S704x1024.Idx) => by
    obtain ⟨t, h⟩ := cover m hO i
    exact ⟨t, flush0_7 (adm m hO) t, (Finset.ext_iff.mp (View.set_slice_whole main_v0_2 (((cfgM m hO).win 7).rect t)) i).mpr h⟩)
theorem flushed8 (t : Fin (cfgM m hO).N) : (dats m hO 0 c).flushed 8 t = (((cfgM m hO).win 8).blk t).view.read (Elt Ideal) (arr (nv m c)) := by
  show ((cfgM m hO).win 8).cut (grid0.coords t) ((dats m hO 0 c).after 8 t) = _
  rw [after0_8]
  exact flush_is m hO t (after8 m c hO t) (fun y => (((cfgM m hO).win 8).blk t).view.emb y) (fun _ => rfl) (fun _ => rfl)
/-- Output 8 at the end. -/
theorem final8 : (dats m hO 0 c).arrAt 8 (cfgM m hO).N = arr (nv m c) :=
  (dats m hO 0 c).arrAt_eq_of_cover 8 _ (fun t _ => flushed8 m c hO t) (fun (i : S704x1024.Idx) => by
    obtain ⟨t, h⟩ := cover m hO i
    exact ⟨t, flush0_8 (adm m hO) t, (Finset.ext_iff.mp (View.set_slice_whole main_v0_3 (((cfgM m hO).win 8).rect t)) i).mpr h⟩)

/-- The run: the four arrays, and the arguments as they were. -/
theorem run (hO : Ok m) (ρ : Dev nD → PrngReg) : θ_run defs (onTc (τ := τ) (main (F := Ideal))) ⟨m, fun _ => 0, ρ⟩ (fun r => ∀ c : Dev nD,
      r.2.mem (c.tc.loc main_v0_0) = arr (g m c)
      ∧ r.2.mem (c.tc.loc main_v0_1) = arr (dw m c)
      ∧ r.2.mem (c.tc.loc main_v0_2) = arr (nm m c)
      ∧ r.2.mem (c.tc.loc main_v0_3) = arr (nv m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)) :=
  (θ_run defs _ _).mono (fun r h c => ⟨(h.1 c).1 5 |>.trans (final5 m c hO), (h.1 c).1 6 |>.trans (final6 m c hO), (h.1 c).1 7 |>.trans (final7 m c hO),
    (h.1 c).1 8 |>.trans (final8 m c hO), h.2 c⟩) (θ_run_and (run_main m ρ hO) (unchanged m ρ hO))
end Cert.AdamGateUpIdeal

namespace Cert.AdamGateUpReferenceIdeal
open Cert.AdamGateUpReferenceIdeal.Gen Cert.AdamGateUpReferenceIdeal.Staged Cert.Sums Cert.Adam
section lines
variable {x0 : IVec S1 32} {i : BitVec 32} (h0 : ∀ j, x0 j = i) (hb : i.toNat < 8 ∧ i.toInt = (i.toNat : ℤ))
  {x4 : FVec Ideal S8x704x1024 .bf16} {x5 : FVec Ideal S7x704x1024 .bf16} {P L : ℕ → ℕ → ℕ → EReal} (h4 : Ex3 x4 P) (h5 : Ex3 x5 L)
include h0 hb
theorem index_is (j : S_.Idx) : select (cmpi .slt (shapeCast _ x0 shapeCasts_S1_S_) (constantI S_ 32 0#32)) (addi (shapeCast _ x0 shapeCasts_S1_S_) (constantI S_ 32 8#32)) (shapeCast _ x0 shapeCasts_S1_S_) j = i := by
  have e : shapeCast S_ x0 shapeCasts_S1_S_ j = i := h0 _
  refine (select_slt_zero_of_nonneg (shapeCast S_ x0 shapeCasts_S1_S_) _ (shapeCast S_ x0 shapeCasts_S1_S_) j ?_).trans e
  rw [e, hb.2]; omega
include h4 h5
theorem grad_is : Ex2 (sum (F := Ideal) x0 x4 x5) (grad i.toNat P L) := fun p j => by
  have e4 := slab (f := fun k p j => P (i.toNat + k) p j) (Cert.Adam.own hb.1 hb.2 h4
    (fun k => (((![select (cmpi .slt (shapeCast _ x0 shapeCasts_S1_S_) (constantI S_ 32 0#32)) (addi (shapeCast _ x0 shapeCasts_S1_S_) (constantI S_ 32 8#32)) (shapeCast _ x0 shapeCasts_S1_S_), constantI S_ 32 0#32, constantI S_ 32 0#32] : Fin 3 → (⟨S_, .i32⟩ : BufTy).Contents (Elt Ideal))) k (Shape.Idx.first h_S_)).toInt)
    (congrArg BitVec.toInt (index_is h0 hb (Shape.Idx.first h_S_))) rfl rfl sliceFits_S8x704x1024_S1x704x1024) shapeCasts_S1x704x1024_S704x1024 bitsLt_bf16_f32 p j
  refine congrArg₂ (fun a b : EReal => a + b) e4 ?_
  simp only [Host.reduceAdd, Ideal.hostReduceAdd_def]
  rw [Ideal.hostReduceAdd_single reducesTo_S7x704x1024_S704x1024_d0 (by decide)]
  rw [show (constant (F := Ideal) S_ .f32 0x00000000#32) (Shape.Idx.first h_S_) = (0 : EReal) from Ideal.ofBits_zero_f32, zero_add]
  refine Finset.sum_congr rfl fun k _ => ?_
  refine Eq.trans (congrArg x5 ?_) (h5 k p j)
  exact funext fun a => Fin.ext (by match a with | ⟨0, _⟩ => rfl | ⟨1, _⟩ => rfl | ⟨2, _⟩ => rfl)
end lines
theorem step_apply (x1 m v : FVec Ideal S704x1024 .f32) (j : S704x1024.Idx) : step (F := Ideal) x1 m v j = delta (x1 j) (m j) (v j) := by
  unfold step
  exact host_d bcast_S_S704x1024 x1 m v j
section lines
variable {x0 x1 x2 x3 : FVec Ideal S704x1024 .f32} {G W M1 M2 : ℕ → ℕ → EReal} (h0 : Ex2 x0 G)
include h0
theorem m_is (h2 : Ex2 x2 M1) : Ex2 (moment1 (F := Ideal) x0 x2) (fun p j => newM (G p j) (M1 p j)) := fun p j => by
  show _ = newM (G p.val j.val) (M1 p.val j.val)
  rw [← h0 p j, ← h2 p j]
  exact host_m bcast_S_S704x1024 x0 x2 _
theorem v_is (h3 : Ex2 x3 M2) : Ex2 (moment2 (F := Ideal) x0 x3) (fun p j => newV (G p j) (M2 p j)) := fun p j => by
  show _ = newV (G p.val j.val) (M2 p.val j.val)
  rw [← h0 p j, ← h3 p j]
  exact host_v bcast_S_S704x1024 x0 x3 _
omit h0 in
theorem d_is (h1 : Ex2 x1 W) (h2 : Ex2 x2 M1) (h3 : Ex2 x3 M2) : Ex2 (step (F := Ideal) x1 x2 x3) (fun p j => delta (W p j) (M1 p j) (M2 p j)) := fun p j => by
  refine (step_apply x1 x2 x3 (ValueIdx.ix2 p j)).trans ?_
  rw [h1 p j, h2 p j, h3 p j]
end lines
end Cert.AdamGateUpReferenceIdeal

namespace Cert.Adam
open Cert.Sums
open Cert.AdamGateUpIdeal (arr arr_is me w m1 m2 parts land g dw nm nv)
/-- The kernel and the reference end with the same four arrays. -/
theorem device_adam_gu_equation : Cert.algebraic_AdamGateUpIdeal_AdamGateUpReferenceIdeal
    (hAdamGateUpIdeal := Cert.AdamGateUpIdeal.Gen.facts) (hAdamGateUpReferenceIdeal := Cert.AdamGateUpReferenceIdeal.Gen.facts)
    (hPre_device_adam_gu := Cert.Pre_device_adam_gu.Gen.facts) := by
  intro m ρ m' ρ' hpre harg
  have hb := Cert.AdamGateUpIdeal.me_bounds m hpre
  refine ⟨fun c => arr (g m c), fun c => arr (dw m c), fun c => arr (nm m c), fun c => arr (nv m c),
    Cert.AdamGateUpIdeal.run m (Cert.AdamGateUpIdeal.ok_of_pre m hpre) ρ, ?_⟩
  refine (θ_run _ _ _).mono (fun r h c => ?_) (Cert.AdamGateUpReferenceIdeal.Staged.run m' ρ')
  obtain ⟨e0, e1, e2, e3, e4, e5⟩ := harg c
  obtain ⟨hg, hd, hm, hv, hrest⟩ := h c
  have h0 : ∀ j, m' (c.tc.loc Cert.AdamGateUpReferenceIdeal.main_arg0) j = me m := fun j => by
    rw [e0]
    obtain rfl : c = 0 := Subsingleton.elim _ _
    unfold me
    exact congrArg (m ((0 : Dev Cert.AdamGateUpIdeal.nD).tc.loc Cert.AdamGateUpIdeal.main_arg0))
      (funext fun (a : Fin 1) => match a with | ⟨0, _⟩ => Subsingleton.elim (α := Fin 1) _ _)
  have h1 : Ex2 (m' (c.tc.loc Cert.AdamGateUpReferenceIdeal.main_arg1) : Cert.AdamGateUpReferenceIdeal.S704x1024.Idx → EReal) (w m c) := by
    rw [e1]; exact entries_is _
  have h2 : Ex2 (m' (c.tc.loc Cert.AdamGateUpReferenceIdeal.main_arg2) : Cert.AdamGateUpReferenceIdeal.S704x1024.Idx → EReal) (m1 m c) := by
    rw [e2]; exact entries_is _
  have h3 : Ex2 (m' (c.tc.loc Cert.AdamGateUpReferenceIdeal.main_arg3) : Cert.AdamGateUpReferenceIdeal.S704x1024.Idx → EReal) (m2 m c) := by
    rw [e3]; exact entries_is _
  have h4 : Ex3 (m' (c.tc.loc Cert.AdamGateUpReferenceIdeal.main_arg4) : Cert.AdamGateUpReferenceIdeal.S8x704x1024.Idx → EReal) (parts m c) := by
    rw [e4]; exact entries3_is _
  have h5 : Ex3 (m' (c.tc.loc Cert.AdamGateUpReferenceIdeal.main_arg5) : Cert.AdamGateUpReferenceIdeal.S7x704x1024.Idx → EReal) (land m c) := by
    rw [e5]; exact entries3_is _
  have hs := Cert.AdamGateUpReferenceIdeal.grad_is h0 hb h4 h5
  exact ⟨hg.trans (hs.unique (arr_is (g m c))),
    hd.trans ((Cert.AdamGateUpReferenceIdeal.d_is h1 (Cert.AdamGateUpReferenceIdeal.m_is hs h2) (Cert.AdamGateUpReferenceIdeal.v_is hs h3)).unique (arr_is (dw m c))),
    hm.trans ((Cert.AdamGateUpReferenceIdeal.m_is hs h2).unique (arr_is (nm m c))),
    hv.trans ((Cert.AdamGateUpReferenceIdeal.v_is hs h3).unique (arr_is (nv m c))), hrest⟩
end Cert.Adam
end
-- ==== Proof.AdamOutReference.lean ====
/-
One of the optimiser's references, run in two stages: the gradient's sum, and the moments and the step from it.
-/
module
public import proofs.«01_k».proof.Proof.Gen.AdamOutReferenceIdeal
public import Idealize.ShloMosaic.Lib.StableHlo.Run
public import Idealize.ShloMosaic.Lib.StableHlo.RunClose
@[expose] public section
noncomputable section
namespace Cert.AdamOutReferenceIdeal.Staged
open Cert.AdamOutReferenceIdeal Cert.AdamOutReferenceIdeal.Gen Idealize.ShloMosaic Idealize.ShloMosaic.TcCoe Idealize.SL.Sem Idealize.ShloMosaic.StableHlo
-- Short names for the types of the arrays: integers, truth values, f32 and bf16.
abbrev Iv (F : FTy → Type) : Type := (⟨S1, .i32⟩ : BufTy).Contents (Elt F)
abbrev Hs (F : FTy → Type) : Type := (⟨S128x1024, .bf16⟩ : BufTy).Contents (Elt F)
abbrev Rs (F : FTy → Type) : Type := (⟨S128x1024, .f32⟩ : BufTy).Contents (Elt F)
abbrev H1 (F : FTy → Type) : Type := (⟨S1x128x1024, .bf16⟩ : BufTy).Contents (Elt F)
abbrev H7 (F : FTy → Type) : Type := (⟨S7x128x1024, .bf16⟩ : BufTy).Contents (Elt F)
abbrev R7 (F : FTy → Type) : Type := (⟨S7x128x1024, .f32⟩ : BufTy).Contents (Elt F)
abbrev H8 (F : FTy → Type) : Type := (⟨S8x128x1024, .bf16⟩ : BufTy).Contents (Elt F)
abbrev R0 (F : FTy → Type) : Type := (⟨S_, .f32⟩ : BufTy).Contents (Elt F)
abbrev P0 (F : FTy → Type) : Type := (⟨S_, .i1⟩ : BufTy).Contents (Elt F)
abbrev I0 (F : FTy → Type) : Type := (⟨S_, .i32⟩ : BufTy).Contents (Elt F)
variable {F : FTy → Type} [FloatOps F]

/-- The operations up to the gradient. -/
abbrev opsA : List (HloOp τ sig (Elt F)) :=
  [ reshape main_arg0 main_v0 (rfl : (.i32 : EltTy) = .i32) shapeCasts_S1_S_,
    nullary main_c (constantI S_ 32 0#32),
    binary main_v0 main_c main_v1 (cmpi .slt : I0 F → I0 F → P0 F),
    nullary main_c_0 (constantI S_ 32 8#32),
    binary main_v0 main_c_0 main_v2 (addi : I0 F → I0 F → I0 F),
    ternary main_v1 main_v2 main_v0 main_v3 (select : P0 F → I0 F → I0 F → I0 F),
    nullary main_c_1 (constantI S_ 32 0#32),
    nullary main_c_2 (constantI S_ 32 0#32),
    unaryIndexed main_arg4 ![main_v3, main_c_1, main_c_2] ⟨S_, .i32⟩ main_v4 ((fun x i => Host.dynamicSlice S1x128x1024 x (fun k => (i k (Shape.Idx.first h_S_)).toInt) sliceFits_S8x128x1024_S1x128x1024) : H8 F → (Fin 3 → I0 F) → H1 F),
    reshape main_v4 main_v5 (rfl : (.bf16 : EltTy) = .bf16) shapeCasts_S1x128x1024_S128x1024,
    unary main_v5 main_v6 ((extf .f32 · bitsLt_bf16_f32) : Hs F → Rs F),
    unary main_arg5 main_v7 ((extf .f32 · bitsLt_bf16_f32) : H7 F → R7 F),
    nullary main_cst (constant S_ .f32 0x00000000#32),
    binary main_v7 main_cst main_v8 ((fun x v => Host.reduceAdd x v reducesTo_S7x128x1024_S128x1024_d0 h_S_) : R7 F → R0 F → Rs F),
    binary main_v6 main_v8 main_v9 (addf : Rs F → Rs F → Rs F) ]
/-- The operations after it. -/
abbrev opsB : List (HloOp τ sig (Elt F)) :=
  [ nullary main_cst_3 (constant S_ .f32 0x3F666666#32),
    unary main_cst_3 main_v10 (broadcastInDim S128x1024 ![] bcast_S_S128x1024 : R0 F → Rs F),
    binary main_v10 main_arg2 main_v11 (mulf : Rs F → Rs F → Rs F),
    nullary main_cst_4 (constant S_ .f32 0x3DCCCCCD#32),
    unary main_cst_4 main_v12 (broadcastInDim S128x1024 ![] bcast_S_S128x1024 : R0 F → Rs F),
    binary main_v12 main_v9 main_v13 (mulf : Rs F → Rs F → Rs F),
    binary main_v11 main_v13 main_v14 (addf : Rs F → Rs F → Rs F),
    nullary main_cst_5 (constant S_ .f32 0x3F7FBE77#32),
    unary main_cst_5 main_v15 (broadcastInDim S128x1024 ![] bcast_S_S128x1024 : R0 F → Rs F),
    binary main_v15 main_arg3 main_v16 (mulf : Rs F → Rs F → Rs F),
    binary main_v9 main_v9 main_v17 (mulf : Rs F → Rs F → Rs F),
    nullary main_cst_6 (constant S_ .f32 0x3A83126F#32),
    unary main_cst_6 main_v18 (broadcastInDim S128x1024 ![] bcast_S_S128x1024 : R0 F → Rs F),
    binary main_v18 main_v17 main_v19 (mulf : Rs F → Rs F → Rs F),
    binary main_v16 main_v19 main_v20 (addf : Rs F → Rs F → Rs F),
    nullary main_cst_7 (constant S_ .f32 0x3F26BD02#32),
    unary main_cst_7 main_v21 (broadcastInDim S128x1024 ![] bcast_S_S128x1024 : R0 F → Rs F),
    binary main_v14 main_v21 main_v22 (Host.divf : Rs F → Rs F → Rs F),
    nullary main_cst_8 (constant S_ .f32 0x3C231ACC#32),
    unary main_cst_8 main_v23 (broadcastInDim S128x1024 ![] bcast_S_S128x1024 : R0 F → Rs F),
    binary main_v20 main_v23 main_v24 (Host.divf : Rs F → Rs F → Rs F),
    unary main_v24 main_v25 (Host.sqrt : Rs F → Rs F),
    nullary main_cst_9 (constant S_ .f32 0x322BCC77#32),
    unary main_cst_9 main_v26 (broadcastInDim S128x1024 ![] bcast_S_S128x1024 : R0 F → Rs F),
    binary main_v25 main_v26 main_v27 (addf : Rs F → Rs F → Rs F),
    binary main_v22 main_v27 main_v28 (Host.divf : Rs F → Rs F → Rs F),
    nullary main_cst_10 (constant S_ .f32 0x3C23D70A#32),
    unary main_cst_10 main_v29 (broadcastInDim S128x1024 ![] bcast_S_S128x1024 : R0 F → Rs F),
    binary main_v29 main_arg1 main_v30 (mulf : Rs F → Rs F → Rs F),
    binary main_v28 main_v30 main_v31 (addf : Rs F → Rs F → Rs F),
    nullary main_cst_11 (constant S_ .f32 0xBA83126F#32),
    unary main_cst_11 main_v32 (broadcastInDim S128x1024 ![] bcast_S_S128x1024 : R0 F → Rs F),
    binary main_v32 main_v31 main_v33 (mulf : Rs F → Rs F → Rs F) ]
theorem after_append (x y : List (HloOp τ sig (Elt F))) (V : Valuation τ sig (Elt F)) : after (x ++ y) V = after y (after x V) := by
  induction x generalizing V with
  | nil => rfl
  | cons op x ih => exact ih _
set_option maxRecDepth 8192 in
theorem main_eq (c : Dev nD) : main (F := F) c = seq (opsA ++ opsB) := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : ((opsA ++ opsB : List (HloOp τ sig (Elt F)))).Forall fun op => op.bufs ⊆ tcRefs τ sig :=
  ⟨reshape_bufs_sub .., nullary_bufs_sub .., binary_bufs_sub .., nullary_bufs_sub .., binary_bufs_sub .., ternary_bufs_sub .., nullary_bufs_sub .., nullary_bufs_sub .., unaryIndexed_bufs_sub .., reshape_bufs_sub .., unary_bufs_sub .., unary_bufs_sub .., nullary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

/-- The reference's own slab of the parts. -/
def own (x0 : Iv F) (x4 : H8 F) : H1 F :=
  Host.dynamicSlice S1x128x1024 x4 (fun k => (((![select (cmpi .slt (shapeCast _ x0 shapeCasts_S1_S_) (constantI S_ 32 0#32)) (addi (shapeCast _ x0 shapeCasts_S1_S_) (constantI S_ 32 8#32)) (shapeCast _ x0 shapeCasts_S1_S_), constantI S_ 32 0#32, constantI S_ 32 0#32] : Fin 3 → I0 F)) k (Shape.Idx.first h_S_)).toInt) sliceFits_S8x128x1024_S1x128x1024
/-- The gradient. -/
def sum (x0 : Iv F) (x4 : H8 F) (x5 : H7 F) : Rs F :=
  addf (extf .f32 (shapeCast _ (own x0 x4) shapeCasts_S1x128x1024_S128x1024) bitsLt_bf16_f32)
    (Host.reduceAdd (extf .f32 x5 bitsLt_bf16_f32) (constant S_ .f32 0x00000000#32) reducesTo_S7x128x1024_S128x1024_d0 h_S_)
/-- One number everywhere. -/
abbrev fill (b : BitVec 32) : Rs F := broadcastInDim S128x1024 ![] bcast_S_S128x1024 (constant S_ .f32 b)
/-- The new first moment from the gradient. -/
def moment1 (g x2 : Rs F) : Rs F :=
  addf (mulf (fill 0x3F666666#32) x2) (mulf (fill 0x3DCCCCCD#32) g)
/-- The new second moment from the gradient. -/
def moment2 (g x3 : Rs F) : Rs F :=
  addf (mulf (fill 0x3F7FBE77#32) x3) (mulf (fill 0x3A83126F#32) (mulf g g))
/-- The step from the new moments. -/
def step (x1 m v : Rs F) : Rs F :=
  mulf (fill 0xBA83126F#32)
    (addf (Host.divf (Host.divf m (fill 0x3F26BD02#32))
      (addf (Host.sqrt (Host.divf v (fill 0x3C231ACC#32))) (fill 0x322BCC77#32)))
      (mulf (fill 0x3C23D70A#32) x1))

/-! ## The first stage -/
section stages
variable (V : Valuation τ sig (Elt F))
theorem slice_A : after opsA V main_v9 = sum (V main_arg0) (V main_arg4) (V main_arg5) := by
  after_results_simp_entrywise
  rfl
theorem keep_A0 : after opsA V main_arg0 = V main_arg0 := by after_results_simp
theorem keep_A1 : after opsA V main_arg1 = V main_arg1 := by after_results_simp
theorem keep_A2 : after opsA V main_arg2 = V main_arg2 := by after_results_simp
theorem keep_A3 : after opsA V main_arg3 = V main_arg3 := by after_results_simp
theorem keep_A4 : after opsA V main_arg4 = V main_arg4 := by after_results_simp
theorem keep_A5 : after opsA V main_arg5 = V main_arg5 := by after_results_simp
/-! ## The second stage -/
theorem keep_B0 : after opsB V main_arg0 = V main_arg0 := by after_results_simp
theorem keep_B1 : after opsB V main_arg1 = V main_arg1 := by after_results_simp
theorem keep_B2 : after opsB V main_arg2 = V main_arg2 := by after_results_simp
theorem keep_B3 : after opsB V main_arg3 = V main_arg3 := by after_results_simp
theorem keep_B4 : after opsB V main_arg4 = V main_arg4 := by after_results_simp
theorem keep_B5 : after opsB V main_arg5 = V main_arg5 := by after_results_simp
theorem grad_B : after opsB V main_v9 = V main_v9 := by after_results_simp
theorem m_B : after opsB V main_v14 = moment1 (V main_v9) (V main_arg2) := by
  after_results_simp
  rfl
theorem v_B : after opsB V main_v20 = moment2 (V main_v9) (V main_arg3) := by
  after_results_simp
  rfl
theorem d_B : after opsB V main_v33 = step (V main_arg1) (moment1 (V main_v9) (V main_arg2)) (moment2 (V main_v9) (V main_arg3)) := by
  after_results_simp
  rfl
end stages

/-- The gradient in terms of the memory. -/
abbrev sumOf (m : (ℓ : Loc nD τ sig) → Buf (Elt F) ℓ) (c : Dev nD) : Rs F := sum (m (c.tc.loc main_arg0)) (m (c.tc.loc main_arg4)) (m (c.tc.loc main_arg5))
/-- The run: the four results in terms of the arguments, and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem (c.tc.loc main_v9) = sumOf m c
      ∧ r.2.mem (c.tc.loc main_v33) = step (m (c.tc.loc main_arg1))
          (moment1 (sumOf m c) (m (c.tc.loc main_arg2)))
          (moment2 (sumOf m c) (m (c.tc.loc main_arg3)))
      ∧ r.2.mem (c.tc.loc main_v14) = moment1 (sumOf m c) (m (c.tc.loc main_arg2))
      ∧ r.2.mem (c.tc.loc main_v20) = moment2 (sumOf m c) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5) := by
  refine (θ_run defs _ _).mono (fun r h c => ?_) (run_seq scopedRefs_eq scopedSems_eq defs main (fun _ => opsA ++ opsB) main_eq (fun _ => ops_sub) m ρ)
  refine ⟨?_, ?_, ?_, ?_, ?_, ?_, ?_, ?_, ?_, ?_⟩
  · rw [h c main_v9, after_append, grad_B, slice_A]
  · rw [h c main_v33, after_append, d_B, slice_A, keep_A1, keep_A2, keep_A3]
  · rw [h c main_v14, after_append, m_B, slice_A, keep_A2]
  · rw [h c main_v20, after_append, v_B, slice_A, keep_A3]
  · rw [h c main_arg0, after_append, keep_B0, keep_A0]
  · rw [h c main_arg1, after_append, keep_B1, keep_A1]
  · rw [h c main_arg2, after_append, keep_B2, keep_A2]
  · rw [h c main_arg3, after_append, keep_B3, keep_A3]
  · rw [h c main_arg4, after_append, keep_B4, keep_A4]
  · rw [h c main_arg5, after_append, keep_B5, keep_A5]
end Cert.AdamOutReferenceIdeal.Staged
end
-- ==== Proof.AdamOut.lean ====
/-
One of the optimiser's calls: what its windows hold, its four outputs, and the same four arrays from the reference.
-/
module
public import proofs.«01_k».proof.Proof.Adam
public import proofs.«01_k».proof.Proof.Gen.AdamOut.Frame
public import proofs.«01_k».proof.Proof.Gen.AdamOutIdeal.Frame
public import proofs.«01_k».proof.Proof.AdamOutReference
public import Idealize.ShloMosaic.Lib.Pointwise.Reduce
public import proofs.«01_k».proof.Proof.Gen.Pre_device_adam_out
public import proofs.«01_k».proof.Defs
@[expose] public section
noncomputable section
open Idealize.ShloMosaic Idealize.ShloMosaic.TcCoe Idealize.ShloMosaic.StableHlo Idealize.SL.Sem
open scoped BigOperators

/-- The precondition says that the device's index lies below eight. -/
theorem Cert.Adam.device_adam_out_bounds {F : FTy → Type} [FloatOps F] {x0 : IVec Cert.Pre_device_adam_out.S1 32} {x1 x2 x3 : FVec F Cert.Pre_device_adam_out.S128x1024 .f32}
    {x4 : FVec F Cert.Pre_device_adam_out.S8x128x1024 .bf16} {x5 : FVec F Cert.Pre_device_adam_out.S7x128x1024 .bf16}
    (h : Cert.Pre_device_adam_out.fn (F := F) x0 x1 x2 x3 x4 x5 = fun _ => 1#1) (j : Cert.Pre_device_adam_out.S1.Idx) :
    (x0 j).toNat < 8 ∧ (x0 j).toInt = ((x0 j).toNat : ℤ) := Cert.Adam.index_bounds (congrFun h j)

namespace Cert.AdamOut
open Cert.AdamOut.Gen
/-- The precondition puts every block of the parts inside their array. -/
theorem ok_of_pre (m : (ℓ : Loc nD τ sig) → Buf (Elt Bits) ℓ) (h : Cert.Pre_AdamOut m) : Ok m := fun i => by
  have hv := Cert.Adam.device_adam_out_bounds (h 0)
  have hb : ∀ a, (cc0_transform_3 inb_S1_S1_0 numel1_S1 (tbl m) i a + 1) * S1x128x1024.size a ≤ S8x128x1024.size a := fun a => by
    match a with
    | ⟨0, _⟩ =>
      have hw := (hv ((Rect.unit (s := S1) ![0] S1.size inb_S1_S1_0).emb (Shape.Idx.first (numel1_S1.symm ▸ Nat.one_pos)))).1
      show ((tbl m 0 ((Rect.unit (s := S1) ![0] S1.size inb_S1_S1_0).emb (Shape.Idx.first (numel1_S1.symm ▸ Nat.one_pos))) : BitVec 32).toNat + 1) * 1 ≤ 8
      have e : (tbl m 0 ((Rect.unit (s := S1) ![0] S1.size inb_S1_S1_0).emb (Shape.Idx.first (numel1_S1.symm ▸ Nat.one_pos))) : BitVec 32)
        = (m ((0 : Dev nD).tc.loc main_arg0) ((Rect.unit (s := S1) ![0] S1.size inb_S1_S1_0).emb (Shape.Idx.first (numel1_S1.symm ▸ Nat.one_pos))) : BitVec 32) := rfl
      rw [e]; omega
    | ⟨1, _⟩ =>
      show ((BitVec.ofNat 32 (i 0).val).toNat + 1) * 128 ≤ 128
      have hi : (i 0).val < 1 := (i 0).isLt
      rw [BitVec.toNat_ofNat, Nat.mod_eq_of_lt (by omega)]; omega
    | ⟨2, _⟩ => show ((0#32 : BitVec 32).toNat + 1) * 1024 ≤ 1024; decide
  exact ⟨hb, .inr (Affine.block_words_dvd (of_decide_eq_true rfl) (by decide))⟩
end Cert.AdamOut

namespace Cert.AdamOutIdeal
open Cert.AdamOutIdeal.Gen Cert.Sums Cert.Adam
variable (m : (ℓ : Loc nD τ sig) → Buf (Elt Ideal) ℓ)
/-- The device's index, as the kernel reads it. -/
def me : BitVec 32 := m ((0 : Dev nD).tc.loc main_arg0) ((Rect.unit (s := S1) ![0] S1.size inb_S1_S1_0).emb (Shape.Idx.first (numel1_S1.symm ▸ Nat.one_pos)))
theorem me_bounds (h : Cert.Pre_AdamOutIdeal m) : (me m).toNat < 8 ∧ (me m).toInt = ((me m).toNat : ℤ) := Cert.Adam.device_adam_out_bounds (h 0) _
/-- The precondition puts every block of the parts inside their array. -/
theorem ok_of_pre (h : Cert.Pre_AdamOutIdeal m) : Ok m := fun i => by
  have hv := (me_bounds m h).1
  have hb : ∀ a, (cc0_transform_3 inb_S1_S1_0 numel1_S1 (tbl m) i a + 1) * S1x128x1024.size a ≤ S8x128x1024.size a := fun a => by
    match a with
    | ⟨0, _⟩ =>
      show ((me m).toNat + 1) * 1 ≤ 8
      omega
    | ⟨1, _⟩ =>
      show ((BitVec.ofNat 32 (i 0).val).toNat + 1) * 128 ≤ 128
      have hi : (i 0).val < 1 := (i 0).isLt
      rw [BitVec.toNat_ofNat, Nat.mod_eq_of_lt (by omega)]; omega
    | ⟨2, _⟩ => show ((0#32 : BitVec 32).toNat + 1) * 1024 ≤ 1024; decide
  exact ⟨hb, .inr (Affine.block_words_dvd (of_decide_eq_true rfl) (by decide))⟩

/-! ## The arrays -/
variable (c : Dev nD)
/-- The weight. -/
def w : ℕ → ℕ → EReal := entries (m (c.tc.loc main_arg1) : S128x1024.Idx → EReal)
/-- The first moment. -/
def m1 : ℕ → ℕ → EReal := entries (m (c.tc.loc main_arg2) : S128x1024.Idx → EReal)
/-- The second moment. -/
def m2 : ℕ → ℕ → EReal := entries (m (c.tc.loc main_arg3) : S128x1024.Idx → EReal)
/-- This device's gradient, in eight parts. -/
def parts : ℕ → ℕ → ℕ → EReal := entries3 (m (c.tc.loc main_arg4) : S8x128x1024.Idx → EReal)
/-- The parts the seven other devices sent. -/
def land : ℕ → ℕ → ℕ → EReal := entries3 (m (c.tc.loc main_arg5) : S7x128x1024.Idx → EReal)
/-- The gradient. -/
def g : ℕ → ℕ → EReal := grad (me m).toNat (parts m c) (land m c)
/-- The new first moment. -/
def nm (p j : ℕ) : EReal := newM (g m c p j) (m1 m c p j)
/-- The new second moment. -/
def nv (p j : ℕ) : EReal := newV (g m c p j) (m2 m c p j)
/-- The step. -/
def dw (p j : ℕ) : EReal := delta (w m c p j) (nm m c p j) (nv m c p j)

/-! ## The windows -/
variable (hO : Ok m)
theorem coord0 (t : Fin (cfgM m hO).N) : (grid0.coords t 0).val = t.val := (by decide +kernel : ∀ t : Fin grid0.N, (grid0.coords t 0).val = t.val) t
theorem points (t : Fin (cfgM m hO).N) : t.val < 1 := lt_of_lt_of_eq t.isLt N_0
/-- A row of a point's block in the whole array. -/
def row (t : Fin (cfgM m hO).N) (p : Fin 128) : Fin 128 := ⟨128 * t.val + p.val, by have := points m hO t; have := p.isLt; omega⟩
theorem row_place (t : Fin (cfgM m hO).N) (p : ℕ) : (BitVec.ofNat 32 (grid0.coords t 0).val).toNat * 128 + 1 * p = 128 * t.val + p := by
  have := points m hO t
  rw [coord0 m hO t, BitVec.toNat_ofNat, Nat.mod_eq_of_lt (by omega)]; omega
theorem zero_place (n j : ℕ) : (0#32 : BitVec 32).toNat * n + 1 * j = j := by rw [show (0#32 : BitVec 32).toNat = 0 from rfl]; omega
theorem place (t : Fin (cfgM m hO).N) (p : Fin 128) (j : Fin 1024) (e : S128x1024.Idx) (h0 : (e 0).val = (BitVec.ofNat 32 (grid0.coords t 0).val).toNat * 128 + 1 * p.val)
    (h1 : (e 1).val = (0#32 : BitVec 32).toNat * 1024 + 1 * j.val) : e = ValueIdx.ix2 (row m hO t p) j := funext fun a => Fin.ext (by
  match a with
  | ⟨0, _⟩ => exact h0.trans (row_place m hO t p.val)
  | ⟨1, _⟩ => exact h1.trans (zero_place _ _))
/-- Window 0 reads 128 rows a point. -/
theorem block0 (t : Fin (cfgM m hO).N) : Ex2 (iblk m hO c 0 t : S128x1024.Idx → EReal) (fun p j => w m c (128 * t.val + p) j) := fun p j => by
  show V m c main_arg1 ((((cfgM m hO).win 0).blk t).view.emb (ValueIdx.ix2 p j)) = _
  exact (congrFun (V_main_arg1 m c) _).trans ((congrArg (m (c.tc.loc main_arg1)) (place m hO t p j _ rfl rfl)).trans (entries_is (m (c.tc.loc main_arg1) : S128x1024.Idx → EReal) (row m hO t p) j))
/-- Window 1 reads 128 rows a point. -/
theorem block1 (t : Fin (cfgM m hO).N) : Ex2 (iblk m hO c 1 t : S128x1024.Idx → EReal) (fun p j => m1 m c (128 * t.val + p) j) := fun p j => by
  show V m c main_arg2 ((((cfgM m hO).win 1).blk t).view.emb (ValueIdx.ix2 p j)) = _
  exact (congrFun (V_main_arg2 m c) _).trans ((congrArg (m (c.tc.loc main_arg2)) (place m hO t p j _ rfl rfl)).trans (entries_is (m (c.tc.loc main_arg2) : S128x1024.Idx → EReal) (row m hO t p) j))
/-- Window 2 reads 128 rows a point. -/
theorem block2 (t : Fin (cfgM m hO).N) : Ex2 (iblk m hO c 2 t : S128x1024.Idx → EReal) (fun p j => m2 m c (128 * t.val + p) j) := fun p j => by
  show V m c main_arg3 ((((cfgM m hO).win 2).blk t).view.emb (ValueIdx.ix2 p j)) = _
  exact (congrFun (V_main_arg3 m c) _).trans ((congrArg (m (c.tc.loc main_arg3)) (place m hO t p j _ rfl rfl)).trans (entries_is (m (c.tc.loc main_arg3) : S128x1024.Idx → EReal) (row m hO t p) j))

/-- Window 3 reads this device's own part, 128 rows a point. -/
theorem block3 (t : Fin (cfgM m hO).N) : Ex3 (iblk m hO c 3 t : S1x128x1024.Idx → EReal) (fun k p j => parts m c ((me m).toNat + k) (128 * t.val + p) j) := fun k p j => by
  obtain rfl : c = 0 := Subsingleton.elim _ _
  have hN := points m hO t
  have hk : k.val = 0 := by have := k.isLt; omega
  have hr : 128 * t.val + p.val < 128 := by have := p.isLt; omega
  have hm : (me m).toNat + 1 ≤ 8 := by
    obtain ⟨hh, _⟩ := hO (grid0.coords t)
    have := hh 0
    have e : ((me m).toNat + 1) * 1 ≤ 8 := this
    omega
  refine Eq.trans ?_ (entries3_is (m ((0 : Dev nD).tc.loc main_arg4) : S8x128x1024.Idx → EReal) ⟨(me m).toNat + k.val, by omega⟩ ⟨128 * t.val + p.val, hr⟩ j)
  show V m (0 : Dev nD) main_arg4 ((((cfgM m hO).win 3).blk t).view.emb (ValueIdx.ix3 k p j)) = m ((0 : Dev nD).tc.loc main_arg4) (ValueIdx.ix3 ⟨(me m).toNat + k.val, by omega⟩ ⟨128 * t.val + p.val, hr⟩ j)
  refine (congrFun (V_main_arg4 m (0 : Dev nD)) _).trans (congrArg (m ((0 : Dev nD).tc.loc main_arg4)) (funext fun a => Fin.ext ?_))
  match a with
  | ⟨0, _⟩ => show (me m).toNat * 1 + 1 * k.val = (me m).toNat + k.val; omega
  | ⟨1, _⟩ => exact row_place m hO t p.val
  | ⟨2, _⟩ => exact zero_place _ _
/-- Window 4 reads what came from the others, 128 rows a point. -/
theorem block4 (t : Fin (cfgM m hO).N) : Ex3 (iblk m hO c 4 t : S7x128x1024.Idx → EReal) (fun k p j => land m c k (128 * t.val + p) j) := fun k p j => by
  have hN := points m hO t
  have hr : 128 * t.val + p.val < 128 := by have := p.isLt; omega
  refine Eq.trans ?_ (entries3_is (m (c.tc.loc main_arg5) : S7x128x1024.Idx → EReal) k ⟨128 * t.val + p.val, hr⟩ j)
  show V m c main_arg5 ((((cfgM m hO).win 4).blk t).view.emb (ValueIdx.ix3 k p j)) = m (c.tc.loc main_arg5) (ValueIdx.ix3 k ⟨128 * t.val + p.val, hr⟩ j)
  refine (congrFun (V_main_arg5 m c) _).trans (congrArg (m (c.tc.loc main_arg5)) (funext fun a => Fin.ext ?_))
  match a with
  | ⟨0, _⟩ => exact zero_place 7 k.val
  | ⟨1, _⟩ => exact row_place m hO t p.val
  | ⟨2, _⟩ => exact zero_place _ _

/-! ## The body -/
section lines
variable {G W M1 M2 : ℕ → ℕ → EReal} {r x y z : FVec Ideal S128x1024 .f32} (hr : Ex2 r G) (hx : Ex2 x W) (hy : Ex2 y M1) (hz : Ex2 z M2)
include hr
theorem pay1_is (hy : Ex2 y M1) : Ex2 (k0_pay1 r y) (fun p j => newM (G p j) (M1 p j)) := fun p j => by
  show _ = newM (G p.val j.val) (M1 p.val j.val)
  unfold k0_pay1
  rw [← hr p j, ← hy p j]
  exact kernel_m r y _
theorem pay2_is (hz : Ex2 z M2) : Ex2 (k0_pay2 r z) (fun p j => newV (G p j) (M2 p j)) := fun p j => by
  show _ = newV (G p.val j.val) (M2 p.val j.val)
  unfold k0_pay2
  rw [← hr p j, ← hz p j]
  exact kernel_v r z _
include hx hy hz
theorem pay3_is : Ex2 (k0_pay3 r x y z) (fun p j => delta (W p j) (newM (G p j) (M1 p j)) (newV (G p j) (M2 p j))) := fun p j => by
  have e1 : _ = newM (G p.val j.val) (M1 p.val j.val) := pay1_is hr hy p j
  have e2 : _ = newV (G p.val j.val) (M2 p.val j.val) := pay2_is hr hz p j
  show _ = delta (W p.val j.val) (newM (G p.val j.val) (M1 p.val j.val)) (newV (G p.val j.val) (M2 p.val j.val))
  unfold k0_pay3
  rw [← e1, ← e2, ← hx p j]
  exact kernel_d x (k0_pay1 r y) (k0_pay2 r z) _
end lines

/-- One of the seven parts that came from the others, as a point reads it. -/
abbrev sent (t : Fin (cfgM m hO).N) (o : ℕ) (inb : ∀ z, (![o, 0, 0] : Fin 3 → ℕ) z + (![1, 128, 1024] : Fin 3 → ℕ) z ≤ S7x128x1024.size z) : Vec Ideal S1x128x1024 .bf16 :=
  View.readAt (Elt Ideal) (ms0_4 m hO t).view (Rect.unit (s := S7x128x1024) ![o, 0, 0] ![1, 128, 1024] inb).toLoadRect ((hs0_4 m hO t).unread (iblk m hO c 4 t))
/-- The sum that a point stores. -/
def total (t : Fin (cfgM m hO).N) : FVec Ideal S128x1024 .f32 :=
  k0_pay4 (View.readAt (Elt Ideal) (ms0_3 m hO t).view (Rect.unit (s := S1x128x1024) ![0, 0, 0] ![1, 128, 1024] inb_S1x128x1024_S1x128x1024_0_0_0).toLoadRect ((hs0_3 m hO t).unread (iblk m hO c 3 t)))
    (sent m c hO t 0 inb_S7x128x1024_S1x128x1024_0_0_0) (sent m c hO t 1 inb_S7x128x1024_S1x128x1024_1_0_0)
    (sent m c hO t 2 inb_S7x128x1024_S1x128x1024_2_0_0) (sent m c hO t 3 inb_S7x128x1024_S1x128x1024_3_0_0)
    (sent m c hO t 4 inb_S7x128x1024_S1x128x1024_4_0_0) (sent m c hO t 5 inb_S7x128x1024_S1x128x1024_5_0_0)
    (sent m c hO t 6 inb_S7x128x1024_S1x128x1024_6_0_0)
/-- The weight as a point reads it. -/
def readW (t : Fin (cfgM m hO).N) : Vec Ideal S128x1024 .f32 := View.readAt (Elt Ideal) (ms0_0 m hO t).view (Rect.unit (s := S128x1024) ![0, 0] ![128, 1024] inb_S128x1024_S128x1024_0_0).toLoadRect ((hs0_0 m hO t).unread (iblk m hO c 0 t))
/-- The first moment as a point reads it. -/
def readM (t : Fin (cfgM m hO).N) : Vec Ideal S128x1024 .f32 := View.readAt (Elt Ideal) (ms0_1 m hO t).view (Rect.unit (s := S128x1024) ![0, 0] ![128, 1024] inb_S128x1024_S128x1024_0_0).toLoadRect ((hs0_1 m hO t).unread (iblk m hO c 1 t))
/-- The second moment as a point reads it. -/
def readV (t : Fin (cfgM m hO).N) : Vec Ideal S128x1024 .f32 := View.readAt (Elt Ideal) (ms0_2 m hO t).view (Rect.unit (s := S128x1024) ![0, 0] ![128, 1024] inb_S128x1024_S128x1024_0_0).toLoadRect ((hs0_2 m hO t).unread (iblk m hO c 2 t))
theorem total_is (t : Fin (cfgM m hO).N) : Ex2 (total m c hO t) (fun p j => g m c (128 * t.val + p) j) := by
  unfold total k0_pay4
  have hs (o : ℕ) := slabLoad (hs0_4 m hO t) (block4 m c hO t) o
  exact ((((((((slabLoad (hs0_3 m hO t) (block3 m c hO t) 0 _ _ _).add (hs 0 _ _ _)).add (hs 1 _ _ _)).add (hs 2 _ _ _)).add (hs 3 _ _ _)).add (hs 4 _ _ _)).add (hs 5 _ _ _)).add (hs 6 _ _ _)).congr
    (g := fun p j => g m c (128 * t.val + p) j) (fun p j _ _ => chain (me m).toNat (parts m c) (land m c) (128 * t.val + p) j)
theorem readW_is (t : Fin (cfgM m hO).N) : Ex2 (readW m c hO t) (fun p j => w m c (128 * t.val + p) j) := Ex2.load (hs0_0 m hO t) (block0 m c hO t) inb_S128x1024_S128x1024_0_0
theorem readM_is (t : Fin (cfgM m hO).N) : Ex2 (readM m c hO t) (fun p j => m1 m c (128 * t.val + p) j) := Ex2.load (hs0_1 m hO t) (block1 m c hO t) inb_S128x1024_S128x1024_0_0
theorem readV_is (t : Fin (cfgM m hO).N) : Ex2 (readV m c hO t) (fun p j => m2 m c (128 * t.val + p) j) := Ex2.load (hs0_2 m hO t) (block2 m c hO t) inb_S128x1024_S128x1024_0_0
theorem outs_is (t : Fin (cfgM m hO).N) : outsAt0 m hO c t
    = (VO0_5.read (Elt Ideal) (VO0_5.writes (Elt Ideal) VO0_5.junk [⟨Rect.unit (s := S128x1024) ![0, 0] ![128, 1024] inb_S128x1024_S128x1024_0_0, total m c hO t⟩]),
      VO0_6.read (Elt Ideal) (VO0_6.writes (Elt Ideal) VO0_6.junk [⟨Rect.unit (s := S128x1024) ![0, 0] ![128, 1024] inb_S128x1024_S128x1024_0_0, k0_pay3 (total m c hO t) (readW m c hO t) (readM m c hO t) (readV m c hO t)⟩]),
      VO0_7.read (Elt Ideal) (VO0_7.writes (Elt Ideal) VO0_7.junk [⟨Rect.unit (s := S128x1024) ![0, 0] ![128, 1024] inb_S128x1024_S128x1024_0_0, k0_pay1 (total m c hO t) (readM m c hO t)⟩]),
      VO0_8.read (Elt Ideal) (VO0_8.writes (Elt Ideal) VO0_8.junk [⟨Rect.unit (s := S128x1024) ![0, 0] ![128, 1024] inb_S128x1024_S128x1024_0_0, k0_pay2 (total m c hO t) (readV m c hO t)⟩])) := rfl
theorem step_is (t : Fin (cfgM m hO).N) : Ex2 (k0_pay3 (total m c hO t) (readW m c hO t) (readM m c hO t) (readV m c hO t)) (fun p j => dw m c (128 * t.val + p) j) :=
  pay3_is (total_is m c hO t) (readW_is m c hO t) (readM_is m c hO t) (readV_is m c hO t)
theorem moment1_is (t : Fin (cfgM m hO).N) : Ex2 (k0_pay1 (total m c hO t) (readM m c hO t)) (fun p j => nm m c (128 * t.val + p) j) := pay1_is (total_is m c hO t) (readM_is m c hO t)
theorem moment2_is (t : Fin (cfgM m hO).N) : Ex2 (k0_pay2 (total m c hO t) (readV m c hO t)) (fun p j => nv m c (128 * t.val + p) j) := pay2_is (total_is m c hO t) (readV_is m c hO t)
theorem after5 (t : Fin (cfgM m hO).N) : Ex2 ((outsAt0 m hO c t).1 : S128x1024.Idx → EReal) (fun p j => g m c (128 * t.val + p) j) := by
  rw [outs_is m c hO t]; dsimp only; exact Ex2.store VO0_5 _ _ (total_is m c hO t)
theorem after6 (t : Fin (cfgM m hO).N) : Ex2 ((outsAt0 m hO c t).2.1 : S128x1024.Idx → EReal) (fun p j => dw m c (128 * t.val + p) j) := by
  rw [outs_is m c hO t]; dsimp only; exact Ex2.store VO0_6 _ _ (step_is m c hO t)
theorem after7 (t : Fin (cfgM m hO).N) : Ex2 ((outsAt0 m hO c t).2.2.1 : S128x1024.Idx → EReal) (fun p j => nm m c (128 * t.val + p) j) := by
  rw [outs_is m c hO t]; dsimp only; exact Ex2.store VO0_7 _ _ (moment1_is m c hO t)
theorem after8 (t : Fin (cfgM m hO).N) : Ex2 ((outsAt0 m hO c t).2.2.2 : S128x1024.Idx → EReal) (fun p j => nv m c (128 * t.val + p) j) := by
  rw [outs_is m c hO t]; dsimp only; exact Ex2.store VO0_8 _ _ (moment2_is m c hO t)

/-! ## The arrays at the end -/
/-- The array of a function of row and column. -/
def arr (f : ℕ → ℕ → EReal) : S128x1024.Idx → EReal := fun i => f (i 0).val (i 1).val
theorem arr_is (f : ℕ → ℕ → EReal) : Ex2 (arr f) f := fun _ _ => rfl
theorem flush_is (t : Fin (cfgM m hO).N) {x : S128x1024.Idx → EReal} {f : ℕ → ℕ → EReal} (h : Ex2 x (fun p j => f (128 * t.val + p) j)) (e : S128x1024.Idx → S128x1024.Idx)
    (h0 : ∀ y, (e y 0).val = (BitVec.ofNat 32 (grid0.coords t 0).val).toNat * 128 + 1 * (y 0).val) (h1 : ∀ y, (e y 1).val = (0#32 : BitVec 32).toNat * 1024 + 1 * (y 1).val) :
    x = fun y => arr f (e y) := funext fun y => by
  obtain ⟨p, j, rfl⟩ : ∃ (p : Fin 128) (j : Fin 1024), y = ValueIdx.ix2 p j := ⟨y 0, y 1, ValueIdx.eq_ix2 y⟩
  exact (h p j).trans (congrArg (arr f) (place m hO t p j _ (h0 _) (h1 _)).symm)
/-- The blocks of the points make up the whole array. -/
theorem cover (i : S128x1024.Idx) : ∃ t : Fin (cfgM m hO).N, i ∈ (((cfgM m hO).win 5).rect t).set := by
  have h0 : (i 0).val < 128 := (i 0).isLt
  have h1 : (i 1).val < 1024 := (i 1).isLt
  have hq : (i 0).val / 128 < (cfgM m hO).N := lt_of_lt_of_eq (show (i 0).val / 128 < 1 by omega) N_0.symm
  refine ⟨⟨(i 0).val / 128, hq⟩, Rect.mem_set_unit.mpr fun a => ?_⟩
  match a with
  | ⟨0, _⟩ =>
    show (BitVec.ofNat 32 (grid0.coords ⟨(i 0).val / 128, hq⟩ 0).val).toNat * 128 ≤ (i 0).val ∧ (i 0).val < (BitVec.ofNat 32 (grid0.coords ⟨(i 0).val / 128, hq⟩ 0).val).toNat * 128 + 128
    rw [coord0 m hO ⟨(i 0).val / 128, hq⟩, BitVec.toNat_ofNat, Nat.mod_eq_of_lt (by show (i 0).val / 128 < 2 ^ 32; omega)]; dsimp only; omega
  | ⟨1, _⟩ =>
    show (0#32 : BitVec 32).toNat * 1024 ≤ (i 1).val ∧ (i 1).val < (0#32 : BitVec 32).toNat * 1024 + 1024
    rw [show (0#32 : BitVec 32).toNat = 0 from rfl]; omega
theorem flushed5 (t : Fin (cfgM m hO).N) : (dats m hO 0 c).flushed 5 t = (((cfgM m hO).win 5).blk t).view.read (Elt Ideal) (arr (g m c)) := by
  show ((cfgM m hO).win 5).cut (grid0.coords t) ((dats m hO 0 c).after 5 t) = _
  rw [after0_5]
  exact flush_is m hO t (after5 m c hO t) (fun y => (((cfgM m hO).win 5).blk t).view.emb y) (fun _ => rfl) (fun _ => rfl)
/-- Output 5 at the end. -/
theorem final5 : (dats m hO 0 c).arrAt 5 (cfgM m hO).N = arr (g m c) :=
  (dats m hO 0 c).arrAt_eq_of_cover 5 _ (fun t _ => flushed5 m c hO t) (fun (i : S128x1024.Idx) => by
    obtain ⟨t, h⟩ := cover m hO i
    exact ⟨t, flush0_5 (adm m hO) t, (Finset.ext_iff.mp (View.set_slice_whole main_v0_0 (((cfgM m hO).win 5).rect t)) i).mpr h⟩)
theorem flushed6 (t : Fin (cfgM m hO).N) : (dats m hO 0 c).flushed 6 t = (((cfgM m hO).win 6).blk t).view.read (Elt Ideal) (arr (dw m c)) := by
  show ((cfgM m hO).win 6).cut (grid0.coords t) ((dats m hO 0 c).after 6 t) = _
  rw [after0_6]
  exact flush_is m hO t (after6 m c hO t) (fun y => (((cfgM m hO).win 6).blk t).view.emb y) (fun _ => rfl) (fun _ => rfl)
/-- Output 6 at the end. -/
theorem final6 : (dats m hO 0 c).arrAt 6 (cfgM m hO).N = arr (dw m c) :=
  (dats m hO 0 c).arrAt_eq_of_cover 6 _ (fun t _ => flushed6 m c hO t) (fun (i : S128x1024.Idx) => by
    obtain ⟨t, h⟩ := cover m hO i
    exact ⟨t, flush0_6 (adm m hO) t, (Finset.ext_iff.mp (View.set_slice_whole main_v0_1 (((cfgM m hO).win 6).rect t)) i).mpr h⟩)
theorem flushed7 (t : Fin (cfgM m hO).N) : (dats m hO 0 c).flushed 7 t = (((cfgM m hO).win 7).blk t).view.read (Elt Ideal) (arr (nm m c)) := by
  show ((cfgM m hO).win 7).cut (grid0.coords t) ((dats m hO 0 c).after 7 t) = _
  rw [after0_7]
  exact flush_is m hO t (after7 m c hO t) (fun y => (((cfgM m hO).win 7).blk t).view.emb y) (fun _ => rfl) (fun _ => rfl)
/-- Output 7 at the end. -/
theorem final7 : (dats m hO 0 c).arrAt 7 (cfgM m hO).N = arr (nm m c) :=
  (dats m hO 0 c).arrAt_eq_of_cover 7 _ (fun t _ => flushed7 m c hO t) (fun (i : S128x1024.Idx) => by
    obtain ⟨t, h⟩ := cover m hO i
    exact ⟨t, flush0_7 (adm m hO) t, (Finset.ext_iff.mp (View.set_slice_whole main_v0_2 (((cfgM m hO).win 7).rect t)) i).mpr h⟩)
theorem flushed8 (t : Fin (cfgM m hO).N) : (dats m hO 0 c).flushed 8 t = (((cfgM m hO).win 8).blk t).view.read (Elt Ideal) (arr (nv m c)) := by
  show ((cfgM m hO).win 8).cut (grid0.coords t) ((dats m hO 0 c).after 8 t) = _
  rw [after0_8]
  exact flush_is m hO t (after8 m c hO t) (fun y => (((cfgM m hO).win 8).blk t).view.emb y) (fun _ => rfl) (fun _ => rfl)
/-- Output 8 at the end. -/
theorem final8 : (dats m hO 0 c).arrAt 8 (cfgM m hO).N = arr (nv m c) :=
  (dats m hO 0 c).arrAt_eq_of_cover 8 _ (fun t _ => flushed8 m c hO t) (fun (i : S128x1024.Idx) => by
    obtain ⟨t, h⟩ := cover m hO i
    exact ⟨t, flush0_8 (adm m hO) t, (Finset.ext_iff.mp (View.set_slice_whole main_v0_3 (((cfgM m hO).win 8).rect t)) i).mpr h⟩)

/-- The run: the four arrays, and the arguments as they were. -/
theorem run (hO : Ok m) (ρ : Dev nD → PrngReg) : θ_run defs (onTc (τ := τ) (main (F := Ideal))) ⟨m, fun _ => 0, ρ⟩ (fun r => ∀ c : Dev nD,
      r.2.mem (c.tc.loc main_v0_0) = arr (g m c)
      ∧ r.2.mem (c.tc.loc main_v0_1) = arr (dw m c)
      ∧ r.2.mem (c.tc.loc main_v0_2) = arr (nm m c)
      ∧ r.2.mem (c.tc.loc main_v0_3) = arr (nv m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)) :=
  (θ_run defs _ _).mono (fun r h c => ⟨(h.1 c).1 5 |>.trans (final5 m c hO), (h.1 c).1 6 |>.trans (final6 m c hO), (h.1 c).1 7 |>.trans (final7 m c hO),
    (h.1 c).1 8 |>.trans (final8 m c hO), h.2 c⟩) (θ_run_and (run_main m ρ hO) (unchanged m ρ hO))
end Cert.AdamOutIdeal

namespace Cert.AdamOutReferenceIdeal
open Cert.AdamOutReferenceIdeal.Gen Cert.AdamOutReferenceIdeal.Staged Cert.Sums Cert.Adam
section lines
variable {x0 : IVec S1 32} {i : BitVec 32} (h0 : ∀ j, x0 j = i) (hb : i.toNat < 8 ∧ i.toInt = (i.toNat : ℤ))
  {x4 : FVec Ideal S8x128x1024 .bf16} {x5 : FVec Ideal S7x128x1024 .bf16} {P L : ℕ → ℕ → ℕ → EReal} (h4 : Ex3 x4 P) (h5 : Ex3 x5 L)
include h0 hb
theorem index_is (j : S_.Idx) : select (cmpi .slt (shapeCast _ x0 shapeCasts_S1_S_) (constantI S_ 32 0#32)) (addi (shapeCast _ x0 shapeCasts_S1_S_) (constantI S_ 32 8#32)) (shapeCast _ x0 shapeCasts_S1_S_) j = i := by
  have e : shapeCast S_ x0 shapeCasts_S1_S_ j = i := h0 _
  refine (select_slt_zero_of_nonneg (shapeCast S_ x0 shapeCasts_S1_S_) _ (shapeCast S_ x0 shapeCasts_S1_S_) j ?_).trans e
  rw [e, hb.2]; omega
include h4 h5
theorem grad_is : Ex2 (sum (F := Ideal) x0 x4 x5) (grad i.toNat P L) := fun p j => by
  have e4 := slab (f := fun k p j => P (i.toNat + k) p j) (Cert.Adam.own hb.1 hb.2 h4
    (fun k => (((![select (cmpi .slt (shapeCast _ x0 shapeCasts_S1_S_) (constantI S_ 32 0#32)) (addi (shapeCast _ x0 shapeCasts_S1_S_) (constantI S_ 32 8#32)) (shapeCast _ x0 shapeCasts_S1_S_), constantI S_ 32 0#32, constantI S_ 32 0#32] : Fin 3 → (⟨S_, .i32⟩ : BufTy).Contents (Elt Ideal))) k (Shape.Idx.first h_S_)).toInt)
    (congrArg BitVec.toInt (index_is h0 hb (Shape.Idx.first h_S_))) rfl rfl sliceFits_S8x128x1024_S1x128x1024) shapeCasts_S1x128x1024_S128x1024 bitsLt_bf16_f32 p j
  refine congrArg₂ (fun a b : EReal => a + b) e4 ?_
  simp only [Host.reduceAdd, Ideal.hostReduceAdd_def]
  rw [Ideal.hostReduceAdd_single reducesTo_S7x128x1024_S128x1024_d0 (by decide)]
  rw [show (constant (F := Ideal) S_ .f32 0x00000000#32) (Shape.Idx.first h_S_) = (0 : EReal) from Ideal.ofBits_zero_f32, zero_add]
  refine Finset.sum_congr rfl fun k _ => ?_
  refine Eq.trans (congrArg x5 ?_) (h5 k p j)
  exact funext fun a => Fin.ext (by match a with | ⟨0, _⟩ => rfl | ⟨1, _⟩ => rfl | ⟨2, _⟩ => rfl)
end lines
theorem step_apply (x1 m v : FVec Ideal S128x1024 .f32) (j : S128x1024.Idx) : step (F := Ideal) x1 m v j = delta (x1 j) (m j) (v j) := by
  unfold step
  exact host_d bcast_S_S128x1024 x1 m v j
section lines
variable {x0 x1 x2 x3 : FVec Ideal S128x1024 .f32} {G W M1 M2 : ℕ → ℕ → EReal} (h0 : Ex2 x0 G)
include h0
theorem m_is (h2 : Ex2 x2 M1) : Ex2 (moment1 (F := Ideal) x0 x2) (fun p j => newM (G p j) (M1 p j)) := fun p j => by
  show _ = newM (G p.val j.val) (M1 p.val j.val)
  rw [← h0 p j, ← h2 p j]
  exact host_m bcast_S_S128x1024 x0 x2 _
theorem v_is (h3 : Ex2 x3 M2) : Ex2 (moment2 (F := Ideal) x0 x3) (fun p j => newV (G p j) (M2 p j)) := fun p j => by
  show _ = newV (G p.val j.val) (M2 p.val j.val)
  rw [← h0 p j, ← h3 p j]
  exact host_v bcast_S_S128x1024 x0 x3 _
omit h0 in
theorem d_is (h1 : Ex2 x1 W) (h2 : Ex2 x2 M1) (h3 : Ex2 x3 M2) : Ex2 (step (F := Ideal) x1 x2 x3) (fun p j => delta (W p j) (M1 p j) (M2 p j)) := fun p j => by
  refine (step_apply x1 x2 x3 (ValueIdx.ix2 p j)).trans ?_
  rw [h1 p j, h2 p j, h3 p j]
end lines
end Cert.AdamOutReferenceIdeal

namespace Cert.Adam
open Cert.Sums
open Cert.AdamOutIdeal (arr arr_is me w m1 m2 parts land g dw nm nv)
/-- The kernel and the reference end with the same four arrays. -/
theorem device_adam_out_equation : Cert.algebraic_AdamOutIdeal_AdamOutReferenceIdeal
    (hAdamOutIdeal := Cert.AdamOutIdeal.Gen.facts) (hAdamOutReferenceIdeal := Cert.AdamOutReferenceIdeal.Gen.facts)
    (hPre_device_adam_out := Cert.Pre_device_adam_out.Gen.facts) := by
  intro m ρ m' ρ' hpre harg
  have hb := Cert.AdamOutIdeal.me_bounds m hpre
  refine ⟨fun c => arr (g m c), fun c => arr (dw m c), fun c => arr (nm m c), fun c => arr (nv m c),
    Cert.AdamOutIdeal.run m (Cert.AdamOutIdeal.ok_of_pre m hpre) ρ, ?_⟩
  refine (θ_run _ _ _).mono (fun r h c => ?_) (Cert.AdamOutReferenceIdeal.Staged.run m' ρ')
  obtain ⟨e0, e1, e2, e3, e4, e5⟩ := harg c
  obtain ⟨hg, hd, hm, hv, hrest⟩ := h c
  have h0 : ∀ j, m' (c.tc.loc Cert.AdamOutReferenceIdeal.main_arg0) j = me m := fun j => by
    rw [e0]
    obtain rfl : c = 0 := Subsingleton.elim _ _
    unfold me
    exact congrArg (m ((0 : Dev Cert.AdamOutIdeal.nD).tc.loc Cert.AdamOutIdeal.main_arg0))
      (funext fun (a : Fin 1) => match a with | ⟨0, _⟩ => Subsingleton.elim (α := Fin 1) _ _)
  have h1 : Ex2 (m' (c.tc.loc Cert.AdamOutReferenceIdeal.main_arg1) : Cert.AdamOutReferenceIdeal.S128x1024.Idx → EReal) (w m c) := by
    rw [e1]; exact entries_is _
  have h2 : Ex2 (m' (c.tc.loc Cert.AdamOutReferenceIdeal.main_arg2) : Cert.AdamOutReferenceIdeal.S128x1024.Idx → EReal) (m1 m c) := by
    rw [e2]; exact entries_is _
  have h3 : Ex2 (m' (c.tc.loc Cert.AdamOutReferenceIdeal.main_arg3) : Cert.AdamOutReferenceIdeal.S128x1024.Idx → EReal) (m2 m c) := by
    rw [e3]; exact entries_is _
  have h4 : Ex3 (m' (c.tc.loc Cert.AdamOutReferenceIdeal.main_arg4) : Cert.AdamOutReferenceIdeal.S8x128x1024.Idx → EReal) (parts m c) := by
    rw [e4]; exact entries3_is _
  have h5 : Ex3 (m' (c.tc.loc Cert.AdamOutReferenceIdeal.main_arg5) : Cert.AdamOutReferenceIdeal.S7x128x1024.Idx → EReal) (land m c) := by
    rw [e5]; exact entries3_is _
  have hs := Cert.AdamOutReferenceIdeal.grad_is h0 hb h4 h5
  exact ⟨hg.trans (hs.unique (arr_is (g m c))),
    hd.trans ((Cert.AdamOutReferenceIdeal.d_is h1 (Cert.AdamOutReferenceIdeal.m_is hs h2) (Cert.AdamOutReferenceIdeal.v_is hs h3)).unique (arr_is (dw m c))),
    hm.trans ((Cert.AdamOutReferenceIdeal.m_is hs h2).unique (arr_is (nm m c))),
    hv.trans ((Cert.AdamOutReferenceIdeal.v_is hs h3).unique (arr_is (nv m c))), hrest⟩
end Cert.Adam
end
-- ==== Proof.AdamInReference.lean ====
/-
One of the optimiser's references, run in two stages: the gradient's sum, and the moments and the step from it.
-/
module
public import proofs.«01_k».proof.Proof.Gen.AdamInReferenceIdeal
public import Idealize.ShloMosaic.Lib.StableHlo.Run
public import Idealize.ShloMosaic.Lib.StableHlo.RunClose
@[expose] public section
noncomputable section
namespace Cert.AdamInReferenceIdeal.Staged
open Cert.AdamInReferenceIdeal Cert.AdamInReferenceIdeal.Gen Idealize.ShloMosaic Idealize.ShloMosaic.TcCoe Idealize.SL.Sem Idealize.ShloMosaic.StableHlo
-- Short names for the types of the arrays: integers, truth values, f32 and bf16.
abbrev Iv (F : FTy → Type) : Type := (⟨S1, .i32⟩ : BufTy).Contents (Elt F)
abbrev H1 (F : FTy → Type) : Type := (⟨S1x288x1024, .bf16⟩ : BufTy).Contents (Elt F)
abbrev Hs (F : FTy → Type) : Type := (⟨S288x1024, .bf16⟩ : BufTy).Contents (Elt F)
abbrev Rs (F : FTy → Type) : Type := (⟨S288x1024, .f32⟩ : BufTy).Contents (Elt F)
abbrev H7 (F : FTy → Type) : Type := (⟨S7x288x1024, .bf16⟩ : BufTy).Contents (Elt F)
abbrev R7 (F : FTy → Type) : Type := (⟨S7x288x1024, .f32⟩ : BufTy).Contents (Elt F)
abbrev H8 (F : FTy → Type) : Type := (⟨S8x288x1024, .bf16⟩ : BufTy).Contents (Elt F)
abbrev R0 (F : FTy → Type) : Type := (⟨S_, .f32⟩ : BufTy).Contents (Elt F)
abbrev P0 (F : FTy → Type) : Type := (⟨S_, .i1⟩ : BufTy).Contents (Elt F)
abbrev I0 (F : FTy → Type) : Type := (⟨S_, .i32⟩ : BufTy).Contents (Elt F)
variable {F : FTy → Type} [FloatOps F]

/-- The operations up to the gradient. -/
abbrev opsA : List (HloOp τ sig (Elt F)) :=
  [ reshape main_arg0 main_v0 (rfl : (.i32 : EltTy) = .i32) shapeCasts_S1_S_,
    nullary main_c (constantI S_ 32 0#32),
    binary main_v0 main_c main_v1 (cmpi .slt : I0 F → I0 F → P0 F),
    nullary main_c_0 (constantI S_ 32 8#32),
    binary main_v0 main_c_0 main_v2 (addi : I0 F → I0 F → I0 F),
    ternary main_v1 main_v2 main_v0 main_v3 (select : P0 F → I0 F → I0 F → I0 F),
    nullary main_c_1 (constantI S_ 32 0#32),
    nullary main_c_2 (constantI S_ 32 0#32),
    unaryIndexed main_arg4 ![main_v3, main_c_1, main_c_2] ⟨S_, .i32⟩ main_v4 ((fun x i => Host.dynamicSlice S1x288x1024 x (fun k => (i k (Shape.Idx.first h_S_)).toInt) sliceFits_S8x288x1024_S1x288x1024) : H8 F → (Fin 3 → I0 F) → H1 F),
    reshape main_v4 main_v5 (rfl : (.bf16 : EltTy) = .bf16) shapeCasts_S1x288x1024_S288x1024,
    unary main_v5 main_v6 ((extf .f32 · bitsLt_bf16_f32) : Hs F → Rs F),
    unary main_arg5 main_v7 ((extf .f32 · bitsLt_bf16_f32) : H7 F → R7 F),
    nullary main_cst (constant S_ .f32 0x00000000#32),
    binary main_v7 main_cst main_v8 ((fun x v => Host.reduceAdd x v reducesTo_S7x288x1024_S288x1024_d0 h_S_) : R7 F → R0 F → Rs F),
    binary main_v6 main_v8 main_v9 (addf : Rs F → Rs F → Rs F) ]
/-- The operations after it. -/
abbrev opsB : List (HloOp τ sig (Elt F)) :=
  [ nullary main_cst_3 (constant S_ .f32 0x3F666666#32),
    unary main_cst_3 main_v10 (broadcastInDim S288x1024 ![] bcast_S_S288x1024 : R0 F → Rs F),
    binary main_v10 main_arg2 main_v11 (mulf : Rs F → Rs F → Rs F),
    nullary main_cst_4 (constant S_ .f32 0x3DCCCCCD#32),
    unary main_cst_4 main_v12 (broadcastInDim S288x1024 ![] bcast_S_S288x1024 : R0 F → Rs F),
    binary main_v12 main_v9 main_v13 (mulf : Rs F → Rs F → Rs F),
    binary main_v11 main_v13 main_v14 (addf : Rs F → Rs F → Rs F),
    nullary main_cst_5 (constant S_ .f32 0x3F7FBE77#32),
    unary main_cst_5 main_v15 (broadcastInDim S288x1024 ![] bcast_S_S288x1024 : R0 F → Rs F),
    binary main_v15 main_arg3 main_v16 (mulf : Rs F → Rs F → Rs F),
    binary main_v9 main_v9 main_v17 (mulf : Rs F → Rs F → Rs F),
    nullary main_cst_6 (constant S_ .f32 0x3A83126F#32),
    unary main_cst_6 main_v18 (broadcastInDim S288x1024 ![] bcast_S_S288x1024 : R0 F → Rs F),
    binary main_v18 main_v17 main_v19 (mulf : Rs F → Rs F → Rs F),
    binary main_v16 main_v19 main_v20 (addf : Rs F → Rs F → Rs F),
    nullary main_cst_7 (constant S_ .f32 0x3F26BD02#32),
    unary main_cst_7 main_v21 (broadcastInDim S288x1024 ![] bcast_S_S288x1024 : R0 F → Rs F),
    binary main_v14 main_v21 main_v22 (Host.divf : Rs F → Rs F → Rs F),
    nullary main_cst_8 (constant S_ .f32 0x3C231ACC#32),
    unary main_cst_8 main_v23 (broadcastInDim S288x1024 ![] bcast_S_S288x1024 : R0 F → Rs F),
    binary main_v20 main_v23 main_v24 (Host.divf : Rs F → Rs F → Rs F),
    unary main_v24 main_v25 (Host.sqrt : Rs F → Rs F),
    nullary main_cst_9 (constant S_ .f32 0x322BCC77#32),
    unary main_cst_9 main_v26 (broadcastInDim S288x1024 ![] bcast_S_S288x1024 : R0 F → Rs F),
    binary main_v25 main_v26 main_v27 (addf : Rs F → Rs F → Rs F),
    binary main_v22 main_v27 main_v28 (Host.divf : Rs F → Rs F → Rs F),
    nullary main_cst_10 (constant S_ .f32 0x3C23D70A#32),
    unary main_cst_10 main_v29 (broadcastInDim S288x1024 ![] bcast_S_S288x1024 : R0 F → Rs F),
    binary main_v29 main_arg1 main_v30 (mulf : Rs F → Rs F → Rs F),
    binary main_v28 main_v30 main_v31 (addf : Rs F → Rs F → Rs F),
    nullary main_cst_11 (constant S_ .f32 0xBA83126F#32),
    unary main_cst_11 main_v32 (broadcastInDim S288x1024 ![] bcast_S_S288x1024 : R0 F → Rs F),
    binary main_v32 main_v31 main_v33 (mulf : Rs F → Rs F → Rs F) ]
theorem after_append (x y : List (HloOp τ sig (Elt F))) (V : Valuation τ sig (Elt F)) : after (x ++ y) V = after y (after x V) := by
  induction x generalizing V with
  | nil => rfl
  | cons op x ih => exact ih _
set_option maxRecDepth 8192 in
theorem main_eq (c : Dev nD) : main (F := F) c = seq (opsA ++ opsB) := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : ((opsA ++ opsB : List (HloOp τ sig (Elt F)))).Forall fun op => op.bufs ⊆ tcRefs τ sig :=
  ⟨reshape_bufs_sub .., nullary_bufs_sub .., binary_bufs_sub .., nullary_bufs_sub .., binary_bufs_sub .., ternary_bufs_sub .., nullary_bufs_sub .., nullary_bufs_sub .., unaryIndexed_bufs_sub .., reshape_bufs_sub .., unary_bufs_sub .., unary_bufs_sub .., nullary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩

/-- The reference's own slab of the parts. -/
def own (x0 : Iv F) (x4 : H8 F) : H1 F :=
  Host.dynamicSlice S1x288x1024 x4 (fun k => (((![select (cmpi .slt (shapeCast _ x0 shapeCasts_S1_S_) (constantI S_ 32 0#32)) (addi (shapeCast _ x0 shapeCasts_S1_S_) (constantI S_ 32 8#32)) (shapeCast _ x0 shapeCasts_S1_S_), constantI S_ 32 0#32, constantI S_ 32 0#32] : Fin 3 → I0 F)) k (Shape.Idx.first h_S_)).toInt) sliceFits_S8x288x1024_S1x288x1024
/-- The gradient. -/
def sum (x0 : Iv F) (x4 : H8 F) (x5 : H7 F) : Rs F :=
  addf (extf .f32 (shapeCast _ (own x0 x4) shapeCasts_S1x288x1024_S288x1024) bitsLt_bf16_f32)
    (Host.reduceAdd (extf .f32 x5 bitsLt_bf16_f32) (constant S_ .f32 0x00000000#32) reducesTo_S7x288x1024_S288x1024_d0 h_S_)
/-- One number everywhere. -/
abbrev fill (b : BitVec 32) : Rs F := broadcastInDim S288x1024 ![] bcast_S_S288x1024 (constant S_ .f32 b)
/-- The new first moment from the gradient. -/
def moment1 (g x2 : Rs F) : Rs F :=
  addf (mulf (fill 0x3F666666#32) x2) (mulf (fill 0x3DCCCCCD#32) g)
/-- The new second moment from the gradient. -/
def moment2 (g x3 : Rs F) : Rs F :=
  addf (mulf (fill 0x3F7FBE77#32) x3) (mulf (fill 0x3A83126F#32) (mulf g g))
/-- The step from the new moments. -/
def step (x1 m v : Rs F) : Rs F :=
  mulf (fill 0xBA83126F#32)
    (addf (Host.divf (Host.divf m (fill 0x3F26BD02#32))
      (addf (Host.sqrt (Host.divf v (fill 0x3C231ACC#32))) (fill 0x322BCC77#32)))
      (mulf (fill 0x3C23D70A#32) x1))

/-! ## The first stage -/
section stages
variable (V : Valuation τ sig (Elt F))
theorem slice_A : after opsA V main_v9 = sum (V main_arg0) (V main_arg4) (V main_arg5) := by
  after_results_simp_entrywise
  rfl
theorem keep_A0 : after opsA V main_arg0 = V main_arg0 := by after_results_simp
theorem keep_A1 : after opsA V main_arg1 = V main_arg1 := by after_results_simp
theorem keep_A2 : after opsA V main_arg2 = V main_arg2 := by after_results_simp
theorem keep_A3 : after opsA V main_arg3 = V main_arg3 := by after_results_simp
theorem keep_A4 : after opsA V main_arg4 = V main_arg4 := by after_results_simp
theorem keep_A5 : after opsA V main_arg5 = V main_arg5 := by after_results_simp
/-! ## The second stage -/
theorem keep_B0 : after opsB V main_arg0 = V main_arg0 := by after_results_simp
theorem keep_B1 : after opsB V main_arg1 = V main_arg1 := by after_results_simp
theorem keep_B2 : after opsB V main_arg2 = V main_arg2 := by after_results_simp
theorem keep_B3 : after opsB V main_arg3 = V main_arg3 := by after_results_simp
theorem keep_B4 : after opsB V main_arg4 = V main_arg4 := by after_results_simp
theorem keep_B5 : after opsB V main_arg5 = V main_arg5 := by after_results_simp
theorem grad_B : after opsB V main_v9 = V main_v9 := by after_results_simp
theorem m_B : after opsB V main_v14 = moment1 (V main_v9) (V main_arg2) := by
  after_results_simp
  rfl
theorem v_B : after opsB V main_v20 = moment2 (V main_v9) (V main_arg3) := by
  after_results_simp
  rfl
theorem d_B : after opsB V main_v33 = step (V main_arg1) (moment1 (V main_v9) (V main_arg2)) (moment2 (V main_v9) (V main_arg3)) := by
  after_results_simp
  rfl
end stages

/-- The gradient in terms of the memory. -/
abbrev sumOf (m : (ℓ : Loc nD τ sig) → Buf (Elt F) ℓ) (c : Dev nD) : Rs F := sum (m (c.tc.loc main_arg0)) (m (c.tc.loc main_arg4)) (m (c.tc.loc main_arg5))
/-- The run: the four results in terms of the arguments, and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem (c.tc.loc main_v9) = sumOf m c
      ∧ r.2.mem (c.tc.loc main_v33) = step (m (c.tc.loc main_arg1))
          (moment1 (sumOf m c) (m (c.tc.loc main_arg2)))
          (moment2 (sumOf m c) (m (c.tc.loc main_arg3)))
      ∧ r.2.mem (c.tc.loc main_v14) = moment1 (sumOf m c) (m (c.tc.loc main_arg2))
      ∧ r.2.mem (c.tc.loc main_v20) = moment2 (sumOf m c) (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5) := by
  refine (θ_run defs _ _).mono (fun r h c => ?_) (run_seq scopedRefs_eq scopedSems_eq defs main (fun _ => opsA ++ opsB) main_eq (fun _ => ops_sub) m ρ)
  refine ⟨?_, ?_, ?_, ?_, ?_, ?_, ?_, ?_, ?_, ?_⟩
  · rw [h c main_v9, after_append, grad_B, slice_A]
  · rw [h c main_v33, after_append, d_B, slice_A, keep_A1, keep_A2, keep_A3]
  · rw [h c main_v14, after_append, m_B, slice_A, keep_A2]
  · rw [h c main_v20, after_append, v_B, slice_A, keep_A3]
  · rw [h c main_arg0, after_append, keep_B0, keep_A0]
  · rw [h c main_arg1, after_append, keep_B1, keep_A1]
  · rw [h c main_arg2, after_append, keep_B2, keep_A2]
  · rw [h c main_arg3, after_append, keep_B3, keep_A3]
  · rw [h c main_arg4, after_append, keep_B4, keep_A4]
  · rw [h c main_arg5, after_append, keep_B5, keep_A5]
end Cert.AdamInReferenceIdeal.Staged
end
-- ==== Proof.AdamIn.lean ====
/-
One of the optimiser's calls: what its windows hold, its four outputs, and the same four arrays from the reference.
-/
module
public import proofs.«01_k».proof.Proof.Adam
public import proofs.«01_k».proof.Proof.Gen.AdamIn.Frame
public import proofs.«01_k».proof.Proof.Gen.AdamInIdeal.Frame
public import proofs.«01_k».proof.Proof.AdamInReference
public import Idealize.ShloMosaic.Lib.Pointwise.Reduce
public import proofs.«01_k».proof.Proof.Gen.Pre_device_adam_in
public import proofs.«01_k».proof.Defs
@[expose] public section
noncomputable section
open Idealize.ShloMosaic Idealize.ShloMosaic.TcCoe Idealize.ShloMosaic.StableHlo Idealize.SL.Sem
open scoped BigOperators

/-- The precondition says that the device's index lies below eight. -/
theorem Cert.Adam.device_adam_in_bounds {F : FTy → Type} [FloatOps F] {x0 : IVec Cert.Pre_device_adam_in.S1 32} {x1 x2 x3 : FVec F Cert.Pre_device_adam_in.S288x1024 .f32}
    {x4 : FVec F Cert.Pre_device_adam_in.S8x288x1024 .bf16} {x5 : FVec F Cert.Pre_device_adam_in.S7x288x1024 .bf16}
    (h : Cert.Pre_device_adam_in.fn (F := F) x0 x1 x2 x3 x4 x5 = fun _ => 1#1) (j : Cert.Pre_device_adam_in.S1.Idx) :
    (x0 j).toNat < 8 ∧ (x0 j).toInt = ((x0 j).toNat : ℤ) := Cert.Adam.index_bounds (congrFun h j)

namespace Cert.AdamIn
open Cert.AdamIn.Gen
/-- The precondition puts every block of the parts inside their array. -/
theorem ok_of_pre (m : (ℓ : Loc nD τ sig) → Buf (Elt Bits) ℓ) (h : Cert.Pre_AdamIn m) : Ok m := fun i => by
  have hv := Cert.Adam.device_adam_in_bounds (h 0)
  have hb : ∀ a, (cc0_transform_3 inb_S1_S1_0 numel1_S1 (tbl m) i a + 1) * S1x144x1024.size a ≤ S8x288x1024.size a := fun a => by
    match a with
    | ⟨0, _⟩ =>
      have hw := (hv ((Rect.unit (s := S1) ![0] S1.size inb_S1_S1_0).emb (Shape.Idx.first (numel1_S1.symm ▸ Nat.one_pos)))).1
      show ((tbl m 0 ((Rect.unit (s := S1) ![0] S1.size inb_S1_S1_0).emb (Shape.Idx.first (numel1_S1.symm ▸ Nat.one_pos))) : BitVec 32).toNat + 1) * 1 ≤ 8
      have e : (tbl m 0 ((Rect.unit (s := S1) ![0] S1.size inb_S1_S1_0).emb (Shape.Idx.first (numel1_S1.symm ▸ Nat.one_pos))) : BitVec 32)
        = (m ((0 : Dev nD).tc.loc main_arg0) ((Rect.unit (s := S1) ![0] S1.size inb_S1_S1_0).emb (Shape.Idx.first (numel1_S1.symm ▸ Nat.one_pos))) : BitVec 32) := rfl
      rw [e]; omega
    | ⟨1, _⟩ =>
      show ((BitVec.ofNat 32 (i 0).val).toNat + 1) * 144 ≤ 288
      have hi : (i 0).val < 2 := (i 0).isLt
      rw [BitVec.toNat_ofNat, Nat.mod_eq_of_lt (by omega)]; omega
    | ⟨2, _⟩ => show ((0#32 : BitVec 32).toNat + 1) * 1024 ≤ 1024; decide
  exact ⟨hb, .inr (Affine.block_words_dvd (of_decide_eq_true rfl) (by decide))⟩
end Cert.AdamIn

namespace Cert.AdamInIdeal
open Cert.AdamInIdeal.Gen Cert.Sums Cert.Adam
variable (m : (ℓ : Loc nD τ sig) → Buf (Elt Ideal) ℓ)
/-- The device's index, as the kernel reads it. -/
def me : BitVec 32 := m ((0 : Dev nD).tc.loc main_arg0) ((Rect.unit (s := S1) ![0] S1.size inb_S1_S1_0).emb (Shape.Idx.first (numel1_S1.symm ▸ Nat.one_pos)))
theorem me_bounds (h : Cert.Pre_AdamInIdeal m) : (me m).toNat < 8 ∧ (me m).toInt = ((me m).toNat : ℤ) := Cert.Adam.device_adam_in_bounds (h 0) _
/-- The precondition puts every block of the parts inside their array. -/
theorem ok_of_pre (h : Cert.Pre_AdamInIdeal m) : Ok m := fun i => by
  have hv := (me_bounds m h).1
  have hb : ∀ a, (cc0_transform_3 inb_S1_S1_0 numel1_S1 (tbl m) i a + 1) * S1x144x1024.size a ≤ S8x288x1024.size a := fun a => by
    match a with
    | ⟨0, _⟩ =>
      show ((me m).toNat + 1) * 1 ≤ 8
      omega
    | ⟨1, _⟩ =>
      show ((BitVec.ofNat 32 (i 0).val).toNat + 1) * 144 ≤ 288
      have hi : (i 0).val < 2 := (i 0).isLt
      rw [BitVec.toNat_ofNat, Nat.mod_eq_of_lt (by omega)]; omega
    | ⟨2, _⟩ => show ((0#32 : BitVec 32).toNat + 1) * 1024 ≤ 1024; decide
  exact ⟨hb, .inr (Affine.block_words_dvd (of_decide_eq_true rfl) (by decide))⟩

/-! ## The arrays -/
variable (c : Dev nD)
/-- The weight. -/
def w : ℕ → ℕ → EReal := entries (m (c.tc.loc main_arg1) : S288x1024.Idx → EReal)
/-- The first moment. -/
def m1 : ℕ → ℕ → EReal := entries (m (c.tc.loc main_arg2) : S288x1024.Idx → EReal)
/-- The second moment. -/
def m2 : ℕ → ℕ → EReal := entries (m (c.tc.loc main_arg3) : S288x1024.Idx → EReal)
/-- This device's gradient, in eight parts. -/
def parts : ℕ → ℕ → ℕ → EReal := entries3 (m (c.tc.loc main_arg4) : S8x288x1024.Idx → EReal)
/-- The parts the seven other devices sent. -/
def land : ℕ → ℕ → ℕ → EReal := entries3 (m (c.tc.loc main_arg5) : S7x288x1024.Idx → EReal)
/-- The gradient. -/
def g : ℕ → ℕ → EReal := grad (me m).toNat (parts m c) (land m c)
/-- The new first moment. -/
def nm (p j : ℕ) : EReal := newM (g m c p j) (m1 m c p j)
/-- The new second moment. -/
def nv (p j : ℕ) : EReal := newV (g m c p j) (m2 m c p j)
/-- The step. -/
def dw (p j : ℕ) : EReal := delta (w m c p j) (nm m c p j) (nv m c p j)

/-! ## The windows -/
variable (hO : Ok m)
theorem coord0 (t : Fin (cfgM m hO).N) : (grid0.coords t 0).val = t.val := (by decide +kernel : ∀ t : Fin grid0.N, (grid0.coords t 0).val = t.val) t
theorem points (t : Fin (cfgM m hO).N) : t.val < 2 := lt_of_lt_of_eq t.isLt N_0
/-- A row of a point's block in the whole array. -/
def row (t : Fin (cfgM m hO).N) (p : Fin 144) : Fin 288 := ⟨144 * t.val + p.val, by have := points m hO t; have := p.isLt; omega⟩
theorem row_place (t : Fin (cfgM m hO).N) (p : ℕ) : (BitVec.ofNat 32 (grid0.coords t 0).val).toNat * 144 + 1 * p = 144 * t.val + p := by
  have := points m hO t
  rw [coord0 m hO t, BitVec.toNat_ofNat, Nat.mod_eq_of_lt (by omega)]; omega
theorem zero_place (n j : ℕ) : (0#32 : BitVec 32).toNat * n + 1 * j = j := by rw [show (0#32 : BitVec 32).toNat = 0 from rfl]; omega
theorem place (t : Fin (cfgM m hO).N) (p : Fin 144) (j : Fin 1024) (e : S288x1024.Idx) (h0 : (e 0).val = (BitVec.ofNat 32 (grid0.coords t 0).val).toNat * 144 + 1 * p.val)
    (h1 : (e 1).val = (0#32 : BitVec 32).toNat * 1024 + 1 * j.val) : e = ValueIdx.ix2 (row m hO t p) j := funext fun a => Fin.ext (by
  match a with
  | ⟨0, _⟩ => exact h0.trans (row_place m hO t p.val)
  | ⟨1, _⟩ => exact h1.trans (zero_place _ _))
/-- Window 0 reads 144 rows a point. -/
theorem block0 (t : Fin (cfgM m hO).N) : Ex2 (iblk m hO c 0 t : S144x1024.Idx → EReal) (fun p j => w m c (144 * t.val + p) j) := fun p j => by
  show V m c main_arg1 ((((cfgM m hO).win 0).blk t).view.emb (ValueIdx.ix2 p j)) = _
  exact (congrFun (V_main_arg1 m c) _).trans ((congrArg (m (c.tc.loc main_arg1)) (place m hO t p j _ rfl rfl)).trans (entries_is (m (c.tc.loc main_arg1) : S288x1024.Idx → EReal) (row m hO t p) j))
/-- Window 1 reads 144 rows a point. -/
theorem block1 (t : Fin (cfgM m hO).N) : Ex2 (iblk m hO c 1 t : S144x1024.Idx → EReal) (fun p j => m1 m c (144 * t.val + p) j) := fun p j => by
  show V m c main_arg2 ((((cfgM m hO).win 1).blk t).view.emb (ValueIdx.ix2 p j)) = _
  exact (congrFun (V_main_arg2 m c) _).trans ((congrArg (m (c.tc.loc main_arg2)) (place m hO t p j _ rfl rfl)).trans (entries_is (m (c.tc.loc main_arg2) : S288x1024.Idx → EReal) (row m hO t p) j))
/-- Window 2 reads 144 rows a point. -/
theorem block2 (t : Fin (cfgM m hO).N) : Ex2 (iblk m hO c 2 t : S144x1024.Idx → EReal) (fun p j => m2 m c (144 * t.val + p) j) := fun p j => by
  show V m c main_arg3 ((((cfgM m hO).win 2).blk t).view.emb (ValueIdx.ix2 p j)) = _
  exact (congrFun (V_main_arg3 m c) _).trans ((congrArg (m (c.tc.loc main_arg3)) (place m hO t p j _ rfl rfl)).trans (entries_is (m (c.tc.loc main_arg3) : S288x1024.Idx → EReal) (row m hO t p) j))

/-- Window 3 reads this device's own part, 144 rows a point. -/
theorem block3 (t : Fin (cfgM m hO).N) : Ex3 (iblk m hO c 3 t : S1x144x1024.Idx → EReal) (fun k p j => parts m c ((me m).toNat + k) (144 * t.val + p) j) := fun k p j => by
  obtain rfl : c = 0 := Subsingleton.elim _ _
  have hN := points m hO t
  have hk : k.val = 0 := by have := k.isLt; omega
  have hr : 144 * t.val + p.val < 288 := by have := p.isLt; omega
  have hm : (me m).toNat + 1 ≤ 8 := by
    obtain ⟨hh, _⟩ := hO (grid0.coords t)
    have := hh 0
    have e : ((me m).toNat + 1) * 1 ≤ 8 := this
    omega
  refine Eq.trans ?_ (entries3_is (m ((0 : Dev nD).tc.loc main_arg4) : S8x288x1024.Idx → EReal) ⟨(me m).toNat + k.val, by omega⟩ ⟨144 * t.val + p.val, hr⟩ j)
  show V m (0 : Dev nD) main_arg4 ((((cfgM m hO).win 3).blk t).view.emb (ValueIdx.ix3 k p j)) = m ((0 : Dev nD).tc.loc main_arg4) (ValueIdx.ix3 ⟨(me m).toNat + k.val, by omega⟩ ⟨144 * t.val + p.val, hr⟩ j)
  refine (congrFun (V_main_arg4 m (0 : Dev nD)) _).trans (congrArg (m ((0 : Dev nD).tc.loc main_arg4)) (funext fun a => Fin.ext ?_))
  match a with
  | ⟨0, _⟩ => show (me m).toNat * 1 + 1 * k.val = (me m).toNat + k.val; omega
  | ⟨1, _⟩ => exact row_place m hO t p.val
  | ⟨2, _⟩ => exact zero_place _ _
/-- Window 4 reads what came from the others, 144 rows a point. -/
theorem block4 (t : Fin (cfgM m hO).N) : Ex3 (iblk m hO c 4 t : S7x144x1024.Idx → EReal) (fun k p j => land m c k (144 * t.val + p) j) := fun k p j => by
  have hN := points m hO t
  have hr : 144 * t.val + p.val < 288 := by have := p.isLt; omega
  refine Eq.trans ?_ (entries3_is (m (c.tc.loc main_arg5) : S7x288x1024.Idx → EReal) k ⟨144 * t.val + p.val, hr⟩ j)
  show V m c main_arg5 ((((cfgM m hO).win 4).blk t).view.emb (ValueIdx.ix3 k p j)) = m (c.tc.loc main_arg5) (ValueIdx.ix3 k ⟨144 * t.val + p.val, hr⟩ j)
  refine (congrFun (V_main_arg5 m c) _).trans (congrArg (m (c.tc.loc main_arg5)) (funext fun a => Fin.ext ?_))
  match a with
  | ⟨0, _⟩ => exact zero_place 7 k.val
  | ⟨1, _⟩ => exact row_place m hO t p.val
  | ⟨2, _⟩ => exact zero_place _ _

/-! ## The body -/
section lines
variable {G W M1 M2 : ℕ → ℕ → EReal} {r x y z : FVec Ideal S144x1024 .f32} (hr : Ex2 r G) (hx : Ex2 x W) (hy : Ex2 y M1) (hz : Ex2 z M2)
include hr
theorem pay1_is (hy : Ex2 y M1) : Ex2 (k0_pay1 r y) (fun p j => newM (G p j) (M1 p j)) := fun p j => by
  show _ = newM (G p.val j.val) (M1 p.val j.val)
  unfold k0_pay1
  rw [← hr p j, ← hy p j]
  exact kernel_m r y _
theorem pay2_is (hz : Ex2 z M2) : Ex2 (k0_pay2 r z) (fun p j => newV (G p j) (M2 p j)) := fun p j => by
  show _ = newV (G p.val j.val) (M2 p.val j.val)
  unfold k0_pay2
  rw [← hr p j, ← hz p j]
  exact kernel_v r z _
include hx hy hz
theorem pay3_is : Ex2 (k0_pay3 r x y z) (fun p j => delta (W p j) (newM (G p j) (M1 p j)) (newV (G p j) (M2 p j))) := fun p j => by
  have e1 : _ = newM (G p.val j.val) (M1 p.val j.val) := pay1_is hr hy p j
  have e2 : _ = newV (G p.val j.val) (M2 p.val j.val) := pay2_is hr hz p j
  show _ = delta (W p.val j.val) (newM (G p.val j.val) (M1 p.val j.val)) (newV (G p.val j.val) (M2 p.val j.val))
  unfold k0_pay3
  rw [← e1, ← e2, ← hx p j]
  exact kernel_d x (k0_pay1 r y) (k0_pay2 r z) _
end lines

/-- One of the seven parts that came from the others, as a point reads it. -/
abbrev sent (t : Fin (cfgM m hO).N) (o : ℕ) (inb : ∀ z, (![o, 0, 0] : Fin 3 → ℕ) z + (![1, 144, 1024] : Fin 3 → ℕ) z ≤ S7x144x1024.size z) : Vec Ideal S1x144x1024 .bf16 :=
  View.readAt (Elt Ideal) (ms0_4 m hO t).view (Rect.unit (s := S7x144x1024) ![o, 0, 0] ![1, 144, 1024] inb).toLoadRect ((hs0_4 m hO t).unread (iblk m hO c 4 t))
/-- The sum that a point stores. -/
def total (t : Fin (cfgM m hO).N) : FVec Ideal S144x1024 .f32 :=
  k0_pay4 (View.readAt (Elt Ideal) (ms0_3 m hO t).view (Rect.unit (s := S1x144x1024) ![0, 0, 0] ![1, 144, 1024] inb_S1x144x1024_S1x144x1024_0_0_0).toLoadRect ((hs0_3 m hO t).unread (iblk m hO c 3 t)))
    (sent m c hO t 0 inb_S7x144x1024_S1x144x1024_0_0_0) (sent m c hO t 1 inb_S7x144x1024_S1x144x1024_1_0_0)
    (sent m c hO t 2 inb_S7x144x1024_S1x144x1024_2_0_0) (sent m c hO t 3 inb_S7x144x1024_S1x144x1024_3_0_0)
    (sent m c hO t 4 inb_S7x144x1024_S1x144x1024_4_0_0) (sent m c hO t 5 inb_S7x144x1024_S1x144x1024_5_0_0)
    (sent m c hO t 6 inb_S7x144x1024_S1x144x1024_6_0_0)
/-- The weight as a point reads it. -/
def readW (t : Fin (cfgM m hO).N) : Vec Ideal S144x1024 .f32 := View.readAt (Elt Ideal) (ms0_0 m hO t).view (Rect.unit (s := S144x1024) ![0, 0] ![144, 1024] inb_S144x1024_S144x1024_0_0).toLoadRect ((hs0_0 m hO t).unread (iblk m hO c 0 t))
/-- The first moment as a point reads it. -/
def readM (t : Fin (cfgM m hO).N) : Vec Ideal S144x1024 .f32 := View.readAt (Elt Ideal) (ms0_1 m hO t).view (Rect.unit (s := S144x1024) ![0, 0] ![144, 1024] inb_S144x1024_S144x1024_0_0).toLoadRect ((hs0_1 m hO t).unread (iblk m hO c 1 t))
/-- The second moment as a point reads it. -/
def readV (t : Fin (cfgM m hO).N) : Vec Ideal S144x1024 .f32 := View.readAt (Elt Ideal) (ms0_2 m hO t).view (Rect.unit (s := S144x1024) ![0, 0] ![144, 1024] inb_S144x1024_S144x1024_0_0).toLoadRect ((hs0_2 m hO t).unread (iblk m hO c 2 t))
theorem total_is (t : Fin (cfgM m hO).N) : Ex2 (total m c hO t) (fun p j => g m c (144 * t.val + p) j) := by
  unfold total k0_pay4
  have hs (o : ℕ) := slabLoad (hs0_4 m hO t) (block4 m c hO t) o
  exact ((((((((slabLoad (hs0_3 m hO t) (block3 m c hO t) 0 _ _ _).add (hs 0 _ _ _)).add (hs 1 _ _ _)).add (hs 2 _ _ _)).add (hs 3 _ _ _)).add (hs 4 _ _ _)).add (hs 5 _ _ _)).add (hs 6 _ _ _)).congr
    (g := fun p j => g m c (144 * t.val + p) j) (fun p j _ _ => chain (me m).toNat (parts m c) (land m c) (144 * t.val + p) j)
theorem readW_is (t : Fin (cfgM m hO).N) : Ex2 (readW m c hO t) (fun p j => w m c (144 * t.val + p) j) := Ex2.load (hs0_0 m hO t) (block0 m c hO t) inb_S144x1024_S144x1024_0_0
theorem readM_is (t : Fin (cfgM m hO).N) : Ex2 (readM m c hO t) (fun p j => m1 m c (144 * t.val + p) j) := Ex2.load (hs0_1 m hO t) (block1 m c hO t) inb_S144x1024_S144x1024_0_0
theorem readV_is (t : Fin (cfgM m hO).N) : Ex2 (readV m c hO t) (fun p j => m2 m c (144 * t.val + p) j) := Ex2.load (hs0_2 m hO t) (block2 m c hO t) inb_S144x1024_S144x1024_0_0
theorem outs_is (t : Fin (cfgM m hO).N) : outsAt0 m hO c t
    = (VO0_5.read (Elt Ideal) (VO0_5.writes (Elt Ideal) VO0_5.junk [⟨Rect.unit (s := S144x1024) ![0, 0] ![144, 1024] inb_S144x1024_S144x1024_0_0, total m c hO t⟩]),
      VO0_6.read (Elt Ideal) (VO0_6.writes (Elt Ideal) VO0_6.junk [⟨Rect.unit (s := S144x1024) ![0, 0] ![144, 1024] inb_S144x1024_S144x1024_0_0, k0_pay3 (total m c hO t) (readW m c hO t) (readM m c hO t) (readV m c hO t)⟩]),
      VO0_7.read (Elt Ideal) (VO0_7.writes (Elt Ideal) VO0_7.junk [⟨Rect.unit (s := S144x1024) ![0, 0] ![144, 1024] inb_S144x1024_S144x1024_0_0, k0_pay1 (total m c hO t) (readM m c hO t)⟩]),
      VO0_8.read (Elt Ideal) (VO0_8.writes (Elt Ideal) VO0_8.junk [⟨Rect.unit (s := S144x1024) ![0, 0] ![144, 1024] inb_S144x1024_S144x1024_0_0, k0_pay2 (total m c hO t) (readV m c hO t)⟩])) := rfl
theorem step_is (t : Fin (cfgM m hO).N) : Ex2 (k0_pay3 (total m c hO t) (readW m c hO t) (readM m c hO t) (readV m c hO t)) (fun p j => dw m c (144 * t.val + p) j) :=
  pay3_is (total_is m c hO t) (readW_is m c hO t) (readM_is m c hO t) (readV_is m c hO t)
theorem moment1_is (t : Fin (cfgM m hO).N) : Ex2 (k0_pay1 (total m c hO t) (readM m c hO t)) (fun p j => nm m c (144 * t.val + p) j) := pay1_is (total_is m c hO t) (readM_is m c hO t)
theorem moment2_is (t : Fin (cfgM m hO).N) : Ex2 (k0_pay2 (total m c hO t) (readV m c hO t)) (fun p j => nv m c (144 * t.val + p) j) := pay2_is (total_is m c hO t) (readV_is m c hO t)
theorem after5 (t : Fin (cfgM m hO).N) : Ex2 ((outsAt0 m hO c t).1 : S144x1024.Idx → EReal) (fun p j => g m c (144 * t.val + p) j) := by
  rw [outs_is m c hO t]; dsimp only; exact Ex2.store VO0_5 _ _ (total_is m c hO t)
theorem after6 (t : Fin (cfgM m hO).N) : Ex2 ((outsAt0 m hO c t).2.1 : S144x1024.Idx → EReal) (fun p j => dw m c (144 * t.val + p) j) := by
  rw [outs_is m c hO t]; dsimp only; exact Ex2.store VO0_6 _ _ (step_is m c hO t)
theorem after7 (t : Fin (cfgM m hO).N) : Ex2 ((outsAt0 m hO c t).2.2.1 : S144x1024.Idx → EReal) (fun p j => nm m c (144 * t.val + p) j) := by
  rw [outs_is m c hO t]; dsimp only; exact Ex2.store VO0_7 _ _ (moment1_is m c hO t)
theorem after8 (t : Fin (cfgM m hO).N) : Ex2 ((outsAt0 m hO c t).2.2.2 : S144x1024.Idx → EReal) (fun p j => nv m c (144 * t.val + p) j) := by
  rw [outs_is m c hO t]; dsimp only; exact Ex2.store VO0_8 _ _ (moment2_is m c hO t)

/-! ## The arrays at the end -/
/-- The array of a function of row and column. -/
def arr (f : ℕ → ℕ → EReal) : S288x1024.Idx → EReal := fun i => f (i 0).val (i 1).val
theorem arr_is (f : ℕ → ℕ → EReal) : Ex2 (arr f) f := fun _ _ => rfl
theorem flush_is (t : Fin (cfgM m hO).N) {x : S144x1024.Idx → EReal} {f : ℕ → ℕ → EReal} (h : Ex2 x (fun p j => f (144 * t.val + p) j)) (e : S144x1024.Idx → S288x1024.Idx)
    (h0 : ∀ y, (e y 0).val = (BitVec.ofNat 32 (grid0.coords t 0).val).toNat * 144 + 1 * (y 0).val) (h1 : ∀ y, (e y 1).val = (0#32 : BitVec 32).toNat * 1024 + 1 * (y 1).val) :
    x = fun y => arr f (e y) := funext fun y => by
  obtain ⟨p, j, rfl⟩ : ∃ (p : Fin 144) (j : Fin 1024), y = ValueIdx.ix2 p j := ⟨y 0, y 1, ValueIdx.eq_ix2 y⟩
  exact (h p j).trans (congrArg (arr f) (place m hO t p j _ (h0 _) (h1 _)).symm)
/-- The blocks of the points make up the whole array. -/
theorem cover (i : S288x1024.Idx) : ∃ t : Fin (cfgM m hO).N, i ∈ (((cfgM m hO).win 5).rect t).set := by
  have h0 : (i 0).val < 288 := (i 0).isLt
  have h1 : (i 1).val < 1024 := (i 1).isLt
  have hq : (i 0).val / 144 < (cfgM m hO).N := lt_of_lt_of_eq (show (i 0).val / 144 < 2 by omega) N_0.symm
  refine ⟨⟨(i 0).val / 144, hq⟩, Rect.mem_set_unit.mpr fun a => ?_⟩
  match a with
  | ⟨0, _⟩ =>
    show (BitVec.ofNat 32 (grid0.coords ⟨(i 0).val / 144, hq⟩ 0).val).toNat * 144 ≤ (i 0).val ∧ (i 0).val < (BitVec.ofNat 32 (grid0.coords ⟨(i 0).val / 144, hq⟩ 0).val).toNat * 144 + 144
    rw [coord0 m hO ⟨(i 0).val / 144, hq⟩, BitVec.toNat_ofNat, Nat.mod_eq_of_lt (by show (i 0).val / 144 < 2 ^ 32; omega)]; dsimp only; omega
  | ⟨1, _⟩ =>
    show (0#32 : BitVec 32).toNat * 1024 ≤ (i 1).val ∧ (i 1).val < (0#32 : BitVec 32).toNat * 1024 + 1024
    rw [show (0#32 : BitVec 32).toNat = 0 from rfl]; omega
theorem flushed5 (t : Fin (cfgM m hO).N) : (dats m hO 0 c).flushed 5 t = (((cfgM m hO).win 5).blk t).view.read (Elt Ideal) (arr (g m c)) := by
  show ((cfgM m hO).win 5).cut (grid0.coords t) ((dats m hO 0 c).after 5 t) = _
  rw [after0_5]
  exact flush_is m hO t (after5 m c hO t) (fun y => (((cfgM m hO).win 5).blk t).view.emb y) (fun _ => rfl) (fun _ => rfl)
/-- Output 5 at the end. -/
theorem final5 : (dats m hO 0 c).arrAt 5 (cfgM m hO).N = arr (g m c) :=
  (dats m hO 0 c).arrAt_eq_of_cover 5 _ (fun t _ => flushed5 m c hO t) (fun (i : S288x1024.Idx) => by
    obtain ⟨t, h⟩ := cover m hO i
    exact ⟨t, flush0_5 (adm m hO) t, (Finset.ext_iff.mp (View.set_slice_whole main_v0_0 (((cfgM m hO).win 5).rect t)) i).mpr h⟩)
theorem flushed6 (t : Fin (cfgM m hO).N) : (dats m hO 0 c).flushed 6 t = (((cfgM m hO).win 6).blk t).view.read (Elt Ideal) (arr (dw m c)) := by
  show ((cfgM m hO).win 6).cut (grid0.coords t) ((dats m hO 0 c).after 6 t) = _
  rw [after0_6]
  exact flush_is m hO t (after6 m c hO t) (fun y => (((cfgM m hO).win 6).blk t).view.emb y) (fun _ => rfl) (fun _ => rfl)
/-- Output 6 at the end. -/
theorem final6 : (dats m hO 0 c).arrAt 6 (cfgM m hO).N = arr (dw m c) :=
  (dats m hO 0 c).arrAt_eq_of_cover 6 _ (fun t _ => flushed6 m c hO t) (fun (i : S288x1024.Idx) => by
    obtain ⟨t, h⟩ := cover m hO i
    exact ⟨t, flush0_6 (adm m hO) t, (Finset.ext_iff.mp (View.set_slice_whole main_v0_1 (((cfgM m hO).win 6).rect t)) i).mpr h⟩)
theorem flushed7 (t : Fin (cfgM m hO).N) : (dats m hO 0 c).flushed 7 t = (((cfgM m hO).win 7).blk t).view.read (Elt Ideal) (arr (nm m c)) := by
  show ((cfgM m hO).win 7).cut (grid0.coords t) ((dats m hO 0 c).after 7 t) = _
  rw [after0_7]
  exact flush_is m hO t (after7 m c hO t) (fun y => (((cfgM m hO).win 7).blk t).view.emb y) (fun _ => rfl) (fun _ => rfl)
/-- Output 7 at the end. -/
theorem final7 : (dats m hO 0 c).arrAt 7 (cfgM m hO).N = arr (nm m c) :=
  (dats m hO 0 c).arrAt_eq_of_cover 7 _ (fun t _ => flushed7 m c hO t) (fun (i : S288x1024.Idx) => by
    obtain ⟨t, h⟩ := cover m hO i
    exact ⟨t, flush0_7 (adm m hO) t, (Finset.ext_iff.mp (View.set_slice_whole main_v0_2 (((cfgM m hO).win 7).rect t)) i).mpr h⟩)
theorem flushed8 (t : Fin (cfgM m hO).N) : (dats m hO 0 c).flushed 8 t = (((cfgM m hO).win 8).blk t).view.read (Elt Ideal) (arr (nv m c)) := by
  show ((cfgM m hO).win 8).cut (grid0.coords t) ((dats m hO 0 c).after 8 t) = _
  rw [after0_8]
  exact flush_is m hO t (after8 m c hO t) (fun y => (((cfgM m hO).win 8).blk t).view.emb y) (fun _ => rfl) (fun _ => rfl)
/-- Output 8 at the end. -/
theorem final8 : (dats m hO 0 c).arrAt 8 (cfgM m hO).N = arr (nv m c) :=
  (dats m hO 0 c).arrAt_eq_of_cover 8 _ (fun t _ => flushed8 m c hO t) (fun (i : S288x1024.Idx) => by
    obtain ⟨t, h⟩ := cover m hO i
    exact ⟨t, flush0_8 (adm m hO) t, (Finset.ext_iff.mp (View.set_slice_whole main_v0_3 (((cfgM m hO).win 8).rect t)) i).mpr h⟩)

/-- The run: the four arrays, and the arguments as they were. -/
theorem run (hO : Ok m) (ρ : Dev nD → PrngReg) : θ_run defs (onTc (τ := τ) (main (F := Ideal))) ⟨m, fun _ => 0, ρ⟩ (fun r => ∀ c : Dev nD,
      r.2.mem (c.tc.loc main_v0_0) = arr (g m c)
      ∧ r.2.mem (c.tc.loc main_v0_1) = arr (dw m c)
      ∧ r.2.mem (c.tc.loc main_v0_2) = arr (nm m c)
      ∧ r.2.mem (c.tc.loc main_v0_3) = arr (nv m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)) :=
  (θ_run defs _ _).mono (fun r h c => ⟨(h.1 c).1 5 |>.trans (final5 m c hO), (h.1 c).1 6 |>.trans (final6 m c hO), (h.1 c).1 7 |>.trans (final7 m c hO),
    (h.1 c).1 8 |>.trans (final8 m c hO), h.2 c⟩) (θ_run_and (run_main m ρ hO) (unchanged m ρ hO))
end Cert.AdamInIdeal

namespace Cert.AdamInReferenceIdeal
open Cert.AdamInReferenceIdeal.Gen Cert.AdamInReferenceIdeal.Staged Cert.Sums Cert.Adam
section lines
variable {x0 : IVec S1 32} {i : BitVec 32} (h0 : ∀ j, x0 j = i) (hb : i.toNat < 8 ∧ i.toInt = (i.toNat : ℤ))
  {x4 : FVec Ideal S8x288x1024 .bf16} {x5 : FVec Ideal S7x288x1024 .bf16} {P L : ℕ → ℕ → ℕ → EReal} (h4 : Ex3 x4 P) (h5 : Ex3 x5 L)
include h0 hb
theorem index_is (j : S_.Idx) : select (cmpi .slt (shapeCast _ x0 shapeCasts_S1_S_) (constantI S_ 32 0#32)) (addi (shapeCast _ x0 shapeCasts_S1_S_) (constantI S_ 32 8#32)) (shapeCast _ x0 shapeCasts_S1_S_) j = i := by
  have e : shapeCast S_ x0 shapeCasts_S1_S_ j = i := h0 _
  refine (select_slt_zero_of_nonneg (shapeCast S_ x0 shapeCasts_S1_S_) _ (shapeCast S_ x0 shapeCasts_S1_S_) j ?_).trans e
  rw [e, hb.2]; omega
include h4 h5
theorem grad_is : Ex2 (sum (F := Ideal) x0 x4 x5) (grad i.toNat P L) := fun p j => by
  have e4 := slab (f := fun k p j => P (i.toNat + k) p j) (Cert.Adam.own hb.1 hb.2 h4
    (fun k => (((![select (cmpi .slt (shapeCast _ x0 shapeCasts_S1_S_) (constantI S_ 32 0#32)) (addi (shapeCast _ x0 shapeCasts_S1_S_) (constantI S_ 32 8#32)) (shapeCast _ x0 shapeCasts_S1_S_), constantI S_ 32 0#32, constantI S_ 32 0#32] : Fin 3 → (⟨S_, .i32⟩ : BufTy).Contents (Elt Ideal))) k (Shape.Idx.first h_S_)).toInt)
    (congrArg BitVec.toInt (index_is h0 hb (Shape.Idx.first h_S_))) rfl rfl sliceFits_S8x288x1024_S1x288x1024) shapeCasts_S1x288x1024_S288x1024 bitsLt_bf16_f32 p j
  refine congrArg₂ (fun a b : EReal => a + b) e4 ?_
  simp only [Host.reduceAdd, Ideal.hostReduceAdd_def]
  rw [Ideal.hostReduceAdd_single reducesTo_S7x288x1024_S288x1024_d0 (by decide)]
  rw [show (constant (F := Ideal) S_ .f32 0x00000000#32) (Shape.Idx.first h_S_) = (0 : EReal) from Ideal.ofBits_zero_f32, zero_add]
  refine Finset.sum_congr rfl fun k _ => ?_
  refine Eq.trans (congrArg x5 ?_) (h5 k p j)
  exact funext fun a => Fin.ext (by match a with | ⟨0, _⟩ => rfl | ⟨1, _⟩ => rfl | ⟨2, _⟩ => rfl)
end lines
theorem step_apply (x1 m v : FVec Ideal S288x1024 .f32) (j : S288x1024.Idx) : step (F := Ideal) x1 m v j = delta (x1 j) (m j) (v j) := by
  unfold step
  exact host_d bcast_S_S288x1024 x1 m v j
section lines
variable {x0 x1 x2 x3 : FVec Ideal S288x1024 .f32} {G W M1 M2 : ℕ → ℕ → EReal} (h0 : Ex2 x0 G)
include h0
theorem m_is (h2 : Ex2 x2 M1) : Ex2 (moment1 (F := Ideal) x0 x2) (fun p j => newM (G p j) (M1 p j)) := fun p j => by
  show _ = newM (G p.val j.val) (M1 p.val j.val)
  rw [← h0 p j, ← h2 p j]
  exact host_m bcast_S_S288x1024 x0 x2 _
theorem v_is (h3 : Ex2 x3 M2) : Ex2 (moment2 (F := Ideal) x0 x3) (fun p j => newV (G p j) (M2 p j)) := fun p j => by
  show _ = newV (G p.val j.val) (M2 p.val j.val)
  rw [← h0 p j, ← h3 p j]
  exact host_v bcast_S_S288x1024 x0 x3 _
omit h0 in
theorem d_is (h1 : Ex2 x1 W) (h2 : Ex2 x2 M1) (h3 : Ex2 x3 M2) : Ex2 (step (F := Ideal) x1 x2 x3) (fun p j => delta (W p j) (M1 p j) (M2 p j)) := fun p j => by
  refine (step_apply x1 x2 x3 (ValueIdx.ix2 p j)).trans ?_
  rw [h1 p j, h2 p j, h3 p j]
end lines
end Cert.AdamInReferenceIdeal

namespace Cert.Adam
open Cert.Sums
open Cert.AdamInIdeal (arr arr_is me w m1 m2 parts land g dw nm nv)
/-- The kernel and the reference end with the same four arrays. -/
theorem device_adam_in_equation : Cert.algebraic_AdamInIdeal_AdamInReferenceIdeal
    (hAdamInIdeal := Cert.AdamInIdeal.Gen.facts) (hAdamInReferenceIdeal := Cert.AdamInReferenceIdeal.Gen.facts)
    (hPre_device_adam_in := Cert.Pre_device_adam_in.Gen.facts) := by
  intro m ρ m' ρ' hpre harg
  have hb := Cert.AdamInIdeal.me_bounds m hpre
  refine ⟨fun c => arr (g m c), fun c => arr (dw m c), fun c => arr (nm m c), fun c => arr (nv m c),
    Cert.AdamInIdeal.run m (Cert.AdamInIdeal.ok_of_pre m hpre) ρ, ?_⟩
  refine (θ_run _ _ _).mono (fun r h c => ?_) (Cert.AdamInReferenceIdeal.Staged.run m' ρ')
  obtain ⟨e0, e1, e2, e3, e4, e5⟩ := harg c
  obtain ⟨hg, hd, hm, hv, hrest⟩ := h c
  have h0 : ∀ j, m' (c.tc.loc Cert.AdamInReferenceIdeal.main_arg0) j = me m := fun j => by
    rw [e0]
    obtain rfl : c = 0 := Subsingleton.elim _ _
    unfold me
    exact congrArg (m ((0 : Dev Cert.AdamInIdeal.nD).tc.loc Cert.AdamInIdeal.main_arg0))
      (funext fun (a : Fin 1) => match a with | ⟨0, _⟩ => Subsingleton.elim (α := Fin 1) _ _)
  have h1 : Ex2 (m' (c.tc.loc Cert.AdamInReferenceIdeal.main_arg1) : Cert.AdamInReferenceIdeal.S288x1024.Idx → EReal) (w m c) := by
    rw [e1]; exact entries_is _
  have h2 : Ex2 (m' (c.tc.loc Cert.AdamInReferenceIdeal.main_arg2) : Cert.AdamInReferenceIdeal.S288x1024.Idx → EReal) (m1 m c) := by
    rw [e2]; exact entries_is _
  have h3 : Ex2 (m' (c.tc.loc Cert.AdamInReferenceIdeal.main_arg3) : Cert.AdamInReferenceIdeal.S288x1024.Idx → EReal) (m2 m c) := by
    rw [e3]; exact entries_is _
  have h4 : Ex3 (m' (c.tc.loc Cert.AdamInReferenceIdeal.main_arg4) : Cert.AdamInReferenceIdeal.S8x288x1024.Idx → EReal) (parts m c) := by
    rw [e4]; exact entries3_is _
  have h5 : Ex3 (m' (c.tc.loc Cert.AdamInReferenceIdeal.main_arg5) : Cert.AdamInReferenceIdeal.S7x288x1024.Idx → EReal) (land m c) := by
    rw [e5]; exact entries3_is _
  have hs := Cert.AdamInReferenceIdeal.grad_is h0 hb h4 h5
  exact ⟨hg.trans (hs.unique (arr_is (g m c))),
    hd.trans ((Cert.AdamInReferenceIdeal.d_is h1 (Cert.AdamInReferenceIdeal.m_is hs h2) (Cert.AdamInReferenceIdeal.v_is hs h3)).unique (arr_is (dw m c))),
    hm.trans ((Cert.AdamInReferenceIdeal.m_is hs h2).unique (arr_is (nm m c))),
    hv.trans ((Cert.AdamInReferenceIdeal.v_is hs h3).unique (arr_is (nv m c))), hrest⟩
end Cert.Adam
end
-- ==== Proof.lean ====
/-
The certificate: every program's runs end without a fault and leave the arguments as they were, and the kernels' results
are the references' over the extended reals.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import proofs.«01_k».proof.Proof.DownProduct
public import proofs.«01_k».proof.Proof.Gen.Down.Frame
public import proofs.«01_k».proof.Proof.Gen.DownIdeal.Value
public import proofs.«01_k».proof.Proof.Gen.DownReferenceIdeal.Run
public import proofs.«01_k».proof.Proof.Gen.DownReferenceIdeal.Read
public import proofs.«01_k».proof.Proof.GateUpProduct
public import proofs.«01_k».proof.Proof.Gen.GateUp.Frame
public import proofs.«01_k».proof.Proof.Gen.GateUpIdeal.Value
public import proofs.«01_k».proof.Proof.Gen.GateUpReferenceIdeal.Run
public import proofs.«01_k».proof.Proof.Gen.GateUpReferenceIdeal.Read
public import proofs.«01_k».proof.Proof.InProduct
public import proofs.«01_k».proof.Proof.Gen.In.Frame
public import proofs.«01_k».proof.Proof.Gen.InIdeal.Value
public import proofs.«01_k».proof.Proof.Gen.InReferenceIdeal.Run
public import proofs.«01_k».proof.Proof.Gen.InReferenceIdeal.Read
public import proofs.«01_k».proof.Proof.Gen.Enter.Frame
public import proofs.«01_k».proof.Proof.Gen.EnterIdeal.Value
public import proofs.«01_k».proof.Proof.Gen.EnterReferenceIdeal.Run
public import proofs.«01_k».proof.Proof.Gen.EnterReferenceIdeal.Read
public import proofs.«01_k».proof.Proof.EnterEquation
public import proofs.«01_k».proof.Proof.SmallBitsFrame
public import proofs.«01_k».proof.Proof.SmallEquation
public import proofs.«01_k».proof.Proof.AdamDown
public import proofs.«01_k».proof.Proof.AdamGateUp
public import proofs.«01_k».proof.Proof.AdamOut
public import proofs.«01_k».proof.Proof.AdamIn
public import Idealize.ShloMosaic.Adequacy
public import Idealize.ShloMosaic.Init

@[expose] public section

noncomputable section

namespace Cert.Proof

open Idealize.ShloMosaic Idealize.SL.Sem

set_option maxHeartbeats 8000000 in
/-- All the claims together. -/
theorem claim : Cert.Claim :=
  ⟨Cert.Kernel.Gen.facts,
    Cert.KernelIdeal.Gen.facts,
    Cert.ReferenceIdeal.Gen.facts,
    Cert.Down.Gen.facts,
    Cert.DownIdeal.Gen.facts,
    Cert.DownReferenceIdeal.Gen.facts,
    Cert.GateUp.Gen.facts,
    Cert.GateUpIdeal.Gen.facts,
    Cert.GateUpReferenceIdeal.Gen.facts,
    Cert.In.Gen.facts,
    Cert.InIdeal.Gen.facts,
    Cert.InReferenceIdeal.Gen.facts,
    Cert.Enter.Gen.facts,
    Cert.EnterIdeal.Gen.facts,
    Cert.EnterReferenceIdeal.Gen.facts,
    Cert.Small.Gen.facts,
    Cert.SmallIdeal.Gen.facts,
    Cert.SmallReferenceIdeal.Gen.facts,
    Cert.AdamDown.Gen.facts,
    Cert.AdamDownIdeal.Gen.facts,
    Cert.AdamDownReferenceIdeal.Gen.facts,
    Cert.AdamGateUp.Gen.facts,
    Cert.AdamGateUpIdeal.Gen.facts,
    Cert.AdamGateUpReferenceIdeal.Gen.facts,
    Cert.AdamOut.Gen.facts,
    Cert.AdamOutIdeal.Gen.facts,
    Cert.AdamOutReferenceIdeal.Gen.facts,
    Cert.AdamIn.Gen.facts,
    Cert.AdamInIdeal.Gen.facts,
    Cert.AdamInReferenceIdeal.Gen.facts,
    Cert.Equation.preFacts,
    Cert.EnterEquation.preFacts,
    Cert.SmallReferenceIdeal.preFacts,
    Cert.Pre_device_adam_down.Gen.facts,
    Cert.Pre_device_adam_gu.Gen.facts,
    Cert.Pre_device_adam_out.Gen.facts,
    Cert.Pre_device_adam_in.Gen.facts,
    fun m ρ _ => Cert.Kernel.Gen.frame m ρ,
    fun m ρ _ => Cert.KernelIdeal.Gen.frame m ρ,
    fun m ρ _ => Cert.KernelIdeal.Gen.frame m ρ,
    fun m ρ _ => (θ_run _ _ _).mono (fun r h => ⟨fun c => (h c).2.2.2.2.2.2.2.2, sem_eq_zero_of_no_sems (by decide) r.2⟩) (Cert.ReferenceIdeal.Value.run m ρ),
    fun m ρ _ => (θ_run _ _ _).mono (fun r h => ⟨fun c => (h c).2.2.2.2.2.2.2.2, sem_eq_zero_of_no_sems (by decide) r.2⟩) (Cert.ReferenceIdeal.Value.run m ρ),
    fun m ρ _ => Cert.Down.Gen.frame m ρ,
    fun m ρ _ => Cert.DownIdeal.Gen.frame m ρ,
    fun m ρ _ => (θ_run _ _ _).mono (fun r h => ⟨fun c => (h c).2, sem_eq_zero_of_no_sems (by decide) r.2⟩) (Cert.DownReferenceIdeal.Value.run m ρ),
    fun m ρ _ => Cert.GateUp.Gen.frame m ρ,
    fun m ρ _ => Cert.GateUpIdeal.Gen.frame m ρ,
    fun m ρ _ => (θ_run _ _ _).mono (fun r h => ⟨fun c => (h c).2, sem_eq_zero_of_no_sems (by decide) r.2⟩) (Cert.GateUpReferenceIdeal.Value.run m ρ),
    fun m ρ _ => Cert.In.Gen.frame m ρ,
    fun m ρ _ => Cert.InIdeal.Gen.frame m ρ,
    fun m ρ _ => (θ_run _ _ _).mono (fun r h => ⟨fun c => (h c).2, sem_eq_zero_of_no_sems (by decide) r.2⟩) (Cert.InReferenceIdeal.Value.run m ρ),
    fun m ρ _ => Cert.Enter.Gen.frame m ρ,
    fun m ρ _ => Cert.EnterIdeal.Gen.frame m ρ,
    fun m ρ _ => Cert.EnterIdeal.Gen.frame m ρ,
    fun m ρ _ => (θ_run _ _ _).mono (fun r h => ⟨fun c => (h c).2.2, sem_eq_zero_of_no_sems (by decide) r.2⟩) (Cert.EnterReferenceIdeal.Value.run m ρ),
    fun m ρ _ => (θ_run _ _ _).mono (fun r h => ⟨fun c => (h c).2.2, sem_eq_zero_of_no_sems (by decide) r.2⟩) (Cert.EnterReferenceIdeal.Value.run m ρ),
    fun m ρ _ => (θ_run _ _ _).mono (fun r h => ⟨fun c =>
        open Cert.Small Cert.Small.Gen in
        have k : ∀ w : Fin 67, (cfg0.win w).isOut = false → r.2.mem ((spec0 w).arr.view.loc (c.tc : Thread nD τ)) = V m c (Pipeline.arrRef spec0 w) :=
          fun w hw => ((congrFun (((dats m 0 c).toRForget forgets0).ArrAt_in w hw cfg0.N) _).mp ((h.1 c).1 w)).trans (A_eq m c w)
        ⟨(k 0 rfl).trans (V_main_arg0 m c), (k 1 rfl).trans (V_main_arg1 m c), (k 2 rfl).trans (V_main_arg2 m c), (k 3 rfl).trans (V_main_arg3 m c),
        (k 4 rfl).trans (V_main_arg4 m c), (k 5 rfl).trans (V_main_arg5 m c), (k 6 rfl).trans (V_main_arg6 m c), (k 7 rfl).trans (V_main_arg7 m c),
        (k 8 rfl).trans (V_main_arg8 m c), (k 9 rfl).trans (V_main_arg9 m c), (k 10 rfl).trans (V_main_arg10 m c), (k 11 rfl).trans (V_main_arg11 m c),
        (k 12 rfl).trans (V_main_arg12 m c), (k 13 rfl).trans (V_main_arg13 m c), (k 14 rfl).trans (V_main_arg14 m c), (k 15 rfl).trans (V_main_arg15 m c),
        (k 16 rfl).trans (V_main_arg16 m c), (k 17 rfl).trans (V_main_arg17 m c), (k 18 rfl).trans (V_main_arg18 m c), (k 19 rfl).trans (V_main_arg19 m c),
        (k 20 rfl).trans (V_main_arg20 m c), (k 21 rfl).trans (V_main_arg21 m c), (k 22 rfl).trans (V_main_arg22 m c), (k 23 rfl).trans (V_main_arg23 m c),
        (k 24 rfl).trans (V_main_arg24 m c), (k 25 rfl).trans (V_main_arg25 m c), (k 26 rfl).trans (V_main_arg26 m c), (k 27 rfl).trans (V_main_arg27 m c),
        (k 28 rfl).trans (V_main_arg28 m c), (k 29 rfl).trans (V_main_arg29 m c)⟩, h.2⟩) (Cert.Small.Gen.run_main_quiescent m ρ),
    fun m ρ _ => θ_run_and (Cert.SmallIdeal.Gen.frame_of m ρ (Cert.SmallIdeal.Gen.dats m) (Cert.SmallIdeal.Gen.A_eq m) (Cert.SmallIdeal.Gen.run_main m ρ)) ((θ_run _ _ _).mono (fun _ h => h.2) (Cert.SmallIdeal.Gen.run_main_quiescent m ρ)),
    fun m ρ _ => θ_run_and (Cert.SmallIdeal.Gen.frame_of m ρ (Cert.SmallIdeal.Gen.dats m) (Cert.SmallIdeal.Gen.A_eq m) (Cert.SmallIdeal.Gen.run_main m ρ)) ((θ_run _ _ _).mono (fun _ h => h.2) (Cert.SmallIdeal.Gen.run_main_quiescent m ρ)),
    fun m ρ _ => (θ_run _ _ _).mono (fun r h => ⟨fun c => (h c).2.2.2.2.2.2.2.2.2.2.2.2.2.2.2.2.2.2.2.2.2.2.2.2.2.2.2.2.2.2.2.2.2.2.2.2.2, sem_eq_zero_of_no_sems (by decide) r.2⟩) (Cert.SmallReferenceIdeal.Value.run m ρ),
    fun m ρ _ => (θ_run _ _ _).mono (fun r h => ⟨fun c => (h c).2.2.2.2.2.2.2.2.2.2.2.2.2.2.2.2.2.2.2.2.2.2.2.2.2.2.2.2.2.2.2.2.2.2.2.2.2, sem_eq_zero_of_no_sems (by decide) r.2⟩) (Cert.SmallReferenceIdeal.Value.run m ρ),
    fun m ρ h => Cert.AdamDown.Gen.frame m ρ (Cert.AdamDown.ok_of_pre m h),
    fun m ρ h => Cert.AdamDownIdeal.Gen.frame m ρ (Cert.AdamDownIdeal.ok_of_pre m h),
    fun m ρ _ => (θ_run _ _ _).mono (fun r h => ⟨fun c => (h c).2.2.2.2, sem_eq_zero_of_no_sems (by decide) r.2⟩) (Cert.AdamDownReferenceIdeal.Staged.run m ρ),
    fun m ρ _ => (θ_run _ _ _).mono (fun r h => ⟨fun c => (h c).2.2.2.2, sem_eq_zero_of_no_sems (by decide) r.2⟩) (Cert.AdamDownReferenceIdeal.Staged.run m ρ),
    fun m ρ h => Cert.AdamGateUp.Gen.frame m ρ (Cert.AdamGateUp.ok_of_pre m h),
    fun m ρ h => Cert.AdamGateUpIdeal.Gen.frame m ρ (Cert.AdamGateUpIdeal.ok_of_pre m h),
    fun m ρ _ => (θ_run _ _ _).mono (fun r h => ⟨fun c => (h c).2.2.2.2, sem_eq_zero_of_no_sems (by decide) r.2⟩) (Cert.AdamGateUpReferenceIdeal.Staged.run m ρ),
    fun m ρ _ => (θ_run _ _ _).mono (fun r h => ⟨fun c => (h c).2.2.2.2, sem_eq_zero_of_no_sems (by decide) r.2⟩) (Cert.AdamGateUpReferenceIdeal.Staged.run m ρ),
    fun m ρ h => Cert.AdamOut.Gen.frame m ρ (Cert.AdamOut.ok_of_pre m h),
    fun m ρ h => Cert.AdamOutIdeal.Gen.frame m ρ (Cert.AdamOutIdeal.ok_of_pre m h),
    fun m ρ _ => (θ_run _ _ _).mono (fun r h => ⟨fun c => (h c).2.2.2.2, sem_eq_zero_of_no_sems (by decide) r.2⟩) (Cert.AdamOutReferenceIdeal.Staged.run m ρ),
    fun m ρ _ => (θ_run _ _ _).mono (fun r h => ⟨fun c => (h c).2.2.2.2, sem_eq_zero_of_no_sems (by decide) r.2⟩) (Cert.AdamOutReferenceIdeal.Staged.run m ρ),
    fun m ρ h => Cert.AdamIn.Gen.frame m ρ (Cert.AdamIn.ok_of_pre m h),
    fun m ρ h => Cert.AdamInIdeal.Gen.frame m ρ (Cert.AdamInIdeal.ok_of_pre m h),
    fun m ρ _ => (θ_run _ _ _).mono (fun r h => ⟨fun c => (h c).2.2.2.2, sem_eq_zero_of_no_sems (by decide) r.2⟩) (Cert.AdamInReferenceIdeal.Staged.run m ρ),
    fun m ρ _ => (θ_run _ _ _).mono (fun r h => ⟨fun c => (h c).2.2.2.2, sem_eq_zero_of_no_sems (by decide) r.2⟩) (Cert.AdamInReferenceIdeal.Staged.run m ρ),
    trivial,
    @Cert.Equation.equation Cert.Equation.preFacts,
    trivial,
    Cert.Products.down_equation,
    trivial,
    Cert.Products.gateUp_equation,
    trivial,
    Cert.Products.inProj_equation,
    trivial,
    @Cert.EnterEquation.equation Cert.EnterEquation.preFacts,
    trivial,
    @Cert.SmallReferenceIdeal.equation Cert.SmallReferenceIdeal.preFacts,
    trivial,
    Cert.Adam.device_adam_down_equation,
    trivial,
    Cert.Adam.device_adam_gu_equation,
    trivial,
    Cert.Adam.device_adam_out_equation,
    trivial,
    Cert.Adam.device_adam_in_equation⟩

end Cert.Proof

end
